-- ==== Defs.lean ====
def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2))).2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2))).2.2 = (fun _ => 1#1)

def Pre_FfnDxn (m : (ℓ : Loc Cert.FfnDxn.nD Cert.FfnDxn.τ Cert.FfnDxn.sig) → Buf (Elt Bits) ℓ) : Prop :=
  True

def Pre_FfnDxnIdeal (m : (ℓ : Loc Cert.FfnDxnIdeal.nD Cert.FfnDxnIdeal.τ Cert.FfnDxnIdeal.sig) → Buf (Elt Ideal) ℓ) : Prop :=
  True

def Pre_FfnDxnIdeal_ffn_finite [hPre_ffn_finite : Cert.Pre_ffn_finite.Facts] (m : (ℓ : Loc Cert.FfnDxnIdeal.nD Cert.FfnDxnIdeal.τ Cert.FfnDxnIdeal.sig) → Buf (Elt Ideal) ℓ) : Prop :=
  ∀ c : Dev Cert.FfnDxnIdeal.nD,
    (Cert.Pre_ffn_finite.fn (F := Ideal) (m ((c.tc : Thread Cert.FfnDxnIdeal.nD Cert.FfnDxnIdeal.τ).loc Cert.FfnDxnIdeal.main_arg0)) (m ((c.tc : Thread Cert.FfnDxnIdeal.nD Cert.FfnDxnIdeal.τ).loc Cert.FfnDxnIdeal.main_arg1)) (m ((c.tc : Thread Cert.FfnDxnIdeal.nD Cert.FfnDxnIdeal.τ).loc Cert.FfnDxnIdeal.main_arg2)) (m ((c.tc : Thread Cert.FfnDxnIdeal.nD Cert.FfnDxnIdeal.τ).loc Cert.FfnDxnIdeal.main_arg3)) (m ((c.tc : Thread Cert.FfnDxnIdeal.nD Cert.FfnDxnIdeal.τ).loc Cert.FfnDxnIdeal.main_arg4))).1 = (fun _ => 1#1)
    ∧ (Cert.Pre_ffn_finite.fn (F := Ideal) (m ((c.tc : Thread Cert.FfnDxnIdeal.nD Cert.FfnDxnIdeal.τ).loc Cert.FfnDxnIdeal.main_arg0)) (m ((c.tc : Thread Cert.FfnDxnIdeal.nD Cert.FfnDxnIdeal.τ).loc Cert.FfnDxnIdeal.main_arg1)) (m ((c.tc : Thread Cert.FfnDxnIdeal.nD Cert.FfnDxnIdeal.τ).loc Cert.FfnDxnIdeal.main_arg2)) (m ((c.tc : Thread Cert.FfnDxnIdeal.nD Cert.FfnDxnIdeal.τ).loc Cert.FfnDxnIdeal.main_arg3)) (m ((c.tc : Thread Cert.FfnDxnIdeal.nD Cert.FfnDxnIdeal.τ).loc Cert.FfnDxnIdeal.main_arg4))).2.1 = (fun _ => 1#1)
    ∧ (Cert.Pre_ffn_finite.fn (F := Ideal) (m ((c.tc : Thread Cert.FfnDxnIdeal.nD Cert.FfnDxnIdeal.τ).loc Cert.FfnDxnIdeal.main_arg0)) (m ((c.tc : Thread Cert.FfnDxnIdeal.nD Cert.FfnDxnIdeal.τ).loc Cert.FfnDxnIdeal.main_arg1)) (m ((c.tc : Thread Cert.FfnDxnIdeal.nD Cert.FfnDxnIdeal.τ).loc Cert.FfnDxnIdeal.main_arg2)) (m ((c.tc : Thread Cert.FfnDxnIdeal.nD Cert.FfnDxnIdeal.τ).loc Cert.FfnDxnIdeal.main_arg3)) (m ((c.tc : Thread Cert.FfnDxnIdeal.nD Cert.FfnDxnIdeal.τ).loc Cert.FfnDxnIdeal.main_arg4))).2.2.1 = (fun _ => 1#1)
    ∧ (Cert.Pre_ffn_finite.fn (F := Ideal) (m ((c.tc : Thread Cert.FfnDxnIdeal.nD Cert.FfnDxnIdeal.τ).loc Cert.FfnDxnIdeal.main_arg0)) (m ((c.tc : Thread Cert.FfnDxnIdeal.nD Cert.FfnDxnIdeal.τ).loc Cert.FfnDxnIdeal.main_arg1)) (m ((c.tc : Thread Cert.FfnDxnIdeal.nD Cert.FfnDxnIdeal.τ).loc Cert.FfnDxnIdeal.main_arg2)) (m ((c.tc : Thread Cert.FfnDxnIdeal.nD Cert.FfnDxnIdeal.τ).loc Cert.FfnDxnIdeal.main_arg3)) (m ((c.tc : Thread Cert.FfnDxnIdeal.nD Cert.FfnDxnIdeal.τ).loc Cert.FfnDxnIdeal.main_arg4))).2.2.2.1 = (fun _ => 1#1)
    ∧ (Cert.Pre_ffn_finite.fn (F := Ideal) (m ((c.tc : Thread Cert.FfnDxnIdeal.nD Cert.FfnDxnIdeal.τ).loc Cert.FfnDxnIdeal.main_arg0)) (m ((c.tc : Thread Cert.FfnDxnIdeal.nD Cert.FfnDxnIdeal.τ).loc Cert.FfnDxnIdeal.main_arg1)) (m ((c.tc : Thread Cert.FfnDxnIdeal.nD Cert.FfnDxnIdeal.τ).loc Cert.FfnDxnIdeal.main_arg2)) (m ((c.tc : Thread Cert.FfnDxnIdeal.nD Cert.FfnDxnIdeal.τ).loc Cert.FfnDxnIdeal.main_arg3)) (m ((c.tc : Thread Cert.FfnDxnIdeal.nD Cert.FfnDxnIdeal.τ).loc Cert.FfnDxnIdeal.main_arg4))).2.2.2.2 = (fun _ => 1#1)

def Pre_FfnDxnRefIdeal (m : (ℓ : Loc Cert.FfnDxnRefIdeal.nD Cert.FfnDxnRefIdeal.τ Cert.FfnDxnRefIdeal.sig) → Buf (Elt Ideal) ℓ) : Prop :=
  True

def Pre_FfnDxnRefIdeal_ffn_finite [hPre_ffn_finite : Cert.Pre_ffn_finite.Facts] (m : (ℓ : Loc Cert.FfnDxnRefIdeal.nD Cert.FfnDxnRefIdeal.τ Cert.FfnDxnRefIdeal.sig) → Buf (Elt Ideal) ℓ) : Prop :=
  ∀ c : Dev Cert.FfnDxnRefIdeal.nD,
    (Cert.Pre_ffn_finite.fn (F := Ideal) (m ((c.tc : Thread Cert.FfnDxnRefIdeal.nD Cert.FfnDxnRefIdeal.τ).loc Cert.FfnDxnRefIdeal.main_arg0)) (m ((c.tc : Thread Cert.FfnDxnRefIdeal.nD Cert.FfnDxnRefIdeal.τ).loc Cert.FfnDxnRefIdeal.main_arg1)) (m ((c.tc : Thread Cert.FfnDxnRefIdeal.nD Cert.FfnDxnRefIdeal.τ).loc Cert.FfnDxnRefIdeal.main_arg2)) (m ((c.tc : Thread Cert.FfnDxnRefIdeal.nD Cert.FfnDxnRefIdeal.τ).loc Cert.FfnDxnRefIdeal.main_arg3)) (m ((c.tc : Thread Cert.FfnDxnRefIdeal.nD Cert.FfnDxnRefIdeal.τ).loc Cert.FfnDxnRefIdeal.main_arg4))).1 = (fun _ => 1#1)
    ∧ (Cert.Pre_ffn_finite.fn (F := Ideal) (m ((c.tc : Thread Cert.FfnDxnRefIdeal.nD Cert.FfnDxnRefIdeal.τ).loc Cert.FfnDxnRefIdeal.main_arg0)) (m ((c.tc : Thread Cert.FfnDxnRefIdeal.nD Cert.FfnDxnRefIdeal.τ).loc Cert.FfnDxnRefIdeal.main_arg1)) (m ((c.tc : Thread Cert.FfnDxnRefIdeal.nD Cert.FfnDxnRefIdeal.τ).loc Cert.FfnDxnRefIdeal.main_arg2)) (m ((c.tc : Thread Cert.FfnDxnRefIdeal.nD Cert.FfnDxnRefIdeal.τ).loc Cert.FfnDxnRefIdeal.main_arg3)) (m ((c.tc : Thread Cert.FfnDxnRefIdeal.nD Cert.FfnDxnRefIdeal.τ).loc Cert.FfnDxnRefIdeal.main_arg4))).2.1 = (fun _ => 1#1)
    ∧ (Cert.Pre_ffn_finite.fn (F := Ideal) (m ((c.tc : Thread Cert.FfnDxnRefIdeal.nD Cert.FfnDxnRefIdeal.τ).loc Cert.FfnDxnRefIdeal.main_arg0)) (m ((c.tc : Thread Cert.FfnDxnRefIdeal.nD Cert.FfnDxnRefIdeal.τ).loc Cert.FfnDxnRefIdeal.main_arg1)) (m ((c.tc : Thread Cert.FfnDxnRefIdeal.nD Cert.FfnDxnRefIdeal.τ).loc Cert.FfnDxnRefIdeal.main_arg2)) (m ((c.tc : Thread Cert.FfnDxnRefIdeal.nD Cert.FfnDxnRefIdeal.τ).loc Cert.FfnDxnRefIdeal.main_arg3)) (m ((c.tc : Thread Cert.FfnDxnRefIdeal.nD Cert.FfnDxnRefIdeal.τ).loc Cert.FfnDxnRefIdeal.main_arg4))).2.2.1 = (fun _ => 1#1)
    ∧ (Cert.Pre_ffn_finite.fn (F := Ideal) (m ((c.tc : Thread Cert.FfnDxnRefIdeal.nD Cert.FfnDxnRefIdeal.τ).loc Cert.FfnDxnRefIdeal.main_arg0)) (m ((c.tc : Thread Cert.FfnDxnRefIdeal.nD Cert.FfnDxnRefIdeal.τ).loc Cert.FfnDxnRefIdeal.main_arg1)) (m ((c.tc : Thread Cert.FfnDxnRefIdeal.nD Cert.FfnDxnRefIdeal.τ).loc Cert.FfnDxnRefIdeal.main_arg2)) (m ((c.tc : Thread Cert.FfnDxnRefIdeal.nD Cert.FfnDxnRefIdeal.τ).loc Cert.FfnDxnRefIdeal.main_arg3)) (m ((c.tc : Thread Cert.FfnDxnRefIdeal.nD Cert.FfnDxnRefIdeal.τ).loc Cert.FfnDxnRefIdeal.main_arg4))).2.2.2.1 = (fun _ => 1#1)
    ∧ (Cert.Pre_ffn_finite.fn (F := Ideal) (m ((c.tc : Thread Cert.FfnDxnRefIdeal.nD Cert.FfnDxnRefIdeal.τ).loc Cert.FfnDxnRefIdeal.main_arg0)) (m ((c.tc : Thread Cert.FfnDxnRefIdeal.nD Cert.FfnDxnRefIdeal.τ).loc Cert.FfnDxnRefIdeal.main_arg1)) (m ((c.tc : Thread Cert.FfnDxnRefIdeal.nD Cert.FfnDxnRefIdeal.τ).loc Cert.FfnDxnRefIdeal.main_arg2)) (m ((c.tc : Thread Cert.FfnDxnRefIdeal.nD Cert.FfnDxnRefIdeal.τ).loc Cert.FfnDxnRefIdeal.main_arg3)) (m ((c.tc : Thread Cert.FfnDxnRefIdeal.nD Cert.FfnDxnRefIdeal.τ).loc Cert.FfnDxnRefIdeal.main_arg4))).2.2.2.2 = (fun _ => 1#1)

def Pre_AttnDxa (m : (ℓ : Loc Cert.AttnDxa.nD Cert.AttnDxa.τ Cert.AttnDxa.sig) → Buf (Elt Bits) ℓ) : Prop :=
  True

def Pre_AttnDxaIdeal (m : (ℓ : Loc Cert.AttnDxaIdeal.nD Cert.AttnDxaIdeal.τ Cert.AttnDxaIdeal.sig) → Buf (Elt Ideal) ℓ) : Prop :=
  True

def Pre_AttnDxaIdeal_dxa_finite [hPre_dxa_finite : Cert.Pre_dxa_finite.Facts] (m : (ℓ : Loc Cert.AttnDxaIdeal.nD Cert.AttnDxaIdeal.τ Cert.AttnDxaIdeal.sig) → Buf (Elt Ideal) ℓ) : Prop :=
  ∀ c : Dev Cert.AttnDxaIdeal.nD,
    (Cert.Pre_dxa_finite.fn (F := Ideal) (m ((c.tc : Thread Cert.AttnDxaIdeal.nD Cert.AttnDxaIdeal.τ).loc Cert.AttnDxaIdeal.main_arg0)) (m ((c.tc : Thread Cert.AttnDxaIdeal.nD Cert.AttnDxaIdeal.τ).loc Cert.AttnDxaIdeal.main_arg1)) (m ((c.tc : Thread Cert.AttnDxaIdeal.nD Cert.AttnDxaIdeal.τ).loc Cert.AttnDxaIdeal.main_arg2)) (m ((c.tc : Thread Cert.AttnDxaIdeal.nD Cert.AttnDxaIdeal.τ).loc Cert.AttnDxaIdeal.main_arg3)) (m ((c.tc : Thread Cert.AttnDxaIdeal.nD Cert.AttnDxaIdeal.τ).loc Cert.AttnDxaIdeal.main_arg4)) (m ((c.tc : Thread Cert.AttnDxaIdeal.nD Cert.AttnDxaIdeal.τ).loc Cert.AttnDxaIdeal.main_arg5)) (m ((c.tc : Thread Cert.AttnDxaIdeal.nD Cert.AttnDxaIdeal.τ).loc Cert.AttnDxaIdeal.main_arg6)) (m ((c.tc : Thread Cert.AttnDxaIdeal.nD Cert.AttnDxaIdeal.τ).loc Cert.AttnDxaIdeal.main_arg7))).1 = (fun _ => 1#1)
    ∧ (Cert.Pre_dxa_finite.fn (F := Ideal) (m ((c.tc : Thread Cert.AttnDxaIdeal.nD Cert.AttnDxaIdeal.τ).loc Cert.AttnDxaIdeal.main_arg0)) (m ((c.tc : Thread Cert.AttnDxaIdeal.nD Cert.AttnDxaIdeal.τ).loc Cert.AttnDxaIdeal.main_arg1)) (m ((c.tc : Thread Cert.AttnDxaIdeal.nD Cert.AttnDxaIdeal.τ).loc Cert.AttnDxaIdeal.main_arg2)) (m ((c.tc : Thread Cert.AttnDxaIdeal.nD Cert.AttnDxaIdeal.τ).loc Cert.AttnDxaIdeal.main_arg3)) (m ((c.tc : Thread Cert.AttnDxaIdeal.nD Cert.AttnDxaIdeal.τ).loc Cert.AttnDxaIdeal.main_arg4)) (m ((c.tc : Thread Cert.AttnDxaIdeal.nD Cert.AttnDxaIdeal.τ).loc Cert.AttnDxaIdeal.main_arg5)) (m ((c.tc : Thread Cert.AttnDxaIdeal.nD Cert.AttnDxaIdeal.τ).loc Cert.AttnDxaIdeal.main_arg6)) (m ((c.tc : Thread Cert.AttnDxaIdeal.nD Cert.AttnDxaIdeal.τ).loc Cert.AttnDxaIdeal.main_arg7))).2.1 = (fun _ => 1#1)
    ∧ (Cert.Pre_dxa_finite.fn (F := Ideal) (m ((c.tc : Thread Cert.AttnDxaIdeal.nD Cert.AttnDxaIdeal.τ).loc Cert.AttnDxaIdeal.main_arg0)) (m ((c.tc : Thread Cert.AttnDxaIdeal.nD Cert.AttnDxaIdeal.τ).loc Cert.AttnDxaIdeal.main_arg1)) (m ((c.tc : Thread Cert.AttnDxaIdeal.nD Cert.AttnDxaIdeal.τ).loc Cert.AttnDxaIdeal.main_arg2)) (m ((c.tc : Thread Cert.AttnDxaIdeal.nD Cert.AttnDxaIdeal.τ).loc Cert.AttnDxaIdeal.main_arg3)) (m ((c.tc : Thread Cert.AttnDxaIdeal.nD Cert.AttnDxaIdeal.τ).loc Cert.AttnDxaIdeal.main_arg4)) (m ((c.tc : Thread Cert.AttnDxaIdeal.nD Cert.AttnDxaIdeal.τ).loc Cert.AttnDxaIdeal.main_arg5)) (m ((c.tc : Thread Cert.AttnDxaIdeal.nD Cert.AttnDxaIdeal.τ).loc Cert.AttnDxaIdeal.main_arg6)) (m ((c.tc : Thread Cert.AttnDxaIdeal.nD Cert.AttnDxaIdeal.τ).loc Cert.AttnDxaIdeal.main_arg7))).2.2.1 = (fun _ => 1#1)
    ∧ (Cert.Pre_dxa_finite.fn (F := Ideal) (m ((c.tc : Thread Cert.AttnDxaIdeal.nD Cert.AttnDxaIdeal.τ).loc Cert.AttnDxaIdeal.main_arg0)) (m ((c.tc : Thread Cert.AttnDxaIdeal.nD Cert.AttnDxaIdeal.τ).loc Cert.AttnDxaIdeal.main_arg1)) (m ((c.tc : Thread Cert.AttnDxaIdeal.nD Cert.AttnDxaIdeal.τ).loc Cert.AttnDxaIdeal.main_arg2)) (m ((c.tc : Thread Cert.AttnDxaIdeal.nD Cert.AttnDxaIdeal.τ).loc Cert.AttnDxaIdeal.main_arg3)) (m ((c.tc : Thread Cert.AttnDxaIdeal.nD Cert.AttnDxaIdeal.τ).loc Cert.AttnDxaIdeal.main_arg4)) (m ((c.tc : Thread Cert.AttnDxaIdeal.nD Cert.AttnDxaIdeal.τ).loc Cert.AttnDxaIdeal.main_arg5)) (m ((c.tc : Thread Cert.AttnDxaIdeal.nD Cert.AttnDxaIdeal.τ).loc Cert.AttnDxaIdeal.main_arg6)) (m ((c.tc : Thread Cert.AttnDxaIdeal.nD Cert.AttnDxaIdeal.τ).loc Cert.AttnDxaIdeal.main_arg7))).2.2.2.1 = (fun _ => 1#1)
    ∧ (Cert.Pre_dxa_finite.fn (F := Ideal) (m ((c.tc : Thread Cert.AttnDxaIdeal.nD Cert.AttnDxaIdeal.τ).loc Cert.AttnDxaIdeal.main_arg0)) (m ((c.tc : Thread Cert.AttnDxaIdeal.nD Cert.AttnDxaIdeal.τ).loc Cert.AttnDxaIdeal.main_arg1)) (m ((c.tc : Thread Cert.AttnDxaIdeal.nD Cert.AttnDxaIdeal.τ).loc Cert.AttnDxaIdeal.main_arg2)) (m ((c.tc : Thread Cert.AttnDxaIdeal.nD Cert.AttnDxaIdeal.τ).loc Cert.AttnDxaIdeal.main_arg3)) (m ((c.tc : Thread Cert.AttnDxaIdeal.nD Cert.AttnDxaIdeal.τ).loc Cert.AttnDxaIdeal.main_arg4)) (m ((c.tc : Thread Cert.AttnDxaIdeal.nD Cert.AttnDxaIdeal.τ).loc Cert.AttnDxaIdeal.main_arg5)) (m ((c.tc : Thread Cert.AttnDxaIdeal.nD Cert.AttnDxaIdeal.τ).loc Cert.AttnDxaIdeal.main_arg6)) (m ((c.tc : Thread Cert.AttnDxaIdeal.nD Cert.AttnDxaIdeal.τ).loc Cert.AttnDxaIdeal.main_arg7))).2.2.2.2.1 = (fun _ => 1#1)
    ∧ (Cert.Pre_dxa_finite.fn (F := Ideal) (m ((c.tc : Thread Cert.AttnDxaIdeal.nD Cert.AttnDxaIdeal.τ).loc Cert.AttnDxaIdeal.main_arg0)) (m ((c.tc : Thread Cert.AttnDxaIdeal.nD Cert.AttnDxaIdeal.τ).loc Cert.AttnDxaIdeal.main_arg1)) (m ((c.tc : Thread Cert.AttnDxaIdeal.nD Cert.AttnDxaIdeal.τ).loc Cert.AttnDxaIdeal.main_arg2)) (m ((c.tc : Thread Cert.AttnDxaIdeal.nD Cert.AttnDxaIdeal.τ).loc Cert.AttnDxaIdeal.main_arg3)) (m ((c.tc : Thread Cert.AttnDxaIdeal.nD Cert.AttnDxaIdeal.τ).loc Cert.AttnDxaIdeal.main_arg4)) (m ((c.tc : Thread Cert.AttnDxaIdeal.nD Cert.AttnDxaIdeal.τ).loc Cert.AttnDxaIdeal.main_arg5)) (m ((c.tc : Thread Cert.AttnDxaIdeal.nD Cert.AttnDxaIdeal.τ).loc Cert.AttnDxaIdeal.main_arg6)) (m ((c.tc : Thread Cert.AttnDxaIdeal.nD Cert.AttnDxaIdeal.τ).loc Cert.AttnDxaIdeal.main_arg7))).2.2.2.2.2.1 = (fun _ => 1#1)
    ∧ (Cert.Pre_dxa_finite.fn (F := Ideal) (m ((c.tc : Thread Cert.AttnDxaIdeal.nD Cert.AttnDxaIdeal.τ).loc Cert.AttnDxaIdeal.main_arg0)) (m ((c.tc : Thread Cert.AttnDxaIdeal.nD Cert.AttnDxaIdeal.τ).loc Cert.AttnDxaIdeal.main_arg1)) (m ((c.tc : Thread Cert.AttnDxaIdeal.nD Cert.AttnDxaIdeal.τ).loc Cert.AttnDxaIdeal.main_arg2)) (m ((c.tc : Thread Cert.AttnDxaIdeal.nD Cert.AttnDxaIdeal.τ).loc Cert.AttnDxaIdeal.main_arg3)) (m ((c.tc : Thread Cert.AttnDxaIdeal.nD Cert.AttnDxaIdeal.τ).loc Cert.AttnDxaIdeal.main_arg4)) (m ((c.tc : Thread Cert.AttnDxaIdeal.nD Cert.AttnDxaIdeal.τ).loc Cert.AttnDxaIdeal.main_arg5)) (m ((c.tc : Thread Cert.AttnDxaIdeal.nD Cert.AttnDxaIdeal.τ).loc Cert.AttnDxaIdeal.main_arg6)) (m ((c.tc : Thread Cert.AttnDxaIdeal.nD Cert.AttnDxaIdeal.τ).loc Cert.AttnDxaIdeal.main_arg7))).2.2.2.2.2.2.1 = (fun _ => 1#1)
    ∧ (Cert.Pre_dxa_finite.fn (F := Ideal) (m ((c.tc : Thread Cert.AttnDxaIdeal.nD Cert.AttnDxaIdeal.τ).loc Cert.AttnDxaIdeal.main_arg0)) (m ((c.tc : Thread Cert.AttnDxaIdeal.nD Cert.AttnDxaIdeal.τ).loc Cert.AttnDxaIdeal.main_arg1)) (m ((c.tc : Thread Cert.AttnDxaIdeal.nD Cert.AttnDxaIdeal.τ).loc Cert.AttnDxaIdeal.main_arg2)) (m ((c.tc : Thread Cert.AttnDxaIdeal.nD Cert.AttnDxaIdeal.τ).loc Cert.AttnDxaIdeal.main_arg3)) (m ((c.tc : Thread Cert.AttnDxaIdeal.nD Cert.AttnDxaIdeal.τ).loc Cert.AttnDxaIdeal.main_arg4)) (m ((c.tc : Thread Cert.AttnDxaIdeal.nD Cert.AttnDxaIdeal.τ).loc Cert.AttnDxaIdeal.main_arg5)) (m ((c.tc : Thread Cert.AttnDxaIdeal.nD Cert.AttnDxaIdeal.τ).loc Cert.AttnDxaIdeal.main_arg6)) (m ((c.tc : Thread Cert.AttnDxaIdeal.nD Cert.AttnDxaIdeal.τ).loc Cert.AttnDxaIdeal.main_arg7))).2.2.2.2.2.2.2 = (fun _ => 1#1)

def Pre_AttnDxaRefIdeal (m : (ℓ : Loc Cert.AttnDxaRefIdeal.nD Cert.AttnDxaRefIdeal.τ Cert.AttnDxaRefIdeal.sig) → Buf (Elt Ideal) ℓ) : Prop :=
  True

def Pre_AttnDxaRefIdeal_dxa_finite [hPre_dxa_finite : Cert.Pre_dxa_finite.Facts] (m : (ℓ : Loc Cert.AttnDxaRefIdeal.nD Cert.AttnDxaRefIdeal.τ Cert.AttnDxaRefIdeal.sig) → Buf (Elt Ideal) ℓ) : Prop :=
  ∀ c : Dev Cert.AttnDxaRefIdeal.nD,
    (Cert.Pre_dxa_finite.fn (F := Ideal) (m ((c.tc : Thread Cert.AttnDxaRefIdeal.nD Cert.AttnDxaRefIdeal.τ).loc Cert.AttnDxaRefIdeal.main_arg0)) (m ((c.tc : Thread Cert.AttnDxaRefIdeal.nD Cert.AttnDxaRefIdeal.τ).loc Cert.AttnDxaRefIdeal.main_arg1)) (m ((c.tc : Thread Cert.AttnDxaRefIdeal.nD Cert.AttnDxaRefIdeal.τ).loc Cert.AttnDxaRefIdeal.main_arg2)) (m ((c.tc : Thread Cert.AttnDxaRefIdeal.nD Cert.AttnDxaRefIdeal.τ).loc Cert.AttnDxaRefIdeal.main_arg3)) (m ((c.tc : Thread Cert.AttnDxaRefIdeal.nD Cert.AttnDxaRefIdeal.τ).loc Cert.AttnDxaRefIdeal.main_arg4)) (m ((c.tc : Thread Cert.AttnDxaRefIdeal.nD Cert.AttnDxaRefIdeal.τ).loc Cert.AttnDxaRefIdeal.main_arg5)) (m ((c.tc : Thread Cert.AttnDxaRefIdeal.nD Cert.AttnDxaRefIdeal.τ).loc Cert.AttnDxaRefIdeal.main_arg6)) (m ((c.tc : Thread Cert.AttnDxaRefIdeal.nD Cert.AttnDxaRefIdeal.τ).loc Cert.AttnDxaRefIdeal.main_arg7))).1 = (fun _ => 1#1)
    ∧ (Cert.Pre_dxa_finite.fn (F := Ideal) (m ((c.tc : Thread Cert.AttnDxaRefIdeal.nD Cert.AttnDxaRefIdeal.τ).loc Cert.AttnDxaRefIdeal.main_arg0)) (m ((c.tc : Thread Cert.AttnDxaRefIdeal.nD Cert.AttnDxaRefIdeal.τ).loc Cert.AttnDxaRefIdeal.main_arg1)) (m ((c.tc : Thread Cert.AttnDxaRefIdeal.nD Cert.AttnDxaRefIdeal.τ).loc Cert.AttnDxaRefIdeal.main_arg2)) (m ((c.tc : Thread Cert.AttnDxaRefIdeal.nD Cert.AttnDxaRefIdeal.τ).loc Cert.AttnDxaRefIdeal.main_arg3)) (m ((c.tc : Thread Cert.AttnDxaRefIdeal.nD Cert.AttnDxaRefIdeal.τ).loc Cert.AttnDxaRefIdeal.main_arg4)) (m ((c.tc : Thread Cert.AttnDxaRefIdeal.nD Cert.AttnDxaRefIdeal.τ).loc Cert.AttnDxaRefIdeal.main_arg5)) (m ((c.tc : Thread Cert.AttnDxaRefIdeal.nD Cert.AttnDxaRefIdeal.τ).loc Cert.AttnDxaRefIdeal.main_arg6)) (m ((c.tc : Thread Cert.AttnDxaRefIdeal.nD Cert.AttnDxaRefIdeal.τ).loc Cert.AttnDxaRefIdeal.main_arg7))).2.1 = (fun _ => 1#1)
    ∧ (Cert.Pre_dxa_finite.fn (F := Ideal) (m ((c.tc : Thread Cert.AttnDxaRefIdeal.nD Cert.AttnDxaRefIdeal.τ).loc Cert.AttnDxaRefIdeal.main_arg0)) (m ((c.tc : Thread Cert.AttnDxaRefIdeal.nD Cert.AttnDxaRefIdeal.τ).loc Cert.AttnDxaRefIdeal.main_arg1)) (m ((c.tc : Thread Cert.AttnDxaRefIdeal.nD Cert.AttnDxaRefIdeal.τ).loc Cert.AttnDxaRefIdeal.main_arg2)) (m ((c.tc : Thread Cert.AttnDxaRefIdeal.nD Cert.AttnDxaRefIdeal.τ).loc Cert.AttnDxaRefIdeal.main_arg3)) (m ((c.tc : Thread Cert.AttnDxaRefIdeal.nD Cert.AttnDxaRefIdeal.τ).loc Cert.AttnDxaRefIdeal.main_arg4)) (m ((c.tc : Thread Cert.AttnDxaRefIdeal.nD Cert.AttnDxaRefIdeal.τ).loc Cert.AttnDxaRefIdeal.main_arg5)) (m ((c.tc : Thread Cert.AttnDxaRefIdeal.nD Cert.AttnDxaRefIdeal.τ).loc Cert.AttnDxaRefIdeal.main_arg6)) (m ((c.tc : Thread Cert.AttnDxaRefIdeal.nD Cert.AttnDxaRefIdeal.τ).loc Cert.AttnDxaRefIdeal.main_arg7))).2.2.1 = (fun _ => 1#1)
    ∧ (Cert.Pre_dxa_finite.fn (F := Ideal) (m ((c.tc : Thread Cert.AttnDxaRefIdeal.nD Cert.AttnDxaRefIdeal.τ).loc Cert.AttnDxaRefIdeal.main_arg0)) (m ((c.tc : Thread Cert.AttnDxaRefIdeal.nD Cert.AttnDxaRefIdeal.τ).loc Cert.AttnDxaRefIdeal.main_arg1)) (m ((c.tc : Thread Cert.AttnDxaRefIdeal.nD Cert.AttnDxaRefIdeal.τ).loc Cert.AttnDxaRefIdeal.main_arg2)) (m ((c.tc : Thread Cert.AttnDxaRefIdeal.nD Cert.AttnDxaRefIdeal.τ).loc Cert.AttnDxaRefIdeal.main_arg3)) (m ((c.tc : Thread Cert.AttnDxaRefIdeal.nD Cert.AttnDxaRefIdeal.τ).loc Cert.AttnDxaRefIdeal.main_arg4)) (m ((c.tc : Thread Cert.AttnDxaRefIdeal.nD Cert.AttnDxaRefIdeal.τ).loc Cert.AttnDxaRefIdeal.main_arg5)) (m ((c.tc : Thread Cert.AttnDxaRefIdeal.nD Cert.AttnDxaRefIdeal.τ).loc Cert.AttnDxaRefIdeal.main_arg6)) (m ((c.tc : Thread Cert.AttnDxaRefIdeal.nD Cert.AttnDxaRefIdeal.τ).loc Cert.AttnDxaRefIdeal.main_arg7))).2.2.2.1 = (fun _ => 1#1)
    ∧ (Cert.Pre_dxa_finite.fn (F := Ideal) (m ((c.tc : Thread Cert.AttnDxaRefIdeal.nD Cert.AttnDxaRefIdeal.τ).loc Cert.AttnDxaRefIdeal.main_arg0)) (m ((c.tc : Thread Cert.AttnDxaRefIdeal.nD Cert.AttnDxaRefIdeal.τ).loc Cert.AttnDxaRefIdeal.main_arg1)) (m ((c.tc : Thread Cert.AttnDxaRefIdeal.nD Cert.AttnDxaRefIdeal.τ).loc Cert.AttnDxaRefIdeal.main_arg2)) (m ((c.tc : Thread Cert.AttnDxaRefIdeal.nD Cert.AttnDxaRefIdeal.τ).loc Cert.AttnDxaRefIdeal.main_arg3)) (m ((c.tc : Thread Cert.AttnDxaRefIdeal.nD Cert.AttnDxaRefIdeal.τ).loc Cert.AttnDxaRefIdeal.main_arg4)) (m ((c.tc : Thread Cert.AttnDxaRefIdeal.nD Cert.AttnDxaRefIdeal.τ).loc Cert.AttnDxaRefIdeal.main_arg5)) (m ((c.tc : Thread Cert.AttnDxaRefIdeal.nD Cert.AttnDxaRefIdeal.τ).loc Cert.AttnDxaRefIdeal.main_arg6)) (m ((c.tc : Thread Cert.AttnDxaRefIdeal.nD Cert.AttnDxaRefIdeal.τ).loc Cert.AttnDxaRefIdeal.main_arg7))).2.2.2.2.1 = (fun _ => 1#1)
    ∧ (Cert.Pre_dxa_finite.fn (F := Ideal) (m ((c.tc : Thread Cert.AttnDxaRefIdeal.nD Cert.AttnDxaRefIdeal.τ).loc Cert.AttnDxaRefIdeal.main_arg0)) (m ((c.tc : Thread Cert.AttnDxaRefIdeal.nD Cert.AttnDxaRefIdeal.τ).loc Cert.AttnDxaRefIdeal.main_arg1)) (m ((c.tc : Thread Cert.AttnDxaRefIdeal.nD Cert.AttnDxaRefIdeal.τ).loc Cert.AttnDxaRefIdeal.main_arg2)) (m ((c.tc : Thread Cert.AttnDxaRefIdeal.nD Cert.AttnDxaRefIdeal.τ).loc Cert.AttnDxaRefIdeal.main_arg3)) (m ((c.tc : Thread Cert.AttnDxaRefIdeal.nD Cert.AttnDxaRefIdeal.τ).loc Cert.AttnDxaRefIdeal.main_arg4)) (m ((c.tc : Thread Cert.AttnDxaRefIdeal.nD Cert.AttnDxaRefIdeal.τ).loc Cert.AttnDxaRefIdeal.main_arg5)) (m ((c.tc : Thread Cert.AttnDxaRefIdeal.nD Cert.AttnDxaRefIdeal.τ).loc Cert.AttnDxaRefIdeal.main_arg6)) (m ((c.tc : Thread Cert.AttnDxaRefIdeal.nD Cert.AttnDxaRefIdeal.τ).loc Cert.AttnDxaRefIdeal.main_arg7))).2.2.2.2.2.1 = (fun _ => 1#1)
    ∧ (Cert.Pre_dxa_finite.fn (F := Ideal) (m ((c.tc : Thread Cert.AttnDxaRefIdeal.nD Cert.AttnDxaRefIdeal.τ).loc Cert.AttnDxaRefIdeal.main_arg0)) (m ((c.tc : Thread Cert.AttnDxaRefIdeal.nD Cert.AttnDxaRefIdeal.τ).loc Cert.AttnDxaRefIdeal.main_arg1)) (m ((c.tc : Thread Cert.AttnDxaRefIdeal.nD Cert.AttnDxaRefIdeal.τ).loc Cert.AttnDxaRefIdeal.main_arg2)) (m ((c.tc : Thread Cert.AttnDxaRefIdeal.nD Cert.AttnDxaRefIdeal.τ).loc Cert.AttnDxaRefIdeal.main_arg3)) (m ((c.tc : Thread Cert.AttnDxaRefIdeal.nD Cert.AttnDxaRefIdeal.τ).loc Cert.AttnDxaRefIdeal.main_arg4)) (m ((c.tc : Thread Cert.AttnDxaRefIdeal.nD Cert.AttnDxaRefIdeal.τ).loc Cert.AttnDxaRefIdeal.main_arg5)) (m ((c.tc : Thread Cert.AttnDxaRefIdeal.nD Cert.AttnDxaRefIdeal.τ).loc Cert.AttnDxaRefIdeal.main_arg6)) (m ((c.tc : Thread Cert.AttnDxaRefIdeal.nD Cert.AttnDxaRefIdeal.τ).loc Cert.AttnDxaRefIdeal.main_arg7))).2.2.2.2.2.2.1 = (fun _ => 1#1)
    ∧ (Cert.Pre_dxa_finite.fn (F := Ideal) (m ((c.tc : Thread Cert.AttnDxaRefIdeal.nD Cert.AttnDxaRefIdeal.τ).loc Cert.AttnDxaRefIdeal.main_arg0)) (m ((c.tc : Thread Cert.AttnDxaRefIdeal.nD Cert.AttnDxaRefIdeal.τ).loc Cert.AttnDxaRefIdeal.main_arg1)) (m ((c.tc : Thread Cert.AttnDxaRefIdeal.nD Cert.AttnDxaRefIdeal.τ).loc Cert.AttnDxaRefIdeal.main_arg2)) (m ((c.tc : Thread Cert.AttnDxaRefIdeal.nD Cert.AttnDxaRefIdeal.τ).loc Cert.AttnDxaRefIdeal.main_arg3)) (m ((c.tc : Thread Cert.AttnDxaRefIdeal.nD Cert.AttnDxaRefIdeal.τ).loc Cert.AttnDxaRefIdeal.main_arg4)) (m ((c.tc : Thread Cert.AttnDxaRefIdeal.nD Cert.AttnDxaRefIdeal.τ).loc Cert.AttnDxaRefIdeal.main_arg5)) (m ((c.tc : Thread Cert.AttnDxaRefIdeal.nD Cert.AttnDxaRefIdeal.τ).loc Cert.AttnDxaRefIdeal.main_arg6)) (m ((c.tc : Thread Cert.AttnDxaRefIdeal.nD Cert.AttnDxaRefIdeal.τ).loc Cert.AttnDxaRefIdeal.main_arg7))).2.2.2.2.2.2.2 = (fun _ => 1#1)

def Pre_ConvGate (m : (ℓ : Loc Cert.ConvGate.nD Cert.ConvGate.τ Cert.ConvGate.sig) → Buf (Elt Bits) ℓ) : Prop :=
  True

def Pre_ConvGateIdeal (m : (ℓ : Loc Cert.ConvGateIdeal.nD Cert.ConvGateIdeal.τ Cert.ConvGateIdeal.sig) → Buf (Elt Ideal) ℓ) : Prop :=
  True

def Pre_ConvGateIdeal_cfwd_finite [hPre_cfwd_finite : Cert.Pre_cfwd_finite.Facts] (m : (ℓ : Loc Cert.ConvGateIdeal.nD Cert.ConvGateIdeal.τ Cert.ConvGateIdeal.sig) → Buf (Elt Ideal) ℓ) : Prop :=
  ∀ c : Dev Cert.ConvGateIdeal.nD,
    (Cert.Pre_cfwd_finite.fn (F := Ideal) (m ((c.tc : Thread Cert.ConvGateIdeal.nD Cert.ConvGateIdeal.τ).loc Cert.ConvGateIdeal.main_arg0)) (m ((c.tc : Thread Cert.ConvGateIdeal.nD Cert.ConvGateIdeal.τ).loc Cert.ConvGateIdeal.main_arg1)) (m ((c.tc : Thread Cert.ConvGateIdeal.nD Cert.ConvGateIdeal.τ).loc Cert.ConvGateIdeal.main_arg2))).1 = (fun _ => 1#1)
    ∧ (Cert.Pre_cfwd_finite.fn (F := Ideal) (m ((c.tc : Thread Cert.ConvGateIdeal.nD Cert.ConvGateIdeal.τ).loc Cert.ConvGateIdeal.main_arg0)) (m ((c.tc : Thread Cert.ConvGateIdeal.nD Cert.ConvGateIdeal.τ).loc Cert.ConvGateIdeal.main_arg1)) (m ((c.tc : Thread Cert.ConvGateIdeal.nD Cert.ConvGateIdeal.τ).loc Cert.ConvGateIdeal.main_arg2))).2.1 = (fun _ => 1#1)
    ∧ (Cert.Pre_cfwd_finite.fn (F := Ideal) (m ((c.tc : Thread Cert.ConvGateIdeal.nD Cert.ConvGateIdeal.τ).loc Cert.ConvGateIdeal.main_arg0)) (m ((c.tc : Thread Cert.ConvGateIdeal.nD Cert.ConvGateIdeal.τ).loc Cert.ConvGateIdeal.main_arg1)) (m ((c.tc : Thread Cert.ConvGateIdeal.nD Cert.ConvGateIdeal.τ).loc Cert.ConvGateIdeal.main_arg2))).2.2 = (fun _ => 1#1)

def Pre_ConvGateRefIdeal (m : (ℓ : Loc Cert.ConvGateRefIdeal.nD Cert.ConvGateRefIdeal.τ Cert.ConvGateRefIdeal.sig) → Buf (Elt Ideal) ℓ) : Prop :=
  True

def Pre_ConvGateRefIdeal_cfwd_finite [hPre_cfwd_finite : Cert.Pre_cfwd_finite.Facts] (m : (ℓ : Loc Cert.ConvGateRefIdeal.nD Cert.ConvGateRefIdeal.τ Cert.ConvGateRefIdeal.sig) → Buf (Elt Ideal) ℓ) : Prop :=
  ∀ c : Dev Cert.ConvGateRefIdeal.nD,
    (Cert.Pre_cfwd_finite.fn (F := Ideal) (m ((c.tc : Thread Cert.ConvGateRefIdeal.nD Cert.ConvGateRefIdeal.τ).loc Cert.ConvGateRefIdeal.main_arg0)) (m ((c.tc : Thread Cert.ConvGateRefIdeal.nD Cert.ConvGateRefIdeal.τ).loc Cert.ConvGateRefIdeal.main_arg1)) (m ((c.tc : Thread Cert.ConvGateRefIdeal.nD Cert.ConvGateRefIdeal.τ).loc Cert.ConvGateRefIdeal.main_arg2))).1 = (fun _ => 1#1)
    ∧ (Cert.Pre_cfwd_finite.fn (F := Ideal) (m ((c.tc : Thread Cert.ConvGateRefIdeal.nD Cert.ConvGateRefIdeal.τ).loc Cert.ConvGateRefIdeal.main_arg0)) (m ((c.tc : Thread Cert.ConvGateRefIdeal.nD Cert.ConvGateRefIdeal.τ).loc Cert.ConvGateRefIdeal.main_arg1)) (m ((c.tc : Thread Cert.ConvGateRefIdeal.nD Cert.ConvGateRefIdeal.τ).loc Cert.ConvGateRefIdeal.main_arg2))).2.1 = (fun _ => 1#1)
    ∧ (Cert.Pre_cfwd_finite.fn (F := Ideal) (m ((c.tc : Thread Cert.ConvGateRefIdeal.nD Cert.ConvGateRefIdeal.τ).loc Cert.ConvGateRefIdeal.main_arg0)) (m ((c.tc : Thread Cert.ConvGateRefIdeal.nD Cert.ConvGateRefIdeal.τ).loc Cert.ConvGateRefIdeal.main_arg1)) (m ((c.tc : Thread Cert.ConvGateRefIdeal.nD Cert.ConvGateRefIdeal.τ).loc Cert.ConvGateRefIdeal.main_arg2))).2.2 = (fun _ => 1#1)

def Pre_ConvGrad (m : (ℓ : Loc Cert.ConvGrad.nD Cert.ConvGrad.τ Cert.ConvGrad.sig) → Buf (Elt Bits) ℓ) : Prop :=
  True

def Pre_ConvGradIdeal (m : (ℓ : Loc Cert.ConvGradIdeal.nD Cert.ConvGradIdeal.τ Cert.ConvGradIdeal.sig) → Buf (Elt Ideal) ℓ) : Prop :=
  True

def Pre_ConvGradIdeal_cbwd_finite [hPre_cbwd_finite : Cert.Pre_cbwd_finite.Facts] (m : (ℓ : Loc Cert.ConvGradIdeal.nD Cert.ConvGradIdeal.τ Cert.ConvGradIdeal.sig) → Buf (Elt Ideal) ℓ) : Prop :=
  ∀ c : Dev Cert.ConvGradIdeal.nD,
    (Cert.Pre_cbwd_finite.fn (F := Ideal) (m ((c.tc : Thread Cert.ConvGradIdeal.nD Cert.ConvGradIdeal.τ).loc Cert.ConvGradIdeal.main_arg0)) (m ((c.tc : Thread Cert.ConvGradIdeal.nD Cert.ConvGradIdeal.τ).loc Cert.ConvGradIdeal.main_arg1)) (m ((c.tc : Thread Cert.ConvGradIdeal.nD Cert.ConvGradIdeal.τ).loc Cert.ConvGradIdeal.main_arg2)) (m ((c.tc : Thread Cert.ConvGradIdeal.nD Cert.ConvGradIdeal.τ).loc Cert.ConvGradIdeal.main_arg3))).1 = (fun _ => 1#1)
    ∧ (Cert.Pre_cbwd_finite.fn (F := Ideal) (m ((c.tc : Thread Cert.ConvGradIdeal.nD Cert.ConvGradIdeal.τ).loc Cert.ConvGradIdeal.main_arg0)) (m ((c.tc : Thread Cert.ConvGradIdeal.nD Cert.ConvGradIdeal.τ).loc Cert.ConvGradIdeal.main_arg1)) (m ((c.tc : Thread Cert.ConvGradIdeal.nD Cert.ConvGradIdeal.τ).loc Cert.ConvGradIdeal.main_arg2)) (m ((c.tc : Thread Cert.ConvGradIdeal.nD Cert.ConvGradIdeal.τ).loc Cert.ConvGradIdeal.main_arg3))).2.1 = (fun _ => 1#1)
    ∧ (Cert.Pre_cbwd_finite.fn (F := Ideal) (m ((c.tc : Thread Cert.ConvGradIdeal.nD Cert.ConvGradIdeal.τ).loc Cert.ConvGradIdeal.main_arg0)) (m ((c.tc : Thread Cert.ConvGradIdeal.nD Cert.ConvGradIdeal.τ).loc Cert.ConvGradIdeal.main_arg1)) (m ((c.tc : Thread Cert.ConvGradIdeal.nD Cert.ConvGradIdeal.τ).loc Cert.ConvGradIdeal.main_arg2)) (m ((c.tc : Thread Cert.ConvGradIdeal.nD Cert.ConvGradIdeal.τ).loc Cert.ConvGradIdeal.main_arg3))).2.2.1 = (fun _ => 1#1)
    ∧ (Cert.Pre_cbwd_finite.fn (F := Ideal) (m ((c.tc : Thread Cert.ConvGradIdeal.nD Cert.ConvGradIdeal.τ).loc Cert.ConvGradIdeal.main_arg0)) (m ((c.tc : Thread Cert.ConvGradIdeal.nD Cert.ConvGradIdeal.τ).loc Cert.ConvGradIdeal.main_arg1)) (m ((c.tc : Thread Cert.ConvGradIdeal.nD Cert.ConvGradIdeal.τ).loc Cert.ConvGradIdeal.main_arg2)) (m ((c.tc : Thread Cert.ConvGradIdeal.nD Cert.ConvGradIdeal.τ).loc Cert.ConvGradIdeal.main_arg3))).2.2.2 = (fun _ => 1#1)

def Pre_ConvGradRefIdeal (m : (ℓ : Loc Cert.ConvGradRefIdeal.nD Cert.ConvGradRefIdeal.τ Cert.ConvGradRefIdeal.sig) → Buf (Elt Ideal) ℓ) : Prop :=
  True

def Pre_ConvGradRefIdeal_cbwd_finite [hPre_cbwd_finite : Cert.Pre_cbwd_finite.Facts] (m : (ℓ : Loc Cert.ConvGradRefIdeal.nD Cert.ConvGradRefIdeal.τ Cert.ConvGradRefIdeal.sig) → Buf (Elt Ideal) ℓ) : Prop :=
  ∀ c : Dev Cert.ConvGradRefIdeal.nD,
    (Cert.Pre_cbwd_finite.fn (F := Ideal) (m ((c.tc : Thread Cert.ConvGradRefIdeal.nD Cert.ConvGradRefIdeal.τ).loc Cert.ConvGradRefIdeal.main_arg0)) (m ((c.tc : Thread Cert.ConvGradRefIdeal.nD Cert.ConvGradRefIdeal.τ).loc Cert.ConvGradRefIdeal.main_arg1)) (m ((c.tc : Thread Cert.ConvGradRefIdeal.nD Cert.ConvGradRefIdeal.τ).loc Cert.ConvGradRefIdeal.main_arg2)) (m ((c.tc : Thread Cert.ConvGradRefIdeal.nD Cert.ConvGradRefIdeal.τ).loc Cert.ConvGradRefIdeal.main_arg3))).1 = (fun _ => 1#1)
    ∧ (Cert.Pre_cbwd_finite.fn (F := Ideal) (m ((c.tc : Thread Cert.ConvGradRefIdeal.nD Cert.ConvGradRefIdeal.τ).loc Cert.ConvGradRefIdeal.main_arg0)) (m ((c.tc : Thread Cert.ConvGradRefIdeal.nD Cert.ConvGradRefIdeal.τ).loc Cert.ConvGradRefIdeal.main_arg1)) (m ((c.tc : Thread Cert.ConvGradRefIdeal.nD Cert.ConvGradRefIdeal.τ).loc Cert.ConvGradRefIdeal.main_arg2)) (m ((c.tc : Thread Cert.ConvGradRefIdeal.nD Cert.ConvGradRefIdeal.τ).loc Cert.ConvGradRefIdeal.main_arg3))).2.1 = (fun _ => 1#1)
    ∧ (Cert.Pre_cbwd_finite.fn (F := Ideal) (m ((c.tc : Thread Cert.ConvGradRefIdeal.nD Cert.ConvGradRefIdeal.τ).loc Cert.ConvGradRefIdeal.main_arg0)) (m ((c.tc : Thread Cert.ConvGradRefIdeal.nD Cert.ConvGradRefIdeal.τ).loc Cert.ConvGradRefIdeal.main_arg1)) (m ((c.tc : Thread Cert.ConvGradRefIdeal.nD Cert.ConvGradRefIdeal.τ).loc Cert.ConvGradRefIdeal.main_arg2)) (m ((c.tc : Thread Cert.ConvGradRefIdeal.nD Cert.ConvGradRefIdeal.τ).loc Cert.ConvGradRefIdeal.main_arg3))).2.2.1 = (fun _ => 1#1)
    ∧ (Cert.Pre_cbwd_finite.fn (F := Ideal) (m ((c.tc : Thread Cert.ConvGradRefIdeal.nD Cert.ConvGradRefIdeal.τ).loc Cert.ConvGradRefIdeal.main_arg0)) (m ((c.tc : Thread Cert.ConvGradRefIdeal.nD Cert.ConvGradRefIdeal.τ).loc Cert.ConvGradRefIdeal.main_arg1)) (m ((c.tc : Thread Cert.ConvGradRefIdeal.nD Cert.ConvGradRefIdeal.τ).loc Cert.ConvGradRefIdeal.main_arg2)) (m ((c.tc : Thread Cert.ConvGradRefIdeal.nD Cert.ConvGradRefIdeal.τ).loc Cert.ConvGradRefIdeal.main_arg3))).2.2.2 = (fun _ => 1#1)

def Pre_AttnGrad (m : (ℓ : Loc Cert.AttnGrad.nD Cert.AttnGrad.τ Cert.AttnGrad.sig) → Buf (Elt Bits) ℓ) : Prop :=
  True

def Pre_AttnGradIdeal (m : (ℓ : Loc Cert.AttnGradIdeal.nD Cert.AttnGradIdeal.τ Cert.AttnGradIdeal.sig) → Buf (Elt Ideal) ℓ) : Prop :=
  True

def Pre_AttnGradIdeal_attn_finite [hPre_attn_finite : Cert.Pre_attn_finite.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.2.1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.2.2.1 = (fun _ => 1#1)
    ∧ (Cert.Pre_attn_finite.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4))).2.2.2.2 = (fun _ => 1#1)

def Pre_AttnGradRefIdeal (m : (ℓ : Loc Cert.AttnGradRefIdeal.nD Cert.AttnGradRefIdeal.τ Cert.AttnGradRefIdeal.sig) → Buf (Elt Ideal) ℓ) : Prop :=
  True

def Pre_AttnGradRefIdeal_attn_finite [hPre_attn_finite : Cert.Pre_attn_finite.Facts] (m : (ℓ : Loc Cert.AttnGradRefIdeal.nD Cert.AttnGradRefIdeal.τ Cert.AttnGradRefIdeal.sig) → Buf (Elt Ideal) ℓ) : Prop :=
  ∀ c : Dev Cert.AttnGradRefIdeal.nD,
    (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).1 = (fun _ => 1#1)
    ∧ (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.1 = (fun _ => 1#1)
    ∧ (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.2.1 = (fun _ => 1#1)
    ∧ (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.2.2.1 = (fun _ => 1#1)
    ∧ (Cert.Pre_attn_finite.fn (F := Ideal) (m ((c.tc : Thread Cert.AttnGradRefIdeal.nD Cert.AttnGradRefIdeal.τ).loc Cert.AttnGradRefIdeal.main_arg0)) (m ((c.tc : Thread Cert.AttnGradRefIdeal.nD Cert.AttnGradRefIdeal.τ).loc Cert.AttnGradRefIdeal.main_arg1)) (m ((c.tc : Thread Cert.AttnGradRefIdeal.nD Cert.AttnGradRefIdeal.τ).loc Cert.AttnGradRefIdeal.main_arg2)) (m ((c.tc : Thread Cert.AttnGradRefIdeal.nD Cert.AttnGradRefIdeal.τ).loc Cert.AttnGradRefIdeal.main_arg3)) (m ((c.tc : Thread Cert.AttnGradRefIdeal.nD Cert.AttnGradRefIdeal.τ).loc Cert.AttnGradRefIdeal.main_arg4))).2.2.2.2 = (fun _ => 1#1)

def Pre_AttnMix (m : (ℓ : Loc Cert.AttnMix.nD Cert.AttnMix.τ Cert.AttnMix.sig) → Buf (Elt Bits) ℓ) : Prop :=
  True

def Pre_AttnMixIdeal (m : (ℓ : Loc Cert.AttnMixIdeal.nD Cert.AttnMixIdeal.τ Cert.AttnMixIdeal.sig) → Buf (Elt Ideal) ℓ) : Prop :=
  True

def Pre_AttnMixIdeal_attf_finite [hPre_attf_finite : Cert.Pre_attf_finite.Facts] (m : (ℓ : Loc Cert.AttnMixIdeal.nD Cert.AttnMixIdeal.τ Cert.AttnMixIdeal.sig) → Buf (Elt Ideal) ℓ) : Prop :=
  ∀ c : Dev Cert.AttnMixIdeal.nD,
    (Cert.Pre_attf_finite.fn (F := Ideal) (m ((c.tc : Thread Cert.AttnMixIdeal.nD Cert.AttnMixIdeal.τ).loc Cert.AttnMixIdeal.main_arg0)) (m ((c.tc : Thread Cert.AttnMixIdeal.nD Cert.AttnMixIdeal.τ).loc Cert.AttnMixIdeal.main_arg1)) (m ((c.tc : Thread Cert.AttnMixIdeal.nD Cert.AttnMixIdeal.τ).loc Cert.AttnMixIdeal.main_arg2)) (m ((c.tc : Thread Cert.AttnMixIdeal.nD Cert.AttnMixIdeal.τ).loc Cert.AttnMixIdeal.main_arg3))).1 = (fun _ => 1#1)
    ∧ (Cert.Pre_attf_finite.fn (F := Ideal) (m ((c.tc : Thread Cert.AttnMixIdeal.nD Cert.AttnMixIdeal.τ).loc Cert.AttnMixIdeal.main_arg0)) (m ((c.tc : Thread Cert.AttnMixIdeal.nD Cert.AttnMixIdeal.τ).loc Cert.AttnMixIdeal.main_arg1)) (m ((c.tc : Thread Cert.AttnMixIdeal.nD Cert.AttnMixIdeal.τ).loc Cert.AttnMixIdeal.main_arg2)) (m ((c.tc : Thread Cert.AttnMixIdeal.nD Cert.AttnMixIdeal.τ).loc Cert.AttnMixIdeal.main_arg3))).2.1 = (fun _ => 1#1)
    ∧ (Cert.Pre_attf_finite.fn (F := Ideal) (m ((c.tc : Thread Cert.AttnMixIdeal.nD Cert.AttnMixIdeal.τ).loc Cert.AttnMixIdeal.main_arg0)) (m ((c.tc : Thread Cert.AttnMixIdeal.nD Cert.AttnMixIdeal.τ).loc Cert.AttnMixIdeal.main_arg1)) (m ((c.tc : Thread Cert.AttnMixIdeal.nD Cert.AttnMixIdeal.τ).loc Cert.AttnMixIdeal.main_arg2)) (m ((c.tc : Thread Cert.AttnMixIdeal.nD Cert.AttnMixIdeal.τ).loc Cert.AttnMixIdeal.main_arg3))).2.2.1 = (fun _ => 1#1)
    ∧ (Cert.Pre_attf_finite.fn (F := Ideal) (m ((c.tc : Thread Cert.AttnMixIdeal.nD Cert.AttnMixIdeal.τ).loc Cert.AttnMixIdeal.main_arg0)) (m ((c.tc : Thread Cert.AttnMixIdeal.nD Cert.AttnMixIdeal.τ).loc Cert.AttnMixIdeal.main_arg1)) (m ((c.tc : Thread Cert.AttnMixIdeal.nD Cert.AttnMixIdeal.τ).loc Cert.AttnMixIdeal.main_arg2)) (m ((c.tc : Thread Cert.AttnMixIdeal.nD Cert.AttnMixIdeal.τ).loc Cert.AttnMixIdeal.main_arg3))).2.2.2 = (fun _ => 1#1)

def Pre_AttnMixRefIdeal (m : (ℓ : Loc Cert.AttnMixRefIdeal.nD Cert.AttnMixRefIdeal.τ Cert.AttnMixRefIdeal.sig) → Buf (Elt Ideal) ℓ) : Prop :=
  True

def Pre_AttnMixRefIdeal_attf_finite [hPre_attf_finite : Cert.Pre_attf_finite.Facts] (m : (ℓ : Loc Cert.AttnMixRefIdeal.nD Cert.AttnMixRefIdeal.τ Cert.AttnMixRefIdeal.sig) → Buf (Elt Ideal) ℓ) : Prop :=
  ∀ c : Dev Cert.AttnMixRefIdeal.nD,
    (Cert.Pre_attf_finite.fn (F := Ideal) (m ((c.tc : Thread Cert.AttnMixRefIdeal.nD Cert.AttnMixRefIdeal.τ).loc Cert.AttnMixRefIdeal.main_arg0)) (m ((c.tc : Thread Cert.AttnMixRefIdeal.nD Cert.AttnMixRefIdeal.τ).loc Cert.AttnMixRefIdeal.main_arg1)) (m ((c.tc : Thread Cert.AttnMixRefIdeal.nD Cert.AttnMixRefIdeal.τ).loc Cert.AttnMixRefIdeal.main_arg2)) (m ((c.tc : Thread Cert.AttnMixRefIdeal.nD Cert.AttnMixRefIdeal.τ).loc Cert.AttnMixRefIdeal.main_arg3))).1 = (fun _ => 1#1)
    ∧ (Cert.Pre_attf_finite.fn (F := Ideal) (m ((c.tc : Thread Cert.AttnMixRefIdeal.nD Cert.AttnMixRefIdeal.τ).loc Cert.AttnMixRefIdeal.main_arg0)) (m ((c.tc : Thread Cert.AttnMixRefIdeal.nD Cert.AttnMixRefIdeal.τ).loc Cert.AttnMixRefIdeal.main_arg1)) (m ((c.tc : Thread Cert.AttnMixRefIdeal.nD Cert.AttnMixRefIdeal.τ).loc Cert.AttnMixRefIdeal.main_arg2)) (m ((c.tc : Thread Cert.AttnMixRefIdeal.nD Cert.AttnMixRefIdeal.τ).loc Cert.AttnMixRefIdeal.main_arg3))).2.1 = (fun _ => 1#1)
    ∧ (Cert.Pre_attf_finite.fn (F := Ideal) (m ((c.tc : Thread Cert.AttnMixRefIdeal.nD Cert.AttnMixRefIdeal.τ).loc Cert.AttnMixRefIdeal.main_arg0)) (m ((c.tc : Thread Cert.AttnMixRefIdeal.nD Cert.AttnMixRefIdeal.τ).loc Cert.AttnMixRefIdeal.main_arg1)) (m ((c.tc : Thread Cert.AttnMixRefIdeal.nD Cert.AttnMixRefIdeal.τ).loc Cert.AttnMixRefIdeal.main_arg2)) (m ((c.tc : Thread Cert.AttnMixRefIdeal.nD Cert.AttnMixRefIdeal.τ).loc Cert.AttnMixRefIdeal.main_arg3))).2.2.1 = (fun _ => 1#1)
    ∧ (Cert.Pre_attf_finite.fn (F := Ideal) (m ((c.tc : Thread Cert.AttnMixRefIdeal.nD Cert.AttnMixRefIdeal.τ).loc Cert.AttnMixRefIdeal.main_arg0)) (m ((c.tc : Thread Cert.AttnMixRefIdeal.nD Cert.AttnMixRefIdeal.τ).loc Cert.AttnMixRefIdeal.main_arg1)) (m ((c.tc : Thread Cert.AttnMixRefIdeal.nD Cert.AttnMixRefIdeal.τ).loc Cert.AttnMixRefIdeal.main_arg2)) (m ((c.tc : Thread Cert.AttnMixRefIdeal.nD Cert.AttnMixRefIdeal.τ).loc Cert.AttnMixRefIdeal.main_arg3))).2.2.2 = (fun _ => 1#1)

def Pre_HgrnMix (m : (ℓ : Loc Cert.HgrnMix.nD Cert.HgrnMix.τ Cert.HgrnMix.sig) → Buf (Elt Bits) ℓ) : Prop :=
  True

def Pre_HgrnMixIdeal (m : (ℓ : Loc Cert.HgrnMixIdeal.nD Cert.HgrnMixIdeal.τ Cert.HgrnMixIdeal.sig) → Buf (Elt Ideal) ℓ) : Prop :=
  True

def Pre_HgrnMixIdeal_hgf_finite [hPre_hgf_finite : Cert.Pre_hgf_finite.Facts] (m : (ℓ : Loc Cert.HgrnMixIdeal.nD Cert.HgrnMixIdeal.τ Cert.HgrnMixIdeal.sig) → Buf (Elt Ideal) ℓ) : Prop :=
  ∀ c : Dev Cert.HgrnMixIdeal.nD,
    (Cert.Pre_hgf_finite.fn (F := Ideal) (m ((c.tc : Thread Cert.HgrnMixIdeal.nD Cert.HgrnMixIdeal.τ).loc Cert.HgrnMixIdeal.main_arg0)) (m ((c.tc : Thread Cert.HgrnMixIdeal.nD Cert.HgrnMixIdeal.τ).loc Cert.HgrnMixIdeal.main_arg1)) (m ((c.tc : Thread Cert.HgrnMixIdeal.nD Cert.HgrnMixIdeal.τ).loc Cert.HgrnMixIdeal.main_arg2))).1 = (fun _ => 1#1)
    ∧ (Cert.Pre_hgf_finite.fn (F := Ideal) (m ((c.tc : Thread Cert.HgrnMixIdeal.nD Cert.HgrnMixIdeal.τ).loc Cert.HgrnMixIdeal.main_arg0)) (m ((c.tc : Thread Cert.HgrnMixIdeal.nD Cert.HgrnMixIdeal.τ).loc Cert.HgrnMixIdeal.main_arg1)) (m ((c.tc : Thread Cert.HgrnMixIdeal.nD Cert.HgrnMixIdeal.τ).loc Cert.HgrnMixIdeal.main_arg2))).2.1 = (fun _ => 1#1)
    ∧ (Cert.Pre_hgf_finite.fn (F := Ideal) (m ((c.tc : Thread Cert.HgrnMixIdeal.nD Cert.HgrnMixIdeal.τ).loc Cert.HgrnMixIdeal.main_arg0)) (m ((c.tc : Thread Cert.HgrnMixIdeal.nD Cert.HgrnMixIdeal.τ).loc Cert.HgrnMixIdeal.main_arg1)) (m ((c.tc : Thread Cert.HgrnMixIdeal.nD Cert.HgrnMixIdeal.τ).loc Cert.HgrnMixIdeal.main_arg2))).2.2 = (fun _ => 1#1)

def Pre_HgrnMixRefIdeal (m : (ℓ : Loc Cert.HgrnMixRefIdeal.nD Cert.HgrnMixRefIdeal.τ Cert.HgrnMixRefIdeal.sig) → Buf (Elt Ideal) ℓ) : Prop :=
  True

def Pre_HgrnMixRefIdeal_hgf_finite [hPre_hgf_finite : Cert.Pre_hgf_finite.Facts] (m : (ℓ : Loc Cert.HgrnMixRefIdeal.nD Cert.HgrnMixRefIdeal.τ Cert.HgrnMixRefIdeal.sig) → Buf (Elt Ideal) ℓ) : Prop :=
  ∀ c : Dev Cert.HgrnMixRefIdeal.nD,
    (Cert.Pre_hgf_finite.fn (F := Ideal) (m ((c.tc : Thread Cert.HgrnMixRefIdeal.nD Cert.HgrnMixRefIdeal.τ).loc Cert.HgrnMixRefIdeal.main_arg0)) (m ((c.tc : Thread Cert.HgrnMixRefIdeal.nD Cert.HgrnMixRefIdeal.τ).loc Cert.HgrnMixRefIdeal.main_arg1)) (m ((c.tc : Thread Cert.HgrnMixRefIdeal.nD Cert.HgrnMixRefIdeal.τ).loc Cert.HgrnMixRefIdeal.main_arg2))).1 = (fun _ => 1#1)
    ∧ (Cert.Pre_hgf_finite.fn (F := Ideal) (m ((c.tc : Thread Cert.HgrnMixRefIdeal.nD Cert.HgrnMixRefIdeal.τ).loc Cert.HgrnMixRefIdeal.main_arg0)) (m ((c.tc : Thread Cert.HgrnMixRefIdeal.nD Cert.HgrnMixRefIdeal.τ).loc Cert.HgrnMixRefIdeal.main_arg1)) (m ((c.tc : Thread Cert.HgrnMixRefIdeal.nD Cert.HgrnMixRefIdeal.τ).loc Cert.HgrnMixRefIdeal.main_arg2))).2.1 = (fun _ => 1#1)
    ∧ (Cert.Pre_hgf_finite.fn (F := Ideal) (m ((c.tc : Thread Cert.HgrnMixRefIdeal.nD Cert.HgrnMixRefIdeal.τ).loc Cert.HgrnMixRefIdeal.main_arg0)) (m ((c.tc : Thread Cert.HgrnMixRefIdeal.nD Cert.HgrnMixRefIdeal.τ).loc Cert.HgrnMixRefIdeal.main_arg1)) (m ((c.tc : Thread Cert.HgrnMixRefIdeal.nD Cert.HgrnMixRefIdeal.τ).loc Cert.HgrnMixRefIdeal.main_arg2))).2.2 = (fun _ => 1#1)

def Pre_FfnDwUp (m : (ℓ : Loc Cert.FfnDwUp.nD Cert.FfnDwUp.τ Cert.FfnDwUp.sig) → Buf (Elt Bits) ℓ) : Prop :=
  True

def Pre_FfnDwUpIdeal (m : (ℓ : Loc Cert.FfnDwUpIdeal.nD Cert.FfnDwUpIdeal.τ Cert.FfnDwUpIdeal.sig) → Buf (Elt Ideal) ℓ) : Prop :=
  True

def Pre_FfnDwUpRefIdeal (m : (ℓ : Loc Cert.FfnDwUpRefIdeal.nD Cert.FfnDwUpRefIdeal.τ Cert.FfnDwUpRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactRefIdeal (m : (ℓ : Loc Cert.FfnDactRefIdeal.nD Cert.FfnDactRefIdeal.τ Cert.FfnDactRefIdeal.sig) → Buf (Elt Ideal) ℓ) : Prop :=
  True

def Pre_FfnDwDown (m : (ℓ : Loc Cert.FfnDwDown.nD Cert.FfnDwDown.τ Cert.FfnDwDown.sig) → Buf (Elt Bits) ℓ) : Prop :=
  True

def Pre_FfnDwDownIdeal (m : (ℓ : Loc Cert.FfnDwDownIdeal.nD Cert.FfnDwDownIdeal.τ Cert.FfnDwDownIdeal.sig) → Buf (Elt Ideal) ℓ) : Prop :=
  True

def Pre_FfnDwDownRefIdeal (m : (ℓ : Loc Cert.FfnDwDownRefIdeal.nD Cert.FfnDwDownRefIdeal.τ Cert.FfnDwDownRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamLayer (m : (ℓ : Loc Cert.AdamLayer.nD Cert.AdamLayer.τ Cert.AdamLayer.sig) → Buf (Elt Bits) ℓ) : Prop :=
  True

def Pre_AdamLayerIdeal (m : (ℓ : Loc Cert.AdamLayerIdeal.nD Cert.AdamLayerIdeal.τ Cert.AdamLayerIdeal.sig) → Buf (Elt Ideal) ℓ) : Prop :=
  True

def Pre_AdamLayerRefIdeal (m : (ℓ : Loc Cert.AdamLayerRefIdeal.nD Cert.AdamLayerRefIdeal.τ Cert.AdamLayerRefIdeal.sig) → Buf (Elt Ideal) ℓ) : Prop :=
  True

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_FfnDxn [hFfnDxn : Cert.FfnDxn.Facts] : Prop :=
  ∀ (m : (ℓ : Loc Cert.FfnDxn.nD Cert.FfnDxn.τ Cert.FfnDxn.sig) → Buf (Elt Bits) ℓ) (g : Dev Cert.FfnDxn.nD → PrngReg), Pre_FfnDxn m →
    θ_run (Cert.FfnDxn.defs (F := Bits)) (onTc (τ := Cert.FfnDxn.τ) (Cert.FfnDxn.main (F := Bits))) ⟨m, fun _ => 0, g⟩ (fun r => (∀ c : Dev Cert.FfnDxn.nD,
      r.2.mem ((c.tc : Thread Cert.FfnDxn.nD Cert.FfnDxn.τ).loc Cert.FfnDxn.main_arg0) = m ((c.tc : Thread Cert.FfnDxn.nD Cert.FfnDxn.τ).loc Cert.FfnDxn.main_arg0)
      ∧ r.2.mem ((c.tc : Thread Cert.FfnDxn.nD Cert.FfnDxn.τ).loc Cert.FfnDxn.main_arg1) = m ((c.tc : Thread Cert.FfnDxn.nD Cert.FfnDxn.τ).loc Cert.FfnDxn.main_arg1)
      ∧ r.2.mem ((c.tc : Thread Cert.FfnDxn.nD Cert.FfnDxn.τ).loc Cert.FfnDxn.main_arg2) = m ((c.tc : Thread Cert.FfnDxn.nD Cert.FfnDxn.τ).loc Cert.FfnDxn.main_arg2)
      ∧ r.2.mem ((c.tc : Thread Cert.FfnDxn.nD Cert.FfnDxn.τ).loc Cert.FfnDxn.main_arg3) = m ((c.tc : Thread Cert.FfnDxn.nD Cert.FfnDxn.τ).loc Cert.FfnDxn.main_arg3)
      ∧ r.2.mem ((c.tc : Thread Cert.FfnDxn.nD Cert.FfnDxn.τ).loc Cert.FfnDxn.main_arg4) = m ((c.tc : Thread Cert.FfnDxn.nD Cert.FfnDxn.τ).loc Cert.FfnDxn.main_arg4))
      ∧ r.2.sem = fun _ => 0)

def quiescent_FfnDxnIdeal [hFfnDxnIdeal : Cert.FfnDxnIdeal.Facts] : Prop :=
  ∀ (m : (ℓ : Loc Cert.FfnDxnIdeal.nD Cert.FfnDxnIdeal.τ Cert.FfnDxnIdeal.sig) → Buf (Elt Ideal) ℓ) (g : Dev Cert.FfnDxnIdeal.nD → PrngReg), Pre_FfnDxnIdeal m →
    θ_run (Cert.FfnDxnIdeal.defs (F := Ideal)) (onTc (τ := Cert.FfnDxnIdeal.τ) (Cert.FfnDxnIdeal.main (F := Ideal))) ⟨m, fun _ => 0, g⟩ (fun r => (∀ c : Dev Cert.FfnDxnIdeal.nD,
      r.2.mem ((c.tc : Thread Cert.FfnDxnIdeal.nD Cert.FfnDxnIdeal.τ).loc Cert.FfnDxnIdeal.main_arg0) = m ((c.tc : Thread Cert.FfnDxnIdeal.nD Cert.FfnDxnIdeal.τ).loc Cert.FfnDxnIdeal.main_arg0)
      ∧ r.2.mem ((c.tc : Thread Cert.FfnDxnIdeal.nD Cert.FfnDxnIdeal.τ).loc Cert.FfnDxnIdeal.main_arg1) = m ((c.tc : Thread Cert.FfnDxnIdeal.nD Cert.FfnDxnIdeal.τ).loc Cert.FfnDxnIdeal.main_arg1)
      ∧ r.2.mem ((c.tc : Thread Cert.FfnDxnIdeal.nD Cert.FfnDxnIdeal.τ).loc Cert.FfnDxnIdeal.main_arg2) = m ((c.tc : Thread Cert.FfnDxnIdeal.nD Cert.FfnDxnIdeal.τ).loc Cert.FfnDxnIdeal.main_arg2)
      ∧ r.2.mem ((c.tc : Thread Cert.FfnDxnIdeal.nD Cert.FfnDxnIdeal.τ).loc Cert.FfnDxnIdeal.main_arg3) = m ((c.tc : Thread Cert.FfnDxnIdeal.nD Cert.FfnDxnIdeal.τ).loc Cert.FfnDxnIdeal.main_arg3)
      ∧ r.2.mem ((c.tc : Thread Cert.FfnDxnIdeal.nD Cert.FfnDxnIdeal.τ).loc Cert.FfnDxnIdeal.main_arg4) = m ((c.tc : Thread Cert.FfnDxnIdeal.nD Cert.FfnDxnIdeal.τ).loc Cert.FfnDxnIdeal.main_arg4))
      ∧ r.2.sem = fun _ => 0)

def quiescent_FfnDxnIdeal_pre_ffn_finite [hFfnDxnIdeal : Cert.FfnDxnIdeal.Facts] [hPre_ffn_finite : Cert.Pre_ffn_finite.Facts] : Prop :=
  ∀ (m : (ℓ : Loc Cert.FfnDxnIdeal.nD Cert.FfnDxnIdeal.τ Cert.FfnDxnIdeal.sig) → Buf (Elt Ideal) ℓ) (g : Dev Cert.FfnDxnIdeal.nD → PrngReg), Pre_FfnDxnIdeal_ffn_finite m →
    θ_run (Cert.FfnDxnIdeal.defs (F := Ideal)) (onTc (τ := Cert.FfnDxnIdeal.τ) (Cert.FfnDxnIdeal.main (F := Ideal))) ⟨m, fun _ => 0, g⟩ (fun r => (∀ c : Dev Cert.FfnDxnIdeal.nD,
      r.2.mem ((c.tc : Thread Cert.FfnDxnIdeal.nD Cert.FfnDxnIdeal.τ).loc Cert.FfnDxnIdeal.main_arg0) = m ((c.tc : Thread Cert.FfnDxnIdeal.nD Cert.FfnDxnIdeal.τ).loc Cert.FfnDxnIdeal.main_arg0)
      ∧ r.2.mem ((c.tc : Thread Cert.FfnDxnIdeal.nD Cert.FfnDxnIdeal.τ).loc Cert.FfnDxnIdeal.main_arg1) = m ((c.tc : Thread Cert.FfnDxnIdeal.nD Cert.FfnDxnIdeal.τ).loc Cert.FfnDxnIdeal.main_arg1)
      ∧ r.2.mem ((c.tc : Thread Cert.FfnDxnIdeal.nD Cert.FfnDxnIdeal.τ).loc Cert.FfnDxnIdeal.main_arg2) = m ((c.tc : Thread Cert.FfnDxnIdeal.nD Cert.FfnDxnIdeal.τ).loc Cert.FfnDxnIdeal.main_arg2)
      ∧ r.2.mem ((c.tc : Thread Cert.FfnDxnIdeal.nD Cert.FfnDxnIdeal.τ).loc Cert.FfnDxnIdeal.main_arg3) = m ((c.tc : Thread Cert.FfnDxnIdeal.nD Cert.FfnDxnIdeal.τ).loc Cert.FfnDxnIdeal.main_arg3)
      ∧ r.2.mem ((c.tc : Thread Cert.FfnDxnIdeal.nD Cert.FfnDxnIdeal.τ).loc Cert.FfnDxnIdeal.main_arg4) = m ((c.tc : Thread Cert.FfnDxnIdeal.nD Cert.FfnDxnIdeal.τ).loc Cert.FfnDxnIdeal.main_arg4))
      ∧ r.2.sem = fun _ => 0)

def quiescent_FfnDxnRefIdeal [hFfnDxnRefIdeal : Cert.FfnDxnRefIdeal.Facts] : Prop :=
  ∀ (m : (ℓ : Loc Cert.FfnDxnRefIdeal.nD Cert.FfnDxnRefIdeal.τ Cert.FfnDxnRefIdeal.sig) → Buf (Elt Ideal) ℓ) (g : Dev Cert.FfnDxnRefIdeal.nD → PrngReg), Pre_FfnDxnRefIdeal m →
    θ_run (Cert.FfnDxnRefIdeal.defs (F := Ideal)) (onTc (τ := Cert.FfnDxnRefIdeal.τ) (Cert.FfnDxnRefIdeal.main (F := Ideal))) ⟨m, fun _ => 0, g⟩ (fun r => (∀ c : Dev Cert.FfnDxnRefIdeal.nD,
      r.2.mem ((c.tc : Thread Cert.FfnDxnRefIdeal.nD Cert.FfnDxnRefIdeal.τ).loc Cert.FfnDxnRefIdeal.main_arg0) = m ((c.tc : Thread Cert.FfnDxnRefIdeal.nD Cert.FfnDxnRefIdeal.τ).loc Cert.FfnDxnRefIdeal.main_arg0)
      ∧ r.2.mem ((c.tc : Thread Cert.FfnDxnRefIdeal.nD Cert.FfnDxnRefIdeal.τ).loc Cert.FfnDxnRefIdeal.main_arg1) = m ((c.tc : Thread Cert.FfnDxnRefIdeal.nD Cert.FfnDxnRefIdeal.τ).loc Cert.FfnDxnRefIdeal.main_arg1)
      ∧ r.2.mem ((c.tc : Thread Cert.FfnDxnRefIdeal.nD Cert.FfnDxnRefIdeal.τ).loc Cert.FfnDxnRefIdeal.main_arg2) = m ((c.tc : Thread Cert.FfnDxnRefIdeal.nD Cert.FfnDxnRefIdeal.τ).loc Cert.FfnDxnRefIdeal.main_arg2)
      ∧ r.2.mem ((c.tc : Thread Cert.FfnDxnRefIdeal.nD Cert.FfnDxnRefIdeal.τ).loc Cert.FfnDxnRefIdeal.main_arg3) = m ((c.tc : Thread Cert.FfnDxnRefIdeal.nD Cert.FfnDxnRefIdeal.τ).loc Cert.FfnDxnRefIdeal.main_arg3)
      ∧ r.2.mem ((c.tc : Thread Cert.FfnDxnRefIdeal.nD Cert.FfnDxnRefIdeal.τ).loc Cert.FfnDxnRefIdeal.main_arg4) = m ((c.tc : Thread Cert.FfnDxnRefIdeal.nD Cert.FfnDxnRefIdeal.τ).loc Cert.FfnDxnRefIdeal.main_arg4))
      ∧ r.2.sem = fun _ => 0)

def quiescent_FfnDxnRefIdeal_pre_ffn_finite [hFfnDxnRefIdeal : Cert.FfnDxnRefIdeal.Facts] [hPre_ffn_finite : Cert.Pre_ffn_finite.Facts] : Prop :=
  ∀ (m : (ℓ : Loc Cert.FfnDxnRefIdeal.nD Cert.FfnDxnRefIdeal.τ Cert.FfnDxnRefIdeal.sig) → Buf (Elt Ideal) ℓ) (g : Dev Cert.FfnDxnRefIdeal.nD → PrngReg), Pre_FfnDxnRefIdeal_ffn_finite m →
    θ_run (Cert.FfnDxnRefIdeal.defs (F := Ideal)) (onTc (τ := Cert.FfnDxnRefIdeal.τ) (Cert.FfnDxnRefIdeal.main (F := Ideal))) ⟨m, fun _ => 0, g⟩ (fun r => (∀ c : Dev Cert.FfnDxnRefIdeal.nD,
      r.2.mem ((c.tc : Thread Cert.FfnDxnRefIdeal.nD Cert.FfnDxnRefIdeal.τ).loc Cert.FfnDxnRefIdeal.main_arg0) = m ((c.tc : Thread Cert.FfnDxnRefIdeal.nD Cert.FfnDxnRefIdeal.τ).loc Cert.FfnDxnRefIdeal.main_arg0)
      ∧ r.2.mem ((c.tc : Thread Cert.FfnDxnRefIdeal.nD Cert.FfnDxnRefIdeal.τ).loc Cert.FfnDxnRefIdeal.main_arg1) = m ((c.tc : Thread Cert.FfnDxnRefIdeal.nD Cert.FfnDxnRefIdeal.τ).loc Cert.FfnDxnRefIdeal.main_arg1)
      ∧ r.2.mem ((c.tc : Thread Cert.FfnDxnRefIdeal.nD Cert.FfnDxnRefIdeal.τ).loc Cert.FfnDxnRefIdeal.main_arg2) = m ((c.tc : Thread Cert.FfnDxnRefIdeal.nD Cert.FfnDxnRefIdeal.τ).loc Cert.FfnDxnRefIdeal.main_arg2)
      ∧ r.2.mem ((c.tc : Thread Cert.FfnDxnRefIdeal.nD Cert.FfnDxnRefIdeal.τ).loc Cert.FfnDxnRefIdeal.main_arg3) = m ((c.tc : Thread Cert.FfnDxnRefIdeal.nD Cert.FfnDxnRefIdeal.τ).loc Cert.FfnDxnRefIdeal.main_arg3)
      ∧ r.2.mem ((c.tc : Thread Cert.FfnDxnRefIdeal.nD Cert.FfnDxnRefIdeal.τ).loc Cert.FfnDxnRefIdeal.main_arg4) = m ((c.tc : Thread Cert.FfnDxnRefIdeal.nD Cert.FfnDxnRefIdeal.τ).loc Cert.FfnDxnRefIdeal.main_arg4))
      ∧ r.2.sem = fun _ => 0)

def quiescent_AttnDxa [hAttnDxa : Cert.AttnDxa.Facts] : Prop :=
  ∀ (m : (ℓ : Loc Cert.AttnDxa.nD Cert.AttnDxa.τ Cert.AttnDxa.sig) → Buf (Elt Bits) ℓ) (g : Dev Cert.AttnDxa.nD → PrngReg), Pre_AttnDxa m →
    θ_run (Cert.AttnDxa.defs (F := Bits)) (onTc (τ := Cert.AttnDxa.τ) (Cert.AttnDxa.main (F := Bits))) ⟨m, fun _ => 0, g⟩ (fun r => (∀ c : Dev Cert.AttnDxa.nD,
      r.2.mem ((c.tc : Thread Cert.AttnDxa.nD Cert.AttnDxa.τ).loc Cert.AttnDxa.main_arg0) = m ((c.tc : Thread Cert.AttnDxa.nD Cert.AttnDxa.τ).loc Cert.AttnDxa.main_arg0)
      ∧ r.2.mem ((c.tc : Thread Cert.AttnDxa.nD Cert.AttnDxa.τ).loc Cert.AttnDxa.main_arg1) = m ((c.tc : Thread Cert.AttnDxa.nD Cert.AttnDxa.τ).loc Cert.AttnDxa.main_arg1)
      ∧ r.2.mem ((c.tc : Thread Cert.AttnDxa.nD Cert.AttnDxa.τ).loc Cert.AttnDxa.main_arg2) = m ((c.tc : Thread Cert.AttnDxa.nD Cert.AttnDxa.τ).loc Cert.AttnDxa.main_arg2)
      ∧ r.2.mem ((c.tc : Thread Cert.AttnDxa.nD Cert.AttnDxa.τ).loc Cert.AttnDxa.main_arg3) = m ((c.tc : Thread Cert.AttnDxa.nD Cert.AttnDxa.τ).loc Cert.AttnDxa.main_arg3)
      ∧ r.2.mem ((c.tc : Thread Cert.AttnDxa.nD Cert.AttnDxa.τ).loc Cert.AttnDxa.main_arg4) = m ((c.tc : Thread Cert.AttnDxa.nD Cert.AttnDxa.τ).loc Cert.AttnDxa.main_arg4)
      ∧ r.2.mem ((c.tc : Thread Cert.AttnDxa.nD Cert.AttnDxa.τ).loc Cert.AttnDxa.main_arg5) = m ((c.tc : Thread Cert.AttnDxa.nD Cert.AttnDxa.τ).loc Cert.AttnDxa.main_arg5)
      ∧ r.2.mem ((c.tc : Thread Cert.AttnDxa.nD Cert.AttnDxa.τ).loc Cert.AttnDxa.main_arg6) = m ((c.tc : Thread Cert.AttnDxa.nD Cert.AttnDxa.τ).loc Cert.AttnDxa.main_arg6)
      ∧ r.2.mem ((c.tc : Thread Cert.AttnDxa.nD Cert.AttnDxa.τ).loc Cert.AttnDxa.main_arg7) = m ((c.tc : Thread Cert.AttnDxa.nD Cert.AttnDxa.τ).loc Cert.AttnDxa.main_arg7))
      ∧ r.2.sem = fun _ => 0)

def quiescent_AttnDxaIdeal [hAttnDxaIdeal : Cert.AttnDxaIdeal.Facts] : Prop :=
  ∀ (m : (ℓ : Loc Cert.AttnDxaIdeal.nD Cert.AttnDxaIdeal.τ Cert.AttnDxaIdeal.sig) → Buf (Elt Ideal) ℓ) (g : Dev Cert.AttnDxaIdeal.nD → PrngReg), Pre_AttnDxaIdeal m →
    θ_run (Cert.AttnDxaIdeal.defs (F := Ideal)) (onTc (τ := Cert.AttnDxaIdeal.τ) (Cert.AttnDxaIdeal.main (F := Ideal))) ⟨m, fun _ => 0, g⟩ (fun r => (∀ c : Dev Cert.AttnDxaIdeal.nD,
      r.2.mem ((c.tc : Thread Cert.AttnDxaIdeal.nD Cert.AttnDxaIdeal.τ).loc Cert.AttnDxaIdeal.main_arg0) = m ((c.tc : Thread Cert.AttnDxaIdeal.nD Cert.AttnDxaIdeal.τ).loc Cert.AttnDxaIdeal.main_arg0)
      ∧ r.2.mem ((c.tc : Thread Cert.AttnDxaIdeal.nD Cert.AttnDxaIdeal.τ).loc Cert.AttnDxaIdeal.main_arg1) = m ((c.tc : Thread Cert.AttnDxaIdeal.nD Cert.AttnDxaIdeal.τ).loc Cert.AttnDxaIdeal.main_arg1)
      ∧ r.2.mem ((c.tc : Thread Cert.AttnDxaIdeal.nD Cert.AttnDxaIdeal.τ).loc Cert.AttnDxaIdeal.main_arg2) = m ((c.tc : Thread Cert.AttnDxaIdeal.nD Cert.AttnDxaIdeal.τ).loc Cert.AttnDxaIdeal.main_arg2)
      ∧ r.2.mem ((c.tc : Thread Cert.AttnDxaIdeal.nD Cert.AttnDxaIdeal.τ).loc Cert.AttnDxaIdeal.main_arg3) = m ((c.tc : Thread Cert.AttnDxaIdeal.nD Cert.AttnDxaIdeal.τ).loc Cert.AttnDxaIdeal.main_arg3)
      ∧ r.2.mem ((c.tc : Thread Cert.AttnDxaIdeal.nD Cert.AttnDxaIdeal.τ).loc Cert.AttnDxaIdeal.main_arg4) = m ((c.tc : Thread Cert.AttnDxaIdeal.nD Cert.AttnDxaIdeal.τ).loc Cert.AttnDxaIdeal.main_arg4)
      ∧ r.2.mem ((c.tc : Thread Cert.AttnDxaIdeal.nD Cert.AttnDxaIdeal.τ).loc Cert.AttnDxaIdeal.main_arg5) = m ((c.tc : Thread Cert.AttnDxaIdeal.nD Cert.AttnDxaIdeal.τ).loc Cert.AttnDxaIdeal.main_arg5)
      ∧ r.2.mem ((c.tc : Thread Cert.AttnDxaIdeal.nD Cert.AttnDxaIdeal.τ).loc Cert.AttnDxaIdeal.main_arg6) = m ((c.tc : Thread Cert.AttnDxaIdeal.nD Cert.AttnDxaIdeal.τ).loc Cert.AttnDxaIdeal.main_arg6)
      ∧ r.2.mem ((c.tc : Thread Cert.AttnDxaIdeal.nD Cert.AttnDxaIdeal.τ).loc Cert.AttnDxaIdeal.main_arg7) = m ((c.tc : Thread Cert.AttnDxaIdeal.nD Cert.AttnDxaIdeal.τ).loc Cert.AttnDxaIdeal.main_arg7))
      ∧ r.2.sem = fun _ => 0)

def quiescent_AttnDxaIdeal_pre_dxa_finite [hAttnDxaIdeal : Cert.AttnDxaIdeal.Facts] [hPre_dxa_finite : Cert.Pre_dxa_finite.Facts] : Prop :=
  ∀ (m : (ℓ : Loc Cert.AttnDxaIdeal.nD Cert.AttnDxaIdeal.τ Cert.AttnDxaIdeal.sig) → Buf (Elt Ideal) ℓ) (g : Dev Cert.AttnDxaIdeal.nD → PrngReg), Pre_AttnDxaIdeal_dxa_finite m →
    θ_run (Cert.AttnDxaIdeal.defs (F := Ideal)) (onTc (τ := Cert.AttnDxaIdeal.τ) (Cert.AttnDxaIdeal.main (F := Ideal))) ⟨m, fun _ => 0, g⟩ (fun r => (∀ c : Dev Cert.AttnDxaIdeal.nD,
      r.2.mem ((c.tc : Thread Cert.AttnDxaIdeal.nD Cert.AttnDxaIdeal.τ).loc Cert.AttnDxaIdeal.main_arg0) = m ((c.tc : Thread Cert.AttnDxaIdeal.nD Cert.AttnDxaIdeal.τ).loc Cert.AttnDxaIdeal.main_arg0)
      ∧ r.2.mem ((c.tc : Thread Cert.AttnDxaIdeal.nD Cert.AttnDxaIdeal.τ).loc Cert.AttnDxaIdeal.main_arg1) = m ((c.tc : Thread Cert.AttnDxaIdeal.nD Cert.AttnDxaIdeal.τ).loc Cert.AttnDxaIdeal.main_arg1)
      ∧ r.2.mem ((c.tc : Thread Cert.AttnDxaIdeal.nD Cert.AttnDxaIdeal.τ).loc Cert.AttnDxaIdeal.main_arg2) = m ((c.tc : Thread Cert.AttnDxaIdeal.nD Cert.AttnDxaIdeal.τ).loc Cert.AttnDxaIdeal.main_arg2)
      ∧ r.2.mem ((c.tc : Thread Cert.AttnDxaIdeal.nD Cert.AttnDxaIdeal.τ).loc Cert.AttnDxaIdeal.main_arg3) = m ((c.tc : Thread Cert.AttnDxaIdeal.nD Cert.AttnDxaIdeal.τ).loc Cert.AttnDxaIdeal.main_arg3)
      ∧ r.2.mem ((c.tc : Thread Cert.AttnDxaIdeal.nD Cert.AttnDxaIdeal.τ).loc Cert.AttnDxaIdeal.main_arg4) = m ((c.tc : Thread Cert.AttnDxaIdeal.nD Cert.AttnDxaIdeal.τ).loc Cert.AttnDxaIdeal.main_arg4)
      ∧ r.2.mem ((c.tc : Thread Cert.AttnDxaIdeal.nD Cert.AttnDxaIdeal.τ).loc Cert.AttnDxaIdeal.main_arg5) = m ((c.tc : Thread Cert.AttnDxaIdeal.nD Cert.AttnDxaIdeal.τ).loc Cert.AttnDxaIdeal.main_arg5)
      ∧ r.2.mem ((c.tc : Thread Cert.AttnDxaIdeal.nD Cert.AttnDxaIdeal.τ).loc Cert.AttnDxaIdeal.main_arg6) = m ((c.tc : Thread Cert.AttnDxaIdeal.nD Cert.AttnDxaIdeal.τ).loc Cert.AttnDxaIdeal.main_arg6)
      ∧ r.2.mem ((c.tc : Thread Cert.AttnDxaIdeal.nD Cert.AttnDxaIdeal.τ).loc Cert.AttnDxaIdeal.main_arg7) = m ((c.tc : Thread Cert.AttnDxaIdeal.nD Cert.AttnDxaIdeal.τ).loc Cert.AttnDxaIdeal.main_arg7))
      ∧ r.2.sem = fun _ => 0)

def quiescent_AttnDxaRefIdeal [hAttnDxaRefIdeal : Cert.AttnDxaRefIdeal.Facts] : Prop :=
  ∀ (m : (ℓ : Loc Cert.AttnDxaRefIdeal.nD Cert.AttnDxaRefIdeal.τ Cert.AttnDxaRefIdeal.sig) → Buf (Elt Ideal) ℓ) (g : Dev Cert.AttnDxaRefIdeal.nD → PrngReg), Pre_AttnDxaRefIdeal m →
    θ_run (Cert.AttnDxaRefIdeal.defs (F := Ideal)) (onTc (τ := Cert.AttnDxaRefIdeal.τ) (Cert.AttnDxaRefIdeal.main (F := Ideal))) ⟨m, fun _ => 0, g⟩ (fun r => (∀ c : Dev Cert.AttnDxaRefIdeal.nD,
      r.2.mem ((c.tc : Thread Cert.AttnDxaRefIdeal.nD Cert.AttnDxaRefIdeal.τ).loc Cert.AttnDxaRefIdeal.main_arg0) = m ((c.tc : Thread Cert.AttnDxaRefIdeal.nD Cert.AttnDxaRefIdeal.τ).loc Cert.AttnDxaRefIdeal.main_arg0)
      ∧ r.2.mem ((c.tc : Thread Cert.AttnDxaRefIdeal.nD Cert.AttnDxaRefIdeal.τ).loc Cert.AttnDxaRefIdeal.main_arg1) = m ((c.tc : Thread Cert.AttnDxaRefIdeal.nD Cert.AttnDxaRefIdeal.τ).loc Cert.AttnDxaRefIdeal.main_arg1)
      ∧ r.2.mem ((c.tc : Thread Cert.AttnDxaRefIdeal.nD Cert.AttnDxaRefIdeal.τ).loc Cert.AttnDxaRefIdeal.main_arg2) = m ((c.tc : Thread Cert.AttnDxaRefIdeal.nD Cert.AttnDxaRefIdeal.τ).loc Cert.AttnDxaRefIdeal.main_arg2)
      ∧ r.2.mem ((c.tc : Thread Cert.AttnDxaRefIdeal.nD Cert.AttnDxaRefIdeal.τ).loc Cert.AttnDxaRefIdeal.main_arg3) = m ((c.tc : Thread Cert.AttnDxaRefIdeal.nD Cert.AttnDxaRefIdeal.τ).loc Cert.AttnDxaRefIdeal.main_arg3)
      ∧ r.2.mem ((c.tc : Thread Cert.AttnDxaRefIdeal.nD Cert.AttnDxaRefIdeal.τ).loc Cert.AttnDxaRefIdeal.main_arg4) = m ((c.tc : Thread Cert.AttnDxaRefIdeal.nD Cert.AttnDxaRefIdeal.τ).loc Cert.AttnDxaRefIdeal.main_arg4)
      ∧ r.2.mem ((c.tc : Thread Cert.AttnDxaRefIdeal.nD Cert.AttnDxaRefIdeal.τ).loc Cert.AttnDxaRefIdeal.main_arg5) = m ((c.tc : Thread Cert.AttnDxaRefIdeal.nD Cert.AttnDxaRefIdeal.τ).loc Cert.AttnDxaRefIdeal.main_arg5)
      ∧ r.2.mem ((c.tc : Thread Cert.AttnDxaRefIdeal.nD Cert.AttnDxaRefIdeal.τ).loc Cert.AttnDxaRefIdeal.main_arg6) = m ((c.tc : Thread Cert.AttnDxaRefIdeal.nD Cert.AttnDxaRefIdeal.τ).loc Cert.AttnDxaRefIdeal.main_arg6)
      ∧ r.2.mem ((c.tc : Thread Cert.AttnDxaRefIdeal.nD Cert.AttnDxaRefIdeal.τ).loc Cert.AttnDxaRefIdeal.main_arg7) = m ((c.tc : Thread Cert.AttnDxaRefIdeal.nD Cert.AttnDxaRefIdeal.τ).loc Cert.AttnDxaRefIdeal.main_arg7))
      ∧ r.2.sem = fun _ => 0)

def quiescent_AttnDxaRefIdeal_pre_dxa_finite [hAttnDxaRefIdeal : Cert.AttnDxaRefIdeal.Facts] [hPre_dxa_finite : Cert.Pre_dxa_finite.Facts] : Prop :=
  ∀ (m : (ℓ : Loc Cert.AttnDxaRefIdeal.nD Cert.AttnDxaRefIdeal.τ Cert.AttnDxaRefIdeal.sig) → Buf (Elt Ideal) ℓ) (g : Dev Cert.AttnDxaRefIdeal.nD → PrngReg), Pre_AttnDxaRefIdeal_dxa_finite m →
    θ_run (Cert.AttnDxaRefIdeal.defs (F := Ideal)) (onTc (τ := Cert.AttnDxaRefIdeal.τ) (Cert.AttnDxaRefIdeal.main (F := Ideal))) ⟨m, fun _ => 0, g⟩ (fun r => (∀ c : Dev Cert.AttnDxaRefIdeal.nD,
      r.2.mem ((c.tc : Thread Cert.AttnDxaRefIdeal.nD Cert.AttnDxaRefIdeal.τ).loc Cert.AttnDxaRefIdeal.main_arg0) = m ((c.tc : Thread Cert.AttnDxaRefIdeal.nD Cert.AttnDxaRefIdeal.τ).loc Cert.AttnDxaRefIdeal.main_arg0)
      ∧ r.2.mem ((c.tc : Thread Cert.AttnDxaRefIdeal.nD Cert.AttnDxaRefIdeal.τ).loc Cert.AttnDxaRefIdeal.main_arg1) = m ((c.tc : Thread Cert.AttnDxaRefIdeal.nD Cert.AttnDxaRefIdeal.τ).loc Cert.AttnDxaRefIdeal.main_arg1)
      ∧ r.2.mem ((c.tc : Thread Cert.AttnDxaRefIdeal.nD Cert.AttnDxaRefIdeal.τ).loc Cert.AttnDxaRefIdeal.main_arg2) = m ((c.tc : Thread Cert.AttnDxaRefIdeal.nD Cert.AttnDxaRefIdeal.τ).loc Cert.AttnDxaRefIdeal.main_arg2)
      ∧ r.2.mem ((c.tc : Thread Cert.AttnDxaRefIdeal.nD Cert.AttnDxaRefIdeal.τ).loc Cert.AttnDxaRefIdeal.main_arg3) = m ((c.tc : Thread Cert.AttnDxaRefIdeal.nD Cert.AttnDxaRefIdeal.τ).loc Cert.AttnDxaRefIdeal.main_arg3)
      ∧ r.2.mem ((c.tc : Thread Cert.AttnDxaRefIdeal.nD Cert.AttnDxaRefIdeal.τ).loc Cert.AttnDxaRefIdeal.main_arg4) = m ((c.tc : Thread Cert.AttnDxaRefIdeal.nD Cert.AttnDxaRefIdeal.τ).loc Cert.AttnDxaRefIdeal.main_arg4)
      ∧ r.2.mem ((c.tc : Thread Cert.AttnDxaRefIdeal.nD Cert.AttnDxaRefIdeal.τ).loc Cert.AttnDxaRefIdeal.main_arg5) = m ((c.tc : Thread Cert.AttnDxaRefIdeal.nD Cert.AttnDxaRefIdeal.τ).loc Cert.AttnDxaRefIdeal.main_arg5)
      ∧ r.2.mem ((c.tc : Thread Cert.AttnDxaRefIdeal.nD Cert.AttnDxaRefIdeal.τ).loc Cert.AttnDxaRefIdeal.main_arg6) = m ((c.tc : Thread Cert.AttnDxaRefIdeal.nD Cert.AttnDxaRefIdeal.τ).loc Cert.AttnDxaRefIdeal.main_arg6)
      ∧ r.2.mem ((c.tc : Thread Cert.AttnDxaRefIdeal.nD Cert.AttnDxaRefIdeal.τ).loc Cert.AttnDxaRefIdeal.main_arg7) = m ((c.tc : Thread Cert.AttnDxaRefIdeal.nD Cert.AttnDxaRefIdeal.τ).loc Cert.AttnDxaRefIdeal.main_arg7))
      ∧ r.2.sem = fun _ => 0)

def quiescent_ConvGate [hConvGate : Cert.ConvGate.Facts] : Prop :=
  ∀ (m : (ℓ : Loc Cert.ConvGate.nD Cert.ConvGate.τ Cert.ConvGate.sig) → Buf (Elt Bits) ℓ) (g : Dev Cert.ConvGate.nD → PrngReg), Pre_ConvGate m →
    θ_run (Cert.ConvGate.defs (F := Bits)) (onTc (τ := Cert.ConvGate.τ) (Cert.ConvGate.main (F := Bits))) ⟨m, fun _ => 0, g⟩ (fun r => (∀ c : Dev Cert.ConvGate.nD,
      r.2.mem ((c.tc : Thread Cert.ConvGate.nD Cert.ConvGate.τ).loc Cert.ConvGate.main_arg0) = m ((c.tc : Thread Cert.ConvGate.nD Cert.ConvGate.τ).loc Cert.ConvGate.main_arg0)
      ∧ r.2.mem ((c.tc : Thread Cert.ConvGate.nD Cert.ConvGate.τ).loc Cert.ConvGate.main_arg1) = m ((c.tc : Thread Cert.ConvGate.nD Cert.ConvGate.τ).loc Cert.ConvGate.main_arg1)
      ∧ r.2.mem ((c.tc : Thread Cert.ConvGate.nD Cert.ConvGate.τ).loc Cert.ConvGate.main_arg2) = m ((c.tc : Thread Cert.ConvGate.nD Cert.ConvGate.τ).loc Cert.ConvGate.main_arg2))
      ∧ r.2.sem = fun _ => 0)

def quiescent_ConvGateIdeal [hConvGateIdeal : Cert.ConvGateIdeal.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ r.2.sem = fun _ => 0)

def quiescent_ConvGateIdeal_pre_cfwd_finite [hConvGateIdeal : Cert.ConvGateIdeal.Facts] [hPre_cfwd_finite : Cert.Pre_cfwd_finite.Facts] : Prop :=
  ∀ (m : (ℓ : Loc Cert.ConvGateIdeal.nD Cert.ConvGateIdeal.τ Cert.ConvGateIdeal.sig) → Buf (Elt Ideal) ℓ) (g : Dev Cert.ConvGateIdeal.nD → PrngReg), Pre_ConvGateIdeal_cfwd_finite m →
    θ_run (Cert.ConvGateIdeal.defs (F := Ideal)) (onTc (τ := Cert.ConvGateIdeal.τ) (Cert.ConvGateIdeal.main (F := Ideal))) ⟨m, fun _ => 0, g⟩ (fun r => (∀ c : Dev Cert.ConvGateIdeal.nD,
      r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
      ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
      ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ r.2.sem = fun _ => 0)

def quiescent_ConvGateRefIdeal [hConvGateRefIdeal : Cert.ConvGateRefIdeal.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2))
      ∧ r.2.sem = fun _ => 0)

def quiescent_ConvGateRefIdeal_pre_cfwd_finite [hConvGateRefIdeal : Cert.ConvGateRefIdeal.Facts] [hPre_cfwd_finite : Cert.Pre_cfwd_finite.Facts] : Prop :=
  ∀ (m : (ℓ : Loc Cert.ConvGateRefIdeal.nD Cert.ConvGateRefIdeal.τ Cert.ConvGateRefIdeal.sig) → Buf (Elt Ideal) ℓ) (g : Dev Cert.ConvGateRefIdeal.nD → PrngReg), Pre_ConvGateRefIdeal_cfwd_finite m →
    θ_run (Cert.ConvGateRefIdeal.defs (F := Ideal)) (onTc (τ := Cert.ConvGateRefIdeal.τ) (Cert.ConvGateRefIdeal.main (F := Ideal))) ⟨m, fun _ => 0, g⟩ (fun r => (∀ c : Dev Cert.ConvGateRefIdeal.nD,
      r.2.mem ((c.tc : Thread Cert.ConvGateRefIdeal.nD Cert.ConvGateRefIdeal.τ).loc Cert.ConvGateRefIdeal.main_arg0) = m ((c.tc : Thread Cert.ConvGateRefIdeal.nD Cert.ConvGateRefIdeal.τ).loc Cert.ConvGateRefIdeal.main_arg0)
      ∧ r.2.mem ((c.tc : Thread Cert.ConvGateRefIdeal.nD Cert.ConvGateRefIdeal.τ).loc Cert.ConvGateRefIdeal.main_arg1) = m ((c.tc : Thread Cert.ConvGateRefIdeal.nD Cert.ConvGateRefIdeal.τ).loc Cert.ConvGateRefIdeal.main_arg1)
      ∧ r.2.mem ((c.tc : Thread Cert.ConvGateRefIdeal.nD Cert.ConvGateRefIdeal.τ).loc Cert.ConvGateRefIdeal.main_arg2) = m ((c.tc : Thread Cert.ConvGateRefIdeal.nD Cert.ConvGateRefIdeal.τ).loc Cert.ConvGateRefIdeal.main_arg2))
      ∧ r.2.sem = fun _ => 0)

def quiescent_ConvGrad [hConvGrad : Cert.ConvGrad.Facts] : Prop :=
  ∀ (m : (ℓ : Loc Cert.ConvGrad.nD Cert.ConvGrad.τ Cert.ConvGrad.sig) → Buf (Elt Bits) ℓ) (g : Dev Cert.ConvGrad.nD → PrngReg), Pre_ConvGrad m →
    θ_run (Cert.ConvGrad.defs (F := Bits)) (onTc (τ := Cert.ConvGrad.τ) (Cert.ConvGrad.main (F := Bits))) ⟨m, fun _ => 0, g⟩ (fun r => (∀ c : Dev Cert.ConvGrad.nD,
      r.2.mem ((c.tc : Thread Cert.ConvGrad.nD Cert.ConvGrad.τ).loc Cert.ConvGrad.main_arg0) = m ((c.tc : Thread Cert.ConvGrad.nD Cert.ConvGrad.τ).loc Cert.ConvGrad.main_arg0)
      ∧ r.2.mem ((c.tc : Thread Cert.ConvGrad.nD Cert.ConvGrad.τ).loc Cert.ConvGrad.main_arg1) = m ((c.tc : Thread Cert.ConvGrad.nD Cert.ConvGrad.τ).loc Cert.ConvGrad.main_arg1)
      ∧ r.2.mem ((c.tc : Thread Cert.ConvGrad.nD Cert.ConvGrad.τ).loc Cert.ConvGrad.main_arg2) = m ((c.tc : Thread Cert.ConvGrad.nD Cert.ConvGrad.τ).loc Cert.ConvGrad.main_arg2)
      ∧ r.2.mem ((c.tc : Thread Cert.ConvGrad.nD Cert.ConvGrad.τ).loc Cert.ConvGrad.main_arg3) = m ((c.tc : Thread Cert.ConvGrad.nD Cert.ConvGrad.τ).loc Cert.ConvGrad.main_arg3))
      ∧ r.2.sem = fun _ => 0)

def quiescent_ConvGradIdeal [hConvGradIdeal : Cert.ConvGradIdeal.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_ConvGradIdeal_pre_cbwd_finite [hConvGradIdeal : Cert.ConvGradIdeal.Facts] [hPre_cbwd_finite : Cert.Pre_cbwd_finite.Facts] : Prop :=
  ∀ (m : (ℓ : Loc Cert.ConvGradIdeal.nD Cert.ConvGradIdeal.τ Cert.ConvGradIdeal.sig) → Buf (Elt Ideal) ℓ) (g : Dev Cert.ConvGradIdeal.nD → PrngReg), Pre_ConvGradIdeal_cbwd_finite m →
    θ_run (Cert.ConvGradIdeal.defs (F := Ideal)) (onTc (τ := Cert.ConvGradIdeal.τ) (Cert.ConvGradIdeal.main (F := Ideal))) ⟨m, fun _ => 0, g⟩ (fun r => (∀ c : Dev Cert.ConvGradIdeal.nD,
      r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
      ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
      ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
      ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ r.2.sem = fun _ => 0)

def quiescent_ConvGradRefIdeal [hConvGradRefIdeal : Cert.ConvGradRefIdeal.Facts] : Prop :=
  ∀ (m : (ℓ : Loc Cert.ConvGradRefIdeal.nD Cert.ConvGradRefIdeal.τ Cert.ConvGradRefIdeal.sig) → Buf (Elt Ideal) ℓ) (g : Dev Cert.ConvGradRefIdeal.nD → PrngReg), Pre_ConvGradRefIdeal m →
    θ_run (Cert.ConvGradRefIdeal.defs (F := Ideal)) (onTc (τ := Cert.ConvGradRefIdeal.τ) (Cert.ConvGradRefIdeal.main (F := Ideal))) ⟨m, fun _ => 0, g⟩ (fun r => (∀ c : Dev Cert.ConvGradRefIdeal.nD,
      r.2.mem ((c.tc : Thread Cert.ConvGradRefIdeal.nD Cert.ConvGradRefIdeal.τ).loc Cert.ConvGradRefIdeal.main_arg0) = m ((c.tc : Thread Cert.ConvGradRefIdeal.nD Cert.ConvGradRefIdeal.τ).loc Cert.ConvGradRefIdeal.main_arg0)
      ∧ r.2.mem ((c.tc : Thread Cert.ConvGradRefIdeal.nD Cert.ConvGradRefIdeal.τ).loc Cert.ConvGradRefIdeal.main_arg1) = m ((c.tc : Thread Cert.ConvGradRefIdeal.nD Cert.ConvGradRefIdeal.τ).loc Cert.ConvGradRefIdeal.main_arg1)
      ∧ r.2.mem ((c.tc : Thread Cert.ConvGradRefIdeal.nD Cert.ConvGradRefIdeal.τ).loc Cert.ConvGradRefIdeal.main_arg2) = m ((c.tc : Thread Cert.ConvGradRefIdeal.nD Cert.ConvGradRefIdeal.τ).loc Cert.ConvGradRefIdeal.main_arg2)
      ∧ r.2.mem ((c.tc : Thread Cert.ConvGradRefIdeal.nD Cert.ConvGradRefIdeal.τ).loc Cert.ConvGradRefIdeal.main_arg3) = m ((c.tc : Thread Cert.ConvGradRefIdeal.nD Cert.ConvGradRefIdeal.τ).loc Cert.ConvGradRefIdeal.main_arg3))
      ∧ r.2.sem = fun _ => 0)

def quiescent_ConvGradRefIdeal_pre_cbwd_finite [hConvGradRefIdeal : Cert.ConvGradRefIdeal.Facts] [hPre_cbwd_finite : Cert.Pre_cbwd_finite.Facts] : Prop :=
  ∀ (m : (ℓ : Loc Cert.ConvGradRefIdeal.nD Cert.ConvGradRefIdeal.τ Cert.ConvGradRefIdeal.sig) → Buf (Elt Ideal) ℓ) (g : Dev Cert.ConvGradRefIdeal.nD → PrngReg), Pre_ConvGradRefIdeal_cbwd_finite m →
    θ_run (Cert.ConvGradRefIdeal.defs (F := Ideal)) (onTc (τ := Cert.ConvGradRefIdeal.τ) (Cert.ConvGradRefIdeal.main (F := Ideal))) ⟨m, fun _ => 0, g⟩ (fun r => (∀ c : Dev Cert.ConvGradRefIdeal.nD,
      r.2.mem ((c.tc : Thread Cert.ConvGradRefIdeal.nD Cert.ConvGradRefIdeal.τ).loc Cert.ConvGradRefIdeal.main_arg0) = m ((c.tc : Thread Cert.ConvGradRefIdeal.nD Cert.ConvGradRefIdeal.τ).loc Cert.ConvGradRefIdeal.main_arg0)
      ∧ r.2.mem ((c.tc : Thread Cert.ConvGradRefIdeal.nD Cert.ConvGradRefIdeal.τ).loc Cert.ConvGradRefIdeal.main_arg1) = m ((c.tc : Thread Cert.ConvGradRefIdeal.nD Cert.ConvGradRefIdeal.τ).loc Cert.ConvGradRefIdeal.main_arg1)
      ∧ r.2.mem ((c.tc : Thread Cert.ConvGradRefIdeal.nD Cert.ConvGradRefIdeal.τ).loc Cert.ConvGradRefIdeal.main_arg2) = m ((c.tc : Thread Cert.ConvGradRefIdeal.nD Cert.ConvGradRefIdeal.τ).loc Cert.ConvGradRefIdeal.main_arg2)
      ∧ r.2.mem ((c.tc : Thread Cert.ConvGradRefIdeal.nD Cert.ConvGradRefIdeal.τ).loc Cert.ConvGradRefIdeal.main_arg3) = m ((c.tc : Thread Cert.ConvGradRefIdeal.nD Cert.ConvGradRefIdeal.τ).loc Cert.ConvGradRefIdeal.main_arg3))
      ∧ r.2.sem = fun _ => 0)

def quiescent_AttnGrad [hAttnGrad : Cert.AttnGrad.Facts] : Prop :=
  ∀ (m : (ℓ : Loc Cert.AttnGrad.nD Cert.AttnGrad.τ Cert.AttnGrad.sig) → Buf (Elt Bits) ℓ) (g : Dev Cert.AttnGrad.nD → PrngReg), Pre_AttnGrad m →
    θ_run (Cert.AttnGrad.defs (F := Bits)) (onTc (τ := Cert.AttnGrad.τ) (Cert.AttnGrad.main (F := Bits))) ⟨m, fun _ => 0, g⟩ (fun r => (∀ c : Dev Cert.AttnGrad.nD,
      r.2.mem ((c.tc : Thread Cert.AttnGrad.nD Cert.AttnGrad.τ).loc Cert.AttnGrad.main_arg0) = m ((c.tc : Thread Cert.AttnGrad.nD Cert.AttnGrad.τ).loc Cert.AttnGrad.main_arg0)
      ∧ r.2.mem ((c.tc : Thread Cert.AttnGrad.nD Cert.AttnGrad.τ).loc Cert.AttnGrad.main_arg1) = m ((c.tc : Thread Cert.AttnGrad.nD Cert.AttnGrad.τ).loc Cert.AttnGrad.main_arg1)
      ∧ r.2.mem ((c.tc : Thread Cert.AttnGrad.nD Cert.AttnGrad.τ).loc Cert.AttnGrad.main_arg2) = m ((c.tc : Thread Cert.AttnGrad.nD Cert.AttnGrad.τ).loc Cert.AttnGrad.main_arg2)
      ∧ r.2.mem ((c.tc : Thread Cert.AttnGrad.nD Cert.AttnGrad.τ).loc Cert.AttnGrad.main_arg3) = m ((c.tc : Thread Cert.AttnGrad.nD Cert.AttnGrad.τ).loc Cert.AttnGrad.main_arg3)
      ∧ r.2.mem ((c.tc : Thread Cert.AttnGrad.nD Cert.AttnGrad.τ).loc Cert.AttnGrad.main_arg4) = m ((c.tc : Thread Cert.AttnGrad.nD Cert.AttnGrad.τ).loc Cert.AttnGrad.main_arg4))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ r.2.sem = fun _ => 0)

def quiescent_AttnGradIdeal_pre_attn_finite [hAttnGradIdeal : Cert.AttnGradIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_attn_finite m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ r.2.sem = fun _ => 0)

def quiescent_AttnGradRefIdeal [hAttnGradRefIdeal : Cert.AttnGradRefIdeal.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3)
      ∧ r.2.mem ((c.tc : Thread Cert.AttnGradRefIdeal.nD Cert.AttnGradRefIdeal.τ).loc Cert.AttnGradRefIdeal.main_arg4) = m ((c.tc : Thread Cert.AttnGradRefIdeal.nD Cert.AttnGradRefIdeal.τ).loc Cert.AttnGradRefIdeal.main_arg4))
      ∧ r.2.sem = fun _ => 0)

def quiescent_AttnGradRefIdeal_pre_attn_finite [hAttnGradRefIdeal : Cert.AttnGradRefIdeal.Facts] [hPre_attn_finite : Cert.Pre_attn_finite.Facts] : Prop :=
  ∀ (m : (ℓ : Loc Cert.AttnGradRefIdeal.nD Cert.AttnGradRefIdeal.τ Cert.AttnGradRefIdeal.sig) → Buf (Elt Ideal) ℓ) (g : Dev Cert.AttnGradRefIdeal.nD → PrngReg), Pre_AttnGradRefIdeal_attn_finite m →
    θ_run (Cert.AttnGradRefIdeal.defs (F := Ideal)) (onTc (τ := Cert.AttnGradRefIdeal.τ) (Cert.AttnGradRefIdeal.main (F := Ideal))) ⟨m, fun _ => 0, g⟩ (fun r => (∀ c : Dev Cert.AttnGradRefIdeal.nD,
      r.2.mem ((c.tc : Thread Cert.AttnGradRefIdeal.nD Cert.AttnGradRefIdeal.τ).loc Cert.AttnGradRefIdeal.main_arg0) = m ((c.tc : Thread Cert.AttnGradRefIdeal.nD Cert.AttnGradRefIdeal.τ).loc Cert.AttnGradRefIdeal.main_arg0)
      ∧ r.2.mem ((c.tc : Thread Cert.AttnGradRefIdeal.nD Cert.AttnGradRefIdeal.τ).loc Cert.AttnGradRefIdeal.main_arg1) = m ((c.tc : Thread Cert.AttnGradRefIdeal.nD Cert.AttnGradRefIdeal.τ).loc Cert.AttnGradRefIdeal.main_arg1)
      ∧ r.2.mem ((c.tc : Thread Cert.AttnGradRefIdeal.nD Cert.AttnGradRefIdeal.τ).loc Cert.AttnGradRefIdeal.main_arg2) = m ((c.tc : Thread Cert.AttnGradRefIdeal.nD Cert.AttnGradRefIdeal.τ).loc Cert.AttnGradRefIdeal.main_arg2)
      ∧ r.2.mem ((c.tc : Thread Cert.AttnGradRefIdeal.nD Cert.AttnGradRefIdeal.τ).loc Cert.AttnGradRefIdeal.main_arg3) = m ((c.tc : Thread Cert.AttnGradRefIdeal.nD Cert.AttnGradRefIdeal.τ).loc Cert.AttnGradRefIdeal.main_arg3)
      ∧ r.2.mem ((c.tc : Thread Cert.AttnGradRefIdeal.nD Cert.AttnGradRefIdeal.τ).loc Cert.AttnGradRefIdeal.main_arg4) = m ((c.tc : Thread Cert.AttnGradRefIdeal.nD Cert.AttnGradRefIdeal.τ).loc Cert.AttnGradRefIdeal.main_arg4))
      ∧ r.2.sem = fun _ => 0)

def quiescent_AttnMix [hAttnMix : Cert.AttnMix.Facts] : Prop :=
  ∀ (m : (ℓ : Loc Cert.AttnMix.nD Cert.AttnMix.τ Cert.AttnMix.sig) → Buf (Elt Bits) ℓ) (g : Dev Cert.AttnMix.nD → PrngReg), Pre_AttnMix m →
    θ_run (Cert.AttnMix.defs (F := Bits)) (onTc (τ := Cert.AttnMix.τ) (Cert.AttnMix.main (F := Bits))) ⟨m, fun _ => 0, g⟩ (fun r => (∀ c : Dev Cert.AttnMix.nD,
      r.2.mem ((c.tc : Thread Cert.AttnMix.nD Cert.AttnMix.τ).loc Cert.AttnMix.main_arg0) = m ((c.tc : Thread Cert.AttnMix.nD Cert.AttnMix.τ).loc Cert.AttnMix.main_arg0)
      ∧ r.2.mem ((c.tc : Thread Cert.AttnMix.nD Cert.AttnMix.τ).loc Cert.AttnMix.main_arg1) = m ((c.tc : Thread Cert.AttnMix.nD Cert.AttnMix.τ).loc Cert.AttnMix.main_arg1)
      ∧ r.2.mem ((c.tc : Thread Cert.AttnMix.nD Cert.AttnMix.τ).loc Cert.AttnMix.main_arg2) = m ((c.tc : Thread Cert.AttnMix.nD Cert.AttnMix.τ).loc Cert.AttnMix.main_arg2)
      ∧ r.2.mem ((c.tc : Thread Cert.AttnMix.nD Cert.AttnMix.τ).loc Cert.AttnMix.main_arg3) = m ((c.tc : Thread Cert.AttnMix.nD Cert.AttnMix.τ).loc Cert.AttnMix.main_arg3))
      ∧ r.2.sem = fun _ => 0)

def quiescent_AttnMixIdeal [hAttnMixIdeal : Cert.AttnMixIdeal.Facts] : Prop :=
  ∀ (m : (ℓ : Loc Cert.AttnMixIdeal.nD Cert.AttnMixIdeal.τ Cert.AttnMixIdeal.sig) → Buf (Elt Ideal) ℓ) (g : Dev Cert.AttnMixIdeal.nD → PrngReg), Pre_AttnMixIdeal m →
    θ_run (Cert.AttnMixIdeal.defs (F := Ideal)) (onTc (τ := Cert.AttnMixIdeal.τ) (Cert.AttnMixIdeal.main (F := Ideal))) ⟨m, fun _ => 0, g⟩ (fun r => (∀ c : Dev Cert.AttnMixIdeal.nD,
      r.2.mem ((c.tc : Thread Cert.AttnMixIdeal.nD Cert.AttnMixIdeal.τ).loc Cert.AttnMixIdeal.main_arg0) = m ((c.tc : Thread Cert.AttnMixIdeal.nD Cert.AttnMixIdeal.τ).loc Cert.AttnMixIdeal.main_arg0)
      ∧ r.2.mem ((c.tc : Thread Cert.AttnMixIdeal.nD Cert.AttnMixIdeal.τ).loc Cert.AttnMixIdeal.main_arg1) = m ((c.tc : Thread Cert.AttnMixIdeal.nD Cert.AttnMixIdeal.τ).loc Cert.AttnMixIdeal.main_arg1)
      ∧ r.2.mem ((c.tc : Thread Cert.AttnMixIdeal.nD Cert.AttnMixIdeal.τ).loc Cert.AttnMixIdeal.main_arg2) = m ((c.tc : Thread Cert.AttnMixIdeal.nD Cert.AttnMixIdeal.τ).loc Cert.AttnMixIdeal.main_arg2)
      ∧ r.2.mem ((c.tc : Thread Cert.AttnMixIdeal.nD Cert.AttnMixIdeal.τ).loc Cert.AttnMixIdeal.main_arg3) = m ((c.tc : Thread Cert.AttnMixIdeal.nD Cert.AttnMixIdeal.τ).loc Cert.AttnMixIdeal.main_arg3))
      ∧ r.2.sem = fun _ => 0)

def quiescent_AttnMixIdeal_pre_attf_finite [hAttnMixIdeal : Cert.AttnMixIdeal.Facts] [hPre_attf_finite : Cert.Pre_attf_finite.Facts] : Prop :=
  ∀ (m : (ℓ : Loc Cert.AttnMixIdeal.nD Cert.AttnMixIdeal.τ Cert.AttnMixIdeal.sig) → Buf (Elt Ideal) ℓ) (g : Dev Cert.AttnMixIdeal.nD → PrngReg), Pre_AttnMixIdeal_attf_finite m →
    θ_run (Cert.AttnMixIdeal.defs (F := Ideal)) (onTc (τ := Cert.AttnMixIdeal.τ) (Cert.AttnMixIdeal.main (F := Ideal))) ⟨m, fun _ => 0, g⟩ (fun r => (∀ c : Dev Cert.AttnMixIdeal.nD,
      r.2.mem ((c.tc : Thread Cert.AttnMixIdeal.nD Cert.AttnMixIdeal.τ).loc Cert.AttnMixIdeal.main_arg0) = m ((c.tc : Thread Cert.AttnMixIdeal.nD Cert.AttnMixIdeal.τ).loc Cert.AttnMixIdeal.main_arg0)
      ∧ r.2.mem ((c.tc : Thread Cert.AttnMixIdeal.nD Cert.AttnMixIdeal.τ).loc Cert.AttnMixIdeal.main_arg1) = m ((c.tc : Thread Cert.AttnMixIdeal.nD Cert.AttnMixIdeal.τ).loc Cert.AttnMixIdeal.main_arg1)
      ∧ r.2.mem ((c.tc : Thread Cert.AttnMixIdeal.nD Cert.AttnMixIdeal.τ).loc Cert.AttnMixIdeal.main_arg2) = m ((c.tc : Thread Cert.AttnMixIdeal.nD Cert.AttnMixIdeal.τ).loc Cert.AttnMixIdeal.main_arg2)
      ∧ r.2.mem ((c.tc : Thread Cert.AttnMixIdeal.nD Cert.AttnMixIdeal.τ).loc Cert.AttnMixIdeal.main_arg3) = m ((c.tc : Thread Cert.AttnMixIdeal.nD Cert.AttnMixIdeal.τ).loc Cert.AttnMixIdeal.main_arg3))
      ∧ r.2.sem = fun _ => 0)

def quiescent_AttnMixRefIdeal [hAttnMixRefIdeal : Cert.AttnMixRefIdeal.Facts] : Prop :=
  ∀ (m : (ℓ : Loc Cert.AttnMixRefIdeal.nD Cert.AttnMixRefIdeal.τ Cert.AttnMixRefIdeal.sig) → Buf (Elt Ideal) ℓ) (g : Dev Cert.AttnMixRefIdeal.nD → PrngReg), Pre_AttnMixRefIdeal m →
    θ_run (Cert.AttnMixRefIdeal.defs (F := Ideal)) (onTc (τ := Cert.AttnMixRefIdeal.τ) (Cert.AttnMixRefIdeal.main (F := Ideal))) ⟨m, fun _ => 0, g⟩ (fun r => (∀ c : Dev Cert.AttnMixRefIdeal.nD,
      r.2.mem ((c.tc : Thread Cert.AttnMixRefIdeal.nD Cert.AttnMixRefIdeal.τ).loc Cert.AttnMixRefIdeal.main_arg0) = m ((c.tc : Thread Cert.AttnMixRefIdeal.nD Cert.AttnMixRefIdeal.τ).loc Cert.AttnMixRefIdeal.main_arg0)
      ∧ r.2.mem ((c.tc : Thread Cert.AttnMixRefIdeal.nD Cert.AttnMixRefIdeal.τ).loc Cert.AttnMixRefIdeal.main_arg1) = m ((c.tc : Thread Cert.AttnMixRefIdeal.nD Cert.AttnMixRefIdeal.τ).loc Cert.AttnMixRefIdeal.main_arg1)
      ∧ r.2.mem ((c.tc : Thread Cert.AttnMixRefIdeal.nD Cert.AttnMixRefIdeal.τ).loc Cert.AttnMixRefIdeal.main_arg2) = m ((c.tc : Thread Cert.AttnMixRefIdeal.nD Cert.AttnMixRefIdeal.τ).loc Cert.AttnMixRefIdeal.main_arg2)
      ∧ r.2.mem ((c.tc : Thread Cert.AttnMixRefIdeal.nD Cert.AttnMixRefIdeal.τ).loc Cert.AttnMixRefIdeal.main_arg3) = m ((c.tc : Thread Cert.AttnMixRefIdeal.nD Cert.AttnMixRefIdeal.τ).loc Cert.AttnMixRefIdeal.main_arg3))
      ∧ r.2.sem = fun _ => 0)

def quiescent_AttnMixRefIdeal_pre_attf_finite [hAttnMixRefIdeal : Cert.AttnMixRefIdeal.Facts] [hPre_attf_finite : Cert.Pre_attf_finite.Facts] : Prop :=
  ∀ (m : (ℓ : Loc Cert.AttnMixRefIdeal.nD Cert.AttnMixRefIdeal.τ Cert.AttnMixRefIdeal.sig) → Buf (Elt Ideal) ℓ) (g : Dev Cert.AttnMixRefIdeal.nD → PrngReg), Pre_AttnMixRefIdeal_attf_finite m →
    θ_run (Cert.AttnMixRefIdeal.defs (F := Ideal)) (onTc (τ := Cert.AttnMixRefIdeal.τ) (Cert.AttnMixRefIdeal.main (F := Ideal))) ⟨m, fun _ => 0, g⟩ (fun r => (∀ c : Dev Cert.AttnMixRefIdeal.nD,
      r.2.mem ((c.tc : Thread Cert.AttnMixRefIdeal.nD Cert.AttnMixRefIdeal.τ).loc Cert.AttnMixRefIdeal.main_arg0) = m ((c.tc : Thread Cert.AttnMixRefIdeal.nD Cert.AttnMixRefIdeal.τ).loc Cert.AttnMixRefIdeal.main_arg0)
      ∧ r.2.mem ((c.tc : Thread Cert.AttnMixRefIdeal.nD Cert.AttnMixRefIdeal.τ).loc Cert.AttnMixRefIdeal.main_arg1) = m ((c.tc : Thread Cert.AttnMixRefIdeal.nD Cert.AttnMixRefIdeal.τ).loc Cert.AttnMixRefIdeal.main_arg1)
      ∧ r.2.mem ((c.tc : Thread Cert.AttnMixRefIdeal.nD Cert.AttnMixRefIdeal.τ).loc Cert.AttnMixRefIdeal.main_arg2) = m ((c.tc : Thread Cert.AttnMixRefIdeal.nD Cert.AttnMixRefIdeal.τ).loc Cert.AttnMixRefIdeal.main_arg2)
      ∧ r.2.mem ((c.tc : Thread Cert.AttnMixRefIdeal.nD Cert.AttnMixRefIdeal.τ).loc Cert.AttnMixRefIdeal.main_arg3) = m ((c.tc : Thread Cert.AttnMixRefIdeal.nD Cert.AttnMixRefIdeal.τ).loc Cert.AttnMixRefIdeal.main_arg3))
      ∧ r.2.sem = fun _ => 0)

def quiescent_HgrnMix [hHgrnMix : Cert.HgrnMix.Facts] : Prop :=
  ∀ (m : (ℓ : Loc Cert.HgrnMix.nD Cert.HgrnMix.τ Cert.HgrnMix.sig) → Buf (Elt Bits) ℓ) (g : Dev Cert.HgrnMix.nD → PrngReg), Pre_HgrnMix m →
    θ_run (Cert.HgrnMix.defs (F := Bits)) (onTc (τ := Cert.HgrnMix.τ) (Cert.HgrnMix.main (F := Bits))) ⟨m, fun _ => 0, g⟩ (fun r => (∀ c : Dev Cert.HgrnMix.nD,
      r.2.mem ((c.tc : Thread Cert.HgrnMix.nD Cert.HgrnMix.τ).loc Cert.HgrnMix.main_arg0) = m ((c.tc : Thread Cert.HgrnMix.nD Cert.HgrnMix.τ).loc Cert.HgrnMix.main_arg0)
      ∧ r.2.mem ((c.tc : Thread Cert.HgrnMix.nD Cert.HgrnMix.τ).loc Cert.HgrnMix.main_arg1) = m ((c.tc : Thread Cert.HgrnMix.nD Cert.HgrnMix.τ).loc Cert.HgrnMix.main_arg1)
      ∧ r.2.mem ((c.tc : Thread Cert.HgrnMix.nD Cert.HgrnMix.τ).loc Cert.HgrnMix.main_arg2) = m ((c.tc : Thread Cert.HgrnMix.nD Cert.HgrnMix.τ).loc Cert.HgrnMix.main_arg2))
      ∧ r.2.sem = fun _ => 0)

def quiescent_HgrnMixIdeal [hHgrnMixIdeal : Cert.HgrnMixIdeal.Facts] : Prop :=
  ∀ (m : (ℓ : Loc Cert.HgrnMixIdeal.nD Cert.HgrnMixIdeal.τ Cert.HgrnMixIdeal.sig) → Buf (Elt Ideal) ℓ) (g : Dev Cert.HgrnMixIdeal.nD → PrngReg), Pre_HgrnMixIdeal m →
    θ_run (Cert.HgrnMixIdeal.defs (F := Ideal)) (onTc (τ := Cert.HgrnMixIdeal.τ) (Cert.HgrnMixIdeal.main (F := Ideal))) ⟨m, fun _ => 0, g⟩ (fun r => (∀ c : Dev Cert.HgrnMixIdeal.nD,
      r.2.mem ((c.tc : Thread Cert.HgrnMixIdeal.nD Cert.HgrnMixIdeal.τ).loc Cert.HgrnMixIdeal.main_arg0) = m ((c.tc : Thread Cert.HgrnMixIdeal.nD Cert.HgrnMixIdeal.τ).loc Cert.HgrnMixIdeal.main_arg0)
      ∧ r.2.mem ((c.tc : Thread Cert.HgrnMixIdeal.nD Cert.HgrnMixIdeal.τ).loc Cert.HgrnMixIdeal.main_arg1) = m ((c.tc : Thread Cert.HgrnMixIdeal.nD Cert.HgrnMixIdeal.τ).loc Cert.HgrnMixIdeal.main_arg1)
      ∧ r.2.mem ((c.tc : Thread Cert.HgrnMixIdeal.nD Cert.HgrnMixIdeal.τ).loc Cert.HgrnMixIdeal.main_arg2) = m ((c.tc : Thread Cert.HgrnMixIdeal.nD Cert.HgrnMixIdeal.τ).loc Cert.HgrnMixIdeal.main_arg2))
      ∧ r.2.sem = fun _ => 0)

def quiescent_HgrnMixIdeal_pre_hgf_finite [hHgrnMixIdeal : Cert.HgrnMixIdeal.Facts] [hPre_hgf_finite : Cert.Pre_hgf_finite.Facts] : Prop :=
  ∀ (m : (ℓ : Loc Cert.HgrnMixIdeal.nD Cert.HgrnMixIdeal.τ Cert.HgrnMixIdeal.sig) → Buf (Elt Ideal) ℓ) (g : Dev Cert.HgrnMixIdeal.nD → PrngReg), Pre_HgrnMixIdeal_hgf_finite m →
    θ_run (Cert.HgrnMixIdeal.defs (F := Ideal)) (onTc (τ := Cert.HgrnMixIdeal.τ) (Cert.HgrnMixIdeal.main (F := Ideal))) ⟨m, fun _ => 0, g⟩ (fun r => (∀ c : Dev Cert.HgrnMixIdeal.nD,
      r.2.mem ((c.tc : Thread Cert.HgrnMixIdeal.nD Cert.HgrnMixIdeal.τ).loc Cert.HgrnMixIdeal.main_arg0) = m ((c.tc : Thread Cert.HgrnMixIdeal.nD Cert.HgrnMixIdeal.τ).loc Cert.HgrnMixIdeal.main_arg0)
      ∧ r.2.mem ((c.tc : Thread Cert.HgrnMixIdeal.nD Cert.HgrnMixIdeal.τ).loc Cert.HgrnMixIdeal.main_arg1) = m ((c.tc : Thread Cert.HgrnMixIdeal.nD Cert.HgrnMixIdeal.τ).loc Cert.HgrnMixIdeal.main_arg1)
      ∧ r.2.mem ((c.tc : Thread Cert.HgrnMixIdeal.nD Cert.HgrnMixIdeal.τ).loc Cert.HgrnMixIdeal.main_arg2) = m ((c.tc : Thread Cert.HgrnMixIdeal.nD Cert.HgrnMixIdeal.τ).loc Cert.HgrnMixIdeal.main_arg2))
      ∧ r.2.sem = fun _ => 0)

def quiescent_HgrnMixRefIdeal [hHgrnMixRefIdeal : Cert.HgrnMixRefIdeal.Facts] : Prop :=
  ∀ (m : (ℓ : Loc Cert.HgrnMixRefIdeal.nD Cert.HgrnMixRefIdeal.τ Cert.HgrnMixRefIdeal.sig) → Buf (Elt Ideal) ℓ) (g : Dev Cert.HgrnMixRefIdeal.nD → PrngReg), Pre_HgrnMixRefIdeal m →
    θ_run (Cert.HgrnMixRefIdeal.defs (F := Ideal)) (onTc (τ := Cert.HgrnMixRefIdeal.τ) (Cert.HgrnMixRefIdeal.main (F := Ideal))) ⟨m, fun _ => 0, g⟩ (fun r => (∀ c : Dev Cert.HgrnMixRefIdeal.nD,
      r.2.mem ((c.tc : Thread Cert.HgrnMixRefIdeal.nD Cert.HgrnMixRefIdeal.τ).loc Cert.HgrnMixRefIdeal.main_arg0) = m ((c.tc : Thread Cert.HgrnMixRefIdeal.nD Cert.HgrnMixRefIdeal.τ).loc Cert.HgrnMixRefIdeal.main_arg0)
      ∧ r.2.mem ((c.tc : Thread Cert.HgrnMixRefIdeal.nD Cert.HgrnMixRefIdeal.τ).loc Cert.HgrnMixRefIdeal.main_arg1) = m ((c.tc : Thread Cert.HgrnMixRefIdeal.nD Cert.HgrnMixRefIdeal.τ).loc Cert.HgrnMixRefIdeal.main_arg1)
      ∧ r.2.mem ((c.tc : Thread Cert.HgrnMixRefIdeal.nD Cert.HgrnMixRefIdeal.τ).loc Cert.HgrnMixRefIdeal.main_arg2) = m ((c.tc : Thread Cert.HgrnMixRefIdeal.nD Cert.HgrnMixRefIdeal.τ).loc Cert.HgrnMixRefIdeal.main_arg2))
      ∧ r.2.sem = fun _ => 0)

def quiescent_HgrnMixRefIdeal_pre_hgf_finite [hHgrnMixRefIdeal : Cert.HgrnMixRefIdeal.Facts] [hPre_hgf_finite : Cert.Pre_hgf_finite.Facts] : Prop :=
  ∀ (m : (ℓ : Loc Cert.HgrnMixRefIdeal.nD Cert.HgrnMixRefIdeal.τ Cert.HgrnMixRefIdeal.sig) → Buf (Elt Ideal) ℓ) (g : Dev Cert.HgrnMixRefIdeal.nD → PrngReg), Pre_HgrnMixRefIdeal_hgf_finite m →
    θ_run (Cert.HgrnMixRefIdeal.defs (F := Ideal)) (onTc (τ := Cert.HgrnMixRefIdeal.τ) (Cert.HgrnMixRefIdeal.main (F := Ideal))) ⟨m, fun _ => 0, g⟩ (fun r => (∀ c : Dev Cert.HgrnMixRefIdeal.nD,
      r.2.mem ((c.tc : Thread Cert.HgrnMixRefIdeal.nD Cert.HgrnMixRefIdeal.τ).loc Cert.HgrnMixRefIdeal.main_arg0) = m ((c.tc : Thread Cert.HgrnMixRefIdeal.nD Cert.HgrnMixRefIdeal.τ).loc Cert.HgrnMixRefIdeal.main_arg0)
      ∧ r.2.mem ((c.tc : Thread Cert.HgrnMixRefIdeal.nD Cert.HgrnMixRefIdeal.τ).loc Cert.HgrnMixRefIdeal.main_arg1) = m ((c.tc : Thread Cert.HgrnMixRefIdeal.nD Cert.HgrnMixRefIdeal.τ).loc Cert.HgrnMixRefIdeal.main_arg1)
      ∧ r.2.mem ((c.tc : Thread Cert.HgrnMixRefIdeal.nD Cert.HgrnMixRefIdeal.τ).loc Cert.HgrnMixRefIdeal.main_arg2) = m ((c.tc : Thread Cert.HgrnMixRefIdeal.nD Cert.HgrnMixRefIdeal.τ).loc Cert.HgrnMixRefIdeal.main_arg2))
      ∧ r.2.sem = fun _ => 0)

def quiescent_FfnDwUp [hFfnDwUp : Cert.FfnDwUp.Facts] : Prop :=
  ∀ (m : (ℓ : Loc Cert.FfnDwUp.nD Cert.FfnDwUp.τ Cert.FfnDwUp.sig) → Buf (Elt Bits) ℓ) (g : Dev Cert.FfnDwUp.nD → PrngReg), Pre_FfnDwUp m →
    θ_run (Cert.FfnDwUp.defs (F := Bits)) (onTc (τ := Cert.FfnDwUp.τ) (Cert.FfnDwUp.main (F := Bits))) ⟨m, fun _ => 0, g⟩ (fun r => (∀ c : Dev Cert.FfnDwUp.nD,
      r.2.mem ((c.tc : Thread Cert.FfnDwUp.nD Cert.FfnDwUp.τ).loc Cert.FfnDwUp.main_arg0) = m ((c.tc : Thread Cert.FfnDwUp.nD Cert.FfnDwUp.τ).loc Cert.FfnDwUp.main_arg0)
      ∧ r.2.mem ((c.tc : Thread Cert.FfnDwUp.nD Cert.FfnDwUp.τ).loc Cert.FfnDwUp.main_arg1) = m ((c.tc : Thread Cert.FfnDwUp.nD Cert.FfnDwUp.τ).loc Cert.FfnDwUp.main_arg1)
      ∧ r.2.mem ((c.tc : Thread Cert.FfnDwUp.nD Cert.FfnDwUp.τ).loc Cert.FfnDwUp.main_arg2) = m ((c.tc : Thread Cert.FfnDwUp.nD Cert.FfnDwUp.τ).loc Cert.FfnDwUp.main_arg2)
      ∧ r.2.mem ((c.tc : Thread Cert.FfnDwUp.nD Cert.FfnDwUp.τ).loc Cert.FfnDwUp.main_arg3) = m ((c.tc : Thread Cert.FfnDwUp.nD Cert.FfnDwUp.τ).loc Cert.FfnDwUp.main_arg3))
      ∧ r.2.sem = fun _ => 0)

def quiescent_FfnDwUpIdeal [hFfnDwUpIdeal : Cert.FfnDwUpIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg), Pre_FfnDwUpIdeal m →
    θ_run (Cert.FfnDwUpIdeal.defs (F := Ideal)) (onTc (τ := Cert.FfnDwUpIdeal.τ) (Cert.FfnDwUpIdeal.main (F := Ideal))) ⟨m, fun _ => 0, g⟩ (fun r => (∀ c : Dev Cert.FfnDwUpIdeal.nD,
      r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
      ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1)
      ∧ r.2.mem ((c.tc : Thread Cert.FfnDwUpIdeal.nD Cert.FfnDwUpIdeal.τ).loc Cert.FfnDwUpIdeal.main_arg2) = m ((c.tc : Thread Cert.FfnDwUpIdeal.nD Cert.FfnDwUpIdeal.τ).loc Cert.FfnDwUpIdeal.main_arg2)
      ∧ r.2.mem ((c.tc : Thread Cert.FfnDwUpIdeal.nD Cert.FfnDwUpIdeal.τ).loc Cert.FfnDwUpIdeal.main_arg3) = m ((c.tc : Thread Cert.FfnDwUpIdeal.nD Cert.FfnDwUpIdeal.τ).loc Cert.FfnDwUpIdeal.main_arg3))
      ∧ r.2.sem = fun _ => 0)

def quiescent_FfnDwUpRefIdeal [hFfnDwUpRefIdeal : Cert.FfnDwUpRefIdeal.Facts] : Prop :=
  ∀ (m : (ℓ : Loc Cert.FfnDwUpRefIdeal.nD Cert.FfnDwUpRefIdeal.τ Cert.FfnDwUpRefIdeal.sig) → Buf (Elt Ideal) ℓ) (g : Dev Cert.FfnDwUpRefIdeal.nD → PrngReg), Pre_FfnDwUpRefIdeal m →
    θ_run (Cert.FfnDwUpRefIdeal.defs (F := Ideal)) (onTc (τ := Cert.FfnDwUpRefIdeal.τ) (Cert.FfnDwUpRefIdeal.main (F := Ideal))) ⟨m, fun _ => 0, g⟩ (fun r => (∀ c : Dev Cert.FfnDwUpRefIdeal.nD,
      r.2.mem ((c.tc : Thread Cert.FfnDwUpRefIdeal.nD Cert.FfnDwUpRefIdeal.τ).loc Cert.FfnDwUpRefIdeal.main_arg0) = m ((c.tc : Thread Cert.FfnDwUpRefIdeal.nD Cert.FfnDwUpRefIdeal.τ).loc Cert.FfnDwUpRefIdeal.main_arg0)
      ∧ r.2.mem ((c.tc : Thread Cert.FfnDwUpRefIdeal.nD Cert.FfnDwUpRefIdeal.τ).loc Cert.FfnDwUpRefIdeal.main_arg1) = m ((c.tc : Thread Cert.FfnDwUpRefIdeal.nD Cert.FfnDwUpRefIdeal.τ).loc Cert.FfnDwUpRefIdeal.main_arg1)
      ∧ r.2.mem ((c.tc : Thread Cert.FfnDwUpRefIdeal.nD Cert.FfnDwUpRefIdeal.τ).loc Cert.FfnDwUpRefIdeal.main_arg2) = m ((c.tc : Thread Cert.FfnDwUpRefIdeal.nD Cert.FfnDwUpRefIdeal.τ).loc Cert.FfnDwUpRefIdeal.main_arg2)
      ∧ r.2.mem ((c.tc : Thread Cert.FfnDwUpRefIdeal.nD Cert.FfnDwUpRefIdeal.τ).loc Cert.FfnDwUpRefIdeal.main_arg3) = m ((c.tc : Thread Cert.FfnDwUpRefIdeal.nD Cert.FfnDwUpRefIdeal.τ).loc Cert.FfnDwUpRefIdeal.main_arg3))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2))
      ∧ r.2.sem = fun _ => 0)

def quiescent_FfnDactRefIdeal [hFfnDactRefIdeal : Cert.FfnDactRefIdeal.Facts] : Prop :=
  ∀ (m : (ℓ : Loc Cert.FfnDactRefIdeal.nD Cert.FfnDactRefIdeal.τ Cert.FfnDactRefIdeal.sig) → Buf (Elt Ideal) ℓ) (g : Dev Cert.FfnDactRefIdeal.nD → PrngReg), Pre_FfnDactRefIdeal m →
    θ_run (Cert.FfnDactRefIdeal.defs (F := Ideal)) (onTc (τ := Cert.FfnDactRefIdeal.τ) (Cert.FfnDactRefIdeal.main (F := Ideal))) ⟨m, fun _ => 0, g⟩ (fun r => (∀ c : Dev Cert.FfnDactRefIdeal.nD,
      r.2.mem ((c.tc : Thread Cert.FfnDactRefIdeal.nD Cert.FfnDactRefIdeal.τ).loc Cert.FfnDactRefIdeal.main_arg0) = m ((c.tc : Thread Cert.FfnDactRefIdeal.nD Cert.FfnDactRefIdeal.τ).loc Cert.FfnDactRefIdeal.main_arg0)
      ∧ r.2.mem ((c.tc : Thread Cert.FfnDactRefIdeal.nD Cert.FfnDactRefIdeal.τ).loc Cert.FfnDactRefIdeal.main_arg1) = m ((c.tc : Thread Cert.FfnDactRefIdeal.nD Cert.FfnDactRefIdeal.τ).loc Cert.FfnDactRefIdeal.main_arg1)
      ∧ r.2.mem ((c.tc : Thread Cert.FfnDactRefIdeal.nD Cert.FfnDactRefIdeal.τ).loc Cert.FfnDactRefIdeal.main_arg2) = m ((c.tc : Thread Cert.FfnDactRefIdeal.nD Cert.FfnDactRefIdeal.τ).loc Cert.FfnDactRefIdeal.main_arg2))
      ∧ r.2.sem = fun _ => 0)

def quiescent_FfnDwDown [hFfnDwDown : Cert.FfnDwDown.Facts] : Prop :=
  ∀ (m : (ℓ : Loc Cert.FfnDwDown.nD Cert.FfnDwDown.τ Cert.FfnDwDown.sig) → Buf (Elt Bits) ℓ) (g : Dev Cert.FfnDwDown.nD → PrngReg), Pre_FfnDwDown m →
    θ_run (Cert.FfnDwDown.defs (F := Bits)) (onTc (τ := Cert.FfnDwDown.τ) (Cert.FfnDwDown.main (F := Bits))) ⟨m, fun _ => 0, g⟩ (fun r => (∀ c : Dev Cert.FfnDwDown.nD,
      r.2.mem ((c.tc : Thread Cert.FfnDwDown.nD Cert.FfnDwDown.τ).loc Cert.FfnDwDown.main_arg0) = m ((c.tc : Thread Cert.FfnDwDown.nD Cert.FfnDwDown.τ).loc Cert.FfnDwDown.main_arg0)
      ∧ r.2.mem ((c.tc : Thread Cert.FfnDwDown.nD Cert.FfnDwDown.τ).loc Cert.FfnDwDown.main_arg1) = m ((c.tc : Thread Cert.FfnDwDown.nD Cert.FfnDwDown.τ).loc Cert.FfnDwDown.main_arg1)
      ∧ r.2.mem ((c.tc : Thread Cert.FfnDwDown.nD Cert.FfnDwDown.τ).loc Cert.FfnDwDown.main_arg2) = m ((c.tc : Thread Cert.FfnDwDown.nD Cert.FfnDwDown.τ).loc Cert.FfnDwDown.main_arg2))
      ∧ r.2.sem = fun _ => 0)

def quiescent_FfnDwDownIdeal [hFfnDwDownIdeal : Cert.FfnDwDownIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg), Pre_FfnDwDownIdeal m →
    θ_run (Cert.FfnDwDownIdeal.defs (F := Ideal)) (onTc (τ := Cert.FfnDwDownIdeal.τ) (Cert.FfnDwDownIdeal.main (F := Ideal))) ⟨m, fun _ => 0, g⟩ (fun r => (∀ c : Dev Cert.FfnDwDownIdeal.nD,
      r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
      ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1)
      ∧ r.2.mem ((c.tc : Thread Cert.FfnDwDownIdeal.nD Cert.FfnDwDownIdeal.τ).loc Cert.FfnDwDownIdeal.main_arg2) = m ((c.tc : Thread Cert.FfnDwDownIdeal.nD Cert.FfnDwDownIdeal.τ).loc Cert.FfnDwDownIdeal.main_arg2))
      ∧ r.2.sem = fun _ => 0)

def quiescent_FfnDwDownRefIdeal [hFfnDwDownRefIdeal : Cert.FfnDwDownRefIdeal.Facts] : Prop :=
  ∀ (m : (ℓ : Loc Cert.FfnDwDownRefIdeal.nD Cert.FfnDwDownRefIdeal.τ Cert.FfnDwDownRefIdeal.sig) → Buf (Elt Ideal) ℓ) (g : Dev Cert.FfnDwDownRefIdeal.nD → PrngReg), Pre_FfnDwDownRefIdeal m →
    θ_run (Cert.FfnDwDownRefIdeal.defs (F := Ideal)) (onTc (τ := Cert.FfnDwDownRefIdeal.τ) (Cert.FfnDwDownRefIdeal.main (F := Ideal))) ⟨m, fun _ => 0, g⟩ (fun r => (∀ c : Dev Cert.FfnDwDownRefIdeal.nD,
      r.2.mem ((c.tc : Thread Cert.FfnDwDownRefIdeal.nD Cert.FfnDwDownRefIdeal.τ).loc Cert.FfnDwDownRefIdeal.main_arg0) = m ((c.tc : Thread Cert.FfnDwDownRefIdeal.nD Cert.FfnDwDownRefIdeal.τ).loc Cert.FfnDwDownRefIdeal.main_arg0)
      ∧ r.2.mem ((c.tc : Thread Cert.FfnDwDownRefIdeal.nD Cert.FfnDwDownRefIdeal.τ).loc Cert.FfnDwDownRefIdeal.main_arg1) = m ((c.tc : Thread Cert.FfnDwDownRefIdeal.nD Cert.FfnDwDownRefIdeal.τ).loc Cert.FfnDwDownRefIdeal.main_arg1)
      ∧ r.2.mem ((c.tc : Thread Cert.FfnDwDownRefIdeal.nD Cert.FfnDwDownRefIdeal.τ).loc Cert.FfnDwDownRefIdeal.main_arg2) = m ((c.tc : Thread Cert.FfnDwDownRefIdeal.nD Cert.FfnDwDownRefIdeal.τ).loc Cert.FfnDwDownRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamLayer [hAdamLayer : Cert.AdamLayer.Facts] : Prop :=
  ∀ (m : (ℓ : Loc Cert.AdamLayer.nD Cert.AdamLayer.τ Cert.AdamLayer.sig) → Buf (Elt Bits) ℓ) (g : Dev Cert.AdamLayer.nD → PrngReg), Pre_AdamLayer m →
    θ_run (Cert.AdamLayer.defs (F := Bits)) (onTc (τ := Cert.AdamLayer.τ) (Cert.AdamLayer.main (F := Bits))) ⟨m, fun _ => 0, g⟩ (fun r => (∀ c : Dev Cert.AdamLayer.nD,
      r.2.mem ((c.tc : Thread Cert.AdamLayer.nD Cert.AdamLayer.τ).loc Cert.AdamLayer.main_arg0) = m ((c.tc : Thread Cert.AdamLayer.nD Cert.AdamLayer.τ).loc Cert.AdamLayer.main_arg0)
      ∧ r.2.mem ((c.tc : Thread Cert.AdamLayer.nD Cert.AdamLayer.τ).loc Cert.AdamLayer.main_arg1) = m ((c.tc : Thread Cert.AdamLayer.nD Cert.AdamLayer.τ).loc Cert.AdamLayer.main_arg1)
      ∧ r.2.mem ((c.tc : Thread Cert.AdamLayer.nD Cert.AdamLayer.τ).loc Cert.AdamLayer.main_arg2) = m ((c.tc : Thread Cert.AdamLayer.nD Cert.AdamLayer.τ).loc Cert.AdamLayer.main_arg2)
      ∧ r.2.mem ((c.tc : Thread Cert.AdamLayer.nD Cert.AdamLayer.τ).loc Cert.AdamLayer.main_arg3) = m ((c.tc : Thread Cert.AdamLayer.nD Cert.AdamLayer.τ).loc Cert.AdamLayer.main_arg3)
      ∧ r.2.mem ((c.tc : Thread Cert.AdamLayer.nD Cert.AdamLayer.τ).loc Cert.AdamLayer.main_arg4) = m ((c.tc : Thread Cert.AdamLayer.nD Cert.AdamLayer.τ).loc Cert.AdamLayer.main_arg4)
      ∧ r.2.mem ((c.tc : Thread Cert.AdamLayer.nD Cert.AdamLayer.τ).loc Cert.AdamLayer.main_arg5) = m ((c.tc : Thread Cert.AdamLayer.nD Cert.AdamLayer.τ).loc Cert.AdamLayer.main_arg5)
      ∧ r.2.mem ((c.tc : Thread Cert.AdamLayer.nD Cert.AdamLayer.τ).loc Cert.AdamLayer.main_arg6) = m ((c.tc : Thread Cert.AdamLayer.nD Cert.AdamLayer.τ).loc Cert.AdamLayer.main_arg6)
      ∧ r.2.mem ((c.tc : Thread Cert.AdamLayer.nD Cert.AdamLayer.τ).loc Cert.AdamLayer.main_arg7) = m ((c.tc : Thread Cert.AdamLayer.nD Cert.AdamLayer.τ).loc Cert.AdamLayer.main_arg7))
      ∧ r.2.sem = fun _ => 0)

def quiescent_AdamLayerIdeal [hAdamLayerIdeal : Cert.AdamLayerIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg), Pre_AdamLayerIdeal m →
    θ_run (Cert.AdamLayerIdeal.defs (F := Ideal)) (onTc (τ := Cert.AdamLayerIdeal.τ) (Cert.AdamLayerIdeal.main (F := Ideal))) ⟨m, fun _ => 0, g⟩ (fun r => (∀ c : Dev Cert.AdamLayerIdeal.nD,
      r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
      ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
      ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
      ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
      ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4)
      ∧ r.2.mem ((c.tc : Thread Cert.AdamLayerIdeal.nD Cert.AdamLayerIdeal.τ).loc Cert.AdamLayerIdeal.main_arg5) = m ((c.tc : Thread Cert.AdamLayerIdeal.nD Cert.AdamLayerIdeal.τ).loc Cert.AdamLayerIdeal.main_arg5)
      ∧ r.2.mem ((c.tc : Thread Cert.AdamLayerIdeal.nD Cert.AdamLayerIdeal.τ).loc Cert.AdamLayerIdeal.main_arg6) = m ((c.tc : Thread Cert.AdamLayerIdeal.nD Cert.AdamLayerIdeal.τ).loc Cert.AdamLayerIdeal.main_arg6)
      ∧ r.2.mem ((c.tc : Thread Cert.AdamLayerIdeal.nD Cert.AdamLayerIdeal.τ).loc Cert.AdamLayerIdeal.main_arg7) = m ((c.tc : Thread Cert.AdamLayerIdeal.nD Cert.AdamLayerIdeal.τ).loc Cert.AdamLayerIdeal.main_arg7))
      ∧ r.2.sem = fun _ => 0)

def quiescent_AdamLayerRefIdeal [hAdamLayerRefIdeal : Cert.AdamLayerRefIdeal.Facts] : Prop :=
  ∀ (m : (ℓ : Loc Cert.AdamLayerRefIdeal.nD Cert.AdamLayerRefIdeal.τ Cert.AdamLayerRefIdeal.sig) → Buf (Elt Ideal) ℓ) (g : Dev Cert.AdamLayerRefIdeal.nD → PrngReg), Pre_AdamLayerRefIdeal m →
    θ_run (Cert.AdamLayerRefIdeal.defs (F := Ideal)) (onTc (τ := Cert.AdamLayerRefIdeal.τ) (Cert.AdamLayerRefIdeal.main (F := Ideal))) ⟨m, fun _ => 0, g⟩ (fun r => (∀ c : Dev Cert.AdamLayerRefIdeal.nD,
      r.2.mem ((c.tc : Thread Cert.AdamLayerRefIdeal.nD Cert.AdamLayerRefIdeal.τ).loc Cert.AdamLayerRefIdeal.main_arg0) = m ((c.tc : Thread Cert.AdamLayerRefIdeal.nD Cert.AdamLayerRefIdeal.τ).loc Cert.AdamLayerRefIdeal.main_arg0)
      ∧ r.2.mem ((c.tc : Thread Cert.AdamLayerRefIdeal.nD Cert.AdamLayerRefIdeal.τ).loc Cert.AdamLayerRefIdeal.main_arg1) = m ((c.tc : Thread Cert.AdamLayerRefIdeal.nD Cert.AdamLayerRefIdeal.τ).loc Cert.AdamLayerRefIdeal.main_arg1)
      ∧ r.2.mem ((c.tc : Thread Cert.AdamLayerRefIdeal.nD Cert.AdamLayerRefIdeal.τ).loc Cert.AdamLayerRefIdeal.main_arg2) = m ((c.tc : Thread Cert.AdamLayerRefIdeal.nD Cert.AdamLayerRefIdeal.τ).loc Cert.AdamLayerRefIdeal.main_arg2)
      ∧ r.2.mem ((c.tc : Thread Cert.AdamLayerRefIdeal.nD Cert.AdamLayerRefIdeal.τ).loc Cert.AdamLayerRefIdeal.main_arg3) = m ((c.tc : Thread Cert.AdamLayerRefIdeal.nD Cert.AdamLayerRefIdeal.τ).loc Cert.AdamLayerRefIdeal.main_arg3)
      ∧ r.2.mem ((c.tc : Thread Cert.AdamLayerRefIdeal.nD Cert.AdamLayerRefIdeal.τ).loc Cert.AdamLayerRefIdeal.main_arg4) = m ((c.tc : Thread Cert.AdamLayerRefIdeal.nD Cert.AdamLayerRefIdeal.τ).loc Cert.AdamLayerRefIdeal.main_arg4)
      ∧ r.2.mem ((c.tc : Thread Cert.AdamLayerRefIdeal.nD Cert.AdamLayerRefIdeal.τ).loc Cert.AdamLayerRefIdeal.main_arg5) = m ((c.tc : Thread Cert.AdamLayerRefIdeal.nD Cert.AdamLayerRefIdeal.τ).loc Cert.AdamLayerRefIdeal.main_arg5)
      ∧ r.2.mem ((c.tc : Thread Cert.AdamLayerRefIdeal.nD Cert.AdamLayerRefIdeal.τ).loc Cert.AdamLayerRefIdeal.main_arg6) = m ((c.tc : Thread Cert.AdamLayerRefIdeal.nD Cert.AdamLayerRefIdeal.τ).loc Cert.AdamLayerRefIdeal.main_arg6)
      ∧ r.2.mem ((c.tc : Thread Cert.AdamLayerRefIdeal.nD Cert.AdamLayerRefIdeal.τ).loc Cert.AdamLayerRefIdeal.main_arg7) = m ((c.tc : Thread Cert.AdamLayerRefIdeal.nD Cert.AdamLayerRefIdeal.τ).loc Cert.AdamLayerRefIdeal.main_arg7))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v3_0)) (v1 : (c : Dev Cert.LossHeadIdeal.nD) → Buf (Elt Ideal) ((c.tc : Thread Cert.LossHeadIdeal.nD Cert.LossHeadIdeal.τ).loc Cert.LossHeadIdeal.main_v3_1)) (v2 : (c : Dev Cert.LossHeadIdeal.nD) → Buf (Elt Ideal) ((c.tc : Thread Cert.LossHeadIdeal.nD Cert.LossHeadIdeal.τ).loc Cert.LossHeadIdeal.main_v3_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v3_0) = v0 c
          ∧ r.2.mem ((c.tc : Thread Cert.LossHeadIdeal.nD Cert.LossHeadIdeal.τ).loc Cert.LossHeadIdeal.main_v3_1) = v1 c
          ∧ r.2.mem ((c.tc : Thread Cert.LossHeadIdeal.nD Cert.LossHeadIdeal.τ).loc Cert.LossHeadIdeal.main_v3_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v53) = v0 c
          ∧ r.2.mem ((c.tc : Thread Cert.LossHeadRefIdeal.nD Cert.LossHeadRefIdeal.τ).loc Cert.LossHeadRefIdeal.main_v54) = v1 c
          ∧ r.2.mem ((c.tc : Thread Cert.LossHeadRefIdeal.nD Cert.LossHeadRefIdeal.τ).loc Cert.LossHeadRefIdeal.main_v55) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_FfnDxn_FfnDxnIdeal : Prop :=
  True

def algebraic_FfnDxnIdeal_FfnDxnRefIdeal_pre_ffn_finite [hFfnDxnIdeal : Cert.FfnDxnIdeal.Facts] [hFfnDxnRefIdeal : Cert.FfnDxnRefIdeal.Facts] [hPre_ffn_finite : Cert.Pre_ffn_finite.Facts] : Prop :=
  ∀ (m : (ℓ : Loc Cert.FfnDxnIdeal.nD Cert.FfnDxnIdeal.τ Cert.FfnDxnIdeal.sig) → Buf (Elt Ideal) ℓ) (g : Dev Cert.FfnDxnIdeal.nD → PrngReg)
    (m' : (ℓ : Loc Cert.FfnDxnRefIdeal.nD Cert.FfnDxnRefIdeal.τ Cert.FfnDxnRefIdeal.sig) → Buf (Elt Ideal) ℓ) (g' : Dev Cert.FfnDxnRefIdeal.nD → PrngReg), Pre_FfnDxnIdeal_ffn_finite m →
    (∀ c : Dev Cert.FfnDxnIdeal.nD,
      m' ((c.tc : Thread Cert.FfnDxnRefIdeal.nD Cert.FfnDxnRefIdeal.τ).loc Cert.FfnDxnRefIdeal.main_arg0) = m ((c.tc : Thread Cert.FfnDxnIdeal.nD Cert.FfnDxnIdeal.τ).loc Cert.FfnDxnIdeal.main_arg0)
      ∧ m' ((c.tc : Thread Cert.FfnDxnRefIdeal.nD Cert.FfnDxnRefIdeal.τ).loc Cert.FfnDxnRefIdeal.main_arg1) = m ((c.tc : Thread Cert.FfnDxnIdeal.nD Cert.FfnDxnIdeal.τ).loc Cert.FfnDxnIdeal.main_arg1)
      ∧ m' ((c.tc : Thread Cert.FfnDxnRefIdeal.nD Cert.FfnDxnRefIdeal.τ).loc Cert.FfnDxnRefIdeal.main_arg2) = m ((c.tc : Thread Cert.FfnDxnIdeal.nD Cert.FfnDxnIdeal.τ).loc Cert.FfnDxnIdeal.main_arg2)
      ∧ m' ((c.tc : Thread Cert.FfnDxnRefIdeal.nD Cert.FfnDxnRefIdeal.τ).loc Cert.FfnDxnRefIdeal.main_arg3) = m ((c.tc : Thread Cert.FfnDxnIdeal.nD Cert.FfnDxnIdeal.τ).loc Cert.FfnDxnIdeal.main_arg3)
      ∧ m' ((c.tc : Thread Cert.FfnDxnRefIdeal.nD Cert.FfnDxnRefIdeal.τ).loc Cert.FfnDxnRefIdeal.main_arg4) = m ((c.tc : Thread Cert.FfnDxnIdeal.nD Cert.FfnDxnIdeal.τ).loc Cert.FfnDxnIdeal.main_arg4)) →
    ∃ (v0 : (c : Dev Cert.FfnDxnIdeal.nD) → Buf (Elt Ideal) ((c.tc : Thread Cert.FfnDxnIdeal.nD Cert.FfnDxnIdeal.τ).loc Cert.FfnDxnIdeal.main_v8_0)) (v1 : (c : Dev Cert.FfnDxnIdeal.nD) → Buf (Elt Ideal) ((c.tc : Thread Cert.FfnDxnIdeal.nD Cert.FfnDxnIdeal.τ).loc Cert.FfnDxnIdeal.main_v8_1)),
      θ_run (Cert.FfnDxnIdeal.defs (F := Ideal)) (onTc (τ := Cert.FfnDxnIdeal.τ) (Cert.FfnDxnIdeal.main (F := Ideal))) ⟨m, fun _ => 0, g⟩ (fun r => ∀ c : Dev Cert.FfnDxnIdeal.nD,
          r.2.mem ((c.tc : Thread Cert.FfnDxnIdeal.nD Cert.FfnDxnIdeal.τ).loc Cert.FfnDxnIdeal.main_v8_0) = v0 c
          ∧ r.2.mem ((c.tc : Thread Cert.FfnDxnIdeal.nD Cert.FfnDxnIdeal.τ).loc Cert.FfnDxnIdeal.main_v8_1) = v1 c
          ∧ r.2.mem ((c.tc : Thread Cert.FfnDxnIdeal.nD Cert.FfnDxnIdeal.τ).loc Cert.FfnDxnIdeal.main_arg0) = m ((c.tc : Thread Cert.FfnDxnIdeal.nD Cert.FfnDxnIdeal.τ).loc Cert.FfnDxnIdeal.main_arg0)
          ∧ r.2.mem ((c.tc : Thread Cert.FfnDxnIdeal.nD Cert.FfnDxnIdeal.τ).loc Cert.FfnDxnIdeal.main_arg1) = m ((c.tc : Thread Cert.FfnDxnIdeal.nD Cert.FfnDxnIdeal.τ).loc Cert.FfnDxnIdeal.main_arg1)
          ∧ r.2.mem ((c.tc : Thread Cert.FfnDxnIdeal.nD Cert.FfnDxnIdeal.τ).loc Cert.FfnDxnIdeal.main_arg2) = m ((c.tc : Thread Cert.FfnDxnIdeal.nD Cert.FfnDxnIdeal.τ).loc Cert.FfnDxnIdeal.main_arg2)
          ∧ r.2.mem ((c.tc : Thread Cert.FfnDxnIdeal.nD Cert.FfnDxnIdeal.τ).loc Cert.FfnDxnIdeal.main_arg3) = m ((c.tc : Thread Cert.FfnDxnIdeal.nD Cert.FfnDxnIdeal.τ).loc Cert.FfnDxnIdeal.main_arg3)
          ∧ r.2.mem ((c.tc : Thread Cert.FfnDxnIdeal.nD Cert.FfnDxnIdeal.τ).loc Cert.FfnDxnIdeal.main_arg4) = m ((c.tc : Thread Cert.FfnDxnIdeal.nD Cert.FfnDxnIdeal.τ).loc Cert.FfnDxnIdeal.main_arg4))
      ∧ θ_run (Cert.FfnDxnRefIdeal.defs (F := Ideal)) (onTc (τ := Cert.FfnDxnRefIdeal.τ) (Cert.FfnDxnRefIdeal.main (F := Ideal))) ⟨m', fun _ => 0, g'⟩ (fun r => ∀ c : Dev Cert.FfnDxnRefIdeal.nD,
          r.2.mem ((c.tc : Thread Cert.FfnDxnRefIdeal.nD Cert.FfnDxnRefIdeal.τ).loc Cert.FfnDxnRefIdeal.main_v42) = v0 c
          ∧ r.2.mem ((c.tc : Thread Cert.FfnDxnRefIdeal.nD Cert.FfnDxnRefIdeal.τ).loc Cert.FfnDxnRefIdeal.main_v43) = v1 c
          ∧ r.2.mem ((c.tc : Thread Cert.FfnDxnRefIdeal.nD Cert.FfnDxnRefIdeal.τ).loc Cert.FfnDxnRefIdeal.main_arg0) = m' ((c.tc : Thread Cert.FfnDxnRefIdeal.nD Cert.FfnDxnRefIdeal.τ).loc Cert.FfnDxnRefIdeal.main_arg0)
          ∧ r.2.mem ((c.tc : Thread Cert.FfnDxnRefIdeal.nD Cert.FfnDxnRefIdeal.τ).loc Cert.FfnDxnRefIdeal.main_arg1) = m' ((c.tc : Thread Cert.FfnDxnRefIdeal.nD Cert.FfnDxnRefIdeal.τ).loc Cert.FfnDxnRefIdeal.main_arg1)
          ∧ r.2.mem ((c.tc : Thread Cert.FfnDxnRefIdeal.nD Cert.FfnDxnRefIdeal.τ).loc Cert.FfnDxnRefIdeal.main_arg2) = m' ((c.tc : Thread Cert.FfnDxnRefIdeal.nD Cert.FfnDxnRefIdeal.τ).loc Cert.FfnDxnRefIdeal.main_arg2)
          ∧ r.2.mem ((c.tc : Thread Cert.FfnDxnRefIdeal.nD Cert.FfnDxnRefIdeal.τ).loc Cert.FfnDxnRefIdeal.main_arg3) = m' ((c.tc : Thread Cert.FfnDxnRefIdeal.nD Cert.FfnDxnRefIdeal.τ).loc Cert.FfnDxnRefIdeal.main_arg3)
          ∧ r.2.mem ((c.tc : Thread Cert.FfnDxnRefIdeal.nD Cert.FfnDxnRefIdeal.τ).loc Cert.FfnDxnRefIdeal.main_arg4) = m' ((c.tc : Thread Cert.FfnDxnRefIdeal.nD Cert.FfnDxnRefIdeal.τ).loc Cert.FfnDxnRefIdeal.main_arg4))

def preserves_AttnDxa_AttnDxaIdeal : Prop :=
  True

def algebraic_AttnDxaIdeal_AttnDxaRefIdeal_pre_dxa_finite [hAttnDxaIdeal : Cert.AttnDxaIdeal.Facts] [hAttnDxaRefIdeal : Cert.AttnDxaRefIdeal.Facts] [hPre_dxa_finite : Cert.Pre_dxa_finite.Facts] : Prop :=
  ∀ (m : (ℓ : Loc Cert.AttnDxaIdeal.nD Cert.AttnDxaIdeal.τ Cert.AttnDxaIdeal.sig) → Buf (Elt Ideal) ℓ) (g : Dev Cert.AttnDxaIdeal.nD → PrngReg)
    (m' : (ℓ : Loc Cert.AttnDxaRefIdeal.nD Cert.AttnDxaRefIdeal.τ Cert.AttnDxaRefIdeal.sig) → Buf (Elt Ideal) ℓ) (g' : Dev Cert.AttnDxaRefIdeal.nD → PrngReg), Pre_AttnDxaIdeal_dxa_finite m →
    (∀ c : Dev Cert.AttnDxaIdeal.nD,
      m' ((c.tc : Thread Cert.AttnDxaRefIdeal.nD Cert.AttnDxaRefIdeal.τ).loc Cert.AttnDxaRefIdeal.main_arg0) = m ((c.tc : Thread Cert.AttnDxaIdeal.nD Cert.AttnDxaIdeal.τ).loc Cert.AttnDxaIdeal.main_arg0)
      ∧ m' ((c.tc : Thread Cert.AttnDxaRefIdeal.nD Cert.AttnDxaRefIdeal.τ).loc Cert.AttnDxaRefIdeal.main_arg1) = m ((c.tc : Thread Cert.AttnDxaIdeal.nD Cert.AttnDxaIdeal.τ).loc Cert.AttnDxaIdeal.main_arg1)
      ∧ m' ((c.tc : Thread Cert.AttnDxaRefIdeal.nD Cert.AttnDxaRefIdeal.τ).loc Cert.AttnDxaRefIdeal.main_arg2) = m ((c.tc : Thread Cert.AttnDxaIdeal.nD Cert.AttnDxaIdeal.τ).loc Cert.AttnDxaIdeal.main_arg2)
      ∧ m' ((c.tc : Thread Cert.AttnDxaRefIdeal.nD Cert.AttnDxaRefIdeal.τ).loc Cert.AttnDxaRefIdeal.main_arg3) = m ((c.tc : Thread Cert.AttnDxaIdeal.nD Cert.AttnDxaIdeal.τ).loc Cert.AttnDxaIdeal.main_arg3)
      ∧ m' ((c.tc : Thread Cert.AttnDxaRefIdeal.nD Cert.AttnDxaRefIdeal.τ).loc Cert.AttnDxaRefIdeal.main_arg4) = m ((c.tc : Thread Cert.AttnDxaIdeal.nD Cert.AttnDxaIdeal.τ).loc Cert.AttnDxaIdeal.main_arg4)
      ∧ m' ((c.tc : Thread Cert.AttnDxaRefIdeal.nD Cert.AttnDxaRefIdeal.τ).loc Cert.AttnDxaRefIdeal.main_arg5) = m ((c.tc : Thread Cert.AttnDxaIdeal.nD Cert.AttnDxaIdeal.τ).loc Cert.AttnDxaIdeal.main_arg5)
      ∧ m' ((c.tc : Thread Cert.AttnDxaRefIdeal.nD Cert.AttnDxaRefIdeal.τ).loc Cert.AttnDxaRefIdeal.main_arg6) = m ((c.tc : Thread Cert.AttnDxaIdeal.nD Cert.AttnDxaIdeal.τ).loc Cert.AttnDxaIdeal.main_arg6)
      ∧ m' ((c.tc : Thread Cert.AttnDxaRefIdeal.nD Cert.AttnDxaRefIdeal.τ).loc Cert.AttnDxaRefIdeal.main_arg7) = m ((c.tc : Thread Cert.AttnDxaIdeal.nD Cert.AttnDxaIdeal.τ).loc Cert.AttnDxaIdeal.main_arg7)) →
    ∃ (v0 : (c : Dev Cert.AttnDxaIdeal.nD) → Buf (Elt Ideal) ((c.tc : Thread Cert.AttnDxaIdeal.nD Cert.AttnDxaIdeal.τ).loc Cert.AttnDxaIdeal.main_v6_0)) (v1 : (c : Dev Cert.AttnDxaIdeal.nD) → Buf (Elt Ideal) ((c.tc : Thread Cert.AttnDxaIdeal.nD Cert.AttnDxaIdeal.τ).loc Cert.AttnDxaIdeal.main_v6_1)) (v2 : (c : Dev Cert.AttnDxaIdeal.nD) → Buf (Elt Ideal) ((c.tc : Thread Cert.AttnDxaIdeal.nD Cert.AttnDxaIdeal.τ).loc Cert.AttnDxaIdeal.main_v6_2)),
      θ_run (Cert.AttnDxaIdeal.defs (F := Ideal)) (onTc (τ := Cert.AttnDxaIdeal.τ) (Cert.AttnDxaIdeal.main (F := Ideal))) ⟨m, fun _ => 0, g⟩ (fun r => ∀ c : Dev Cert.AttnDxaIdeal.nD,
          r.2.mem ((c.tc : Thread Cert.AttnDxaIdeal.nD Cert.AttnDxaIdeal.τ).loc Cert.AttnDxaIdeal.main_v6_0) = v0 c
          ∧ r.2.mem ((c.tc : Thread Cert.AttnDxaIdeal.nD Cert.AttnDxaIdeal.τ).loc Cert.AttnDxaIdeal.main_v6_1) = v1 c
          ∧ r.2.mem ((c.tc : Thread Cert.AttnDxaIdeal.nD Cert.AttnDxaIdeal.τ).loc Cert.AttnDxaIdeal.main_v6_2) = v2 c
          ∧ r.2.mem ((c.tc : Thread Cert.AttnDxaIdeal.nD Cert.AttnDxaIdeal.τ).loc Cert.AttnDxaIdeal.main_arg0) = m ((c.tc : Thread Cert.AttnDxaIdeal.nD Cert.AttnDxaIdeal.τ).loc Cert.AttnDxaIdeal.main_arg0)
          ∧ r.2.mem ((c.tc : Thread Cert.AttnDxaIdeal.nD Cert.AttnDxaIdeal.τ).loc Cert.AttnDxaIdeal.main_arg1) = m ((c.tc : Thread Cert.AttnDxaIdeal.nD Cert.AttnDxaIdeal.τ).loc Cert.AttnDxaIdeal.main_arg1)
          ∧ r.2.mem ((c.tc : Thread Cert.AttnDxaIdeal.nD Cert.AttnDxaIdeal.τ).loc Cert.AttnDxaIdeal.main_arg2) = m ((c.tc : Thread Cert.AttnDxaIdeal.nD Cert.AttnDxaIdeal.τ).loc Cert.AttnDxaIdeal.main_arg2)
          ∧ r.2.mem ((c.tc : Thread Cert.AttnDxaIdeal.nD Cert.AttnDxaIdeal.τ).loc Cert.AttnDxaIdeal.main_arg3) = m ((c.tc : Thread Cert.AttnDxaIdeal.nD Cert.AttnDxaIdeal.τ).loc Cert.AttnDxaIdeal.main_arg3)
          ∧ r.2.mem ((c.tc : Thread Cert.AttnDxaIdeal.nD Cert.AttnDxaIdeal.τ).loc Cert.AttnDxaIdeal.main_arg4) = m ((c.tc : Thread Cert.AttnDxaIdeal.nD Cert.AttnDxaIdeal.τ).loc Cert.AttnDxaIdeal.main_arg4)
          ∧ r.2.mem ((c.tc : Thread Cert.AttnDxaIdeal.nD Cert.AttnDxaIdeal.τ).loc Cert.AttnDxaIdeal.main_arg5) = m ((c.tc : Thread Cert.AttnDxaIdeal.nD Cert.AttnDxaIdeal.τ).loc Cert.AttnDxaIdeal.main_arg5)
          ∧ r.2.mem ((c.tc : Thread Cert.AttnDxaIdeal.nD Cert.AttnDxaIdeal.τ).loc Cert.AttnDxaIdeal.main_arg6) = m ((c.tc : Thread Cert.AttnDxaIdeal.nD Cert.AttnDxaIdeal.τ).loc Cert.AttnDxaIdeal.main_arg6)
          ∧ r.2.mem ((c.tc : Thread Cert.AttnDxaIdeal.nD Cert.AttnDxaIdeal.τ).loc Cert.AttnDxaIdeal.main_arg7) = m ((c.tc : Thread Cert.AttnDxaIdeal.nD Cert.AttnDxaIdeal.τ).loc Cert.AttnDxaIdeal.main_arg7))
      ∧ θ_run (Cert.AttnDxaRefIdeal.defs (F := Ideal)) (onTc (τ := Cert.AttnDxaRefIdeal.τ) (Cert.AttnDxaRefIdeal.main (F := Ideal))) ⟨m', fun _ => 0, g'⟩ (fun r => ∀ c : Dev Cert.AttnDxaRefIdeal.nD,
          r.2.mem ((c.tc : Thread Cert.AttnDxaRefIdeal.nD Cert.AttnDxaRefIdeal.τ).loc Cert.AttnDxaRefIdeal.main_v87) = v0 c
          ∧ r.2.mem ((c.tc : Thread Cert.AttnDxaRefIdeal.nD Cert.AttnDxaRefIdeal.τ).loc Cert.AttnDxaRefIdeal.main_v86) = v1 c
          ∧ r.2.mem ((c.tc : Thread Cert.AttnDxaRefIdeal.nD Cert.AttnDxaRefIdeal.τ).loc Cert.AttnDxaRefIdeal.main_v88) = v2 c
          ∧ r.2.mem ((c.tc : Thread Cert.AttnDxaRefIdeal.nD Cert.AttnDxaRefIdeal.τ).loc Cert.AttnDxaRefIdeal.main_arg0) = m' ((c.tc : Thread Cert.AttnDxaRefIdeal.nD Cert.AttnDxaRefIdeal.τ).loc Cert.AttnDxaRefIdeal.main_arg0)
          ∧ r.2.mem ((c.tc : Thread Cert.AttnDxaRefIdeal.nD Cert.AttnDxaRefIdeal.τ).loc Cert.AttnDxaRefIdeal.main_arg1) = m' ((c.tc : Thread Cert.AttnDxaRefIdeal.nD Cert.AttnDxaRefIdeal.τ).loc Cert.AttnDxaRefIdeal.main_arg1)
          ∧ r.2.mem ((c.tc : Thread Cert.AttnDxaRefIdeal.nD Cert.AttnDxaRefIdeal.τ).loc Cert.AttnDxaRefIdeal.main_arg2) = m' ((c.tc : Thread Cert.AttnDxaRefIdeal.nD Cert.AttnDxaRefIdeal.τ).loc Cert.AttnDxaRefIdeal.main_arg2)
          ∧ r.2.mem ((c.tc : Thread Cert.AttnDxaRefIdeal.nD Cert.AttnDxaRefIdeal.τ).loc Cert.AttnDxaRefIdeal.main_arg3) = m' ((c.tc : Thread Cert.AttnDxaRefIdeal.nD Cert.AttnDxaRefIdeal.τ).loc Cert.AttnDxaRefIdeal.main_arg3)
          ∧ r.2.mem ((c.tc : Thread Cert.AttnDxaRefIdeal.nD Cert.AttnDxaRefIdeal.τ).loc Cert.AttnDxaRefIdeal.main_arg4) = m' ((c.tc : Thread Cert.AttnDxaRefIdeal.nD Cert.AttnDxaRefIdeal.τ).loc Cert.AttnDxaRefIdeal.main_arg4)
          ∧ r.2.mem ((c.tc : Thread Cert.AttnDxaRefIdeal.nD Cert.AttnDxaRefIdeal.τ).loc Cert.AttnDxaRefIdeal.main_arg5) = m' ((c.tc : Thread Cert.AttnDxaRefIdeal.nD Cert.AttnDxaRefIdeal.τ).loc Cert.AttnDxaRefIdeal.main_arg5)
          ∧ r.2.mem ((c.tc : Thread Cert.AttnDxaRefIdeal.nD Cert.AttnDxaRefIdeal.τ).loc Cert.AttnDxaRefIdeal.main_arg6) = m' ((c.tc : Thread Cert.AttnDxaRefIdeal.nD Cert.AttnDxaRefIdeal.τ).loc Cert.AttnDxaRefIdeal.main_arg6)
          ∧ r.2.mem ((c.tc : Thread Cert.AttnDxaRefIdeal.nD Cert.AttnDxaRefIdeal.τ).loc Cert.AttnDxaRefIdeal.main_arg7) = m' ((c.tc : Thread Cert.AttnDxaRefIdeal.nD Cert.AttnDxaRefIdeal.τ).loc Cert.AttnDxaRefIdeal.main_arg7))

def preserves_ConvGate_ConvGateIdeal : Prop :=
  True

def algebraic_ConvGateIdeal_ConvGateRefIdeal_pre_cfwd_finite [hConvGateIdeal : Cert.ConvGateIdeal.Facts] [hConvGateRefIdeal : Cert.ConvGateRefIdeal.Facts] [hPre_cfwd_finite : Cert.Pre_cfwd_finite.Facts] : Prop :=
  ∀ (m : (ℓ : Loc Cert.ConvGateIdeal.nD Cert.ConvGateIdeal.τ Cert.ConvGateIdeal.sig) → Buf (Elt Ideal) ℓ) (g : Dev Cert.ConvGateIdeal.nD → PrngReg)
    (m' : (ℓ : Loc Cert.ConvGateRefIdeal.nD Cert.ConvGateRefIdeal.τ Cert.ConvGateRefIdeal.sig) → Buf (Elt Ideal) ℓ) (g' : Dev Cert.ConvGateRefIdeal.nD → PrngReg), Pre_ConvGateIdeal_cfwd_finite m →
    (∀ c : Dev Cert.ConvGateIdeal.nD,
      m' ((c.tc : Thread Cert.ConvGateRefIdeal.nD Cert.ConvGateRefIdeal.τ).loc Cert.ConvGateRefIdeal.main_arg0) = m ((c.tc : Thread Cert.ConvGateIdeal.nD Cert.ConvGateIdeal.τ).loc Cert.ConvGateIdeal.main_arg0)
      ∧ m' ((c.tc : Thread Cert.ConvGateRefIdeal.nD Cert.ConvGateRefIdeal.τ).loc Cert.ConvGateRefIdeal.main_arg1) = m ((c.tc : Thread Cert.ConvGateIdeal.nD Cert.ConvGateIdeal.τ).loc Cert.ConvGateIdeal.main_arg1)
      ∧ m' ((c.tc : Thread Cert.ConvGateRefIdeal.nD Cert.ConvGateRefIdeal.τ).loc Cert.ConvGateRefIdeal.main_arg2) = m ((c.tc : Thread Cert.ConvGateIdeal.nD Cert.ConvGateIdeal.τ).loc Cert.ConvGateIdeal.main_arg2)) →
    ∃ (v0 : (c : Dev Cert.ConvGateIdeal.nD) → Buf (Elt Ideal) ((c.tc : Thread Cert.ConvGateIdeal.nD Cert.ConvGateIdeal.τ).loc Cert.ConvGateIdeal.main_v2_0)) (v1 : (c : Dev Cert.ConvGateIdeal.nD) → Buf (Elt Ideal) ((c.tc : Thread Cert.ConvGateIdeal.nD Cert.ConvGateIdeal.τ).loc Cert.ConvGateIdeal.main_v2_1)),
      θ_run (Cert.ConvGateIdeal.defs (F := Ideal)) (onTc (τ := Cert.ConvGateIdeal.τ) (Cert.ConvGateIdeal.main (F := Ideal))) ⟨m, fun _ => 0, g⟩ (fun r => ∀ c : Dev Cert.ConvGateIdeal.nD,
          r.2.mem ((c.tc : Thread Cert.ConvGateIdeal.nD Cert.ConvGateIdeal.τ).loc Cert.ConvGateIdeal.main_v2_0) = v0 c
          ∧ r.2.mem ((c.tc : Thread Cert.ConvGateIdeal.nD Cert.ConvGateIdeal.τ).loc Cert.ConvGateIdeal.main_v2_1) = v1 c
          ∧ r.2.mem ((c.tc : Thread Cert.ConvGateIdeal.nD Cert.ConvGateIdeal.τ).loc Cert.ConvGateIdeal.main_arg0) = m ((c.tc : Thread Cert.ConvGateIdeal.nD Cert.ConvGateIdeal.τ).loc Cert.ConvGateIdeal.main_arg0)
          ∧ r.2.mem ((c.tc : Thread Cert.ConvGateIdeal.nD Cert.ConvGateIdeal.τ).loc Cert.ConvGateIdeal.main_arg1) = m ((c.tc : Thread Cert.ConvGateIdeal.nD Cert.ConvGateIdeal.τ).loc Cert.ConvGateIdeal.main_arg1)
          ∧ r.2.mem ((c.tc : Thread Cert.ConvGateIdeal.nD Cert.ConvGateIdeal.τ).loc Cert.ConvGateIdeal.main_arg2) = m ((c.tc : Thread Cert.ConvGateIdeal.nD Cert.ConvGateIdeal.τ).loc Cert.ConvGateIdeal.main_arg2))
      ∧ θ_run (Cert.ConvGateRefIdeal.defs (F := Ideal)) (onTc (τ := Cert.ConvGateRefIdeal.τ) (Cert.ConvGateRefIdeal.main (F := Ideal))) ⟨m', fun _ => 0, g'⟩ (fun r => ∀ c : Dev Cert.ConvGateRefIdeal.nD,
          r.2.mem ((c.tc : Thread Cert.ConvGateRefIdeal.nD Cert.ConvGateRefIdeal.τ).loc Cert.ConvGateRefIdeal.main_v31) = v0 c
          ∧ r.2.mem ((c.tc : Thread Cert.ConvGateRefIdeal.nD Cert.ConvGateRefIdeal.τ).loc Cert.ConvGateRefIdeal.main_v33) = v1 c
          ∧ r.2.mem ((c.tc : Thread Cert.ConvGateRefIdeal.nD Cert.ConvGateRefIdeal.τ).loc Cert.ConvGateRefIdeal.main_arg0) = m' ((c.tc : Thread Cert.ConvGateRefIdeal.nD Cert.ConvGateRefIdeal.τ).loc Cert.ConvGateRefIdeal.main_arg0)
          ∧ r.2.mem ((c.tc : Thread Cert.ConvGateRefIdeal.nD Cert.ConvGateRefIdeal.τ).loc Cert.ConvGateRefIdeal.main_arg1) = m' ((c.tc : Thread Cert.ConvGateRefIdeal.nD Cert.ConvGateRefIdeal.τ).loc Cert.ConvGateRefIdeal.main_arg1)
          ∧ r.2.mem ((c.tc : Thread Cert.ConvGateRefIdeal.nD Cert.ConvGateRefIdeal.τ).loc Cert.ConvGateRefIdeal.main_arg2) = m' ((c.tc : Thread Cert.ConvGateRefIdeal.nD Cert.ConvGateRefIdeal.τ).loc Cert.ConvGateRefIdeal.main_arg2))

def preserves_ConvGrad_ConvGradIdeal : Prop :=
  True

def algebraic_ConvGradIdeal_ConvGradRefIdeal_pre_cbwd_finite [hConvGradIdeal : Cert.ConvGradIdeal.Facts] [hConvGradRefIdeal : Cert.ConvGradRefIdeal.Facts] [hPre_cbwd_finite : Cert.Pre_cbwd_finite.Facts] : Prop :=
  ∀ (m : (ℓ : Loc Cert.ConvGradIdeal.nD Cert.ConvGradIdeal.τ Cert.ConvGradIdeal.sig) → Buf (Elt Ideal) ℓ) (g : Dev Cert.ConvGradIdeal.nD → PrngReg)
    (m' : (ℓ : Loc Cert.ConvGradRefIdeal.nD Cert.ConvGradRefIdeal.τ Cert.ConvGradRefIdeal.sig) → Buf (Elt Ideal) ℓ) (g' : Dev Cert.ConvGradRefIdeal.nD → PrngReg), Pre_ConvGradIdeal_cbwd_finite m →
    (∀ c : Dev Cert.ConvGradIdeal.nD,
      m' ((c.tc : Thread Cert.ConvGradRefIdeal.nD Cert.ConvGradRefIdeal.τ).loc Cert.ConvGradRefIdeal.main_arg0) = m ((c.tc : Thread Cert.ConvGradIdeal.nD Cert.ConvGradIdeal.τ).loc Cert.ConvGradIdeal.main_arg0)
      ∧ m' ((c.tc : Thread Cert.ConvGradRefIdeal.nD Cert.ConvGradRefIdeal.τ).loc Cert.ConvGradRefIdeal.main_arg1) = m ((c.tc : Thread Cert.ConvGradIdeal.nD Cert.ConvGradIdeal.τ).loc Cert.ConvGradIdeal.main_arg1)
      ∧ m' ((c.tc : Thread Cert.ConvGradRefIdeal.nD Cert.ConvGradRefIdeal.τ).loc Cert.ConvGradRefIdeal.main_arg2) = m ((c.tc : Thread Cert.ConvGradIdeal.nD Cert.ConvGradIdeal.τ).loc Cert.ConvGradIdeal.main_arg2)
      ∧ m' ((c.tc : Thread Cert.ConvGradRefIdeal.nD Cert.ConvGradRefIdeal.τ).loc Cert.ConvGradRefIdeal.main_arg3) = m ((c.tc : Thread Cert.ConvGradIdeal.nD Cert.ConvGradIdeal.τ).loc Cert.ConvGradIdeal.main_arg3)) →
    ∃ (v0 : (c : Dev Cert.ConvGradIdeal.nD) → Buf (Elt Ideal) ((c.tc : Thread Cert.ConvGradIdeal.nD Cert.ConvGradIdeal.τ).loc Cert.ConvGradIdeal.main_v31_0)) (v1 : (c : Dev Cert.ConvGradIdeal.nD) → Buf (Elt Ideal) ((c.tc : Thread Cert.ConvGradIdeal.nD Cert.ConvGradIdeal.τ).loc Cert.ConvGradIdeal.main_v31_1)) (v2 : (c : Dev Cert.ConvGradIdeal.nD) → Buf (Elt Ideal) ((c.tc : Thread Cert.ConvGradIdeal.nD Cert.ConvGradIdeal.τ).loc Cert.ConvGradIdeal.main_v31_2)),
      θ_run (Cert.ConvGradIdeal.defs (F := Ideal)) (onTc (τ := Cert.ConvGradIdeal.τ) (Cert.ConvGradIdeal.main (F := Ideal))) ⟨m, fun _ => 0, g⟩ (fun r => ∀ c : Dev Cert.ConvGradIdeal.nD,
          r.2.mem ((c.tc : Thread Cert.ConvGradIdeal.nD Cert.ConvGradIdeal.τ).loc Cert.ConvGradIdeal.main_v31_0) = v0 c
          ∧ r.2.mem ((c.tc : Thread Cert.ConvGradIdeal.nD Cert.ConvGradIdeal.τ).loc Cert.ConvGradIdeal.main_v31_1) = v1 c
          ∧ r.2.mem ((c.tc : Thread Cert.ConvGradIdeal.nD Cert.ConvGradIdeal.τ).loc Cert.ConvGradIdeal.main_v31_2) = v2 c
          ∧ r.2.mem ((c.tc : Thread Cert.ConvGradIdeal.nD Cert.ConvGradIdeal.τ).loc Cert.ConvGradIdeal.main_arg0) = m ((c.tc : Thread Cert.ConvGradIdeal.nD Cert.ConvGradIdeal.τ).loc Cert.ConvGradIdeal.main_arg0)
          ∧ r.2.mem ((c.tc : Thread Cert.ConvGradIdeal.nD Cert.ConvGradIdeal.τ).loc Cert.ConvGradIdeal.main_arg1) = m ((c.tc : Thread Cert.ConvGradIdeal.nD Cert.ConvGradIdeal.τ).loc Cert.ConvGradIdeal.main_arg1)
          ∧ r.2.mem ((c.tc : Thread Cert.ConvGradIdeal.nD Cert.ConvGradIdeal.τ).loc Cert.ConvGradIdeal.main_arg2) = m ((c.tc : Thread Cert.ConvGradIdeal.nD Cert.ConvGradIdeal.τ).loc Cert.ConvGradIdeal.main_arg2)
          ∧ r.2.mem ((c.tc : Thread Cert.ConvGradIdeal.nD Cert.ConvGradIdeal.τ).loc Cert.ConvGradIdeal.main_arg3) = m ((c.tc : Thread Cert.ConvGradIdeal.nD Cert.ConvGradIdeal.τ).loc Cert.ConvGradIdeal.main_arg3))
      ∧ θ_run (Cert.ConvGradRefIdeal.defs (F := Ideal)) (onTc (τ := Cert.ConvGradRefIdeal.τ) (Cert.ConvGradRefIdeal.main (F := Ideal))) ⟨m', fun _ => 0, g'⟩ (fun r => ∀ c : Dev Cert.ConvGradRefIdeal.nD,
          r.2.mem ((c.tc : Thread Cert.ConvGradRefIdeal.nD Cert.ConvGradRefIdeal.τ).loc Cert.ConvGradRefIdeal.main_v77) = v0 c
          ∧ r.2.mem ((c.tc : Thread Cert.ConvGradRefIdeal.nD Cert.ConvGradRefIdeal.τ).loc Cert.ConvGradRefIdeal.main_v69) = v1 c
          ∧ r.2.mem ((c.tc : Thread Cert.ConvGradRefIdeal.nD Cert.ConvGradRefIdeal.τ).loc Cert.ConvGradRefIdeal.main_v78) = v2 c
          ∧ r.2.mem ((c.tc : Thread Cert.ConvGradRefIdeal.nD Cert.ConvGradRefIdeal.τ).loc Cert.ConvGradRefIdeal.main_arg0) = m' ((c.tc : Thread Cert.ConvGradRefIdeal.nD Cert.ConvGradRefIdeal.τ).loc Cert.ConvGradRefIdeal.main_arg0)
          ∧ r.2.mem ((c.tc : Thread Cert.ConvGradRefIdeal.nD Cert.ConvGradRefIdeal.τ).loc Cert.ConvGradRefIdeal.main_arg1) = m' ((c.tc : Thread Cert.ConvGradRefIdeal.nD Cert.ConvGradRefIdeal.τ).loc Cert.ConvGradRefIdeal.main_arg1)
          ∧ r.2.mem ((c.tc : Thread Cert.ConvGradRefIdeal.nD Cert.ConvGradRefIdeal.τ).loc Cert.ConvGradRefIdeal.main_arg2) = m' ((c.tc : Thread Cert.ConvGradRefIdeal.nD Cert.ConvGradRefIdeal.τ).loc Cert.ConvGradRefIdeal.main_arg2)
          ∧ r.2.mem ((c.tc : Thread Cert.ConvGradRefIdeal.nD Cert.ConvGradRefIdeal.τ).loc Cert.ConvGradRefIdeal.main_arg3) = m' ((c.tc : Thread Cert.ConvGradRefIdeal.nD Cert.ConvGradRefIdeal.τ).loc Cert.ConvGradRefIdeal.main_arg3))

def preserves_AttnGrad_AttnGradIdeal : Prop :=
  IdealRules.named_const.Statement Cert.AttnGradIdeal.κ "mask" .f32 0xF149F2CA#32 ⊥

def algebraic_AttnGradIdeal_AttnGradRefIdeal_pre_attn_finite [hAttnGradIdeal : Cert.AttnGradIdeal.Facts] [hAttnGradRefIdeal : Cert.AttnGradRefIdeal.Facts] [hPre_attn_finite : Cert.Pre_attn_finite.Facts] : Prop :=
  ∀ (m : (ℓ : Loc Cert.AttnGradIdeal.nD Cert.AttnGradIdeal.τ Cert.AttnGradIdeal.sig) → Buf (Elt Ideal) ℓ) (g : Dev Cert.AttnGradIdeal.nD → PrngReg)
    (m' : (ℓ : Loc Cert.AttnGradRefIdeal.nD Cert.AttnGradRefIdeal.τ Cert.AttnGradRefIdeal.sig) → Buf (Elt Ideal) ℓ) (g' : Dev Cert.AttnGradRefIdeal.nD → PrngReg), Pre_AttnGradIdeal_attn_finite m →
    (∀ c : Dev Cert.AttnGradIdeal.nD,
      m' ((c.tc : Thread Cert.AttnGradRefIdeal.nD Cert.AttnGradRefIdeal.τ).loc Cert.AttnGradRefIdeal.main_arg0) = m ((c.tc : Thread Cert.AttnGradIdeal.nD Cert.AttnGradIdeal.τ).loc Cert.AttnGradIdeal.main_arg0)
      ∧ m' ((c.tc : Thread Cert.AttnGradRefIdeal.nD Cert.AttnGradRefIdeal.τ).loc Cert.AttnGradRefIdeal.main_arg1) = m ((c.tc : Thread Cert.AttnGradIdeal.nD Cert.AttnGradIdeal.τ).loc Cert.AttnGradIdeal.main_arg1)
      ∧ m' ((c.tc : Thread Cert.AttnGradRefIdeal.nD Cert.AttnGradRefIdeal.τ).loc Cert.AttnGradRefIdeal.main_arg2) = m ((c.tc : Thread Cert.AttnGradIdeal.nD Cert.AttnGradIdeal.τ).loc Cert.AttnGradIdeal.main_arg2)
      ∧ m' ((c.tc : Thread Cert.AttnGradRefIdeal.nD Cert.AttnGradRefIdeal.τ).loc Cert.AttnGradRefIdeal.main_arg3) = m ((c.tc : Thread Cert.AttnGradIdeal.nD Cert.AttnGradIdeal.τ).loc Cert.AttnGradIdeal.main_arg3)
      ∧ m' ((c.tc : Thread Cert.AttnGradRefIdeal.nD Cert.AttnGradRefIdeal.τ).loc Cert.AttnGradRefIdeal.main_arg4) = m ((c.tc : Thread Cert.AttnGradIdeal.nD Cert.AttnGradIdeal.τ).loc Cert.AttnGradIdeal.main_arg4)) →
    ∃ (v0 : (c : Dev Cert.AttnGradIdeal.nD) → Buf (Elt Ideal) ((c.tc : Thread Cert.AttnGradIdeal.nD Cert.AttnGradIdeal.τ).loc Cert.AttnGradIdeal.main_v5_0)) (v1 : (c : Dev Cert.AttnGradIdeal.nD) → Buf (Elt Ideal) ((c.tc : Thread Cert.AttnGradIdeal.nD Cert.AttnGradIdeal.τ).loc Cert.AttnGradIdeal.main_v5_1)) (v2 : (c : Dev Cert.AttnGradIdeal.nD) → Buf (Elt Ideal) ((c.tc : Thread Cert.AttnGradIdeal.nD Cert.AttnGradIdeal.τ).loc Cert.AttnGradIdeal.main_v5_2)),
      θ_run (Cert.AttnGradIdeal.defs (F := Ideal)) (onTc (τ := Cert.AttnGradIdeal.τ) (Cert.AttnGradIdeal.main (F := Ideal))) ⟨m, fun _ => 0, g⟩ (fun r => ∀ c : Dev Cert.AttnGradIdeal.nD,
          r.2.mem ((c.tc : Thread Cert.AttnGradIdeal.nD Cert.AttnGradIdeal.τ).loc Cert.AttnGradIdeal.main_v5_0) = v0 c
          ∧ r.2.mem ((c.tc : Thread Cert.AttnGradIdeal.nD Cert.AttnGradIdeal.τ).loc Cert.AttnGradIdeal.main_v5_1) = v1 c
          ∧ r.2.mem ((c.tc : Thread Cert.AttnGradIdeal.nD Cert.AttnGradIdeal.τ).loc Cert.AttnGradIdeal.main_v5_2) = v2 c
          ∧ r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
          ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4))
      ∧ θ_run (Cert.AttnGradRefIdeal.defs (F := Ideal)) (onTc (τ := Cert.AttnGradRefIdeal.τ) (Cert.AttnGradRefIdeal.main (F := Ideal))) ⟨m', fun _ => 0, g'⟩ (fun r => ∀ c : Dev Cert.AttnGradRefIdeal.nD,
          r.2.mem ((c.tc : Thread Cert.AttnGradRefIdeal.nD Cert.AttnGradRefIdeal.τ).loc Cert.AttnGradRefIdeal.main_v197) = v0 c
          ∧ r.2.mem ((c.tc : Thread Cert.AttnGradRefIdeal.nD Cert.AttnGradRefIdeal.τ).loc Cert.AttnGradRefIdeal.main_v198) = v1 c
          ∧ r.2.mem ((c.tc : Thread Cert.AttnGradRefIdeal.nD Cert.AttnGradRefIdeal.τ).loc Cert.AttnGradRefIdeal.main_v195) = v2 c
          ∧ r.2.mem ((c.tc : Thread Cert.AttnGradRefIdeal.nD Cert.AttnGradRefIdeal.τ).loc Cert.AttnGradRefIdeal.main_arg0) = m' ((c.tc : Thread Cert.AttnGradRefIdeal.nD Cert.AttnGradRefIdeal.τ).loc Cert.AttnGradRefIdeal.main_arg0)
          ∧ r.2.mem ((c.tc : Thread Cert.AttnGradRefIdeal.nD Cert.AttnGradRefIdeal.τ).loc Cert.AttnGradRefIdeal.main_arg1) = m' ((c.tc : Thread Cert.AttnGradRefIdeal.nD Cert.AttnGradRefIdeal.τ).loc Cert.AttnGradRefIdeal.main_arg1)
          ∧ r.2.mem ((c.tc : Thread Cert.AttnGradRefIdeal.nD Cert.AttnGradRefIdeal.τ).loc Cert.AttnGradRefIdeal.main_arg2) = m' ((c.tc : Thread Cert.AttnGradRefIdeal.nD Cert.AttnGradRefIdeal.τ).loc Cert.AttnGradRefIdeal.main_arg2)
          ∧ r.2.mem ((c.tc : Thread Cert.AttnGradRefIdeal.nD Cert.AttnGradRefIdeal.τ).loc Cert.AttnGradRefIdeal.main_arg3) = m' ((c.tc : Thread Cert.AttnGradRefIdeal.nD Cert.AttnGradRefIdeal.τ).loc Cert.AttnGradRefIdeal.main_arg3)
          ∧ r.2.mem ((c.tc : Thread Cert.AttnGradRefIdeal.nD Cert.AttnGradRefIdeal.τ).loc Cert.AttnGradRefIdeal.main_arg4) = m' ((c.tc : Thread Cert.AttnGradRefIdeal.nD Cert.AttnGradRefIdeal.τ).loc Cert.AttnGradRefIdeal.main_arg4))

def preserves_AttnMix_AttnMixIdeal : Prop :=
  IdealRules.named_const.Statement Cert.AttnMixIdeal.κ "mask" .f32 0xF149F2CA#32 ⊥

def algebraic_AttnMixIdeal_AttnMixRefIdeal_pre_attf_finite [hAttnMixIdeal : Cert.AttnMixIdeal.Facts] [hAttnMixRefIdeal : Cert.AttnMixRefIdeal.Facts] [hPre_attf_finite : Cert.Pre_attf_finite.Facts] : Prop :=
  ∀ (m : (ℓ : Loc Cert.AttnMixIdeal.nD Cert.AttnMixIdeal.τ Cert.AttnMixIdeal.sig) → Buf (Elt Ideal) ℓ) (g : Dev Cert.AttnMixIdeal.nD → PrngReg)
    (m' : (ℓ : Loc Cert.AttnMixRefIdeal.nD Cert.AttnMixRefIdeal.τ Cert.AttnMixRefIdeal.sig) → Buf (Elt Ideal) ℓ) (g' : Dev Cert.AttnMixRefIdeal.nD → PrngReg), Pre_AttnMixIdeal_attf_finite m →
    (∀ c : Dev Cert.AttnMixIdeal.nD,
      m' ((c.tc : Thread Cert.AttnMixRefIdeal.nD Cert.AttnMixRefIdeal.τ).loc Cert.AttnMixRefIdeal.main_arg0) = m ((c.tc : Thread Cert.AttnMixIdeal.nD Cert.AttnMixIdeal.τ).loc Cert.AttnMixIdeal.main_arg0)
      ∧ m' ((c.tc : Thread Cert.AttnMixRefIdeal.nD Cert.AttnMixRefIdeal.τ).loc Cert.AttnMixRefIdeal.main_arg1) = m ((c.tc : Thread Cert.AttnMixIdeal.nD Cert.AttnMixIdeal.τ).loc Cert.AttnMixIdeal.main_arg1)
      ∧ m' ((c.tc : Thread Cert.AttnMixRefIdeal.nD Cert.AttnMixRefIdeal.τ).loc Cert.AttnMixRefIdeal.main_arg2) = m ((c.tc : Thread Cert.AttnMixIdeal.nD Cert.AttnMixIdeal.τ).loc Cert.AttnMixIdeal.main_arg2)
      ∧ m' ((c.tc : Thread Cert.AttnMixRefIdeal.nD Cert.AttnMixRefIdeal.τ).loc Cert.AttnMixRefIdeal.main_arg3) = m ((c.tc : Thread Cert.AttnMixIdeal.nD Cert.AttnMixIdeal.τ).loc Cert.AttnMixIdeal.main_arg3)) →
    ∃ (v0 : (c : Dev Cert.AttnMixIdeal.nD) → Buf (Elt Ideal) ((c.tc : Thread Cert.AttnMixIdeal.nD Cert.AttnMixIdeal.τ).loc Cert.AttnMixIdeal.main_v4)),
      θ_run (Cert.AttnMixIdeal.defs (F := Ideal)) (onTc (τ := Cert.AttnMixIdeal.τ) (Cert.AttnMixIdeal.main (F := Ideal))) ⟨m, fun _ => 0, g⟩ (fun r => ∀ c : Dev Cert.AttnMixIdeal.nD,
          r.2.mem ((c.tc : Thread Cert.AttnMixIdeal.nD Cert.AttnMixIdeal.τ).loc Cert.AttnMixIdeal.main_v4) = v0 c
          ∧ r.2.mem ((c.tc : Thread Cert.AttnMixIdeal.nD Cert.AttnMixIdeal.τ).loc Cert.AttnMixIdeal.main_arg0) = m ((c.tc : Thread Cert.AttnMixIdeal.nD Cert.AttnMixIdeal.τ).loc Cert.AttnMixIdeal.main_arg0)
          ∧ r.2.mem ((c.tc : Thread Cert.AttnMixIdeal.nD Cert.AttnMixIdeal.τ).loc Cert.AttnMixIdeal.main_arg1) = m ((c.tc : Thread Cert.AttnMixIdeal.nD Cert.AttnMixIdeal.τ).loc Cert.AttnMixIdeal.main_arg1)
          ∧ r.2.mem ((c.tc : Thread Cert.AttnMixIdeal.nD Cert.AttnMixIdeal.τ).loc Cert.AttnMixIdeal.main_arg2) = m ((c.tc : Thread Cert.AttnMixIdeal.nD Cert.AttnMixIdeal.τ).loc Cert.AttnMixIdeal.main_arg2)
          ∧ r.2.mem ((c.tc : Thread Cert.AttnMixIdeal.nD Cert.AttnMixIdeal.τ).loc Cert.AttnMixIdeal.main_arg3) = m ((c.tc : Thread Cert.AttnMixIdeal.nD Cert.AttnMixIdeal.τ).loc Cert.AttnMixIdeal.main_arg3))
      ∧ θ_run (Cert.AttnMixRefIdeal.defs (F := Ideal)) (onTc (τ := Cert.AttnMixRefIdeal.τ) (Cert.AttnMixRefIdeal.main (F := Ideal))) ⟨m', fun _ => 0, g'⟩ (fun r => ∀ c : Dev Cert.AttnMixRefIdeal.nD,
          r.2.mem ((c.tc : Thread Cert.AttnMixRefIdeal.nD Cert.AttnMixRefIdeal.τ).loc Cert.AttnMixRefIdeal.main_v100) = v0 c
          ∧ r.2.mem ((c.tc : Thread Cert.AttnMixRefIdeal.nD Cert.AttnMixRefIdeal.τ).loc Cert.AttnMixRefIdeal.main_arg0) = m' ((c.tc : Thread Cert.AttnMixRefIdeal.nD Cert.AttnMixRefIdeal.τ).loc Cert.AttnMixRefIdeal.main_arg0)
          ∧ r.2.mem ((c.tc : Thread Cert.AttnMixRefIdeal.nD Cert.AttnMixRefIdeal.τ).loc Cert.AttnMixRefIdeal.main_arg1) = m' ((c.tc : Thread Cert.AttnMixRefIdeal.nD Cert.AttnMixRefIdeal.τ).loc Cert.AttnMixRefIdeal.main_arg1)
          ∧ r.2.mem ((c.tc : Thread Cert.AttnMixRefIdeal.nD Cert.AttnMixRefIdeal.τ).loc Cert.AttnMixRefIdeal.main_arg2) = m' ((c.tc : Thread Cert.AttnMixRefIdeal.nD Cert.AttnMixRefIdeal.τ).loc Cert.AttnMixRefIdeal.main_arg2)
          ∧ r.2.mem ((c.tc : Thread Cert.AttnMixRefIdeal.nD Cert.AttnMixRefIdeal.τ).loc Cert.AttnMixRefIdeal.main_arg3) = m' ((c.tc : Thread Cert.AttnMixRefIdeal.nD Cert.AttnMixRefIdeal.τ).loc Cert.AttnMixRefIdeal.main_arg3))

def preserves_HgrnMix_HgrnMixIdeal : Prop :=
  True

def algebraic_HgrnMixIdeal_HgrnMixRefIdeal_pre_hgf_finite [hHgrnMixIdeal : Cert.HgrnMixIdeal.Facts] [hHgrnMixRefIdeal : Cert.HgrnMixRefIdeal.Facts] [hPre_hgf_finite : Cert.Pre_hgf_finite.Facts] : Prop :=
  ∀ (m : (ℓ : Loc Cert.HgrnMixIdeal.nD Cert.HgrnMixIdeal.τ Cert.HgrnMixIdeal.sig) → Buf (Elt Ideal) ℓ) (g : Dev Cert.HgrnMixIdeal.nD → PrngReg)
    (m' : (ℓ : Loc Cert.HgrnMixRefIdeal.nD Cert.HgrnMixRefIdeal.τ Cert.HgrnMixRefIdeal.sig) → Buf (Elt Ideal) ℓ) (g' : Dev Cert.HgrnMixRefIdeal.nD → PrngReg), Pre_HgrnMixIdeal_hgf_finite m →
    (∀ c : Dev Cert.HgrnMixIdeal.nD,
      m' ((c.tc : Thread Cert.HgrnMixRefIdeal.nD Cert.HgrnMixRefIdeal.τ).loc Cert.HgrnMixRefIdeal.main_arg0) = m ((c.tc : Thread Cert.HgrnMixIdeal.nD Cert.HgrnMixIdeal.τ).loc Cert.HgrnMixIdeal.main_arg0)
      ∧ m' ((c.tc : Thread Cert.HgrnMixRefIdeal.nD Cert.HgrnMixRefIdeal.τ).loc Cert.HgrnMixRefIdeal.main_arg1) = m ((c.tc : Thread Cert.HgrnMixIdeal.nD Cert.HgrnMixIdeal.τ).loc Cert.HgrnMixIdeal.main_arg1)
      ∧ m' ((c.tc : Thread Cert.HgrnMixRefIdeal.nD Cert.HgrnMixRefIdeal.τ).loc Cert.HgrnMixRefIdeal.main_arg2) = m ((c.tc : Thread Cert.HgrnMixIdeal.nD Cert.HgrnMixIdeal.τ).loc Cert.HgrnMixIdeal.main_arg2)) →
    ∃ (v0 : (c : Dev Cert.HgrnMixIdeal.nD) → Buf (Elt Ideal) ((c.tc : Thread Cert.HgrnMixIdeal.nD Cert.HgrnMixIdeal.τ).loc Cert.HgrnMixIdeal.main_v2_0)) (v1 : (c : Dev Cert.HgrnMixIdeal.nD) → Buf (Elt Ideal) ((c.tc : Thread Cert.HgrnMixIdeal.nD Cert.HgrnMixIdeal.τ).loc Cert.HgrnMixIdeal.main_v2_1)) (v2 : (c : Dev Cert.HgrnMixIdeal.nD) → Buf (Elt Ideal) ((c.tc : Thread Cert.HgrnMixIdeal.nD Cert.HgrnMixIdeal.τ).loc Cert.HgrnMixIdeal.main_v2_2)),
      θ_run (Cert.HgrnMixIdeal.defs (F := Ideal)) (onTc (τ := Cert.HgrnMixIdeal.τ) (Cert.HgrnMixIdeal.main (F := Ideal))) ⟨m, fun _ => 0, g⟩ (fun r => ∀ c : Dev Cert.HgrnMixIdeal.nD,
          r.2.mem ((c.tc : Thread Cert.HgrnMixIdeal.nD Cert.HgrnMixIdeal.τ).loc Cert.HgrnMixIdeal.main_v2_0) = v0 c
          ∧ r.2.mem ((c.tc : Thread Cert.HgrnMixIdeal.nD Cert.HgrnMixIdeal.τ).loc Cert.HgrnMixIdeal.main_v2_1) = v1 c
          ∧ r.2.mem ((c.tc : Thread Cert.HgrnMixIdeal.nD Cert.HgrnMixIdeal.τ).loc Cert.HgrnMixIdeal.main_v2_2) = v2 c
          ∧ r.2.mem ((c.tc : Thread Cert.HgrnMixIdeal.nD Cert.HgrnMixIdeal.τ).loc Cert.HgrnMixIdeal.main_arg0) = m ((c.tc : Thread Cert.HgrnMixIdeal.nD Cert.HgrnMixIdeal.τ).loc Cert.HgrnMixIdeal.main_arg0)
          ∧ r.2.mem ((c.tc : Thread Cert.HgrnMixIdeal.nD Cert.HgrnMixIdeal.τ).loc Cert.HgrnMixIdeal.main_arg1) = m ((c.tc : Thread Cert.HgrnMixIdeal.nD Cert.HgrnMixIdeal.τ).loc Cert.HgrnMixIdeal.main_arg1)
          ∧ r.2.mem ((c.tc : Thread Cert.HgrnMixIdeal.nD Cert.HgrnMixIdeal.τ).loc Cert.HgrnMixIdeal.main_arg2) = m ((c.tc : Thread Cert.HgrnMixIdeal.nD Cert.HgrnMixIdeal.τ).loc Cert.HgrnMixIdeal.main_arg2))
      ∧ θ_run (Cert.HgrnMixRefIdeal.defs (F := Ideal)) (onTc (τ := Cert.HgrnMixRefIdeal.τ) (Cert.HgrnMixRefIdeal.main (F := Ideal))) ⟨m', fun _ => 0, g'⟩ (fun r => ∀ c : Dev Cert.HgrnMixRefIdeal.nD,
          r.2.mem ((c.tc : Thread Cert.HgrnMixRefIdeal.nD Cert.HgrnMixRefIdeal.τ).loc Cert.HgrnMixRefIdeal.main_v78) = v0 c
          ∧ r.2.mem ((c.tc : Thread Cert.HgrnMixRefIdeal.nD Cert.HgrnMixRefIdeal.τ).loc Cert.HgrnMixRefIdeal.main_v79) = v1 c
          ∧ r.2.mem ((c.tc : Thread Cert.HgrnMixRefIdeal.nD Cert.HgrnMixRefIdeal.τ).loc Cert.HgrnMixRefIdeal.main_v82) = v2 c
          ∧ r.2.mem ((c.tc : Thread Cert.HgrnMixRefIdeal.nD Cert.HgrnMixRefIdeal.τ).loc Cert.HgrnMixRefIdeal.main_arg0) = m' ((c.tc : Thread Cert.HgrnMixRefIdeal.nD Cert.HgrnMixRefIdeal.τ).loc Cert.HgrnMixRefIdeal.main_arg0)
          ∧ r.2.mem ((c.tc : Thread Cert.HgrnMixRefIdeal.nD Cert.HgrnMixRefIdeal.τ).loc Cert.HgrnMixRefIdeal.main_arg1) = m' ((c.tc : Thread Cert.HgrnMixRefIdeal.nD Cert.HgrnMixRefIdeal.τ).loc Cert.HgrnMixRefIdeal.main_arg1)
          ∧ r.2.mem ((c.tc : Thread Cert.HgrnMixRefIdeal.nD Cert.HgrnMixRefIdeal.τ).loc Cert.HgrnMixRefIdeal.main_arg2) = m' ((c.tc : Thread Cert.HgrnMixRefIdeal.nD Cert.HgrnMixRefIdeal.τ).loc Cert.HgrnMixRefIdeal.main_arg2))

def preserves_FfnDwUp_FfnDwUpIdeal : Prop :=
  True

def algebraic_FfnDwUpIdeal_FfnDwUpRefIdeal [hFfnDwUpIdeal : Cert.FfnDwUpIdeal.Facts] [hFfnDwUpRefIdeal : Cert.FfnDwUpRefIdeal.Facts] : Prop :=
  ∀ (m : (ℓ : Loc Cert.FfnDwUpIdeal.nD Cert.FfnDwUpIdeal.τ Cert.FfnDwUpIdeal.sig) → Buf (Elt Ideal) ℓ) (g : Dev Cert.FfnDwUpIdeal.nD → PrngReg)
    (m' : (ℓ : Loc Cert.FfnDwUpRefIdeal.nD Cert.FfnDwUpRefIdeal.τ Cert.FfnDwUpRefIdeal.sig) → Buf (Elt Ideal) ℓ) (g' : Dev Cert.FfnDwUpRefIdeal.nD → PrngReg), Pre_FfnDwUpIdeal m →
    (∀ c : Dev Cert.FfnDwUpIdeal.nD,
      m' ((c.tc : Thread Cert.FfnDwUpRefIdeal.nD Cert.FfnDwUpRefIdeal.τ).loc Cert.FfnDwUpRefIdeal.main_arg0) = m ((c.tc : Thread Cert.FfnDwUpIdeal.nD Cert.FfnDwUpIdeal.τ).loc Cert.FfnDwUpIdeal.main_arg0)
      ∧ m' ((c.tc : Thread Cert.FfnDwUpRefIdeal.nD Cert.FfnDwUpRefIdeal.τ).loc Cert.FfnDwUpRefIdeal.main_arg1) = m ((c.tc : Thread Cert.FfnDwUpIdeal.nD Cert.FfnDwUpIdeal.τ).loc Cert.FfnDwUpIdeal.main_arg1)
      ∧ m' ((c.tc : Thread Cert.FfnDwUpRefIdeal.nD Cert.FfnDwUpRefIdeal.τ).loc Cert.FfnDwUpRefIdeal.main_arg2) = m ((c.tc : Thread Cert.FfnDwUpIdeal.nD Cert.FfnDwUpIdeal.τ).loc Cert.FfnDwUpIdeal.main_arg2)
      ∧ m' ((c.tc : Thread Cert.FfnDwUpRefIdeal.nD Cert.FfnDwUpRefIdeal.τ).loc Cert.FfnDwUpRefIdeal.main_arg3) = m ((c.tc : Thread Cert.FfnDwUpIdeal.nD Cert.FfnDwUpIdeal.τ).loc Cert.FfnDwUpIdeal.main_arg3)) →
    ∃ (v0 : (c : Dev Cert.FfnDwUpIdeal.nD) → Buf (Elt Ideal) ((c.tc : Thread Cert.FfnDwUpIdeal.nD Cert.FfnDwUpIdeal.τ).loc Cert.FfnDwUpIdeal.main_v5)),
      θ_run (Cert.FfnDwUpIdeal.defs (F := Ideal)) (onTc (τ := Cert.FfnDwUpIdeal.τ) (Cert.FfnDwUpIdeal.main (F := Ideal))) ⟨m, fun _ => 0, g⟩ (fun r => ∀ c : Dev Cert.FfnDwUpIdeal.nD,
          r.2.mem ((c.tc : Thread Cert.FfnDwUpIdeal.nD Cert.FfnDwUpIdeal.τ).loc Cert.FfnDwUpIdeal.main_v5) = v0 c
          ∧ r.2.mem ((c.tc : Thread Cert.FfnDwUpIdeal.nD Cert.FfnDwUpIdeal.τ).loc Cert.FfnDwUpIdeal.main_arg0) = m ((c.tc : Thread Cert.FfnDwUpIdeal.nD Cert.FfnDwUpIdeal.τ).loc Cert.FfnDwUpIdeal.main_arg0)
          ∧ r.2.mem ((c.tc : Thread Cert.FfnDwUpIdeal.nD Cert.FfnDwUpIdeal.τ).loc Cert.FfnDwUpIdeal.main_arg1) = m ((c.tc : Thread Cert.FfnDwUpIdeal.nD Cert.FfnDwUpIdeal.τ).loc Cert.FfnDwUpIdeal.main_arg1)
          ∧ r.2.mem ((c.tc : Thread Cert.FfnDwUpIdeal.nD Cert.FfnDwUpIdeal.τ).loc Cert.FfnDwUpIdeal.main_arg2) = m ((c.tc : Thread Cert.FfnDwUpIdeal.nD Cert.FfnDwUpIdeal.τ).loc Cert.FfnDwUpIdeal.main_arg2)
          ∧ r.2.mem ((c.tc : Thread Cert.FfnDwUpIdeal.nD Cert.FfnDwUpIdeal.τ).loc Cert.FfnDwUpIdeal.main_arg3) = m ((c.tc : Thread Cert.FfnDwUpIdeal.nD Cert.FfnDwUpIdeal.τ).loc Cert.FfnDwUpIdeal.main_arg3))
      ∧ θ_run (Cert.FfnDwUpRefIdeal.defs (F := Ideal)) (onTc (τ := Cert.FfnDwUpRefIdeal.τ) (Cert.FfnDwUpRefIdeal.main (F := Ideal))) ⟨m', fun _ => 0, g'⟩ (fun r => ∀ c : Dev Cert.FfnDwUpRefIdeal.nD,
          r.2.mem ((c.tc : Thread Cert.FfnDwUpRefIdeal.nD Cert.FfnDwUpRefIdeal.τ).loc Cert.FfnDwUpRefIdeal.main_v19) = v0 c
          ∧ r.2.mem ((c.tc : Thread Cert.FfnDwUpRefIdeal.nD Cert.FfnDwUpRefIdeal.τ).loc Cert.FfnDwUpRefIdeal.main_arg0) = m' ((c.tc : Thread Cert.FfnDwUpRefIdeal.nD Cert.FfnDwUpRefIdeal.τ).loc Cert.FfnDwUpRefIdeal.main_arg0)
          ∧ r.2.mem ((c.tc : Thread Cert.FfnDwUpRefIdeal.nD Cert.FfnDwUpRefIdeal.τ).loc Cert.FfnDwUpRefIdeal.main_arg1) = m' ((c.tc : Thread Cert.FfnDwUpRefIdeal.nD Cert.FfnDwUpRefIdeal.τ).loc Cert.FfnDwUpRefIdeal.main_arg1)
          ∧ r.2.mem ((c.tc : Thread Cert.FfnDwUpRefIdeal.nD Cert.FfnDwUpRefIdeal.τ).loc Cert.FfnDwUpRefIdeal.main_arg2) = m' ((c.tc : Thread Cert.FfnDwUpRefIdeal.nD Cert.FfnDwUpRefIdeal.τ).loc Cert.FfnDwUpRefIdeal.main_arg2)
          ∧ r.2.mem ((c.tc : Thread Cert.FfnDwUpRefIdeal.nD Cert.FfnDwUpRefIdeal.τ).loc Cert.FfnDwUpRefIdeal.main_arg3) = m' ((c.tc : Thread Cert.FfnDwUpRefIdeal.nD Cert.FfnDwUpRefIdeal.τ).loc Cert.FfnDwUpRefIdeal.main_arg3))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v4)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v4) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v16) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v4) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2))

def preserves_FfnDact_FfnDactIdeal : Prop :=
  True

def algebraic_FfnDactIdeal_FfnDactRefIdeal [hFfnDactIdeal : Cert.FfnDactIdeal.Facts] [hFfnDactRefIdeal : Cert.FfnDactRefIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactRefIdeal.nD Cert.FfnDactRefIdeal.τ Cert.FfnDactRefIdeal.sig) → Buf (Elt Ideal) ℓ) (g' : Dev Cert.FfnDactRefIdeal.nD → PrngReg), Pre_FfnDactIdeal m →
    (∀ c : Dev Cert.FfnDactIdeal.nD,
      m' ((c.tc : Thread Cert.FfnDactRefIdeal.nD Cert.FfnDactRefIdeal.τ).loc Cert.FfnDactRefIdeal.main_arg0) = m ((c.tc : Thread Cert.FfnDactIdeal.nD Cert.FfnDactIdeal.τ).loc Cert.FfnDactIdeal.main_arg0)
      ∧ m' ((c.tc : Thread Cert.FfnDactRefIdeal.nD Cert.FfnDactRefIdeal.τ).loc Cert.FfnDactRefIdeal.main_arg1) = m ((c.tc : Thread Cert.FfnDactIdeal.nD Cert.FfnDactIdeal.τ).loc Cert.FfnDactIdeal.main_arg1)
      ∧ m' ((c.tc : Thread Cert.FfnDactRefIdeal.nD Cert.FfnDactRefIdeal.τ).loc Cert.FfnDactRefIdeal.main_arg2) = m ((c.tc : Thread Cert.FfnDactIdeal.nD Cert.FfnDactIdeal.τ).loc Cert.FfnDactIdeal.main_arg2)) →
    ∃ (v0 : (c : Dev Cert.FfnDactIdeal.nD) → Buf (Elt Ideal) ((c.tc : Thread Cert.FfnDactIdeal.nD Cert.FfnDactIdeal.τ).loc Cert.FfnDactIdeal.main_v0)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v0) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2))
      ∧ θ_run (Cert.FfnDactRefIdeal.defs (F := Ideal)) (onTc (τ := Cert.FfnDactRefIdeal.τ) (Cert.FfnDactRefIdeal.main (F := Ideal))) ⟨m', fun _ => 0, g'⟩ (fun r => ∀ c : Dev Cert.FfnDactRefIdeal.nD,
          r.2.mem ((c.tc : Thread Cert.FfnDactRefIdeal.nD Cert.FfnDactRefIdeal.τ).loc Cert.FfnDactRefIdeal.main_v5) = v0 c
          ∧ r.2.mem ((c.tc : Thread Cert.FfnDactRefIdeal.nD Cert.FfnDactRefIdeal.τ).loc Cert.FfnDactRefIdeal.main_arg0) = m' ((c.tc : Thread Cert.FfnDactRefIdeal.nD Cert.FfnDactRefIdeal.τ).loc Cert.FfnDactRefIdeal.main_arg0)
          ∧ r.2.mem ((c.tc : Thread Cert.FfnDactRefIdeal.nD Cert.FfnDactRefIdeal.τ).loc Cert.FfnDactRefIdeal.main_arg1) = m' ((c.tc : Thread Cert.FfnDactRefIdeal.nD Cert.FfnDactRefIdeal.τ).loc Cert.FfnDactRefIdeal.main_arg1)
          ∧ r.2.mem ((c.tc : Thread Cert.FfnDactRefIdeal.nD Cert.FfnDactRefIdeal.τ).loc Cert.FfnDactRefIdeal.main_arg2) = m' ((c.tc : Thread Cert.FfnDactRefIdeal.nD Cert.FfnDactRefIdeal.τ).loc Cert.FfnDactRefIdeal.main_arg2))

def preserves_FfnDwDown_FfnDwDownIdeal : Prop :=
  True

def algebraic_FfnDwDownIdeal_FfnDwDownRefIdeal [hFfnDwDownIdeal : Cert.FfnDwDownIdeal.Facts] [hFfnDwDownRefIdeal : Cert.FfnDwDownRefIdeal.Facts] : Prop :=
  ∀ (m : (ℓ : Loc Cert.FfnDwDownIdeal.nD Cert.FfnDwDownIdeal.τ Cert.FfnDwDownIdeal.sig) → Buf (Elt Ideal) ℓ) (g : Dev Cert.FfnDwDownIdeal.nD → PrngReg)
    (m' : (ℓ : Loc Cert.FfnDwDownRefIdeal.nD Cert.FfnDwDownRefIdeal.τ Cert.FfnDwDownRefIdeal.sig) → Buf (Elt Ideal) ℓ) (g' : Dev Cert.FfnDwDownRefIdeal.nD → PrngReg), Pre_FfnDwDownIdeal m →
    (∀ c : Dev Cert.FfnDwDownIdeal.nD,
      m' ((c.tc : Thread Cert.FfnDwDownRefIdeal.nD Cert.FfnDwDownRefIdeal.τ).loc Cert.FfnDwDownRefIdeal.main_arg0) = m ((c.tc : Thread Cert.FfnDwDownIdeal.nD Cert.FfnDwDownIdeal.τ).loc Cert.FfnDwDownIdeal.main_arg0)
      ∧ m' ((c.tc : Thread Cert.FfnDwDownRefIdeal.nD Cert.FfnDwDownRefIdeal.τ).loc Cert.FfnDwDownRefIdeal.main_arg1) = m ((c.tc : Thread Cert.FfnDwDownIdeal.nD Cert.FfnDwDownIdeal.τ).loc Cert.FfnDwDownIdeal.main_arg1)
      ∧ m' ((c.tc : Thread Cert.FfnDwDownRefIdeal.nD Cert.FfnDwDownRefIdeal.τ).loc Cert.FfnDwDownRefIdeal.main_arg2) = m ((c.tc : Thread Cert.FfnDwDownIdeal.nD Cert.FfnDwDownIdeal.τ).loc Cert.FfnDwDownIdeal.main_arg2)) →
    ∃ (v0 : (c : Dev Cert.FfnDwDownIdeal.nD) → Buf (Elt Ideal) ((c.tc : Thread Cert.FfnDwDownIdeal.nD Cert.FfnDwDownIdeal.τ).loc Cert.FfnDwDownIdeal.main_v0)),
      θ_run (Cert.FfnDwDownIdeal.defs (F := Ideal)) (onTc (τ := Cert.FfnDwDownIdeal.τ) (Cert.FfnDwDownIdeal.main (F := Ideal))) ⟨m, fun _ => 0, g⟩ (fun r => ∀ c : Dev Cert.FfnDwDownIdeal.nD,
          r.2.mem ((c.tc : Thread Cert.FfnDwDownIdeal.nD Cert.FfnDwDownIdeal.τ).loc Cert.FfnDwDownIdeal.main_v0) = v0 c
          ∧ r.2.mem ((c.tc : Thread Cert.FfnDwDownIdeal.nD Cert.FfnDwDownIdeal.τ).loc Cert.FfnDwDownIdeal.main_arg0) = m ((c.tc : Thread Cert.FfnDwDownIdeal.nD Cert.FfnDwDownIdeal.τ).loc Cert.FfnDwDownIdeal.main_arg0)
          ∧ r.2.mem ((c.tc : Thread Cert.FfnDwDownIdeal.nD Cert.FfnDwDownIdeal.τ).loc Cert.FfnDwDownIdeal.main_arg1) = m ((c.tc : Thread Cert.FfnDwDownIdeal.nD Cert.FfnDwDownIdeal.τ).loc Cert.FfnDwDownIdeal.main_arg1)
          ∧ r.2.mem ((c.tc : Thread Cert.FfnDwDownIdeal.nD Cert.FfnDwDownIdeal.τ).loc Cert.FfnDwDownIdeal.main_arg2) = m ((c.tc : Thread Cert.FfnDwDownIdeal.nD Cert.FfnDwDownIdeal.τ).loc Cert.FfnDwDownIdeal.main_arg2))
      ∧ θ_run (Cert.FfnDwDownRefIdeal.defs (F := Ideal)) (onTc (τ := Cert.FfnDwDownRefIdeal.τ) (Cert.FfnDwDownRefIdeal.main (F := Ideal))) ⟨m', fun _ => 0, g'⟩ (fun r => ∀ c : Dev Cert.FfnDwDownRefIdeal.nD,
          r.2.mem ((c.tc : Thread Cert.FfnDwDownRefIdeal.nD Cert.FfnDwDownRefIdeal.τ).loc Cert.FfnDwDownRefIdeal.main_v6) = v0 c
          ∧ r.2.mem ((c.tc : Thread Cert.FfnDwDownRefIdeal.nD Cert.FfnDwDownRefIdeal.τ).loc Cert.FfnDwDownRefIdeal.main_arg0) = m' ((c.tc : Thread Cert.FfnDwDownRefIdeal.nD Cert.FfnDwDownRefIdeal.τ).loc Cert.FfnDwDownRefIdeal.main_arg0)
          ∧ r.2.mem ((c.tc : Thread Cert.FfnDwDownRefIdeal.nD Cert.FfnDwDownRefIdeal.τ).loc Cert.FfnDwDownRefIdeal.main_arg1) = m' ((c.tc : Thread Cert.FfnDwDownRefIdeal.nD Cert.FfnDwDownRefIdeal.τ).loc Cert.FfnDwDownRefIdeal.main_arg1)
          ∧ r.2.mem ((c.tc : Thread Cert.FfnDwDownRefIdeal.nD Cert.FfnDwDownRefIdeal.τ).loc Cert.FfnDwDownRefIdeal.main_arg2) = m' ((c.tc : Thread Cert.FfnDwDownRefIdeal.nD Cert.FfnDwDownRefIdeal.τ).loc Cert.FfnDwDownRefIdeal.main_arg2))

def preserves_Adam_AdamIdeal : Prop :=
  IdealRules.named_const.Statement Cert.AdamIdeal.κ "c1" .f32 0x3FC48605#32 (((5463681 / 8388608)⁻¹ : ℝ) : EReal)
  ∧ IdealRules.named_const.Statement Cert.AdamIdeal.κ "c2" .f32 0x42C8E6D3#32 (((2672307 / 268435456)⁻¹ : ℝ) : EReal)

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v3_0)) (v1 : (c : Dev Cert.AdamIdeal.nD) → Buf (Elt Ideal) ((c.tc : Thread Cert.AdamIdeal.nD Cert.AdamIdeal.τ).loc Cert.AdamIdeal.main_v3_1)) (v2 : (c : Dev Cert.AdamIdeal.nD) → Buf (Elt Ideal) ((c.tc : Thread Cert.AdamIdeal.nD Cert.AdamIdeal.τ).loc Cert.AdamIdeal.main_v3_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v3_0) = v0 c
          ∧ r.2.mem ((c.tc : Thread Cert.AdamIdeal.nD Cert.AdamIdeal.τ).loc Cert.AdamIdeal.main_v3_1) = v1 c
          ∧ r.2.mem ((c.tc : Thread Cert.AdamIdeal.nD Cert.AdamIdeal.τ).loc Cert.AdamIdeal.main_v3_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v26) = v0 c
          ∧ r.2.mem ((c.tc : Thread Cert.AdamRefIdeal.nD Cert.AdamRefIdeal.τ).loc Cert.AdamRefIdeal.main_v7) = v1 c
          ∧ r.2.mem ((c.tc : Thread Cert.AdamRefIdeal.nD Cert.AdamRefIdeal.τ).loc Cert.AdamRefIdeal.main_v13) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamLayer_AdamLayerIdeal : Prop :=
  IdealRules.named_const.Statement Cert.AdamLayerIdeal.κ "c1" .f32 0x3FC48605#32 (((5463681 / 8388608)⁻¹ : ℝ) : EReal)
  ∧ IdealRules.named_const.Statement Cert.AdamLayerIdeal.κ "c2" .f32 0x42C8E6D3#32 (((2672307 / 268435456)⁻¹ : ℝ) : EReal)

def algebraic_AdamLayerIdeal_AdamLayerRefIdeal [hAdamLayerIdeal : Cert.AdamLayerIdeal.Facts] [hAdamLayerRefIdeal : Cert.AdamLayerRefIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg)
    (m' : (ℓ : Loc Cert.AdamLayerRefIdeal.nD Cert.AdamLayerRefIdeal.τ Cert.AdamLayerRefIdeal.sig) → Buf (Elt Ideal) ℓ) (g' : Dev Cert.AdamLayerRefIdeal.nD → PrngReg), Pre_AdamLayerIdeal m →
    (∀ c : Dev Cert.AdamLayerIdeal.nD,
      m' ((c.tc : Thread Cert.AdamLayerRefIdeal.nD Cert.AdamLayerRefIdeal.τ).loc Cert.AdamLayerRefIdeal.main_arg0) = m ((c.tc : Thread Cert.AdamLayerIdeal.nD Cert.AdamLayerIdeal.τ).loc Cert.AdamLayerIdeal.main_arg0)
      ∧ m' ((c.tc : Thread Cert.AdamLayerRefIdeal.nD Cert.AdamLayerRefIdeal.τ).loc Cert.AdamLayerRefIdeal.main_arg1) = m ((c.tc : Thread Cert.AdamLayerIdeal.nD Cert.AdamLayerIdeal.τ).loc Cert.AdamLayerIdeal.main_arg1)
      ∧ m' ((c.tc : Thread Cert.AdamLayerRefIdeal.nD Cert.AdamLayerRefIdeal.τ).loc Cert.AdamLayerRefIdeal.main_arg2) = m ((c.tc : Thread Cert.AdamLayerIdeal.nD Cert.AdamLayerIdeal.τ).loc Cert.AdamLayerIdeal.main_arg2)
      ∧ m' ((c.tc : Thread Cert.AdamLayerRefIdeal.nD Cert.AdamLayerRefIdeal.τ).loc Cert.AdamLayerRefIdeal.main_arg3) = m ((c.tc : Thread Cert.AdamLayerIdeal.nD Cert.AdamLayerIdeal.τ).loc Cert.AdamLayerIdeal.main_arg3)
      ∧ m' ((c.tc : Thread Cert.AdamLayerRefIdeal.nD Cert.AdamLayerRefIdeal.τ).loc Cert.AdamLayerRefIdeal.main_arg4) = m ((c.tc : Thread Cert.AdamLayerIdeal.nD Cert.AdamLayerIdeal.τ).loc Cert.AdamLayerIdeal.main_arg4)
      ∧ m' ((c.tc : Thread Cert.AdamLayerRefIdeal.nD Cert.AdamLayerRefIdeal.τ).loc Cert.AdamLayerRefIdeal.main_arg5) = m ((c.tc : Thread Cert.AdamLayerIdeal.nD Cert.AdamLayerIdeal.τ).loc Cert.AdamLayerIdeal.main_arg5)
      ∧ m' ((c.tc : Thread Cert.AdamLayerRefIdeal.nD Cert.AdamLayerRefIdeal.τ).loc Cert.AdamLayerRefIdeal.main_arg6) = m ((c.tc : Thread Cert.AdamLayerIdeal.nD Cert.AdamLayerIdeal.τ).loc Cert.AdamLayerIdeal.main_arg6)
      ∧ m' ((c.tc : Thread Cert.AdamLayerRefIdeal.nD Cert.AdamLayerRefIdeal.τ).loc Cert.AdamLayerRefIdeal.main_arg7) = m ((c.tc : Thread Cert.AdamLayerIdeal.nD Cert.AdamLayerIdeal.τ).loc Cert.AdamLayerIdeal.main_arg7)) →
    ∃ (v0 : (c : Dev Cert.AdamLayerIdeal.nD) → Buf (Elt Ideal) ((c.tc : Thread Cert.AdamLayerIdeal.nD Cert.AdamLayerIdeal.τ).loc Cert.AdamLayerIdeal.main_v0_0)) (v1 : (c : Dev Cert.AdamLayerIdeal.nD) → Buf (Elt Ideal) ((c.tc : Thread Cert.AdamLayerIdeal.nD Cert.AdamLayerIdeal.τ).loc Cert.AdamLayerIdeal.main_v0_1)) (v2 : (c : Dev Cert.AdamLayerIdeal.nD) → Buf (Elt Ideal) ((c.tc : Thread Cert.AdamLayerIdeal.nD Cert.AdamLayerIdeal.τ).loc Cert.AdamLayerIdeal.main_v0_2)) (v3 : (c : Dev Cert.AdamLayerIdeal.nD) → Buf (Elt Ideal) ((c.tc : Thread Cert.AdamLayerIdeal.nD Cert.AdamLayerIdeal.τ).loc Cert.AdamLayerIdeal.main_v0_3)),
      θ_run (Cert.AdamLayerIdeal.defs (F := Ideal)) (onTc (τ := Cert.AdamLayerIdeal.τ) (Cert.AdamLayerIdeal.main (F := Ideal))) ⟨m, fun _ => 0, g⟩ (fun r => ∀ c : Dev Cert.AdamLayerIdeal.nD,
          r.2.mem ((c.tc : Thread Cert.AdamLayerIdeal.nD Cert.AdamLayerIdeal.τ).loc Cert.AdamLayerIdeal.main_v0_0) = v0 c
          ∧ r.2.mem ((c.tc : Thread Cert.AdamLayerIdeal.nD Cert.AdamLayerIdeal.τ).loc Cert.AdamLayerIdeal.main_v0_1) = v1 c
          ∧ r.2.mem ((c.tc : Thread Cert.AdamLayerIdeal.nD Cert.AdamLayerIdeal.τ).loc Cert.AdamLayerIdeal.main_v0_2) = v2 c
          ∧ r.2.mem ((c.tc : Thread Cert.AdamLayerIdeal.nD Cert.AdamLayerIdeal.τ).loc Cert.AdamLayerIdeal.main_v0_3) = v3 c
          ∧ r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
          ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
          ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
          ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
          ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4)
          ∧ r.2.mem ((c.tc : Thread Cert.AdamLayerIdeal.nD Cert.AdamLayerIdeal.τ).loc Cert.AdamLayerIdeal.main_arg5) = m ((c.tc : Thread Cert.AdamLayerIdeal.nD Cert.AdamLayerIdeal.τ).loc Cert.AdamLayerIdeal.main_arg5)
          ∧ r.2.mem ((c.tc : Thread Cert.AdamLayerIdeal.nD Cert.AdamLayerIdeal.τ).loc Cert.AdamLayerIdeal.main_arg6) = m ((c.tc : Thread Cert.AdamLayerIdeal.nD Cert.AdamLayerIdeal.τ).loc Cert.AdamLayerIdeal.main_arg6)
          ∧ r.2.mem ((c.tc : Thread Cert.AdamLayerIdeal.nD Cert.AdamLayerIdeal.τ).loc Cert.AdamLayerIdeal.main_arg7) = m ((c.tc : Thread Cert.AdamLayerIdeal.nD Cert.AdamLayerIdeal.τ).loc Cert.AdamLayerIdeal.main_arg7))
      ∧ θ_run (Cert.AdamLayerRefIdeal.defs (F := Ideal)) (onTc (τ := Cert.AdamLayerRefIdeal.τ) (Cert.AdamLayerRefIdeal.main (F := Ideal))) ⟨m', fun _ => 0, g'⟩ (fun r => ∀ c : Dev Cert.AdamLayerRefIdeal.nD,
          r.2.mem ((c.tc : Thread Cert.AdamLayerRefIdeal.nD Cert.AdamLayerRefIdeal.τ).loc Cert.AdamLayerRefIdeal.main_v34) = v0 c
          ∧ r.2.mem ((c.tc : Thread Cert.AdamLayerRefIdeal.nD Cert.AdamLayerRefIdeal.τ).loc Cert.AdamLayerRefIdeal.main_v39) = v1 c
          ∧ r.2.mem ((c.tc : Thread Cert.AdamLayerRefIdeal.nD Cert.AdamLayerRefIdeal.τ).loc Cert.AdamLayerRefIdeal.main_v44) = v2 c
          ∧ r.2.mem ((c.tc : Thread Cert.AdamLayerRefIdeal.nD Cert.AdamLayerRefIdeal.τ).loc Cert.AdamLayerRefIdeal.main_v49) = v3 c
          ∧ r.2.mem ((c.tc : Thread Cert.AdamLayerRefIdeal.nD Cert.AdamLayerRefIdeal.τ).loc Cert.AdamLayerRefIdeal.main_arg0) = m' ((c.tc : Thread Cert.AdamLayerRefIdeal.nD Cert.AdamLayerRefIdeal.τ).loc Cert.AdamLayerRefIdeal.main_arg0)
          ∧ r.2.mem ((c.tc : Thread Cert.AdamLayerRefIdeal.nD Cert.AdamLayerRefIdeal.τ).loc Cert.AdamLayerRefIdeal.main_arg1) = m' ((c.tc : Thread Cert.AdamLayerRefIdeal.nD Cert.AdamLayerRefIdeal.τ).loc Cert.AdamLayerRefIdeal.main_arg1)
          ∧ r.2.mem ((c.tc : Thread Cert.AdamLayerRefIdeal.nD Cert.AdamLayerRefIdeal.τ).loc Cert.AdamLayerRefIdeal.main_arg2) = m' ((c.tc : Thread Cert.AdamLayerRefIdeal.nD Cert.AdamLayerRefIdeal.τ).loc Cert.AdamLayerRefIdeal.main_arg2)
          ∧ r.2.mem ((c.tc : Thread Cert.AdamLayerRefIdeal.nD Cert.AdamLayerRefIdeal.τ).loc Cert.AdamLayerRefIdeal.main_arg3) = m' ((c.tc : Thread Cert.AdamLayerRefIdeal.nD Cert.AdamLayerRefIdeal.τ).loc Cert.AdamLayerRefIdeal.main_arg3)
          ∧ r.2.mem ((c.tc : Thread Cert.AdamLayerRefIdeal.nD Cert.AdamLayerRefIdeal.τ).loc Cert.AdamLayerRefIdeal.main_arg4) = m' ((c.tc : Thread Cert.AdamLayerRefIdeal.nD Cert.AdamLayerRefIdeal.τ).loc Cert.AdamLayerRefIdeal.main_arg4)
          ∧ r.2.mem ((c.tc : Thread Cert.AdamLayerRefIdeal.nD Cert.AdamLayerRefIdeal.τ).loc Cert.AdamLayerRefIdeal.main_arg5) = m' ((c.tc : Thread Cert.AdamLayerRefIdeal.nD Cert.AdamLayerRefIdeal.τ).loc Cert.AdamLayerRefIdeal.main_arg5)
          ∧ r.2.mem ((c.tc : Thread Cert.AdamLayerRefIdeal.nD Cert.AdamLayerRefIdeal.τ).loc Cert.AdamLayerRefIdeal.main_arg6) = m' ((c.tc : Thread Cert.AdamLayerRefIdeal.nD Cert.AdamLayerRefIdeal.τ).loc Cert.AdamLayerRefIdeal.main_arg6)
          ∧ r.2.mem ((c.tc : Thread Cert.AdamLayerRefIdeal.nD Cert.AdamLayerRefIdeal.τ).loc Cert.AdamLayerRefIdeal.main_arg7) = m' ((c.tc : Thread Cert.AdamLayerRefIdeal.nD Cert.AdamLayerRefIdeal.τ).loc Cert.AdamLayerRefIdeal.main_arg7))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0_0)) (v1 : (c : Dev Cert.SmallSumIdeal.nD) → Buf (Elt Ideal) ((c.tc : Thread Cert.SmallSumIdeal.nD Cert.SmallSumIdeal.τ).loc Cert.SmallSumIdeal.main_v0_1)) (v2 : (c : Dev Cert.SmallSumIdeal.nD) → Buf (Elt Ideal) ((c.tc : Thread Cert.SmallSumIdeal.nD Cert.SmallSumIdeal.τ).loc Cert.SmallSumIdeal.main_v0_2)) (v3 : (c : Dev Cert.SmallSumIdeal.nD) → Buf (Elt Ideal) ((c.tc : Thread Cert.SmallSumIdeal.nD Cert.SmallSumIdeal.τ).loc Cert.SmallSumIdeal.main_v0_3)) (v4 : (c : Dev Cert.SmallSumIdeal.nD) → Buf (Elt Ideal) ((c.tc : Thread Cert.SmallSumIdeal.nD Cert.SmallSumIdeal.τ).loc Cert.SmallSumIdeal.main_v0_4)) (v5 : (c : Dev Cert.SmallSumIdeal.nD) → Buf (Elt Ideal) ((c.tc : Thread Cert.SmallSumIdeal.nD Cert.SmallSumIdeal.τ).loc Cert.SmallSumIdeal.main_v0_5)) (v6 : (c : Dev Cert.SmallSumIdeal.nD) → Buf (Elt Ideal) ((c.tc : Thread Cert.SmallSumIdeal.nD Cert.SmallSumIdeal.τ).loc Cert.SmallSumIdeal.main_v0_6)) (v7 : (c : Dev Cert.SmallSumIdeal.nD) → Buf (Elt Ideal) ((c.tc : Thread Cert.SmallSumIdeal.nD Cert.SmallSumIdeal.τ).loc Cert.SmallSumIdeal.main_v0_7)) (v8 : (c : Dev Cert.SmallSumIdeal.nD) → Buf (Elt Ideal) ((c.tc : Thread Cert.SmallSumIdeal.nD Cert.SmallSumIdeal.τ).loc Cert.SmallSumIdeal.main_v0_8)) (v9 : (c : Dev Cert.SmallSumIdeal.nD) → Buf (Elt Ideal) ((c.tc : Thread Cert.SmallSumIdeal.nD Cert.SmallSumIdeal.τ).loc Cert.SmallSumIdeal.main_v0_9)) (v10 : (c : Dev Cert.SmallSumIdeal.nD) → Buf (Elt Ideal) ((c.tc : Thread Cert.SmallSumIdeal.nD Cert.SmallSumIdeal.τ).loc Cert.SmallSumIdeal.main_v0_10)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0_0) = v0 c
          ∧ r.2.mem ((c.tc : Thread Cert.SmallSumIdeal.nD Cert.SmallSumIdeal.τ).loc Cert.SmallSumIdeal.main_v0_1) = v1 c
          ∧ r.2.mem ((c.tc : Thread Cert.SmallSumIdeal.nD Cert.SmallSumIdeal.τ).loc Cert.SmallSumIdeal.main_v0_2) = v2 c
          ∧ r.2.mem ((c.tc : Thread Cert.SmallSumIdeal.nD Cert.SmallSumIdeal.τ).loc Cert.SmallSumIdeal.main_v0_3) = v3 c
          ∧ r.2.mem ((c.tc : Thread Cert.SmallSumIdeal.nD Cert.SmallSumIdeal.τ).loc Cert.SmallSumIdeal.main_v0_4) = v4 c
          ∧ r.2.mem ((c.tc : Thread Cert.SmallSumIdeal.nD Cert.SmallSumIdeal.τ).loc Cert.SmallSumIdeal.main_v0_5) = v5 c
          ∧ r.2.mem ((c.tc : Thread Cert.SmallSumIdeal.nD Cert.SmallSumIdeal.τ).loc Cert.SmallSumIdeal.main_v0_6) = v6 c
          ∧ r.2.mem ((c.tc : Thread Cert.SmallSumIdeal.nD Cert.SmallSumIdeal.τ).loc Cert.SmallSumIdeal.main_v0_7) = v7 c
          ∧ r.2.mem ((c.tc : Thread Cert.SmallSumIdeal.nD Cert.SmallSumIdeal.τ).loc Cert.SmallSumIdeal.main_v0_8) = v8 c
          ∧ r.2.mem ((c.tc : Thread Cert.SmallSumIdeal.nD Cert.SmallSumIdeal.τ).loc Cert.SmallSumIdeal.main_v0_9) = v9 c
          ∧ r.2.mem ((c.tc : Thread Cert.SmallSumIdeal.nD Cert.SmallSumIdeal.τ).loc Cert.SmallSumIdeal.main_v0_10) = v10 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v1) = v0 c
          ∧ r.2.mem ((c.tc : Thread Cert.SmallSumRefIdeal.nD Cert.SmallSumRefIdeal.τ).loc Cert.SmallSumRefIdeal.main_v2) = v1 c
          ∧ r.2.mem ((c.tc : Thread Cert.SmallSumRefIdeal.nD Cert.SmallSumRefIdeal.τ).loc Cert.SmallSumRefIdeal.main_v3) = v2 c
          ∧ r.2.mem ((c.tc : Thread Cert.SmallSumRefIdeal.nD Cert.SmallSumRefIdeal.τ).loc Cert.SmallSumRefIdeal.main_v4) = v3 c
          ∧ r.2.mem ((c.tc : Thread Cert.SmallSumRefIdeal.nD Cert.SmallSumRefIdeal.τ).loc Cert.SmallSumRefIdeal.main_v5) = v4 c
          ∧ r.2.mem ((c.tc : Thread Cert.SmallSumRefIdeal.nD Cert.SmallSumRefIdeal.τ).loc Cert.SmallSumRefIdeal.main_v6) = v5 c
          ∧ r.2.mem ((c.tc : Thread Cert.SmallSumRefIdeal.nD Cert.SmallSumRefIdeal.τ).loc Cert.SmallSumRefIdeal.main_v7) = v6 c
          ∧ r.2.mem ((c.tc : Thread Cert.SmallSumRefIdeal.nD Cert.SmallSumRefIdeal.τ).loc Cert.SmallSumRefIdeal.main_v8) = v7 c
          ∧ r.2.mem ((c.tc : Thread Cert.SmallSumRefIdeal.nD Cert.SmallSumRefIdeal.τ).loc Cert.SmallSumRefIdeal.main_v9) = v8 c
          ∧ r.2.mem ((c.tc : Thread Cert.SmallSumRefIdeal.nD Cert.SmallSumRefIdeal.τ).loc Cert.SmallSumRefIdeal.main_v10) = v9 c
          ∧ r.2.mem ((c.tc : Thread Cert.SmallSumRefIdeal.nD Cert.SmallSumRefIdeal.τ).loc Cert.SmallSumRefIdeal.main_v11) = v10 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def Claim : Prop :=
  ∃ (hLossHead : Cert.LossHead.Facts) (hLossHeadIdeal : Cert.LossHeadIdeal.Facts) (hLossHeadRefIdeal : Cert.LossHeadRefIdeal.Facts) (hFfnDxn : Cert.FfnDxn.Facts) (hFfnDxnIdeal : Cert.FfnDxnIdeal.Facts) (hFfnDxnRefIdeal : Cert.FfnDxnRefIdeal.Facts) (hAttnDxa : Cert.AttnDxa.Facts) (hAttnDxaIdeal : Cert.AttnDxaIdeal.Facts) (hAttnDxaRefIdeal : Cert.AttnDxaRefIdeal.Facts) (hConvGate : Cert.ConvGate.Facts) (hConvGateIdeal : Cert.ConvGateIdeal.Facts) (hConvGateRefIdeal : Cert.ConvGateRefIdeal.Facts) (hConvGrad : Cert.ConvGrad.Facts) (hConvGradIdeal : Cert.ConvGradIdeal.Facts) (hConvGradRefIdeal : Cert.ConvGradRefIdeal.Facts) (hAttnGrad : Cert.AttnGrad.Facts) (hAttnGradIdeal : Cert.AttnGradIdeal.Facts) (hAttnGradRefIdeal : Cert.AttnGradRefIdeal.Facts) (hAttnMix : Cert.AttnMix.Facts) (hAttnMixIdeal : Cert.AttnMixIdeal.Facts) (hAttnMixRefIdeal : Cert.AttnMixRefIdeal.Facts) (hHgrnMix : Cert.HgrnMix.Facts) (hHgrnMixIdeal : Cert.HgrnMixIdeal.Facts) (hHgrnMixRefIdeal : Cert.HgrnMixRefIdeal.Facts) (hFfnDwUp : Cert.FfnDwUp.Facts) (hFfnDwUpIdeal : Cert.FfnDwUpIdeal.Facts) (hFfnDwUpRefIdeal : Cert.FfnDwUpRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hFfnDact : Cert.FfnDact.Facts) (hFfnDactIdeal : Cert.FfnDactIdeal.Facts) (hFfnDactRefIdeal : Cert.FfnDactRefIdeal.Facts) (hFfnDwDown : Cert.FfnDwDown.Facts) (hFfnDwDownIdeal : Cert.FfnDwDownIdeal.Facts) (hFfnDwDownRefIdeal : Cert.FfnDwDownRefIdeal.Facts) (hAdam : Cert.Adam.Facts) (hAdamIdeal : Cert.AdamIdeal.Facts) (hAdamRefIdeal : Cert.AdamRefIdeal.Facts) (hAdamLayer : Cert.AdamLayer.Facts) (hAdamLayerIdeal : Cert.AdamLayerIdeal.Facts) (hAdamLayerRefIdeal : Cert.AdamLayerRefIdeal.Facts) (hSmallSum : Cert.SmallSum.Facts) (hSmallSumIdeal : Cert.SmallSumIdeal.Facts) (hSmallSumRefIdeal : Cert.SmallSumRefIdeal.Facts) (hPre_loss_finite : Cert.Pre_loss_finite.Facts) (hPre_ffn_finite : Cert.Pre_ffn_finite.Facts) (hPre_dxa_finite : Cert.Pre_dxa_finite.Facts) (hPre_cfwd_finite : Cert.Pre_cfwd_finite.Facts) (hPre_cbwd_finite : Cert.Pre_cbwd_finite.Facts) (hPre_attn_finite : Cert.Pre_attn_finite.Facts) (hPre_attf_finite : Cert.Pre_attf_finite.Facts) (hPre_hgf_finite : Cert.Pre_hgf_finite.Facts),
    quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_FfnDxn (hFfnDxn := hFfnDxn)
    ∧ quiescent_FfnDxnIdeal (hFfnDxnIdeal := hFfnDxnIdeal)
    ∧ quiescent_FfnDxnIdeal_pre_ffn_finite (hFfnDxnIdeal := hFfnDxnIdeal) (hPre_ffn_finite := hPre_ffn_finite)
    ∧ quiescent_FfnDxnRefIdeal (hFfnDxnRefIdeal := hFfnDxnRefIdeal)
    ∧ quiescent_FfnDxnRefIdeal_pre_ffn_finite (hFfnDxnRefIdeal := hFfnDxnRefIdeal) (hPre_ffn_finite := hPre_ffn_finite)
    ∧ quiescent_AttnDxa (hAttnDxa := hAttnDxa)
    ∧ quiescent_AttnDxaIdeal (hAttnDxaIdeal := hAttnDxaIdeal)
    ∧ quiescent_AttnDxaIdeal_pre_dxa_finite (hAttnDxaIdeal := hAttnDxaIdeal) (hPre_dxa_finite := hPre_dxa_finite)
    ∧ quiescent_AttnDxaRefIdeal (hAttnDxaRefIdeal := hAttnDxaRefIdeal)
    ∧ quiescent_AttnDxaRefIdeal_pre_dxa_finite (hAttnDxaRefIdeal := hAttnDxaRefIdeal) (hPre_dxa_finite := hPre_dxa_finite)
    ∧ quiescent_ConvGate (hConvGate := hConvGate)
    ∧ quiescent_ConvGateIdeal (hConvGateIdeal := hConvGateIdeal)
    ∧ quiescent_ConvGateIdeal_pre_cfwd_finite (hConvGateIdeal := hConvGateIdeal) (hPre_cfwd_finite := hPre_cfwd_finite)
    ∧ quiescent_ConvGateRefIdeal (hConvGateRefIdeal := hConvGateRefIdeal)
    ∧ quiescent_ConvGateRefIdeal_pre_cfwd_finite (hConvGateRefIdeal := hConvGateRefIdeal) (hPre_cfwd_finite := hPre_cfwd_finite)
    ∧ quiescent_ConvGrad (hConvGrad := hConvGrad)
    ∧ quiescent_ConvGradIdeal (hConvGradIdeal := hConvGradIdeal)
    ∧ quiescent_ConvGradIdeal_pre_cbwd_finite (hConvGradIdeal := hConvGradIdeal) (hPre_cbwd_finite := hPre_cbwd_finite)
    ∧ quiescent_ConvGradRefIdeal (hConvGradRefIdeal := hConvGradRefIdeal)
    ∧ quiescent_ConvGradRefIdeal_pre_cbwd_finite (hConvGradRefIdeal := hConvGradRefIdeal) (hPre_cbwd_finite := hPre_cbwd_finite)
    ∧ quiescent_AttnGrad (hAttnGrad := hAttnGrad)
    ∧ quiescent_AttnGradIdeal (hAttnGradIdeal := hAttnGradIdeal)
    ∧ quiescent_AttnGradIdeal_pre_attn_finite (hAttnGradIdeal := hAttnGradIdeal) (hPre_attn_finite := hPre_attn_finite)
    ∧ quiescent_AttnGradRefIdeal (hAttnGradRefIdeal := hAttnGradRefIdeal)
    ∧ quiescent_AttnGradRefIdeal_pre_attn_finite (hAttnGradRefIdeal := hAttnGradRefIdeal) (hPre_attn_finite := hPre_attn_finite)
    ∧ quiescent_AttnMix (hAttnMix := hAttnMix)
    ∧ quiescent_AttnMixIdeal (hAttnMixIdeal := hAttnMixIdeal)
    ∧ quiescent_AttnMixIdeal_pre_attf_finite (hAttnMixIdeal := hAttnMixIdeal) (hPre_attf_finite := hPre_attf_finite)
    ∧ quiescent_AttnMixRefIdeal (hAttnMixRefIdeal := hAttnMixRefIdeal)
    ∧ quiescent_AttnMixRefIdeal_pre_attf_finite (hAttnMixRefIdeal := hAttnMixRefIdeal) (hPre_attf_finite := hPre_attf_finite)
    ∧ quiescent_HgrnMix (hHgrnMix := hHgrnMix)
    ∧ quiescent_HgrnMixIdeal (hHgrnMixIdeal := hHgrnMixIdeal)
    ∧ quiescent_HgrnMixIdeal_pre_hgf_finite (hHgrnMixIdeal := hHgrnMixIdeal) (hPre_hgf_finite := hPre_hgf_finite)
    ∧ quiescent_HgrnMixRefIdeal (hHgrnMixRefIdeal := hHgrnMixRefIdeal)
    ∧ quiescent_HgrnMixRefIdeal_pre_hgf_finite (hHgrnMixRefIdeal := hHgrnMixRefIdeal) (hPre_hgf_finite := hPre_hgf_finite)
    ∧ quiescent_FfnDwUp (hFfnDwUp := hFfnDwUp)
    ∧ quiescent_FfnDwUpIdeal (hFfnDwUpIdeal := hFfnDwUpIdeal)
    ∧ quiescent_FfnDwUpRefIdeal (hFfnDwUpRefIdeal := hFfnDwUpRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDact (hFfnDact := hFfnDact)
    ∧ quiescent_FfnDactIdeal (hFfnDactIdeal := hFfnDactIdeal)
    ∧ quiescent_FfnDactRefIdeal (hFfnDactRefIdeal := hFfnDactRefIdeal)
    ∧ quiescent_FfnDwDown (hFfnDwDown := hFfnDwDown)
    ∧ quiescent_FfnDwDownIdeal (hFfnDwDownIdeal := hFfnDwDownIdeal)
    ∧ quiescent_FfnDwDownRefIdeal (hFfnDwDownRefIdeal := hFfnDwDownRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamLayer (hAdamLayer := hAdamLayer)
    ∧ quiescent_AdamLayerIdeal (hAdamLayerIdeal := hAdamLayerIdeal)
    ∧ quiescent_AdamLayerRefIdeal (hAdamLayerRefIdeal := hAdamLayerRefIdeal)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_FfnDxn_FfnDxnIdeal
    ∧ algebraic_FfnDxnIdeal_FfnDxnRefIdeal_pre_ffn_finite (hFfnDxnIdeal := hFfnDxnIdeal) (hFfnDxnRefIdeal := hFfnDxnRefIdeal) (hPre_ffn_finite := hPre_ffn_finite)
    ∧ preserves_AttnDxa_AttnDxaIdeal
    ∧ algebraic_AttnDxaIdeal_AttnDxaRefIdeal_pre_dxa_finite (hAttnDxaIdeal := hAttnDxaIdeal) (hAttnDxaRefIdeal := hAttnDxaRefIdeal) (hPre_dxa_finite := hPre_dxa_finite)
    ∧ preserves_ConvGate_ConvGateIdeal
    ∧ algebraic_ConvGateIdeal_ConvGateRefIdeal_pre_cfwd_finite (hConvGateIdeal := hConvGateIdeal) (hConvGateRefIdeal := hConvGateRefIdeal) (hPre_cfwd_finite := hPre_cfwd_finite)
    ∧ preserves_ConvGrad_ConvGradIdeal
    ∧ algebraic_ConvGradIdeal_ConvGradRefIdeal_pre_cbwd_finite (hConvGradIdeal := hConvGradIdeal) (hConvGradRefIdeal := hConvGradRefIdeal) (hPre_cbwd_finite := hPre_cbwd_finite)
    ∧ preserves_AttnGrad_AttnGradIdeal
    ∧ algebraic_AttnGradIdeal_AttnGradRefIdeal_pre_attn_finite (hAttnGradIdeal := hAttnGradIdeal) (hAttnGradRefIdeal := hAttnGradRefIdeal) (hPre_attn_finite := hPre_attn_finite)
    ∧ preserves_AttnMix_AttnMixIdeal
    ∧ algebraic_AttnMixIdeal_AttnMixRefIdeal_pre_attf_finite (hAttnMixIdeal := hAttnMixIdeal) (hAttnMixRefIdeal := hAttnMixRefIdeal) (hPre_attf_finite := hPre_attf_finite)
    ∧ preserves_HgrnMix_HgrnMixIdeal
    ∧ algebraic_HgrnMixIdeal_HgrnMixRefIdeal_pre_hgf_finite (hHgrnMixIdeal := hHgrnMixIdeal) (hHgrnMixRefIdeal := hHgrnMixRefIdeal) (hPre_hgf_finite := hPre_hgf_finite)
    ∧ preserves_FfnDwUp_FfnDwUpIdeal
    ∧ algebraic_FfnDwUpIdeal_FfnDwUpRefIdeal (hFfnDwUpIdeal := hFfnDwUpIdeal) (hFfnDwUpRefIdeal := hFfnDwUpRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDact_FfnDactIdeal
    ∧ algebraic_FfnDactIdeal_FfnDactRefIdeal (hFfnDactIdeal := hFfnDactIdeal) (hFfnDactRefIdeal := hFfnDactRefIdeal)
    ∧ preserves_FfnDwDown_FfnDwDownIdeal
    ∧ algebraic_FfnDwDownIdeal_FfnDwDownRefIdeal (hFfnDwDownIdeal := hFfnDwDownIdeal) (hFfnDwDownRefIdeal := hFfnDwDownRefIdeal)
    ∧ preserves_Adam_AdamIdeal
    ∧ algebraic_AdamIdeal_AdamRefIdeal (hAdamIdeal := hAdamIdeal) (hAdamRefIdeal := hAdamRefIdeal)
    ∧ preserves_AdamLayer_AdamLayerIdeal
    ∧ algebraic_AdamLayerIdeal_AdamLayerRefIdeal (hAdamLayerIdeal := hAdamLayerIdeal) (hAdamLayerRefIdeal := hAdamLayerRefIdeal)
    ∧ preserves_SmallSum_SmallSumIdeal
    ∧ algebraic_SmallSumIdeal_SmallSumRefIdeal (hSmallSumIdeal := hSmallSumIdeal) (hSmallSumRefIdeal := hSmallSumRefIdeal)
-- ==== Pre_attf_finite.lean ====
abbrev S1x4096x1024 : Shape := ⟨3, ![1, 4096, 1024]⟩
abbrev S1x4096x2x64 : Shape := ⟨4, ![1, 4096, 2, 64]⟩
abbrev S16 : Shape := ⟨1, ![16]⟩
abbrev S_ : Shape := ⟨0, ![]⟩

class Facts : Prop where
  bcast_S_S1x4096x1024 : S_.BroadcastsInDim S1x4096x1024 (![] : Fin 0 → Fin S1x4096x1024.rank)
  bcast_S_S1x4096x2x64 : S_.BroadcastsInDim S1x4096x2x64 (![] : Fin 0 → Fin S1x4096x2x64.rank)
  bcast_S_S16 : S_.BroadcastsInDim S16 (![] : Fin 0 → Fin S16.rank)

variable [Facts]

def fn {F : FTy → Type} [FloatOps F] (main_arg0 : FVec F S1x4096x1024 .bf16) (main_arg1 : FVec F S1x4096x2x64 .bf16) (main_arg2 : FVec F S1x4096x2x64 .bf16) (main_arg3 : FVec F S16 .f32) : IVec S1x4096x1024 1 × IVec S1x4096x2x64 1 × IVec S1x4096x2x64 1 × IVec S16 1 :=
  let main_v0 : FVec F S1x4096x1024 .bf16 := Host.absf main_arg0
  let main_cst : FVec F S_ .bf16 := constant S_ .bf16 0x7F80#16
  let main_v1 : FVec F S1x4096x1024 .bf16 := broadcastInDim S1x4096x1024 ![] bcast_S_S1x4096x1024 main_cst
  let main_v2 : IVec S1x4096x1024 1 := cmpf .olt main_v0 main_v1
  let main_v3 : FVec F S1x4096x2x64 .bf16 := Host.absf main_arg1
  let main_cst_0 : FVec F S_ .bf16 := constant S_ .bf16 0x7F80#16
  let main_v4 : FVec F S1x4096x2x64 .bf16 := broadcastInDim S1x4096x2x64 ![] bcast_S_S1x4096x2x64 main_cst_0
  let main_v5 : IVec S1x4096x2x64 1 := cmpf .olt main_v3 main_v4
  let main_v6 : FVec F S1x4096x2x64 .bf16 := Host.absf main_arg2
  let main_cst_1 : FVec F S_ .bf16 := constant S_ .bf16 0x7F80#16
  let main_v7 : FVec F S1x4096x2x64 .bf16 := broadcastInDim S1x4096x2x64 ![] bcast_S_S1x4096x2x64 main_cst_1
  let main_v8 : IVec S1x4096x2x64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Pre_attn_finite.lean ====
abbrev S1x4096x1024 : Shape := ⟨3, ![1, 4096, 1024]⟩
abbrev S1x4096x2x64 : Shape := ⟨4, ![1, 4096, 2, 64]⟩
abbrev S16 : Shape := ⟨1, ![16]⟩
abbrev S_ : Shape := ⟨0, ![]⟩

class Facts : Prop where
  bcast_S_S1x4096x1024 : S_.BroadcastsInDim S1x4096x1024 (![] : Fin 0 → Fin S1x4096x1024.rank)
  bcast_S_S1x4096x2x64 : S_.BroadcastsInDim S1x4096x2x64 (![] : Fin 0 → Fin S1x4096x2x64.rank)
  bcast_S_S16 : S_.BroadcastsInDim S16 (![] : Fin 0 → Fin S16.rank)

variable [Facts]

def fn {F : FTy → Type} [FloatOps F] (main_arg0 : FVec F S1x4096x1024 .bf16) (main_arg1 : FVec F S1x4096x2x64 .bf16) (main_arg2 : FVec F S1x4096x2x64 .bf16) (main_arg3 : FVec F S16 .f32) (main_arg4 : FVec F S1x4096x1024 .bf16) : IVec S1x4096x1024 1 × IVec S1x4096x2x64 1 × IVec S1x4096x2x64 1 × IVec S16 1 × IVec S1x4096x1024 1 :=
  let main_v0 : FVec F S1x4096x1024 .bf16 := Host.absf main_arg0
  let main_cst : FVec F S_ .bf16 := constant S_ .bf16 0x7F80#16
  let main_v1 : FVec F S1x4096x1024 .bf16 := broadcastInDim S1x4096x1024 ![] bcast_S_S1x4096x1024 main_cst
  let main_v2 : IVec S1x4096x1024 1 := cmpf .olt main_v0 main_v1
  let main_v3 : FVec F S1x4096x2x64 .bf16 := Host.absf main_arg1
  let main_cst_0 : FVec F S_ .bf16 := constant S_ .bf16 0x7F80#16
  let main_v4 : FVec F S1x4096x2x64 .bf16 := broadcastInDim S1x4096x2x64 ![] bcast_S_S1x4096x2x64 main_cst_0
  let main_v5 : IVec S1x4096x2x64 1 := cmpf .olt main_v3 main_v4
  let main_v6 : FVec F S1x4096x2x64 .bf16 := Host.absf main_arg2
  let main_cst_1 : FVec F S_ .bf16 := constant S_ .bf16 0x7F80#16
  let main_v7 : FVec F S1x4096x2x64 .bf16 := broadcastInDim S1x4096x2x64 ![] bcast_S_S1x4096x2x64 main_cst_1
  let main_v8 : IVec S1x4096x2x64 1 := cmpf .olt main_v6 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_v12 : FVec F S1x4096x1024 .bf16 := Host.absf main_arg4
  let main_cst_3 : FVec F S_ .bf16 := constant S_ .bf16 0x7F80#16
  let main_v13 : FVec F S1x4096x1024 .bf16 := broadcastInDim S1x4096x1024 ![] bcast_S_S1x4096x1024 main_cst_3
  let main_v14 : IVec S1x4096x1024 1 := cmpf .olt main_v12 main_v13
  (main_v2, main_v5, main_v8, main_v11, main_v14)
-- ==== Pre_cbwd_finite.lean ====
abbrev S1x4096x5632 : Shape := ⟨3, ![1, 4096, 5632]⟩
abbrev S3x2816 : Shape := ⟨2, ![3, 2816]⟩
abbrev S2816 : Shape := ⟨1, ![2816]⟩
abbrev S1x4096x2816 : Shape := ⟨3, ![1, 4096, 2816]⟩
abbrev S_ : Shape := ⟨0, ![]⟩

class Facts : Prop where
  bcast_S_S1x4096x5632 : S_.BroadcastsInDim S1x4096x5632 (![] : Fin 0 → Fin S1x4096x5632.rank)
  bcast_S_S3x2816 : S_.BroadcastsInDim S3x2816 (![] : Fin 0 → Fin S3x2816.rank)
  bcast_S_S2816 : S_.BroadcastsInDim S2816 (![] : Fin 0 → Fin S2816.rank)
  bcast_S_S1x4096x2816 : S_.BroadcastsInDim S1x4096x2816 (![] : Fin 0 → Fin S1x4096x2816.rank)

variable [Facts]

def fn {F : FTy → Type} [FloatOps F] (main_arg0 : FVec F S1x4096x5632 .bf16) (main_arg1 : FVec F S3x2816 .f32) (main_arg2 : FVec F S2816 .f32) (main_arg3 : FVec F S1x4096x2816 .bf16) : IVec S1x4096x5632 1 × IVec S3x2816 1 × IVec S2816 1 × IVec S1x4096x2816 1 :=
  let main_v0 : FVec F S1x4096x5632 .bf16 := Host.absf main_arg0
  let main_cst : FVec F S_ .bf16 := constant S_ .bf16 0x7F80#16
  let main_v1 : FVec F S1x4096x5632 .bf16 := broadcastInDim S1x4096x5632 ![] bcast_S_S1x4096x5632 main_cst
  let main_v2 : IVec S1x4096x5632 1 := cmpf .olt main_v0 main_v1
  let main_v3 : FVec F S3x2816 .f32 := Host.absf main_arg1
  let main_cst_0 : FVec F S_ .f32 := constant S_ .f32 0x7F800000#32
  let main_v4 : FVec F S3x2816 .f32 := broadcastInDim S3x2816 ![] bcast_S_S3x2816 main_cst_0
  let main_v5 : IVec S3x2816 1 := cmpf .olt main_v3 main_v4
  let main_v6 : FVec F S2816 .f32 := Host.absf main_arg2
  let main_cst_1 : FVec F S_ .f32 := constant S_ .f32 0x7F800000#32
  let main_v7 : FVec F S2816 .f32 := broadcastInDim S2816 ![] bcast_S_S2816 main_cst_1
  let main_v8 : IVec S2816 1 := cmpf .olt main_v6 main_v7
  let main_v9 : FVec F S1x4096x2816 .bf16 := Host.absf main_arg3
  let main_cst_2 : FVec F S_ .bf16 := constant S_ .bf16 0x7F80#16
  let main_v10 : FVec F S1x4096x2816 .bf16 := broadcastInDim S1x4096x2816 ![] bcast_S_S1x4096x2816 main_cst_2
  let main_v11 : IVec S1x4096x2816 1 := cmpf .olt main_v9 main_v10
  (main_v2, main_v5, main_v8, main_v11)
-- ==== Pre_cfwd_finite.lean ====
abbrev S1x4096x5632 : Shape := ⟨3, ![1, 4096, 5632]⟩
abbrev S3x2816 : Shape := ⟨2, ![3, 2816]⟩
abbrev S2816 : Shape := ⟨1, ![2816]⟩
abbrev S_ : Shape := ⟨0, ![]⟩

class Facts : Prop where
  bcast_S_S1x4096x5632 : S_.BroadcastsInDim S1x4096x5632 (![] : Fin 0 → Fin S1x4096x5632.rank)
  bcast_S_S3x2816 : S_.BroadcastsInDim S3x2816 (![] : Fin 0 → Fin S3x2816.rank)
  bcast_S_S2816 : S_.BroadcastsInDim S2816 (![] : Fin 0 → Fin S2816.rank)

variable [Facts]

def fn {F : FTy → Type} [FloatOps F] (main_arg0 : FVec F S1x4096x5632 .bf16) (main_arg1 : FVec F S3x2816 .f32) (main_arg2 : FVec F S2816 .f32) : IVec S1x4096x5632 1 × IVec S3x2816 1 × IVec S2816 1 :=
  let main_v0 : FVec F S1x4096x5632 .bf16 := Host.absf main_arg0
  let main_cst : FVec F S_ .bf16 := constant S_ .bf16 0x7F80#16
  let main_v1 : FVec F S1x4096x5632 .bf16 := broadcastInDim S1x4096x5632 ![] bcast_S_S1x4096x5632 main_cst
  let main_v2 : IVec S1x4096x5632 1 := cmpf .olt main_v0 main_v1
  let main_v3 : FVec F S3x2816 .f32 := Host.absf main_arg1
  let main_cst_0 : FVec F S_ .f32 := constant S_ .f32 0x7F800000#32
  let main_v4 : FVec F S3x2816 .f32 := broadcastInDim S3x2816 ![] bcast_S_S3x2816 main_cst_0
  let main_v5 : IVec S3x2816 1 := cmpf .olt main_v3 main_v4
  let main_v6 : FVec F S2816 .f32 := Host.absf main_arg2
  let main_cst_1 : FVec F S_ .f32 := constant S_ .f32 0x7F800000#32
  let main_v7 : FVec F S2816 .f32 := broadcastInDim S2816 ![] bcast_S_S2816 main_cst_1
  let main_v8 : IVec S2816 1 := cmpf .olt main_v6 main_v7
  (main_v2, main_v5, main_v8)
-- ==== Pre_dxa_finite.lean ====
abbrev S1x4096x1024 : Shape := ⟨3, ![1, 4096, 1024]⟩
abbrev S1x1024 : Shape := ⟨2, ![1, 1024]⟩
abbrev S1024 : Shape := ⟨1, ![1024]⟩
abbrev S1x1024x1024 : Shape := ⟨3, ![1, 1024, 1024]⟩
abbrev S1024x256 : Shape := ⟨2, ![1024, 256]⟩
abbrev S1x4096x256 : Shape := ⟨3, ![1, 4096, 256]⟩
abbrev S_ : Shape := ⟨0, ![]⟩

class Facts : Prop where
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1024 : S_.BroadcastsInDim S1024 (![] : Fin 0 → Fin S1024.rank)
  bcast_S_S1x1024x1024 : S_.BroadcastsInDim S1x1024x1024 (![] : Fin 0 → Fin S1x1024x1024.rank)
  bcast_S_S1024x256 : S_.BroadcastsInDim S1024x256 (![] : Fin 0 → Fin S1024x256.rank)
  bcast_S_S1x4096x256 : S_.BroadcastsInDim S1x4096x256 (![] : Fin 0 → Fin S1x4096x256.rank)

variable [Facts]

def fn_part1 {F : FTy → Type} [FloatOps F] (main_arg6 : FVec F S1x4096x1024 .bf16) (main_arg7 : FVec F S1x4096x256 .bf16) (main_v2 : IVec S1x4096x1024 1) (main_v5 : IVec S1x1024 1) (main_v8 : IVec S1024 1) (main_v11 : IVec S1x1024x1024 1) (main_v14 : IVec S1024x256 1) (main_v17 : IVec S1x4096x1024 1) : IVec S1x4096x1024 1 × IVec S1x1024 1 × IVec S1024 1 × IVec S1x1024x1024 1 × IVec S1024x256 1 × IVec S1x4096x1024 1 × IVec S1x4096x1024 1 × IVec S1x4096x256 1 :=
  let main_v18 : FVec F S1x4096x1024 .bf16 := Host.absf main_arg6
  let main_cst_5 : FVec F S_ .bf16 := constant S_ .bf16 0x7F80#16
  let main_v19 : FVec F S1x4096x1024 .bf16 := broadcastInDim S1x4096x1024 ![] bcast_S_S1x4096x1024 main_cst_5
  let main_v20 : IVec S1x4096x1024 1 := cmpf .olt main_v18 main_v19
  let main_v21 : FVec F S1x4096x256 .bf16 := Host.absf main_arg7
  let main_cst_6 : FVec F S_ .bf16 := constant S_ .bf16 0x7F80#16
  let main_v22 : FVec F S1x4096x256 .bf16 := broadcastInDim S1x4096x256 ![] bcast_S_S1x4096x256 main_cst_6
  let main_v23 : IVec S1x4096x256 1 := cmpf .olt main_v21 main_v22
  (main_v2, main_v5, main_v8, main_v11, main_v14, main_v17, main_v20, main_v23)

def fn {F : FTy → Type} [FloatOps F] (main_arg0 : FVec F S1x4096x1024 .f32) (main_arg1 : FVec F S1x1024 .f32) (main_arg2 : FVec F S1024 .f32) (main_arg3 : FVec F S1x1024x1024 .bf16) (main_arg4 : FVec F S1024x256 .bf16) (main_arg5 : FVec F S1x4096x1024 .f32) (main_arg6 : FVec F S1x4096x1024 .bf16) (main_arg7 : FVec F S1x4096x256 .bf16) : IVec S1x4096x1024 1 × IVec S1x1024 1 × IVec S1024 1 × IVec S1x1024x1024 1 × IVec S1024x256 1 × IVec S1x4096x1024 1 × IVec S1x4096x1024 1 × IVec S1x4096x256 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1x1024x1024 .bf16 := Host.absf main_arg3
  let main_cst_2 : FVec F S_ .bf16 := constant S_ .bf16 0x7F80#16
  let main_v10 : FVec F S1x1024x1024 .bf16 := broadcastInDim S1x1024x1024 ![] bcast_S_S1x1024x1024 main_cst_2
  let main_v11 : IVec S1x1024x1024 1 := cmpf .olt main_v9 main_v10
  let main_v12 : FVec F S1024x256 .bf16 := Host.absf main_arg4
  let main_cst_3 : FVec F S_ .bf16 := constant S_ .bf16 0x7F80#16
  let main_v13 : FVec F S1024x256 .bf16 := broadcastInDim S1024x256 ![] bcast_S_S1024x256 main_cst_3
  let main_v14 : IVec S1024x256 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  fn_part1 (F := F) main_arg6 main_arg7 main_v2 main_v5 main_v8 main_v11 main_v14 main_v17
-- ==== Pre_ffn_finite.lean ====
abbrev S1x4096x1024 : Shape := ⟨3, ![1, 4096, 1024]⟩
abbrev S1024 : Shape := ⟨1, ![1024]⟩
abbrev S1024x5632 : Shape := ⟨2, ![1024, 5632]⟩
abbrev S1x4096x5632 : Shape := ⟨3, ![1, 4096, 5632]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S1x4096x5632 : S_.BroadcastsInDim S1x4096x5632 (![] : Fin 0 → Fin S1x4096x5632.rank)

variable [Facts]

def fn {F : FTy → Type} [FloatOps F] (main_arg0 : FVec F S1x4096x1024 .f32) (main_arg1 : FVec F S1024 .f32) (main_arg2 : FVec F S1024x5632 .bf16) (main_arg3 : FVec F S1x4096x1024 .f32) (main_arg4 : FVec F S1x4096x5632 .bf16) : IVec S1x4096x1024 1 × IVec S1024 1 × IVec S1024x5632 1 × IVec S1x4096x1024 1 × IVec S1x4096x5632 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x5632 .bf16 := Host.absf main_arg2
  let main_cst_1 : FVec F S_ .bf16 := constant S_ .bf16 0x7F80#16
  let main_v7 : FVec F S1024x5632 .bf16 := broadcastInDim S1024x5632 ![] bcast_S_S1024x5632 main_cst_1
  let main_v8 : IVec S1024x5632 1 := cmpf .olt main_v6 main_v7
  let main_v9 : FVec F S1x4096x1024 .f32 := Host.absf main_arg3
  let main_cst_2 : FVec F S_ .f32 := constant S_ .f32 0x7F800000#32
  let main_v10 : FVec F S1x4096x1024 .f32 := broadcastInDim S1x4096x1024 ![] bcast_S_S1x4096x1024 main_cst_2
  let main_v11 : IVec S1x4096x1024 1 := cmpf .olt main_v9 main_v10
  let main_v12 : FVec F S1x4096x5632 .bf16 := Host.absf main_arg4
  let main_cst_3 : FVec F S_ .bf16 := constant S_ .bf16 0x7F80#16
  let main_v13 : FVec F S1x4096x5632 .bf16 := broadcastInDim S1x4096x5632 ![] bcast_S_S1x4096x5632 main_cst_3
  let main_v14 : IVec S1x4096x5632 1 := cmpf .olt main_v12 main_v13
  (main_v2, main_v5, main_v8, main_v11, main_v14)
-- ==== Pre_hgf_finite.lean ====
abbrev S1x4096x4096 : Shape := ⟨3, ![1, 4096, 4096]⟩
abbrev S2x1024 : Shape := ⟨2, ![2, 1024]⟩
abbrev S128 : Shape := ⟨1, ![128]⟩
abbrev S_ : Shape := ⟨0, ![]⟩

class Facts : Prop where
  bcast_S_S1x4096x4096 : S_.BroadcastsInDim S1x4096x4096 (![] : Fin 0 → Fin S1x4096x4096.rank)
  bcast_S_S2x1024 : S_.BroadcastsInDim S2x1024 (![] : Fin 0 → Fin S2x1024.rank)
  bcast_S_S128 : S_.BroadcastsInDim S128 (![] : Fin 0 → Fin S128.rank)

variable [Facts]

def fn {F : FTy → Type} [FloatOps F] (main_arg0 : FVec F S1x4096x4096 .f32) (main_arg1 : FVec F S2x1024 .f32) (main_arg2 : FVec F S128 .f32) : IVec S1x4096x4096 1 × IVec S2x1024 1 × IVec S128 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  let main_v6 : FVec F S128 .f32 := Host.absf main_arg2
  let main_cst_1 : FVec F S_ .f32 := constant S_ .f32 0x7F800000#32
  let main_v7 : FVec F S128 .f32 := broadcastInDim S128 ![] bcast_S_S128 main_cst_1
  let main_v8 : IVec S128 1 := cmpf .olt main_v6 main_v7
  (main_v2, main_v5, main_v8)
-- ==== Pre_loss_finite.lean ====
abbrev S1x4096x1024 : Shape := ⟨3, ![1, 4096, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S1024 : S_.BroadcastsInDim S1024 (![] : Fin 0 → Fin S1024.rank)

variable [Facts]

def fn {F : FTy → Type} [FloatOps F] (main_arg0 : FVec F S1x4096x1024 .f32) (main_arg1 : FVec F S1024 .f32) (main_arg2 : FVec F S1x4096x1024 .f32) : IVec S1x4096x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1x4096x1024 .f32 := Host.absf main_arg2
  let main_cst_1 : FVec F S_ .f32 := constant S_ .f32 0x7F800000#32
  let main_v7 : FVec F S1x4096x1024 .f32 := broadcastInDim S1x4096x1024 ![] bcast_S_S1x4096x1024 main_cst_1
  let main_v8 : IVec S1x4096x1024 1 := cmpf .olt main_v6 main_v7
  (main_v2, main_v5, main_v8)
-- ==== LossHead.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S4096x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S1x1024, .f32⟩
  | .hbm, ⟨8, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S1x4096x1024 : Shape := ⟨3, ![1, 4096, 1024]⟩
abbrev S1024 : Shape := ⟨1, ![1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1x4096x1024, .f32⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S_, .f32⟩
  | .hbm, ⟨26, _⟩ => ⟨S1x4096x1024, .f32⟩
  | .hbm, ⟨27, _⟩ => ⟨S1x4096x1024, .f32⟩
  | .hbm, ⟨28, _⟩ => ⟨S_, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S1x4096, .f32⟩
  | .hbm, ⟨41, _⟩ => ⟨S_, .f32⟩
  | .hbm, ⟨42, _⟩ => ⟨S1x4096, .f32⟩
  | .hbm, ⟨43, _⟩ => ⟨S1x4096, .f32⟩
  | .hbm, ⟨44, _⟩ => ⟨S1x4096x1024, .f32⟩
  | .hbm, ⟨45, _⟩ => ⟨S1x4096x1024, .f32⟩
  | .hbm, ⟨46, _⟩ => ⟨S1x4096x1024, .f32⟩
  | .hbm, ⟨47, _⟩ => ⟨S1x4096x1024, .f32⟩
  | .hbm, ⟨48, _⟩ => ⟨S_, .f32⟩
  | .hbm, ⟨49, _⟩ => ⟨S1x1024, .f32⟩
  | .hbm, ⟨50, _⟩ => ⟨S1x1x1024, .f32⟩
  | .hbm, ⟨51, _⟩ => ⟨S1x4096x1024, .f32⟩
  | .hbm, ⟨52, _⟩ => ⟨S1x4096x1024, .f32⟩
  | .hbm, ⟨53, _⟩ => ⟨S_, .f32⟩
  | .hbm, ⟨54, _⟩ => ⟨S1024, .f32⟩
  | .hbm, ⟨55, _⟩ => ⟨S1x4096x1024, .f32⟩
  | .hbm, ⟨56, _⟩ => ⟨S_, .f32⟩
  | .hbm, ⟨57, _⟩ => ⟨S1x4096, .f32⟩
  | .hbm, ⟨58, _⟩ => ⟨S1x4096x1, .f32⟩
  | .hbm, ⟨59, _⟩ => ⟨S1x4096x1024, .f32⟩
  | .hbm, ⟨60, _⟩ => ⟨S1x4096x1024, .f32⟩
  | .hbm, ⟨61, _⟩ => ⟨S1x4096x1, .f32⟩
  | .hbm, ⟨62, _⟩ => ⟨S_, .f32⟩
  | .hbm, ⟨63, _⟩ => ⟨S1x4096x1, .f32⟩
  | .hbm, ⟨64, _⟩ => ⟨S1x4096x1, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S4096x1024, .f32⟩
  | .hbm, ⟨74, _⟩ => ⟨S1x1024, .f32⟩
  | .hbm, ⟨75, _⟩ => ⟨S1x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== FfnDxn.lean ====
abbrev S1x4096x1024 : Shape := ⟨3, ![1, 4096, 1024]⟩
abbrev S1024 : Shape := ⟨1, ![1024]⟩
abbrev S1024x5632 : Shape := ⟨2, ![1024, 5632]⟩
abbrev S1x4096x5632 : Shape := ⟨3, ![1, 4096, 5632]⟩
abbrev S1024x4x1408 : Shape := ⟨3, ![1024, 4, 1408]⟩
abbrev S4x1024x1408 : Shape := ⟨3, ![4, 1024, 1408]⟩
abbrev S4096x5632 : Shape := ⟨2, ![4096, 5632]⟩
abbrev S4096x4x1408 : Shape := ⟨3, ![4096, 4, 1408]⟩
abbrev S4x4096x1408 : Shape := ⟨3, ![4, 4096, 1408]⟩
abbrev S4096x1024 : Shape := ⟨2, ![4096, 1024]⟩
abbrev S1x1024 : Shape := ⟨2, ![1, 1024]⟩
abbrev S1x1024x1408 : Shape := ⟨3, ![1, 1024, 1408]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .bf16⟩
  | .hbm, ⟨3, _⟩ => ⟨S1x4096x1024, .f32⟩
  | .hbm, ⟨4, _⟩ => ⟨S1x4096x5632, .bf16⟩
  | .hbm, ⟨5, _⟩ => ⟨S1024x4x1408, .bf16⟩
  | .hbm, ⟨6, _⟩ => ⟨S4x1024x1408, .bf16⟩
  | .hbm, ⟨7, _⟩ => ⟨S4096x5632, .bf16⟩
  | .hbm, ⟨8, _⟩ => ⟨S4096x4x1408, .bf16⟩
  | .hbm, ⟨9, _⟩ => ⟨S4x4096x1408, .bf16⟩
  | .hbm, ⟨10, _⟩ => ⟨S4096x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S1x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_13 : BitVec 32 := 0#32
  let v20 : BitVec 1 := Scalar.cmpi .ne v19 c0_i32_13
  v20

def k0_cond2 (i : grid0.Coords) : BitVec 1 :=
  let arg0 : BitVec 32 := BitVec.ofNat 32 (i 0).val
  let c0_i32_10 : BitVec 32 := 0#32
  let v13 : BitVec 1 := Scalar.cmpi .eq arg0 c0_i32_10
  let arg2 : BitVec 32 := BitVec.ofNat 32 (i 2).val
  let c0_i32_11 : BitVec 32 := 0#32
  let v14 : BitVec 1 := Scalar.cmpi .eq arg2 c0_i32_11
  let v15 : BitVec 1 := Scalar.andi v13 v14
  let v16 : BitVec 32 := Scalar.extui v15
  let c0_i32_12 : BitVec 32 := 0#32
  let v17 : BitVec 1 := Scalar.cmpi .ne v16 c0_i32_12
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== FfnDxnRefIdeal.lean ====
abbrev S1x4096x1024 : Shape := ⟨3, ![1, 4096, 1024]⟩
abbrev S1024 : Shape := ⟨1, ![1024]⟩
abbrev S1024x5632 : Shape := ⟨2, ![1024, 5632]⟩
abbrev S1x4096x5632 : Shape := ⟨3, ![1, 4096, 5632]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x1024 : Shape := ⟨2, ![1, 1024]⟩
abbrev S4096 : Shape := ⟨1, ![4096]⟩
abbrev S4096x1024 : Shape := ⟨2, ![4096, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .bf16⟩
  | .hbm, ⟨3, _⟩ => ⟨S1x4096x1024, .f32⟩
  | .hbm, ⟨4, _⟩ => ⟨S1x4096x5632, .bf16⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1024, .f32⟩
  | .hbm, ⟨21, _⟩ => ⟨S1x4096x1024, .f32⟩
  | .hbm, ⟨22, _⟩ => ⟨S1x1x1024, .f32⟩
  | .hbm, ⟨23, _⟩ => ⟨S1x4096x1024, .f32⟩
  | .hbm, ⟨24, _⟩ => ⟨S1x4096x1024, .f32⟩
  | .hbm, ⟨25, _⟩ => ⟨S1024x5632, .f32⟩
  | .hbm, ⟨26, _⟩ => ⟨S1x4096x5632, .f32⟩
  | .hbm, ⟨27, _⟩ => ⟨S1x4096x5632, .f32⟩
  | .hbm, ⟨28, _⟩ => ⟨S1x4096x1024, .f32⟩
  | .hbm, ⟨29, _⟩ => ⟨S1x4096x1024, .f32⟩
  | .hbm, ⟨30, _⟩ => ⟨S_, .f32⟩
  | .hbm, ⟨31, _⟩ => ⟨S1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1024, .f32⟩
  | .hbm, ⟨37, _⟩ => ⟨S1x4096x1024, .f32⟩
  | .hbm, ⟨38, _⟩ => ⟨S_, .f32⟩
  | .hbm, ⟨39, _⟩ => ⟨S1x4096, .f32⟩
  | .hbm, ⟨40, _⟩ => ⟨S1x4096x1, .f32⟩
  | .hbm, ⟨41, _⟩ => ⟨S1x4096x1024, .f32⟩
  | .hbm, ⟨42, _⟩ => ⟨S1x4096x1024, .f32⟩
  | .hbm, ⟨43, _⟩ => ⟨S1x4096x1024, .f32⟩
  | .hbm, ⟨44, _⟩ => ⟨S1x4096x1, .f32⟩
  | .hbm, ⟨45, _⟩ => ⟨S_, .f32⟩
  | .hbm, ⟨46, _⟩ => ⟨S1x4096x1, .f32⟩
  | .hbm, ⟨47, _⟩ => ⟨S1x4096x1, .f32⟩
  | .hbm, ⟨48, _⟩ => ⟨S_, .f32⟩
  | .hbm, ⟨49, _⟩ => ⟨S4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S4096x1024, .f32⟩
  | .hbm, ⟨57, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== AttnDxa.lean ====
abbrev S1x4096x1024 : Shape := ⟨3, ![1, 4096, 1024]⟩
abbrev S1x1024 : Shape := ⟨2, ![1, 1024]⟩
abbrev S1024 : Shape := ⟨1, ![1024]⟩
abbrev S1x1024x1024 : Shape := ⟨3, ![1, 1024, 1024]⟩
abbrev S1024x256 : Shape := ⟨2, ![1024, 256]⟩
abbrev S1x4096x256 : Shape := ⟨3, ![1, 4096, 256]⟩
abbrev S4096x1024 : Shape := ⟨2, ![4096, 1024]⟩
abbrev S4096x256 : Shape := ⟨2, ![4096, 256]⟩
abbrev S1x1024x256 : Shape := ⟨3, ![1, 1024, 256]⟩
abbrev S1024x1024 : Shape := ⟨2, ![1024, 1024]⟩
abbrev S1024x1 : Shape := ⟨2, ![1024, 1]⟩

abbrev nBuf : Space → Nat
  | .hbm => 17
  | .vmem => 17
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024, .f32⟩
  | .hbm, ⟨3, _⟩ => ⟨S1x1024x1024, .bf16⟩
  | .hbm, ⟨4, _⟩ => ⟨S1024x256, .bf16⟩
  | .hbm, ⟨5, _⟩ => ⟨S1x4096x1024, .f32⟩
  | .hbm, ⟨6, _⟩ => ⟨S1x4096x1024, .bf16⟩
  | .hbm, ⟨7, _⟩ => ⟨S1x4096x256, .bf16⟩
  | .hbm, ⟨8, _⟩ => ⟨S4096x1024, .bf16⟩
  | .hbm, ⟨9, _⟩ => ⟨S4096x1024, .f32⟩
  | .hbm, ⟨10, _⟩ => ⟨S4096x1024, .f32⟩
  | .hbm, ⟨11, _⟩ => ⟨S4096x256, .bf16⟩
  | .hbm, ⟨12, _⟩ => ⟨S1x1024x256, .bf16⟩
  | .hbm, ⟨13, _⟩ => ⟨S1x1024, .f32⟩
  | .hbm, ⟨14, _⟩ => ⟨S4096x1024, .f32⟩
  | .hbm, ⟨15, _⟩ => ⟨S1x1024, .f32⟩
  | .hbm, ⟨16, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x256, .bf16⟩
  | .local _ .vmem, ⟨9, _⟩ => ⟨S1024x256, .bf16⟩
  | .local _ .vmem, ⟨10, _⟩ => ⟨S1x1024x256, .bf16⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_12 : BitVec 32 := 0#32
  let v18 : BitVec 1 := Scalar.cmpi .eq arg2 c0_i32_12
  let v19 : BitVec 32 := Scalar.extui v18
  let c0_i32_13 : BitVec 32 := 0#32
  let v20 : BitVec 1 := Scalar.cmpi .ne v19 c0_i32_13
  v20

def k0_cond2 (i : grid0.Coords) : BitVec 1 :=
  let arg0 : BitVec 32 := BitVec.ofNat 32 (i 0).val
  let c0_i32_9 : BitVec 32 := 0#32
  let v13 : BitVec 1 := Scalar.cmpi .eq arg0 c0_i32_9
  let arg2 : BitVec 32 := BitVec.ofNat 32 (i 2).val
  let c0_i32_10 : BitVec 32 := 0#32
  let v14 : BitVec 1 := Scalar.cmpi .eq arg2 c0_i32_10
  let v15 : BitVec 1 := Scalar.andi v13 v14
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== AttnDxaRefIdeal.lean ====
abbrev S1x4096x1024 : Shape := ⟨3, ![1, 4096, 1024]⟩
abbrev S1x1024 : Shape := ⟨2, ![1, 1024]⟩
abbrev S1024 : Shape := ⟨1, ![1024]⟩
abbrev S1x1024x1024 : Shape := ⟨3, ![1, 1024, 1024]⟩
abbrev S1024x256 : Shape := ⟨2, ![1024, 256]⟩
abbrev S1x4096x256 : Shape := ⟨3, ![1, 4096, 256]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1024x1024 : Shape := ⟨2, ![1024, 1024]⟩
abbrev S4096 : Shape := ⟨1, ![4096]⟩
abbrev S4096x1024 : Shape := ⟨2, ![4096, 1024]⟩

abbrev nBuf : Space → Nat
  | .hbm => 115
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x1024, .f32⟩
  | .hbm, ⟨2, _⟩ => ⟨S1024, .f32⟩
  | .hbm, ⟨3, _⟩ => ⟨S1x1024x1024, .bf16⟩
  | .hbm, ⟨4, _⟩ => ⟨S1024x256, .bf16⟩
  | .hbm, ⟨5, _⟩ => ⟨S1x4096x1024, .f32⟩
  | .hbm, ⟨6, _⟩ => ⟨S1x4096x1024, .bf16⟩
  | .hbm, ⟨7, _⟩ => ⟨S1x4096x256, .bf16⟩
  | .hbm, ⟨8, _⟩ => ⟨S1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x1024, .f32⟩
  | .hbm, ⟨25, _⟩ => ⟨S1x4096x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1024x1024, .bf16⟩
  | .hbm, ⟨30, _⟩ => ⟨S1024x1024, .f32⟩
  | .hbm, ⟨31, _⟩ => ⟨S1x4096x1024, .f32⟩
  | .hbm, ⟨32, _⟩ => ⟨S1x4096x1024, .f32⟩
  | .hbm, ⟨33, _⟩ => ⟨S_, .f32⟩
  | .hbm, ⟨34, _⟩ => ⟨S1x4096, .f32⟩
  | .hbm, ⟨35, _⟩ => ⟨S1x4096x1, .f32⟩
  | .hbm, ⟨36, _⟩ => ⟨S_, .f32⟩
  | .hbm, ⟨37, _⟩ => ⟨S1x4096x1, .f32⟩
  | .hbm, ⟨38, _⟩ => ⟨S1x4096x1, .f32⟩
  | .hbm, ⟨39, _⟩ => ⟨S_, .f32⟩
  | .hbm, ⟨40, _⟩ => ⟨S1x4096x1, .f32⟩
  | .hbm, ⟨41, _⟩ => ⟨S1x4096x1, .f32⟩
  | .hbm, ⟨42, _⟩ => ⟨S1x4096x1, .f32⟩
  | .hbm, ⟨43, _⟩ => ⟨S1x4096x1, .f32⟩
  | .hbm, ⟨44, _⟩ => ⟨S_, .f32⟩
  | .hbm, ⟨45, _⟩ => ⟨S1x4096x1, .f32⟩
  | .hbm, ⟨46, _⟩ => ⟨S1x4096x1, .f32⟩
  | .hbm, ⟨47, _⟩ => ⟨S1x4096x1024, .f32⟩
  | .hbm, ⟨48, _⟩ => ⟨S1x4096x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S1024x256, .f32⟩
  | .hbm, ⟨53, _⟩ => ⟨S1x4096x256, .f32⟩
  | .hbm, ⟨54, _⟩ => ⟨S1x4096x1024, .f32⟩
  | .hbm, ⟨55, _⟩ => ⟨S1x4096x256, .f32⟩
  | .hbm, ⟨56, _⟩ => ⟨S1x4096x1024, .f32⟩
  | .hbm, ⟨57, _⟩ => ⟨S1x4096x1024, .f32⟩
  | .hbm, ⟨58, _⟩ => ⟨S_, .f32⟩
  | .hbm, ⟨59, _⟩ => ⟨S1x1024, .f32⟩
  | .hbm, ⟨60, _⟩ => ⟨S1x1x1024, .f32⟩
  | .hbm, ⟨61, _⟩ => ⟨S1x4096x1024, .f32⟩
  | .hbm, ⟨62, _⟩ => ⟨S1x4096x1024, .f32⟩
  | .hbm, ⟨63, _⟩ => ⟨S_, .f32⟩
  | .hbm, ⟨64, _⟩ => ⟨S1024, .f32⟩
  | .hbm, ⟨65, _⟩ => ⟨S1x4096x1024, .f32⟩
  | .hbm, ⟨66, _⟩ => ⟨S_, .f32⟩
  | .hbm, ⟨67, _⟩ => ⟨S1x4096, .f32⟩
  | .hbm, ⟨68, _⟩ => ⟨S1x4096x1, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1, .f32⟩
  | .hbm, ⟨73, _⟩ => ⟨S_, .f32⟩
  | .hbm, ⟨74, _⟩ => ⟨S1x4096x1, .f32⟩
  | .hbm, ⟨75, _⟩ => ⟨S1x4096x1, .f32⟩
  | .hbm, ⟨76, _⟩ => ⟨S_, .f32⟩
  | .hbm, ⟨77, _⟩ => ⟨S4096, .f32⟩
  | .hbm, ⟨78, _⟩ => ⟨S1x4096, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S1x4096x1024, .f32⟩
  | .hbm, ⟨85, _⟩ => ⟨S1x4096x1024, .f32⟩
  | .hbm, ⟨86, _⟩ => ⟨S_, .f32⟩
  | .hbm, ⟨87, _⟩ => ⟨S1x1024, .f32⟩
  | .hbm, ⟨88, _⟩ => ⟨S1x1x1024, .f32⟩
  | .hbm, ⟨89, _⟩ => ⟨S1x4096x1024, .f32⟩
  | .hbm, ⟨90, _⟩ => ⟨S1x4096x1024, .f32⟩
  | .hbm, ⟨91, _⟩ => ⟨S_, .f32⟩
  | .hbm, ⟨92, _⟩ => ⟨S1024, .f32⟩
  | .hbm, ⟨93, _⟩ => ⟨S1x4096x1024, .f32⟩
  | .hbm, ⟨94, _⟩ => ⟨S_, .f32⟩
  | .hbm, ⟨95, _⟩ => ⟨S1x4096, .f32⟩
  | .hbm, ⟨96, _⟩ => ⟨S1x4096x1, .f32⟩
  | .hbm, ⟨97, _⟩ => ⟨S1x4096x1024, .f32⟩
  | .hbm, ⟨98, _⟩ => ⟨S1x4096x1024, .f32⟩
  | .hbm, ⟨99, _⟩ => ⟨S1x4096x1024, .f32⟩
  | .hbm, ⟨100, _⟩ => ⟨S1x4096x1, .f32⟩
  | .hbm, ⟨101, _⟩ => ⟨S_, .f32⟩
  | .hbm, ⟨102, _⟩ => ⟨S1x4096x1, .f32⟩
  | .hbm, ⟨103, _⟩ => ⟨S1x4096x1, .f32⟩
  | .hbm, ⟨104, _⟩ => ⟨S_, .f32⟩
  | .hbm, ⟨105, _⟩ => ⟨S4096, .f32⟩
  | .hbm, ⟨106, _⟩ => ⟨S1x4096, .f32⟩
  | .hbm, ⟨107, _⟩ => ⟨S1x4096x1024, .f32⟩
  | .hbm, ⟨108, _⟩ => ⟨S1x4096x1024, .f32⟩
  | .hbm, ⟨109, _⟩ => ⟨S1x4096x1024, .f32⟩
  | .hbm, ⟨110, _⟩ => ⟨S1x4096x1024, .f32⟩
  | .hbm, ⟨111, _⟩ => ⟨S1x4096x1024, .f32⟩
  | .hbm, ⟨112, _⟩ => ⟨S1x1024, .f32⟩
  | .hbm, ⟨113, _⟩ => ⟨S4096x1024, .f32⟩
  | .hbm, ⟨114, _⟩ => ⟨S1x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_13 : Ref sig .tc := ⟨.hbm, 91, rfl⟩
abbrev main_v69 : Ref sig .tc := ⟨.hbm, 92, rfl⟩
abbrev main_v70 : Ref sig .tc := ⟨.hbm, 93, rfl⟩
abbrev main_cst_14 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_15 : Ref sig .tc := ⟨.hbm, 101, rfl⟩
abbrev main_v77 : Ref sig .tc := ⟨.hbm, 102, rfl⟩
abbrev main_v78 : Ref sig .tc := ⟨.hbm, 103, rfl⟩
abbrev main_cst_16 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩

abbrev nD : Nat := 1
abbrev τ : Topo := Topo.v7x

variable {F : FTy → Type} [FloatOps F]
-- ==== ConvGate.lean ====
abbrev S1x4096x5632 : Shape := ⟨3, ![1, 4096, 5632]⟩
abbrev S3x2816 : Shape := ⟨2, ![3, 2816]⟩
abbrev S2816 : Shape := ⟨1, ![2816]⟩
abbrev S4096x5632 : Shape := ⟨2, ![4096, 5632]⟩
abbrev S1x2816 : Shape := ⟨2, ![1, 2816]⟩
abbrev S4096x2816 : Shape := ⟨2, ![4096, 2816]⟩
abbrev S512x1408 : Shape := ⟨2, ![512, 1408]⟩
abbrev S16x1408 : Shape := ⟨2, ![16, 1408]⟩
abbrev S3x1408 : Shape := ⟨2, ![3, 1408]⟩
abbrev S1x1408 : Shape := ⟨2, ![1, 1408]⟩
abbrev S8x1408 : Shape := ⟨2, ![8, 1408]⟩
abbrev S520x1408 : Shape := ⟨2, ![520, 1408]⟩

abbrev nBuf : Space → Nat
  | .hbm => 7
  | .vmem => 14
  | .smem => 0
  | _ => 0

abbrev bufTy : (tb : Table) → Fin (tcTables nBuf tb) → BufTy
  | .hbm, ⟨0, _⟩ => ⟨S1x4096x5632, .bf16⟩
  | .hbm, ⟨1, _⟩ => ⟨S3x2816, .f32⟩
  | .hbm, ⟨2, _⟩ => ⟨S2816, .f32⟩
  | .hbm, ⟨3, _⟩ => ⟨S4096x5632, .bf16⟩
  | .hbm, ⟨4, _⟩ => ⟨S1x2816, .f32⟩
  | .hbm, ⟨5, _⟩ => ⟨S4096x2816, .bf16⟩
  | .hbm, ⟨6, _⟩ => ⟨S4096x2816, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .bf16⟩
  | .local _ .vmem, ⟨5, _⟩ => ⟨S512x1408, .bf16⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S1x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvGateRefIdeal.lean ====
abbrev S1x4096x5632 : Shape := ⟨3, ![1, 4096, 5632]⟩
abbrev S3x2816 : Shape := ⟨2, ![3, 2816]⟩
abbrev S2816 : Shape := ⟨1, ![2816]⟩
abbrev S1x4096x2816 : Shape := ⟨3, ![1, 4096, 2816]⟩
abbrev S_ : Shape := ⟨0, ![]⟩
abbrev S1x2x2816 : Shape := ⟨3, ![1, 2, 2816]⟩
abbrev S1x4098x2816 : Shape := ⟨3, ![1, 4098, 2816]⟩
abbrev S1x2816 : Shape := ⟨2, ![1, 2816]⟩
abbrev S1x1x2816 : Shape := ⟨3, ![1, 1, 2816]⟩
abbrev S4096x2816 : Shape := ⟨2, ![4096, 2816]⟩

abbrev nBuf : Space → Nat
  | .hbm => 46
  | .vmem => 0
  | .smem => 0
  | _ => 0

abbrev bufTy : (tb : Table) → Fin (tcTables nBuf tb) → BufTy
  | .hbm, ⟨0, _⟩ => ⟨S1x4096x5632, .bf16⟩
  | .hbm, ⟨1, _⟩ => ⟨S3x2816, .f32⟩
  | .hbm, ⟨2, _⟩ => ⟨S2816, .f32⟩
  | .hbm, ⟨3, _⟩ => ⟨S1x4096x5632, .f32⟩
  | .hbm, ⟨4, _⟩ => ⟨S1x4096x2816, .f32⟩
  | .hbm, ⟨5, _⟩ => ⟨S_, .f32⟩
  | .hbm, ⟨6, _⟩ => ⟨S1x2x2816, .f32⟩
  | .hbm, ⟨7, _⟩ => ⟨S1x4098x2816, .f32⟩
  | .hbm, ⟨8, _⟩ => ⟨S1x2816, .f32⟩
  | .hbm, ⟨9, _⟩ => ⟨S2816, .f32⟩
  | .hbm, ⟨10, _⟩ => ⟨S1x4096x2816, .f32⟩
  | .hbm, ⟨11, _⟩ => ⟨S1x1x2816, .f32⟩
  | .hbm, ⟨12, _⟩ => ⟨S1x4096x2816, .f32⟩
  | .hbm, ⟨13, _⟩ => ⟨S1x4096x2816, .f32⟩
  | .hbm, ⟨14, _⟩ => ⟨S1x1x2816, .f32⟩
  | .hbm, ⟨15, _⟩ => ⟨S1x4096x2816, .f32⟩
  | .hbm, ⟨16, _⟩ => ⟨S1x4096x2816, .f32⟩
  | .hbm, ⟨17, _⟩ => ⟨S1x2816, .f32⟩
  | .hbm, ⟨18, _⟩ => ⟨S2816, .f32⟩
  | .hbm, ⟨19, _⟩ => ⟨S1x4096x2816, .f32⟩
  | .hbm, ⟨20, _⟩ => ⟨S1x1x2816, .f32⟩
  | .hbm, ⟨21, _⟩ => ⟨S1x4096x2816, .f32⟩
  | .hbm, ⟨22, _⟩ => ⟨S1x4096x2816, .f32⟩
  | .hbm, ⟨23, _⟩ => ⟨S1x4096x2816, .f32⟩
  | .hbm, ⟨24, _⟩ => ⟨S1x2816, .f32⟩
  | .hbm, ⟨25, _⟩ => ⟨S2816, .f32⟩
  | .hbm, ⟨26, _⟩ => ⟨S1x4096x2816, .f32⟩
  | .hbm, ⟨27, _⟩ => ⟨S1x1x2816, .f32⟩
  | .hbm, ⟨28, _⟩ => ⟨S1x4096x2816, .f32⟩
  | .hbm, ⟨29, _⟩ => ⟨S1x4096x2816, .f32⟩
  | .hbm, ⟨30, _⟩ => ⟨S1x4096x2816, .f32⟩
  | .hbm, ⟨31, _⟩ => ⟨S1x4096x2816, .f32⟩
  | .hbm, ⟨32, _⟩ => ⟨S1x4096x2816, .f32⟩
  | .hbm, ⟨33, _⟩ => ⟨S_, .f32⟩
  | .hbm, ⟨34, _⟩ => ⟨S1x4096x2816, .f32⟩
  | .hbm, ⟨35, _⟩ => ⟨S1x4096x2816, .f32⟩
  | .hbm, ⟨36, _⟩ => ⟨S_, .f32⟩
  | .hbm, ⟨37, _⟩ => ⟨S1x4096x2816, .f32⟩
  | .hbm, ⟨38, _⟩ => ⟨S1x4096x2816, .f32⟩
  | .hbm, ⟨39, _⟩ => ⟨S1x4096x2816, .f32⟩
  | .hbm, ⟨40, _⟩ => ⟨S1x4096x2816, .f32⟩
  | .hbm, ⟨41, _⟩ => ⟨S1x4096x2816, .f32⟩
  | .hbm, ⟨42, _⟩ => ⟨S4096x2816, .f32⟩
  | .hbm, ⟨43, _⟩ => ⟨S4096x2816, .bf16⟩
  | .hbm, ⟨44, _⟩ => ⟨S4096x2816, .f32⟩
  | .hbm, ⟨45, _⟩ => ⟨S4096x2816, .bf16⟩
  | _, _ => ⟨S1x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== ConvGrad.lean ====
abbrev S1x4096x5632 : Shape := ⟨3, ![1, 4096, 5632]⟩
abbrev S3x2816 : Shape := ⟨2, ![3, 2816]⟩
abbrev S2816 : Shape := ⟨1, ![2816]⟩
abbrev S1x4096x2816 : Shape := ⟨3, ![1, 4096, 2816]⟩
abbrev S_ : Shape := ⟨0, ![]⟩
abbrev S1x2x2816 : Shape := ⟨3, ![1, 2, 2816]⟩
abbrev S1x4098x2816 : Shape := ⟨3, ![1, 4098, 2816]⟩
abbrev S1x2816 : Shape := ⟨2, ![1, 2816]⟩
abbrev S1x1x2816 : Shape := ⟨3, ![1, 1, 2816]⟩
abbrev S4096x5632 : Shape := ⟨2, ![4096, 5632]⟩
abbrev S4096x2816 : Shape := ⟨2, ![4096, 2816]⟩
abbrev S2x2x4096x1408 : Shape := ⟨4, ![2, 2, 4096, 1408]⟩
abbrev S512x1408 : Shape := ⟨2, ![512, 1408]⟩
abbrev S3x1408 : Shape := ⟨2, ![3, 1408]⟩
abbrev S2x1x512x1408 : Shape := ⟨4, ![2, 1, 512, 1408]⟩
abbrev S1x1408 : Shape := ⟨2, ![1, 1408]⟩
abbrev S8x1408 : Shape := ⟨2, ![8, 1408]⟩
abbrev S1x1x512x1408 : Shape := ⟨4, ![1, 1, 512, 1408]⟩
abbrev S520x1408 : Shape := ⟨2, ![520, 1408]⟩
abbrev S1408 : Shape := ⟨1, ![1408]⟩

abbrev nBuf : Space → Nat
  | .hbm => 39
  | .vmem => 17
  | .smem => 0
  | _ => 0

abbrev bufTy : (tb : Table) → Fin (tcTables nBuf tb) → BufTy
  | .hbm, ⟨0, _⟩ => ⟨S1x4096x5632, .bf16⟩
  | .hbm, ⟨1, _⟩ => ⟨S3x2816, .f32⟩
  | .hbm, ⟨2, _⟩ => ⟨S2816, .f32⟩
  | .hbm, ⟨3, _⟩ => ⟨S1x4096x2816, .bf16⟩
  | .hbm, ⟨4, _⟩ => ⟨S1x4096x5632, .f32⟩
  | .hbm, ⟨5, _⟩ => ⟨S1x4096x2816, .f32⟩
  | .hbm, ⟨6, _⟩ => ⟨S_, .f32⟩
  | .hbm, ⟨7, _⟩ => ⟨S1x2x2816, .f32⟩
  | .hbm, ⟨8, _⟩ => ⟨S1x4098x2816, .f32⟩
  | .hbm, ⟨9, _⟩ => ⟨S1x2816, .f32⟩
  | .hbm, ⟨10, _⟩ => ⟨S2816, .f32⟩
  | .hbm, ⟨11, _⟩ => ⟨S1x4096x2816, .f32⟩
  | .hbm, ⟨12, _⟩ => ⟨S1x1x2816, .f32⟩
  | .hbm, ⟨13, _⟩ => ⟨S1x4096x2816, .f32⟩
  | .hbm, ⟨14, _⟩ => ⟨S1x4096x2816, .f32⟩
  | .hbm, ⟨15, _⟩ => ⟨S1x1x2816, .f32⟩
  | .hbm, ⟨16, _⟩ => ⟨S1x4096x2816, .f32⟩
  | .hbm, ⟨17, _⟩ => ⟨S1x4096x2816, .f32⟩
  | .hbm, ⟨18, _⟩ => ⟨S1x2816, .f32⟩
  | .hbm, ⟨19, _⟩ => ⟨S2816, .f32⟩
  | .hbm, ⟨20, _⟩ => ⟨S1x4096x2816, .f32⟩
  | .hbm, ⟨21, _⟩ => ⟨S1x1x2816, .f32⟩
  | .hbm, ⟨22, _⟩ => ⟨S1x4096x2816, .f32⟩
  | .hbm, ⟨23, _⟩ => ⟨S1x4096x2816, .f32⟩
  | .hbm, ⟨24, _⟩ => ⟨S1x4096x2816, .f32⟩
  | .hbm, ⟨25, _⟩ => ⟨S1x2816, .f32⟩
  | .hbm, ⟨26, _⟩ => ⟨S2816, .f32⟩
  | .hbm, ⟨27, _⟩ => ⟨S1x4096x2816, .f32⟩
  | .hbm, ⟨28, _⟩ => ⟨S1x1x2816, .f32⟩
  | .hbm, ⟨29, _⟩ => ⟨S1x4096x2816, .f32⟩
  | .hbm, ⟨30, _⟩ => ⟨S1x4096x2816, .f32⟩
  | .hbm, ⟨31, _⟩ => ⟨S1x4096x2816, .f32⟩
  | .hbm, ⟨32, _⟩ => ⟨S1x4096x2816, .bf16⟩
  | .hbm, ⟨33, _⟩ => ⟨S4096x5632, .bf16⟩
  | .hbm, ⟨34, _⟩ => ⟨S4096x2816, .bf16⟩
  | .hbm, ⟨35, _⟩ => ⟨S4096x2816, .bf16⟩
  | .hbm, ⟨36, _⟩ => ⟨S2x2x4096x1408, .bf16⟩
  | .hbm, ⟨37, _⟩ => ⟨S3x2816, .f32⟩
  | .hbm, ⟨38, _⟩ => ⟨S1x2816, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S3x1408, .f32⟩
  | .local _ .vmem, ⟨5, _⟩ => ⟨S3x1408, .f32⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S2x1x512x1408, .bf16⟩
  | .local _ .vmem, ⟨11, _⟩ => ⟨S2x1x512x1408, .bf16⟩
  | .local _ .vmem, ⟨12, _⟩ => ⟨S3x1408, .f32⟩
  | .local _ .vmem, ⟨13, _⟩ => ⟨S3x1408, .f32⟩
  | .local _ .vmem, ⟨14, _⟩ => ⟨S1x1408, .f32⟩
  | .local _ .vmem, ⟨15, _⟩ => ⟨S1x1408, .f32⟩
  | .local _ .vmem, ⟨16, _⟩ => ⟨S8x1408, .f32⟩
  | _, _ => ⟨S1x4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31_0 : Ref sig .tc := ⟨.hbm, 36, rfl⟩
abbrev main_v31_1 : Ref sig .tc := ⟨.hbm, 37, rfl⟩
abbrev main_v31_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_5 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ConvGradRefIdeal.lean ====
abbrev S1x4096x5632 : Shape := ⟨3, ![1, 4096, 5632]⟩
abbrev S3x2816 : Shape := ⟨2, ![3, 2816]⟩
abbrev S2816 : Shape := ⟨1, ![2816]⟩
abbrev S1x4096x2816 : Shape := ⟨3, ![1, 4096, 2816]⟩
abbrev S_ : Shape := ⟨0, ![]⟩
abbrev S1x2x2816 : Shape := ⟨3, ![1, 2, 2816]⟩
abbrev S1x4098x2816 : Shape := ⟨3, ![1, 4098, 2816]⟩
abbrev S1x2816 : Shape := ⟨2, ![1, 2816]⟩
abbrev S1x1x2816 : Shape := ⟨3, ![1, 1, 2816]⟩
abbrev S4096x5632 : Shape := ⟨2, ![4096, 5632]⟩
abbrev S4096x2x2x1408 : Shape := ⟨4, ![4096, 2, 2, 1408]⟩
abbrev S2x2x4096x1408 : Shape := ⟨4, ![2, 2, 4096, 1408]⟩

abbrev nBuf : Space → Nat
  | .hbm => 116
  | .vmem => 0
  | .smem => 0
  | _ => 0

abbrev bufTy : (tb : Table) → Fin (tcTables nBuf tb) → BufTy
  | .hbm, ⟨0, _⟩ => ⟨S1x4096x5632, .bf16⟩
  | .hbm, ⟨1, _⟩ => ⟨S3x2816, .f32⟩
  | .hbm, ⟨2, _⟩ => ⟨S2816, .f32⟩
  | .hbm, ⟨3, _⟩ => ⟨S1x4096x2816, .bf16⟩
  | .hbm, ⟨4, _⟩ => ⟨S1x4096x5632, .f32⟩
  | .hbm, ⟨5, _⟩ => ⟨S1x4096x2816, .f32⟩
  | .hbm, ⟨6, _⟩ => ⟨S_, .f32⟩
  | .hbm, ⟨7, _⟩ => ⟨S1x2x2816, .f32⟩
  | .hbm, ⟨8, _⟩ => ⟨S1x4098x2816, .f32⟩
  | .hbm, ⟨9, _⟩ => ⟨S_, .f32⟩
  | .hbm, ⟨10, _⟩ => ⟨S1x2x2816, .f32⟩
  | .hbm, ⟨11, _⟩ => ⟨S1x2816, .f32⟩
  | .hbm, ⟨12, _⟩ => ⟨S2816, .f32⟩
  | .hbm, ⟨13, _⟩ => ⟨S1x4096x2816, .f32⟩
  | .hbm, ⟨14, _⟩ => ⟨S1x1x2816, .f32⟩
  | .hbm, ⟨15, _⟩ => ⟨S1x4096x2816, .f32⟩
  | .hbm, ⟨16, _⟩ => ⟨S1x4096x2816, .f32⟩
  | .hbm, ⟨17, _⟩ => ⟨S1x1x2816, .f32⟩
  | .hbm, ⟨18, _⟩ => ⟨S1x4096x2816, .f32⟩
  | .hbm, ⟨19, _⟩ => ⟨S1x4096x2816, .f32⟩
  | .hbm, ⟨20, _⟩ => ⟨S1x2816, .f32⟩
  | .hbm, ⟨21, _⟩ => ⟨S2816, .f32⟩
  | .hbm, ⟨22, _⟩ => ⟨S1x4096x2816, .f32⟩
  | .hbm, ⟨23, _⟩ => ⟨S1x1x2816, .f32⟩
  | .hbm, ⟨24, _⟩ => ⟨S1x4096x2816, .f32⟩
  | .hbm, ⟨25, _⟩ => ⟨S1x4096x2816, .f32⟩
  | .hbm, ⟨26, _⟩ => ⟨S1x4096x2816, .f32⟩
  | .hbm, ⟨27, _⟩ => ⟨S1x2816, .f32⟩
  | .hbm, ⟨28, _⟩ => ⟨S2816, .f32⟩
  | .hbm, ⟨29, _⟩ => ⟨S1x4096x2816, .f32⟩
  | .hbm, ⟨30, _⟩ => ⟨S1x1x2816, .f32⟩
  | .hbm, ⟨31, _⟩ => ⟨S1x4096x2816, .f32⟩
  | .hbm, ⟨32, _⟩ => ⟨S1x4096x2816, .f32⟩
  | .hbm, ⟨33, _⟩ => ⟨S1x4096x2816, .f32⟩
  | .hbm, ⟨34, _⟩ => ⟨S1x4096x2816, .f32⟩
  | .hbm, ⟨35, _⟩ => ⟨S1x4096x2816, .f32⟩
  | .hbm, ⟨36, _⟩ => ⟨S_, .f32⟩
  | .hbm, ⟨37, _⟩ => ⟨S1x4096x2816, .f32⟩
  | .hbm, ⟨38, _⟩ => ⟨S1x4096x2816, .f32⟩
  | .hbm, ⟨39, _⟩ => ⟨S_, .f32⟩
  | .hbm, ⟨40, _⟩ => ⟨S1x4096x2816, .f32⟩
  | .hbm, ⟨41, _⟩ => ⟨S1x4096x2816, .f32⟩
  | .hbm, ⟨42, _⟩ => ⟨S_, .f32⟩
  | .hbm, ⟨43, _⟩ => ⟨S1x4096x2816, .f32⟩
  | .hbm, ⟨44, _⟩ => ⟨S1x4096x2816, .f32⟩
  | .hbm, ⟨45, _⟩ => ⟨S1x4096x2816, .f32⟩
  | .hbm, ⟨46, _⟩ => ⟨S1x4096x2816, .f32⟩
  | .hbm, ⟨47, _⟩ => ⟨S1x4096x2816, .f32⟩
  | .hbm, ⟨48, _⟩ => ⟨S1x4096x2816, .f32⟩
  | .hbm, ⟨49, _⟩ => ⟨S1x4096x2816, .f32⟩
  | .hbm, ⟨50, _⟩ => ⟨S1x4096x2816, .f32⟩
  | .hbm, ⟨51, _⟩ => ⟨S1x4096x2816, .f32⟩
  | .hbm, ⟨52, _⟩ => ⟨S_, .f32⟩
  | .hbm, ⟨53, _⟩ => ⟨S1x4096x5632, .f32⟩
  | .hbm, ⟨54, _⟩ => ⟨S1x4096x2816, .f32⟩
  | .hbm, ⟨55, _⟩ => ⟨S1x4096x2816, .f32⟩
  | .hbm, ⟨56, _⟩ => ⟨S1x4096x2816, .f32⟩
  | .hbm, ⟨57, _⟩ => ⟨S1x4096x2816, .f32⟩
  | .hbm, ⟨58, _⟩ => ⟨S1x4096x2816, .f32⟩
  | .hbm, ⟨59, _⟩ => ⟨S1x4096x2816, .f32⟩
  | .hbm, ⟨60, _⟩ => ⟨S1x4096x2816, .f32⟩
  | .hbm, ⟨61, _⟩ => ⟨S_, .f32⟩
  | .hbm, ⟨62, _⟩ => ⟨S1x2816, .f32⟩
  | .hbm, ⟨63, _⟩ => ⟨S1x1x2816, .f32⟩
  | .hbm, ⟨64, _⟩ => ⟨S_, .f32⟩
  | .hbm, ⟨65, _⟩ => ⟨S2816, .f32⟩
  | .hbm, ⟨66, _⟩ => ⟨S_, .f32⟩
  | .hbm, ⟨67, _⟩ => ⟨S1x4098x2816, .f32⟩
  | .hbm, ⟨68, _⟩ => ⟨S1x2816, .f32⟩
  | .hbm, ⟨69, _⟩ => ⟨S_, .f32⟩
  | .hbm, ⟨70, _⟩ => ⟨S3x2816, .f32⟩
  | .hbm, ⟨71, _⟩ => ⟨S1x4096x2816, .f32⟩
  | .hbm, ⟨72, _⟩ => ⟨S1x4096x2816, .f32⟩
  | .hbm, ⟨73, _⟩ => ⟨S1x4096x2816, .f32⟩
  | .hbm, ⟨74, _⟩ => ⟨S_, .f32⟩
  | .hbm, ⟨75, _⟩ => ⟨S1x2816, .f32⟩
  | .hbm, ⟨76, _⟩ => ⟨S1x1x2816, .f32⟩
  | .hbm, ⟨77, _⟩ => ⟨S_, .f32⟩
  | .hbm, ⟨78, _⟩ => ⟨S2816, .f32⟩
  | .hbm, ⟨79, _⟩ => ⟨S_, .f32⟩
  | .hbm, ⟨80, _⟩ => ⟨S1x4098x2816, .f32⟩
  | .hbm, ⟨81, _⟩ => ⟨S1x4098x2816, .f32⟩
  | .hbm, ⟨82, _⟩ => ⟨S1x2816, .f32⟩
  | .hbm, ⟨83, _⟩ => ⟨S_, .f32⟩
  | .hbm, ⟨84, _⟩ => ⟨S3x2816, .f32⟩
  | .hbm, ⟨85, _⟩ => ⟨S3x2816, .f32⟩
  | .hbm, ⟨86, _⟩ => ⟨S_, .f32⟩
  | .hbm, ⟨87, _⟩ => ⟨S1x2816, .f32⟩
  | .hbm, ⟨88, _⟩ => ⟨S1x1x2816, .f32⟩
  | .hbm, ⟨89, _⟩ => ⟨S_, .f32⟩
  | .hbm, ⟨90, _⟩ => ⟨S2816, .f32⟩
  | .hbm, ⟨91, _⟩ => ⟨S1x4096x2816, .f32⟩
  | .hbm, ⟨92, _⟩ => ⟨S1x4096x2816, .f32⟩
  | .hbm, ⟨93, _⟩ => ⟨S1x4096x2816, .f32⟩
  | .hbm, ⟨94, _⟩ => ⟨S_, .f32⟩
  | .hbm, ⟨95, _⟩ => ⟨S1x2816, .f32⟩
  | .hbm, ⟨96, _⟩ => ⟨S1x1x2816, .f32⟩
  | .hbm, ⟨97, _⟩ => ⟨S_, .f32⟩
  | .hbm, ⟨98, _⟩ => ⟨S2816, .f32⟩
  | .hbm, ⟨99, _⟩ => ⟨S_, .f32⟩
  | .hbm, ⟨100, _⟩ => ⟨S1x4098x2816, .f32⟩
  | .hbm, ⟨101, _⟩ => ⟨S1x4098x2816, .f32⟩
  | .hbm, ⟨102, _⟩ => ⟨S1x2816, .f32⟩
  | .hbm, ⟨103, _⟩ => ⟨S_, .f32⟩
  | .hbm, ⟨104, _⟩ => ⟨S3x2816, .f32⟩
  | .hbm, ⟨105, _⟩ => ⟨S3x2816, .f32⟩
  | .hbm, ⟨106, _⟩ => ⟨S1x2x2816, .f32⟩
  | .hbm, ⟨107, _⟩ => ⟨S1x4096x2816, .f32⟩
  | .hbm, ⟨108, _⟩ => ⟨S_, .f32⟩
  | .hbm, ⟨109, _⟩ => ⟨S1x4096x5632, .f32⟩
  | .hbm, ⟨110, _⟩ => ⟨S1x4096x5632, .f32⟩
  | .hbm, ⟨111, _⟩ => ⟨S4096x5632, .f32⟩
  | .hbm, ⟨112, _⟩ => ⟨S4096x2x2x1408, .f32⟩
  | .hbm, ⟨113, _⟩ => ⟨S2x2x4096x1408, .f32⟩
  | .hbm, ⟨114, _⟩ => ⟨S2x2x4096x1408, .bf16⟩
  | .hbm, ⟨115, _⟩ => ⟨S1x2816, .f32⟩
  | _, _ => ⟨S1x4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v28_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v28_1 : Ref sig .tc := ⟨.hbm, 45, rfl⟩
abbrev main_v28_0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_1 : Ref sig .tc := ⟨.hbm, 52, rfl⟩
abbrev main_v34 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_2 : Ref sig .tc := ⟨.hbm, 61, rfl⟩
abbrev main_v39 : Ref sig .tc := ⟨.hbm, 62, rfl⟩
abbrev main_v40 : Ref sig .tc := ⟨.hbm, 63, rfl⟩
abbrev main_cst_3 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_6 : Ref sig .tc := ⟨.hbm, 74, rfl⟩
abbrev main_v48 : Ref sig .tc := ⟨.hbm, 75, rfl⟩
abbrev main_v49 : Ref sig .tc := ⟨.hbm, 76, rfl⟩
abbrev main_cst_7 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_9 : Ref sig .tc := ⟨.hbm, 83, rfl⟩
abbrev main_v54 : Ref sig .tc := ⟨.hbm, 84, rfl⟩
abbrev main_v55 : Ref sig .tc := ⟨.hbm, 85, rfl⟩
abbrev main_cst_10 : Ref sig .tc := ⟨.hbm, 86, rfl⟩
abbrev main_v56 : Ref sig .tc := ⟨.hbm, 87, rfl⟩
abbrev main_v57 : Ref sig .tc := ⟨.hbm, 88, rfl⟩
abbrev main_cst_11 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_12 : Ref sig .tc := ⟨.hbm, 94, rfl⟩
abbrev main_v62 : Ref sig .tc := ⟨.hbm, 95, rfl⟩
abbrev main_v63 : Ref sig .tc := ⟨.hbm, 96, rfl⟩
abbrev main_cst_13 : Ref sig .tc := ⟨.hbm, 97, rfl⟩
abbrev main_v64 : Ref sig .tc := ⟨.hbm, 98, rfl⟩
abbrev main_cst_14 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_15 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_16 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩

abbrev nD : Nat := 1
abbrev τ : Topo := Topo.v7x

variable {F : FTy → Type} [FloatOps F]
-- ==== AttnGrad.lean ====
abbrev S1x4096x1024 : Shape := ⟨3, ![1, 4096, 1024]⟩
abbrev S1x4096x2x64 : Shape := ⟨4, ![1, 4096, 2, 64]⟩
abbrev S16 : Shape := ⟨1, ![16]⟩
abbrev S4096x128 : Shape := ⟨2, ![4096, 128]⟩
abbrev S4096x256 : Shape := ⟨2, ![4096, 256]⟩
abbrev S4096x1024 : Shape := ⟨2, ![4096, 1024]⟩
abbrev S1x128 : Shape := ⟨2, ![1, 128]⟩
abbrev S128x1024 : Shape := ⟨2, ![128, 1024]⟩
abbrev S128x256 : Shape := ⟨2, ![128, 256]⟩
abbrev S128x128 : Shape := ⟨2, ![128, 128]⟩
abbrev S1024x1 : Shape := ⟨2, ![1024, 1]⟩
abbrev S1 : Shape := ⟨1, ![1]⟩
abbrev S1024x128 : Shape := ⟨2, ![1024, 128]⟩
abbrev S1024 : Shape := ⟨1, ![1024]⟩
abbrev S128x1 : Shape := ⟨2, ![128, 1]⟩
abbrev S1x1 : Shape := ⟨2, ![1, 1]⟩

abbrev nBuf : Space → Nat
  | .hbm => 13
  | .vmem => 14
  | .smem => 1
  | _ => 0

abbrev bufTy : (tb : Table) → Fin (tcTables nBuf tb) → BufTy
  | .hbm, ⟨0, _⟩ => ⟨S1x4096x1024, .bf16⟩
  | .hbm, ⟨1, _⟩ => ⟨S1x4096x2x64, .bf16⟩
  | .hbm, ⟨2, _⟩ => ⟨S1x4096x2x64, .bf16⟩
  | .hbm, ⟨3, _⟩ => ⟨S16, .f32⟩
  | .hbm, ⟨4, _⟩ => ⟨S1x4096x1024, .bf16⟩
  | .hbm, ⟨5, _⟩ => ⟨S4096x128, .bf16⟩
  | .hbm, ⟨6, _⟩ => ⟨S4096x128, .bf16⟩
  | .hbm, ⟨7, _⟩ => ⟨S4096x256, .bf16⟩
  | .hbm, ⟨8, _⟩ => ⟨S4096x1024, .bf16⟩
  | .hbm, ⟨9, _⟩ => ⟨S4096x1024, .bf16⟩
  | .hbm, ⟨10, _⟩ => ⟨S4096x1024, .bf16⟩
  | .hbm, ⟨11, _⟩ => ⟨S4096x256, .bf16⟩
  | .hbm, ⟨12, _⟩ => ⟨S1x128, .f32⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x256, .bf16⟩
  | .local _ .vmem, ⟨11, _⟩ => ⟨S128x256, .bf16⟩
  | .local _ .vmem, ⟨12, _⟩ => ⟨S1x128, .f32⟩
  | .local _ .vmem, ⟨13, _⟩ => ⟨S128x256, .f32⟩
  | .local _ .smem, ⟨0, _⟩ => ⟨S16, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![33], ![false]⟩

def k0_cond3 (i : grid0.Coords) : BitVec 1 :=
  let arg0 : BitVec 32 := BitVec.ofNat 32 (i 0).val
  let c32_i32_2 : BitVec 32 := 32#32
  let v6 : BitVec 1 := Scalar.cmpi .slt arg0 c32_i32_2
  let v7 : BitVec 32 := Scalar.extui v6
  let c0_i32_3 : BitVec 32 := 0#32
  let v8 : BitVec 1 := Scalar.cmpi .ne v7 c0_i32_3
  v8

def k0_cond2 (i : grid0.Coords) : BitVec 1 :=
  let arg0 : BitVec 32 := BitVec.ofNat 32 (i 0).val
  let c32_i32 : BitVec 32 := 32#32
  let v3 : BitVec 1 := Scalar.cmpi .eq arg0 c32_i32
  let v4 : BitVec 32 := Scalar.extui v3
  let c0_i32_1 : BitVec 32 := 0#32
  let v5 : BitVec 1 := Scalar.cmpi .ne v4 c0_i32_1
  v5

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== AttnGradIdeal.lean ====
variable {F : FTy → Type} [FloatOps F] [Named F]
def κ : String → Option EReal := fun
  | "mask" => some ⊥
  | _ => none
-- ==== AttnGradRefIdeal.lean ====
abbrev S1x4096x1024 : Shape := ⟨3, ![1, 4096, 1024]⟩
abbrev S1x4096x2x64 : Shape := ⟨4, ![1, 4096, 2, 64]⟩
abbrev S16 : Shape := ⟨1, ![16]⟩
abbrev S1x32x128x2x8x64 : Shape := ⟨6, ![1, 32, 128, 2, 8, 64]⟩
abbrev S1x32x128x2x64 : Shape := ⟨5, ![1, 32, 128, 2, 64]⟩
abbrev S_ : Shape := ⟨0, ![]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x32x1x1x128x256 : Shape := ⟨6, ![1, 32, 1, 1, 128, 256]⟩
abbrev S1x1x2x8x1x1 : Shape := ⟨6, ![1, 1, 2, 8, 1, 1]⟩
abbrev S1x32x2x8x128 : Shape := ⟨5, ![1, 32, 2, 8, 128]⟩
abbrev S1x32x2x8x128x1 : Shape := ⟨6, ![1, 32, 2, 8, 128, 1]⟩
abbrev S1x32x2x64x8x128 : Shape := ⟨6, ![1, 32, 2, 64, 8, 128]⟩
abbrev S1x32x2x64x256 : Shape := ⟨5, ![1, 32, 2, 64, 256]⟩
abbrev S1x2x8x1 : Shape := ⟨4, ![1, 2, 8, 1]⟩
abbrev S32x2x8x128 : Shape := ⟨4, ![32, 2, 8, 128]⟩
abbrev S1x32x2x128x8x64 : Shape := ⟨6, ![1, 32, 2, 128, 8, 64]⟩
abbrev S1x32x2x256x64 : Shape := ⟨5, ![1, 32, 2, 256, 64]⟩
abbrev S4096x128 : Shape := ⟨2, ![4096, 128]⟩
abbrev S4096x256 : Shape := ⟨2, ![4096, 256]⟩
abbrev S1x16 : Shape := ⟨2, ![1, 16]⟩
abbrev S1x112 : Shape := ⟨2, ![1, 112]⟩
abbrev S1x128 : Shape := ⟨2, ![1, 128]⟩
abbrev S4096x1024 : Shape := ⟨2, ![4096, 1024]⟩

abbrev nBuf : Space → Nat
  | .hbm => 260
  | .vmem => 0
  | .smem => 0
  | _ => 0

abbrev hbmTy0_0 (i : Nat) : BufTy := match i % 128 with
  | 0 => ⟨S1x4096x1024, .bf16⟩
  | 1 => ⟨S1x4096x2x64, .bf16⟩
  | 2 => ⟨S1x4096x2x64, .bf16⟩
  | 3 => ⟨S16, .f32⟩
  | 4 => ⟨S1x4096x1024, .bf16⟩
  | 5 => ⟨S1x4096x1024, .f32⟩
  | 6 => ⟨S1x4096x2x64, .f32⟩
  | 7 => ⟨S1x4096x2x64, .f32⟩
  | 8 => ⟨S1x32x128x2x8x64, .f32⟩
  | 9 => ⟨S1x32x128x2x64, .f32⟩
  | 10 => ⟨S_, .f32⟩
  | 11 => ⟨S1x1x128x2x64, .f32⟩
  | 12 => ⟨S1x31x128x2x64, .f32⟩
  | 13 => ⟨S1x32x128x2x64, .f32⟩
  | 14 => ⟨S_, .f32⟩
  | 15 => ⟨S1x1x128x2x64, .f32⟩
  | 16 => ⟨S1x32x256x2x64, .f32⟩
  | 17 => ⟨S1x32x128x2x64, .f32⟩
  | 18 => ⟨S_, .f32⟩
  | 19 => ⟨S1x1x128x2x64, .f32⟩
  | 20 => ⟨S1x31x128x2x64, .f32⟩
  | 21 => ⟨S1x32x128x2x64, .f32⟩
  | 22 => ⟨S_, .f32⟩
  | 23 => ⟨S1x1x128x2x64, .f32⟩
  | 24 => ⟨S1x32x256x2x64, .f32⟩
  | 25 => ⟨S1x32x2x256x128x8, .f32⟩
  | 26 => ⟨S1x32x2x8x128x256, .f32⟩
  | 27 => ⟨S_, .f32⟩
  | 28 => ⟨S1x32x2x8x128x256, .f32⟩
  | 29 => ⟨S1x32x2x8x128x256, .f32⟩
  | 30 => ⟨S128, .i32⟩
  | 31 => ⟨S128x1, .i32⟩
  | 32 => ⟨S_, .i32⟩
  | 33 => ⟨S128x1, .i32⟩
  | 34 => ⟨S128x1, .i32⟩
  | 35 => ⟨S256, .i32⟩
  | 36 => ⟨S1x256, .i32⟩
  | 37 => ⟨S128x256, .i32⟩
  | 38 => ⟨S128x256, .i32⟩
  | 39 => ⟨S128x256, .i32⟩
  | 40 => ⟨S32, .i32⟩
  | 41 => ⟨S_, .i32⟩
  | 42 => ⟨S32, .i32⟩
  | 43 => ⟨S32, .i32⟩
  | 44 => ⟨S32x1, .i32⟩
  | 45 => ⟨S256, .i32⟩
  | 46 => ⟨S1x256, .i32⟩
  | 47 => ⟨S32x256, .i32⟩
  | 48 => ⟨S32x256, .i32⟩
  | 49 => ⟨S32x256, .i32⟩
  | 50 => ⟨S_, .i32⟩
  | 51 => ⟨S32x256, .i32⟩
  | 52 => ⟨S32x256, .i32⟩
  | 53 => ⟨S_, .i32⟩
  | 54 => ⟨S128x256, .i32⟩
  | 55 => ⟨S128x256, .i1⟩
  | 56 => ⟨S_, .i32⟩
  | 57 => ⟨S128x256, .i32⟩
  | 58 => ⟨S128x256, .i1⟩
  | 59 => ⟨S128x256, .i1⟩
  | 60 => ⟨S1x128x256, .i1⟩
  | 61 => ⟨S_, .i32⟩
  | 62 => ⟨S32x256, .i32⟩
  | 63 => ⟨S32x256, .i1⟩
  | 64 => ⟨S32x1x256, .i1⟩
  | 65 => ⟨S32x128x256, .i1⟩
  | 66 => ⟨S32x128x256, .i1⟩
  | 67 => ⟨S32x128x256, .i1⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S1, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S1, .f32⟩
  | 92 => ⟨S1, .f32⟩
  | 93 => ⟨S1, .f32⟩
  | 94 => ⟨S1, .f32⟩
  | 95 => ⟨S1, .f32⟩
  | 96 => ⟨S1, .f32⟩
  | 97 => ⟨S1, .f32⟩
  | 98 => ⟨S1, .f32⟩
  | 99 => ⟨S1, .f32⟩
  | 100 => ⟨S16, .f32⟩
  | 101 => ⟨S2x8, .f32⟩
  | 102 => ⟨S2x8x1x1, .f32⟩
  | 103 => ⟨S128x256, .f32⟩
  | 104 => ⟨S1x1x128x256, .f32⟩
  | 105 => ⟨S2x8x128x256, .f32⟩
  | 106 => ⟨S2x8x128x256, .f32⟩
  | 107 => ⟨S2x8x128x256, .f32⟩
  | 108 => ⟨S1x1x2x8x128x256, .f32⟩
  | 109 => ⟨S1x32x2x8x128x256, .f32⟩
  | 110 => ⟨S1x32x2x8x128x256, .f32⟩
  | 111 => ⟨S1x32x1x1x128x256, .i1⟩
  | 112 => ⟨S_, .f32⟩
  | 113 => ⟨S_, .f32⟩
  | 114 => ⟨S1x32x2x8x128x256, .i1⟩
  | 115 => ⟨S1x32x2x8x128x256, .f32⟩
  | 116 => ⟨S1x32x2x8x128x256, .f32⟩
  | 117 => ⟨S_, .f32⟩
  | 118 => ⟨S1x32x2x8x128x256, .f32⟩
  | 119 => ⟨S2x8, .f32⟩
  | 120 => ⟨S1x1x2x8x1x1, .f32⟩
  | 121 => ⟨S_, .f32⟩
  | 122 => ⟨S1x32x2x8x128, .f32⟩
  | 123 => ⟨S1x32x2x8x128x1, .f32⟩
  | 124 => ⟨S1x32x2x8x128x256, .f32⟩
  | 125 => ⟨S1x32x2x8x128x256, .i1⟩
  | 126 => ⟨S1x32x2x8x128x256, .f32⟩
  | 127 => ⟨S_, .f32⟩
  | _ => ⟨S1x4096x1024, .bf16⟩

abbrev hbmTy0_1 (i : Nat) : BufTy := match i % 128 with
  | 0 => ⟨S1x32x2x8x128, .f32⟩
  | 1 => ⟨S1x32x2x8x128x1, .f32⟩
  | 2 => ⟨S1x32x2x8x128x1, .f32⟩
  | 3 => ⟨S1x32x2x8x128x1, .f32⟩
  | 4 => ⟨S1x32x2x8x128x1, .f32⟩
  | 5 => ⟨S1x32x2x8x128x1, .i1⟩
  | 6 => ⟨S1x32x2x8x128x1, .f32⟩
  | 7 => ⟨S1x32x2x8x128x1, .i1⟩
  | 8 => ⟨S_, .f32⟩
  | 9 => ⟨S1x32x2x8x128x1, .f32⟩
  | 10 => ⟨S_, .f32⟩
  | 11 => ⟨S1x32x2x8x128x1, .f32⟩
  | 12 => ⟨S_, .f32⟩
  | 13 => ⟨S1x32x2x8x128x1, .f32⟩
  | 14 => ⟨S1x32x2x8x128x1, .f32⟩
  | 15 => ⟨S1x32x2x8x128x1, .f32⟩
  | 16 => ⟨S1x32x2x8x128x1, .f32⟩
  | 17 => ⟨S1x32x2x8x128x1, .i1⟩
  | 18 => ⟨S1x32x2x8x128x1, .f32⟩
  | 19 => ⟨S1x32x2x8x128x1, .i1⟩
  | 20 => ⟨S_, .f32⟩
  | 21 => ⟨S1x32x2x8x128x1, .f32⟩
  | 22 => ⟨S_, .f32⟩
  | 23 => ⟨S1x32x2x8x128x1, .f32⟩
  | 24 => ⟨S_, .f32⟩
  | 25 => ⟨S1x32x2x8x128x1, .f32⟩
  | 26 => ⟨S1x32x2x8x128x1, .f32⟩
  | 27 => ⟨S1x32x2x8x128x1, .f32⟩
  | 28 => ⟨S1x32x2x8x128x256, .f32⟩
  | 29 => ⟨S1x32x2x8x128x256, .f32⟩
  | 30 => ⟨S1x32x2x8x128x256, .f32⟩
  | 31 => ⟨S_, .f32⟩
  | 32 => ⟨S1x32x2x8x128, .f32⟩
  | 33 => ⟨S1x32x2x8x128x1, .f32⟩
  | 34 => ⟨S1x32x2x8x128x1, .f32⟩
  | 35 => ⟨S1x32x2x8x128x1, .f32⟩
  | 36 => ⟨S1x32x2x8x128x1, .f32⟩
  | 37 => ⟨S1x32x2x8x128x1, .f32⟩
  | 38 => ⟨S1x32x2x8x128x256, .f32⟩
  | 39 => ⟨S1x32x2x8x128x256, .f32⟩
  | 40 => ⟨S1x32x2x8x128x1, .f32⟩
  | 41 => ⟨S_, .f32⟩
  | 42 => ⟨S1x32x2x8x128x1, .f32⟩
  | 43 => ⟨S1x32x2x8x128x1, .f32⟩
  | 44 => ⟨S1x32x2x64x8x128, .f32⟩
  | 45 => ⟨S1x32x128x2x8x64, .f32⟩
  | 46 => ⟨S1x4096x1024, .f32⟩
  | 47 => ⟨S1x4096x1024, .f32⟩
  | 48 => ⟨S1x32x128x2x8x64, .f32⟩
  | 49 => ⟨S1x32x2x64x8x128, .f32⟩
  | 50 => ⟨S1x32x2x8x128x256, .f32⟩
  | 51 => ⟨S1x32x2x64x256, .f32⟩
  | 52 => ⟨S1x32x256x2x64, .f32⟩
  | 53 => ⟨S1x32x2x8x128x256, .f32⟩
  | 54 => ⟨S1x32x2x8x128x256, .f32⟩
  | 55 => ⟨S1x32x2x8x128x256, .f32⟩
  | 56 => ⟨S_, .f32⟩
  | 57 => ⟨S1x32x2x8x128, .f32⟩
  | 58 => ⟨S1x32x2x8x128x1, .f32⟩
  | 59 => ⟨S1x32x2x8x128x1, .f32⟩
  | 60 => ⟨S1x32x2x8x128x256, .f32⟩
  | 61 => ⟨S1x32x2x8x128x256, .f32⟩
  | 62 => ⟨S1x32x2x8x128x1, .f32⟩
  | 63 => ⟨S_, .f32⟩
  | 64 => ⟨S1x2x8x1, .f32⟩
  | 65 => ⟨S1x1x2x8x1x1, .f32⟩
  | 66 => ⟨S1x32x2x8x128x1, .f32⟩
  | 67 => ⟨S_, .f32⟩
  | 68 => ⟨S32x2x8x128, .f32⟩
  | 69 => ⟨S1x32x2x8x128, .f32⟩
  | 70 => ⟨S1x32x2x8x128x256, .f32⟩
  | 71 => ⟨S1x32x2x8x128x256, .f32⟩
  | 72 => ⟨S1x32x2x8x128x256, .f32⟩
  | 73 => ⟨S1x32x2x8x128x256, .f32⟩
  | 74 => ⟨S_, .f32⟩
  | 75 => ⟨S1x32x2x8x128, .f32⟩
  | 76 => ⟨S1x32x2x8x128x1, .f32⟩
  | 77 => ⟨S1x32x2x8x128x1, .f32⟩
  | 78 => ⟨S1x32x2x8x128x1, .f32⟩
  | 79 => ⟨S_, .f32⟩
  | 80 => ⟨S1x2x8x1, .f32⟩
  | 81 => ⟨S1x1x2x8x1x1, .f32⟩
  | 82 => ⟨S1x1x2x8x1x1, .f32⟩
  | 83 => ⟨S1x32x2x8x128x1, .f32⟩
  | 84 => ⟨S_, .f32⟩
  | 85 => ⟨S32x2x8x128, .f32⟩
  | 86 => ⟨S1x32x2x8x128, .f32⟩
  | 87 => ⟨S1x32x2x8x128, .f32⟩
  | 88 => ⟨S1x32x2x8x128x256, .f32⟩
  | 89 => ⟨S1x32x2x8x128x256, .f32⟩
  | 90 => ⟨S1x32x2x8x128x256, .f32⟩
  | 91 => ⟨S_, .f32⟩
  | 92 => ⟨S2x8, .f32⟩
  | 93 => ⟨S16, .f32⟩
  | 94 => ⟨S_, .f32⟩
  | 95 => ⟨S1x32x2x8x128x256, .f32⟩
  | 96 => ⟨S1x32x2x8x128x256, .f32⟩
  | 97 => ⟨S_, .f32⟩
  | 98 => ⟨S1x32x2x8x128x256, .f32⟩
  | 99 => ⟨S1x32x2x8x128x256, .f32⟩
  | 100 => ⟨S1x32x2x256x128x8, .f32⟩
  | 101 => ⟨S1x32x2x128x8x64, .f32⟩
  | 102 => ⟨S1x32x128x2x8x64, .f32⟩
  | 103 => ⟨S1x32x2x256x64, .f32⟩
  | 104 => ⟨S1x32x256x2x64, .f32⟩
  | 105 => ⟨S1x32x128x2x64, .f32⟩
  | 106 => ⟨S1x32x128x2x64, .f32⟩
  | 107 => ⟨S1x1x128x2x64, .f32⟩
  | 108 => ⟨S1x31x128x2x64, .f32⟩
  | 109 => ⟨S_, .f32⟩
  | 110 => ⟨S1x32x128x2x64, .f32⟩
  | 111 => ⟨S1x32x128x2x64, .f32⟩
  | 112 => ⟨S1x4096x2x64, .f32⟩
  | 113 => ⟨S1x32x128x2x64, .f32⟩
  | 114 => ⟨S1x32x128x2x64, .f32⟩
  | 115 => ⟨S1x1x128x2x64, .f32⟩
  | 116 => ⟨S1x31x128x2x64, .f32⟩
  | 117 => ⟨S_, .f32⟩
  | 118 => ⟨S1x32x128x2x64, .f32⟩
  | 119 => ⟨S1x32x128x2x64, .f32⟩
  | 120 => ⟨S1x4096x2x64, .f32⟩
  | 121 => ⟨S1x4096x1024, .f32⟩
  | 122 => ⟨S4096x128, .f32⟩
  | 123 => ⟨S4096x128, .f32⟩
  | 124 => ⟨S4096x256, .f32⟩
  | 125 => ⟨S1x16, .f32⟩
  | 126 => ⟨S_, .f32⟩
  | 127 => ⟨S1x112, .f32⟩
  | _ => ⟨S1x4096x1024, .bf16⟩

abbrev hbmTy0_2 (i : Nat) : BufTy := match i % 128 with
  | 0 => ⟨S1x128, .f32⟩
  | 1 => ⟨S4096x1024, .f32⟩
  | 2 => ⟨S4096x1024, .bf16⟩
  | 3 => ⟨S4096x256, .bf16⟩
  | _ => ⟨S1x4096x1024, .bf16⟩

abbrev hbmTy (i : Nat) : BufTy := match i / 128 with
  | 0 => hbmTy0_0 i
  | 1 => hbmTy0_1 i
  | 2 => hbmTy0_2 i
  | _ => ⟨S1x4096x1024, .bf16⟩

abbrev bufTy : (tb : Table) → Fin (tcTables nBuf tb) → BufTy
  | .hbm, ⟨i, _⟩ => hbmTy i
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_c_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_c_5 : Ref sig .tc := ⟨.hbm, 50, rfl⟩
abbrev main_v38 : Ref sig .tc := ⟨.hbm, 51, rfl⟩
abbrev main_v39 : Ref sig .tc := ⟨.hbm, 52, rfl⟩
abbrev main_c_6 : Ref sig .tc := ⟨.hbm, 53, rfl⟩
abbrev main_v40 : Ref sig .tc := ⟨.hbm, 54, rfl⟩
abbrev main_v41 : Ref sig .tc := ⟨.hbm, 55, rfl⟩
abbrev main_c_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_c_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_cst_10 : Ref sig .tc := ⟨.hbm, 69, rfl⟩
abbrev main_cst_11 : Ref sig .tc := ⟨.hbm, 70, rfl⟩
abbrev main_cst_12 : Ref sig .tc := ⟨.hbm, 71, rfl⟩
abbrev main_cst_13 : Ref sig .tc := ⟨.hbm, 72, rfl⟩
abbrev main_cst_14 : Ref sig .tc := ⟨.hbm, 73, rfl⟩
abbrev main_cst_15 : Ref sig .tc := ⟨.hbm, 74, rfl⟩
abbrev main_cst_16 : Ref sig .tc := ⟨.hbm, 75, rfl⟩
abbrev main_cst_17 : Ref sig .tc := ⟨.hbm, 76, rfl⟩
abbrev main_cst_18 : Ref sig .tc := ⟨.hbm, 77, rfl⟩
abbrev main_cst_19 : Ref sig .tc := ⟨.hbm, 78, rfl⟩
abbrev main_cst_20 : Ref sig .tc := ⟨.hbm, 79, rfl⟩
abbrev main_cst_21 : Ref sig .tc := ⟨.hbm, 80, rfl⟩
abbrev main_cst_22 : Ref sig .tc := ⟨.hbm, 81, rfl⟩
abbrev main_cst_23 : Ref sig .tc := ⟨.hbm, 82, rfl⟩
abbrev main_cst_24 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_25 : Ref sig .tc := ⟨.hbm, 112, rfl⟩
abbrev main_call0_v0 : Ref sig .tc := ⟨.hbm, 113, rfl⟩
abbrev main_v80_1 : Ref sig .tc := ⟨.hbm, 114, rfl⟩
abbrev main_call0_v2 : Ref sig .tc := ⟨.hbm, 115, rfl⟩
abbrev main_v80_0 : Ref sig .tc := ⟨.hbm, 116, rfl⟩
abbrev main_call0_cst : Ref sig .tc := ⟨.hbm, 117, rfl⟩
abbrev main_v80_2 : Ref sig .tc := ⟨.hbm, 118, rfl⟩
abbrev main_v81 : Ref sig .tc := ⟨.hbm, 119, rfl⟩
abbrev main_v82 : Ref sig .tc := ⟨.hbm, 120, rfl⟩
abbrev main_cst_26 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_27 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_28 : Ref sig .tc := ⟨.hbm, 136, rfl⟩
abbrev main_v96 : Ref sig .tc := ⟨.hbm, 137, rfl⟩
abbrev main_cst_29 : Ref sig .tc := ⟨.hbm, 138, rfl⟩
abbrev main_v97 : Ref sig .tc := ⟨.hbm, 139, rfl⟩
abbrev main_cst_30 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_cst_31 : Ref sig .tc := ⟨.hbm, 148, rfl⟩
abbrev main_v105 : Ref sig .tc := ⟨.hbm, 149, rfl⟩
abbrev main_cst_32 : Ref sig .tc := ⟨.hbm, 150, rfl⟩
abbrev main_v106 : Ref sig .tc := ⟨.hbm, 151, rfl⟩
abbrev main_cst_33 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_cst_34 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_35 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_cst_36 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_cst_37 : Ref sig .tc := ⟨.hbm, 191, rfl⟩
abbrev main_v142 : Ref sig .tc := ⟨.hbm, 192, rfl⟩
abbrev main_v143 : Ref sig .tc := ⟨.hbm, 193, rfl⟩
abbrev main_v144 : Ref sig .tc := ⟨.hbm, 194, rfl⟩
abbrev main_cst_38 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_cst_39 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_cst_40 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_cst_41 : Ref sig .tc := ⟨.hbm, 212, rfl⟩
abbrev main_v159 : Ref sig .tc := ⟨.hbm, 213, rfl⟩
abbrev main_v160 : Ref sig .tc := ⟨.hbm, 214, rfl⟩
abbrev main_v161 : Ref sig .tc := ⟨.hbm, 215, rfl⟩
abbrev main_v162 : Ref sig .tc := ⟨.hbm, 216, rfl⟩
abbrev main_v163 : Ref sig .tc := ⟨.hbm, 217, rfl⟩
abbrev main_v164 : Ref sig .tc := ⟨.hbm, 218, rfl⟩
abbrev main_cst_42 : Ref sig .tc := ⟨.hbm, 219, rfl⟩
abbrev main_v165 : Ref sig .tc := ⟨.hbm, 220, rfl⟩
abbrev main_v166 : Ref sig .tc := ⟨.hbm, 221, rfl⟩
abbrev main_call1_cst : Ref sig .tc := ⟨.hbm, 222, rfl⟩
abbrev main_call1_v0 : Ref sig .tc := ⟨.hbm, 223, rfl⟩
abbrev main_v167 : Ref sig .tc := ⟨.hbm, 224, rfl⟩
abbrev main_cst_43 : Ref sig .tc := ⟨.hbm, 225, rfl⟩
abbrev main_v168 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_cst_44 : Ref sig .tc := ⟨.hbm, 237, rfl⟩
abbrev main_v179 : Ref sig .tc := ⟨.hbm, 238, rfl⟩
abbrev main_v180 : Ref sig .tc := ⟨.hbm, 239, rfl⟩
abbrev main_v181 : Ref sig .tc := ⟨.hbm, 240, rfl⟩
abbrev main_v182 : Ref sig .tc := ⟨.hbm, 241, rfl⟩
abbrev main_v183 : Ref sig .tc := ⟨.hbm, 242, rfl⟩
abbrev main_v184 : Ref sig .tc := ⟨.hbm, 243, rfl⟩
abbrev main_v185 : Ref sig .tc := ⟨.hbm, 244, rfl⟩
abbrev main_cst_45 : Ref sig .tc := ⟨.hbm, 245, rfl⟩
abbrev main_v186 : Ref sig .tc := ⟨.hbm, 246, rfl⟩
abbrev main_v187 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_cst_46 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩

abbrev nD : Nat := 1
abbrev τ : Topo := Topo.v7x

variable {F : FTy → Type} [FloatOps F]
-- ==== AttnMix.lean ====
abbrev S1x4096x1024 : Shape := ⟨3, ![1, 4096, 1024]⟩
abbrev S1x4096x2x64 : Shape := ⟨4, ![1, 4096, 2, 64]⟩
abbrev S16 : Shape := ⟨1, ![16]⟩
abbrev S4096x128 : Shape := ⟨2, ![4096, 128]⟩
abbrev S4096x256 : Shape := ⟨2, ![4096, 256]⟩
abbrev S4096x1024 : Shape := ⟨2, ![4096, 1024]⟩
abbrev S128x1024 : Shape := ⟨2, ![128, 1024]⟩
abbrev S128x256 : Shape := ⟨2, ![128, 256]⟩
abbrev S128x128 : Shape := ⟨2, ![128, 128]⟩
abbrev S1024x1 : Shape := ⟨2, ![1024, 1]⟩
abbrev S1 : Shape := ⟨1, ![1]⟩
abbrev S1024x128 : Shape := ⟨2, ![1024, 128]⟩
abbrev S1024 : Shape := ⟨1, ![1024]⟩

abbrev nBuf : Space → Nat
  | .hbm => 9
  | .vmem => 8
  | .smem => 1
  | _ => 0

abbrev bufTy : (tb : Table) → Fin (tcTables nBuf tb) → BufTy
  | .hbm, ⟨0, _⟩ => ⟨S1x4096x1024, .bf16⟩
  | .hbm, ⟨1, _⟩ => ⟨S1x4096x2x64, .bf16⟩
  | .hbm, ⟨2, _⟩ => ⟨S1x4096x2x64, .bf16⟩
  | .hbm, ⟨3, _⟩ => ⟨S16, .f32⟩
  | .hbm, ⟨4, _⟩ => ⟨S4096x128, .bf16⟩
  | .hbm, ⟨5, _⟩ => ⟨S4096x128, .bf16⟩
  | .hbm, ⟨6, _⟩ => ⟨S4096x256, .bf16⟩
  | .hbm, ⟨7, _⟩ => ⟨S4096x1024, .bf16⟩
  | .hbm, ⟨8, _⟩ => ⟨S4096x1024, .bf16⟩
  | .local _ .vmem, ⟨0, _⟩ => ⟨S128x1024, .bf16⟩
  | .local _ .vmem, ⟨1, _⟩ => ⟨S128x1024, .bf16⟩
  | .local _ .vmem, ⟨2, _⟩ => ⟨S128x256, .bf16⟩
  | .local _ .vmem, ⟨3, _⟩ => ⟨S128x256, .bf16⟩
  | .local _ .vmem, ⟨4, _⟩ => ⟨S128x256, .bf16⟩
  | .local _ .vmem, ⟨5, _⟩ => ⟨S128x256, .bf16⟩
  | .local _ .vmem, ⟨6, _⟩ => ⟨S128x1024, .bf16⟩
  | .local _ .vmem, ⟨7, _⟩ => ⟨S128x1024, .bf16⟩
  | .local _ .smem, ⟨0, _⟩ => ⟨S16, .f32⟩
  | _, _ => ⟨S1x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AttnMixIdeal.lean ====
variable {F : FTy → Type} [FloatOps F] [Named F]
def κ : String → Option EReal := fun
  | "mask" => some ⊥
  | _ => none
-- ==== AttnMixRefIdeal.lean ====
abbrev S1x4096x1024 : Shape := ⟨3, ![1, 4096, 1024]⟩
abbrev S1x4096x2x64 : Shape := ⟨4, ![1, 4096, 2, 64]⟩
abbrev S16 : Shape := ⟨1, ![16]⟩
abbrev S1x32x128x2x8x64 : Shape := ⟨6, ![1, 32, 128, 2, 8, 64]⟩
abbrev S1x32x128x2x64 : Shape := ⟨5, ![1, 32, 128, 2, 64]⟩
abbrev S_ : Shape := ⟨0, ![]⟩
abbrev S1x1x128x2x64 : Shape := ⟨5, ![1, 1, 128, 2, 64]⟩
abbrev S1x31x128x2x64 : Shape := ⟨5, ![1, 31, 128, 2, 64]⟩
abbrev S1x32x256x2x64 : Shape := ⟨5, ![1, 32, 256, 2, 64]⟩
abbrev S1x32x2x256x128x8 : Shape := ⟨6, ![1, 32, 2, 256, 128, 8]⟩
abbrev S1x32x2x8x128x256 : Shape := ⟨6, ![1, 32, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1 : Shape := ⟨2, ![32, 1]⟩
abbrev S32x256 : Shape := ⟨2, ![32, 256]⟩
abbrev S1x128x256 : Shape := ⟨3, ![1, 128, 256]⟩
abbrev S32x1x256 : Shape := ⟨3, ![32, 1, 256]⟩
abbrev S32x128x256 : Shape := ⟨3, ![32, 128, 256]⟩
abbrev S1 : Shape := ⟨1, ![1]⟩
abbrev S2x8 : Shape := ⟨2, ![2, 8]⟩
abbrev S2x8x1x1 : Shape := ⟨4, ![2, 8, 1, 1]⟩
abbrev S1x1x128x256 : Shape := ⟨4, ![1, 1, 128, 256]⟩
abbrev S2x8x128x256 : Shape := ⟨4, ![2, 8, 128, 256]⟩
abbrev S1x1x2x8x128x256 : Shape := ⟨6, ![1, 1, 2, 8, 128, 256]⟩
abbrev S1x32x1x1x128x256 : Shape := ⟨6, ![1, 32, 1, 1, 128, 256]⟩
abbrev S1x1x2x8x1x1 : Shape := ⟨6, ![1, 1, 2, 8, 1, 1]⟩
abbrev S1x32x2x8x128 : Shape := ⟨5, ![1, 32, 2, 8, 128]⟩
abbrev S1x32x2x8x128x1 : Shape := ⟨6, ![1, 32, 2, 8, 128, 1]⟩
abbrev S1x32x2x64x8x128 : Shape := ⟨6, ![1, 32, 2, 64, 8, 128]⟩
abbrev S4096x1024 : Shape := ⟨2, ![4096, 1024]⟩

abbrev nBuf : Space → Nat
  | .hbm => 136
  | .vmem => 0
  | .smem => 0
  | _ => 0

abbrev hbmTy0_0 (i : Nat) : BufTy := match i % 128 with
  | 0 => ⟨S1x4096x1024, .bf16⟩
  | 1 => ⟨S1x4096x2x64, .bf16⟩
  | 2 => ⟨S1x4096x2x64, .bf16⟩
  | 3 => ⟨S16, .f32⟩
  | 4 => ⟨S1x4096x1024, .f32⟩
  | 5 => ⟨S1x4096x2x64, .f32⟩
  | 6 => ⟨S1x4096x2x64, .f32⟩
  | 7 => ⟨S1x32x128x2x8x64, .f32⟩
  | 8 => ⟨S1x32x128x2x64, .f32⟩
  | 9 => ⟨S_, .f32⟩
  | 10 => ⟨S1x1x128x2x64, .f32⟩
  | 11 => ⟨S1x31x128x2x64, .f32⟩
  | 12 => ⟨S1x32x128x2x64, .f32⟩
  | 13 => ⟨S1x32x256x2x64, .f32⟩
  | 14 => ⟨S1x32x128x2x64, .f32⟩
  | 15 => ⟨S_, .f32⟩
  | 16 => ⟨S1x1x128x2x64, .f32⟩
  | 17 => ⟨S1x31x128x2x64, .f32⟩
  | 18 => ⟨S1x32x128x2x64, .f32⟩
  | 19 => ⟨S1x32x256x2x64, .f32⟩
  | 20 => ⟨S1x32x2x256x128x8, .f32⟩
  | 21 => ⟨S1x32x2x8x128x256, .f32⟩
  | 22 => ⟨S_, .f32⟩
  | 23 => ⟨S1x32x2x8x128x256, .f32⟩
  | 24 => ⟨S1x32x2x8x128x256, .f32⟩
  | 25 => ⟨S128, .i32⟩
  | 26 => ⟨S128x1, .i32⟩
  | 27 => ⟨S_, .i32⟩
  | 28 => ⟨S128x1, .i32⟩
  | 29 => ⟨S128x1, .i32⟩
  | 30 => ⟨S256, .i32⟩
  | 31 => ⟨S1x256, .i32⟩
  | 32 => ⟨S128x256, .i32⟩
  | 33 => ⟨S128x256, .i32⟩
  | 34 => ⟨S128x256, .i32⟩
  | 35 => ⟨S32, .i32⟩
  | 36 => ⟨S_, .i32⟩
  | 37 => ⟨S32, .i32⟩
  | 38 => ⟨S32, .i32⟩
  | 39 => ⟨S32x1, .i32⟩
  | 40 => ⟨S256, .i32⟩
  | 41 => ⟨S1x256, .i32⟩
  | 42 => ⟨S32x256, .i32⟩
  | 43 => ⟨S32x256, .i32⟩
  | 44 => ⟨S32x256, .i32⟩
  | 45 => ⟨S_, .i32⟩
  | 46 => ⟨S32x256, .i32⟩
  | 47 => ⟨S32x256, .i32⟩
  | 48 => ⟨S_, .i32⟩
  | 49 => ⟨S128x256, .i32⟩
  | 50 => ⟨S128x256, .i1⟩
  | 51 => ⟨S_, .i32⟩
  | 52 => ⟨S128x256, .i32⟩
  | 53 => ⟨S128x256, .i1⟩
  | 54 => ⟨S128x256, .i1⟩
  | 55 => ⟨S1x128x256, .i1⟩
  | 56 => ⟨S_, .i32⟩
  | 57 => ⟨S32x256, .i32⟩
  | 58 => ⟨S32x256, .i1⟩
  | 59 => ⟨S32x1x256, .i1⟩
  | 60 => ⟨S32x128x256, .i1⟩
  | 61 => ⟨S32x128x256, .i1⟩
  | 62 => ⟨S32x128x256, .i1⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S1, .f32⟩
  | 80 => ⟨S1, .f32⟩
  | 81 => ⟨S1, .f32⟩
  | 82 => ⟨S1, .f32⟩
  | 83 => ⟨S1, .f32⟩
  | 84 => ⟨S1, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S1, .f32⟩
  | 92 => ⟨S1, .f32⟩
  | 93 => ⟨S1, .f32⟩
  | 94 => ⟨S1, .f32⟩
  | 95 => ⟨S16, .f32⟩
  | 96 => ⟨S2x8, .f32⟩
  | 97 => ⟨S2x8x1x1, .f32⟩
  | 98 => ⟨S128x256, .f32⟩
  | 99 => ⟨S1x1x128x256, .f32⟩
  | 100 => ⟨S2x8x128x256, .f32⟩
  | 101 => ⟨S2x8x128x256, .f32⟩
  | 102 => ⟨S2x8x128x256, .f32⟩
  | 103 => ⟨S1x1x2x8x128x256, .f32⟩
  | 104 => ⟨S1x32x2x8x128x256, .f32⟩
  | 105 => ⟨S1x32x2x8x128x256, .f32⟩
  | 106 => ⟨S1x32x1x1x128x256, .i1⟩
  | 107 => ⟨S_, .f32⟩
  | 108 => ⟨S_, .f32⟩
  | 109 => ⟨S1x32x2x8x128x256, .i1⟩
  | 110 => ⟨S1x32x2x8x128x256, .f32⟩
  | 111 => ⟨S1x32x2x8x128x256, .f32⟩
  | 112 => ⟨S2x8, .f32⟩
  | 113 => ⟨S1x1x2x8x1x1, .f32⟩
  | 114 => ⟨S_, .f32⟩
  | 115 => ⟨S1x32x2x8x128, .f32⟩
  | 116 => ⟨S1x32x2x8x128x1, .f32⟩
  | 117 => ⟨S1x32x2x8x128x1, .f32⟩
  | 118 => ⟨S1x32x2x8x128x1, .f32⟩
  | 119 => ⟨S1x32x2x8x128x256, .f32⟩
  | 120 => ⟨S1x32x2x8x128x256, .f32⟩
  | 121 => ⟨S1x32x2x8x128x256, .f32⟩
  | 122 => ⟨S_, .f32⟩
  | 123 => ⟨S1x32x2x8x128, .f32⟩
  | 124 => ⟨S1x32x2x8x128x1, .f32⟩
  | 125 => ⟨S1x32x2x8x128x1, .f32⟩
  | 126 => ⟨S1x32x2x8x128x1, .f32⟩
  | 127 => ⟨S1x32x2x8x128x1, .f32⟩
  | _ => ⟨S1x4096x1024, .bf16⟩

abbrev hbmTy0_1 (i : Nat) : BufTy := match i % 128 with
  | 0 => ⟨S1x32x2x8x128x1, .f32⟩
  | 1 => ⟨S1x32x2x8x128x256, .f32⟩
  | 2 => ⟨S1x32x2x8x128x256, .f32⟩
  | 3 => ⟨S1x32x2x64x8x128, .f32⟩
  | 4 => ⟨S1x32x128x2x8x64, .f32⟩
  | 5 => ⟨S1x4096x1024, .f32⟩
  | 6 => ⟨S4096x1024, .f32⟩
  | 7 => ⟨S4096x1024, .bf16⟩
  | _ => ⟨S1x4096x1024, .bf16⟩

abbrev hbmTy (i : Nat) : BufTy := match i / 128 with
  | 0 => hbmTy0_0 i
  | 1 => hbmTy0_1 i
  | _ => ⟨S1x4096x1024, .bf16⟩

abbrev bufTy : (tb : Table) → Fin (tcTables nBuf tb) → BufTy
  | .hbm, ⟨i, _⟩ => hbmTy i
  | _, _ => ⟨S1x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_3 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_6 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_cst_8 : Ref sig .tc := ⟨.hbm, 64, rfl⟩
abbrev main_cst_9 : Ref sig .tc := ⟨.hbm, 65, rfl⟩
abbrev main_cst_10 : Ref sig .tc := ⟨.hbm, 66, rfl⟩
abbrev main_cst_11 : Ref sig .tc := ⟨.hbm, 67, rfl⟩
abbrev main_cst_12 : Ref sig .tc := ⟨.hbm, 68, rfl⟩
abbrev main_cst_13 : Ref sig .tc := ⟨.hbm, 69, rfl⟩
abbrev main_cst_14 : Ref sig .tc := ⟨.hbm, 70, rfl⟩
abbrev main_cst_15 : Ref sig .tc := ⟨.hbm, 71, rfl⟩
abbrev main_cst_16 : Ref sig .tc := ⟨.hbm, 72, rfl⟩
abbrev main_cst_17 : Ref sig .tc := ⟨.hbm, 73, rfl⟩
abbrev main_cst_18 : Ref sig .tc := ⟨.hbm, 74, rfl⟩
abbrev main_cst_19 : Ref sig .tc := ⟨.hbm, 75, rfl⟩
abbrev main_cst_20 : Ref sig .tc := ⟨.hbm, 76, rfl⟩
abbrev main_cst_21 : Ref sig .tc := ⟨.hbm, 77, rfl⟩
abbrev main_cst_22 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_23 : Ref sig .tc := ⟨.hbm, 107, rfl⟩
abbrev main_call0_v0 : Ref sig .tc := ⟨.hbm, 108, rfl⟩
abbrev main_call0_v1 : Ref sig .tc := ⟨.hbm, 109, rfl⟩
abbrev main_call0_v2 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_24 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_25 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]
-- ==== HgrnMix.lean ====
abbrev S1x4096x4096 : Shape := ⟨3, ![1, 4096, 4096]⟩
abbrev S2x1024 : Shape := ⟨2, ![2, 1024]⟩
abbrev S128 : Shape := ⟨1, ![128]⟩
abbrev S4096x4096 : Shape := ⟨2, ![4096, 4096]⟩
abbrev S1x128 : Shape := ⟨2, ![1, 128]⟩
abbrev S4096x1024 : Shape := ⟨2, ![4096, 1024]⟩
abbrev S8x64x128x128 : Shape := ⟨4, ![8, 64, 128, 128]⟩
abbrev S256x1024 : Shape := ⟨2, ![256, 1024]⟩
abbrev S8x4x128x128 : Shape := ⟨4, ![8, 4, 128, 128]⟩
abbrev S8x128x128 : Shape := ⟨3, ![8, 128, 128]⟩
abbrev S1x1024 : Shape := ⟨2, ![1, 1024]⟩
abbrev S64x64 : Shape := ⟨2, ![64, 64]⟩
abbrev S64x1024 : Shape := ⟨2, ![64, 1024]⟩
abbrev S1024 : Shape := ⟨1, ![1024]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S64 : Shape := ⟨1, ![64]⟩
abbrev S64x1 : Shape := ⟨2, ![64, 1]⟩

abbrev nBuf : Space → Nat
  | .hbm => 8
  | .vmem => 17
  | .smem => 0
  | _ => 0

abbrev bufTy : (tb : Table) → Fin (tcTables nBuf tb) → BufTy
  | .hbm, ⟨0, _⟩ => ⟨S1x4096x4096, .f32⟩
  | .hbm, ⟨1, _⟩ => ⟨S2x1024, .f32⟩
  | .hbm, ⟨2, _⟩ => ⟨S128, .f32⟩
  | .hbm, ⟨3, _⟩ => ⟨S4096x4096, .f32⟩
  | .hbm, ⟨4, _⟩ => ⟨S1x128, .f32⟩
  | .hbm, ⟨5, _⟩ => ⟨S4096x1024, .f32⟩
  | .hbm, ⟨6, _⟩ => ⟨S4096x1024, .bf16⟩
  | .hbm, ⟨7, _⟩ => ⟨S8x64x128x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2x1024, .f32⟩
  | .local _ .vmem, ⟨9, _⟩ => ⟨S1x128, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S8x4x128x128, .f32⟩
  | .local _ .vmem, ⟨15, _⟩ => ⟨S8x4x128x128, .f32⟩
  | .local _ .vmem, ⟨16, _⟩ => ⟨S8x128x128, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_7 : BitVec 32 := 0#32
  let c4_i32 : BitVec 32 := 4#32
  let v24 : BitVec 32 := Scalar.addi c0_i32_7 c4_i32
  let c1_i32 : BitVec 32 := 1#32
  ⟨c0_i32_7, v24, c1_i32⟩
def k0_mult1 (k0_t1 : Fin k0_t1_loop.trips) : BitVec 32 :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  v25
def k0_off1 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v27 : Index := Scalar.indexCast v26
  let c0_9 : Index := 0#32
  ![v27.toNat, 0]
def k0_off2 (k0_t1 : Fin k0_t1_loop.trips) : Fin 4 → Nat :=
  let c0_34 : Index := 0#32
  let c0_i32_7 : BitVec 32 := 0#32
  let c1_i32 : BitVec 32 := 1#32
  let arg11 : BitVec 32 := Scf.iv c0_i32_7 c1_i32 k0_t1
  let v113 : Index := Scalar.indexCast arg11
  let c0_35 : Index := 0#32
  let c0_36 : Index := 0#32
  ![0, v113.toNat, 0, 0]
def k0_off3 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v139 : Index := Scalar.indexCast v26
  let c0_45 : Index := 0#32
  ![v139.toNat, 0]
def k0_off4 (k0_t1 : Fin k0_t1_loop.trips) : Fin 4 → Nat :=
  let c1_53 : Index := 1#32
  let c0_i32_7 : BitVec 32 := 0#32
  let c1_i32 : BitVec 32 := 1#32
  let arg11 : BitVec 32 := Scf.iv c0_i32_7 c1_i32 k0_t1
  let v160 : Index := Scalar.indexCast arg11
  let c0_54 : Index := 0#32
  let c0_55 : Index := 0#32
  ![1, v160.toNat, 0, 0]
def k0_off5 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v186 : Index := Scalar.indexCast v26
  let c128 : Index := 128#32
  ![v186.toNat, 128]
def k0_off6 (k0_t1 : Fin k0_t1_loop.trips) : Fin 4 → Nat :=
  let c2_70 : Index := 2#32
  let c0_i32_7 : BitVec 32 := 0#32
  let c1_i32 : BitVec 32 := 1#32
  let arg11 : BitVec 32 := Scf.iv c0_i32_7 c1_i32 k0_t1
  let v207 : Index := Scalar.indexCast arg11
  let c0_71 : Index := 0#32
  let c0_72 : Index := 0#32
  ![2, v207.toNat, 0, 0]
def k0_off7 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v233 : Index := Scalar.indexCast v26
  let c256 : Index := 256#32
  ![v233.toNat, 256]
def k0_off8 (k0_t1 : Fin k0_t1_loop.trips) : Fin 4 → Nat :=
  let c3_87 : Index := 3#32
  let c0_i32_7 : BitVec 32 := 0#32
  let c1_i32 : BitVec 32 := 1#32
  let arg11 : BitVec 32 := Scf.iv c0_i32_7 c1_i32 k0_t1
  let v254 : Index := Scalar.indexCast arg11
  let c0_88 : Index := 0#32
  let c0_89 : Index := 0#32
  ![3, v254.toNat, 0, 0]
def k0_off9 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v280 : Index := Scalar.indexCast v26
  let c384 : Index := 384#32
  ![v280.toNat, 384]
def k0_off10 (k0_t1 : Fin k0_t1_loop.trips) : Fin 4 → Nat :=
  let c4_104 : Index := 4#32
  let c0_i32_7 : BitVec 32 := 0#32
  let c1_i32 : BitVec 32 := 1#32
  let arg11 : BitVec 32 := Scf.iv c0_i32_7 c1_i32 k0_t1
  let v301 : Index := Scalar.indexCast arg11
  let c0_105 : Index := 0#32
  let c0_106 : Index := 0#32
  ![4, v301.toNat, 0, 0]
def k0_off11 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v327 : Index := Scalar.indexCast v26
  let c512 : Index := 512#32
  ![v327.toNat, 512]
def k0_off12 (k0_t1 : Fin k0_t1_loop.trips) : Fin 4 → Nat :=
  let c5_121 : Index := 5#32
  let c0_i32_7 : BitVec 32 := 0#32
  let c1_i32 : BitVec 32 := 1#32
  let arg11 : BitVec 32 := Scf.iv c0_i32_7 c1_i32 k0_t1
  let v348 : Index := Scalar.indexCast arg11
  let c0_122 : Index := 0#32
  let c0_123 : Index := 0#32
  ![5, v348.toNat, 0, 0]
def k0_off13 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v374 : Index := Scalar.indexCast v26
  let c640 : Index := 640#32
  ![v374.toNat, 640]
def k0_off14 (k0_t1 : Fin k0_t1_loop.trips) : Fin 4 → Nat :=
  let c6_138 : Index := 6#32
  let c0_i32_7 : BitVec 32 := 0#32
  let c1_i32 : BitVec 32 := 1#32
  let arg11 : BitVec 32 := Scf.iv c0_i32_7 c1_i32 k0_t1
  let v395 : Index := Scalar.indexCast arg11
  let c0_139 : Index := 0#32
  let c0_140 : Index := 0#32
  ![6, v395.toNat, 0, 0]
def k0_off15 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v421 : Index := Scalar.indexCast v26
  let c768 : Index := 768#32
  ![v421.toNat, 768]
def k0_off16 (k0_t1 : Fin k0_t1_loop.trips) : Fin 4 → Nat :=
  let c7_155 : Index := 7#32
  let c0_i32_7 : BitVec 32 := 0#32
  let c1_i32 : BitVec 32 := 1#32
  let arg11 : BitVec 32 := Scf.iv c0_i32_7 c1_i32 k0_t1
  let v442 : Index := Scalar.indexCast arg11
  let c0_156 : Index := 0#32
  let c0_157 : Index := 0#32
  ![7, v442.toNat, 0, 0]
def k0_off17 (k0_t1 : Fin k0_t1_loop.trips) : Fin 2 → Nat :=
  let c0_i32_7 : BitVec 32 := 0#32
  let c1_i32 : BitVec 32 := 1#32
  let arg11 : BitVec 32 := Scf.iv c0_i32_7 c1_i32 k0_t1
  let c64_i32 : BitVec 32 := 64#32
  let v25 : BitVec 32 := Scalar.muli arg11 c64_i32
  let v26 : BitVec 32 := v25
  let v468 : Index := Scalar.indexCast v26
  let c896 : Index := 896#32
  ![v468.toNat, 896]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== HgrnMixRefIdeal.lean ====
abbrev S1x4096x4096 : Shape := ⟨3, ![1, 4096, 4096]⟩
abbrev S2x1024 : Shape := ⟨2, ![2, 1024]⟩
abbrev S128 : Shape := ⟨1, ![128]⟩
abbrev S_ : Shape := ⟨0, ![]⟩
abbrev S1024 : Shape := ⟨1, ![1024]⟩
abbrev S1x1024 : Shape := ⟨2, ![1, 1024]⟩
abbrev S1x4096x3072 : Shape := ⟨3, ![1, 4096, 3072]⟩
abbrev S1x4096x1024 : Shape := ⟨3, ![1, 4096, 1024]⟩
abbrev S1x1x1024 : Shape := ⟨3, ![1, 1, 1024]⟩
abbrev S1x4096x8x128 : Shape := ⟨4, ![1, 4096, 8, 128]⟩
abbrev S1x128x32x8x128 : Shape := ⟨5, ![1, 128, 32, 8, 128]⟩
abbrev S128x1x8x32x128 : Shape := ⟨5, ![128, 1, 8, 32, 128]⟩
abbrev S32x32 : Shape := ⟨2, ![32, 32]⟩
abbrev S32x32x1 : Shape := ⟨3, ![32, 32, 1]⟩
abbrev S1x8x128x128 : Shape := ⟨4, ![1, 8, 128, 128]⟩
abbrev S128x1x8x128x128 : Shape := ⟨5, ![128, 1, 8, 128, 128]⟩
abbrev S1x1x8x32x128 : Shape := ⟨5, ![1, 1, 8, 32, 128]⟩
abbrev S1x8x32x128 : Shape := ⟨4, ![1, 8, 32, 128]⟩
abbrev S1x8x32x1x128 : Shape := ⟨5, ![1, 8, 32, 1, 128]⟩
abbrev S1x8x1x32x128 : Shape := ⟨5, ![1, 8, 1, 32, 128]⟩
abbrev S1x8x32x32x128 : Shape := ⟨5, ![1, 8, 32, 32, 128]⟩
abbrev S1x8x32x32 : Shape := ⟨4, ![1, 8, 32, 32]⟩
abbrev S1x8x1x128 : Shape := ⟨4, ![1, 8, 1, 128]⟩
abbrev S1x8x128 : Shape := ⟨3, ![1, 8, 128]⟩
abbrev S1x8x128x1 : Shape := ⟨4, ![1, 8, 128, 1]⟩
abbrev S1x1x8x128x128 : Shape := ⟨5, ![1, 1, 8, 128, 128]⟩
abbrev S1x4096x8 : Shape := ⟨3, ![1, 4096, 8]⟩
abbrev S1x4096x8x1 : Shape := ⟨4, ![1, 4096, 8, 1]⟩
abbrev S1x1x1x128 : Shape := ⟨4, ![1, 1, 1, 128]⟩
abbrev S4096x1024 : Shape := ⟨2, ![4096, 1024]⟩
abbrev S64x1x8x128x128 : Shape := ⟨5, ![64, 1, 8, 128, 128]⟩
abbrev S64x8x128x128 : Shape := ⟨4, ![64, 8, 128, 128]⟩
abbrev S8x64x128x128 : Shape := ⟨4, ![8, 64, 128, 128]⟩

abbrev nBuf : Space → Nat
  | .hbm => 215
  | .vmem => 0
  | .smem => 0
  | _ => 0

abbrev hbmTy0_0 (i : Nat) : BufTy := match i % 128 with
  | 0 => ⟨S1x4096x4096, .f32⟩
  | 1 => ⟨S2x1024, .f32⟩
  | 2 => ⟨S128, .f32⟩
  | 3 => ⟨S_, .f32⟩
  | 4 => ⟨S1024, .f32⟩
  | 5 => ⟨S_, .f32⟩
  | 6 => ⟨S1024, .f32⟩
  | 7 => ⟨S1024, .f32⟩
  | 8 => ⟨S1x1024, .f32⟩
  | 9 => ⟨S2x1024, .f32⟩
  | 10 => ⟨S2x1024, .f32⟩
  | 11 => ⟨S2x1024, .f32⟩
  | 12 => ⟨S_, .f32⟩
  | 13 => ⟨S1024, .f32⟩
  | 14 => ⟨S1x1024, .f32⟩
  | 15 => ⟨S2x1024, .f32⟩
  | 16 => ⟨S2x1024, .f32⟩
  | 17 => ⟨S_, .f32⟩
  | 18 => ⟨S_, .f32⟩
  | 19 => ⟨S2x1024, .f32⟩
  | 20 => ⟨S1x1024, .f32⟩
  | 21 => ⟨S1024, .f32⟩
  | 22 => ⟨S1x4096x3072, .f32⟩
  | 23 => ⟨S1x4096x1024, .f32⟩
  | 24 => ⟨S1x4096x1024, .f32⟩
  | 25 => ⟨S1x4096x1024, .f32⟩
  | 26 => ⟨S1x4096x1024, .f32⟩
  | 27 => ⟨S1x4096x1024, .f32⟩
  | 28 => ⟨S_, .f32⟩
  | 29 => ⟨S1x4096x1024, .f32⟩
  | 30 => ⟨S1x4096x1024, .f32⟩
  | 31 => ⟨S_, .f32⟩
  | 32 => ⟨S1x4096x1024, .f32⟩
  | 33 => ⟨S1x4096x1024, .f32⟩
  | 34 => ⟨S1x4096x1024, .f32⟩
  | 35 => ⟨S_, .f32⟩
  | 36 => ⟨S1x4096x1024, .f32⟩
  | 37 => ⟨S1x4096x1024, .f32⟩
  | 38 => ⟨S_, .f32⟩
  | 39 => ⟨S1024, .f32⟩
  | 40 => ⟨S1024, .f32⟩
  | 41 => ⟨S1x4096x1024, .f32⟩
  | 42 => ⟨S1x4096x1024, .f32⟩
  | 43 => ⟨S_, .f32⟩
  | 44 => ⟨S1x4096x1024, .f32⟩
  | 45 => ⟨S1x4096x1024, .f32⟩
  | 46 => ⟨S_, .f32⟩
  | 47 => ⟨S1x4096x1024, .f32⟩
  | 48 => ⟨S1x4096x1024, .f32⟩
  | 49 => ⟨S1x1x1024, .f32⟩
  | 50 => ⟨S1x4096x1024, .f32⟩
  | 51 => ⟨S1x4096x1024, .f32⟩
  | 52 => ⟨S1x1x1024, .f32⟩
  | 53 => ⟨S1x4096x1024, .f32⟩
  | 54 => ⟨S1x4096x1024, .f32⟩
  | 55 => ⟨S1x4096x1024, .f32⟩
  | 56 => ⟨S_, .f32⟩
  | 57 => ⟨S1x4096x1024, .f32⟩
  | 58 => ⟨S1x4096x1024, .f32⟩
  | 59 => ⟨S1x4096x8x128, .f32⟩
  | 60 => ⟨S1x4096x8x128, .f32⟩
  | 61 => ⟨S1x4096x8x128, .f32⟩
  | 62 => ⟨S1x4096x8x128, .f32⟩
  | 63 => ⟨S1x128x32x8x128, .f32⟩
  | 64 => ⟨S128x1x8x32x128, .f32⟩
  | 65 => ⟨S1x128x32x8x128, .f32⟩
  | 66 => ⟨S128x1x8x32x128, .f32⟩
  | 67 => ⟨S1x128x32x8x128, .f32⟩
  | 68 => ⟨S128x1x8x32x128, .f32⟩
  | 69 => ⟨S1x128x32x8x128, .f32⟩
  | 70 => ⟨S128x1x8x32x128, .f32⟩
  | 71 => ⟨S_, .i1⟩
  | 72 => ⟨S32x32, .i1⟩
  | 73 => ⟨S32x32, .i32⟩
  | 74 => ⟨S_, .i32⟩
  | 75 => ⟨S32x32, .i32⟩
  | 76 => ⟨S32x32, .i32⟩
  | 77 => ⟨S32x32, .i32⟩
  | 78 => ⟨S32x32, .i1⟩
  | 79 => ⟨S_, .i1⟩
  | 80 => ⟨S32x32, .i1⟩
  | 81 => ⟨S32x32, .i1⟩
  | 82 => ⟨S32x32x1, .i1⟩
  | 83 => ⟨S_, .f32⟩
  | 84 => ⟨S1x8x128x128, .f32⟩
  | 85 => ⟨S_, .f32⟩
  | 86 => ⟨S128x1x8x32x128, .f32⟩
  | 87 => ⟨S_, .f32⟩
  | 88 => ⟨S128x1x8x128x128, .f32⟩
  | 89 => ⟨S_, .i32⟩
  | 90 => ⟨S128x1x8x32x128, .f32⟩
  | 91 => ⟨S128x1x8x32x128, .f32⟩
  | 92 => ⟨S128x1x8x32x128, .f32⟩
  | 93 => ⟨S128x1x8x32x128, .f32⟩
  | 94 => ⟨S32x32x1, .i1⟩
  | 95 => ⟨S_, .i32⟩
  | 96 => ⟨S1x8x128x128, .f32⟩
  | 97 => ⟨S128x1x8x32x128, .f32⟩
  | 98 => ⟨S128x1x8x128x128, .f32⟩
  | 99 => ⟨S_, .i32⟩
  | 100 => ⟨S_, .i1⟩
  | 101 => ⟨S_, .i32⟩
  | 102 => ⟨S_, .i32⟩
  | 103 => ⟨S_, .i32⟩
  | 104 => ⟨S_, .i32⟩
  | 105 => ⟨S1x1x8x32x128, .f32⟩
  | 106 => ⟨S1x8x32x128, .f32⟩
  | 107 => ⟨S_, .i32⟩
  | 108 => ⟨S_, .i32⟩
  | 109 => ⟨S_, .i32⟩
  | 110 => ⟨S_, .i32⟩
  | 111 => ⟨S1x1x8x32x128, .f32⟩
  | 112 => ⟨S1x8x32x128, .f32⟩
  | 113 => ⟨S_, .i32⟩
  | 114 => ⟨S_, .i32⟩
  | 115 => ⟨S_, .i32⟩
  | 116 => ⟨S_, .i32⟩
  | 117 => ⟨S1x1x8x32x128, .f32⟩
  | 118 => ⟨S1x8x32x128, .f32⟩
  | 119 => ⟨S_, .i32⟩
  | 120 => ⟨S_, .i32⟩
  | 121 => ⟨S_, .i32⟩
  | 122 => ⟨S_, .i32⟩
  | 123 => ⟨S1x1x8x32x128, .f32⟩
  | 124 => ⟨S1x8x32x128, .f32⟩
  | 125 => ⟨S_, .f32⟩
  | 126 => ⟨S_, .f32⟩
  | 127 => ⟨S1x8x32x128, .f32⟩
  | _ => ⟨S1x4096x4096, .f32⟩

abbrev hbmTy0_1 (i : Nat) : BufTy := match i % 128 with
  | 0 => ⟨S1x8x32x128, .f32⟩
  | 1 => ⟨S1x8x32x128, .f32⟩
  | 2 => ⟨S1x8x32x128, .f32⟩
  | 3 => ⟨S1x8x32x1x128, .f32⟩
  | 4 => ⟨S1x8x1x32x128, .f32⟩
  | 5 => ⟨S1x8x32x32x128, .f32⟩
  | 6 => ⟨S1x8x32x32x128, .f32⟩
  | 7 => ⟨S1x8x32x32x128, .f32⟩
  | 8 => ⟨S_, .f32⟩
  | 9 => ⟨S_, .f32⟩
  | 10 => ⟨S1x8x32x32x128, .i1⟩
  | 11 => ⟨S1x8x32x32x128, .f32⟩
  | 12 => ⟨S1x8x32x32x128, .f32⟩
  | 13 => ⟨S1x8x32x32x128, .f32⟩
  | 14 => ⟨S1x8x32x1x128, .f32⟩
  | 15 => ⟨S1x8x1x32x128, .f32⟩
  | 16 => ⟨S1x8x32x32x128, .f32⟩
  | 17 => ⟨S1x8x32x32x128, .f32⟩
  | 18 => ⟨S1x8x32x32x128, .f32⟩
  | 19 => ⟨S1x8x32x32x128, .f32⟩
  | 20 => ⟨S_, .f32⟩
  | 21 => ⟨S1x8x32x32, .f32⟩
  | 22 => ⟨S1x8x32x128, .f32⟩
  | 23 => ⟨S1x8x1x128, .f32⟩
  | 24 => ⟨S1x8x128, .f32⟩
  | 25 => ⟨S1x8x128, .f32⟩
  | 26 => ⟨S1x8x128x1, .f32⟩
  | 27 => ⟨S1x8x128x128, .f32⟩
  | 28 => ⟨S1x8x128x128, .f32⟩
  | 29 => ⟨S1x8x32x128, .f32⟩
  | 30 => ⟨S1x8x32x128, .f32⟩
  | 31 => ⟨S1x8x32x128, .f32⟩
  | 32 => ⟨S1x8x32x128, .f32⟩
  | 33 => ⟨S1x8x128x128, .f32⟩
  | 34 => ⟨S1x8x128x128, .f32⟩
  | 35 => ⟨S1x8x32x128, .f32⟩
  | 36 => ⟨S1x1x8x32x128, .f32⟩
  | 37 => ⟨S_, .i32⟩
  | 38 => ⟨S_, .i32⟩
  | 39 => ⟨S_, .i32⟩
  | 40 => ⟨S_, .i32⟩
  | 41 => ⟨S128x1x8x32x128, .f32⟩
  | 42 => ⟨S1x1x8x128x128, .f32⟩
  | 43 => ⟨S_, .i32⟩
  | 44 => ⟨S_, .i32⟩
  | 45 => ⟨S_, .i32⟩
  | 46 => ⟨S_, .i32⟩
  | 47 => ⟨S128x1x8x128x128, .f32⟩
  | 48 => ⟨S_, .i32⟩
  | 49 => ⟨S_, .i32⟩
  | 50 => ⟨S1x128x32x8x128, .f32⟩
  | 51 => ⟨S1x4096x8x128, .f32⟩
  | 52 => ⟨S1x4096x1024, .f32⟩
  | 53 => ⟨S1x4096x8x128, .f32⟩
  | 54 => ⟨S_, .f32⟩
  | 55 => ⟨S1x4096x8, .f32⟩
  | 56 => ⟨S1x4096x8x1, .f32⟩
  | 57 => ⟨S_, .f32⟩
  | 58 => ⟨S1x4096x8x1, .f32⟩
  | 59 => ⟨S1x4096x8x1, .f32⟩
  | 60 => ⟨S_, .f32⟩
  | 61 => ⟨S1x4096x8x1, .f32⟩
  | 62 => ⟨S1x4096x8x1, .f32⟩
  | 63 => ⟨S1x4096x8x1, .f32⟩
  | 64 => ⟨S1x4096x8x128, .f32⟩
  | 65 => ⟨S1x4096x8x128, .f32⟩
  | 66 => ⟨S1x1x1x128, .f32⟩
  | 67 => ⟨S1x4096x8x128, .f32⟩
  | 68 => ⟨S1x4096x8x128, .f32⟩
  | 69 => ⟨S1x4096x8x128, .f32⟩
  | 70 => ⟨S1x4096x8x128, .f32⟩
  | 71 => ⟨S1x4096x8x128, .f32⟩
  | 72 => ⟨S_, .f32⟩
  | 73 => ⟨S1x4096x8x128, .f32⟩
  | 74 => ⟨S1x4096x8x128, .f32⟩
  | 75 => ⟨S_, .f32⟩
  | 76 => ⟨S1x4096x8x128, .f32⟩
  | 77 => ⟨S1x4096x8x128, .f32⟩
  | 78 => ⟨S1x4096x8x128, .f32⟩
  | 79 => ⟨S1x4096x8x128, .f32⟩
  | 80 => ⟨S1x4096x1024, .f32⟩
  | 81 => ⟨S1x4096x1024, .bf16⟩
  | 82 => ⟨S4096x1024, .f32⟩
  | 83 => ⟨S4096x1024, .bf16⟩
  | 84 => ⟨S64x1x8x128x128, .f32⟩
  | 85 => ⟨S64x8x128x128, .f32⟩
  | 86 => ⟨S8x64x128x128, .f32⟩
  | _ => ⟨S1x4096x4096, .f32⟩

abbrev hbmTy (i : Nat) : BufTy := match i / 128 with
  | 0 => hbmTy0_0 i
  | 1 => hbmTy0_1 i
  | _ => ⟨S1x4096x4096, .f32⟩

abbrev bufTy : (tb : Table) → Fin (tcTables nBuf tb) → BufTy
  | .hbm, ⟨i, _⟩ => hbmTy i
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call1_v0 : Ref sig .tc := ⟨.hbm, 26, rfl⟩
abbrev main_call1_v1 : Ref sig .tc := ⟨.hbm, 27, rfl⟩
abbrev main_call1_cst : Ref sig .tc := ⟨.hbm, 28, rfl⟩
abbrev main_call1_v2 : Ref sig .tc := ⟨.hbm, 29, rfl⟩
abbrev main_call1_v3 : Ref sig .tc := ⟨.hbm, 30, rfl⟩
abbrev main_call1_cst_0 : Ref sig .tc := ⟨.hbm, 31, rfl⟩
abbrev main_call1_v4 : Ref sig .tc := ⟨.hbm, 32, rfl⟩
abbrev main_call1_v5 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_cst_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_6 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c : Ref sig .tc := ⟨.hbm, 71, rfl⟩
abbrev main_v50 : Ref sig .tc := ⟨.hbm, 72, rfl⟩
abbrev main_call2_v0 : Ref sig .tc := ⟨.hbm, 73, rfl⟩
abbrev main_call2_c : Ref sig .tc := ⟨.hbm, 74, rfl⟩
abbrev main_call2_v1 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_c_0 : Ref sig .tc := ⟨.hbm, 79, rfl⟩
abbrev main_call2_v5 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_cst_8 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_c_10 : Ref sig .tc := ⟨.hbm, 89, rfl⟩
abbrev main_v56_0 : Ref sig .tc := ⟨.hbm, 90, rfl⟩
abbrev main_v56_1 : Ref sig .tc := ⟨.hbm, 91, rfl⟩
abbrev main_v56_2 : Ref sig .tc := ⟨.hbm, 92, rfl⟩
abbrev main_v56_3 : Ref sig .tc := ⟨.hbm, 93, rfl⟩
abbrev main_v56_4 : Ref sig .tc := ⟨.hbm, 94, rfl⟩
abbrev main_v56_5 : Ref sig .tc := ⟨.hbm, 95, rfl⟩
abbrev main_v56_6 : Ref sig .tc := ⟨.hbm, 96, rfl⟩
abbrev main_v56_7 : Ref sig .tc := ⟨.hbm, 97, rfl⟩
abbrev main_v56_8 : Ref sig .tc := ⟨.hbm, 98, rfl⟩
abbrev main_while0c_c_22 : Ref sig .tc := ⟨.hbm, 99, rfl⟩
abbrev main_while0c_v83 : Ref sig .tc := ⟨.hbm, 100, rfl⟩
abbrev main_while0b_call3_c : Ref sig .tc := ⟨.hbm, 101, rfl⟩
abbrev main_while0b_call3_c_0 : Ref sig .tc := ⟨.hbm, 102, rfl⟩
abbrev main_while0b_call3_c_1 : Ref sig .tc := ⟨.hbm, 103, rfl⟩
abbrev main_while0b_call3_c_2 : Ref sig .tc := ⟨.hbm, 104, rfl⟩
abbrev main_while0b_call3_v0 : Ref sig .tc := ⟨.hbm, 105, rfl⟩
abbrev main_while0b_v83 : Ref sig .tc := ⟨.hbm, 106, rfl⟩
abbrev main_while0b_call4_c : Ref sig .tc := ⟨.hbm, 107, rfl⟩
abbrev main_while0b_call4_c_0 : Ref sig .tc := ⟨.hbm, 108, rfl⟩
abbrev main_while0b_call4_c_1 : Ref sig .tc := ⟨.hbm, 109, rfl⟩
abbrev main_while0b_call4_c_2 : Ref sig .tc := ⟨.hbm, 110, rfl⟩
abbrev main_while0b_call4_v0 : Ref sig .tc := ⟨.hbm, 111, rfl⟩
abbrev main_while0b_v84 : Ref sig .tc := ⟨.hbm, 112, rfl⟩
abbrev main_while0b_call5_c : Ref sig .tc := ⟨.hbm, 113, rfl⟩
abbrev main_while0b_call5_c_0 : Ref sig .tc := ⟨.hbm, 114, rfl⟩
abbrev main_while0b_call5_c_1 : Ref sig .tc := ⟨.hbm, 115, rfl⟩
abbrev main_while0b_call5_c_2 : Ref sig .tc := ⟨.hbm, 116, rfl⟩
abbrev main_while0b_call5_v0 : Ref sig .tc := ⟨.hbm, 117, rfl⟩
abbrev main_while0b_v85 : Ref sig .tc := ⟨.hbm, 118, rfl⟩
abbrev main_while0b_call6_c : Ref sig .tc := ⟨.hbm, 119, rfl⟩
abbrev main_while0b_call6_c_0 : Ref sig .tc := ⟨.hbm, 120, rfl⟩
abbrev main_while0b_call6_c_1 : Ref sig .tc := ⟨.hbm, 121, rfl⟩
abbrev main_while0b_call6_c_2 : Ref sig .tc := ⟨.hbm, 122, rfl⟩
abbrev main_while0b_call6_v0 : Ref sig .tc := ⟨.hbm, 123, rfl⟩
abbrev main_while0b_v86 : Ref sig .tc := ⟨.hbm, 124, rfl⟩
abbrev main_while0b_call7_call0_cst : Ref sig .tc := ⟨.hbm, 125, rfl⟩
abbrev main_while0b_call7_call0_v0 : Ref sig .tc := ⟨.hbm, 126, rfl⟩
abbrev main_while0b_v87 : Ref sig .tc := ⟨.hbm, 127, rfl⟩
abbrev main_while0b_v88 : Ref sig .tc := ⟨.hbm, 128, rfl⟩
abbrev main_while0b_v89 : Ref sig .tc := ⟨.hbm, 129, rfl⟩
abbrev main_while0b_v90 : Ref sig .tc := ⟨.hbm, 130, rfl⟩
abbrev main_while0b_v91 : Ref sig .tc := ⟨.hbm, 131, rfl⟩
abbrev main_while0b_v92 : Ref sig .tc := ⟨.hbm, 132, rfl⟩
abbrev main_while0b_v93 : Ref sig .tc := ⟨.hbm, 133, rfl⟩
abbrev main_while0b_v94 : Ref sig .tc := ⟨.hbm, 134, rfl⟩
abbrev main_while0b_v95 : Ref sig .tc := ⟨.hbm, 135, rfl⟩
abbrev main_while0b_cst_22 : Ref sig .tc := ⟨.hbm, 136, rfl⟩
abbrev main_while0b_call8_v0 : Ref sig .tc := ⟨.hbm, 137, rfl⟩
abbrev main_while0b_call8_v1 : Ref sig .tc := ⟨.hbm, 138, rfl⟩
abbrev main_while0b_call8_v2 : Ref sig .tc := ⟨.hbm, 139, rfl⟩
abbrev main_while0b_v96 : Ref sig .tc := ⟨.hbm, 140, rfl⟩
abbrev main_while0b_v97 : Ref sig .tc := ⟨.hbm, 141, rfl⟩
abbrev main_while0b_v98 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_v102 : Ref sig .tc := ⟨.hbm, 146, rfl⟩
abbrev main_while0b_v103 : Ref sig .tc := ⟨.hbm, 147, rfl⟩
abbrev main_while0b_cst_23 : Ref sig .tc := ⟨.hbm, 148, rfl⟩
abbrev main_while0b_v104 : Ref sig .tc := ⟨.hbm, 149, rfl⟩
abbrev main_while0b_v105 : Ref sig .tc := ⟨.hbm, 150, rfl⟩
abbrev main_while0b_v106 : Ref sig .tc := ⟨.hbm, 151, rfl⟩
abbrev main_while0b_v107 : Ref sig .tc := ⟨.hbm, 152, rfl⟩
abbrev main_while0b_v108 : Ref sig .tc := ⟨.hbm, 153, rfl⟩
abbrev main_while0b_v109 : Ref sig .tc := ⟨.hbm, 154, rfl⟩
abbrev main_while0b_v110 : Ref sig .tc := ⟨.hbm, 155, rfl⟩
abbrev main_while0b_v111 : Ref sig .tc := ⟨.hbm, 156, rfl⟩
abbrev main_while0b_v112 : Ref sig .tc := ⟨.hbm, 157, rfl⟩
abbrev main_while0b_v113 : Ref sig .tc := ⟨.hbm, 158, rfl⟩
abbrev main_while0b_v114 : Ref sig .tc := ⟨.hbm, 159, rfl⟩
abbrev main_while0b_v115 : Ref sig .tc := ⟨.hbm, 160, rfl⟩
abbrev main_while0b_v116 : Ref sig .tc := ⟨.hbm, 161, rfl⟩
abbrev main_while0b_v117 : Ref sig .tc := ⟨.hbm, 162, rfl⟩
abbrev main_while0b_v118 : Ref sig .tc := ⟨.hbm, 163, rfl⟩
abbrev main_while0b_call9_v0 : Ref sig .tc := ⟨.hbm, 164, rfl⟩
abbrev main_while0b_call9_c : Ref sig .tc := ⟨.hbm, 165, rfl⟩
abbrev main_while0b_call9_c_0 : Ref sig .tc := ⟨.hbm, 166, rfl⟩
abbrev main_while0b_call9_c_1 : Ref sig .tc := ⟨.hbm, 167, rfl⟩
abbrev main_while0b_call9_c_2 : Ref sig .tc := ⟨.hbm, 168, rfl⟩
abbrev main_while0b_v119 : Ref sig .tc := ⟨.hbm, 169, rfl⟩
abbrev main_while0b_call10_v0 : Ref sig .tc := ⟨.hbm, 170, rfl⟩
abbrev main_while0b_call10_c : Ref sig .tc := ⟨.hbm, 171, rfl⟩
abbrev main_while0b_call10_c_0 : Ref sig .tc := ⟨.hbm, 172, rfl⟩
abbrev main_while0b_call10_c_1 : Ref sig .tc := ⟨.hbm, 173, rfl⟩
abbrev main_while0b_call10_c_2 : Ref sig .tc := ⟨.hbm, 174, rfl⟩
abbrev main_while0b_v120 : Ref sig .tc := ⟨.hbm, 175, rfl⟩
abbrev main_while0b_c_24 : Ref sig .tc := ⟨.hbm, 176, rfl⟩
abbrev main_while0b_v121 : Ref sig .tc := ⟨.hbm, 177, rfl⟩
abbrev main_v57 : Ref sig .tc := ⟨.hbm, 178, rfl⟩
abbrev main_v58 : Ref sig .tc := ⟨.hbm, 179, rfl⟩
abbrev main_v59 : Ref sig .tc := ⟨.hbm, 180, rfl⟩
abbrev main_v60 : Ref sig .tc := ⟨.hbm, 181, rfl⟩
abbrev main_cst_11 : Ref sig .tc := ⟨.hbm, 182, rfl⟩
abbrev main_v61 : Ref sig .tc := ⟨.hbm, 183, rfl⟩
abbrev main_v62 : Ref sig .tc := ⟨.hbm, 184, rfl⟩
abbrev main_cst_12 : Ref sig .tc := ⟨.hbm, 185, rfl⟩
abbrev main_v63 : Ref sig .tc := ⟨.hbm, 186, rfl⟩
abbrev main_v64 : Ref sig .tc := ⟨.hbm, 187, rfl⟩
abbrev main_cst_13 : Ref sig .tc := ⟨.hbm, 188, rfl⟩
abbrev main_v65 : Ref sig .tc := ⟨.hbm, 189, rfl⟩
abbrev main_v66 : Ref sig .tc := ⟨.hbm, 190, rfl⟩
abbrev main_v67 : Ref sig .tc := ⟨.hbm, 191, rfl⟩
abbrev main_v68 : Ref sig .tc := ⟨.hbm, 192, rfl⟩
abbrev main_v69 : Ref sig .tc := ⟨.hbm, 193, rfl⟩
abbrev main_v70 : Ref sig .tc := ⟨.hbm, 194, rfl⟩
abbrev main_v71 : Ref sig .tc := ⟨.hbm, 195, rfl⟩
abbrev main_v72 : Ref sig .tc := ⟨.hbm, 196, rfl⟩
abbrev main_v73 : Ref sig .tc := ⟨.hbm, 197, rfl⟩
abbrev main_call11_v0 : Ref sig .tc := ⟨.hbm, 198, rfl⟩
abbrev main_call11_v1 : Ref sig .tc := ⟨.hbm, 199, rfl⟩
abbrev main_call11_cst : Ref sig .tc := ⟨.hbm, 200, rfl⟩
abbrev main_call11_v2 : Ref sig .tc := ⟨.hbm, 201, rfl⟩
abbrev main_call11_v3 : Ref sig .tc := ⟨.hbm, 202, rfl⟩
abbrev main_call11_cst_0 : Ref sig .tc := ⟨.hbm, 203, rfl⟩
abbrev main_call11_v4 : Ref sig .tc := ⟨.hbm, 204, rfl⟩
abbrev main_call11_v5 : Ref sig .tc := ⟨.hbm, 205, rfl⟩
abbrev main_v74 : Ref sig .tc := ⟨.hbm, 206, rfl⟩
abbrev main_v75 : Ref sig .tc := ⟨.hbm, 207, rfl⟩
abbrev main_v76 : Ref sig .tc := ⟨.hbm, 208, rfl⟩
abbrev main_v77 : Ref sig .tc := ⟨.hbm, 209, rfl⟩
abbrev main_v78 : Ref sig .tc := ⟨.hbm, 210, rfl⟩
abbrev main_v79 : Ref sig .tc := ⟨.hbm, 211, rfl⟩
abbrev main_v80 : Ref sig .tc := ⟨.hbm, 212, rfl⟩
abbrev main_v81 : Ref sig .tc := ⟨.hbm, 213, rfl⟩
abbrev main_v82 : Ref sig .tc := ⟨.hbm, 214, rfl⟩

abbrev nD : Nat := 1
abbrev τ : Topo := Topo.v7x

variable {F : FTy → Type} [FloatOps F]

abbrev main_while0_count : Scf.Loop 32 := ⟨0#32, 128#32, 1#32⟩
-- ==== FfnDwUp.lean ====
abbrev S1x4096x1024 : Shape := ⟨3, ![1, 4096, 1024]⟩
abbrev S1024 : Shape := ⟨1, ![1024]⟩
abbrev S1024x5632 : Shape := ⟨2, ![1024, 5632]⟩
abbrev S1x4096x5632 : Shape := ⟨3, ![1, 4096, 5632]⟩
abbrev S4096x5632 : Shape := ⟨2, ![4096, 5632]⟩
abbrev S4096x4x1408 : Shape := ⟨3, ![4096, 4, 1408]⟩
abbrev S4x4096x1408 : Shape := ⟨3, ![4, 4096, 1408]⟩
abbrev S4096x1024 : Shape := ⟨2, ![4096, 1024]⟩
abbrev S1x1024 : Shape := ⟨2, ![1, 1024]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩
abbrev S4x1024x1024 : Shape := ⟨3, ![4, 1024, 1024]⟩
abbrev S1024x1 : Shape := ⟨2, ![1024, 1]⟩
abbrev S1x1024x1024 : Shape := ⟨3, ![1, 1024, 1024]⟩

abbrev nBuf : Space → Nat
  | .hbm => 10
  | .vmem => 9
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .bf16⟩
  | .hbm, ⟨3, _⟩ => ⟨S1x4096x5632, .bf16⟩
  | .hbm, ⟨4, _⟩ => ⟨S4096x5632, .bf16⟩
  | .hbm, ⟨5, _⟩ => ⟨S4096x4x1408, .bf16⟩
  | .hbm, ⟨6, _⟩ => ⟨S4x4096x1408, .bf16⟩
  | .hbm, ⟨7, _⟩ => ⟨S4096x1024, .f32⟩
  | .hbm, ⟨8, _⟩ => ⟨S1x1024, .f32⟩
  | .hbm, ⟨9, _⟩ => ⟨S4x1024x1408, .f32⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024, .f32⟩
  | .local _ .vmem, ⟨5, _⟩ => ⟨S1x1024x1408, .f32⟩
  | .local _ .vmem, ⟨6, _⟩ => ⟨S1x1024x1408, .f32⟩
  | .local _ .vmem, ⟨7, _⟩ => ⟨S1024x1408, .f32⟩
  | .local _ .vmem, ⟨8, _⟩ => ⟨S4x1024x1024, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg2 : BitVec 32 := BitVec.ofNat 32 (i 2).val
  let v37 : Index := Scalar.indexCast arg2
  let c0_19 : Index := 0#32
  let c0_20 : Index := 0#32
  ![v37.toNat, 0, 0]
def k0_off2 (i : grid0.Coords) : Fin 3 → Nat :=
  let arg2 : BitVec 32 := BitVec.ofNat 32 (i 2).val
  let v3 : Index := Scalar.indexCast arg2
  let c0 : Index := 0#32
  let c0_1 : Index := 0#32
  ![v3.toNat, 0, 0]
def k0_cond3 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg1 c0_i32
  let c0_i32_0 : BitVec 32 := 0#32
  let v1 : BitVec 32 := Scalar.select v0 arg2 c0_i32_0
  let c0_i32_1 : BitVec 32 := 0#32
  ![v1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDwUpRefIdeal.lean ====
abbrev S1x4096x1024 : Shape := ⟨3, ![1, 4096, 1024]⟩
abbrev S1024 : Shape := ⟨1, ![1024]⟩
abbrev S1024x5632 : Shape := ⟨2, ![1024, 5632]⟩
abbrev S1x4096x5632 : Shape := ⟨3, ![1, 4096, 5632]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 27
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .bf16⟩
  | .hbm, ⟨3, _⟩ => ⟨S1x4096x5632, .bf16⟩
  | .hbm, ⟨4, _⟩ => ⟨S1024x5632, .f32⟩
  | .hbm, ⟨5, _⟩ => ⟨S1x4096x1024, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1024, .f32⟩
  | .hbm, ⟨17, _⟩ => ⟨S1x4096x1024, .f32⟩
  | .hbm, ⟨18, _⟩ => ⟨S1x1x1024, .f32⟩
  | .hbm, ⟨19, _⟩ => ⟨S1x4096x1024, .f32⟩
  | .hbm, ⟨20, _⟩ => ⟨S1x4096x1024, .f32⟩
  | .hbm, ⟨21, _⟩ => ⟨S1x4096x5632, .f32⟩
  | .hbm, ⟨22, _⟩ => ⟨S1x4096x5632, .f32⟩
  | .hbm, ⟨23, _⟩ => ⟨S5632x1024, .f32⟩
  | .hbm, ⟨24, _⟩ => ⟨S1024x5632, .f32⟩
  | .hbm, ⟨25, _⟩ => ⟨S1024x4x1408, .f32⟩
  | .hbm, ⟨26, _⟩ => ⟨S4x1024x1408, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== FfnUp.lean ====
abbrev S1x4096x1024 : Shape := ⟨3, ![1, 4096, 1024]⟩
abbrev S1024 : Shape := ⟨1, ![1024]⟩
abbrev S1024x5632 : Shape := ⟨2, ![1024, 5632]⟩
abbrev S1024x4x1408 : Shape := ⟨3, ![1024, 4, 1408]⟩
abbrev S4x1024x1408 : Shape := ⟨3, ![4, 1024, 1408]⟩
abbrev S4096x1024 : Shape := ⟨2, ![4096, 1024]⟩
abbrev S1x1024 : Shape := ⟨2, ![1, 1024]⟩
abbrev S4096x5632 : Shape := ⟨2, ![4096, 5632]⟩
abbrev S1024x1024 : Shape := ⟨2, ![1024, 1024]⟩
abbrev S1x1024x1408 : Shape := ⟨3, ![1, 1024, 1408]⟩
abbrev S1024x1408 : Shape := ⟨2, ![1024, 1408]⟩
abbrev S1024x1 : Shape := ⟨2, ![1024, 1]⟩

abbrev nBuf : Space → Nat
  | .hbm => 8
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .bf16⟩
  | .hbm, ⟨3, _⟩ => ⟨S1024x4x1408, .bf16⟩
  | .hbm, ⟨4, _⟩ => ⟨S4x1024x1408, .bf16⟩
  | .hbm, ⟨5, _⟩ => ⟨S4096x1024, .f32⟩
  | .hbm, ⟨6, _⟩ => ⟨S1x1024, .f32⟩
  | .hbm, ⟨7, _⟩ => ⟨S4096x5632, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024, .f32⟩
  | .local _ .vmem, ⟨5, _⟩ => ⟨S1024x1408, .bf16⟩
  | .local _ .vmem, ⟨6, _⟩ => ⟨S1024x1408, .bf16⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnUpRefIdeal.lean ====
abbrev S1x4096x1024 : Shape := ⟨3, ![1, 4096, 1024]⟩
abbrev S1024 : Shape := ⟨1, ![1024]⟩
abbrev S1024x5632 : Shape := ⟨2, ![1024, 5632]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x5632 : Shape := ⟨3, ![1, 4096, 5632]⟩
abbrev S4096x5632 : Shape := ⟨2, ![4096, 5632]⟩

abbrev nBuf : Space → Nat
  | .hbm => 23
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S1024x5632, .bf16⟩
  | .hbm, ⟨3, _⟩ => ⟨S1x4096x1024, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x1024, .f32⟩
  | .hbm, ⟨15, _⟩ => ⟨S1x4096x1024, .f32⟩
  | .hbm, ⟨16, _⟩ => ⟨S1x1x1024, .f32⟩
  | .hbm, ⟨17, _⟩ => ⟨S1x4096x1024, .f32⟩
  | .hbm, ⟨18, _⟩ => ⟨S1x4096x1024, .f32⟩
  | .hbm, ⟨19, _⟩ => ⟨S1024x5632, .f32⟩
  | .hbm, ⟨20, _⟩ => ⟨S1x4096x5632, .f32⟩
  | .hbm, ⟨21, _⟩ => ⟨S1x4096x5632, .bf16⟩
  | .hbm, ⟨22, _⟩ => ⟨S4096x5632, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== FfnDown.lean ====
abbrev S4096x2816 : Shape := ⟨2, ![4096, 2816]⟩
abbrev S1x2816x1024 : Shape := ⟨3, ![1, 2816, 1024]⟩
abbrev S4096x1024 : Shape := ⟨2, ![4096, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![v16.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== FfnDownRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDact.lean ====
abbrev S4096x2816 : Shape := ⟨2, ![4096, 2816]⟩
abbrev S1x2816x1024 : Shape := ⟨3, ![1, 2816, 1024]⟩
abbrev S4096x1024 : Shape := ⟨2, ![4096, 1024]⟩
abbrev S1024x1024 : Shape := ⟨2, ![1024, 1024]⟩
abbrev S1x1408x1024 : Shape := ⟨3, ![1, 1408, 1024]⟩
abbrev S1024x1408 : Shape := ⟨2, ![1024, 1408]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S1x1408x1024, .bf16⟩
  | .local _ .vmem, ⟨3, _⟩ => ⟨S1x1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDactRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S4096x2816, .f32⟩
  | .hbm, ⟨4, _⟩ => ⟨S2816x1024, .bf16⟩
  | .hbm, ⟨5, _⟩ => ⟨S2816x1024, .f32⟩
  | .hbm, ⟨6, _⟩ => ⟨S4096x1024, .f32⟩
  | .hbm, ⟨7, _⟩ => ⟨S4096x2816, .f32⟩
  | .hbm, ⟨8, _⟩ => ⟨S4096x2816, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDwDown.lean ====
abbrev S4096x2816 : Shape := ⟨2, ![4096, 2816]⟩
abbrev S1x2816x1024 : Shape := ⟨3, ![1, 2816, 1024]⟩
abbrev S4096x1024 : Shape := ⟨2, ![4096, 1024]⟩
abbrev S1024x1408 : Shape := ⟨2, ![1024, 1408]⟩
abbrev S1024x1024 : Shape := ⟨2, ![1024, 1024]⟩
abbrev S1x1408x1024 : Shape := ⟨3, ![1, 1408, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S1x2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1x1408x1024, .f32⟩
  | .local _ .vmem, ⟨5, _⟩ => ⟨S1x1408x1024, .f32⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnDwDownRefIdeal.lean ====
abbrev S4096x2816 : Shape := ⟨2, ![4096, 2816]⟩
abbrev S1x2816x1024 : Shape := ⟨3, ![1, 2816, 1024]⟩
abbrev S4096x1024 : Shape := ⟨2, ![4096, 1024]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S1x2816x1024, .bf16⟩
  | .hbm, ⟨2, _⟩ => ⟨S4096x1024, .f32⟩
  | .hbm, ⟨3, _⟩ => ⟨S1x2816x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S1x2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Adam.lean ====
abbrev S1x1024x1024 : Shape := ⟨3, ![1, 1024, 1024]⟩
abbrev S1024x1024 : Shape := ⟨2, ![1024, 1024]⟩
abbrev S512x1024 : Shape := ⟨2, ![512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamRefIdeal.lean ====
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S_, .f32⟩
  | .hbm, ⟨11, _⟩ => ⟨S1024x1024, .f32⟩
  | .hbm, ⟨12, _⟩ => ⟨S1024x1024, .f32⟩
  | .hbm, ⟨13, _⟩ => ⟨S1024x1024, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S1024x1024, .f32⟩
  | .hbm, ⟨18, _⟩ => ⟨S_, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S_, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024x1024, .f32⟩
  | .hbm, ⟨35, _⟩ => ⟨S1024x1024, .f32⟩
  | .hbm, ⟨36, _⟩ => ⟨S1024x1024, .f32⟩
  | .hbm, ⟨37, _⟩ => ⟨S_, .f32⟩
  | .hbm, ⟨38, _⟩ => ⟨S1024x1024, .f32⟩
  | .hbm, ⟨39, _⟩ => ⟨S1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamLayer.lean ====
abbrev S2x1024x1408 : Shape := ⟨3, ![2, 1024, 1408]⟩
abbrev S1024x1408 : Shape := ⟨2, ![1024, 1408]⟩
abbrev S1x512x1408 : Shape := ⟨3, ![1, 512, 1408]⟩
abbrev S512x1408 : Shape := ⟨2, ![512, 1408]⟩

abbrev nBuf : Space → Nat
  | .hbm => 12
  | .vmem => 16
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S2x1024x1408, .f32⟩
  | .hbm, ⟨9, _⟩ => ⟨S2x1024x1408, .f32⟩
  | .hbm, ⟨10, _⟩ => ⟨S2x1024x1408, .f32⟩
  | .hbm, ⟨11, _⟩ => ⟨S2x1024x1408, .f32⟩
  | .local _ .vmem, ⟨0, _⟩ => ⟨S1x512x1408, .f32⟩
  | .local _ .vmem, ⟨1, _⟩ => ⟨S1x512x1408, .f32⟩
  | .local _ .vmem, ⟨2, _⟩ => ⟨S1x512x1408, .f32⟩
  | .local _ .vmem, ⟨3, _⟩ => ⟨S1x512x1408, .f32⟩
  | .local _ .vmem, ⟨4, _⟩ => ⟨S1x512x1408, .f32⟩
  | .local _ .vmem, ⟨5, _⟩ => ⟨S1x512x1408, .f32⟩
  | .local _ .vmem, ⟨6, _⟩ => ⟨S512x1408, .f32⟩
  | .local _ .vmem, ⟨7, _⟩ => ⟨S512x1408, .f32⟩
  | .local _ .vmem, ⟨8, _⟩ => ⟨S1x512x1408, .f32⟩
  | .local _ .vmem, ⟨9, _⟩ => ⟨S1x512x1408, .f32⟩
  | .local _ .vmem, ⟨10, _⟩ => ⟨S1x512x1408, .f32⟩
  | .local _ .vmem, ⟨11, _⟩ => ⟨S1x512x1408, .f32⟩
  | .local _ .vmem, ⟨12, _⟩ => ⟨S1x512x1408, .f32⟩
  | .local _ .vmem, ⟨13, _⟩ => ⟨S1x512x1408, .f32⟩
  | .local _ .vmem, ⟨14, _⟩ => ⟨S1x512x1408, .f32⟩
  | .local _ .vmem, ⟨15, _⟩ => ⟨S1x512x1408, .f32⟩
  | _, _ => ⟨S2x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamLayerIdeal.lean ====
variable {F : FTy → Type} [FloatOps F] [Named F]
def κ : String → Option EReal := fun
  | "c1" => some (((5463681 / 8388608)⁻¹ : ℝ) : EReal)
  | "c2" => some (((2672307 / 268435456)⁻¹ : ℝ) : EReal)
  | _ => none
-- ==== AdamLayerRefIdeal.lean ====
abbrev S2x1024x1408 : Shape := ⟨3, ![2, 1024, 1408]⟩
abbrev S1024x1408 : Shape := ⟨2, ![1024, 1408]⟩
abbrev S1x1024x1408 : Shape := ⟨3, ![1, 1024, 1408]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S2x1024x1408, .f32⟩
  | .hbm, ⟨1, _⟩ => ⟨S2x1024x1408, .f32⟩
  | .hbm, ⟨2, _⟩ => ⟨S2x1024x1408, .f32⟩
  | .hbm, ⟨3, _⟩ => ⟨S1024x1408, .f32⟩
  | .hbm, ⟨4, _⟩ => ⟨S2x1024x1408, .f32⟩
  | .hbm, ⟨5, _⟩ => ⟨S2x1024x1408, .f32⟩
  | .hbm, ⟨6, _⟩ => ⟨S2x1024x1408, .f32⟩
  | .hbm, ⟨7, _⟩ => ⟨S2x1024x1408, .f32⟩
  | .hbm, ⟨8, _⟩ => ⟨S1x1024x1408, .f32⟩
  | .hbm, ⟨9, _⟩ => ⟨S1024x1408, .f32⟩
  | .hbm, ⟨10, _⟩ => ⟨S1x1024x1408, .f32⟩
  | .hbm, ⟨11, _⟩ => ⟨S1024x1408, .f32⟩
  | .hbm, ⟨12, _⟩ => ⟨S1x1024x1408, .f32⟩
  | .hbm, ⟨13, _⟩ => ⟨S1024x1408, .f32⟩
  | .hbm, ⟨14, _⟩ => ⟨S_, .f32⟩
  | .hbm, ⟨15, _⟩ => ⟨S1024x1408, .f32⟩
  | .hbm, ⟨16, _⟩ => ⟨S1024x1408, .f32⟩
  | .hbm, ⟨17, _⟩ => ⟨S_, .f32⟩
  | .hbm, ⟨18, _⟩ => ⟨S1024x1408, .f32⟩
  | .hbm, ⟨19, _⟩ => ⟨S1024x1408, .f32⟩
  | .hbm, ⟨20, _⟩ => ⟨S1024x1408, .f32⟩
  | .hbm, ⟨21, _⟩ => ⟨S_, .f32⟩
  | .hbm, ⟨22, _⟩ => ⟨S1024x1408, .f32⟩
  | .hbm, ⟨23, _⟩ => ⟨S1024x1408, .f32⟩
  | .hbm, ⟨24, _⟩ => ⟨S1024x1408, .f32⟩
  | .hbm, ⟨25, _⟩ => ⟨S_, .f32⟩
  | .hbm, ⟨26, _⟩ => ⟨S1024x1408, .f32⟩
  | .hbm, ⟨27, _⟩ => ⟨S1024x1408, .f32⟩
  | .hbm, ⟨28, _⟩ => ⟨S1024x1408, .f32⟩
  | .hbm, ⟨29, _⟩ => ⟨S_, .f32⟩
  | .hbm, ⟨30, _⟩ => ⟨S1024x1408, .f32⟩
  | .hbm, ⟨31, _⟩ => ⟨S1024x1408, .f32⟩
  | .hbm, ⟨32, _⟩ => ⟨S_, .f32⟩
  | .hbm, ⟨33, _⟩ => ⟨S1024x1408, .f32⟩
  | .hbm, ⟨34, _⟩ => ⟨S1024x1408, .f32⟩
  | .hbm, ⟨35, _⟩ => ⟨S1024x1408, .f32⟩
  | .hbm, ⟨36, _⟩ => ⟨S_, .f32⟩
  | .hbm, ⟨37, _⟩ => ⟨S1024x1408, .f32⟩
  | .hbm, ⟨38, _⟩ => ⟨S1024x1408, .f32⟩
  | .hbm, ⟨39, _⟩ => ⟨S1024x1408, .f32⟩
  | .hbm, ⟨40, _⟩ => ⟨S_, .f32⟩
  | .hbm, ⟨41, _⟩ => ⟨S1024x1408, .f32⟩
  | .hbm, ⟨42, _⟩ => ⟨S1024x1408, .f32⟩
  | .hbm, ⟨43, _⟩ => ⟨S1024x1408, .f32⟩
  | .hbm, ⟨44, _⟩ => ⟨S_, .f32⟩
  | .hbm, ⟨45, _⟩ => ⟨S1024x1408, .f32⟩
  | .hbm, ⟨46, _⟩ => ⟨S1024x1408, .f32⟩
  | .hbm, ⟨47, _⟩ => ⟨S1x1024x1408, .f32⟩
  | .hbm, ⟨48, _⟩ => ⟨S1024x1408, .f32⟩
  | .hbm, ⟨49, _⟩ => ⟨S1x1024x1408, .f32⟩
  | .hbm, ⟨50, _⟩ => ⟨S1x1024x1408, .f32⟩
  | .hbm, ⟨51, _⟩ => ⟨S2x1024x1408, .f32⟩
  | .hbm, ⟨52, _⟩ => ⟨S1x1024x1408, .f32⟩
  | .hbm, ⟨53, _⟩ => ⟨S1024x1408, .f32⟩
  | .hbm, ⟨54, _⟩ => ⟨S1x1024x1408, .f32⟩
  | .hbm, ⟨55, _⟩ => ⟨S1x1024x1408, .f32⟩
  | .hbm, ⟨56, _⟩ => ⟨S2x1024x1408, .f32⟩
  | .hbm, ⟨57, _⟩ => ⟨S1x1024x1408, .f32⟩
  | .hbm, ⟨58, _⟩ => ⟨S1024x1408, .f32⟩
  | .hbm, ⟨59, _⟩ => ⟨S1x1024x1408, .f32⟩
  | .hbm, ⟨60, _⟩ => ⟨S1x1024x1408, .f32⟩
  | .hbm, ⟨61, _⟩ => ⟨S2x1024x1408, .f32⟩
  | .hbm, ⟨62, _⟩ => ⟨S1x1024x1408, .f32⟩
  | .hbm, ⟨63, _⟩ => ⟨S1024x1408, .f32⟩
  | .hbm, ⟨64, _⟩ => ⟨S1x1024x1408, .f32⟩
  | .hbm, ⟨65, _⟩ => ⟨S1x1024x1408, .f32⟩
  | .hbm, ⟨66, _⟩ => ⟨S2x1024x1408, .f32⟩
  | _, _ => ⟨S2x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== SmallSum.lean ====
abbrev S8x24x2816 : Shape := ⟨3, ![8, 24, 2816]⟩
abbrev S1x128 : Shape := ⟨2, ![1, 128]⟩
abbrev S1x16 : Shape := ⟨2, ![1, 16]⟩
abbrev S1x1024 : Shape := ⟨2, ![1, 1024]⟩
abbrev S2x1024 : Shape := ⟨2, ![2, 1024]⟩
abbrev S2x2816 : Shape := ⟨2, ![2, 2816]⟩
abbrev S6x2816 : Shape := ⟨2, ![6, 2816]⟩
abbrev S24x2816 : Shape := ⟨2, ![24, 2816]⟩
abbrev S1x24x2816 : Shape := ⟨3, ![1, 24, 2816]⟩

abbrev nBuf : Space → Nat
  | .hbm => 12
  | .vmem => 13
  | .smem => 0
  | _ => 0

abbrev bufTy : (tb : Table) → Fin (tcTables nBuf tb) → BufTy
  | .hbm, ⟨0, _⟩ => ⟨S8x24x2816, .f32⟩
  | .hbm, ⟨1, _⟩ => ⟨S1x128, .f32⟩
  | .hbm, ⟨2, _⟩ => ⟨S1x128, .f32⟩
  | .hbm, ⟨3, _⟩ => ⟨S1x16, .f32⟩
  | .hbm, ⟨4, _⟩ => ⟨S1x1024, .f32⟩
  | .hbm, ⟨5, _⟩ => ⟨S1x1024, .f32⟩
  | .hbm, ⟨6, _⟩ => ⟨S2x1024, .f32⟩
  | .hbm, ⟨7, _⟩ => ⟨S2x2816, .f32⟩
  | .hbm, ⟨8, _⟩ => ⟨S1x1024, .f32⟩
  | .hbm, ⟨9, _⟩ => ⟨S1x1024, .f32⟩
  | .hbm, ⟨10, _⟩ => ⟨S2x1024, .f32⟩
  | .hbm, ⟨11, _⟩ => ⟨S6x2816, .f32⟩
  | .local _ .vmem, ⟨0, _⟩ => ⟨S8x24x2816, .f32⟩
  | .local _ .vmem, ⟨1, _⟩ => ⟨S1x128, .f32⟩
  | .local _ .vmem, ⟨2, _⟩ => ⟨S1x128, .f32⟩
  | .local _ .vmem, ⟨3, _⟩ => ⟨S1x16, .f32⟩
  | .local _ .vmem, ⟨4, _⟩ => ⟨S1x1024, .f32⟩
  | .local _ .vmem, ⟨5, _⟩ => ⟨S1x1024, .f32⟩
  | .local _ .vmem, ⟨6, _⟩ => ⟨S2x1024, .f32⟩
  | .local _ .vmem, ⟨7, _⟩ => ⟨S2x2816, .f32⟩
  | .local _ .vmem, ⟨8, _⟩ => ⟨S1x1024, .f32⟩
  | .local _ .vmem, ⟨9, _⟩ => ⟨S1x1024, .f32⟩
  | .local _ .vmem, ⟨10, _⟩ => ⟨S2x1024, .f32⟩
  | .local _ .vmem, ⟨11, _⟩ => ⟨S6x2816, .f32⟩
  | .local _ .vmem, ⟨12, _⟩ => ⟨S24x2816, .f32⟩
  | _, _ => ⟨S8x24x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev main_v0_7 : Ref sig .tc := ⟨.hbm, 8, rfl⟩
abbrev main_v0_8 : Ref sig .tc := ⟨.hbm, 9, rfl⟩
abbrev main_v0_9 : Ref sig .tc := ⟨.hbm, 10, rfl⟩
abbrev main_v0_10 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_scratch0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S8x24x2816 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x2816 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x2816 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== SmallSumRefIdeal.lean ====
abbrev S8x24x2816 : Shape := ⟨3, ![8, 24, 2816]⟩
abbrev S_ : Shape := ⟨0, ![]⟩
abbrev S24x2816 : Shape := ⟨2, ![24, 2816]⟩
abbrev S1x128 : Shape := ⟨2, ![1, 128]⟩
abbrev S1x16 : Shape := ⟨2, ![1, 16]⟩
abbrev S1x1024 : Shape := ⟨2, ![1, 1024]⟩
abbrev S2x1024 : Shape := ⟨2, ![2, 1024]⟩
abbrev S2x2816 : Shape := ⟨2, ![2, 2816]⟩
abbrev S6x2816 : Shape := ⟨2, ![6, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8x24x2816, .f32⟩
  | .hbm, ⟨1, _⟩ => ⟨S_, .f32⟩
  | .hbm, ⟨2, _⟩ => ⟨S24x2816, .f32⟩
  | .hbm, ⟨3, _⟩ => ⟨S1x128, .f32⟩
  | .hbm, ⟨4, _⟩ => ⟨S1x128, .f32⟩
  | .hbm, ⟨5, _⟩ => ⟨S1x16, .f32⟩
  | .hbm, ⟨6, _⟩ => ⟨S1x1024, .f32⟩
  | .hbm, ⟨7, _⟩ => ⟨S1x1024, .f32⟩
  | .hbm, ⟨8, _⟩ => ⟨S2x1024, .f32⟩
  | .hbm, ⟨9, _⟩ => ⟨S2x2816, .f32⟩
  | .hbm, ⟨10, _⟩ => ⟨S1x1024, .f32⟩
  | .hbm, ⟨11, _⟩ => ⟨S1x1024, .f32⟩
  | .hbm, ⟨12, _⟩ => ⟨S2x1024, .f32⟩
  | .hbm, ⟨13, _⟩ => ⟨S6x2816, .f32⟩
  | _, _ => ⟨S8x24x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Proof.RealLaws.lean ====
/-
  Laws shared by every value proof of this directory: the ideal operations on finite extended reals are the
  real operations. A sum, a quotient, a reciprocal square root of real numbers is the real one, read back as
  an extended real, and the float words that the programs spell are the rationals below.
-/
module

public import Idealize.ShloMosaic.PureOps.Ideal
public import Idealize.ShloMosaic.Lib.Pointwise

@[expose] public section

noncomputable section

namespace Cert.Step

open Idealize.ShloMosaic

/-- A finite sum of real numbers, each read as an extended real, is the real sum read so. -/
theorem coe_sum {ι : Type*} (s : Finset ι) (f : ι → ℝ) : ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The ideal quotient of two real numbers, the second not zero. -/
theorem div_real (x : ℝ) {y : ℝ} (h : y ≠ 0) : Ideal.div (x : EReal) (y : EReal) = ((x / y : ℝ) : EReal) := by
  rw [Ideal.div_coe h, ← EReal.coe_mul, mul_one_div]

/-- The ideal reciprocal square root of a positive real number. -/
theorem rsqrt_real {x : ℝ} (h : 0 < x) : Ideal.rsqrt (x : EReal) = (((Real.sqrt x)⁻¹ : ℝ) : EReal) := by
  rw [Ideal.rsqrt_coe, if_neg (not_lt.2 h.le), if_neg h.ne']

/-- The ideal logarithm of a positive real number. -/
theorem log_real {x : ℝ} (h : 0 < x) : Ideal.log (x : EReal) = ((Real.log x : ℝ) : EReal) := by
  rw [Ideal.log_coe, if_neg (not_le.2 h)]

theorem lit_zero : Ideal.ofBits .f32 0x00000000#32 = ((0 : ℝ) : EReal) := by
  simp [Ideal.ofBits, Ideal.ieee, -EReal.coe_mul]
theorem lit_one : Ideal.ofBits .f32 0x3F800000#32 = ((1 : ℝ) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
theorem lit_half : Ideal.ofBits .f32 0x3F000000#32 = ((1 / 2 : ℝ) : EReal) := by
  simp [Ideal.ofBits, Ideal.ieee, -EReal.coe_mul]; norm_num
theorem lit_neg_half : Ideal.ofBits .f32 0xBF000000#32 = ((-(1 / 2) : ℝ) : EReal) := by
  simp [Ideal.ofBits, Ideal.ieee, -EReal.coe_mul]; norm_num
theorem lit_1024 : Ideal.ofBits .f32 0x44800000#32 = ((1024 : ℝ) : EReal) := by
  simp [Ideal.ofBits, Ideal.ieee, -EReal.coe_mul]; norm_num
theorem lit_inv_1024 : Ideal.ofBits .f32 0x3A800000#32 = ((1 / 1024 : ℝ) : EReal) := by
  simp [Ideal.ofBits, Ideal.ieee, -EReal.coe_mul]; norm_num

/-- The norm's `1e-6`, as the float word's rational. -/
def eps : ℝ := 8796093 / 2 ^ 43

theorem lit_eps : Ideal.ofBits .f32 0x358637BD#32 = ((eps : ℝ) : EReal) := by
  simp [Ideal.ofBits, Ideal.ieee, -EReal.coe_mul, eps]; norm_num

theorem eps_pos : 0 < eps := by unfold eps; norm_num

theorem lit_inf : Ideal.ofBits .f32 0x7F800000#32 = ⊤ := by
  simp [Ideal.ofBits, Ideal.ieee]

/-- An extended real whose magnitude is below `⊤` is a real number. -/
theorem real_of_abs_lt {x : EReal} (h : max x (-x) < ⊤) : x = ((x.toReal : ℝ) : EReal) := by
  induction x using EReal.rec with
  | bot => simp at h
  | top => simp at h
  | coe r => simp

/-- A sum over several axes, of which all but one have a single place: the initial value plus the sum over that axis. -/
theorem hostReduceAdd_line {s t : Shape} {axes : List (Fin s.rank)} (h : s.ReducesTo axes t) (x : s.Idx → EReal)
    (init : EReal) (j : t.Idx) {n : ℕ} (e : Fin n → s.Idx) (p : s.Idx → Fin n) (he : ∀ k, h.drop (e k) = j)
    (hp : ∀ k, p (e k) = k) (hi : ∀ i, h.drop i = j → e (p i) = i) :
    Ideal.hostReduceAdd h x init j = init + ∑ k, x (e k) := by
  unfold Ideal.hostReduceAdd
  congr 1
  refine Finset.sum_nbij' p e (fun _ _ => Finset.mem_univ _) (fun k _ => Finset.mem_filter.2 ⟨Finset.mem_univ _, he k⟩)
    (fun i hi' => hi i (Finset.mem_filter.1 hi').2) (fun k _ => hp k) (fun i hi' => ?_)
  rw [hi i (Finset.mem_filter.1 hi').2]

/-- Into an axis kept between two axes of size one, the sum is its only term. -/
theorem hostReduceAdd_mid {n : ℕ} (h : (⟨3, ![1, n, 1]⟩ : Shape).ReducesTo [0, 2] ⟨1, ![n]⟩)
    (x : (⟨3, ![1, n, 1]⟩ : Shape).Idx → EReal) (init : EReal) (r : Fin n) :
    Ideal.hostReduceAdd h x init (ix1 r) = init + x (ix3 0 r 0) := by
  rw [hostReduceAdd_line h x init (ix1 r) (n := 1) (fun _ => ix3 0 r 0) (fun _ => 0) ?_ (fun k => Subsingleton.elim _ _) ?_]
  · simp
  · intro k
    funext b
    match b with
    | ⟨0, _⟩ => exact Fin.ext rfl
  · intro i hi
    have h1 : i 1 = r := by
      have := congrArg Fin.val (congrFun hi 0)
      exact Fin.ext ((show (h.drop i 0).val = (i 1).val from rfl).symm.trans this)
    rw [eq_ix3 i, h1]
    congr 1
    · exact Subsingleton.elim (α := Fin 1) _ _
    · exact Subsingleton.elim (α := Fin 1) _ _

/-- Into an axis kept after two axes of size one, the sum is its only term. -/
theorem hostReduceAdd_last {n : ℕ} (h : (⟨3, ![1, 1, n]⟩ : Shape).ReducesTo [0, 1] ⟨1, ![n]⟩)
    (x : (⟨3, ![1, 1, n]⟩ : Shape).Idx → EReal) (init : EReal) (r : Fin n) :
    Ideal.hostReduceAdd h x init (ix1 r) = init + x (ix3 0 0 r) := by
  rw [hostReduceAdd_line h x init (ix1 r) (n := 1) (fun _ => ix3 0 0 r) (fun _ => 0) ?_ (fun k => Subsingleton.elim _ _) ?_]
  · simp
  · intro k
    funext b
    match b with
    | ⟨0, _⟩ => exact Fin.ext rfl
  · intro i hi
    have h1 : i 2 = r := by
      have := congrArg Fin.val (congrFun hi 0)
      exact Fin.ext ((show (h.drop i 0).val = (i 2).val from rfl).symm.trans this)
    rw [eq_ix3 i, h1]
    congr 1
    · exact Subsingleton.elim (α := Fin 1) _ _
    · exact Subsingleton.elim (α := Fin 1) _ _

theorem lit_inf16 : Ideal.ofBits .bf16 0x7F80#16 = ⊤ := by
  simp [Ideal.ofBits, Ideal.ieee]

/-- What a precondition `|x| < ∞` says of one array: every element is a real number. -/
theorem real_of_below {s : Shape} {φ : FTy} {w : BitVec φ.bits} (hw : Ideal.ofBits φ w = ⊤) (x : FVec Ideal s φ) (h0 : (⟨0, ![]⟩ : Shape).BroadcastsInDim s ![])
    (h : cmpf .olt (Host.absf x) (broadcastInDim s ![] h0 (constant ⟨0, ![]⟩ φ w)) = fun _ => 1#1) (i : s.Idx) :
    x i = ((x i).toReal : EReal) := by
  have := congrFun h i
  pointwise at this
  refine real_of_abs_lt ?_
  rw [hw] at this
  by_contra hn
  rw [decide_eq_false (show ¬(FloatOps.absf (x i) < (⊤ : EReal)) from hn)] at this
  exact absurd this (by decide)

theorem real_of_finite {s : Shape} (x : FVec Ideal s .f32) (h0 : (⟨0, ![]⟩ : Shape).BroadcastsInDim s ![])
    (h : cmpf .olt (Host.absf x) (broadcastInDim s ![] h0 (constant ⟨0, ![]⟩ .f32 0x7F800000#32)) = fun _ => 1#1) (i : s.Idx) :
    x i = ((x i).toReal : EReal) := real_of_below lit_inf x h0 h i

theorem real_of_finite16 {s : Shape} (x : FVec Ideal s .bf16) (h0 : (⟨0, ![]⟩ : Shape).BroadcastsInDim s ![])
    (h : cmpf .olt (Host.absf x) (broadcastInDim s ![] h0 (constant ⟨0, ![]⟩ .bf16 0x7F80#16)) = fun _ => 1#1) (i : s.Idx) :
    x i = ((x i).toReal : EReal) := real_of_below lit_inf16 x h0 h i

/-- So its rows are rows of real numbers. -/
theorem real_rows {n k : ℕ} (x : FVec Ideal ⟨3, ![1, n, k]⟩ .f32) (h0 : (⟨0, ![]⟩ : Shape).BroadcastsInDim ⟨3, ![1, n, k]⟩ ![])
    (h : cmpf .olt (Host.absf x) (broadcastInDim ⟨3, ![1, n, k]⟩ ![] h0 (constant ⟨0, ![]⟩ .f32 0x7F800000#32)) = fun _ => 1#1) :
    ∃ X : Fin n → Fin k → ℝ, ∀ z r d, x (ix3 z r d) = ((X r d : ℝ) : EReal) :=
  ⟨fun r d => (x (ix3 0 r d)).toReal, fun z r d => by rw [Subsingleton.elim z 0]; exact real_of_finite x h0 h _⟩

/-- … and so of a matrix. -/
theorem real_mat {n k : ℕ} (x : FVec Ideal ⟨2, ![n, k]⟩ .f32) (h0 : (⟨0, ![]⟩ : Shape).BroadcastsInDim ⟨2, ![n, k]⟩ ![])
    (h : cmpf .olt (Host.absf x) (broadcastInDim ⟨2, ![n, k]⟩ ![] h0 (constant ⟨0, ![]⟩ .f32 0x7F800000#32)) = fun _ => 1#1) :
    ∃ X : Fin n → Fin k → ℝ, ∀ r d, x (ix2 r d) = ((X r d : ℝ) : EReal) :=
  ⟨fun r d => (x (ix2 r d)).toReal, fun r d => real_of_finite x h0 h _⟩

/-- … and so of a vector. -/
theorem real_vec {n : ℕ} (x : FVec Ideal ⟨1, ![n]⟩ .f32) (h0 : (⟨0, ![]⟩ : Shape).BroadcastsInDim ⟨1, ![n]⟩ ![])
    (h : cmpf .olt (Host.absf x) (broadcastInDim ⟨1, ![n]⟩ ![] h0 (constant ⟨0, ![]⟩ .f32 0x7F800000#32)) = fun _ => 1#1) :
    ∃ X : Fin n → ℝ, ∀ d, x (ix1 d) = ((X d : ℝ) : EReal) :=
  ⟨fun d => (x (ix1 d)).toReal, fun d => real_of_finite x h0 h _⟩

/-- … and so of one row. -/
theorem real_row {n : ℕ} (x : FVec Ideal ⟨2, ![1, n]⟩ .f32) (h0 : (⟨0, ![]⟩ : Shape).BroadcastsInDim ⟨2, ![1, n]⟩ ![])
    (h : cmpf .olt (Host.absf x) (broadcastInDim ⟨2, ![1, n]⟩ ![] h0 (constant ⟨0, ![]⟩ .f32 0x7F800000#32)) = fun _ => 1#1) :
    ∃ X : Fin n → ℝ, ∀ z d, x (ix2 z d) = ((X d : ℝ) : EReal) :=
  ⟨fun d => (x (ix2 0 d)).toReal, fun z d => by rw [Subsingleton.elim z 0]; exact real_of_finite x h0 h _⟩

theorem real_rows16 {n k : ℕ} (x : FVec Ideal ⟨3, ![1, n, k]⟩ .bf16) (h0 : (⟨0, ![]⟩ : Shape).BroadcastsInDim ⟨3, ![1, n, k]⟩ ![])
    (h : cmpf .olt (Host.absf x) (broadcastInDim ⟨3, ![1, n, k]⟩ ![] h0 (constant ⟨0, ![]⟩ .bf16 0x7F80#16)) = fun _ => 1#1) :
    ∃ X : Fin n → Fin k → ℝ, ∀ z r d, x (ix3 z r d) = ((X r d : ℝ) : EReal) :=
  ⟨fun r d => (x (ix3 0 r d)).toReal, fun z r d => by rw [Subsingleton.elim z 0]; exact real_of_finite16 x h0 h _⟩

theorem real_mat16 {n k : ℕ} (x : FVec Ideal ⟨2, ![n, k]⟩ .bf16) (h0 : (⟨0, ![]⟩ : Shape).BroadcastsInDim ⟨2, ![n, k]⟩ ![])
    (h : cmpf .olt (Host.absf x) (broadcastInDim ⟨2, ![n, k]⟩ ![] h0 (constant ⟨0, ![]⟩ .bf16 0x7F80#16)) = fun _ => 1#1) :
    ∃ X : Fin n → Fin k → ℝ, ∀ r d, x (ix2 r d) = ((X r d : ℝ) : EReal) :=
  ⟨fun r d => (x (ix2 r d)).toReal, fun r d => real_of_finite16 x h0 h _⟩

end Cert.Step

end
-- ==== Proof.NormSpec.lean ====
/-
  One row of the root-mean-square norm over the real numbers, and its gradient: the row's reciprocal root
  mean square, the row it scales, and the gradient of the row from the gradient of what the norm returns.
-/
module

public import proofs.«01_k».proof.Proof.RealLaws

@[expose] public section

noncomputable section

namespace Cert.Step

/-- A row's mean square plus the norm's constant. -/
def msq (x : Fin 1024 → ℝ) : ℝ := (∑ k, x k * x k) / 1024 + eps

/-- A row's reciprocal root mean square. -/
def rs (x : Fin 1024 → ℝ) : ℝ := (Real.sqrt (msq x))⁻¹

theorem msq_pos (x : Fin 1024 → ℝ) : 0 < msq x :=
  add_pos_of_nonneg_of_pos (div_nonneg (Finset.sum_nonneg fun _ _ => mul_self_nonneg _) (by norm_num)) eps_pos

/-- The gradient of a row from `e`, the gradient of the scaled row times the gain. -/
def normGrad (x e : Fin 1024 → ℝ) (d : Fin 1024) : ℝ :=
  rs x * (e d - x d * rs x * ((∑ k, e k * (x k * rs x)) / 1024))

/-- The same gradient as the chain rule writes it, through the derivative `-1/2 · rs / msq` of the
    reciprocal root: the row enters the square twice. -/
theorem normGrad_chain (x e : Fin 1024 → ℝ) (d : Fin 1024) :
    e d * rs x + x d * (((∑ k, x k * e k) * (-(1 / 2) * (rs x / msq x))) / 1024)
      + (((∑ k, x k * e k) * (-(1 / 2) * (rs x / msq x))) / 1024) * x d = normGrad x e d := by
  have hp := msq_pos x
  have h2 : rs x / msq x = rs x * rs x * rs x := by
    have hs : Real.sqrt (msq x) ≠ 0 := (Real.sqrt_pos.2 hp).ne'
    have : msq x = Real.sqrt (msq x) * Real.sqrt (msq x) := (Real.mul_self_sqrt hp.le).symm
    unfold rs
    rw [div_eq_mul_inv, mul_assoc]
    congr 1
    rw [← mul_inv, ← this]
  have h3 : ∑ k, e k * (x k * rs x) = (∑ k, x k * e k) * rs x := by
    rw [Finset.sum_mul]; exact Finset.sum_congr rfl fun k _ => by ring
  unfold normGrad
  rw [h2, h3]
  ring

end Cert.Step

end
-- ==== Proof.LossSpec.lean ====
/-
  The loss head over the real numbers, one row at a time: the error of a row, its mean square, and the
  gradients of the row and of the norm's gain.
-/
module

public import proofs.«01_k».proof.Proof.NormSpec

@[expose] public section

noncomputable section

namespace Cert.Step

/-- The error of a row: the norm's output minus the target. -/
def lossErr (x g t : Fin 1024 → ℝ) (d : Fin 1024) : ℝ := x d * rs x * g d - t d

/-- The mean square error of a row. -/
def rowLoss (x g t : Fin 1024 → ℝ) : ℝ := (∑ d, lossErr x g t d * lossErr x g t d) / 1024

/-- A row's part of the gain's gradient. -/
def gainRow (x g t : Fin 1024 → ℝ) (d : Fin 1024) : ℝ := lossErr x g t d * (1 / 1024) * (x d * rs x)

/-- The gradient of the row. -/
def lossGrad (x g t : Fin 1024 → ℝ) (d : Fin 1024) : ℝ :=
  normGrad x (fun k => lossErr x g t k * (1 / 1024) * g k) d

end Cert.Step

end
-- ==== Proof.LossBlock.lean ====
/-
  What one block of the loss head computes, read at an index: the gradient of a row, the block's part of the
  gain's gradient and the block's part of the loss.
-/
module

public import proofs.«01_k».proof.Proof.LossSpec
public import proofs.«01_k».proof.Proof.Gen.LossHeadIdeal.Skeleton

@[expose] public section

set_option maxRecDepth 16384

noncomputable section

namespace Cert.LossHeadIdeal.Block

open Idealize.ShloMosaic Cert.LossHeadIdeal Cert.LossHeadIdeal.Gen Cert.Step

variable (x t : Vec Ideal S512x1024 .f32) (g : Vec Ideal S1x1024 .f32)
variable (X T : Fin 512 → Fin 1024 → ℝ) (G : Fin 1024 → ℝ)

/-- A row's reciprocal root mean square. -/
theorem pay7_at (hx : ∀ r d, x (ix2 r d) = ((X r d : ℝ) : EReal)) (r : Fin 512) (z : Fin 1) :
    k0_pay7 (F := Ideal) x (ix2 r z) = ((rs (X r) : ℝ) : EReal) := by
  pointwise [k0_pay7, k0_pay6]
  simp only [hx, ← EReal.coe_mul, coe_sum, lit_1024, lit_eps]
  rw [div_real _ (by norm_num), ← EReal.coe_add]
  exact rsqrt_real (msq_pos (X r))

/-- The scaled row. -/
theorem pay8_at (hx : ∀ r d, x (ix2 r d) = ((X r d : ℝ) : EReal)) (r : Fin 512) (d : Fin 1024) :
    k0_pay8 (F := Ideal) x (ix2 r d) = ((X r d * rs (X r) : ℝ) : EReal) := by
  pointwise [k0_pay8, k0_pay6, pay7_at x X hx]
  rw [hx, EReal.coe_mul]

/-- The error. -/
theorem pay10_at (hx : ∀ r d, x (ix2 r d) = ((X r d : ℝ) : EReal)) (ht : ∀ r d, t (ix2 r d) = ((T r d : ℝ) : EReal))
    (hg : ∀ d, g (ix2 0 d) = ((G d : ℝ) : EReal)) (r : Fin 512) (d : Fin 1024) :
    k0_pay10 (F := Ideal) x g t (ix2 r d) = ((lossErr (X r) G (T r) d : ℝ) : EReal) := by
  pointwise [k0_pay10, k0_pay9]
  rw [ht, hg, pay8_at x X hx, ← EReal.coe_mul, ← EReal.coe_sub]
  rfl

/-- The gradient of the rows. -/
theorem pay2_at (hx : ∀ r d, x (ix2 r d) = ((X r d : ℝ) : EReal)) (ht : ∀ r d, t (ix2 r d) = ((T r d : ℝ) : EReal))
    (hg : ∀ d, g (ix2 0 d) = ((G d : ℝ) : EReal)) (r : Fin 512) (d : Fin 1024) :
    k0_pay2 (F := Ideal) (k0_pay7 x) (k0_pay8 x) (k0_pay9 g) (k0_pay10 x g t) k0_pay12 (ix2 r d)
      = ((lossGrad (X r) G (T r) d : ℝ) : EReal) := by
  pointwise [k0_pay2, k0_pay1, k0_pay9, k0_pay12]
  simp only [hg, pay7_at x X hx, pay8_at x X hx, pay10_at x t g X T G hx ht hg, lit_inv_1024, lit_1024, ← EReal.coe_mul, coe_sum]
  rw [div_real _ (by norm_num), ← EReal.coe_mul, ← EReal.coe_sub, ← EReal.coe_mul]
  congr 1

/-- The block's part of the gain's gradient, added to what was there. -/
theorem pay3_at (hx : ∀ r d, x (ix2 r d) = ((X r d : ℝ) : EReal)) (ht : ∀ r d, t (ix2 r d) = ((T r d : ℝ) : EReal))
    (hg : ∀ d, g (ix2 0 d) = ((G d : ℝ) : EReal)) (acc : Vec Ideal S1x1024 .f32) (z : Fin 1) (d : Fin 1024) :
    k0_pay3 (F := Ideal) (k0_pay8 x) (k0_pay10 x g t) k0_pay12 acc (ix2 z d)
      = acc (ix2 z d) + ((∑ r, gainRow (X r) G (T r) d : ℝ) : EReal) := by
  pointwise [k0_pay3, k0_pay1, k0_pay12]
  simp only [pay8_at x X hx, pay10_at x t g X T G hx ht hg, lit_inv_1024, ← EReal.coe_mul, coe_sum]
  rfl

/-- The block's part of the loss, added to what was there. -/
theorem pay11_at (hx : ∀ r d, x (ix2 r d) = ((X r d : ℝ) : EReal)) (ht : ∀ r d, t (ix2 r d) = ((T r d : ℝ) : EReal))
    (hg : ∀ d, g (ix2 0 d) = ((G d : ℝ) : EReal)) (acc : Vec Ideal S1x128 .f32) (z : Fin 1) (l : Fin 128) :
    k0_pay11 (F := Ideal) x g t acc (ix2 z l)
      = acc (ix2 z l) + ((1 / 2 * ∑ r, rowLoss (X r) G (T r) : ℝ) : EReal) := by
  pointwise [k0_pay11]
  simp only [pay10_at x t g X T G hx ht hg, lit_1024, lit_half, ← EReal.coe_mul, coe_sum]
  simp only [div_real _ (show (1024 : ℝ) ≠ 0 by norm_num), ← EReal.coe_mul, coe_sum]
  rfl

end Cert.LossHeadIdeal.Block

end
-- ==== Proof.LossValue.lean ====
/-
  The loss head's result arrays at finite arguments: each array as one function of the rows, from what each
  block computes.
-/
module

public import proofs.«01_k».proof.Proof.LossBlock
public import proofs.«01_k».proof.Proof.Gen.LossHeadIdeal.Value
public import Idealize.ShloMosaic.Lib.Pipeline.ValueKit

@[expose] public section

set_option maxRecDepth 16384

noncomputable section

namespace Cert.LossHeadIdeal.Block

open Idealize.ShloMosaic Idealize.ShloMosaic.TcCoe Idealize.SL.Sem Cert.LossHeadIdeal Cert.LossHeadIdeal.Gen Cert.Step

theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![0, 0] :=
  (by decide +kernel : ∀ t : Fin grid0.N, _)

variable (m : (ℓ : Loc nD τ sig) → Buf (Elt Ideal) ℓ) (c : Dev nD)
variable (X T : Fin 4096 → Fin 1024 → ℝ) (G : Fin 1024 → ℝ)

/-- The row of the whole array that row `r` of block `t` is. -/
def row (t : Fin cfg0.N) (r : Fin 512) : Fin 4096 :=
  ⟨t.val * 512 + r.val, by have := t.isLt; have h : cfg0.N = 8 := N_0; have := r.isLt; omega⟩

/-- A sum over the blocks of the sums over their rows is the sum over all rows. -/
theorem sum_rows (f : Fin 4096 → ℝ) : ∑ t : Fin cfg0.N, ∑ r : Fin 512, f (row t r) = ∑ r, f r :=
  (Fin.sum_univ_tiles cfg0.N 512 (by rw [show cfg0.N = 8 from N_0]) f).symm

theorem blk_h (hx : ∀ z r d, m ((c.tc : Thread nD τ).loc main_arg0) (ix3 z r d) = ((X r d : ℝ) : EReal)) (t : Fin cfg0.N)
    (r : Fin 512) (d : Fin 1024) : iblk (F := Ideal) m c 0 t (ix2 r d) = ((X (row t r) d : ℝ) : EReal) := by
  rw [← hx 0]
  blk_point [iblk, V, idx t]
  rfl

theorem blk_t (ht : ∀ z r d, m ((c.tc : Thread nD τ).loc main_arg2) (ix3 z r d) = ((T r d : ℝ) : EReal)) (t : Fin cfg0.N)
    (r : Fin 512) (d : Fin 1024) : iblk (F := Ideal) m c 2 t (ix2 r d) = ((T (row t r) d : ℝ) : EReal) := by
  rw [← ht 0]
  blk_point [iblk, V, idx t]
  rfl

theorem blk_g (hg : ∀ d, m ((c.tc : Thread nD τ).loc main_arg1) (ix1 d) = ((G d : ℝ) : EReal)) (t : Fin cfg0.N)
    (d : Fin 1024) : iblk (F := Ideal) m c 1 t (ix2 0 d) = ((G d : ℝ) : EReal) := by
  rw [← hg]
  blk_point [iblk, V, idx t]

/-- The gradient of the hidden state, after the run. -/
theorem final3 (hx : ∀ z r d, m ((c.tc : Thread nD τ).loc main_arg0) (ix3 z r d) = ((X r d : ℝ) : EReal))
    (ht : ∀ z r d, m ((c.tc : Thread nD τ).loc main_arg2) (ix3 z r d) = ((T r d : ℝ) : EReal))
    (hg : ∀ d, m ((c.tc : Thread nD τ).loc main_arg1) (ix1 d) = ((G d : ℝ) : EReal)) :
    (dats m 0 c).arrAt 3 cfg0.N = fun i : S4096x1024.Idx => ((lossGrad (X (i 0)) G (T (i 0)) (i 1) : ℝ) : EReal) := by
  have key : ∀ (t : Fin cfg0.N) (r : Fin 512) (d : Fin 1024) (i : S4096x1024.Idx), i = ix2 (row t r) d →
      k0_pay2 (F := Ideal) (k0_pay7 (iblk m c 0 t)) (k0_pay8 (iblk m c 0 t)) (k0_pay9 (iblk m c 1 t))
        (k0_pay10 (iblk m c 0 t) (iblk m c 1 t) (iblk m c 2 t)) k0_pay12 (ix2 r d)
        = ((lossGrad (X (i 0)) G (T (i 0)) (i 1) : ℝ) : EReal) := by
    rintro t r d i rfl
    exact pay2_at _ _ _ (fun r => X (row t r)) (fun r => T (row t r)) G (blk_h m c X hx t) (blk_t m c T ht t) (blk_g m c G hg t) r d
  refine (dats m 0 c).arrAt_eq_of_covers 3 _ (by decide +kernel) fun t _ y => ?_
  blk_simp
  rw [after0_3]
  by_cases h0 : t.val % 8 = 0
  · rw [outsAt0_A m c t h0]; frame_out
    idx_vars y
    refine key t y0 y1 _ ?_
    blk_ext [idx t]
    rfl
  · rw [outsAt0_B m c t h0]; frame_out
    idx_vars y
    refine key t y0 y1 _ ?_
    blk_ext [idx t]
    rfl

/-- The gradient of the norm's gain, after the run. -/
theorem final4 (hx : ∀ z r d, m ((c.tc : Thread nD τ).loc main_arg0) (ix3 z r d) = ((X r d : ℝ) : EReal))
    (ht : ∀ z r d, m ((c.tc : Thread nD τ).loc main_arg2) (ix3 z r d) = ((T r d : ℝ) : EReal))
    (hg : ∀ d, m ((c.tc : Thread nD τ).loc main_arg1) (ix1 d) = ((G d : ℝ) : EReal)) :
    (dats m 0 c).arrAt 4 cfg0.N = fun i : S1x1024.Idx => ((∑ r, gainRow (X r) G (T r) (i 1) : ℝ) : EReal) := by
  refine (dats m 0 c).arrAt_eq_of_after_last 4 t0_7 (by decide +kernel) _ fun j => ?_
  blk_simp
  rw [after0_4]
  idx_vars j
  rw [Pipeline.eq_sum_fin_of_reset_step_apply_last (fun n h => (outsAt0 m c n h).2.1) 8 (fun _ => 0)
      (fun t j => ((∑ r, gainRow (X (row t r)) G (T (row t r)) (j 1) : ℝ) : EReal))
      (fun t h j => by
        rw [outsAt0_A m c t h]; frame_out
        idx_vars j
        rw [pay3_at _ _ _ (fun r => X (row t r)) (fun r => T (row t r)) G (blk_h m c X hx t) (blk_t m c T ht t) (blk_g m c G hg t)]
        pointwise [k0_pay4])
      (fun t h j => by
        rw [outsAt0_B m c t h]; frame_out
        idx_vars j
        exact pay3_at _ _ _ (fun r => X (row t r)) (fun r => T (row t r)) G (blk_h m c X hx t) (blk_t m c T ht t) (blk_g m c G hg t) _ _ _)
      (le_of_eq N_0) t0_7 rfl]
  rw [zero_add, coe_sum]
  exact congrArg _ (sum_rows fun r => gainRow (X r) G (T r) j1)

/-- The loss, after the run. -/
theorem final5 (hx : ∀ z r d, m ((c.tc : Thread nD τ).loc main_arg0) (ix3 z r d) = ((X r d : ℝ) : EReal))
    (ht : ∀ z r d, m ((c.tc : Thread nD τ).loc main_arg2) (ix3 z r d) = ((T r d : ℝ) : EReal))
    (hg : ∀ d, m ((c.tc : Thread nD τ).loc main_arg1) (ix1 d) = ((G d : ℝ) : EReal)) :
    (dats m 0 c).arrAt 5 cfg0.N = fun _ : S1x128.Idx => ((1 / 2 * ∑ r, rowLoss (X r) G (T r) : ℝ) : EReal) := by
  refine (dats m 0 c).arrAt_eq_of_after_last 5 t0_7 (by decide +kernel) _ fun j => ?_
  blk_simp
  rw [after0_5]
  idx_vars j
  rw [Pipeline.eq_sum_fin_of_reset_step_apply_last (fun n h => (outsAt0 m c n h).2.2) 8 (fun _ => 0)
      (fun t _ => ((1 / 2 * ∑ r, rowLoss (X (row t r)) G (T (row t r)) : ℝ) : EReal))
      (fun t h j => by
        rw [outsAt0_A m c t h]; frame_out
        idx_vars j
        rw [pay11_at _ _ _ (fun r => X (row t r)) (fun r => T (row t r)) G (blk_h m c X hx t) (blk_t m c T ht t) (blk_g m c G hg t)]
        pointwise [k0_pay5])
      (fun t h j => by
        rw [outsAt0_B m c t h]; frame_out
        idx_vars j
        exact pay11_at _ _ _ (fun r => X (row t r)) (fun r => T (row t r)) G (blk_h m c X hx t) (blk_t m c T ht t) (blk_g m c G hg t) _ _ _)
      (le_of_eq N_0) t0_7 rfl]
  rw [zero_add, coe_sum, ← Finset.mul_sum]
  exact congrArg (fun s : ℝ => ((1 / 2 * s : ℝ) : EReal)) (sum_rows fun r => rowLoss (X r) G (T r))

end Cert.LossHeadIdeal.Block

end
-- ==== Proof.LossRef.lean ====
/-
  What the reference's loss and its gradients are at finite arguments: the reference's operations, read at an
  index, are the real numbers that the loss head's row functions name.
-/
module

public import proofs.«01_k».proof.Proof.LossSpec
public import proofs.«01_k».proof.Proof.Gen.LossHeadRefIdeal.Read

@[expose] public section

set_option maxRecDepth 16384

noncomputable section

namespace Cert.LossHeadRefIdeal.Spec

open Idealize.ShloMosaic Cert.LossHeadRefIdeal Cert.LossHeadRefIdeal.Read Cert.Step

variable (x0 x2 : Vec Ideal S1x4096x1024 .f32) (x1 : Vec Ideal S1024 .f32)
variable (X T : Fin 4096 → Fin 1024 → ℝ) (G : Fin 1024 → ℝ)

theorem v6_at (hx : ∀ z r d, x0 (ix3 z r d) = ((X r d : ℝ) : EReal)) (z : Fin 1) (r : Fin 4096) (y : Fin 1) :
    val_main_v6 (F := Ideal) x0 (ix3 z r y) = ((msq (X r) : ℝ) : EReal) := by
  pointwise [val_main_v6, val_main_v5, val_main_cst_1, val_main_v4, val_main_v3, val_main_cst_0, val_main_v2, val_main_v1, val_main_cst, val_main_v0]
  simp only [hx, ← EReal.coe_mul, coe_sum, lit_1024, lit_eps, lit_zero, EReal.coe_zero, zero_add]
  rw [div_real _ (by norm_num), ← EReal.coe_add]
  rfl

theorem v7_at (hx : ∀ z r d, x0 (ix3 z r d) = ((X r d : ℝ) : EReal)) (z : Fin 1) (r : Fin 4096) (y : Fin 1) :
    val_main_v7 (F := Ideal) x0 (ix3 z r y) = ((rs (X r) : ℝ) : EReal) := by
  pointwise [val_main_v7, v6_at x0 X hx]
  exact rsqrt_real (msq_pos (X r))

theorem v10_at (hx : ∀ z r d, x0 (ix3 z r d) = ((X r d : ℝ) : EReal)) (z : Fin 1) (r : Fin 4096) (y : Fin 1) :
    val_main_v10 (F := Ideal) x0 (ix3 z r y) = ((-(1 / 2) * (rs (X r) / msq (X r)) : ℝ) : EReal) := by
  pointwise [val_main_v10, val_main_v9, val_main_v8, val_main_cst_2, v6_at x0 X hx, v7_at x0 X hx]
  rw [lit_neg_half, div_real _ (msq_pos (X r)).ne', ← EReal.coe_mul]

theorem v16_at (hx : ∀ z r d, x0 (ix3 z r d) = ((X r d : ℝ) : EReal)) (ht : ∀ z r d, x2 (ix3 z r d) = ((T r d : ℝ) : EReal))
    (hg : ∀ d, x1 (ix1 d) = ((G d : ℝ) : EReal)) (z : Fin 1) (r : Fin 4096) (d : Fin 1024) :
    val_main_v16 (F := Ideal) x0 x1 x2 (ix3 z r d) = ((lossErr (X r) G (T r) d : ℝ) : EReal) := by
  pointwise [val_main_v16, val_main_v15, val_main_v14, val_main_v13, val_main_v12, val_main_v11, v7_at x0 X hx]
  rw [hx, ht, hg, ← EReal.coe_mul, ← EReal.coe_mul, ← EReal.coe_sub]
  rfl

theorem v30_at (hx : ∀ z r d, x0 (ix3 z r d) = ((X r d : ℝ) : EReal)) (ht : ∀ z r d, x2 (ix3 z r d) = ((T r d : ℝ) : EReal))
    (hg : ∀ d, x1 (ix1 d) = ((G d : ℝ) : EReal)) (z : Fin 1) (r : Fin 4096) (d : Fin 1024) :
    val_main_v30 (F := Ideal) x0 x1 x2 (ix3 z r d) = ((lossErr (X r) G (T r) d * (1 / 1024) : ℝ) : EReal) := by
  pointwise [val_main_v30, val_main_v29, val_main_v28, val_main_v27, val_main_cst_10, val_main_v26, val_main_v25,
    val_main_cst_8, val_main_cst_9, val_main_v19, val_main_v18, val_main_cst_3, v16_at x0 x2 x1 X T G hx ht hg]
  simp only [lit_half, lit_two, lit_1024, lit_one, ← EReal.coe_mul, one_mul, mul_one]
  rw [div_real _ (by norm_num), ← EReal.coe_mul]
  congr 1
  ring

/-- The loss. -/
theorem v55_at (hx : ∀ z r d, x0 (ix3 z r d) = ((X r d : ℝ) : EReal)) (ht : ∀ z r d, x2 (ix3 z r d) = ((T r d : ℝ) : EReal))
    (hg : ∀ d, x1 (ix1 d) = ((G d : ℝ) : EReal)) (z : Fin 1) (l : Fin 128) :
    val_main_v55 (F := Ideal) x0 x1 x2 (ix2 z l) = ((1 / 2 * ∑ r, rowLoss (X r) G (T r) : ℝ) : EReal) := by
  pointwise [val_main_v55, val_main_v24, val_main_cst_7, val_main_v23, val_main_cst_6, val_main_v22, val_main_v21,
    val_main_cst_5, val_main_v20, val_main_cst_4, val_main_v17, v16_at x0 x2 x1 X T G hx ht hg]
  simp only [lit_half, lit_1024, lit_zero, EReal.coe_zero, zero_add, ← EReal.coe_mul, coe_sum,
    div_real _ (show (1024 : ℝ) ≠ 0 by norm_num), sum_idx2, Fin.sum_univ_one, v16_at x0 x2 x1 X T G hx ht hg]
  rfl

/-- The gradient of the gain. -/
theorem v54_at (hx : ∀ z r d, x0 (ix3 z r d) = ((X r d : ℝ) : EReal)) (ht : ∀ z r d, x2 (ix3 z r d) = ((T r d : ℝ) : EReal))
    (hg : ∀ d, x1 (ix1 d) = ((G d : ℝ) : EReal)) (z : Fin 1) (d : Fin 1024) :
    val_main_v54 (F := Ideal) x0 x1 x2 (ix2 z d) = ((∑ r, gainRow (X r) G (T r) d : ℝ) : EReal) := by
  pointwise [val_main_v54, val_main_v37]
  rw [hostReduceAdd_last]
  pointwise [val_main_cst_12, val_main_v34, val_main_v33, val_main_cst_11, val_main_v32, val_main_v31, val_main_v12, val_main_v11,
    v30_at x0 x2 x1 X T G hx ht hg, v7_at x0 X hx]
  simp only [hx, lit_zero, EReal.coe_zero, zero_add, ← EReal.coe_mul, coe_sum, v30_at x0 x2 x1 X T G hx ht hg]
  congr 1
  exact Finset.sum_congr rfl fun r _ => mul_comm _ _

theorem v36_at (hx : ∀ z r d, x0 (ix3 z r d) = ((X r d : ℝ) : EReal)) (ht : ∀ z r d, x2 (ix3 z r d) = ((T r d : ℝ) : EReal))
    (hg : ∀ d, x1 (ix1 d) = ((G d : ℝ) : EReal)) (z : Fin 1) (r : Fin 4096) (d : Fin 1024) :
    val_main_v36 (F := Ideal) x0 x1 x2 (ix3 z r d) = ((lossErr (X r) G (T r) d * (1 / 1024) * G d : ℝ) : EReal) := by
  pointwise [val_main_v36, val_main_v35, val_main_v13, v30_at x0 x2 x1 X T G hx ht hg]
  rw [hg, ← EReal.coe_mul]

/-- The chain rule's part through the row's mean square, one number for each row. -/
theorem v46_at (hx : ∀ z r d, x0 (ix3 z r d) = ((X r d : ℝ) : EReal)) (ht : ∀ z r d, x2 (ix3 z r d) = ((T r d : ℝ) : EReal))
    (hg : ∀ d, x1 (ix1 d) = ((G d : ℝ) : EReal)) (r : Fin 4096) :
    val_main_v46 (F := Ideal) x0 x1 x2 (ix1 r)
      = ((((∑ k, X r k * (lossErr (X r) G (T r) k * (1 / 1024) * G k)) * (-(1 / 2) * (rs (X r) / msq (X r)))) / 1024 : ℝ) : EReal) := by
  pointwise [val_main_v46]
  rw [hostReduceAdd_mid]
  pointwise [val_main_cst_15, val_main_v45, val_main_v44, val_main_cst_14, val_main_v43, val_main_v40, val_main_v39, val_main_cst_13,
    val_main_v38, v36_at x0 x2 x1 X T G hx ht hg, v10_at x0 X hx]
  simp only [hx, v36_at x0 x2 x1 X T G hx ht hg, lit_1024, lit_zero, EReal.coe_zero, zero_add, ← EReal.coe_mul, coe_sum]
  rw [div_real _ (by norm_num)]

/-- The gradient of the hidden state. -/
theorem v53_at (hx : ∀ z r d, x0 (ix3 z r d) = ((X r d : ℝ) : EReal)) (ht : ∀ z r d, x2 (ix3 z r d) = ((T r d : ℝ) : EReal))
    (hg : ∀ d, x1 (ix1 d) = ((G d : ℝ) : EReal)) (r : Fin 4096) (d : Fin 1024) :
    val_main_v53 (F := Ideal) x0 x1 x2 (ix2 r d) = ((lossGrad (X r) G (T r) d : ℝ) : EReal) := by
  pointwise [val_main_v53, val_main_v52, val_main_v51, val_main_v50, val_main_v49, val_main_v48, val_main_v47, val_main_v42,
    val_main_v41, v36_at x0 x2 x1 X T G hx ht hg, v7_at x0 X hx, v46_at x0 x2 x1 X T G hx ht hg]
  rw [hx]
  simp only [← EReal.coe_mul, ← EReal.coe_add]
  exact congrArg _ (normGrad_chain (X r) (fun k => lossErr (X r) G (T r) k * (1 / 1024) * G k) d)

open Idealize.SL.Sem in
/-- The reference's run, its results named operation by operation. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v53) = val_main_v53 (F := Ideal) (m ((c.tc : Thread nD τ).loc main_arg0)) (m ((c.tc : Thread nD τ).loc main_arg1)) (m ((c.tc : Thread nD τ).loc main_arg2))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2))
      ∧ r.2.mem ((c.tc : Thread nD τ).loc main_v55) = val_main_v55 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v53_eq m c), (h c).2.1.trans (val_main_v54_eq _ _ _),
    (h c).2.2.1.trans (val_main_v55_eq _ _ _), (h c).2.2.2⟩) (Cert.LossHeadRefIdeal.Value.run (F := Ideal) m ρ)

end Cert.LossHeadRefIdeal.Spec

end
-- ==== Proof.LossClaim.lean ====
/-
  The loss head's value claim: at finite arguments both programs end with the same three arrays.
-/
module

public import proofs.«01_k».proof.Defs
public import proofs.«01_k».proof.Proof.LossValue
public import proofs.«01_k».proof.Proof.LossRef
public import proofs.«01_k».proof.Proof.Gen.Pre_loss_finite
public import Idealize.ShloMosaic.Lib.Claim

@[expose] public section

set_option maxRecDepth 16384

noncomputable section

open Idealize.ShloMosaic Idealize.SL.Sem

namespace Cert.Step

/-- The reference terminates and leaves its arguments as they were. -/
theorem loss_ref_frame : letI := Cert.LossHeadRefIdeal.Gen.facts; Cert.quiescent_LossHeadRefIdeal := fun m ρ _ =>
  (θ_run Cert.LossHeadRefIdeal.defs _ _).mono (fun r h => ⟨fun c => (h c).2.2.2, sem_eq_zero_of_no_sems (by decide) r.2⟩)
    (Cert.LossHeadRefIdeal.Value.run (F := Ideal) m ρ)

theorem loss_algebraic : letI := Cert.LossHeadIdeal.Gen.facts; letI := Cert.LossHeadRefIdeal.Gen.facts; letI := Cert.Pre_loss_finite.Gen.facts;
    Cert.algebraic_LossHeadIdeal_LossHeadRefIdeal_pre_loss_finite := by
  intro m g m' g' hpre hargs
  refine ⟨fun c => (Cert.LossHeadIdeal.Gen.dats m 0 c).arrAt 3 Cert.LossHeadIdeal.cfg0.N,
    fun c => (Cert.LossHeadIdeal.Gen.dats m 0 c).arrAt 4 Cert.LossHeadIdeal.cfg0.N,
    fun c => (Cert.LossHeadIdeal.Gen.dats m 0 c).arrAt 5 Cert.LossHeadIdeal.cfg0.N, ?_, ?_⟩
  · run_from Cert.LossHeadIdeal.Gen.run_main m g
  · refine (θ_run Cert.LossHeadRefIdeal.defs _ _).mono (fun r h c => ?_) (Cert.LossHeadRefIdeal.Spec.run m' g')
    obtain ⟨p0, p1, p2⟩ := hpre c
    obtain ⟨a0, a1, a2⟩ := hargs c
    obtain ⟨X, hx⟩ := real_rows _ _ p0
    obtain ⟨G, hg⟩ := real_vec _ _ p1
    obtain ⟨T, ht⟩ := real_rows _ _ p2
    obtain ⟨h0, h1, h2, k⟩ := h c
    rw [a0, a1, a2] at h0 h1 h2
    refine ⟨h0.trans ?_, h1.trans ?_, h2.trans ?_, k⟩
    · refine Eq.trans ?_ (Cert.LossHeadIdeal.Block.final3 m c _ _ _ hx ht hg).symm
      funext i
      idx_vars i
      exact Cert.LossHeadRefIdeal.Spec.v53_at _ _ _ _ _ _ hx ht hg i0 i1
    · refine Eq.trans ?_ (Cert.LossHeadIdeal.Block.final4 m c _ _ _ hx ht hg).symm
      funext i
      idx_vars i
      exact Cert.LossHeadRefIdeal.Spec.v54_at _ _ _ _ _ _ hx ht hg i0 i1
    · refine Eq.trans ?_ (Cert.LossHeadIdeal.Block.final5 m c _ _ _ hx ht hg).symm
      funext i
      idx_vars i
      exact Cert.LossHeadRefIdeal.Spec.v55_at _ _ _ _ _ _ hx ht hg i0 i1

end Cert.Step

end
-- ==== Proof.FfnSpec.lean ====
/-
  The gradient of a norm followed by a product with a weight, over the real numbers: the gradient of the
  normed row is a product with the weight's transpose, and the row's own gradient adds what came past the norm.
-/
module

public import proofs.«01_k».proof.Proof.NormSpec

@[expose] public section

noncomputable section

namespace Cert.Step

/-- The gradient of a normed row: row `y` times the weight's transpose. -/
def backRow {n : ℕ} (w : Fin 1024 → Fin n → ℝ) (y : Fin n → ℝ) (d : Fin 1024) : ℝ := ∑ j, y j * w d j

/-- The gradient of the row: what came past the norm, plus the norm's gradient of `e · g`. -/
def resGrad (x g e past : Fin 1024 → ℝ) (d : Fin 1024) : ℝ := past d + normGrad x (fun k => e k * g k) d

/-- A row's part of the gradient of the gain. -/
def gainPart (x e : Fin 1024 → ℝ) (d : Fin 1024) : ℝ := e d * (x d * rs x)

/-- The gradient of a row that two norms with gains `g` and `g'` read, each before a product of its own. -/
def resGrad2 (x g g' e e' past : Fin 1024 → ℝ) (d : Fin 1024) : ℝ :=
  past d + normGrad x (fun k => e k * g k + e' k * g' k) d

/-- The norm's gradient is additive. -/
theorem normGrad_add (x e e' : Fin 1024 → ℝ) (d : Fin 1024) :
    normGrad x (fun k => e k + e' k) d = normGrad x e d + normGrad x e' d := by
  unfold normGrad
  simp only [add_mul, Finset.sum_add_distrib]
  ring

end Cert.Step

end
-- ==== Proof.FfnBlock.lean ====
/-
  What one block of the fused product and norm gradient computes, read at an index.
-/
module

public import proofs.«01_k».proof.Proof.FfnSpec
public import proofs.«01_k».proof.Proof.Gen.FfnDxnIdeal.Skeleton

@[expose] public section

set_option maxRecDepth 16384

noncomputable section

namespace Cert.FfnDxnIdeal.Block

open Idealize.ShloMosaic Cert.FfnDxnIdeal Cert.FfnDxnIdeal.Gen Cert.Step

variable (e x past : Vec Ideal S1024x1024 .f32) (g : Vec Ideal S1x1024 .f32)
variable (E X P : Fin 1024 → Fin 1024 → ℝ) (G : Fin 1024 → ℝ)

theorem zero1 (r d : Fin 1024) : k0_pay1 (F := Ideal) (ix2 r d) = 0 := by pointwise [k0_pay1]
theorem zero3 (z : Fin 1) (d : Fin 1024) : k0_pay3 (F := Ideal) (ix2 z d) = 0 := by pointwise [k0_pay3]

/-- One slab of the product, added to what was there. -/
theorem pay2_at (acc : Vec Ideal S1024x1024 .f32) (y w : Vec Ideal S1x1024x1408 .bf16) (Y W : Fin 1024 → Fin 1408 → ℝ)
    (hy : ∀ z r j, y (ix3 z r j) = ((Y r j : ℝ) : EReal)) (hw : ∀ z d j, w (ix3 z d j) = ((W d j : ℝ) : EReal)) (r d : Fin 1024) :
    k0_pay2 (F := Ideal) acc y w (ix2 r d) = acc (ix2 r d) + ((∑ j, Y r j * W d j : ℝ) : EReal) := by
  pointwise [k0_pay2]
  simp only [hy, hw, ← EReal.coe_mul, coe_sum]

/-- A row's reciprocal root mean square. -/
theorem pay5_at (hx : ∀ r d, x (ix2 r d) = ((X r d : ℝ) : EReal)) (r : Fin 1024) (z : Fin 1) :
    k0_pay5 (F := Ideal) x (ix2 r z) = ((rs (X r) : ℝ) : EReal) := by
  pointwise [k0_pay5, k0_pay4]
  simp only [hx, ← EReal.coe_mul, coe_sum, lit_1024, lit_eps]
  rw [div_real _ (by norm_num), ← EReal.coe_add]
  exact rsqrt_real (msq_pos (X r))

/-- The scaled row. -/
theorem pay6_at (hx : ∀ r d, x (ix2 r d) = ((X r d : ℝ) : EReal)) (r d : Fin 1024) :
    k0_pay6 (F := Ideal) x (ix2 r d) = ((X r d * rs (X r) : ℝ) : EReal) := by
  pointwise [k0_pay6, k0_pay4, pay5_at x X hx]
  rw [hx, EReal.coe_mul]

/-- The block's part of the gain's gradient, added to what was there. -/
theorem pay7_at (hx : ∀ r d, x (ix2 r d) = ((X r d : ℝ) : EReal)) (he : ∀ r d, e (ix2 r d) = ((E r d : ℝ) : EReal))
    (acc : Vec Ideal S1x1024 .f32) (z : Fin 1) (d : Fin 1024) :
    k0_pay7 (F := Ideal) e x acc (ix2 z d) = acc (ix2 z d) + ((∑ r, gainPart (X r) (E r) d : ℝ) : EReal) := by
  pointwise [k0_pay7]
  simp only [pay6_at x X hx, he, ← EReal.coe_mul, coe_sum]
  rfl

/-- The gradient of the rows. -/
theorem pay8_at (hx : ∀ r d, x (ix2 r d) = ((X r d : ℝ) : EReal)) (he : ∀ r d, e (ix2 r d) = ((E r d : ℝ) : EReal))
    (hp : ∀ r d, past (ix2 r d) = ((P r d : ℝ) : EReal)) (hg : ∀ d, g (ix2 0 d) = ((G d : ℝ) : EReal)) (r d : Fin 1024) :
    k0_pay8 (F := Ideal) e x g past (ix2 r d) = ((resGrad (X r) G (E r) (P r) d : ℝ) : EReal) := by
  pointwise [k0_pay8]
  simp only [hg, hp, he, pay5_at x X hx, pay6_at x X hx, lit_1024, ← EReal.coe_mul, coe_sum]
  rw [div_real _ (by norm_num), ← EReal.coe_mul, ← EReal.coe_sub, ← EReal.coe_mul, ← EReal.coe_add]
  rfl

end Cert.FfnDxnIdeal.Block

end
-- ==== Proof.FfnValue.lean ====
/-
  The fused product and norm gradient at finite arguments: its two result arrays as functions of the rows,
  from what each block computes.
-/
module

public import proofs.«01_k».proof.Proof.FfnBlock
public import proofs.«01_k».proof.Proof.Gen.FfnDxnIdeal.Value
public import Idealize.ShloMosaic.Lib.Pipeline.ValueKit
public import Idealize.ShloMosaic.Lib.Pipeline.ReadBack

@[expose] public section

set_option maxRecDepth 16384

noncomputable section

namespace Cert.FfnDxnIdeal.Block

open Idealize.ShloMosaic Idealize.ShloMosaic.TcCoe Idealize.SL.Sem Cert.FfnDxnIdeal Cert.FfnDxnIdeal.Gen Cert.Step

theorem idx : ∀ t : Fin cfg0.N, win0_0.index t = ![t.val % 4, t.val / 4, 0] ∧ win0_1.index t = ![t.val % 4, 0, 0]
    ∧ win0_2.index t = ![t.val / 4, 0] ∧ win0_3.index t = ![0, 0] ∧ win0_4.index t = ![t.val / 4, 0]
    ∧ win0_5.index t = ![t.val / 4, 0] ∧ win0_6.index t = ![0, 0] :=
  (by decide +kernel : ∀ t : Fin grid0.N, _)

variable (m : (ℓ : Loc nD τ sig) → Buf (Elt Ideal) ℓ) (c : Dev nD)
variable (X P : Fin 4096 → Fin 1024 → ℝ) (G : Fin 1024 → ℝ) (W : Fin 1024 → Fin 5632 → ℝ) (Y : Fin 4096 → Fin 5632 → ℝ)

theorem lt16 (t : Fin cfg0.N) : t.val < 16 := lt_of_lt_of_eq t.isLt N_0

/-- The row of the whole array that row `r` of block `t` is. -/
def row (t : Fin cfg0.N) (r : Fin 1024) : Fin 4096 :=
  ⟨t.val / 4 * 1024 + r.val, by have := lt16 t; have := r.isLt; omega⟩

/-- The column of the whole weight that column `j` of slab `t` is. -/
def col (t : Fin cfg0.N) (j : Fin 1408) : Fin 5632 :=
  ⟨t.val % 4 * 1408 + j.val, by have := j.isLt; omega⟩

/-- The last points of the runs walk the row blocks: their blocks' sums make the sum over all rows. -/
theorem sum_runs (f : Fin 4096 → ℝ) :
    ∑ t : Fin cfg0.N, (if t.val % 4 = 3 then ∑ r : Fin 1024, f (row t r) else 0) = ∑ r, f r := by
  rw [Fin.sum_univ_tiles 4 1024 rfl f]
  refine (Fin.sum_divmod_congr (A := 4) (S := 4)
    (f := fun a s => if s.val = 3 then ∑ r : Fin 1024, f ⟨a.val * 1024 + r.val, by have := a.isLt; have := r.isLt; omega⟩ else 0)
    fun t ha hs => rfl).trans ?_
  refine Finset.sum_congr rfl fun a _ => ?_
  rw [Finset.sum_eq_single (3 : Fin 4)]
  · rfl
  · intro b _ hb
    exact if_neg fun h => hb (Fin.ext h)
  · simp

theorem blk_y (hy : ∀ z r j, m ((c.tc : Thread nD τ).loc main_arg4) (ix3 z r j) = ((Y r j : ℝ) : EReal)) (t : Fin cfg0.N)
    (z : Fin 1) (r : Fin 1024) (j : Fin 1408) : iblk (F := Ideal) m c 0 t (ix3 z r j) = ((Y (row t r) (col t j) : ℝ) : EReal) := by
  rw [← hy 0]
  have := lt16 t
  blk_point [iblk, V, idx t]
  all_goals simp [row, col]

theorem blk_w (hw : ∀ d j, m ((c.tc : Thread nD τ).loc main_arg2) (ix2 d j) = ((W d j : ℝ) : EReal)) (t : Fin cfg0.N)
    (z : Fin 1) (d : Fin 1024) (j : Fin 1408) : iblk (F := Ideal) m c 1 t (ix3 z d j) = ((W d (col t j) : ℝ) : EReal) := by
  rw [← hw]
  have := lt16 t
  blk_point [iblk, V, idx t]
  all_goals simp [col]

theorem blk_x (hx : ∀ z r d, m ((c.tc : Thread nD τ).loc main_arg0) (ix3 z r d) = ((X r d : ℝ) : EReal)) (t : Fin cfg0.N)
    (r : Fin 1024) (d : Fin 1024) : iblk (F := Ideal) m c 2 t (ix2 r d) = ((X (row t r) d : ℝ) : EReal) := by
  rw [← hx 0]
  blk_point [iblk, V, idx t]
  rfl

theorem blk_g (hg : ∀ d, m ((c.tc : Thread nD τ).loc main_arg1) (ix1 d) = ((G d : ℝ) : EReal)) (t : Fin cfg0.N)
    (d : Fin 1024) : iblk (F := Ideal) m c 3 t (ix2 0 d) = ((G d : ℝ) : EReal) := by
  rw [← hg]
  blk_point [iblk, V, idx t]

theorem blk_p (hp : ∀ z r d, m ((c.tc : Thread nD τ).loc main_arg3) (ix3 z r d) = ((P r d : ℝ) : EReal)) (t : Fin cfg0.N)
    (r : Fin 1024) (d : Fin 1024) : iblk (F := Ideal) m c 4 t (ix2 r d) = ((P (row t r) d : ℝ) : EReal) := by
  rw [← hp 0]
  blk_point [iblk, V, idx t]
  rfl

/-- The accumulated product at a point past the first of its run. -/
theorem scr_step (t : Fin cfg0.N) (h : ¬t.val % 4 = 0) : (outsAt0 m c t.val t.isLt).2.2
    = k0_pay2 (F := Ideal) (outsAt0 m c (t.val - 1) (Nat.lt_of_le_of_lt (Nat.sub_le _ _) t.isLt)).2.2 (iblk m c 0 t) (iblk m c 1 t) := by
  by_cases h2 : t.val % 4 = 3
  · rw [outsAt0_C m c t h (by omega) h2]; frame_out; rw [read_unread_whole]
  · rw [outsAt0_B m c t h (by omega) h2]; frame_out; rw [read_unread_whole]

/-- … and at its first point. -/
theorem scr_zero (t : Fin cfg0.N) (h : t.val % 4 = 0) : (outsAt0 m c t.val t.isLt).2.2
    = k0_pay2 (F := Ideal) (k0_pay1 (F := Ideal)) (iblk m c 0 t) (iblk m c 1 t) := by
  by_cases h1 : t.val % 16 = 0
  · rw [outsAt0_A m c t h h1 (by omega)]; frame_out
  · rw [outsAt0_D m c t h h1 (by omega)]; frame_out

/-- After the last point of its run the accumulated product is the whole product. -/
theorem scr_last (hw : ∀ d j, m ((c.tc : Thread nD τ).loc main_arg2) (ix2 d j) = ((W d j : ℝ) : EReal))
    (hy : ∀ z r j, m ((c.tc : Thread nD τ).loc main_arg4) (ix3 z r j) = ((Y r j : ℝ) : EReal)) (t : Fin cfg0.N) (h : t.val % 4 = 3)
    (r d : Fin 1024) : (outsAt0 m c t.val t.isLt).2.2 (ix2 r d) = ((backRow W (Y (row t r)) d : ℝ) : EReal) := by
  rw [Pipeline.eq_sum_fin_of_reset_step_apply_of_flush (fun n h => (outsAt0 m c n h).2.2) 4 (fun _ => 0)
      (fun t i => ((∑ j, Y (row t (i 0)) (col t j) * W (i 1) (col t j) : ℝ) : EReal))
      (fun t h i => by
        refine (congrFun (scr_zero m c t h) i).trans ?_
        idx_vars i
        rw [pay2_at _ _ _ _ _ (blk_y m c Y hy t) (blk_w m c W hw t), zero1])
      (fun t h i => by
        refine (congrFun (scr_step m c t h) i).trans ?_
        idx_vars i
        rw [pay2_at _ _ _ _ _ (blk_y m c Y hy t) (blk_w m c W hw t)])
      t h (ix2 r d), zero_add, coe_sum]
  refine congrArg _ ?_
  unfold backRow
  refine Fin.sum_mul_add_congr fun s k hl => ?_
  have e1 : row ⟨4 * (t.val / 4) + s.val, Pipeline.run_point_lt_of_flush t h s⟩ r = row t r := Fin.ext (by simp [row]; omega)
  have e2 : col ⟨4 * (t.val / 4) + s.val, Pipeline.run_point_lt_of_flush t h s⟩ k = ⟨s.val * 1408 + k.val, hl⟩ := Fin.ext (by simp [col])
  show Y (row ⟨4 * (t.val / 4) + s.val, _⟩ r) (col ⟨4 * (t.val / 4) + s.val, _⟩ k) * W d (col ⟨4 * (t.val / 4) + s.val, _⟩ k) = _
  rw [e1, e2]

/-- The gradient of the rows, after the run. -/
theorem final_dx (hx : ∀ z r d, m ((c.tc : Thread nD τ).loc main_arg0) (ix3 z r d) = ((X r d : ℝ) : EReal))
    (hg : ∀ d, m ((c.tc : Thread nD τ).loc main_arg1) (ix1 d) = ((G d : ℝ) : EReal))
    (hw : ∀ d j, m ((c.tc : Thread nD τ).loc main_arg2) (ix2 d j) = ((W d j : ℝ) : EReal))
    (hp : ∀ z r d, m ((c.tc : Thread nD τ).loc main_arg3) (ix3 z r d) = ((P r d : ℝ) : EReal))
    (hy : ∀ z r j, m ((c.tc : Thread nD τ).loc main_arg4) (ix3 z r j) = ((Y r j : ℝ) : EReal)) :
    (dats m 0 c).arrAt 5 cfg0.N = fun i : S4096x1024.Idx =>
      ((resGrad (X (i 0)) G (backRow W (Y (i 0))) (P (i 0)) (i 1) : ℝ) : EReal) := by
  have key : ∀ (t : Fin cfg0.N) (_ : t.val % 4 = 3) (r : Fin 1024) (d : Fin 1024) (i : S4096x1024.Idx), i = ix2 (row t r) d →
      k0_pay8 (F := Ideal) (outsAt0 m c t.val t.isLt).2.2 (iblk m c 2 t) (iblk m c 3 t) (iblk m c 4 t) (ix2 r d)
        = ((resGrad (X (i 0)) G (backRow W (Y (i 0))) (P (i 0)) (i 1) : ℝ) : EReal) := by
    rintro t h r d i rfl
    exact pay8_at _ _ _ _ (fun r => backRow W (Y (row t r))) (fun r => X (row t r)) (fun r => P (row t r)) G (blk_x m c X hx t)
      (scr_last m c W Y hw hy t h) (blk_p m c P hp t) (blk_g m c G hg t) r d
  refine (dats m 0 c).arrAt_eq_of_covers 5 _ (by decide +kernel) fun t hf y => ?_
  have h2 : t.val % 4 = 3 := (flush0_5 t).mp hf
  blk_simp
  rw [after0_5]
  rw [outsAt0_C m c t (by omega) (by omega) h2]; frame_out
  rw [read_unread_whole, ← scr_step m c t (by omega)]
  idx_vars y
  refine key t h2 y0 y1 _ ?_
  blk_ext [idx t]
  rfl

/-- The gradient of the gain, after the run. -/
theorem final_dg (hx : ∀ z r d, m ((c.tc : Thread nD τ).loc main_arg0) (ix3 z r d) = ((X r d : ℝ) : EReal))
    (hw : ∀ d j, m ((c.tc : Thread nD τ).loc main_arg2) (ix2 d j) = ((W d j : ℝ) : EReal))
    (hy : ∀ z r j, m ((c.tc : Thread nD τ).loc main_arg4) (ix3 z r j) = ((Y r j : ℝ) : EReal)) :
    (dats m 0 c).arrAt 6 cfg0.N = fun i : S1x1024.Idx => ((∑ r, gainPart (X r) (backRow W (Y r)) (i 1) : ℝ) : EReal) := by
  refine (dats m 0 c).arrAt_eq_of_after_last 6 t0_15 (by decide +kernel) _ fun j => ?_
  blk_simp
  rw [after0_6]
  idx_vars j
  rw [Pipeline.eq_sum_fin_of_reset_step_apply_last (fun n h => (outsAt0 m c n h).2.1) 16 (fun _ => 0)
      (fun t j => ((if t.val % 4 = 3 then ∑ r, gainPart (X (row t r)) (backRow W (Y (row t r))) (j 1) else 0 : ℝ) : EReal))
      (fun t h j => by
        rw [outsAt0_A m c t (by omega) h (by omega)]; frame_out
        idx_vars j
        rw [if_neg (by omega), zero3]; simp)
      (fun t h j => by
        by_cases h2 : t.val % 4 = 3
        · rw [outsAt0_C m c t (by omega) h h2]; frame_out
          rw [read_unread_whole, ← scr_step m c t (by omega)]
          idx_vars j
          rw [if_pos h2]
          exact pay7_at _ _ (fun r => backRow W (Y (row t r))) (fun r => X (row t r)) (blk_x m c X hx t) (scr_last m c W Y hw hy t h2) _ _ _
        · rw [if_neg h2, EReal.coe_zero, add_zero]
          by_cases h0 : t.val % 4 = 0
          · rw [outsAt0_D m c t h0 h h2]; rfl
          · rw [outsAt0_B m c t h0 h h2]; rfl)
      (le_of_eq N_0) t0_15 rfl]
  rw [zero_add, coe_sum]
  refine congrArg _ ?_
  exact sum_runs fun r => gainPart (X r) (backRow W (Y r)) j1

end Cert.FfnDxnIdeal.Block

end
-- ==== Proof.FfnRef.lean ====
/-
  What the reference's gradients of the norm and the product are at finite arguments.
-/
module

public import proofs.«01_k».proof.Proof.FfnSpec
public import proofs.«01_k».proof.Proof.Gen.FfnDxnRefIdeal.Run
public import proofs.«01_k».proof.Proof.Gen.FfnDxnRefIdeal.Read

@[expose] public section

set_option maxRecDepth 16384

noncomputable section

namespace Cert.FfnDxnRefIdeal.Spec

open Idealize.ShloMosaic Cert.FfnDxnRefIdeal Cert.FfnDxnRefIdeal.Read Cert.Step

variable (x0 x3 : Vec Ideal S1x4096x1024 .f32) (x1 : Vec Ideal S1024 .f32) (x2 : Vec Ideal S1024x5632 .bf16) (x4 : Vec Ideal S1x4096x5632 .bf16)
variable (X P : Fin 4096 → Fin 1024 → ℝ) (G : Fin 1024 → ℝ) (W : Fin 1024 → Fin 5632 → ℝ) (Y : Fin 4096 → Fin 5632 → ℝ)

theorem v6_at (hx : ∀ z r d, x0 (ix3 z r d) = ((X r d : ℝ) : EReal)) (z : Fin 1) (r : Fin 4096) (y : Fin 1) :
    val_main_v6 (F := Ideal) x0 (ix3 z r y) = ((msq (X r) : ℝ) : EReal) := by
  pointwise [val_main_v6, val_main_v5, val_main_cst_1, val_main_v4, val_main_v3, val_main_cst_0, val_main_v2, val_main_v1, val_main_cst, val_main_v0]
  simp only [hx, ← EReal.coe_mul, coe_sum, lit_1024, lit_eps, lit_zero, EReal.coe_zero, zero_add]
  rw [div_real _ (by norm_num), ← EReal.coe_add]
  rfl

theorem v7_at (hx : ∀ z r d, x0 (ix3 z r d) = ((X r d : ℝ) : EReal)) (z : Fin 1) (r : Fin 4096) (y : Fin 1) :
    val_main_v7 (F := Ideal) x0 (ix3 z r y) = ((rs (X r) : ℝ) : EReal) := by
  pointwise [val_main_v7, v6_at x0 X hx]
  exact rsqrt_real (msq_pos (X r))

theorem v10_at (hx : ∀ z r d, x0 (ix3 z r d) = ((X r d : ℝ) : EReal)) (z : Fin 1) (r : Fin 4096) (y : Fin 1) :
    val_main_v10 (F := Ideal) x0 (ix3 z r y) = ((-(1 / 2) * (rs (X r) / msq (X r)) : ℝ) : EReal) := by
  pointwise [val_main_v10, val_main_v9, val_main_v8, val_main_cst_2, v6_at x0 X hx, v7_at x0 X hx]
  rw [lit_neg_half, div_real _ (msq_pos (X r)).ne', ← EReal.coe_mul]

/-- The gradient of the normed rows. -/
theorem v19_at (hw : ∀ d j, x2 (ix2 d j) = ((W d j : ℝ) : EReal)) (hy : ∀ z r j, x4 (ix3 z r j) = ((Y r j : ℝ) : EReal))
    (z : Fin 1) (r : Fin 4096) (d : Fin 1024) :
    val_main_v19 (F := Ideal) x2 x4 (ix3 z r d) = ((backRow W (Y r) d : ℝ) : EReal) := by
  pointwise [val_main_v19, val_main_v18, val_main_v16]
  simp only [hw, hy, ← EReal.coe_mul, coe_sum]
  rfl

/-- The gradient of the gain. -/
theorem v43_at (hx : ∀ z r d, x0 (ix3 z r d) = ((X r d : ℝ) : EReal)) (hw : ∀ d j, x2 (ix2 d j) = ((W d j : ℝ) : EReal))
    (hy : ∀ z r j, x4 (ix3 z r j) = ((Y r j : ℝ) : EReal)) (z : Fin 1) (d : Fin 1024) :
    val_main_v43 (F := Ideal) x0 x2 x4 (ix2 z d) = ((∑ r, gainPart (X r) (backRow W (Y r)) d : ℝ) : EReal) := by
  pointwise [val_main_v43, val_main_v25]
  rw [hostReduceAdd_last]
  pointwise [val_main_cst_4, val_main_v22, val_main_v21, val_main_cst_3, val_main_v20, val_main_v12, val_main_v11,
    v19_at x2 x4 W Y hw hy, v7_at x0 X hx]
  simp only [hx, lit_zero, EReal.coe_zero, zero_add, ← EReal.coe_mul, coe_sum, v19_at x2 x4 W Y hw hy]
  congr 1
  exact Finset.sum_congr rfl fun r _ => mul_comm _ _

theorem v24_at (hg : ∀ d, x1 (ix1 d) = ((G d : ℝ) : EReal)) (hw : ∀ d j, x2 (ix2 d j) = ((W d j : ℝ) : EReal))
    (hy : ∀ z r j, x4 (ix3 z r j) = ((Y r j : ℝ) : EReal)) (z : Fin 1) (r : Fin 4096) (d : Fin 1024) :
    val_main_v24 (F := Ideal) x1 x2 x4 (ix3 z r d) = ((backRow W (Y r) d * G d : ℝ) : EReal) := by
  pointwise [val_main_v24, val_main_v23, val_main_v13, v19_at x2 x4 W Y hw hy]
  rw [hg, ← EReal.coe_mul]

/-- The chain rule's part through the row's mean square, one number for each row. -/
theorem v35_at (hx : ∀ z r d, x0 (ix3 z r d) = ((X r d : ℝ) : EReal)) (hg : ∀ d, x1 (ix1 d) = ((G d : ℝ) : EReal))
    (hw : ∀ d j, x2 (ix2 d j) = ((W d j : ℝ) : EReal)) (hy : ∀ z r j, x4 (ix3 z r j) = ((Y r j : ℝ) : EReal)) (r : Fin 4096) :
    val_main_v35 (F := Ideal) x0 x1 x2 x4 (ix1 r)
      = ((((∑ k, X r k * (backRow W (Y r) k * G k)) * (-(1 / 2) * (rs (X r) / msq (X r)))) / 1024 : ℝ) : EReal) := by
  pointwise [val_main_v35]
  rw [hostReduceAdd_mid]
  pointwise [val_main_cst_7, val_main_v34, val_main_v33, val_main_cst_6, val_main_v32, val_main_v28, val_main_v27, val_main_cst_5,
    val_main_v26, v24_at x1 x2 x4 G W Y hg hw hy, v10_at x0 X hx]
  simp only [hx, v24_at x1 x2 x4 G W Y hg hw hy, lit_1024, lit_zero, EReal.coe_zero, zero_add, ← EReal.coe_mul, coe_sum]
  rw [div_real _ (by norm_num)]

/-- The gradient of the rows. -/
theorem v42_at (hx : ∀ z r d, x0 (ix3 z r d) = ((X r d : ℝ) : EReal)) (hg : ∀ d, x1 (ix1 d) = ((G d : ℝ) : EReal))
    (hw : ∀ d j, x2 (ix2 d j) = ((W d j : ℝ) : EReal)) (hp : ∀ z r d, x3 (ix3 z r d) = ((P r d : ℝ) : EReal))
    (hy : ∀ z r j, x4 (ix3 z r j) = ((Y r j : ℝ) : EReal)) (r : Fin 4096) (d : Fin 1024) :
    val_main_v42 (F := Ideal) x0 x1 x2 x3 x4 (ix2 r d) = ((resGrad (X r) G (backRow W (Y r)) (P r) d : ℝ) : EReal) := by
  pointwise [val_main_v42, val_main_v41, val_main_v40, val_main_v39, val_main_v38, val_main_v37, val_main_v36, val_main_v31,
    val_main_v30, val_main_v29, v24_at x1 x2 x4 G W Y hg hw hy, v7_at x0 X hx, v35_at x0 x1 x2 x4 X G W Y hx hg hw hy]
  rw [hx, hp]
  simp only [← EReal.coe_mul, ← EReal.coe_add]
  unfold resGrad
  rw [← normGrad_chain (X r) (fun k => backRow W (Y r) k * G k) d]
  congr 1
  ring

open Idealize.SL.Sem in
/-- The reference's run, its results named operation by operation. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42) = val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v43) = val_main_v43 (F := Ideal) (m ((c.tc : Thread nD τ).loc main_arg0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v42_eq m c), (h c).2.1.trans (val_main_v43_eq _ _ _), (h c).2.2⟩)
    (Cert.FfnDxnRefIdeal.Value.run (F := Ideal) m ρ)

end Cert.FfnDxnRefIdeal.Spec

end
-- ==== Proof.FfnClaim.lean ====
/-
  The value claim of the product fused with the norm's gradient: at finite arguments both programs end with the
  same two arrays.
-/
module

public import proofs.«01_k».proof.Defs
public import proofs.«01_k».proof.Proof.FfnValue
public import proofs.«01_k».proof.Proof.FfnRef
public import proofs.«01_k».proof.Proof.Gen.Pre_ffn_finite
public import Idealize.ShloMosaic.Lib.Claim

@[expose] public section

set_option maxRecDepth 16384

noncomputable section

open Idealize.ShloMosaic Idealize.SL.Sem

namespace Cert.Step

/-- The reference terminates and leaves its arguments as they were. -/
theorem ffn_ref_frame : letI := Cert.FfnDxnRefIdeal.Gen.facts; Cert.quiescent_FfnDxnRefIdeal := fun m ρ _ =>
  (θ_run Cert.FfnDxnRefIdeal.defs _ _).mono (fun r h => ⟨fun c => (h c).2.2, sem_eq_zero_of_no_sems (by decide) r.2⟩)
    (Cert.FfnDxnRefIdeal.Value.run (F := Ideal) m ρ)

theorem ffn_algebraic : letI := Cert.FfnDxnIdeal.Gen.facts; letI := Cert.FfnDxnRefIdeal.Gen.facts; letI := Cert.Pre_ffn_finite.Gen.facts;
    Cert.algebraic_FfnDxnIdeal_FfnDxnRefIdeal_pre_ffn_finite := by
  intro m g m' g' hpre hargs
  refine ⟨fun c => (Cert.FfnDxnIdeal.Gen.dats m 0 c).arrAt 5 Cert.FfnDxnIdeal.cfg0.N,
    fun c => (Cert.FfnDxnIdeal.Gen.dats m 0 c).arrAt 6 Cert.FfnDxnIdeal.cfg0.N, ?_, ?_⟩
  · run_from Cert.FfnDxnIdeal.Gen.run_main m g
  · refine (θ_run Cert.FfnDxnRefIdeal.defs _ _).mono (fun r h c => ?_) (Cert.FfnDxnRefIdeal.Spec.run m' g')
    obtain ⟨p0, p1, p2, p3, p4⟩ := hpre c
    obtain ⟨a0, a1, a2, a3, a4⟩ := hargs c
    obtain ⟨X, hx⟩ := real_rows _ _ p0
    obtain ⟨G, hg⟩ := real_vec _ _ p1
    obtain ⟨W, hw⟩ := real_mat16 _ _ p2
    obtain ⟨P, hp⟩ := real_rows _ _ p3
    obtain ⟨Y, hy⟩ := real_rows16 _ _ p4
    obtain ⟨h0, h1, k⟩ := h c
    rw [a0, a1, a2, a3, a4] at h0
    rw [a0, a2, a4] at h1
    refine ⟨h0.trans ?_, h1.trans ?_, k⟩
    · refine Eq.trans ?_ (Cert.FfnDxnIdeal.Block.final_dx m c _ _ _ _ _ hx hg hw hp hy).symm
      funext i
      idx_vars i
      exact Cert.FfnDxnRefIdeal.Spec.v42_at _ _ _ _ _ _ _ _ _ _ hx hg hw hp hy i0 i1
    · refine Eq.trans ?_ (Cert.FfnDxnIdeal.Block.final_dg m c _ _ _ hx hw hy).symm
      funext i
      idx_vars i
      exact Cert.FfnDxnRefIdeal.Spec.v43_at _ _ _ _ _ _ hx hw hy i0 i1

end Cert.Step

end
-- ==== Proof.DxaBlock.lean ====
/-
  What one block of the product fused with two norms' gradients computes, read at an index.
-/
module

public import proofs.«01_k».proof.Proof.FfnSpec
public import proofs.«01_k».proof.Proof.Gen.AttnDxaIdeal.Skeleton

@[expose] public section

set_option maxRecDepth 16384

noncomputable section

namespace Cert.AttnDxaIdeal.Block

open Idealize.ShloMosaic Cert.AttnDxaIdeal Cert.AttnDxaIdeal.Gen Cert.Step

variable (e x past : Vec Ideal S1024x1024 .f32) (g g' : Vec Ideal S1x1024 .f32)
variable (E X P : Fin 1024 → Fin 1024 → ℝ) (G G' : Fin 1024 → ℝ)
variable (y : Vec Ideal S1024x256 .bf16) (w : Vec Ideal S1x1024x256 .bf16) (Y W : Fin 1024 → Fin 256 → ℝ)

theorem zero3 (z : Fin 1) (d : Fin 1024) : k0_pay3 (F := Ideal) (ix2 z d) = 0 := by pointwise [k0_pay3]
theorem zero4 (z : Fin 1) (d : Fin 1024) : k0_pay4 (F := Ideal) (ix2 z d) = 0 := by pointwise [k0_pay4]

/-- The block's product: the gradient of the rows under the first norm. -/
theorem pay2_at (q v : Vec Ideal _ .bf16) (Q V : Fin 1024 → Fin 1024 → ℝ)
    (hq : ∀ r j, q (ix2 r j) = ((Q r j : ℝ) : EReal)) (hv : ∀ z d j, v (ix3 z d j) = ((V d j : ℝ) : EReal)) (r d : Fin 1024) :
    k0_pay2 (F := Ideal) (k0_pay1 (F := Ideal)) q v (ix2 r d) = ((backRow V (Q r) d : ℝ) : EReal) := by
  pointwise [k0_pay2, k0_pay1]
  simp only [hq, hv, ← EReal.coe_mul, coe_sum, zero_add]
  rfl

/-- The second product: the gradient of the rows under the second norm. -/
theorem pay11_at (hy : ∀ r j, y (ix2 r j) = ((Y r j : ℝ) : EReal)) (hw : ∀ z d j, w (ix3 z d j) = ((W d j : ℝ) : EReal))
    (r d : Fin 1024) : k0_pay11 (F := Ideal) y w (ix2 r d) = ((backRow W (Y r) d : ℝ) : EReal) := by
  pointwise [k0_pay11]
  simp only [hy, hw, ← EReal.coe_mul, coe_sum]
  rfl

/-- A row's reciprocal root mean square. -/
theorem pay8_at (hx : ∀ r d, x (ix2 r d) = ((X r d : ℝ) : EReal)) (r : Fin 1024) (z : Fin 1) :
    k0_pay8 (F := Ideal) x (ix2 r z) = ((rs (X r) : ℝ) : EReal) := by
  pointwise [k0_pay8, k0_pay7]
  simp only [hx, ← EReal.coe_mul, coe_sum, lit_1024, lit_eps]
  rw [div_real _ (by norm_num), ← EReal.coe_add]
  exact rsqrt_real (msq_pos (X r))

/-- The scaled row. -/
theorem pay9_at (hx : ∀ r d, x (ix2 r d) = ((X r d : ℝ) : EReal)) (r d : Fin 1024) :
    k0_pay9 (F := Ideal) x (ix2 r d) = ((X r d * rs (X r) : ℝ) : EReal) := by
  pointwise [k0_pay9, k0_pay7, pay8_at x X hx]
  rw [hx, EReal.coe_mul]

/-- The block's part of the first gain's gradient, added to what was there. -/
theorem pay10_at (hx : ∀ r d, x (ix2 r d) = ((X r d : ℝ) : EReal)) (he : ∀ r d, e (ix2 r d) = ((E r d : ℝ) : EReal))
    (acc : Vec Ideal S1x1024 .f32) (z : Fin 1) (d : Fin 1024) :
    k0_pay10 (F := Ideal) e x acc (ix2 z d) = acc (ix2 z d) + ((∑ r, gainPart (X r) (E r) d : ℝ) : EReal) := by
  pointwise [k0_pay10]
  simp only [pay9_at x X hx, he, ← EReal.coe_mul, coe_sum]
  rfl

/-- The block's part of the second gain's gradient, added to what was there. -/
theorem pay5_at (hx : ∀ r d, x (ix2 r d) = ((X r d : ℝ) : EReal)) (hy : ∀ r j, y (ix2 r j) = ((Y r j : ℝ) : EReal))
    (hw : ∀ z d j, w (ix3 z d j) = ((W d j : ℝ) : EReal)) (acc : Vec Ideal S1x1024 .f32) (z : Fin 1) (d : Fin 1024) :
    k0_pay5 (F := Ideal) (k0_pay9 (F := Ideal) x) (k0_pay11 (F := Ideal) y w) (k0_pay13 (F := Ideal) acc) (ix2 z d)
      = acc (ix2 z d) + ((∑ r, gainPart (X r) (backRow W (Y r)) d : ℝ) : EReal) := by
  pointwise [k0_pay5, k0_pay13]
  simp only [pay9_at x X hx, pay11_at y w Y W hy hw, ← EReal.coe_mul, coe_sum]
  rfl

/-- The gradient of the two scaled rows together. -/
theorem pay12_at (he : ∀ r d, e (ix2 r d) = ((E r d : ℝ) : EReal)) (hg : ∀ d, g (ix2 0 d) = ((G d : ℝ) : EReal))
    (hg' : ∀ d, g' (ix2 0 d) = ((G' d : ℝ) : EReal)) (hy : ∀ r j, y (ix2 r j) = ((Y r j : ℝ) : EReal))
    (hw : ∀ z d j, w (ix3 z d j) = ((W d j : ℝ) : EReal)) (r d : Fin 1024) :
    k0_pay12 (F := Ideal) e g y w g' (ix2 r d) = ((E r d * G d + backRow W (Y r) d * G' d : ℝ) : EReal) := by
  pointwise [k0_pay12]
  rw [he, hg, hg', pay11_at y w Y W hy hw, EReal.coe_add, EReal.coe_mul, EReal.coe_mul]

/-- The gradient of the rows. -/
theorem pay6_at (hx : ∀ r d, x (ix2 r d) = ((X r d : ℝ) : EReal)) (he : ∀ r d, e (ix2 r d) = ((E r d : ℝ) : EReal))
    (hp : ∀ r d, past (ix2 r d) = ((P r d : ℝ) : EReal)) (hg : ∀ d, g (ix2 0 d) = ((G d : ℝ) : EReal))
    (hg' : ∀ d, g' (ix2 0 d) = ((G' d : ℝ) : EReal)) (hy : ∀ r j, y (ix2 r j) = ((Y r j : ℝ) : EReal))
    (hw : ∀ z d j, w (ix3 z d j) = ((W d j : ℝ) : EReal)) (r d : Fin 1024) :
    k0_pay6 (F := Ideal) (k0_pay8 (F := Ideal) x) (k0_pay9 (F := Ideal) x) (k0_pay12 (F := Ideal) e g y w g') past (ix2 r d)
      = ((resGrad2 (X r) G G' (E r) (backRow W (Y r)) (P r) d : ℝ) : EReal) := by
  pointwise [k0_pay6]
  simp only [hp, pay8_at x X hx, pay9_at x X hx, pay12_at e g g' E G G' y w Y W he hg hg' hy hw, lit_1024, ← EReal.coe_mul, coe_sum]
  rw [div_real _ (by norm_num), ← EReal.coe_mul, ← EReal.coe_sub, ← EReal.coe_mul, ← EReal.coe_add]
  rfl

end Cert.AttnDxaIdeal.Block

end
-- ==== Proof.DxaValue.lean ====
/-
  The product fused with two norms' gradients at finite arguments: its three result arrays as functions of the
  rows, from what each block computes.
-/
module

public import proofs.«01_k».proof.Proof.DxaBlock
public import proofs.«01_k».proof.Proof.Gen.AttnDxaIdeal.Value
public import Idealize.ShloMosaic.Lib.Pipeline.ValueKit

@[expose] public section

set_option maxRecDepth 16384

noncomputable section

namespace Cert.AttnDxaIdeal.Block

open Idealize.ShloMosaic Idealize.ShloMosaic.TcCoe Idealize.SL.Sem Cert.AttnDxaIdeal Cert.AttnDxaIdeal.Gen Cert.Step

theorem idx : ∀ t : Fin cfg0.N, win0_0.index t = ![t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![0, 0, 0] ∧ win0_7.index t = ![0, 0]
    ∧ win0_8.index t = ![t.val, 0] ∧ win0_9.index t = ![0, 0] ∧ win0_10.index t = ![0, 0] :=
  (by decide +kernel : ∀ t : Fin grid0.N, _)

variable (m : (ℓ : Loc nD τ sig) → Buf (Elt Ideal) ℓ) (c : Dev nD)
variable (X P Q : Fin 4096 → Fin 1024 → ℝ) (G G' : Fin 1024 → ℝ) (V : Fin 1024 → Fin 1024 → ℝ) (W : Fin 1024 → Fin 256 → ℝ) (Y : Fin 4096 → Fin 256 → ℝ)
variable (hx : ∀ z r d, m ((c.tc : Thread nD τ).loc main_arg0) (ix3 z r d) = ((X r d : ℝ) : EReal))
variable (hg : ∀ z d, m ((c.tc : Thread nD τ).loc main_arg1) (ix2 z d) = ((G d : ℝ) : EReal))
variable (hg' : ∀ d, m ((c.tc : Thread nD τ).loc main_arg2) (ix1 d) = ((G' d : ℝ) : EReal))
variable (hv : ∀ z d j, m ((c.tc : Thread nD τ).loc main_arg3) (ix3 z d j) = ((V d j : ℝ) : EReal))
variable (hw : ∀ d j, m ((c.tc : Thread nD τ).loc main_arg4) (ix2 d j) = ((W d j : ℝ) : EReal))
variable (hp : ∀ z r d, m ((c.tc : Thread nD τ).loc main_arg5) (ix3 z r d) = ((P r d : ℝ) : EReal))
variable (hq : ∀ z r j, m ((c.tc : Thread nD τ).loc main_arg6) (ix3 z r j) = ((Q r j : ℝ) : EReal))
variable (hy : ∀ z r j, m ((c.tc : Thread nD τ).loc main_arg7) (ix3 z r j) = ((Y r j : ℝ) : EReal))

theorem lt4 (t : Fin cfg0.N) : t.val < 4 := lt_of_lt_of_eq t.isLt N_0

/-- The row of the whole array that row `r` of block `t` is. -/
def row (t : Fin cfg0.N) (r : Fin 1024) : Fin 4096 :=
  ⟨t.val * 1024 + r.val, by have := lt4 t; have := r.isLt; omega⟩

theorem sum_rows (f : Fin 4096 → ℝ) : ∑ t : Fin cfg0.N, ∑ r : Fin 1024, f (row t r) = ∑ r, f r :=
  (Fin.sum_univ_tiles 4 1024 rfl f).symm

include hq in
theorem blk_q (t : Fin cfg0.N) (r : Fin 1024) (j : Fin 1024) : iblk (F := Ideal) m c 0 t (ix2 r j) = ((Q (row t r) j : ℝ) : EReal) := by
  rw [← hq 0]
  blk_point [iblk, Gen.V, idx t]
  rfl

include hv in
theorem blk_v (t : Fin cfg0.N) (z : Fin 1) (d : Fin 1024) (j : Fin 1024) : iblk (F := Ideal) m c 1 t (ix3 z d j) = ((V d j : ℝ) : EReal) := by
  rw [← hv 0]
  blk_point [iblk, Gen.V, idx t]

include hx in
theorem blk_x (t : Fin cfg0.N) (r : Fin 1024) (d : Fin 1024) : iblk (F := Ideal) m c 2 t (ix2 r d) = ((X (row t r) d : ℝ) : EReal) := by
  rw [← hx 0]
  blk_point [iblk, Gen.V, idx t]
  rfl

include hg in
theorem blk_g (t : Fin cfg0.N) (d : Fin 1024) : iblk (F := Ideal) m c 3 t (ix2 0 d) = ((G d : ℝ) : EReal) := by
  rw [← hg 0]
  blk_point [iblk, Gen.V, idx t]

include hp in
theorem blk_p (t : Fin cfg0.N) (r : Fin 1024) (d : Fin 1024) : iblk (F := Ideal) m c 4 t (ix2 r d) = ((P (row t r) d : ℝ) : EReal) := by
  rw [← hp 0]
  blk_point [iblk, Gen.V, idx t]
  rfl

include hy in
theorem blk_y (t : Fin cfg0.N) (r : Fin 1024) (j : Fin 256) : iblk (F := Ideal) m c 5 t (ix2 r j) = ((Y (row t r) j : ℝ) : EReal) := by
  rw [← hy 0]
  blk_point [iblk, Gen.V, idx t]
  rfl

include hw in
theorem blk_w (t : Fin cfg0.N) (z : Fin 1) (d : Fin 1024) (j : Fin 256) : iblk (F := Ideal) m c 6 t (ix3 z d j) = ((W d j : ℝ) : EReal) := by
  rw [← hw]
  blk_point [iblk, Gen.V, idx t]

include hg' in
theorem blk_g' (t : Fin cfg0.N) (d : Fin 1024) : iblk (F := Ideal) m c 7 t (ix2 0 d) = ((G' d : ℝ) : EReal) := by
  rw [← hg']
  blk_point [iblk, Gen.V, idx t]

/-- The product of the blocks at point `t`. -/
def prod (t : Fin cfg0.N) : Vec Ideal S1024x1024 .f32 := k0_pay2 (F := Ideal) (k0_pay1 (F := Ideal)) (iblk m c 0 t) (iblk m c 1 t)

include hq hv in
theorem prod_at (t : Fin cfg0.N) (r d : Fin 1024) : prod m c t (ix2 r d) = ((backRow V (Q (row t r)) d : ℝ) : EReal) :=
  pay2_at _ _ (fun r => Q (row t r)) V (blk_q m c Q hq t) (blk_v m c V hv t) r d

/-- The block of rows written at point `t`. -/
theorem out_dx (t : Fin cfg0.N) : (outsAt0 m c t.val t.isLt).1
    = k0_pay6 (F := Ideal) (k0_pay8 (F := Ideal) (iblk m c 2 t)) (k0_pay9 (F := Ideal) (iblk m c 2 t))
        (k0_pay12 (F := Ideal) (prod m c t) (iblk m c 3 t) (iblk m c 5 t) (iblk m c 6 t) (iblk m c 7 t)) (iblk m c 4 t) := by
  by_cases h : t.val % 4 = 0
  · rw [outsAt0_A m c t h]; frame_out; rfl
  · rw [outsAt0_B m c t h]; frame_out; rfl

include hx hg hg' hv hw hp hq hy in
/-- The gradient of the rows, after the run. -/
theorem final_dx : (dats m 0 c).arrAt 8 cfg0.N = fun i : S4096x1024.Idx =>
      ((resGrad2 (X (i 0)) G G' (backRow V (Q (i 0))) (backRow W (Y (i 0))) (P (i 0)) (i 1) : ℝ) : EReal) := by
  have key : ∀ (t : Fin cfg0.N) (r : Fin 1024) (d : Fin 1024) (i : S4096x1024.Idx), i = ix2 (row t r) d →
      (outsAt0 m c t.val t.isLt).1 (ix2 r d)
        = ((resGrad2 (X (i 0)) G G' (backRow V (Q (i 0))) (backRow W (Y (i 0))) (P (i 0)) (i 1) : ℝ) : EReal) := by
    rintro t r d i rfl
    rw [out_dx]
    exact pay6_at _ _ _ _ _ (fun r => backRow V (Q (row t r))) (fun r => X (row t r)) (fun r => P (row t r)) G G' _ _
      (fun r => Y (row t r)) W (blk_x m c X hx t) (prod_at m c Q V hv hq t) (blk_p m c P hp t) (blk_g m c G hg t)
      (blk_g' m c G' hg' t) (blk_y m c Y hy t) (blk_w m c W hw t) r d
  refine (dats m 0 c).arrAt_eq_of_covers 8 _ (by decide +kernel) fun t hf y => ?_
  blk_simp
  rw [after0_8]
  idx_vars y
  refine key t y0 y1 _ ?_
  blk_ext [idx t]
  rfl

include hx hv hq in
/-- The gradient of the first gain, after the run. -/
theorem final_dg : (dats m 0 c).arrAt 9 cfg0.N = fun i : S1x1024.Idx => ((∑ r, gainPart (X r) (backRow V (Q r)) (i 1) : ℝ) : EReal) := by
  refine (dats m 0 c).arrAt_eq_of_after_last 9 t0_3 (by decide +kernel) _ fun j => ?_
  blk_simp
  rw [after0_9]
  idx_vars j
  have hp (t : Fin cfg0.N) := pay10_at (prod m c t) (iblk m c 2 t) _ (fun r => X (row t r)) (blk_x m c X hx t) (prod_at m c Q V hv hq t)
  rw [Pipeline.eq_sum_fin_of_reset_step_apply_last (fun n h => (outsAt0 m c n h).2.1) 4 (fun _ => 0)
      (fun t j => ((∑ r, gainPart (X (row t r)) (backRow V (Q (row t r))) (j 1) : ℝ) : EReal))
      (fun t h j => by
        rw [outsAt0_A m c t h]; frame_out
        idx_vars j
        refine (hp t _ _ _).trans ?_
        rw [zero3])
      (fun t h j => by
        rw [outsAt0_B m c t h]; frame_out
        idx_vars j
        exact hp t _ _ _)
      (le_of_eq N_0) t0_3 rfl]
  rw [zero_add, coe_sum]
  exact congrArg _ (sum_rows fun r => gainPart (X r) (backRow V (Q r)) j1)

include hx hw hy in
/-- The gradient of the second gain, after the run. -/
theorem final_dg' : (dats m 0 c).arrAt 10 cfg0.N = fun i : S1x1024.Idx => ((∑ r, gainPart (X r) (backRow W (Y r)) (i 1) : ℝ) : EReal) := by
  refine (dats m 0 c).arrAt_eq_of_after_last 10 t0_3 (by decide +kernel) _ fun j => ?_
  blk_simp
  rw [after0_10]
  idx_vars j
  have hp (t : Fin cfg0.N) := pay5_at (iblk m c 2 t) (fun r => X (row t r)) _ _ (fun r => Y (row t r)) W (blk_x m c X hx t) (blk_y m c Y hy t) (blk_w m c W hw t)
  rw [Pipeline.eq_sum_fin_of_reset_step_apply_last (fun n h => (outsAt0 m c n h).2.2) 4 (fun _ => 0)
      (fun t j => ((∑ r, gainPart (X (row t r)) (backRow W (Y (row t r))) (j 1) : ℝ) : EReal))
      (fun t h j => by
        rw [outsAt0_A m c t h]; frame_out
        idx_vars j
        refine (hp t _ _ _).trans ?_
        rw [zero4])
      (fun t h j => by
        rw [outsAt0_B m c t h]; frame_out
        idx_vars j
        exact hp t _ _ _)
      (le_of_eq N_0) t0_3 rfl]
  rw [zero_add, coe_sum]
  exact congrArg _ (sum_rows fun r => gainPart (X r) (backRow W (Y r)) j1)

end Cert.AttnDxaIdeal.Block

end
-- ==== Proof.DxaRef.lean ====
/-
  What the reference's gradients of the two norms and their products are at finite arguments.
-/
module

public import proofs.«01_k».proof.Proof.FfnSpec
public import proofs.«01_k».proof.Proof.Gen.AttnDxaRefIdeal.Run
public import proofs.«01_k».proof.Proof.Gen.AttnDxaRefIdeal.Read

@[expose] public section

set_option maxRecDepth 16384

noncomputable section

namespace Cert.AttnDxaRefIdeal.Spec

open Idealize.ShloMosaic Cert.AttnDxaRefIdeal Cert.AttnDxaRefIdeal.Read Cert.Step

variable (x0 x5 : Vec Ideal S1x4096x1024 .f32) (x1 : Vec Ideal S1x1024 .f32) (x2 : Vec Ideal S1024 .f32) (x3 : Vec Ideal S1x1024x1024 .bf16)
variable (x4 : Vec Ideal S1024x256 .bf16) (x6 : Vec Ideal S1x4096x1024 .bf16) (x7 : Vec Ideal S1x4096x256 .bf16)
variable (X P Q : Fin 4096 → Fin 1024 → ℝ) (G G' : Fin 1024 → ℝ) (V : Fin 1024 → Fin 1024 → ℝ) (W : Fin 1024 → Fin 256 → ℝ) (Y : Fin 4096 → Fin 256 → ℝ)
variable (hx : ∀ z r d, x0 (ix3 z r d) = ((X r d : ℝ) : EReal)) (hg : ∀ z d, x1 (ix2 z d) = ((G d : ℝ) : EReal)) (hg' : ∀ d, x2 (ix1 d) = ((G' d : ℝ) : EReal))
variable (hv : ∀ z d j, x3 (ix3 z d j) = ((V d j : ℝ) : EReal)) (hw : ∀ d j, x4 (ix2 d j) = ((W d j : ℝ) : EReal))
variable (hp : ∀ z r d, x5 (ix3 z r d) = ((P r d : ℝ) : EReal)) (hq : ∀ z r j, x6 (ix3 z r j) = ((Q r j : ℝ) : EReal)) (hy : ∀ z r j, x7 (ix3 z r j) = ((Y r j : ℝ) : EReal))

include hx in
theorem v7_at (z : Fin 1) (r : Fin 4096) (y : Fin 1) : val_main_v7 (F := Ideal) x0 (ix3 z r y) = ((msq (X r) : ℝ) : EReal) := by
  pointwise [val_main_v7, val_main_v6, val_main_cst_1, val_main_v5, val_main_v4, val_main_cst_0, val_main_v3, val_main_v2, val_main_cst, val_main_v1]
  simp only [hx, ← EReal.coe_mul, coe_sum, lit_1024, lit_eps, lit_zero, EReal.coe_zero, zero_add]
  rw [div_real _ (by norm_num), ← EReal.coe_add]
  rfl

include hx in
theorem v8_at (z : Fin 1) (r : Fin 4096) (y : Fin 1) : val_main_v8 (F := Ideal) x0 (ix3 z r y) = ((rs (X r) : ℝ) : EReal) := by
  pointwise [val_main_v8, v7_at x0 X hx]
  exact rsqrt_real (msq_pos (X r))

include hx in
theorem v11_at (z : Fin 1) (r : Fin 4096) (y : Fin 1) :
    val_main_v11 (F := Ideal) x0 (ix3 z r y) = ((-(1 / 2) * (rs (X r) / msq (X r)) : ℝ) : EReal) := by
  pointwise [val_main_v11, val_main_v10, val_main_cst_2, val_main_v9, v7_at x0 X hx, v8_at x0 X hx]
  rw [lit_neg_half, div_real _ (msq_pos (X r)).ne', ← EReal.coe_mul]

include hx in
theorem v26_at (z : Fin 1) (r : Fin 4096) (y : Fin 1) : val_main_v26 (F := Ideal) x0 (ix3 z r y) = ((msq (X r) : ℝ) : EReal) := by
  pointwise [val_main_v26, val_main_v25, val_main_cst_5, val_main_v24, val_main_v23, val_main_cst_4, val_main_v22, val_main_v21, val_main_cst_3, val_main_v20]
  simp only [hx, ← EReal.coe_mul, coe_sum, lit_1024, lit_eps, lit_zero, EReal.coe_zero, zero_add]
  rw [div_real _ (by norm_num), ← EReal.coe_add]
  rfl

include hx in
theorem v27_at (z : Fin 1) (r : Fin 4096) (y : Fin 1) : val_main_v27 (F := Ideal) x0 (ix3 z r y) = ((rs (X r) : ℝ) : EReal) := by
  pointwise [val_main_v27, v26_at x0 X hx]
  exact rsqrt_real (msq_pos (X r))

include hx in
theorem v30_at (z : Fin 1) (r : Fin 4096) (y : Fin 1) :
    val_main_v30 (F := Ideal) x0 (ix3 z r y) = ((-(1 / 2) * (rs (X r) / msq (X r)) : ℝ) : EReal) := by
  pointwise [val_main_v30, val_main_v29, val_main_cst_6, val_main_v28, v26_at x0 X hx, v27_at x0 X hx]
  rw [lit_neg_half, div_real _ (msq_pos (X r)).ne', ← EReal.coe_mul]

include hv hq in
/-- The gradient of the rows under the first norm. -/
theorem v63_at (z : Fin 1) (r : Fin 4096) (d : Fin 1024) :
    val_main_v63 (F := Ideal) x3 x6 (ix3 z r d) = ((backRow V (Q r) d : ℝ) : EReal) := by
  pointwise [val_main_v63, val_main_v38, val_main_v18, val_main_v17]
  simp only [hv, hq, ← EReal.coe_mul, coe_sum]
  rfl

include hx hv hq in
/-- The gradient of the first gain. -/
theorem v86_at (z : Fin 1) (d : Fin 1024) :
    val_main_v86 (F := Ideal) x0 x3 x6 (ix2 z d) = ((∑ r, gainPart (X r) (backRow V (Q r)) d : ℝ) : EReal) := by
  pointwise [val_main_v86, val_main_v69]
  rw [hostReduceAdd_last]
  pointwise [val_main_cst_13, val_main_v66, val_main_v65, val_main_cst_12, val_main_v64, val_main_v13, val_main_v12, v63_at x3 x6 Q V hv hq, v8_at x0 X hx]
  simp only [hx, v63_at x3 x6 Q V hv hq, lit_zero, EReal.coe_zero, zero_add, ← EReal.coe_mul, coe_sum]
  congr 1
  exact Finset.sum_congr rfl fun r _ => mul_comm _ _

include hg hv hq in
theorem v68_at (z : Fin 1) (r : Fin 4096) (d : Fin 1024) :
    val_main_v68 (F := Ideal) x1 x3 x6 (ix3 z r d) = ((backRow V (Q r) d * G d : ℝ) : EReal) := by
  pointwise [val_main_v68, val_main_v67, val_main_v14, val_main_v0, v63_at x3 x6 Q V hv hq]
  rw [hg, ← EReal.coe_mul]

include hx hg hv hq in
/-- The chain rule's part through the row's mean square under the first norm. -/
theorem v79_at (r : Fin 4096) :
    val_main_v79 (F := Ideal) x0 x1 x3 x6 (ix1 r)
      = ((((∑ k, X r k * (backRow V (Q r) k * G k)) * (-(1 / 2) * (rs (X r) / msq (X r)))) / 1024 : ℝ) : EReal) := by
  pointwise [val_main_v79]
  rw [hostReduceAdd_mid]
  pointwise [val_main_cst_16, val_main_v78, val_main_v77, val_main_cst_15, val_main_v76, val_main_v72, val_main_v71, val_main_cst_14, val_main_v70, v68_at x1 x3 x6 Q G V hg hv hq, v11_at x0 X hx]
  simp only [hx, v68_at x1 x3 x6 Q G V hg hv hq, lit_1024, lit_zero, EReal.coe_zero, zero_add, ← EReal.coe_mul, coe_sum]
  rw [div_real _ (by norm_num)]

include hw hy in
/-- The gradient of the rows under the second norm. -/
theorem v40_at (z : Fin 1) (r : Fin 4096) (d : Fin 1024) :
    val_main_v40 (F := Ideal) x4 x7 (ix3 z r d) = ((backRow W (Y r) d : ℝ) : EReal) := by
  pointwise [val_main_v40, val_main_v39, val_main_v36]
  simp only [hw, hy, ← EReal.coe_mul, coe_sum]
  rfl

include hx hw hy in
/-- The gradient of the second gain. -/
theorem v88_at (z : Fin 1) (d : Fin 1024) :
    val_main_v88 (F := Ideal) x0 x4 x7 (ix2 z d) = ((∑ r, gainPart (X r) (backRow W (Y r)) d : ℝ) : EReal) := by
  pointwise [val_main_v88, val_main_v46]
  rw [hostReduceAdd_last]
  pointwise [val_main_cst_8, val_main_v43, val_main_v42, val_main_cst_7, val_main_v41, val_main_v32, val_main_v31, v40_at x4 x7 W Y hw hy, v27_at x0 X hx]
  simp only [hx, v40_at x4 x7 W Y hw hy, lit_zero, EReal.coe_zero, zero_add, ← EReal.coe_mul, coe_sum]
  congr 1
  exact Finset.sum_congr rfl fun r _ => mul_comm _ _

include hg' hw hy in
theorem v45_at (z : Fin 1) (r : Fin 4096) (d : Fin 1024) :
    val_main_v45 (F := Ideal) x2 x4 x7 (ix3 z r d) = ((backRow W (Y r) d * G' d : ℝ) : EReal) := by
  pointwise [val_main_v45, val_main_v44, val_main_v33, v40_at x4 x7 W Y hw hy]
  rw [hg', ← EReal.coe_mul]

include hx hg' hw hy in
/-- The chain rule's part through the row's mean square under the second norm. -/
theorem v56_at (r : Fin 4096) :
    val_main_v56 (F := Ideal) x0 x2 x4 x7 (ix1 r)
      = ((((∑ k, X r k * (backRow W (Y r) k * G' k)) * (-(1 / 2) * (rs (X r) / msq (X r)))) / 1024 : ℝ) : EReal) := by
  pointwise [val_main_v56]
  rw [hostReduceAdd_mid]
  pointwise [val_main_cst_11, val_main_v55, val_main_v54, val_main_cst_10, val_main_v53, val_main_v49, val_main_v48, val_main_cst_9, val_main_v47, v45_at x2 x4 x7 G' W Y hg' hw hy, v30_at x0 X hx]
  simp only [hx, v45_at x2 x4 x7 G' W Y hg' hw hy, lit_1024, lit_zero, EReal.coe_zero, zero_add, ← EReal.coe_mul, coe_sum]
  rw [div_real _ (by norm_num)]

include hx hg hg' hv hw hp hq hy in
/-- The gradient of the rows. -/
theorem v87_at (r : Fin 4096) (d : Fin 1024) :
    val_main_v87 (F := Ideal) x0 x1 x2 x3 x4 x5 x6 x7 (ix2 r d)
      = ((resGrad2 (X r) G G' (backRow V (Q r)) (backRow W (Y r)) (P r) d : ℝ) : EReal) := by
  pointwise [val_main_v87, val_main_v85, val_main_v84, val_main_v83, val_main_v82, val_main_v81, val_main_v80, val_main_v75, val_main_v74, val_main_v73, val_main_v62, val_main_v61, val_main_v60, val_main_v59, val_main_v58, val_main_v57, val_main_v52, val_main_v51, val_main_v50, v68_at x1 x3 x6 Q G V hg hv hq, v8_at x0 X hx, v79_at x0 x1 x3 x6 X Q G V hx hg hv hq,
    v45_at x2 x4 x7 G' W Y hg' hw hy, v27_at x0 X hx, v56_at x0 x2 x4 x7 X G' W Y hx hg' hw hy]
  rw [hx, hp]
  simp only [← EReal.coe_mul, ← EReal.coe_add]
  unfold resGrad2
  rw [normGrad_add (X r) (fun k => backRow V (Q r) k * G k) (fun k => backRow W (Y r) k * G' k),
    ← normGrad_chain (X r) (fun k => backRow V (Q r) k * G k) d, ← normGrad_chain (X r) (fun k => backRow W (Y r) k * G' k) d]
  congr 1
  ring

include hx hg hg' hv hw hp hq hy in
theorem rows_eq : val_main_v87 (F := Ideal) x0 x1 x2 x3 x4 x5 x6 x7
    = fun i : S4096x1024.Idx => ((resGrad2 (X (i 0)) G G' (backRow V (Q (i 0))) (backRow W (Y (i 0))) (P (i 0)) (i 1) : ℝ) : EReal) := by
  funext i
  idx_vars i
  exact v87_at x0 x5 x1 x2 x3 x4 x6 x7 X P Q G G' V W Y hx hg hg' hv hw hp hq hy i0 i1

include hx hv hq in
theorem gain_eq : val_main_v86 (F := Ideal) x0 x3 x6 = fun i : S1x1024.Idx => ((∑ r, gainPart (X r) (backRow V (Q r)) (i 1) : ℝ) : EReal) := by
  funext i
  idx_vars i
  exact v86_at x0 x3 x6 X Q V hx hv hq i0 i1

include hx hw hy in
theorem gain'_eq : val_main_v88 (F := Ideal) x0 x4 x7 = fun i : S1x1024.Idx => ((∑ r, gainPart (X r) (backRow W (Y r)) (i 1) : ℝ) : EReal) := by
  funext i
  idx_vars i
  exact v88_at x0 x4 x7 X W Y hx hw hy i0 i1

open Idealize.SL.Sem in
/-- The reference's run, its results named operation by operation. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v87) = val_main_v87 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v86) = val_main_v86 (F := Ideal) (m ((c.tc : Thread nD τ).loc main_arg0)) (m ((c.tc : Thread nD τ).loc main_arg3)) (m ((c.tc : Thread nD τ).loc main_arg6))
      ∧ r.2.mem ((c.tc : Thread nD τ).loc main_v88) = val_main_v88 (F := Ideal) (m ((c.tc : Thread nD τ).loc main_arg0)) (m ((c.tc : Thread nD τ).loc main_arg4)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (val_main_v87_eq m c), (h c).2.1.trans (val_main_v86_eq _ _ _), (h c).2.2.1.trans (val_main_v88_eq _ _ _), (h c).2.2.2⟩)
    (Cert.AttnDxaRefIdeal.Value.run (F := Ideal) m ρ)

end Cert.AttnDxaRefIdeal.Spec

end
-- ==== Proof.DxaClaim.lean ====
/-
  The value claim of the product fused with two norms' gradients: at finite arguments both programs end with
  the same three arrays.
-/
module

public import proofs.«01_k».proof.Defs
public import proofs.«01_k».proof.Proof.DxaValue
public import proofs.«01_k».proof.Proof.DxaRef
public import proofs.«01_k».proof.Proof.Gen.Pre_dxa_finite
public import Idealize.ShloMosaic.Lib.Claim

@[expose] public section

set_option maxRecDepth 16384

noncomputable section

open Idealize.ShloMosaic Idealize.SL.Sem

namespace Cert.Step

/-- The reference terminates and leaves its arguments as they were. -/
theorem dxa_ref_frame : letI := Cert.AttnDxaRefIdeal.Gen.facts; Cert.quiescent_AttnDxaRefIdeal := fun m ρ _ =>
  (θ_run Cert.AttnDxaRefIdeal.defs _ _).mono (fun r h => ⟨fun c => (h c).2.2.2, sem_eq_zero_of_no_sems (by decide) r.2⟩)
    (Cert.AttnDxaRefIdeal.Value.run (F := Ideal) m ρ)

set_option maxHeartbeats 2000000 in
theorem dxa_algebraic : letI := Cert.AttnDxaIdeal.Gen.facts; letI := Cert.AttnDxaRefIdeal.Gen.facts; letI := Cert.Pre_dxa_finite.Gen.facts;
    Cert.algebraic_AttnDxaIdeal_AttnDxaRefIdeal_pre_dxa_finite := by
  intro m g m' g' hpre hargs
  refine ⟨fun c => (Cert.AttnDxaIdeal.Gen.dats m 0 c).arrAt 8 Cert.AttnDxaIdeal.cfg0.N,
    fun c => (Cert.AttnDxaIdeal.Gen.dats m 0 c).arrAt 9 Cert.AttnDxaIdeal.cfg0.N,
    fun c => (Cert.AttnDxaIdeal.Gen.dats m 0 c).arrAt 10 Cert.AttnDxaIdeal.cfg0.N, ?_, ?_⟩
  · run_from Cert.AttnDxaIdeal.Gen.run_main m g
  · refine (θ_run Cert.AttnDxaRefIdeal.defs _ _).mono (fun r h c => ?_) (Cert.AttnDxaRefIdeal.Spec.run m' g')
    obtain ⟨p0, p1, p2, p3, p4, p5, p6, p7⟩ := hpre c
    obtain ⟨a0, a1, a2, a3, a4, a5, a6, a7⟩ := hargs c
    obtain ⟨X, hx⟩ := real_rows _ _ p0
    obtain ⟨G, hg⟩ := real_row _ _ p1
    obtain ⟨G', hg'⟩ := real_vec _ _ p2
    obtain ⟨V, hv⟩ := real_rows16 _ _ p3
    obtain ⟨W, hw⟩ := real_mat16 _ _ p4
    obtain ⟨P, hp⟩ := real_rows _ _ p5
    obtain ⟨Q, hq⟩ := real_rows16 _ _ p6
    obtain ⟨Y, hy⟩ := real_rows16 _ _ p7
    obtain ⟨h0, h1, h2, k⟩ := h c
    have e0 := Cert.AttnDxaIdeal.Block.final_dx m c _ _ _ _ _ _ _ _ hx hg hg' hv hw hp hq hy
    have e1 := Cert.AttnDxaIdeal.Block.final_dg m c _ _ _ hx hv hq
    have e2 := Cert.AttnDxaIdeal.Block.final_dg' m c _ _ _ hx hw hy
    rw [← a0] at hx
    rw [← a1] at hg
    rw [← a2] at hg'
    rw [← a3] at hv
    rw [← a4] at hw
    rw [← a5] at hp
    rw [← a6] at hq
    rw [← a7] at hy
    refine ⟨?_, ?_, ?_, k⟩
    · exact h0.trans ((Cert.AttnDxaRefIdeal.Spec.rows_eq _ _ _ _ _ _ _ _ _ _ _ _ _ _ _ _ hx hg hg' hv hw hp hq hy).trans e0.symm)
    · exact h1.trans ((Cert.AttnDxaRefIdeal.Spec.gain_eq _ _ _ _ _ _ hx hv hq).trans e1.symm)
    · exact h2.trans ((Cert.AttnDxaRefIdeal.Spec.gain'_eq _ _ _ _ _ _ hx hw hy).trans e2.symm)

end Cert.Step

end
-- ==== Proof.ConvSpec.lean ====
/-
  The gated causal convolution of one sequence and its gradient, over the reals: one channel at a time, the rows are
  the positions. `lag k` reads the row `k` positions earlier, `ahead k` the row `k` positions later, and both read zero
  beyond the sequence's ends.
-/
module

public import proofs.«01_k».proof.Proof.RealLaws
public import Mathlib.Analysis.SpecialFunctions.Trigonometric.DerivHyp

@[expose] public section

noncomputable section

namespace Cert.Step

open Idealize.ShloMosaic

/-- The logistic function. -/
def logi (x : ℝ) : ℝ := 1 / (1 + Real.exp (-x))

theorem exp_pos_one (x : ℝ) : (0 : ℝ) < 1 + Real.exp (-x) := by positivity

/-- The logistic function by the hyperbolic tangent. -/
theorem logi_tanh (x : ℝ) : 1 / 2 * Real.tanh (1 / 2 * x) + 1 / 2 = logi x := by
  have h : Real.exp (-x) = Real.exp (-(1 / 2 * x)) * Real.exp (-(1 / 2 * x)) := by rw [← Real.exp_add]; congr 1; ring
  have h1 : Real.exp (1 / 2 * x) * Real.exp (-(1 / 2 * x)) = 1 := by rw [← Real.exp_add]; simp
  have p := Real.exp_pos (1 / 2 * x)
  have q := Real.exp_pos (-(1 / 2 * x))
  unfold logi
  rw [Real.tanh_eq_sinh_div_cosh, Real.sinh_eq, Real.cosh_eq, h]
  generalize Real.exp (1 / 2 * x) = a at *
  generalize Real.exp (-(1 / 2 * x)) = b at *
  have e : a = b⁻¹ := eq_inv_of_mul_eq_one_left h1
  subst e
  field_simp
  ring

/-- The sequence `k` positions earlier. -/
def lag (k : ℕ) (g : Fin 4096 → ℝ) (r : Fin 4096) : ℝ := if k ≤ r.val then g ⟨r.val - k, lt_of_le_of_lt (Nat.sub_le _ _) r.isLt⟩ else 0

/-- The sequence `k` positions later. -/
def ahead (k : ℕ) (g : Fin 4096 → ℝ) (r : Fin 4096) : ℝ := if h : r.val + k < 4096 then g ⟨r.val + k, h⟩ else 0

theorem lag_none {k : ℕ} {r : Fin 4096} (g : Fin 4096 → ℝ) (h : r.val < k) : lag k g r = 0 := if_neg (by omega)
theorem lag_some {k : ℕ} {r s : Fin 4096} (g : Fin 4096 → ℝ) (h : s.val + k = r.val) : lag k g r = g s :=
  (if_pos (by omega)).trans (congrArg g (Fin.ext (by simp; omega)))
theorem ahead_none {k : ℕ} {r : Fin 4096} (g : Fin 4096 → ℝ) (h : 4096 ≤ r.val + k) : ahead k g r = 0 := dif_neg (by omega)
theorem ahead_some {k : ℕ} {r s : Fin 4096} (g : Fin 4096 → ℝ) (h : r.val + k = s.val) : ahead k g r = g s :=
  (dif_pos (by have := s.isLt; omega)).trans (congrArg g (Fin.ext h))

/-- A guarded product with a later row. -/
theorem coe_ahead {c : Prop} [Decidable c] (w : ℝ) (f : Fin 4096 → ℝ) (r : Fin 4096) (k : ℕ) (n : c → Fin 4096)
    (hn : ∀ h, r.val + k = (n h).val) (hc : r.val + k < 4096 → c) :
    (if h : c then ((w : ℝ) : EReal) * ((f (n h) : ℝ) : EReal) else 0) = ((w * ahead k f r : ℝ) : EReal) := by
  split <;> rename_i h
  · rw [ahead_some f (hn h), EReal.coe_mul]
  · rw [ahead_none f (by by_contra h'; exact h (hc (by omega))), mul_zero]; rfl

/-- Shifting one factor back under the sum is shifting the other one forward. -/
theorem sum_lag (k : ℕ) (f g : Fin 4096 → ℝ) : ∑ r, f r * lag k g r = ∑ r, ahead k f r * g r := by
  have e1 : ∀ r, f r * lag k g r = ∑ s : Fin 4096, if s.val + k = r.val then f r * g s else 0 := by
    intro r
    unfold lag
    split
    · rename_i h
      rw [Finset.sum_eq_single (⟨r.val - k, lt_of_le_of_lt (Nat.sub_le _ _) r.isLt⟩ : Fin 4096)]
      · rw [if_pos (by simp; omega)]
      · intro s _ hs
        rw [if_neg]
        intro he
        exact hs (Fin.ext (by simp; omega))
      · simp
    · rename_i h
      rw [mul_zero]
      exact (Finset.sum_eq_zero fun s _ => if_neg (by omega)).symm
  have e2 : ∀ s, ahead k f s * g s = ∑ r : Fin 4096, if s.val + k = r.val then f r * g s else 0 := by
    intro s
    unfold ahead
    split
    · rename_i h
      rw [Finset.sum_eq_single (⟨s.val + k, h⟩ : Fin 4096)]
      · simp
      · intro r _ hr
        rw [if_neg]
        intro he
        exact hr (Fin.ext (by simp; omega))
      · simp
    · rename_i h
      rw [zero_mul]
      exact (Finset.sum_eq_zero fun r _ => if_neg (by have := r.isLt; omega)).symm
  simp only [e1, e2]
  exact Finset.sum_comm

/-- The convolution of a channel with its three taps and its bias. -/
def convLine (u : Fin 4096 → ℝ) (w : Fin 3 → ℝ) (b : ℝ) (r : Fin 4096) : ℝ := b + w 0 * lag 2 u r + w 1 * lag 1 u r + w 2 * u r

/-- The gradient of `silu c · v` in `c`, at the cotangent `a`. -/
def gateGrad (c a v : ℝ) : ℝ := a * v * (logi c * (1 + c * (1 - logi c)))

/-- The channels of the gate half and of the value half. -/
def gate (U : Fin 4096 → Fin 5632 → ℝ) (j : Fin 2816) (r : Fin 4096) : ℝ := U r ⟨j.val, by have := j.isLt; omega⟩
def value (U : Fin 4096 → Fin 5632 → ℝ) (j : Fin 2816) (r : Fin 4096) : ℝ := U r ⟨2816 + j.val, by have := j.isLt; omega⟩

variable (U : Fin 4096 → Fin 5632 → ℝ) (W : Fin 3 → Fin 2816 → ℝ) (B : Fin 2816 → ℝ) (A : Fin 4096 → Fin 2816 → ℝ)

/-- Channel `j` of the convolution. -/
def conv (j : Fin 2816) (r : Fin 4096) : ℝ := convLine (gate U j) (fun k => W k j) (B j) r
/-- The gated product. -/
def act (j : Fin 2816) (r : Fin 4096) : ℝ := conv U W B j r * logi (conv U W B j r) * value U j r
/-- The gradient of the convolution's rows. -/
def dconv (j : Fin 2816) (r : Fin 4096) : ℝ := gateGrad (conv U W B j r) (A r j) (value U j r)
/-- The gradient of the gate half. -/
def dgate (j : Fin 2816) (r : Fin 4096) : ℝ :=
  W 2 j * dconv U W B A j r + W 1 j * ahead 1 (dconv U W B A j) r + W 0 j * ahead 2 (dconv U W B A j) r
/-- The gradient of the value half. -/
def dvalue (j : Fin 2816) (r : Fin 4096) : ℝ := A r j * (conv U W B j r * logi (conv U W B j r))
/-- The gradient of a tap that reads `k` positions earlier. -/
def dtap (k : ℕ) (j : Fin 2816) : ℝ := ∑ r, ahead k (dconv U W B A j) r * gate U j r
/-- The gradient of the bias. -/
def dbias (j : Fin 2816) : ℝ := ∑ r, dconv U W B A j r

/-- The gradient of both halves, the channels cut into two blocks of 1408. -/
def dhalves (h k : Fin 2) (r : Fin 4096) (j : Fin 1408) : ℝ :=
  if h.val < 1 then dgate U W B A ⟨k.val * 1408 + j.val, by have := k.isLt; have := j.isLt; omega⟩ r
  else dvalue U W B A ⟨k.val * 1408 + j.val, by have := k.isLt; have := j.isLt; omega⟩ r

/-- A quotient of one by one plus an exponential is the logistic function. -/
theorem logi_div (x : ℝ) : Ideal.div ((1 : ℝ) : EReal) ((1 + Real.exp (-x) : ℝ) : EReal) = ((logi x : ℝ) : EReal) :=
  div_real _ (exp_pos_one x).ne'

end Cert.Step

end
-- ==== Proof.ConvGateBlock.lean ====
/-
  What one block of the gated convolution computes, read at an index.
-/
module

public import proofs.«01_k».proof.Proof.ConvSpec
public import proofs.«01_k».proof.Proof.Gen.ConvGateIdeal.Skeleton

@[expose] public section

set_option maxRecDepth 16384

noncomputable section

namespace Cert.ConvGateIdeal.Block

open Idealize.ShloMosaic Cert.ConvGateIdeal Cert.ConvGateIdeal.Gen Cert.Step

variable (i : grid0.Coords) (g v : Vec Ideal S512x1408 .bf16) (o : Vec Ideal S16x1408 .bf16) (w0 w1 w2 b : Vec Ideal S1x1408 .f32)
variable (E : ℕ → Fin 1408 → ℝ) (V : Fin 512 → Fin 1408 → ℝ) (W : Fin 3 → Fin 1408 → ℝ) (B : Fin 1408 → ℝ)

/-! `E n d` is the gate half at the row `n` that counts from the eighth row before the block. -/

variable (hg : ∀ (r : Fin 512) d, g (ix2 r d) = ((E (8 + r.val) d : ℝ) : EReal))
variable (ho : ∀ (z : Fin 16) d, 8 ≤ z.val → Scalar.select (Scalar.cmpi .sgt (BitVec.ofNat 32 (i 1).val) 0#32) (o (ix2 z d)) 0 = ((E (z.val - 8) d : ℝ) : EReal))
variable (hv : ∀ r d, v (ix2 r d) = ((V r d : ℝ) : EReal)) (hb : ∀ d, b (ix2 0 d) = ((B d : ℝ) : EReal))
variable (h0 : ∀ d, w0 (ix2 0 d) = ((W 0 d : ℝ) : EReal)) (h1 : ∀ d, w1 (ix2 0 d) = ((W 1 d : ℝ) : EReal)) (h2 : ∀ d, w2 (ix2 0 d) = ((W 2 d : ℝ) : EReal))

/-- The convolution at a row of the block. -/
def blockConv (r : Fin 512) (d : Fin 1408) : ℝ := B d + W 0 d * E (6 + r.val) d + W 1 d * E (7 + r.val) d + W 2 d * E (8 + r.val) d

include hg ho hb h0 h1 h2 in
theorem pay2_at (r : Fin 512) (d : Fin 1408) : k0_pay2 (F := Ideal) i g o b w0 w1 w2 (ix2 r d) = ((blockConv E W B r d : ℝ) : EReal) := by
  have cell (k : ℕ) (hk : k < 520) (p1 : k < 8 → 8 + k < 16) (p2 : ¬ k < 8 → k - 8 < 512) : (if h : k < 8 then
      Scalar.select (Scalar.cmpi .sgt (BitVec.ofNat 32 (i 1).val) 0#32) (o (ix2 ⟨8 + k, p1 h⟩ d)) 0 else g (ix2 ⟨k - 8, p2 h⟩ d)) = ((E k d : ℝ) : EReal) := by
    split <;> rename_i h
    · exact (ho _ d (by simp)).trans (congrArg (fun n => ((E n d : ℝ) : EReal)) (by simp))
    · exact (hg _ d).trans (congrArg (fun n => ((E n d : ℝ) : EReal)) (show 8 + (k - 8) = k by omega))
  pointwise [k0_pay2]
  rw [cell _ (by omega), cell _ (by omega), hg, hb, h0, h1, h2]
  have e1 : (8 + r.val + 520 - 2) % 520 = 6 + r.val := by have := r.isLt; omega
  have e2 : (8 + r.val + 520 - 1) % 520 = 7 + r.val := by have := r.isLt; omega
  simp only [e1, e2, ← EReal.coe_mul, ← EReal.coe_add]
  rfl

include hg ho hb h0 h1 h2 in
/-- The saved convolution. -/
theorem pay3_at (r : Fin 512) (d : Fin 1408) : k0_pay3 (F := Ideal) i g o b w0 w1 w2 (ix2 r d) = ((blockConv E W B r d : ℝ) : EReal) := by
  pointwise [k0_pay3]
  exact pay2_at i g o w0 w1 w2 b E W B hg ho hb h0 h1 h2 r d

include hg ho hb h0 h1 h2 hv in
/-- The gated rows. -/
theorem pay1_at (r : Fin 512) (d : Fin 1408) :
    k0_pay1 (F := Ideal) (k0_pay2 i g o b w0 w1 w2) (k0_pay4 i g o b w0 w1 w2) (Scalar.ofBits .f32 0x3F000000#32) v (ix2 r d)
      = ((blockConv E W B r d * logi (blockConv E W B r d) * V r d : ℝ) : EReal) := by
  pointwise [k0_pay1, k0_pay4, pay2_at i g o w0 w1 w2 b E W B hg ho hb h0 h1 h2]
  rw [hv, lit_half, ← EReal.coe_mul, Ideal.tanh_coe, ← EReal.coe_mul, ← EReal.coe_add, logi_tanh, ← EReal.coe_mul, ← EReal.coe_mul]

end Cert.ConvGateIdeal.Block

end
-- ==== Proof.ConvGateValue.lean ====
/-
  The gated convolution at finite arguments: its two result arrays as functions of the rows, from what each
  block computes.
-/
module

public import proofs.«01_k».proof.Proof.ConvGateBlock
public import proofs.«01_k».proof.Proof.Gen.ConvGateIdeal.Value
public import Idealize.ShloMosaic.Lib.Pipeline.ValueKit

@[expose] public section

set_option maxRecDepth 16384

noncomputable section

namespace Cert.ConvGateIdeal.Block

open Idealize.ShloMosaic Idealize.ShloMosaic.TcCoe Idealize.SL.Sem Cert.ConvGateIdeal Cert.ConvGateIdeal.Gen Cert.Step

theorem idx : ∀ t : Fin cfg0.N, win0_0.index t = ![t.val % 8, t.val / 8] ∧ win0_1.index t = ![t.val % 8 * 32 - 1, t.val / 8]
    ∧ win0_2.index t = ![t.val % 8, 2 + t.val / 8] ∧ win0_3.index t = ![0, t.val / 8] ∧ win0_4.index t = ![0, t.val / 8]
    ∧ win0_5.index t = ![t.val % 8, t.val / 8] ∧ win0_6.index t = ![t.val % 8, t.val / 8] :=
  (by decide +kernel : ∀ t : Fin grid0.N, _)

/-- The rows before the block are taken except at a first block. -/
theorem halo : ∀ t : Fin cfg0.N, Scalar.cmpi .sgt (BitVec.ofNat 32 (grid0.coords t 1).val) 0#32 = if t.val % 8 = 0 then 0#1 else 1#1 :=
  (by decide +kernel : ∀ t : Fin grid0.N, _)

variable (m : (ℓ : Loc nD τ sig) → Buf (Elt Ideal) ℓ) (c : Dev nD)
variable (U : Fin 4096 → Fin 5632 → ℝ) (W : Fin 3 → Fin 2816 → ℝ) (B : Fin 2816 → ℝ)
variable (hu : ∀ z r j, m ((c.tc : Thread nD τ).loc main_arg0) (ix3 z r j) = ((U r j : ℝ) : EReal))
variable (hw : ∀ k j, m ((c.tc : Thread nD τ).loc main_arg1) (ix2 k j) = ((W k j : ℝ) : EReal))
variable (hb : ∀ j, m ((c.tc : Thread nD τ).loc main_arg2) (ix1 j) = ((B j : ℝ) : EReal))

theorem lt16 (t : Fin cfg0.N) : t.val < 16 := lt_of_lt_of_eq t.isLt N_0

/-- The position that row `r` of the block of point `t` is. -/
def row (t : Fin cfg0.N) (r : Fin 512) : Fin 4096 := ⟨t.val % 8 * 512 + r.val, by have := r.isLt; omega⟩

/-- The column that column `d` of the block of point `t` is. -/
def col (t : Fin cfg0.N) (d : Fin 1408) : Fin 2816 := ⟨t.val / 8 * 1408 + d.val, by have := lt16 t; have := d.isLt; omega⟩

/-- The gate half at row `n` counted from the eighth row before the block of point `t`, zero before the first row. -/
def E (t : Fin cfg0.N) (n : ℕ) (d : Fin 1408) : ℝ :=
  if h : 8 ≤ t.val % 8 * 512 + n ∧ t.val % 8 * 512 + n - 8 < 4096 then gate U (col t d) ⟨t.val % 8 * 512 + n - 8, h.2⟩ else 0

theorem E_lag (t : Fin cfg0.N) (r : Fin 512) (d : Fin 1408) (k : ℕ) (hk : k ≤ 8) :
    E U t (8 - k + r.val) d = lag k (gate U (col t d)) (row t r) := by
  have hr := r.isLt
  by_cases h : k ≤ t.val % 8 * 512 + r.val
  · rw [lag_some (s := ⟨t.val % 8 * 512 + r.val - k, by omega⟩) _ (by simp only [row]; omega), E, dif_pos (by omega)]
    exact congrArg _ (Fin.ext (by simp only; omega))
  · rw [lag_none _ (by simp only [row]; omega), E, dif_neg (by omega)]

include hu in
theorem blk_g (t : Fin cfg0.N) (r : Fin 512) (d : Fin 1408) : iblk (F := Ideal) m c 0 t (ix2 r d) = ((gate U (col t d) (row t r) : ℝ) : EReal) := by
  refine Eq.trans ?_ (hu 0 (row t r) ⟨(col t d).val, by have := (col t d).isLt; omega⟩)
  blk_point [iblk, Gen.V, idx t]
  all_goals rfl

include hu in
theorem blk_g' (t : Fin cfg0.N) (r : Fin 512) (d : Fin 1408) : iblk (F := Ideal) m c 0 t (ix2 r d) = ((E U t (8 + r.val) d : ℝ) : EReal) :=
  (blk_g m c U hu t r d).trans (congrArg _ ((E_lag U t r d 0 (by omega)).trans (lag_some _ rfl)).symm)

include hu in
theorem blk_o (t : Fin cfg0.N) (z : Fin 16) (d : Fin 1408) (hz : 8 ≤ z.val) :
    Scalar.select (Scalar.cmpi .sgt (BitVec.ofNat 32 (grid0.coords t 1).val) 0#32) (iblk (F := Ideal) m c 1 t (ix2 z d)) (0 : EReal) = ((E U t (z.val - 8) d : ℝ) : EReal) := by
  have hz' := z.isLt
  rw [halo]
  by_cases h : t.val % 8 = 0
  · rw [if_pos h, E, dif_neg (by omega)]
    rfl
  · rw [if_neg h, E, dif_pos (by omega)]
    refine Eq.trans ?_ (hu 0 ⟨t.val % 8 * 512 + (z.val - 8) - 8, by omega⟩ ⟨(col t d).val, by have := (col t d).isLt; omega⟩)
    show iblk (F := Ideal) m c 1 t (ix2 z d) = _
    blk_point [iblk, Gen.V, idx t]
    all_goals first | rfl | (simp only [col]; omega)

include hu in
theorem blk_v (t : Fin cfg0.N) (r : Fin 512) (d : Fin 1408) : iblk (F := Ideal) m c 2 t (ix2 r d) = ((value U (col t d) (row t r) : ℝ) : EReal) := by
  refine Eq.trans ?_ (hu 0 (row t r) ⟨2816 + (col t d).val, by have := (col t d).isLt; omega⟩)
  blk_point [iblk, Gen.V, idx t]
  all_goals first | rfl | (simp only [row, col]; omega)

include hw in
theorem blk_w (t : Fin cfg0.N) (k : Fin 3) (d : Fin 1408) : iblk (F := Ideal) m c 3 t (ix2 k d) = ((W k (col t d) : ℝ) : EReal) := by
  rw [← hw]
  blk_point [iblk, Gen.V, idx t]
  all_goals rfl

include hb in
theorem blk_b (t : Fin cfg0.N) (d : Fin 1408) : iblk (F := Ideal) m c 4 t (ix2 0 d) = ((B (col t d) : ℝ) : EReal) := by
  rw [← hb]
  blk_point [iblk, Gen.V, idx t]
  all_goals rfl

theorem emb2 (x0 : Fin 1) (x1 : Fin 1408) : r0_5.emb (ix2 x0 x1) = (ix2 2 x1 : S3x1408.Idx) := by unfold r0_5; blk_ext
theorem emb1 (x0 : Fin 1) (x1 : Fin 1408) : r0_4.emb (ix2 x0 x1) = (ix2 1 x1 : S3x1408.Idx) := by unfold r0_4; blk_ext
theorem emb0 (x0 : Fin 1) (x1 : Fin 1408) : r0_3.emb (ix2 x0 x1) = (ix2 0 x1 : S3x1408.Idx) := by unfold r0_3; blk_ext

theorem block_conv (t : Fin cfg0.N) (r : Fin 512) (d : Fin 1408) :
    blockConv (E U t) (fun k d => W k (col t d)) (fun d => B (col t d)) r d = conv U W B (col t d) (row t r) := by
  have e0 := E_lag U t r d 0 (by omega)
  have e1 := E_lag U t r d 1 (by omega)
  have e2 := E_lag U t r d 2 (by omega)
  rw [lag_some (s := row t r) (gate U (col t d)) rfl] at e0
  unfold blockConv
  rw [show 6 = 8 - 2 from rfl, show 7 = 8 - 1 from rfl, e1, e2]
  exact congrArg (_ + _ * ·) e0

include hu hw hb in
theorem out_conv (t : Fin cfg0.N) (r : Fin 512) (d : Fin 1408) :
    out0_6 (grid0.coords t) (iblk m c 0 t) (iblk m c 1 t) (iblk m c 2 t) (iblk m c 3 t) (iblk m c 4 t) (ix2 r d)
      = ((conv U W B (col t d) (row t r) : ℝ) : EReal) := by
  frame_out
  rw [← block_conv]
  refine pay3_at _ _ _ _ _ _ _ (E U t) _ _ (blk_g' m c U hu t) (blk_o m c U hu t) (blk_b m c B hb t) (fun d => ?_) (fun d => ?_) (fun d => ?_) r d
  · exact (congrArg (iblk m c 3 t) (emb0 0 d)).trans (blk_w m c W hw t 0 d)
  · exact (congrArg (iblk m c 3 t) (emb1 0 d)).trans (blk_w m c W hw t 1 d)
  · exact (congrArg (iblk m c 3 t) (emb2 0 d)).trans (blk_w m c W hw t 2 d)

include hu hw hb in
theorem out_act (t : Fin cfg0.N) (r : Fin 512) (d : Fin 1408) :
    out0_5 (grid0.coords t) (iblk m c 0 t) (iblk m c 1 t) (iblk m c 2 t) (iblk m c 3 t) (iblk m c 4 t) (ix2 r d)
      = ((act U W B (col t d) (row t r) : ℝ) : EReal) := by
  frame_out
  unfold act
  rw [← block_conv]
  refine pay1_at _ _ _ _ _ _ _ _ (E U t) (fun r d => value U (col t d) (row t r)) _ _ (blk_g' m c U hu t) (blk_o m c U hu t) (blk_v m c U hu t) (blk_b m c B hb t) (fun d => ?_) (fun d => ?_) (fun d => ?_) r d
  · exact (congrArg (iblk m c 3 t) (emb0 0 d)).trans (blk_w m c W hw t 0 d)
  · exact (congrArg (iblk m c 3 t) (emb1 0 d)).trans (blk_w m c W hw t 1 d)
  · exact (congrArg (iblk m c 3 t) (emb2 0 d)).trans (blk_w m c W hw t 2 d)

include hu hw hb in
/-- The gated rows, after the run. -/
theorem final_act : (dats m 0 c).arrAt 5 cfg0.N = fun i : S4096x2816.Idx => ((act U W B (i 1) (i 0) : ℝ) : EReal) := by
  have key : ∀ (t : Fin cfg0.N) (r : Fin 512) (d : Fin 1408) (i : S4096x2816.Idx), i = ix2 (row t r) (col t d) →
      out0_5 (grid0.coords t) (iblk m c 0 t) (iblk m c 1 t) (iblk m c 2 t) (iblk m c 3 t) (iblk m c 4 t) (ix2 r d)
        = ((act U W B (i 1) (i 0) : ℝ) : EReal) := by
    rintro t r d i rfl
    exact out_act m c U W B hu hw hb t r d
  refine (dats m 0 c).arrAt_eq_of_covers 5 _ (by decide +kernel) fun t hf y => ?_
  blk_simp
  rw [after0_5]
  idx_vars y
  refine key t y0 y1 _ ?_
  blk_ext [idx t]
  all_goals rfl

include hu hw hb in
/-- The saved convolution, after the run. -/
theorem final_conv : (dats m 0 c).arrAt 6 cfg0.N = fun i : S4096x2816.Idx => ((conv U W B (i 1) (i 0) : ℝ) : EReal) := by
  have key : ∀ (t : Fin cfg0.N) (r : Fin 512) (d : Fin 1408) (i : S4096x2816.Idx), i = ix2 (row t r) (col t d) →
      out0_6 (grid0.coords t) (iblk m c 0 t) (iblk m c 1 t) (iblk m c 2 t) (iblk m c 3 t) (iblk m c 4 t) (ix2 r d)
        = ((conv U W B (i 1) (i 0) : ℝ) : EReal) := by
    rintro t r d i rfl
    exact out_conv m c U W B hu hw hb t r d
  refine (dats m 0 c).arrAt_eq_of_covers 6 _ (by decide +kernel) fun t hf y => ?_
  blk_simp
  rw [after0_6]
  idx_vars y
  refine key t y0 y1 _ ?_
  blk_ext [idx t]
  all_goals rfl

end Cert.ConvGateIdeal.Block

end
-- ==== Proof.ConvGateRefRead.lean ====
/-
  The reference of the gated convolution, read at an index at finite arguments.
-/
module

public import proofs.«01_k».proof.Proof.ConvSpec
public import proofs.«01_k».proof.Proof.Gen.ConvGateRefIdeal.Run
public import proofs.«01_k».proof.Proof.Gen.ConvGateRefIdeal.Read

@[expose] public section

set_option maxRecDepth 16384

noncomputable section

namespace Cert.ConvGateRefIdeal.Spec

open Idealize.ShloMosaic Cert.ConvGateRefIdeal Cert.ConvGateRefIdeal.Read Cert.Step

variable (x0 : Vec Ideal S1x4096x5632 .bf16) (x1 : Vec Ideal S3x2816 .f32) (x2 : Vec Ideal S2816 .f32)
variable (U : Fin 4096 → Fin 5632 → ℝ) (W : Fin 3 → Fin 2816 → ℝ) (B : Fin 2816 → ℝ)
variable (hu : ∀ z r j, x0 (ix3 z r j) = ((U r j : ℝ) : EReal)) (hw : ∀ k j, x1 (ix2 k j) = ((W k j : ℝ) : EReal))
variable (hb : ∀ j, x2 (ix1 j) = ((B j : ℝ) : EReal))

include hu in
/-- The gate's rows behind two rows of zeros, read from row `2 - k` on. -/
theorem padded_at (k : ℕ) (z : Fin 1) (p : Fin 4098) (r : Fin 4096) (hp : p.val + k = r.val + 2) (j : Fin 2816) :
    val_main_v3 (F := Ideal) x0 (ix3 z p j) = ((lag k (gate U j) r : ℝ) : EReal) := by
  pointwise [val_main_v3, val_main_v2, val_main_cst, val_main_v1, val_main_v0]
  split <;> rename_i h
  · rw [lag_none _ (by omega)]; rfl
  · refine (hu _ _ _).trans (congrArg _ (lag_some (gate U j) ?_).symm)
    simp; omega

include hu hw hb in
/-- The convolution. -/
theorem conv_at (z : Fin 1) (r : Fin 4096) (j : Fin 2816) : val_main_v26 (F := Ideal) x0 x1 x2 (ix3 z r j) = ((conv U W B j r : ℝ) : EReal) := by
  pointwise [val_main_v26, val_main_v25, val_main_v24, val_main_v23, val_main_v22, val_main_v21, val_main_v20, val_main_v19, val_main_v18, val_main_v17,
    val_main_v16, val_main_v15, val_main_v14, val_main_v12, val_main_v11, val_main_v10, val_main_v9, val_main_v8, val_main_v7, val_main_v6, val_main_v5,
    val_main_v4, val_main_v13]
  rw [padded_at x0 U hu 2 _ _ r (by simp), padded_at x0 U hu 1 _ _ r (by simp; omega), padded_at x0 U hu 0 _ _ r (by simp; omega), hb, hw, hw, hw]
  simp only [← EReal.coe_mul, ← EReal.coe_add]
  rw [lag_some (k := 0) (s := r) _ (Nat.add_zero _)]
  rfl

include hu hw hb in
theorem logi_at (z : Fin 1) (r : Fin 4096) (j : Fin 2816) : val_main_call0_v5 (F := Ideal) x0 x1 x2 (ix3 z r j) = ((logi (conv U W B j r) : ℝ) : EReal) := by
  pointwise [val_main_call0_v5, val_main_call0_v4, val_main_call0_cst_0, val_main_call0_v3, val_main_call0_v2, val_main_call0_cst, val_main_call0_v1, val_main_call0_v0, conv_at x0 x1 x2 U W B hu hw hb]
  rw [← EReal.coe_one, ← EReal.coe_neg, Ideal.exp_coe, ← EReal.coe_add, logi_div]

include hu hw hb in
theorem act_eq : val_main_v31 (F := Ideal) x0 x1 x2 = fun i : S4096x2816.Idx => ((act U W B (i 1) (i 0) : ℝ) : EReal) := by
  funext i
  idx_vars i
  pointwise [val_main_v31, val_main_v30, val_main_v29, val_main_v28, val_main_v27, val_main_v0, conv_at x0 x1 x2 U W B hu hw hb, logi_at x0 x1 x2 U W B hu hw hb]
  rw [hu, ← EReal.coe_mul, ← EReal.coe_mul]
  rfl

include hu hw hb in
theorem conv_eq : val_main_v33 (F := Ideal) x0 x1 x2 = fun i : S4096x2816.Idx => ((conv U W B (i 1) (i 0) : ℝ) : EReal) := by
  funext i
  idx_vars i
  pointwise [val_main_v33, val_main_v32, conv_at x0 x1 x2 U W B hu hw hb]

open Idealize.SL.Sem in
/-- The reference's run, its results named operation by operation. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v31) = val_main_v31 (F := Ideal) (m ((c.tc : Thread nD τ).loc main_arg0)) (m ((c.tc : Thread nD τ).loc main_arg1)) (m ((c.tc : Thread nD τ).loc main_arg2))
      ∧ r.2.mem ((c.tc : Thread nD τ).loc main_v33) = val_main_v33 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (val_main_v31_eq m c), (h c).2.1.trans (val_main_v33_eq _ _ _), (h c).2.2⟩)
    (Cert.ConvGateRefIdeal.Value.run (F := Ideal) m ρ)

end Cert.ConvGateRefIdeal.Spec

end
-- ==== Proof.ConvGateClaim.lean ====
/-
  The value claim of the gated convolution: at finite arguments both programs end with the same two arrays.
-/
module

public import proofs.«01_k».proof.Defs
public import proofs.«01_k».proof.Proof.ConvGateValue
public import proofs.«01_k».proof.Proof.ConvGateRefRead
public import proofs.«01_k».proof.Proof.RealLaws
public import proofs.«01_k».proof.Proof.Gen.Pre_cfwd_finite
public import Idealize.ShloMosaic.Lib.Claim

@[expose] public section

set_option maxRecDepth 16384

noncomputable section

open Idealize.ShloMosaic Idealize.SL.Sem

namespace Cert.Step

/-- The reference terminates and leaves its arguments as they were. -/
theorem cfwd_ref_frame : letI := Cert.ConvGateRefIdeal.Gen.facts; Cert.quiescent_ConvGateRefIdeal := fun m ρ _ =>
  (θ_run Cert.ConvGateRefIdeal.defs _ _).mono (fun r h => ⟨fun c => (h c).2.2, sem_eq_zero_of_no_sems (by decide) r.2⟩)
    (Cert.ConvGateRefIdeal.Value.run (F := Ideal) m ρ)

set_option maxHeartbeats 2000000 in
theorem cfwd_algebraic : letI := Cert.ConvGateIdeal.Gen.facts; letI := Cert.ConvGateRefIdeal.Gen.facts; letI := Cert.Pre_cfwd_finite.Gen.facts;
    Cert.algebraic_ConvGateIdeal_ConvGateRefIdeal_pre_cfwd_finite := by
  intro m g m' g' hpre hargs
  refine ⟨fun c => (Cert.ConvGateIdeal.Gen.dats m 0 c).arrAt 5 Cert.ConvGateIdeal.cfg0.N,
    fun c => (Cert.ConvGateIdeal.Gen.dats m 0 c).arrAt 6 Cert.ConvGateIdeal.cfg0.N, ?_, ?_⟩
  · run_from Cert.ConvGateIdeal.Gen.run_main m g
  · refine (θ_run Cert.ConvGateRefIdeal.defs _ _).mono (fun r h c => ?_) (Cert.ConvGateRefIdeal.Spec.run m' g')
    obtain ⟨p0, p1, p2⟩ := hpre c
    obtain ⟨a0, a1, a2⟩ := hargs c
    obtain ⟨U, hu⟩ := real_rows16 _ _ p0
    obtain ⟨W, hw⟩ := real_mat _ _ p1
    obtain ⟨B, hb⟩ := real_vec _ _ p2
    obtain ⟨h0, h1, k⟩ := h c
    have e0 := Cert.ConvGateIdeal.Block.final_act m c U W B hu hw hb
    have e1 := Cert.ConvGateIdeal.Block.final_conv m c U W B hu hw hb
    rw [← a0] at hu
    rw [← a1] at hw
    rw [← a2] at hb
    refine ⟨?_, ?_, k⟩
    · exact h0.trans ((Cert.ConvGateRefIdeal.Spec.act_eq _ _ _ U W B hu hw hb).trans e0.symm)
    · exact h1.trans ((Cert.ConvGateRefIdeal.Spec.conv_eq _ _ _ U W B hu hw hb).trans e1.symm)

end Cert.Step

end
-- ==== Proof.ConvGradBlock.lean ====
/-
  What one block of the gated convolution's gradient computes, read at an index.
-/
module

public import proofs.«01_k».proof.Proof.ConvSpec
public import proofs.«01_k».proof.Proof.Gen.ConvGradIdeal.Skeleton

@[expose] public section

set_option maxRecDepth 16384

noncomputable section

namespace Cert.ConvGradIdeal.Block

open Idealize.ShloMosaic Cert.ConvGradIdeal Cert.ConvGradIdeal.Gen Cert.Step

variable (x g v a : Vec Ideal S512x1408 .bf16) (n : Vec Ideal S8x1408 .f32) (w0 w1 w2 : Vec Ideal S1x1408 .f32)
variable (X G V A : Fin 512 → Fin 1408 → ℝ) (W : Fin 3 → Fin 1408 → ℝ)
variable (hx : ∀ r d, x (ix2 r d) = ((X r d : ℝ) : EReal)) (hg : ∀ r d, g (ix2 r d) = ((G r d : ℝ) : EReal))
variable (hv : ∀ r d, v (ix2 r d) = ((V r d : ℝ) : EReal)) (ha : ∀ r d, a (ix2 r d) = ((A r d : ℝ) : EReal))
variable (h0 : ∀ d, w0 (ix2 0 d) = ((W 0 d : ℝ) : EReal)) (h1 : ∀ d, w1 (ix2 0 d) = ((W 1 d : ℝ) : EReal)) (h2 : ∀ d, w2 (ix2 0 d) = ((W 2 d : ℝ) : EReal))

theorem zero4 (z : Fin 8) (d : Fin 1408) : k0_pay4 (F := Ideal) (ix2 z d) = 0 := by pointwise [k0_pay4]
theorem zero5 (z : Fin 3) (d : Fin 1408) : k0_pay5 (F := Ideal) (ix2 z d) = 0 := by pointwise [k0_pay5]
theorem zero6 (z : Fin 1) (d : Fin 1408) : k0_pay6 (F := Ideal) (ix2 z d) = 0 := by pointwise [k0_pay6]

include hx in
theorem pay9_at (r : Fin 512) (d : Fin 1408) : k0_pay9 (F := Ideal) x (ix2 r d) = ((logi (X r d) : ℝ) : EReal) := by
  pointwise [k0_pay9, k0_pay8]
  rw [hx, lit_half, ← EReal.coe_mul, Ideal.tanh_coe, ← EReal.coe_mul, ← EReal.coe_add, logi_tanh]

/-- The gradient of the convolution's rows over the block. -/
abbrev dc : FVec Ideal S512x1408 .f32 :=
  k0_pay13 (F := Ideal) (k0_pay8 x) (k0_pay9 x) (k0_pay12 a v) (Scalar.ofBits .f32 0x3F800000#32)

include hx hv ha in
theorem dc_at (r : Fin 512) (d : Fin 1408) : dc x v a (ix2 r d) = ((gateGrad (X r d) (A r d) (V r d) : ℝ) : EReal) := by
  pointwise [k0_pay13, k0_pay12, k0_pay10, k0_pay8, pay9_at x X hx]
  simp only [hx, hv, ha, ← EReal.coe_one, ← EReal.coe_mul, ← EReal.coe_add, ← EReal.coe_sub]
  rfl

include hx ha in
/-- The gradient of the value half over the block. -/
theorem pay11_at (y z : Fin 1) (r : Fin 512) (d : Fin 1408) :
    k0_pay11 (F := Ideal) x a (ix4 y z r d) = ((A r d * (X r d * logi (X r d)) : ℝ) : EReal) := by
  pointwise [k0_pay11, k0_pay10, k0_pay8, pay9_at x X hx]
  rw [hx, ha, EReal.coe_mul, EReal.coe_mul]

/-! ### The shifted rows

  `E n d` is the gradient at row `n` of the block, the rows past the block being the first eight of the next one. -/

section Shift

variable (p q u : Vec Ideal S512x1408 .f32) (s : Ideal .f32) (E : ℕ → Fin 1408 → ℝ)
variable (hd : ∀ (r : Fin 512) d, k0_pay13 (F := Ideal) p q u s (ix2 r d) = ((E r.val d : ℝ) : EReal))
variable (hn : ∀ (z : Fin 8) d, n (ix2 z d) = ((E (512 + z.val) d : ℝ) : EReal))

include hd hn in
theorem pay14_at (r : Fin 520) (d : Fin 1408) : k0_pay14 (F := Ideal) p q u s n (ix2 r d) = ((E r.val d : ℝ) : EReal) := by
  pointwise [k0_pay14]
  split <;> rename_i h
  · exact hd _ _
  · rw [hn]
    exact congrArg (fun k => ((E k d : ℝ) : EReal)) (by first | omega | (dsimp only; omega))

include hd hn in
theorem pay15_at (r : Fin 512) (d : Fin 1408) : k0_pay15 (F := Ideal) p q u s n (ix2 r d) = ((E (r.val + 1) d : ℝ) : EReal) := by
  pointwise [k0_pay15, pay14_at n p q u s E hd hn]
  exact congrArg (fun k => ((E k d : ℝ) : EReal)) (by first | omega | (dsimp only; omega))

include hd hn in
theorem pay16_at (r : Fin 512) (d : Fin 1408) : k0_pay16 (F := Ideal) p q u s n (ix2 r d) = ((E (r.val + 2) d : ℝ) : EReal) := by
  pointwise [k0_pay16, pay14_at n p q u s E hd hn]
  exact congrArg (fun k => ((E k d : ℝ) : EReal)) (by first | omega | (dsimp only; omega))

include hd in
theorem pay17_at (z : Fin 8) (d : Fin 1408) : k0_pay17 (F := Ideal) p q u s (ix2 z d) = ((E z.val d : ℝ) : EReal) := by
  pointwise [k0_pay17]
  exact hd _ _

include hd hn h0 h1 h2 in
/-- The gradient of the gate half over the block. -/
theorem pay18_at (y z : Fin 1) (r : Fin 512) (d : Fin 1408) : k0_pay18 (F := Ideal) w0 w1 w2 p q u s n (ix4 y z r d)
    = ((W 2 d * E r.val d + W 1 d * E (r.val + 1) d + W 0 d * E (r.val + 2) d : ℝ) : EReal) := by
  pointwise [k0_pay18, pay15_at n p q u s E hd hn, pay16_at n p q u s E hd hn]
  rw [h0, h1, h2, hd]
  simp only [← EReal.coe_mul, ← EReal.coe_add]

include hd in
/-- The bias's gradient takes up the block's sum. -/
theorem pay19_at (a : Vec Ideal S1x1408 .f32) (y : Fin 1) (d : Fin 1408) :
    k0_pay19 (F := Ideal) p q u s a (ix2 y d) = a (ix2 y d) + ((∑ r : Fin 512, E r.val d : ℝ) : EReal) := by
  pointwise [k0_pay19]
  simp only [hd, coe_sum, lit_zero, zero_add]

include hd hg in
/-- The last tap's gradient takes up the block's sum. -/
theorem tap2_at (a : Vec Ideal S1x1408 .f32) (y : Fin 1) (d : Fin 1408) :
    k0_pay3 (F := Ideal) (k0_pay7 g) (k0_pay13 p q u s) a (ix2 y d) = a (ix2 y d) + ((∑ r : Fin 512, E r.val d * G r d : ℝ) : EReal) := by
  pointwise [k0_pay3, k0_pay7]
  simp only [hd, hg, ← EReal.coe_mul, coe_sum, lit_zero, zero_add]

include hd hn hg in
/-- The middle tap's gradient takes up the block's sum. -/
theorem tap1_at (a : Vec Ideal S1x1408 .f32) (y : Fin 1) (d : Fin 1408) :
    k0_pay2 (F := Ideal) (k0_pay7 g) (k0_pay15 p q u s n) a (ix2 y d) = a (ix2 y d) + ((∑ r : Fin 512, E (r.val + 1) d * G r d : ℝ) : EReal) := by
  pointwise [k0_pay2, k0_pay7, pay15_at n p q u s E hd hn]
  simp only [hg, ← EReal.coe_mul, coe_sum, lit_zero, zero_add]

include hd hn hg in
/-- The first tap's gradient takes up the block's sum. -/
theorem tap0_at (a : Vec Ideal S1x1408 .f32) (y : Fin 1) (d : Fin 1408) :
    k0_pay1 (F := Ideal) (k0_pay20 a) (k0_pay21 (k0_pay7 g) p q u s n) (ix2 y d) = a (ix2 y d) + ((∑ r : Fin 512, E (r.val + 2) d * G r d : ℝ) : EReal) := by
  pointwise [k0_pay1, k0_pay20, k0_pay21, k0_pay7, pay16_at n p q u s E hd hn]
  simp only [hg, ← EReal.coe_mul, coe_sum, lit_zero, zero_add]

end Shift

end Cert.ConvGradIdeal.Block

end
-- ==== Proof.ConvGradRefRead.lean ====
/-
  The reference of the convolution's gradient, read at an index at finite arguments.
-/
module

public import proofs.«01_k».proof.Proof.ConvSpec
public import proofs.«01_k».proof.Proof.Gen.ConvGradRefIdeal.Run
public import proofs.«01_k».proof.Proof.Gen.ConvGradRefIdeal.Read

@[expose] public section

set_option maxRecDepth 16384

noncomputable section

namespace Cert.ConvGradRefIdeal.Spec

open Idealize.ShloMosaic Cert.ConvGradRefIdeal Cert.ConvGradRefIdeal.Read Cert.Step

variable (x0 : Vec Ideal S1x4096x5632 .bf16) (x1 : Vec Ideal S3x2816 .f32) (x2 : Vec Ideal S2816 .f32) (x3 : Vec Ideal S1x4096x2816 .bf16)
variable (U : Fin 4096 → Fin 5632 → ℝ) (W : Fin 3 → Fin 2816 → ℝ) (B : Fin 2816 → ℝ) (A : Fin 4096 → Fin 2816 → ℝ)
variable (hu : ∀ z r j, x0 (ix3 z r j) = ((U r j : ℝ) : EReal)) (hw : ∀ k j, x1 (ix2 k j) = ((W k j : ℝ) : EReal))
variable (hb : ∀ j, x2 (ix1 j) = ((B j : ℝ) : EReal)) (ha : ∀ z r j, x3 (ix3 z r j) = ((A r j : ℝ) : EReal))

include hu in
theorem lag2_at (z : Fin 1) (r : Fin 4096) (j : Fin 2816) : val_main_v7 (F := Ideal) x0 (ix3 z r j) = ((lag 2 (gate U j) r : ℝ) : EReal) := by
  pointwise [val_main_v7, val_main_v3, val_main_v2, val_main_cst, val_main_v1, val_main_v0]
  split <;> rename_i h
  · rw [lag_none _ (by omega)]; rfl
  · refine (hu _ _ _).trans (congrArg _ (lag_some (gate U j) ?_).symm)
    simp; omega

include hu in
theorem lag1_at (z : Fin 1) (r : Fin 4096) (j : Fin 2816) : val_main_v16 (F := Ideal) x0 (ix3 z r j) = ((lag 1 (gate U j) r : ℝ) : EReal) := by
  pointwise [val_main_v16, val_main_v3, val_main_v2, val_main_cst, val_main_v1, val_main_v0]
  split <;> rename_i h
  · rw [lag_none _ (by omega)]; rfl
  · refine (hu _ _ _).trans (congrArg _ (lag_some (gate U j) ?_).symm)
    simp; omega

include hu in
theorem lag0_at (z : Fin 1) (r : Fin 4096) (j : Fin 2816) : val_main_v23 (F := Ideal) x0 (ix3 z r j) = ((gate U j r : ℝ) : EReal) := by
  pointwise [val_main_v23, val_main_v3, val_main_v2, val_main_cst, val_main_v1, val_main_v0]
  rw [hu]; rfl

include hu in
theorem value_at (z : Fin 1) (r : Fin 4096) (j : Fin 2816) : val_main_v29 (F := Ideal) x0 (ix3 z r j) = ((value U j r : ℝ) : EReal) := by
  pointwise [val_main_v29, val_main_v0]
  rw [hu]; rfl

include hw in
theorem tap0_at (z y : Fin 1) (j : Fin 2816) : val_main_v8 (F := Ideal) x1 (ix3 z y j) = ((W 0 j : ℝ) : EReal) := by
  pointwise [val_main_v8, val_main_v6, val_main_v5]
  exact hw 0 j
include hw in
theorem tap1_at (z y : Fin 1) (j : Fin 2816) : val_main_v17 (F := Ideal) x1 (ix3 z y j) = ((W 1 j : ℝ) : EReal) := by
  pointwise [val_main_v17, val_main_v15, val_main_v14]
  exact hw 1 j
include hw in
theorem tap2_at (z y : Fin 1) (j : Fin 2816) : val_main_v24 (F := Ideal) x1 (ix3 z y j) = ((W 2 j : ℝ) : EReal) := by
  pointwise [val_main_v24, val_main_v22, val_main_v21]
  exact hw 2 j

include hu hw hb in
/-- The convolution. -/
theorem conv_at (z : Fin 1) (r : Fin 4096) (j : Fin 2816) : val_main_v27 (F := Ideal) x0 x1 x2 (ix3 z r j) = ((conv U W B j r : ℝ) : EReal) := by
  pointwise [val_main_v27, val_main_v26, val_main_v25, val_main_v20, val_main_v19, val_main_v18, val_main_v13, val_main_v12, val_main_v11,
    val_main_v10, val_main_v9, tap0_at x1 W hw, tap1_at x1 W hw, tap2_at x1 W hw, lag0_at x0 U hu, lag1_at x0 U hu, lag2_at x0 U hu]
  simp only [hb, ← EReal.coe_mul, ← EReal.coe_add]
  rfl

include hu hw hb in
theorem sig_at (z : Fin 1) (r : Fin 4096) (j : Fin 2816) : val_main_v28_2 (F := Ideal) x0 x1 x2 (ix3 z r j) = ((logi (conv U W B j r) : ℝ) : EReal) := by
  pointwise [val_main_v28_2, val_main_call0_v4, val_main_call0_cst_0, val_main_call0_v3, val_main_call0_v2, val_main_call0_cst, val_main_call0_v1, val_main_call0_v0, conv_at x0 x1 x2 U W B hu hw hb]
  rw [← EReal.coe_one, ← EReal.coe_neg, Ideal.exp_coe, ← EReal.coe_add, logi_div]

include hu hw hb ha in
/-- The gradient of the convolution's rows. -/
theorem dconv_at (z : Fin 1) (r : Fin 4096) (j : Fin 2816) : val_main_v35 (F := Ideal) x0 x1 x2 x3 (ix3 z r j) = ((dconv U W B A j r : ℝ) : EReal) := by
  pointwise [val_main_v35, val_main_call1_v2, val_main_call1_v1, val_main_call1_v0, val_main_v28_1, val_main_call0_v7, val_main_call0_v6, val_main_call0_cst_1,
    val_main_v33, val_main_v31, conv_at x0 x1 x2 U W B hu hw hb, sig_at x0 x1 x2 U W B hu hw hb, value_at x0 U hu]
  simp only [ha, ← EReal.coe_one, ← EReal.coe_mul, ← EReal.coe_add, ← EReal.coe_sub]
  congr 1
  unfold dconv gateGrad
  ring

include hu hw hb ha in
/-- The gradient of the padded gate half, past its two rows of padding. -/
theorem dgate_at (z : Fin 1) (r : Fin 4096) (j : Fin 2816) : val_main_v71 (F := Ideal) x0 x1 x2 x3 (ix3 z r j) = ((dgate U W B A j r : ℝ) : EReal) := by
  pointwise [val_main_v71, val_main_v66, val_main_v65, val_main_v52, val_main_v51, val_main_v42, val_main_cst_4, val_main_cst_8, val_main_cst_14,
    val_main_v60, val_main_v59, val_main_v46, val_main_v45, val_main_v37, val_main_v36,
    tap0_at x1 W hw, tap1_at x1 W hw, tap2_at x1 W hw, dconv_at x0 x1 x2 x3 U W B A hu hw hb ha]
  refine (congrArg₂ (· + ·) (congrArg₂ (· + ·) rfl (coe_ahead _ _ r 1 _ (fun _ => by simp; omega) fun _ => by omega))
    (coe_ahead _ _ r 2 _ (fun _ => by simp; omega) fun _ => by omega)).trans ?_
  simp only [← EReal.coe_mul, ← EReal.coe_add]
  rfl

include hu hw hb ha in
/-- The gradient of the value half. -/
theorem dvalue_at (z : Fin 1) (r : Fin 4096) (j : Fin 2816) : val_main_v32 (F := Ideal) x0 x1 x2 x3 (ix3 z r j) = ((dvalue U W B A j r : ℝ) : EReal) := by
  pointwise [val_main_v32, val_main_v31, val_main_v28_0, conv_at x0 x1 x2 U W B hu hw hb, sig_at x0 x1 x2 U W B hu hw hb]
  rw [ha, ← EReal.coe_mul, ← EReal.coe_mul, mul_comm]
  rfl

include hu hw hb ha in
/-- The gradient of the two halves, the columns cut into blocks of 1408. -/
theorem v77_at (h k : Fin 2) (r : Fin 4096) (j : Fin 1408) : val_main_v77 (F := Ideal) x0 x1 x2 x3 (ix4 h k r j)
    = ((dhalves U W B A h k r j : ℝ) : EReal) := by
  pointwise [val_main_v77, val_main_v76, val_main_v75, val_main_v74, val_main_v73, val_main_v72, val_main_v34, val_main_cst_1, val_main_cst_16,
    dgate_at x0 x1 x2 x3 U W B A hu hw hb ha, dvalue_at x0 x1 x2 x3 U W B A hu hw hb ha]
  have := k.isLt
  have := j.isLt
  unfold dhalves
  fin_cases h <;> dsimp only [Fin.mk_zero, Fin.mk_one, Fin.val_zero, Fin.val_one]
  · rw [dif_neg (by omega), dif_pos (by omega), zero_add, if_pos (by omega)]
    exact congrArg (fun j' => ((dgate U W B A j' r : ℝ) : EReal)) (Fin.ext (by simp))
  · rw [dif_pos (by omega), dif_neg (by omega), add_zero, if_neg (by omega)]
    exact congrArg (fun j' => ((dvalue U W B A j' r : ℝ) : EReal)) (Fin.ext (by simp; omega))

include hu hw hb ha in
theorem v58_at (j : Fin 2816) : val_main_v58 (F := Ideal) x0 x1 x2 x3 (ix1 j) = ((dbias U W B A j : ℝ) : EReal) := by
  pointwise [val_main_v58]
  rw [hostReduceAdd_last]
  pointwise [val_main_cst_11, val_main_v57, val_main_v56, val_main_cst_10]
  simp only [dconv_at x0 x1 x2 x3 U W B A hu hw hb ha, coe_sum, lit_zero, EReal.coe_zero, zero_add]
  rfl

include hu hw hb ha in
theorem v41_at (j : Fin 2816) : val_main_v41 (F := Ideal) x0 x1 x2 x3 (ix1 j) = ((∑ r, dconv U W B A j r * gate U j r : ℝ) : EReal) := by
  pointwise [val_main_v41]
  rw [hostReduceAdd_last]
  pointwise [val_main_cst_3, val_main_v40, val_main_v39, val_main_v38, val_main_cst_2]
  simp only [dconv_at x0 x1 x2 x3 U W B A hu hw hb ha, lag0_at x0 U hu, ← EReal.coe_mul, coe_sum, lit_zero, EReal.coe_zero, zero_add]

include hu hw hb ha in
theorem v50_at (j : Fin 2816) : val_main_v50 (F := Ideal) x0 x1 x2 x3 (ix1 j) = ((∑ r, dconv U W B A j r * lag 1 (gate U j) r : ℝ) : EReal) := by
  pointwise [val_main_v50]
  rw [hostReduceAdd_last]
  pointwise [val_main_cst_7, val_main_v49, val_main_v48, val_main_v47, val_main_cst_6]
  simp only [dconv_at x0 x1 x2 x3 U W B A hu hw hb ha, lag1_at x0 U hu, ← EReal.coe_mul, coe_sum, lit_zero, EReal.coe_zero, zero_add]

include hu hw hb ha in
theorem v64_at (j : Fin 2816) : val_main_v64 (F := Ideal) x0 x1 x2 x3 (ix1 j) = ((∑ r, dconv U W B A j r * lag 2 (gate U j) r : ℝ) : EReal) := by
  pointwise [val_main_v64]
  rw [hostReduceAdd_last]
  pointwise [val_main_cst_13, val_main_v63, val_main_v62, val_main_v61, val_main_cst_12]
  simp only [dconv_at x0 x1 x2 x3 U W B A hu hw hb ha, lag2_at x0 U hu, ← EReal.coe_mul, coe_sum, lit_zero, EReal.coe_zero, zero_add]

include hu hw hb ha in
/-- The gradient of the taps. -/
theorem v69_at (k : Fin 3) (j : Fin 2816) : val_main_v69 (F := Ideal) x0 x1 x2 x3 (ix2 k j) = ((dtap U W B A (2 - k.val) j : ℝ) : EReal) := by
  pointwise [val_main_v69, val_main_v68, val_main_v67, val_main_v55, val_main_v54, val_main_v53, val_main_v44, val_main_v43, val_main_cst_5, val_main_cst_9, val_main_cst_15,
    v41_at x0 x1 x2 x3 U W B A hu hw hb ha, v50_at x0 x1 x2 x3 U W B A hu hw hb ha, v64_at x0 x1 x2 x3 U W B A hu hw hb ha]
  simp only [dtap, ← sum_lag]
  fin_cases k <;> simp
  exact Finset.sum_congr rfl fun r _ => by rw [lag_some (s := r) _ (Nat.add_zero _)]

include hu hw hb ha in
theorem halves_eq : val_main_v77 (F := Ideal) x0 x1 x2 x3
    = fun i : S2x2x4096x1408.Idx => ((dhalves U W B A (i 0) (i 1) (i 2) (i 3) : ℝ) : EReal) := by
  funext i
  idx_vars i
  exact v77_at x0 x1 x2 x3 U W B A hu hw hb ha i0 i1 i2 i3

include hu hw hb ha in
theorem taps_eq : val_main_v69 (F := Ideal) x0 x1 x2 x3
    = fun i : S3x2816.Idx => ((dtap U W B A (2 - (i 0).val) (i 1) : ℝ) : EReal) := by
  funext i
  idx_vars i
  exact v69_at x0 x1 x2 x3 U W B A hu hw hb ha i0 i1

include hu hw hb ha in
theorem bias_eq : val_main_v78 (F := Ideal) x0 x1 x2 x3 = fun i : S1x2816.Idx => ((dbias U W B A (i 1) : ℝ) : EReal) := by
  funext i
  idx_vars i
  pointwise [val_main_v78]
  exact v58_at x0 x1 x2 x3 U W B A hu hw hb ha i1

open Idealize.SL.Sem in
/-- The reference's run, its results named operation by operation. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v77) = val_main_v77 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v69) = val_main_v69 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v78) = val_main_v78 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (val_main_v77_eq m c), (h c).2.1.trans (val_main_v69_eq m c), (h c).2.2.1.trans (val_main_v78_eq m c), (h c).2.2.2⟩)
    (Cert.ConvGradRefIdeal.Value.run (F := Ideal) m ρ)

end Cert.ConvGradRefIdeal.Spec

end
-- ==== Proof.ConvGradSaved.lean ====
/-
  The convolution's rows that the gradient's call is given: the forward lines on the host, read at an index.
-/
module

public import proofs.«01_k».proof.Proof.ConvGradRefRead
public import proofs.«01_k».proof.Proof.Gen.ConvGradIdeal.Frame
public import Idealize.ShloMosaic.Lib.Pipeline.ValueKit

@[expose] public section

set_option maxRecDepth 16384

noncomputable section

namespace Cert.ConvGradIdeal.Block

open Idealize.ShloMosaic Idealize.ShloMosaic.TcCoe Idealize.SL.Sem Cert.ConvGradIdeal Cert.ConvGradIdeal.Gen Cert.Step

variable (m : (ℓ : Loc nD τ sig) → Buf (Elt Ideal) ℓ) (c : Dev nD)

/-- The host lines before the call compute what the reference's convolution does. -/
theorem V_saved : V m c main_v27 = (truncf (F := Ideal) (s := S1x4096x2816) .bf16 (Cert.ConvGradRefIdeal.Read.val_main_v27 (F := Ideal) (m ((c.tc : Thread nD τ).loc main_arg0))
    (m ((c.tc : Thread nD τ).loc main_arg1)) (m ((c.tc : Thread nD τ).loc main_arg2))) bitsLt_bf16_f32 : FVec Ideal S1x4096x2816 .bf16) := by
  unfold_abbrev_sides
  after_results
  rfl

theorem V_rows : V m c main_v29 = (shapeCast S4096x2816 (V m c main_v27 : FVec Ideal S1x4096x2816 .bf16) shapeCasts_S1x4096x2816_S4096x2816 : FVec Ideal S4096x2816 .bf16) := by
  unfold_abbrev_sides
  after_results
  rfl

end Cert.ConvGradIdeal.Block

end
-- ==== Proof.ConvGradValue.lean ====
module

public import proofs.«01_k».proof.Proof.ConvGradBlock
public import proofs.«01_k».proof.Proof.ConvGradSaved
public import proofs.«01_k».proof.Proof.Gen.ConvGradIdeal.Value
public import Idealize.ShloMosaic.Lib.Pipeline.ValueKit
public import Idealize.ShloMosaic.Lib.Pipeline.ReadBack

@[expose] public section

set_option maxRecDepth 16384

noncomputable section

namespace Cert.ConvGradIdeal.Block

open Idealize.ShloMosaic Idealize.ShloMosaic.TcCoe Idealize.SL.Sem Cert.ConvGradIdeal Cert.ConvGradIdeal.Gen Cert.Step

theorem idx : ∀ t : Fin cfg0.N, win0_0.index t = ![7 - t.val % 8, t.val / 8] ∧ win0_1.index t = ![7 - t.val % 8, 2 + t.val / 8]
    ∧ win0_2.index t = ![0, t.val / 8] ∧ win0_3.index t = ![7 - t.val % 8, t.val / 8] ∧ win0_4.index t = ![7 - t.val % 8, t.val / 8]
    ∧ win0_5.index t = ![0, t.val / 8, 7 - t.val % 8, 0] ∧ win0_6.index t = ![0, t.val / 8] ∧ win0_7.index t = ![0, t.val / 8] :=
  (by decide +kernel : ∀ t : Fin grid0.N, _)

variable (m : (ℓ : Loc nD τ sig) → Buf (Elt Ideal) ℓ) (c : Dev nD)
variable (U : Fin 4096 → Fin 5632 → ℝ) (W : Fin 3 → Fin 2816 → ℝ) (B : Fin 2816 → ℝ) (A : Fin 4096 → Fin 2816 → ℝ)
variable (hu : ∀ z r j, m ((c.tc : Thread nD τ).loc main_arg0) (ix3 z r j) = ((U r j : ℝ) : EReal))
variable (hw : ∀ k j, m ((c.tc : Thread nD τ).loc main_arg1) (ix2 k j) = ((W k j : ℝ) : EReal))
variable (hb : ∀ j, m ((c.tc : Thread nD τ).loc main_arg2) (ix1 j) = ((B j : ℝ) : EReal))
variable (ha : ∀ z r j, m ((c.tc : Thread nD τ).loc main_arg3) (ix3 z r j) = ((A r j : ℝ) : EReal))

theorem lt16 (t : Fin cfg0.N) : t.val < 16 := lt_of_lt_of_eq t.isLt N_0

/-- The position that row `r` of the block of point `t` is: the blocks are taken from the last one back. -/
def row (t : Fin cfg0.N) (r : Fin 512) : Fin 4096 := ⟨(7 - t.val % 8) * 512 + r.val, by have := r.isLt; omega⟩

/-- The column that column `d` of the block of point `t` is. -/
def col (t : Fin cfg0.N) (d : Fin 1408) : Fin 2816 := ⟨t.val / 8 * 1408 + d.val, by have := lt16 t; have := d.isLt; omega⟩

include hu in
theorem blk_g (t : Fin cfg0.N) (r : Fin 512) (d : Fin 1408) : iblk (F := Ideal) m c 0 t (ix2 r d) = ((gate U (col t d) (row t r) : ℝ) : EReal) := by
  refine Eq.trans ?_ (hu 0 (row t r) ⟨(col t d).val, by have := (col t d).isLt; omega⟩)
  blk_point [iblk, Gen.V, idx t]
  all_goals rfl

include hu in
theorem blk_v (t : Fin cfg0.N) (r : Fin 512) (d : Fin 1408) : iblk (F := Ideal) m c 1 t (ix2 r d) = ((value U (col t d) (row t r) : ℝ) : EReal) := by
  refine Eq.trans ?_ (hu 0 (row t r) ⟨2816 + (col t d).val, by have := (col t d).isLt; omega⟩)
  blk_point [iblk, Gen.V, idx t]
  all_goals first | rfl | (simp only [row, col]; omega)

include hw in
theorem blk_w (t : Fin cfg0.N) (k : Fin 3) (d : Fin 1408) : iblk (F := Ideal) m c 2 t (ix2 k d) = ((W k (col t d) : ℝ) : EReal) := by
  rw [← hw]
  blk_point [iblk, Gen.V, idx t]
  all_goals rfl

theorem unrow (x : FVec Ideal S1x4096x2816 .bf16) (r : Fin 4096) (j : Fin 2816) :
    shapeCast S4096x2816 x shapeCasts_S1x4096x2816_S4096x2816 (ix2 r j) = x (ix3 0 r j) := by
  pointwise []

include hu hw hb in
theorem blk_c (t : Fin cfg0.N) (r : Fin 512) (d : Fin 1408) : iblk (F := Ideal) m c 3 t (ix2 r d) = ((conv U W B (col t d) (row t r) : ℝ) : EReal) := by
  refine Eq.trans ?_ (Cert.ConvGradRefIdeal.Spec.conv_at _ _ _ U W B hu hw hb 0 (row t r) (col t d))
  have e (r : Fin 4096) (j : Fin 2816) : V m c main_v29 (ix2 r j)
      = Cert.ConvGradRefIdeal.Read.val_main_v27 (F := Ideal) (m ((c.tc : Thread nD τ).loc main_arg0))
    (m ((c.tc : Thread nD τ).loc main_arg1)) (m ((c.tc : Thread nD τ).loc main_arg2)) (ix3 0 r j) :=
    (congrFun (V_rows m c) (ix2 r j)).trans ((unrow _ r j).trans (congrFun (V_saved m c) (ix3 0 r j)))
  rw [← e]
  blk_point [iblk, idx t]
  all_goals rfl

include ha in
theorem blk_a (t : Fin cfg0.N) (r : Fin 512) (d : Fin 1408) : iblk (F := Ideal) m c 4 t (ix2 r d) = ((A (row t r) (col t d) : ℝ) : EReal) := by
  rw [← ha 0]
  blk_point [iblk, Gen.V, idx t]
  all_goals rfl

/-- The gradient of column `j`'s convolution at position `n`, zero past the end. -/
def past (j : Fin 2816) (n : ℕ) : ℝ := if h : n < 4096 then dconv U W B A j ⟨n, h⟩ else 0

/-- That gradient at row `n` counted from the first row of the block of point `t`. -/
def E (t : Fin cfg0.N) (n : ℕ) (d : Fin 1408) : ℝ := past U W B A (col t d) ((7 - t.val % 8) * 512 + n)

theorem E_row (t : Fin cfg0.N) (r : Fin 512) (d : Fin 1408) : E U W B A t r.val d = dconv U W B A (col t d) (row t r) :=
  dif_pos (row t r).isLt

theorem E_ahead (t : Fin cfg0.N) (r : Fin 512) (d : Fin 1408) (k : ℕ) :
    E U W B A t (r.val + k) d = ahead k (dconv U W B A (col t d)) (row t r) := by
  unfold E past ahead
  simp only [row, ← add_assoc]
  rfl

/-- The gradient of the convolution's rows at point `t`. -/
abbrev dcs (t : Fin cfg0.N) : Vec Ideal S512x1408 .f32 := dc (iblk m c 3 t) (iblk m c 1 t) (iblk m c 4 t)

include hu hw hb ha in
theorem dcs_at (t : Fin cfg0.N) (r : Fin 512) (d : Fin 1408) : dcs m c t (ix2 r d) = ((E U W B A t r.val d : ℝ) : EReal) := by
  rw [E_row]
  exact dc_at _ _ _ (fun r d => conv U W B (col t d) (row t r)) (fun r d => value U (col t d) (row t r)) (fun r d => A (row t r) (col t d))
    (blk_c m c U W B hu hw hb t) (blk_v m c U hu t) (blk_a m c A ha t) r d

include hu hw hb ha in
/-- The rows that point `t` carries to the next. -/
theorem scr_at (t : Fin cfg0.N) (z : Fin 8) (d : Fin 1408) : (outsAt0 m c t.val t.isLt).2.2.2 (ix2 z d) = ((E U W B A t z.val d : ℝ) : EReal) := by
  by_cases h : t.val % 8 = 0
  · rw [outsAt0_A m c t h]; frame_out
    exact pay17_at _ _ _ _ (E U W B A t) (dcs_at m c U W B A hu hw hb ha t) z d
  · rw [outsAt0_B m c t h]; frame_out
    exact pay17_at _ _ _ _ (E U W B A t) (dcs_at m c U W B A hu hw hb ha t) z d

theorem E_zero (t : Fin cfg0.N) (h : t.val % 8 = 0) (z : Fin 8) (d : Fin 1408) : E U W B A t (512 + z.val) d = 0 :=
  dif_neg (by omega)

theorem E_step (t t' : Fin cfg0.N) (h : ¬ t.val % 8 = 0) (h' : t'.val = t.val - 1) (z : Fin 8) (d : Fin 1408) :
    E U W B A t' z.val d = E U W B A t (512 + z.val) d := by
  have e1 : col t' d = col t d := Fin.ext (by simp only [col]; omega)
  have e2 : (7 - t'.val % 8) * 512 + z.val = (7 - t.val % 8) * 512 + (512 + z.val) := by have := lt16 t; omega
  unfold E
  rw [e1, e2]

include hu hw hb ha in
theorem car_at (t : Fin cfg0.N) (h : ¬ t.val % 8 = 0) (z : Fin 8) (d : Fin 1408) :
    (outsAt0 m c (t.val - 1) (Nat.lt_of_le_of_lt (Nat.sub_le _ _) t.isLt)).2.2.2 (ix2 z d) = ((E U W B A t (512 + z.val) d : ℝ) : EReal) := by
  rw [← E_step U W B A t ⟨t.val - 1, Nat.lt_of_le_of_lt (Nat.sub_le _ _) t.isLt⟩ h rfl]
  exact scr_at m c U W B A hu hw hb ha ⟨t.val - 1, Nat.lt_of_le_of_lt (Nat.sub_le _ _) t.isLt⟩ z d

/-- What point `t` adds to the gradient of tap `k`. -/
def tapPart (t : Fin cfg0.N) (k : Fin 3) (d : Fin 1408) : ℝ :=
  ∑ r : Fin 512, E U W B A t (r.val + (2 - k.val)) d * gate U (col t d) (row t r)

theorem emb2 (x0 : Fin 1) (x1 : Fin 1408) :
    (Rect.unit (s := S3x1408) ![2, 0] ![1, 1408] inb_S3x1408_S1x1408_2_0).emb (ix2 x0 x1) = (ix2 2 x1 : S3x1408.Idx) := by blk_ext
theorem emb1 (x0 : Fin 1) (x1 : Fin 1408) :
    (Rect.unit (s := S3x1408) ![1, 0] ![1, 1408] inb_S3x1408_S1x1408_1_0).emb (ix2 x0 x1) = (ix2 1 x1 : S3x1408.Idx) := by blk_ext
theorem emb0 (x0 : Fin 1) (x1 : Fin 1408) :
    (Rect.unit (s := S3x1408) ![0, 0] ![1, 1408] inb_S3x1408_S1x1408_0_0).emb (ix2 x0 x1) = (ix2 0 x1 : S3x1408.Idx) := by blk_ext

/-- The three rows' rectangles cover the taps. -/
theorem rows_cover (k : Fin 3) (d : Fin 1408) : (∀ a : Fin 2, ![2, 0] a ≤ (ix2 k d a).val ∧ (ix2 k d a).val < ![2, 0] a + ![1, 1408] a) ∨
    (∀ a : Fin 2, ![1, 0] a ≤ (ix2 k d a).val ∧ (ix2 k d a).val < ![1, 0] a + ![1, 1408] a) ∨
      ∀ a : Fin 2, ![0, 0] a ≤ (ix2 k d a).val ∧ (ix2 k d a).val < ![0, 0] a + ![1, 1408] a := by
  have := d.isLt
  simp only [Fin.forall_fin_two]
  fin_cases k <;> simp [ix2] <;> omega

include hu hw hb ha in
theorem tap_step (t : Fin cfg0.N) (h : ¬ t.val % 8 = 0) (k : Fin 3) (d : Fin 1408) : (outsAt0 m c t.val t.isLt).2.1 (ix2 k d)
    = (outsAt0 m c (t.val - 1) (Nat.lt_of_le_of_lt (Nat.sub_le _ _) t.isLt)).2.1 (ix2 k d) + ((tapPart U W B A t k d : ℝ) : EReal) := by
  have hd := dcs_at m c U W B A hu hw hb ha t
  have hn := car_at m c U W B A hu hw hb ha t h
  have hg := blk_g m c U hu t
  conv_lhs => rw [outsAt0_B m c t h]
  frame_out
  rw [read_unread_whole]
  refine View.canon_append_of_piecesOf (fun i : S3x1408.Idx => (outsAt0 m c (t.val - 1) (Nat.lt_of_le_of_lt (Nat.sub_le _ _) t.isLt)).2.1 i
    + ((tapPart U W B A t (i 0) (i 1) : ℝ) : EReal)) [] [_, _, _] ⟨fun x => ?_, fun x => ?_, fun x => ?_, trivial⟩ _ ?_
  · idx_vars x
    refine (tap2_at _ _ hg _ _ _ _ _ hd _ _ _).trans ?_
    rw [emb2]
    exact congrArg (· + _) (congrArg (outsAt0 m c (t.val - 1) (Nat.lt_of_le_of_lt (Nat.sub_le _ _) t.isLt)).2.1 (emb2 x0 x1))
  · idx_vars x
    refine (tap1_at _ _ _ hg _ _ _ _ _ hd hn _ _ _).trans ?_
    rw [emb1]
    exact congrArg (· + _) (congrArg (outsAt0 m c (t.val - 1) (Nat.lt_of_le_of_lt (Nat.sub_le _ _) t.isLt)).2.1 (emb1 x0 x1))
  · idx_vars x
    refine (tap0_at _ _ _ hg _ _ _ _ _ hd hn _ _ _).trans ?_
    rw [emb0]
    exact congrArg (· + _) (congrArg (outsAt0 m c (t.val - 1) (Nat.lt_of_le_of_lt (Nat.sub_le _ _) t.isLt)).2.1 (emb0 x0 x1))
  · simp only [List.mem_cons, List.not_mem_nil, or_false, exists_eq_or_imp, exists_eq_left, Rect.mem_set_unit]
    exact rows_cover k d

/-- What the first point of a run leaves of the taps' gradient. -/
def tapFirst (t : Fin cfg0.N) : Vec Ideal S3x1408 .f32 := fun i => 0 + ((tapPart U W B A t (i 0) (i 1) : ℝ) : EReal)

include hu hw hb ha in
theorem tap_reset (t : Fin cfg0.N) (h : t.val % 8 = 0) (k : Fin 3) (d : Fin 1408) : (outsAt0 m c t.val t.isLt).2.1 (ix2 k d)
    = 0 + ((tapPart U W B A t k d : ℝ) : EReal) := by
  have hd := dcs_at m c U W B A hu hw hb ha t
  have hg := blk_g m c U hu t
  have hn (z : Fin 8) (d : Fin 1408) : k0_pay4 (F := Ideal) (ix2 z d) = ((E U W B A t (512 + z.val) d : ℝ) : EReal) := by
    rw [zero4, E_zero U W B A t h, EReal.coe_zero]
  rw [outsAt0_A m c t h]
  frame_out
  simp (discharger := decide) only [↓View.readCov_skip]
  refine View.canon_append_of_piecesOf (tapFirst U W B A t) [_] [_, _, _] ⟨fun x => ?_, fun x => ?_, fun x => ?_, trivial⟩ _ ?_
  · idx_vars x
    refine (tap2_at _ _ hg _ _ _ _ _ hd _ _ _).trans ?_
    rw [View.readCov_fill _ _ _ _ _ (by decide)]
    rw [emb2]
    exact congrArg (· + _) ((congrArg (k0_pay5 (F := Ideal)) (emb2 x0 x1)).trans (zero5 _ _))
  · idx_vars x
    refine (tap1_at _ _ _ hg _ _ _ _ _ hd hn _ _ _).trans ?_
    rw [View.readCov_fill _ _ _ _ _ (by decide)]
    rw [emb1]
    exact congrArg (· + _) ((congrArg (k0_pay5 (F := Ideal)) (emb1 x0 x1)).trans (zero5 _ _))
  · idx_vars x
    refine (tap0_at _ _ _ hg _ _ _ _ _ hd hn _ _ _).trans ?_
    rw [View.readCov_fill _ _ _ _ _ (by decide)]
    rw [emb0]
    exact congrArg (· + _) ((congrArg (k0_pay5 (F := Ideal)) (emb0 x0 x1)).trans (zero5 _ _))
  · simp only [List.mem_cons, List.not_mem_nil, or_false, exists_eq_or_imp, exists_eq_left, Rect.mem_set_unit]
    exact rows_cover k d

/-- The halves of the block of rows written at point `t`. -/
theorem half_cover (k : Fin 2) (y : Fin 1) (r : Fin 512) (d : Fin 1408) :
    (∀ a : Fin 4, ![0, 0, 0, 0] a ≤ (ix4 k y r d a).val ∧ (ix4 k y r d a).val < ![0, 0, 0, 0] a + ![1, 1, 512, 1408] a) ∨
    ∀ a : Fin 4, ![1, 0, 0, 0] a ≤ (ix4 k y r d a).val ∧ (ix4 k y r d a).val < ![1, 0, 0, 0] a + ![1, 1, 512, 1408] a := by
  have := y.isLt
  have := r.isLt
  have := d.isLt
  simp only [Fin.forall_fin_succ]
  fin_cases k <;> simp [ix4] <;> omega

/-- The gradient of half `k` of the rows at point `t`. -/
def halfPart (t : Fin cfg0.N) : Vec Ideal S2x1x512x1408 .bf16 := fun i =>
  ((dhalves U W B A (i 0) ⟨t.val / 8, by have := lt16 t; omega⟩ (row t (i 2)) (i 3) : ℝ) : EReal)

theorem emb_gate (y0 y1 : Fin 1) (r : Fin 512) (d : Fin 1408) :
    (Rect.unit (s := S2x1x512x1408) ![0, 0, 0, 0] ![1, 1, 512, 1408] inb_S2x1x512x1408_S1x1x512x1408_0_0_0_0).emb (ix4 y0 y1 r d)
      = (ix4 0 0 r d : S2x1x512x1408.Idx) := by blk_ext
theorem emb_value (y0 y1 : Fin 1) (r : Fin 512) (d : Fin 1408) :
    (Rect.unit (s := S2x1x512x1408) ![1, 0, 0, 0] ![1, 1, 512, 1408] inb_S2x1x512x1408_S1x1x512x1408_1_0_0_0).emb (ix4 y0 y1 r d)
      = (ix4 1 0 r d : S2x1x512x1408.Idx) := by blk_ext

theorem half_gate (t : Fin cfg0.N) (r : Fin 512) (d : Fin 1408) : ((W 2 (col t d) * E U W B A t r.val d + W 1 (col t d) * E U W B A t (r.val + 1) d
    + W 0 (col t d) * E U W B A t (r.val + 2) d : ℝ) : EReal) = halfPart U W B A t (ix4 0 0 r d) := by
  rw [E_ahead, E_ahead, E_row]
  rfl

theorem half_value (t : Fin cfg0.N) (r : Fin 512) (d : Fin 1408) :
    ((A (row t r) (col t d) * (conv U W B (col t d) (row t r) * logi (conv U W B (col t d) (row t r))) : ℝ) : EReal)
      = halfPart U W B A t (ix4 1 0 r d) := by
  rfl

include hu hw hb ha in
theorem gate_at (t : Fin cfg0.N) (n : Vec Ideal S8x1408 .f32) (hn : ∀ (z : Fin 8) d, n (ix2 z d) = ((E U W B A t (512 + z.val) d : ℝ) : EReal))
    (y z : Fin 1) (r : Fin 512) (d : Fin 1408) :
    k0_pay18 (F := Ideal) (View.ld (iblk m c 2 t) (Rect.unit ![0, 0] ![1, 1408] inb_S3x1408_S1x1408_0_0)) (View.ld (iblk m c 2 t) (Rect.unit ![1, 0] ![1, 1408] inb_S3x1408_S1x1408_1_0))
      (View.ld (iblk m c 2 t) (Rect.unit ![2, 0] ![1, 1408] inb_S3x1408_S1x1408_2_0)) (k0_pay8 (iblk m c 3 t)) (k0_pay9 (iblk m c 3 t)) (k0_pay12 (iblk m c 4 t) (iblk m c 1 t)) (Scalar.ofBits .f32 0x3F800000#32) n (ix4 y z r d)
      = halfPart U W B A t (ix4 0 0 r d) := by
  have hw' := blk_w m c W hw t
  refine (pay18_at _ _ _ _ (fun k d => W k (col t d)) (fun d => ?_) (fun d => ?_) (fun d => ?_) _ _ _ _ _ (dcs_at m c U W B A hu hw hb ha t) hn _ _ _ _).trans (half_gate U W B A t _ _)
  · exact (congrArg (iblk m c 2 t) (emb0 0 d)).trans (hw' 0 d)
  · exact (congrArg (iblk m c 2 t) (emb1 0 d)).trans (hw' 1 d)
  · exact (congrArg (iblk m c 2 t) (emb2 0 d)).trans (hw' 2 d)

include hu hw hb ha in
theorem value_at (t : Fin cfg0.N) (y z : Fin 1) (r : Fin 512) (d : Fin 1408) :
    k0_pay11 (F := Ideal) (iblk m c 3 t) (iblk m c 4 t) (ix4 y z r d) = halfPart U W B A t (ix4 1 0 r d) :=
  (pay11_at _ _ (fun r d => conv U W B (col t d) (row t r)) (fun r d => A (row t r) (col t d))
    (blk_c m c U W B hu hw hb t) (blk_a m c A ha t) _ _ _ _).trans (half_value U W B A t _ _)

include hu hw hb ha in
/-- The block of rows written at point `t`. -/
theorem half_at (t : Fin cfg0.N) (k : Fin 2) (y : Fin 1) (r : Fin 512) (d : Fin 1408) :
    (outsAt0 m c t.val t.isLt).1 (ix4 k y r d) = halfPart U W B A t (ix4 k y r d) := by
  by_cases h : t.val % 8 = 0
  · have hn (z : Fin 8) (d : Fin 1408) : k0_pay4 (F := Ideal) (ix2 z d) = ((E U W B A t (512 + z.val) d : ℝ) : EReal) := by
      rw [zero4, E_zero U W B A t h, EReal.coe_zero]
    rw [outsAt0_A m c t h]
    frame_out
    refine View.canon_append_of_piecesOf (halfPart U W B A t) [] [_, _] ⟨fun x => ?_, fun x => ?_, trivial⟩ _ ?_
    · idx_vars x
      rw [emb_gate]
      exact gate_at m c U W B A hu hw hb ha t _ hn _ _ _ _
    · idx_vars x
      rw [emb_value]
      exact value_at m c U W B A hu hw hb ha t _ _ _ _
    · rcases half_cover k y r d with hh | hh
      · exact ⟨_, List.mem_cons_self, (Rect.mem_set_unit (inb := inb_S2x1x512x1408_S1x1x512x1408_0_0_0_0)).mpr hh⟩
      · exact ⟨_, List.mem_cons_of_mem _ List.mem_cons_self, (Rect.mem_set_unit (inb := inb_S2x1x512x1408_S1x1x512x1408_1_0_0_0)).mpr hh⟩
  · have hn := car_at m c U W B A hu hw hb ha t h
    rw [outsAt0_B m c t h]
    frame_out
    rw [read_unread_whole]
    refine View.canon_append_of_piecesOf (halfPart U W B A t) [] [_, _] ⟨fun x => ?_, fun x => ?_, trivial⟩ _ ?_
    · idx_vars x
      rw [emb_gate]
      exact gate_at m c U W B A hu hw hb ha t _ hn _ _ _ _
    · idx_vars x
      rw [emb_value]
      exact value_at m c U W B A hu hw hb ha t _ _ _ _
    · rcases half_cover k y r d with hh | hh
      · exact ⟨_, List.mem_cons_self, (Rect.mem_set_unit (inb := inb_S2x1x512x1408_S1x1x512x1408_0_0_0_0)).mpr hh⟩
      · exact ⟨_, List.mem_cons_of_mem _ List.mem_cons_self, (Rect.mem_set_unit (inb := inb_S2x1x512x1408_S1x1x512x1408_1_0_0_0)).mpr hh⟩

include hu hw hb ha in
/-- What point `t` adds to the bias's gradient. -/
theorem bias_at (t : Fin cfg0.N) (a : Vec Ideal S1x1408 .f32) (y : Fin 1) (d : Fin 1408) :
    k0_pay19 (F := Ideal) (k0_pay8 (iblk m c 3 t)) (k0_pay9 (iblk m c 3 t)) (k0_pay12 (iblk m c 4 t) (iblk m c 1 t)) (Scalar.ofBits .f32 0x3F800000#32) a (ix2 y d)
      = a (ix2 y d) + ((∑ r : Fin 512, E U W B A t r.val d : ℝ) : EReal) :=
  pay19_at _ _ _ _ (E U W B A t) (dcs_at m c U W B A hu hw hb ha t) a y d

theorem outs_bias_A (t : Fin cfg0.N) (h : t.val % 8 = 0) : (outsAt0 m c t.val t.isLt).2.2.1 = k0_pay19 (F := Ideal) (k0_pay8 (iblk m c 3 t))
    (k0_pay9 (iblk m c 3 t)) (k0_pay12 (iblk m c 4 t) (iblk m c 1 t)) (Scalar.ofBits .f32 0x3F800000#32) (k0_pay6 (F := Ideal)) := by
  rw [outsAt0_A m c t h]
  frame_out

theorem outs_bias_B (t : Fin cfg0.N) (h : ¬ t.val % 8 = 0) : (outsAt0 m c t.val t.isLt).2.2.1 = k0_pay19 (F := Ideal) (k0_pay8 (iblk m c 3 t))
    (k0_pay9 (iblk m c 3 t)) (k0_pay12 (iblk m c 4 t) (iblk m c 1 t)) (Scalar.ofBits .f32 0x3F800000#32)
    (outsAt0 m c (t.val - 1) (Nat.lt_of_le_of_lt (Nat.sub_le _ _) t.isLt)).2.2.1 := by
  conv_lhs => rw [outsAt0_B m c t h]
  frame_out

include hu hw hb ha in
/-- The gradient of the rows' halves, after the run. -/
theorem final_halves : (dats m 0 c).arrAt 5 cfg0.N = fun i : S2x2x4096x1408.Idx => ((dhalves U W B A (i 0) (i 1) (i 2) (i 3) : ℝ) : EReal) := by
  have key : ∀ (t : Fin cfg0.N) (k : Fin 2) (y : Fin 1) (r : Fin 512) (d : Fin 1408) (i : S2x2x4096x1408.Idx),
      i = ix4 k ⟨t.val / 8, by have := lt16 t; omega⟩ (row t r) d →
      (outsAt0 m c t.val t.isLt).1 (ix4 k y r d) = ((dhalves U W B A (i 0) (i 1) (i 2) (i 3) : ℝ) : EReal) := by
    rintro t k y r d i rfl
    exact half_at m c U W B A hu hw hb ha t k y r d
  refine (dats m 0 c).arrAt_eq_of_covers 5 _ (by decide +kernel) fun t hf y => ?_
  blk_simp
  rw [after0_5]
  idx_vars y
  refine key t y0 y1 y2 y3 _ ?_
  blk_ext [idx t]
  all_goals rfl

theorem flush_mod : ∀ t : Fin cfg0.N, ((cfg0.win 6).flush t = true → t.val % 8 = 7) ∧ ((cfg0.win 7).flush t = true → t.val % 8 = 7) :=
  (by decide +kernel : ∀ t : Fin grid0.N, _)

/-- Point `s` of the run of eight that point `t` belongs to. -/
def mate (t : Fin cfg0.N) (s : Fin 8) : Fin cfg0.N := ⟨8 * (t.val / 8) + s.val, by
  have := lt16 t; have := s.isLt; exact lt_of_lt_of_eq (show 8 * (t.val / 8) + s.val < 16 by omega) N_0.symm⟩

theorem mate_val (t : Fin cfg0.N) (s : Fin 8) : (mate t s).val = 8 * (t.val / 8) + s.val := rfl

theorem col_mate (t : Fin cfg0.N) (s : Fin 8) (d : Fin 1408) : col (mate t s) d = col t d := by
  have e : (mate t s).val / 8 = t.val / 8 := by rw [mate_val]; have := s.isLt; omega
  apply Fin.ext
  unfold col
  simp only [e]

theorem row_mate (t : Fin cfg0.N) (s : Fin 8) (r : Fin 512) : (row (mate t s) r).val = (Fin.rev s).val * 512 + r.val := by
  have e : 7 - (mate t s).val % 8 = (Fin.rev s).val := by rw [mate_val, Fin.val_rev]; have := s.isLt; omega
  unfold row
  simp only [e]

/-- The rows of the run's blocks are all the rows. -/
theorem sum_rows (t : Fin cfg0.N) (f : Fin 4096 → ℝ) : ∑ s : Fin 8, ∑ r : Fin 512, f (row (mate t s) r) = ∑ r, f r := by
  rw [Fin.sum_univ_tiles 8 512 rfl f, ← Equiv.sum_comp Fin.revPerm]
  exact Finset.sum_congr rfl fun s _ => Finset.sum_congr rfl fun r _ => congrArg f (Fin.ext ((row_mate t (Fin.rev s) r).trans (by rw [Fin.rev_rev])))

include hu hw hb ha in
/-- The bias's gradient, after the run. -/
theorem final_bias : (dats m 0 c).arrAt 7 cfg0.N = fun i : S1x2816.Idx => ((dbias U W B A (i 1) : ℝ) : EReal) := by
  have key : ∀ (t : Fin cfg0.N) (_ : t.val % 8 = 7) (y : Fin 1) (d : Fin 1408) (i : S1x2816.Idx), i = ix2 y (col t d) →
      (outsAt0 m c t.val t.isLt).2.2.1 (ix2 y d) = ((dbias U W B A (i 1) : ℝ) : EReal) := by
    rintro t h7 y d i rfl
    rw [Pipeline.eq_sum_fin_of_reset_step_apply_of_flush (fun n h => (outsAt0 m c n h).2.2.1) 8 (fun _ => 0)
      (fun t j => ((∑ r : Fin 512, E U W B A t r.val (j 1) : ℝ) : EReal))
      (fun t h j => by
        rw [outs_bias_A m c t h]
        idx_vars j
        rw [bias_at m c U W B A hu hw hb ha, zero6])
      (fun t h j => by
        rw [outs_bias_B m c t h]
        idx_vars j
        exact bias_at m c U W B A hu hw hb ha t _ _ _) t h7]
    rw [zero_add, coe_sum]
    refine congrArg _ (Eq.trans ?_ (sum_rows t fun r => dconv U W B A (col t d) r))
    refine Finset.sum_congr rfl fun s _ => Finset.sum_congr rfl fun r _ => ?_
    refine (E_row U W B A (mate t s) r d).trans ?_
    rw [col_mate]
  refine (dats m 0 c).arrAt_eq_of_covers 7 _ (by decide +kernel) fun t hf y => ?_
  blk_simp
  rw [after0_7]
  idx_vars y
  refine key t ((flush_mod t).2 hf) y0 y1 _ ?_
  blk_ext [idx t]
  all_goals rfl

include hu hw hb ha in
/-- The taps' gradient over a run of eight points. -/
theorem taps_at (t : Fin cfg0.N) (h7 : t.val % 8 = 7) (k : Fin 3) (d : Fin 1408) :
    (outsAt0 m c t.val t.isLt).2.1 (ix2 k d) = ((dtap U W B A (2 - k.val) (col t d) : ℝ) : EReal) := by
  rw [Pipeline.eq_sum_fin_of_reset_step_apply_of_flush (fun n h => (outsAt0 m c n h).2.1) 8 (fun _ => 0)
    (fun t j => ((tapPart U W B A t (j 0) (j 1) : ℝ) : EReal))
    (fun t h j => by
      idx_vars j
      exact tap_reset m c U W B A hu hw hb ha t h _ _)
    (fun t h j => by
      idx_vars j
      exact tap_step m c U W B A hu hw hb ha t h _ _) t h7]
  rw [zero_add, coe_sum]
  refine congrArg _ (Eq.trans ?_ (sum_rows t fun r => ahead (2 - k.val) (dconv U W B A (col t d)) r * gate U (col t d) r))
  refine Finset.sum_congr rfl fun s _ => Finset.sum_congr rfl fun r _ => ?_
  refine (congrArg (· * _) (E_ahead U W B A (mate t s) r d _)).trans ?_
  rw [← col_mate t s d]
  rfl

/-- The gradient of tap `k`. -/
def dtaps (k : Fin 3) (j : Fin 2816) : ℝ := dtap U W B A (2 - k.val) j

set_option maxHeartbeats 1000000 in
include hu hw hb ha in
/-- The taps' gradient, after the run. -/
theorem final_taps : (dats m 0 c).arrAt 6 cfg0.N = fun i : S3x2816.Idx => ((dtaps U W B A (i 0) (i 1) : ℝ) : EReal) := by
  have key : ∀ (t : Fin cfg0.N) (_ : t.val % 8 = 7) (k : Fin 3) (d : Fin 1408) (i : S3x2816.Idx), i = ix2 k (col t d) →
      (outsAt0 m c t.val t.isLt).2.1 (ix2 k d) = ((dtaps U W B A (i 0) (i 1) : ℝ) : EReal) := by
    rintro t h7 k d i rfl
    exact taps_at m c U W B A hu hw hb ha t h7 k d
  refine (dats m 0 c).arrAt_eq_of_covers 6 _ (by decide +kernel) fun t hf y => ?_
  blk_simp
  rw [after0_6]
  idx_vars y
  refine key t ((flush_mod t).1 hf) y0 y1 _ ?_
  blk_ext [idx t]
  all_goals rfl

end Cert.ConvGradIdeal.Block

end
-- ==== Proof.ConvGradClaim.lean ====
/-
  The value claim of the gated convolution's gradient: at finite arguments both programs end with the same
  three arrays.
-/
module

public import proofs.«01_k».proof.Defs
public import proofs.«01_k».proof.Proof.ConvGradValue
public import proofs.«01_k».proof.Proof.ConvGradRefRead
public import proofs.«01_k».proof.Proof.RealLaws
public import proofs.«01_k».proof.Proof.Gen.Pre_cbwd_finite
public import Idealize.ShloMosaic.Lib.Claim

@[expose] public section

set_option maxRecDepth 16384

noncomputable section

open Idealize.ShloMosaic Idealize.SL.Sem

namespace Cert.Step

/-- The reference terminates and leaves its arguments as they were. -/
theorem cbwd_ref_frame : letI := Cert.ConvGradRefIdeal.Gen.facts; Cert.quiescent_ConvGradRefIdeal := fun m ρ _ =>
  (θ_run Cert.ConvGradRefIdeal.defs _ _).mono (fun r h => ⟨fun c => (h c).2.2.2, sem_eq_zero_of_no_sems (by decide) r.2⟩)
    (Cert.ConvGradRefIdeal.Value.run (F := Ideal) m ρ)

set_option maxHeartbeats 2000000 in
theorem cbwd_algebraic : letI := Cert.ConvGradIdeal.Gen.facts; letI := Cert.ConvGradRefIdeal.Gen.facts; letI := Cert.Pre_cbwd_finite.Gen.facts;
    Cert.algebraic_ConvGradIdeal_ConvGradRefIdeal_pre_cbwd_finite := by
  intro m g m' g' hpre hargs
  refine ⟨fun c => (Cert.ConvGradIdeal.Gen.dats m 0 c).arrAt 5 Cert.ConvGradIdeal.cfg0.N,
    fun c => (Cert.ConvGradIdeal.Gen.dats m 0 c).arrAt 6 Cert.ConvGradIdeal.cfg0.N,
    fun c => (Cert.ConvGradIdeal.Gen.dats m 0 c).arrAt 7 Cert.ConvGradIdeal.cfg0.N, ?_, ?_⟩
  · run_from Cert.ConvGradIdeal.Gen.run_main m g
  · refine (θ_run Cert.ConvGradRefIdeal.defs _ _).mono (fun r h c => ?_) (Cert.ConvGradRefIdeal.Spec.run m' g')
    obtain ⟨p0, p1, p2, p3⟩ := hpre c
    obtain ⟨a0, a1, a2, a3⟩ := hargs c
    obtain ⟨U, hu⟩ := real_rows16 _ _ p0
    obtain ⟨W, hw⟩ := real_mat _ _ p1
    obtain ⟨B, hb⟩ := real_vec _ _ p2
    obtain ⟨A, ha⟩ := real_rows16 _ _ p3
    obtain ⟨h0, h1, h2, k⟩ := h c
    have e0 := Cert.ConvGradIdeal.Block.final_halves m c U W B A hu hw hb ha
    have e1 := Cert.ConvGradIdeal.Block.final_taps m c U W B A hu hw hb ha
    have e2 := Cert.ConvGradIdeal.Block.final_bias m c U W B A hu hw hb ha
    rw [← a0] at hu
    rw [← a1] at hw
    rw [← a2] at hb
    rw [← a3] at ha
    refine ⟨?_, ?_, ?_, k⟩
    · exact h0.trans ((Cert.ConvGradRefIdeal.Spec.halves_eq _ _ _ _ U W B A hu hw hb ha).trans e0.symm)
    · exact h1.trans ((Cert.ConvGradRefIdeal.Spec.taps_eq _ _ _ _ U W B A hu hw hb ha).trans e1.symm)
    · exact h2.trans ((Cert.ConvGradRefIdeal.Spec.bias_eq _ _ _ _ U W B A hu hw hb ha).trans e2.symm)

end Cert.Step

end
-- ==== Proof.AttnRun.lean ====
/-
  The body of the attention's gradient, run once per branch: what it stores in its three outputs and in the rows
  it carries from one point to the next, at the first point, at the points between and at the last.
-/
module

public import proofs.«01_k».proof.Proof.Gen.AttnGradIdeal.Frame
public import proofs.«01_k».proof.Proof.Gen.AttnGradIdeal.Skeleton
public import Idealize.ShloMosaic.Lib.Exec

@[expose] public section

set_option maxRecDepth 16384

noncomputable section

namespace Cert.AttnGradIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.AttnGradIdeal Cert.AttnGradIdeal.Gen

variable {F : FTy → Type} [FloatOps F] [Named F]

local notation "𝕄" => MT nD τ sig Unit (Elt F) ℕ (UR sig nD τ) ℕ

variable (c : Dev nD) (i : grid0.Coords)
variable (arg1 : Memref sig .tc .smem S16 .f32) (harg1 : arg1.IsWhole) (arg2 : Memref sig .tc .vmem S128x1024 .bf16) (harg2 : arg2.IsWhole)
variable (arg3 : Memref sig .tc .vmem S128x256 .bf16) (harg3 : arg3.IsWhole) (arg4 : Memref sig .tc .vmem S128x256 .bf16) (harg4 : arg4.IsWhole)
variable (arg5 : Memref sig .tc .vmem S128x1024 .bf16) (harg5 : arg5.IsWhole) (arg6 : Memref sig .tc .vmem S128x1024 .bf16) (harg6 : arg6.IsWhole)
variable (arg7 : Memref sig .tc .vmem S128x256 .bf16) (harg7 : arg7.IsWhole) (arg8 : Memref sig .tc .vmem S1x128 .f32) (harg8 : arg8.IsWhole)
variable (arg9 : Memref sig .tc .vmem S128x256 .f32) (harg9 : arg9.IsWhole)
variable (x0 : Vec F S16 .f32) (x1 : Vec F S128x1024 .bf16) (x2 x3 : Vec F S128x256 .bf16) (x4 : Vec F S128x1024 .bf16)
variable (x5 : Vec F S128x1024 .bf16) (x7 : Vec F S1x128 .f32) (xs : Vec F S128x256 .f32)

/-- The five inputs' staging buffers at their contents. -/
abbrev ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4)

/-- A whole buffer with pieces written over some contents. -/
abbrev wrote {s : Shape} {e : EltTy} (a : Memref sig .tc .vmem s e) (L : List (View.Piece (Elt F) s e)) : sProp 𝕄 :=
  iprop(∃ f, a.view.loc (c : Thread nD τ) ↦[a.view.set]{fullShare} a.view.writes (Elt F) f L)

/-- A whole buffer at some contents. -/
abbrev anyAt {s : Shape} {e : EltTy} (a : Memref sig .tc .vmem s e) : sProp 𝕄 := iprop(∃ d, owns (c : Thread nD τ) a fullShare d)

set_option maxHeartbeats 1000000 in
/-- The first point: the carried rows and the sinks' gradient start at zero. -/
def runA (h0 : k0_cond1 i = 1#1) (h1 : ¬ k0_cond2 i = 1#1) (h2 : k0_cond3 i = 1#1) :
    Σ' (L5 : List (View.Piece (Elt F) S128x1024 .bf16)), Σ' (L6 : List (View.Piece (Elt F) S128x256 .bf16)), Σ' (L7 : List (View.Piece (Elt F) S1x128 .f32)),
      { L9 : List (View.Piece (Elt F) S128x256 .f32) // ∀ (E : Set ℕ) (K : PUnit → sProp 𝕄),
        iprop(ins c arg1 arg2 arg3 arg4 arg5 x0 x1 x2 x3 x4 ∗ anyAt c arg6 ∗ anyAt c arg7 ∗ anyAt c arg8 ∗ anyAt c arg9
            ∗ (iprop(ins c arg1 arg2 arg3 arg4 arg5 x0 x1 x2 x3 x4 ∗ wrote c arg6 L5 ∗ wrote c arg7 L6 ∗ wrote c arg8 L7 ∗ wrote c arg9 L9) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold ins anyAt wrote owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%d7, %f7, -, H7⟩, ⟨%d9, %f9, -, H9⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | sl_exact h0 | sl_exact h1 | sl_exact h2)
    sl_step
    iapply Hk
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _; isplitr; · ipureintro; exact harg5.read_unread _
      iexact H4
    isplitl [H5]; · iexists _; iexact H5
    isplitl [H6]; · iexists _; iexact H6
    isplitl [H7]; · iexists _; iexact H7
    iexists _; iexact H9

set_option maxHeartbeats 1000000 in
/-- Between the first and the last point. -/
def runB (h0 : ¬ k0_cond1 i = 1#1) (h1 : ¬ k0_cond2 i = 1#1) (h2 : k0_cond3 i = 1#1) :
    Σ' (L5 : List (View.Piece (Elt F) S128x1024 .bf16)), Σ' (L6 : List (View.Piece (Elt F) S128x256 .bf16)), Σ' (L7 : List (View.Piece (Elt F) S1x128 .f32)),
      { L9 : List (View.Piece (Elt F) S128x256 .f32) // ∀ (E : Set ℕ) (K : PUnit → sProp 𝕄),
        iprop(ins c arg1 arg2 arg3 arg4 arg5 x0 x1 x2 x3 x4 ∗ anyAt c arg6 ∗ anyAt c arg7 ∗ owns (c : Thread nD τ) arg8 fullShare x7 ∗ owns (c : Thread nD τ) arg9 fullShare xs
            ∗ (iprop(ins c arg1 arg2 arg3 arg4 arg5 x0 x1 x2 x3 x4 ∗ wrote c arg6 L5 ∗ wrote c arg7 L6 ∗ wrote c arg8 L7 ∗ wrote c arg9 L9) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold ins anyAt wrote owns
    iintro ⟨⟨⟨%f0, %hf0, H0⟩, ⟨%f1, %hf1, H1⟩, ⟨%f2, %hf2, H2⟩, ⟨%f3, %hf3, H3⟩, ⟨%f4, %hf4, H4⟩⟩, ⟨%d5, %f5, -, H5⟩, ⟨%d6, %f6, -, H6⟩, ⟨%f7, %hf7, H7⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg8.eq_unread hf7; obtain rfl := harg9.eq_unread hf9
    sl_exec (disch := first | sl_exact h0 | sl_exact h1 | sl_exact h2)
    sl_step
    iapply Hk
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _; isplitr; · ipureintro; exact harg5.read_unread _
      iexact H4
    isplitl [H5]; · iexists _; iexact H5
    isplitl [H6]; · iexists _; iexact H6
    isplitl [H7]; · iexists _; iexact H7
    iexists _; iexact H9

set_option maxHeartbeats 1000000 in
/-- The last point: the carried rows go out as the last block of the keys' and values' gradient. -/
def runC (h0 : ¬ k0_cond1 i = 1#1) (h1 : k0_cond2 i = 1#1) (h2 : ¬ k0_cond3 i = 1#1) :
    { L6 : List (View.Piece (Elt F) S128x256 .bf16) // ∀ (E : Set ℕ) (K : PUnit → sProp 𝕄),
        iprop(ins c arg1 arg2 arg3 arg4 arg5 x0 x1 x2 x3 x4 ∗ owns (c : Thread nD τ) arg6 fullShare x5 ∗ anyAt c arg7 ∗ owns (c : Thread nD τ) arg8 fullShare x7 ∗ owns (c : Thread nD τ) arg9 fullShare xs
            ∗ (iprop(ins c arg1 arg2 arg3 arg4 arg5 x0 x1 x2 x3 x4 ∗ owns (c : Thread nD τ) arg6 fullShare x5 ∗ wrote c arg7 L6 ∗ owns (c : Thread nD τ) arg8 fullShare x7 ∗ owns (c : Thread nD τ) arg9 fullShare xs) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9) K } := by
  refine ⟨?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold ins anyAt wrote owns
    iintro ⟨⟨⟨%f0, %hf0, H0⟩, ⟨%f1, %hf1, H1⟩, ⟨%f2, %hf2, H2⟩, ⟨%f3, %hf3, H3⟩, ⟨%f4, %hf4, H4⟩⟩, ⟨%f5, %hf5, H5⟩, ⟨%d6, %f6, -, H6⟩, ⟨%f7, %hf7, H7⟩, ⟨%f9, %hf9, H9⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5; obtain rfl := harg8.eq_unread hf7; obtain rfl := harg9.eq_unread hf9
    sl_exec (disch := first | sl_exact h0 | sl_exact h1 | sl_exact h2)
    sl_step
    iapply Hk
    isplitl [H0 H1 H2 H3 H4]
    · isplitl [H0]
      · iexists _; isplitr; · ipureintro; exact harg1.read_unread _
        iexact H0
      isplitl [H1]
      · iexists _; isplitr; · ipureintro; exact harg2.read_unread _
        iexact H1
      isplitl [H2]
      · iexists _; isplitr; · ipureintro; exact harg3.read_unread _
        iexact H2
      isplitl [H3]
      · iexists _; isplitr; · ipureintro; exact harg4.read_unread _
        iexact H3
      iexists _; isplitr; · ipureintro; exact harg5.read_unread _
      iexact H4
    isplitl [H5]
    · iexists _; isplitr; · ipureintro; exact harg6.read_unread _
      iexact H5
    isplitl [H6]; · iexists _; iexact H6
    isplitl [H7]
    · iexists _; isplitr; · ipureintro; exact harg8.read_unread _
      iexact H7
    iexists _; isplitr; · ipureintro; exact harg9.read_unread _
    iexact H9

end Cert.AttnGradIdeal.Run

end
-- ==== Proof.AttnLaunch.lean ====
/-
  The launch of the attention's gradient: what its outputs and the carried rows hold after every point, the
  pipeline's proof data, the body at every point, and the run of the whole program at any values.
-/
module

public import proofs.«01_k».proof.Proof.AttnRun
public import Idealize.ShloMosaic.Lib.Pipeline.ValueKit

@[expose] public section

set_option maxRecDepth 16384

noncomputable section

namespace Cert.AttnGradIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.AttnGradIdeal Cert.AttnGradIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which branch a point takes -/

theorem cond1_iff : ∀ t : Fin cfg0.N, k0_cond1 (grid0.coords t) = 1#1 ↔ t.val = 0 :=
  (by decide +kernel : ∀ t : Fin grid0.N, k0_cond1 (grid0.coords t) = 1#1 ↔ t.val = 0)
theorem cond2_iff : ∀ t : Fin cfg0.N, k0_cond2 (grid0.coords t) = 1#1 ↔ t.val = 32 :=
  (by decide +kernel : ∀ t : Fin grid0.N, k0_cond2 (grid0.coords t) = 1#1 ↔ t.val = 32)
theorem cond3_iff : ∀ t : Fin cfg0.N, k0_cond3 (grid0.coords t) = 1#1 ↔ t.val < 32 :=
  (by decide +kernel : ∀ t : Fin grid0.N, k0_cond3 (grid0.coords t) = 1#1 ↔ t.val < 32)
/-- The rows' gradient is not written back between the last two points. -/
theorem flush5_last : ∀ t : Fin cfg0.N, t.val = 31 → (cfg0.win 5).flush t = false :=
  (by decide +kernel : ∀ t : Fin grid0.N, t.val = 31 → win0_5.flush t = false)

/-! ## The buffers at a point -/

abbrev ms0 (t : Fin cfg0.N) : Memref sig .tc .smem S16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x256 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1024 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x128 .f32 := win0_7.stage (cfg0.slots t 7)
abbrev hs7 (t : Fin cfg0.N) : (ms7 t).IsWhole := hstage0_7 ((cfg0.slots t 7).cast nbuf0_7)
/-- The rows carried from one point to the next. -/
abbrev scM : Memref sig .tc .vmem S128x256 .f32 := Memref.whole cc0_scratch0

theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What a point leaves -/

/-- The four contents a point leaves: the query rows' gradient, the keys' and values', the sinks', the carried rows. -/
abbrev Left (F : FTy → Type) : Type := Vec F S128x1024 .bf16 × Vec F S128x256 .bf16 × Vec F S1x128 .f32 × Vec F S128x256 .f32

section
variable (c : Dev nD) (t : Fin cfg0.N)

/-- The body's run at the first point, -/
abbrev atA (h : t.val = 0) := runA c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t)
  ((cond1_iff t).mpr h) (fun e => by have := (cond2_iff t).mp e; omega) ((cond3_iff t).mpr (by omega))
/-- at a point between, -/
abbrev atB (x7 : Vec F S1x128 .f32) (xs : Vec F S128x256 .f32) (h : t.val ≠ 0) (h' : t.val < 32) := runB c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) x7 xs
  (fun e => h ((cond1_iff t).mp e)) (fun e => by have := (cond2_iff t).mp e; omega) ((cond3_iff t).mpr h')
/-- and at the last. -/
abbrev atC (x5 : Vec F S128x1024 .bf16) (x7 : Vec F S1x128 .f32) (xs : Vec F S128x256 .f32) (h : t.val = 32) := runC c (grid0.coords t) (ms0 t) (hs0 t) (ms1 t) (hs1 t) (ms2 t) (hs2 t) (ms3 t) (hs3 t) (ms4 t) (hs4 t) (ms5 t) (hs5 t) (ms6 t) (hs6 t) (ms7 t) (hs7 t) scM (Memref.isWhole_whole _) (iblk m c 0 t) (iblk m c 1 t) (iblk m c 2 t) (iblk m c 3 t) (iblk m c 4 t) x5 x7 xs
  (fun e => by have := (cond1_iff t).mp e; omega) ((cond2_iff t).mpr h) (fun e => by have := (cond3_iff t).mp e; omega)

def leftA (h : t.val = 0) : Left F :=
  (View.canon (atA m c t h).1, View.canon (atA m c t h).2.1, View.canon (atA m c t h).2.2.1, View.canon (atA m c t h).2.2.2.1)
def leftB (p : Left F) (h : t.val ≠ 0) (h' : t.val < 32) : Left F :=
  (View.canon (atB m c t p.2.2.1 p.2.2.2 h h').1, View.canon (atB m c t p.2.2.1 p.2.2.2 h h').2.1,
    View.canon (atB m c t p.2.2.1 p.2.2.2 h h').2.2.1, View.canon (atB m c t p.2.2.1 p.2.2.2 h h').2.2.2.1)
def leftC (p : Left F) (h : t.val = 32) : Left F := (p.1, View.canon (atC m c t p.1 p.2.2.1 p.2.2.2 h).1, p.2.2.1, p.2.2.2)
end

theorem coverA5 (c : Dev nD) (t : Fin cfg0.N) (h : t.val = 0) (y : S128x1024.Idx) : ∃ pc ∈ (atA m c t h).1, y ∈ pc.1.set :=
  View.cover_of_tiledL (atA m c t h).1 S128x128.size (by sl_kernel_rfl) y
theorem coverA6 (c : Dev nD) (t : Fin cfg0.N) (h : t.val = 0) (y : S128x256.Idx) : ∃ pc ∈ (atA m c t h).2.1, y ∈ pc.1.set :=
  View.cover_of_tiledL (atA m c t h).2.1 S128x256.size (by sl_kernel_rfl) y
theorem coverA7 (c : Dev nD) (t : Fin cfg0.N) (h : t.val = 0) (y : S1x128.Idx) : ∃ pc ∈ (atA m c t h).2.2.1, y ∈ pc.1.set :=
  View.cover_of_tiledL (atA m c t h).2.2.1 S1x128.size (by sl_kernel_rfl) y
theorem coverA9 (c : Dev nD) (t : Fin cfg0.N) (h : t.val = 0) (y : S128x256.Idx) : ∃ pc ∈ (atA m c t h).2.2.2.1, y ∈ pc.1.set :=
  View.cover_of_tiledL (atA m c t h).2.2.2.1 S128x256.size (by sl_kernel_rfl) y
theorem coverB5 (c : Dev nD) (t : Fin cfg0.N) (x7 : Vec F S1x128 .f32) (xs : Vec F S128x256 .f32) (h : t.val ≠ 0) (h' : t.val < 32) (y : S128x1024.Idx) : ∃ pc ∈ (atB m c t x7 xs h h').1, y ∈ pc.1.set :=
  View.cover_of_tiledL (atB m c t x7 xs h h').1 S128x128.size (by sl_kernel_rfl) y
theorem coverB6 (c : Dev nD) (t : Fin cfg0.N) (x7 : Vec F S1x128 .f32) (xs : Vec F S128x256 .f32) (h : t.val ≠ 0) (h' : t.val < 32) (y : S128x256.Idx) : ∃ pc ∈ (atB m c t x7 xs h h').2.1, y ∈ pc.1.set :=
  View.cover_of_tiledL (atB m c t x7 xs h h').2.1 S128x256.size (by sl_kernel_rfl) y
theorem coverB7 (c : Dev nD) (t : Fin cfg0.N) (x7 : Vec F S1x128 .f32) (xs : Vec F S128x256 .f32) (h : t.val ≠ 0) (h' : t.val < 32) (y : S1x128.Idx) : ∃ pc ∈ (atB m c t x7 xs h h').2.2.1, y ∈ pc.1.set :=
  View.cover_of_tiledL (atB m c t x7 xs h h').2.2.1 S1x128.size (by sl_kernel_rfl) y
theorem coverB9 (c : Dev nD) (t : Fin cfg0.N) (x7 : Vec F S1x128 .f32) (xs : Vec F S128x256 .f32) (h : t.val ≠ 0) (h' : t.val < 32) (y : S128x256.Idx) : ∃ pc ∈ (atB m c t x7 xs h h').2.2.2.1, y ∈ pc.1.set :=
  View.cover_of_tiledL (atB m c t x7 xs h h').2.2.2.1 S128x256.size (by sl_kernel_rfl) y
theorem coverC6 (c : Dev nD) (t : Fin cfg0.N) (x5 : Vec F S128x1024 .bf16) (x7 : Vec F S1x128 .f32) (xs : Vec F S128x256 .f32) (h : t.val = 32) (y : S128x256.Idx) : ∃ pc ∈ (atC m c t x5 x7 xs h).1, y ∈ pc.1.set :=
  View.cover_of_tiledL (atC m c t x5 x7 xs h).1 S128x256.size (by sl_kernel_rfl) y

/-- What the points up to position `n` leave. -/
def outs (c : Dev nD) : (n : ℕ) → n < cfg0.N → Left F
  | 0, hn => leftA m c ⟨0, hn⟩ rfl
  | n + 1, hn => if h : n + 1 < 32 then leftB m c ⟨n + 1, hn⟩ (outs c n (Nat.lt_of_succ_lt hn)) (Nat.succ_ne_zero n) h
      else leftC m c ⟨n + 1, hn⟩ (outs c n (Nat.lt_of_succ_lt hn)) (by have := lt_of_lt_of_eq hn (show cfg0.N = 33 from N_0); show n + 1 = 32; omega)

/-- What the point before left. -/
abbrev prev (c : Dev nD) (t : Fin cfg0.N) : Left F := outs m c (t.val - 1) (Nat.lt_of_le_of_lt (Nat.sub_le _ _) t.isLt)

theorem outs_A (c : Dev nD) (t : Fin cfg0.N) (h : t.val = 0) : outs m c t.val t.isLt = leftA m c t h := by
  obtain ⟨n, hn⟩ := t
  cases n with
  | zero => rfl
  | succ n => exact absurd h (Nat.succ_ne_zero n)
theorem outs_B (c : Dev nD) (t : Fin cfg0.N) (h : t.val ≠ 0) (h' : t.val < 32) : outs m c t.val t.isLt = leftB m c t (prev m c t) h h' := by
  obtain ⟨n, hn⟩ := t
  cases n with
  | zero => exact absurd rfl h
  | succ n => exact (dif_pos h').trans rfl
theorem outs_C (c : Dev nD) (t : Fin cfg0.N) (h : t.val = 32) : outs m c t.val t.isLt = leftC m c t (prev m c t) h := by
  obtain ⟨n, hn⟩ := t
  cases n with
  | zero => exact absurd h (by simp)
  | succ n => exact (dif_neg (by have : n + 1 = 32 := h; omega)).trans rfl

/-! ## The proof data -/

/-- The region's invariant: after a point the carried rows hold what it left. -/
def PhiS (c : Dev nD) : (n : ℕ) → n ≤ cfg0.N → sProp 𝕄
  | 0, _ => Pipeline.ΦA spec0 c
  | n + 1, hn => iprop(iprop(owns (c : Thread nD τ) scM fullShare ((outs m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare ((outs m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM fullShare ((outs m c (n - 1) (by omega)).2.2.2)) ∗ (∃ r, prngReg c r)) := by
  cases n with
  | zero => exact absurd rfl hz
  | succ n => rfl

/-- The proof data: the inputs' buffers at their blocks, the outputs' at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outs m c t.val t.isLt).1
    | ⟨6, _⟩ => (outs m c t.val t.isLt).2.1
    | ⟨7, _⟩ => (outs m c t.val t.isLt).2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = (outs m c t.val t.isLt).1 := by dsimp only [dats]
theorem after_6 (c : Dev nD) (t : Fin cfg0.N) : (dats m 0 c).after 6 t = (outs m c t.val t.isLt).2.1 := by dsimp only [dats]
theorem after_7 (c : Dev nD) (t : Fin cfg0.N) : (dats m 0 c).after 7 t = (outs m c t.val t.isLt).2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
/-- An output's buffer that was stored at the point before and not written back there holds what that point left. -/
theorem before_kept (c : Dev nD) (w : Fin cfg0.W) (hw : (cfg0.win w).isOut = true) (t : Fin cfg0.N) (ht : t.val ≠ 0)
    (hfl : (cfg0.win w).flush ⟨t.val - 1, Nat.lt_of_le_of_lt (Nat.sub_le _ _) t.isLt⟩ = false)
    (hl : cfg0.idle w (cfg0.grid.coords ⟨t.val - 1, Nat.lt_of_le_of_lt (Nat.sub_le _ _) t.isLt⟩) = false)
    (hclip : ∀ (i : cfg0.grid.Coords) a, (cfg0.win w).clip i a = none) (d) :
    (dats m 0 c).before w t d = (dats m 0 c).after w ⟨t.val - 1, Nat.lt_of_le_of_lt (Nat.sub_le _ _) t.isLt⟩ := by
  rw [(dats m 0 c).before_of_pos w t ht ((cfg0.win w).fetch_out hw t), hfl, if_neg Bool.false_ne_true]
  unfold Dat.left; rw [hl]; dsimp only
  unfold Dat.kept
  rw [Pipeline.fill_of_clip_none w _ (hclip _) d ((dats m 0 c).after w _), Window.fill_cut]
theorem live5 : ∀ t : Fin cfg0.N, t.val < 32 → cfg0.idle 5 (cfg0.grid.coords t) = false :=
  (by decide +kernel : ∀ t : Fin grid0.N, t.val < 32 → idle0 5 (grid0.coords t) = false)
theorem live7 : ∀ t : Fin cfg0.N, t.val < 32 → cfg0.idle 7 (cfg0.grid.coords t) = false :=
  (by decide +kernel : ∀ t : Fin grid0.N, t.val < 32 → idle0 7 (grid0.coords t) = false)
/-- A point that stores nothing into an output's buffer writes it back. -/
theorem idle_flush : ∀ (w : Fin cfg0.W) (t : Fin cfg0.N), cfg0.idle w (cfg0.grid.coords t) = true → (cfg0.win w).flush t = true :=
  (by decide +kernel : ∀ (w : Fin 8) (t : Fin grid0.N), idle0 w (grid0.coords t) = true → (win0 w).flush t = true)
/-- The rows' gradient still lies in its buffer at the last point, -/
theorem before_5 (c : Dev nD) (t : Fin cfg0.N) (h : t.val = 32) (d) : (dats m 0 c).before 5 t d = (prev m c t).1 := by
  rw [before_kept m c 5 rfl t (by omega) (flush5_last _ (by show t.val - 1 = 31; omega)) (live5 _ (by show t.val - 1 < 32; omega)) (fun _ _ => rfl)]
  dsimp only [dats]
/-- and the sinks' gradient at every point after the first. -/
theorem before_7 (c : Dev nD) (t : Fin cfg0.N) (h : t.val ≠ 0) (d) : (dats m 0 c).before 7 t d = (prev m c t).2.2.1 := by
  have hN : t.val < 33 := lt_of_lt_of_eq t.isLt (show cfg0.N = 33 from N_0)
  rw [before_kept m c 7 rfl t (by omega) (Bool.eq_false_iff.mpr fun h => by have := (flush0_7 _).mp h; dsimp only at this; omega)
    (live7 _ (by show t.val - 1 < 32; omega)) (fun _ _ => rfl)]
  dsimp only [dats]

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5, after_6, after_7]
  rw [show (dats m 0 c).Φ t.succ = PhiS m c (t.val + 1) t.isLt from rfl, PhiS_succ]
  have hN : t.val < 33 := lt_of_lt_of_eq t.isLt (show cfg0.N = 33 from N_0)
  by_cases hz : t.val = 0
  · rw [PhiS_castSucc m c t, PhiS_zero m c _ _ hz, PhiA_eq, outs_A m c t hz]
    unfold leftA; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atA m c t hz).2.2.2.2 Set.univ _)
    unfold ins anyAt wrote
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    isplitl [HS]; · iexact HS
    iintro ⟨⟨H0, H1, H2, H3, H4⟩, ⟨%e5, H5⟩, ⟨%e6, H6⟩, ⟨%e7, H7⟩, ⟨%e9, HS⟩⟩
    isplitl [HS Hg]
    · isplitl [HS]
      · unfold owns; iexists _; isplitr
        swap; · iexact HS
        ipureintro; exact View.read_writes_eq_canon _ _ _ (coverA9 m c t hz)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverA5 m c t hz)
    isplitl [H6]
    · unfold owns; iexists _; isplitr
      swap; · iexact H6
      ipureintro; exact View.read_writes_eq_canon _ _ _ (coverA6 m c t hz)
    unfold owns; iexists _; isplitr
    swap; · iexact H7
    ipureintro; exact View.read_writes_eq_canon _ _ _ (coverA7 m c t hz)
  rw [PhiS_castSucc m c t, PhiS_pos m c _ _ hz]
  simp only [before_7 m c t hz]
  by_cases hl : t.val < 32
  · rw [outs_B m c t hz hl]
    unfold leftB; dsimp only
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atB m c t (prev m c t).2.2.1 (prev m c t).2.2.2 hz hl).2.2.2.2 Set.univ _)
    unfold ins anyAt wrote
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexact H7
    isplitl [HS]; · iexact HS
    iintro ⟨⟨H0, H1, H2, H3, H4⟩, ⟨%e5, H5⟩, ⟨%e6, H6⟩, ⟨%e7, H7⟩, ⟨%e9, HS⟩⟩
    isplitl [HS Hg]
    · isplitl [HS]
      · unfold owns; iexists _; isplitr
        swap; · iexact HS
        ipureintro; exact View.read_writes_eq_canon _ _ _ (coverB9 m c t _ _ hz hl)
      iexact Hg
    isplitl [Ho]; · iexact Ho
    isplitl [H0]; · iexact H0
    isplitl [H1]; · iexact H1
    isplitl [H2]; · iexact H2
    isplitl [H3]; · iexact H3
    isplitl [H4]; · iexact H4
    isplitl [H5]
    · unfold owns; iexists _; isplitr
      swap; · iexact H5
      ipureintro; exact View.read_writes_eq_canon _ _ _ (coverB5 m c t _ _ hz hl)
    isplitl [H6]
    · unfold owns; iexists _; isplitr
      swap; · iexact H6
      ipureintro; exact View.read_writes_eq_canon _ _ _ (coverB6 m c t _ _ hz hl)
    unfold owns; iexists _; isplitr
    swap; · iexact H7
    ipureintro; exact View.read_writes_eq_canon _ _ _ (coverB7 m c t _ _ hz hl)
  have he : t.val = 32 := by omega
  simp only [before_5 m c t he]
  rw [outs_C m c t he]
  unfold leftC; dsimp only
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((atC m c t (prev m c t).1 (prev m c t).2.2.1 (prev m c t).2.2.2 he).2 Set.univ _)
  unfold ins anyAt wrote
  isplitl [H0 H1 H2 H3 H4]
  · isplitl [H0]; · iexact H0
    isplitl [H1]; · iexact H1
    isplitl [H2]; · iexact H2
    isplitl [H3]; · iexact H3
    iexact H4
  isplitl [H5]; · iexact H5
  isplitl [H6]; · iexists _; iexact H6
  isplitl [H7]; · iexact H7
  isplitl [HS]; · iexact HS
  iintro ⟨⟨H0, H1, H2, H3, H4⟩, H5, ⟨%e6, H6⟩, H7, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_eq_canon _ _ _ (coverC6 m c t _ _ _ he)
  iexact H7

theorem defs₀_row (t : Fin cfg0.N) : defs₀ (F := F) .tc cfg0.body (cfg0.bodyArgs t (cfg0.slots t)) = bodyAt0 t := by
  unfold defs₀; rw [Defs.onTc_tc]

/-- A buffer left at what the proof data say is what the library asks for, idle or not. -/
theorem post_of (c : Dev nD) (t : Fin cfg0.N) (w : Fin cfg0.W) :
    (owns (c : Thread nD τ) ((cfg0.win w).stage (cfg0.slots t w)) fullShare ((dats m 0 c).after w t) : sProp 𝕄)
      ⊢ (match cfg0.idle w (cfg0.grid.coords t) with
      | true => match (cfg0.win w).flush t with
        | false => iprop(∃ d, owns (c : Thread nD τ) ((cfg0.win w).stage (cfg0.slots t w)) fullShare ((dats m 0 c).before w t d))
        | true => owns (c : Thread nD τ) ((cfg0.win w).stage (cfg0.slots t w)) fullShare ((dats m 0 c).after w t)
      | false => owns (c : Thread nD τ) ((cfg0.win w).stage (cfg0.slots t w)) fullShare ((dats m 0 c).after w t)) := by
  rcases h : cfg0.idle w (cfg0.grid.coords t) with _ | _
  · exact .rfl
  · dsimp only; rw [idle_flush w t h]

set_option maxHeartbeats 4000000 in
theorem body_obligation (c : Dev nD) : BodyObligation (dats (F := F) m 0 c) (defs₀ (F := F)) Variants.none () Set.univ := fun t => by
  rw [bigSep_W0, bigSep_W0, defs₀_row]
  have hi (w : Fin cfg0.W) := post_of m c t w
  exact triple_restated (sound_body m c t) rfl .rfl fun _ => BIClass.sep_mono .rfl (BIClass.sep_mono .rfl (BIClass.sep_mono (hi 0) (BIClass.sep_mono (hi 1) (BIClass.sep_mono (hi 2) (BIClass.sep_mono (hi 3) (BIClass.sep_mono (hi 4) (BIClass.sep_mono (hi 5) (BIClass.sep_mono (hi 6) (hi 7)))))))))

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  have hN : cfg0.N = 33 := N_0
  rw [show (dats m 0 c).Φ (Fin.last cfg0.N) = PhiS m c cfg0.N (le_refl _) from rfl, PhiS_pos m c _ _ (by omega), PhiA_eq]
  iintro ⟨HS, Hg⟩
  isplitl [HS]
  · iexists _; iexact HS
  iexact Hg

/-! ## The run -/

set_option backward.isDefEq.respectTransparency.types false in
/-- Every execution ends with the arrays at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any values: the arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.AttnGradIdeal.Run

end
-- ==== Proof.AttnStage.lean ====
/-
  What one point of the attention's gradient stores, in the words of the block's arithmetic: the eight query
  heads of a key/value head stacked below one another, their scores over the previous and the current block of
  keys, the softmax with its sink, the gradients of the scores, and the products of them that the point stores.
-/
module

public import proofs.«01_k».proof.Proof.AttnLaunch
import Idealize.ShloMosaic.Lib.Pipeline.ValueKit
import Idealize.ShloMosaic.Lib.Pipeline.ReadBack

@[expose] public section

set_option maxRecDepth 16384

noncomputable section

namespace Cert.AttnGradIdeal.Stage

open Idealize.ShloMosaic Idealize.ShloMosaic.TcCoe Idealize.ShloMosaic.Tactic
open Cert.AttnGradIdeal Cert.AttnGradIdeal.Gen Cert.AttnGradIdeal.Run

abbrev Tile := FVec Ideal S128x128 .bf16
abbrev Stack := FVec Ideal S1024x128 .f32
abbrev Col := FVec Ideal S1024x1 .f32

/-! ## Lanes of a tile -/

/-- The lanes below 64. -/
def low : IVec S128x128 1 := k0_pay7
/-- The lanes from 64 on. -/
def high : IVec S128x128 1 := xori low (constantI S128x128 1 1#1)
def same (x : Tile) : Tile := shapeCast S128x128 x shapeCasts_S128x128_S128x128
def zeros : Tile := broadcast S128x128 (Scalar.ofBits .bf16 0x0000#16)
def turn (x : Tile) : Tile := dynamicRotate 1 64#32 none x rotates_S128x128_d1
/-- An eighth of a tile. -/
def eighth (x : Tile) : Tile := mulf (same x) (broadcast S128x128 (Scalar.ofBits .bf16 0x3E00#16))
/-- The even head's half of an eighth of a tile, and the odd head's. -/
def evenQ (x : Tile) : Tile := select low (eighth x) zeros
def oddQ (x : Tile) : Tile := select high (eighth x) zeros
/-- The even head's half of a tile, and the odd head's. -/
def evenD (x : Tile) : Tile := select low (same x) zeros
def oddD (x : Tile) : Tile := select high (same x) zeros

/-- Head 0's lanes in both halves, in the low half only, in the high half only. -/
def both0 (x : Tile) : Tile := select low (same x) (turn (same x))
def lo0 (x : Tile) : Tile := select low (same x) zeros
def hi0 (x : Tile) : Tile := select low zeros (turn (same x))
/-- Head 1's lanes in both halves, in the low half only, in the high half only. -/
def both1 (x : Tile) : Tile := select low (turn (same x)) (same x)
def lo1 (x : Tile) : Tile := select low (turn (same x)) zeros
def hi1 (x : Tile) : Tile := select low zeros (same x)

/-! ## The stacked heads -/

def stackQ (x0 x1 x2 x3 : Tile) : FVec Ideal S1024x128 .bf16 :=
  concatenate S1024x128 0 [⟨S128x128, evenQ x0⟩, ⟨S128x128, oddQ x0⟩, ⟨S128x128, evenQ x1⟩, ⟨S128x128, oddQ x1⟩,
    ⟨S128x128, evenQ x2⟩, ⟨S128x128, oddQ x2⟩, ⟨S128x128, evenQ x3⟩, ⟨S128x128, oddQ x3⟩]
    concatenates_S128x128_S128x128_S128x128_S128x128_S128x128_S128x128_S128x128_S128x128_S1024x128_d0
def stackD (x0 x1 x2 x3 : Tile) : FVec Ideal S1024x128 .bf16 :=
  concatenate S1024x128 0 [⟨S128x128, evenD x0⟩, ⟨S128x128, oddD x0⟩, ⟨S128x128, evenD x1⟩, ⟨S128x128, oddD x1⟩,
    ⟨S128x128, evenD x2⟩, ⟨S128x128, oddD x2⟩, ⟨S128x128, evenD x3⟩, ⟨S128x128, oddD x3⟩]
    concatenates_S128x128_S128x128_S128x128_S128x128_S128x128_S128x128_S128x128_S128x128_S1024x128_d0

/-- A bias times one head's slope. -/
def slopeOf (w : BitVec 32) (b : FVec Ideal S128x128 .f32) : FVec Ideal S128x128 .f32 :=
  mulf (broadcast S128x128 (Scalar.ofBits (F := Ideal) .f32 w)) b
def stackB (w : Fin 8 → BitVec 32) (b : FVec Ideal S128x128 .f32) : Stack :=
  concatenate S1024x128 0 [⟨S128x128, slopeOf (w 0) b⟩, ⟨S128x128, slopeOf (w 1) b⟩, ⟨S128x128, slopeOf (w 2) b⟩,
    ⟨S128x128, slopeOf (w 3) b⟩, ⟨S128x128, slopeOf (w 4) b⟩, ⟨S128x128, slopeOf (w 5) b⟩, ⟨S128x128, slopeOf (w 6) b⟩,
    ⟨S128x128, slopeOf (w 7) b⟩]
    concatenates_S128x128_S128x128_S128x128_S128x128_S128x128_S128x128_S128x128_S128x128_S1024x128_d0
/-- The float words of the slopes of key/value head 0's eight query heads, and of head 1's. -/
def words0 : Fin 8 → BitVec 32 := ![0x3F3504F3#32, 0x3F000000#32, 0x3EB504F3#32, 0x3E800000#32, 0x3E3504F3#32, 0x3E000000#32, 0x3DB504F3#32, 0x3D800000#32]
def words1 : Fin 8 → BitVec 32 := ![0x3D3504F3#32, 0x3D000000#32, 0x3CB504F3#32, 0x3C800000#32, 0x3C3504F3#32, 0x3C000000#32, 0x3BB504F3#32, 0x3B800000#32]

/-- Rows below a bound take one column, the others a constant. -/
def below (w : BitVec 32) (x : Col) (z : EReal) : Col :=
  select (cmpi .slt (iota .tc S1024x1 32 [0] iota_S1024x1_d0_w32) (broadcast S1024x1 w)) x (broadcast S1024x1 z)
/-- Each stacked row's sink. -/
def sinkCol (z : Fin 8 → EReal) : Col :=
  below 896#32 (below 768#32 (below 640#32 (below 512#32 (below 384#32 (below 256#32 (below 128#32 (broadcast S1024x1 (z 0)) (z 1)) (z 2)) (z 3)) (z 4)) (z 5)) (z 6)) (z 7)

/-! ## One key/value head -/

/-- What the softmax and its gradient are computed from: the stacked queries and cotangents, the previous and
    the current block's keys and values, the two biases, the sinks. -/
structure Head where
  q : FVec Ideal S1024x128 .bf16
  d : FVec Ideal S1024x128 .bf16
  kp : Tile
  kc : Tile
  vp : Tile
  vc : Tile
  bp : Stack
  bc : Stack
  z : Col

def dotT (a : FVec Ideal S1024x128 .bf16) (b : Tile) : Stack :=
  matmul dot_S1024x128_S128x128_S1024x128_1_1_0_0_n_n none a b (constant S1024x128 .f32 0x00000000#32)
def rowMax (x : Stack) : Col := shapeCast S1024x1 (multiReduction .maximumf [1] S1024 x 0xFF800000#32 reduces_S1024x128_S1024 (.inl rfl) rfl) shapeCasts_S1024_S1024x1
def rowSum (x : Stack) : Col := shapeCast S1024x1 (multiReduction .add [1] S1024 x 0x00000000#32 reduces_S1024x128_S1024 (.inl rfl) rfl) shapeCasts_S1024_S1024x1
def wide (x : Col) : Stack := broadcastTo S1024x128 x broadcasts_S1024x1_S1024x128

namespace Head

variable (H : Head)

def sp : Stack := addf (dotT H.q H.kp) H.bp
def sc : Stack := addf (dotT H.q H.kc) H.bc
def mx : Col := maximumf (maximumf (rowMax H.sp) (rowMax H.sc)) H.z
def ep : Stack := exp (subf H.sp (wide H.mx))
def ec : Stack := exp (subf H.sc (wide H.mx))
def es : Col := exp (subf H.z H.mx)
def tot : Col := addf (addf (rowSum H.ep) (rowSum H.ec)) H.es
def inv : Col := divf (broadcast S1024x1 (Scalar.ofBits (F := Ideal) .f32 0x3F800000#32)) H.tot
def pp : Stack := mulf H.ep (wide H.inv)
def pc : Stack := mulf H.ec (wide H.inv)
def yp : Stack := dotT H.d H.vp
def yc : Stack := dotT H.d H.vc
def dl : Col := addf (rowSum (mulf H.pp H.yp)) (rowSum (mulf H.pc H.yc))
def dsp : FVec Ideal S1024x128 .bf16 := truncf .bf16 (mulf H.pp (subf H.yp (wide H.dl))) bitsLt_bf16_f32
def dsc : FVec Ideal S1024x128 .bf16 := truncf .bf16 (mulf H.pc (subf H.yc (wide H.dl))) bitsLt_bf16_f32
def st : Col := mulf (mulf H.es H.inv) H.dl

end Head

/-! ## What is stored -/

def dotN (a b : Tile) : FVec Ideal S128x128 .f32 :=
  matmul dot_S128x128_S128x128_S128x128_1_0_0_1_n_n none a b (constant S128x128 .f32 0x00000000#32)
/-- A pair of heads' gradient of the queries. -/
def pair (a a' b b' kl kl' kh kh' : Tile) : Tile :=
  truncf .bf16 (mulf (addf (addf (addf (dotN a kl) (dotN a' kl')) (dotN b kh)) (dotN b' kh')) (broadcast S128x128 (Scalar.ofBits (F := Ideal) .f32 0x3E000000#32))) bitsLt_bf16_f32

/-- A stacked product's two halves added, each in both halves of the lanes. -/
def fold (a b : FVec Ideal S1024x128 .bf16) : FVec Ideal S128x128 .f32 :=
  let s := addf (broadcast S128x128 (Scalar.ofBits (F := Ideal) .f32 0x00000000#32)) (matmul dot_S1024x128_S1024x128_S128x128_0_0_1_1_n_n none a b (constant S128x128 .f32 0x00000000#32))
  addf s (dynamicRotate 1 64#32 none s rotates_S128x128_d1)

/-- Keys' and values' gradients of both heads side by side. -/
def beside (k0 k1 v0 v1 : FVec Ideal S128x128 .f32) : FVec Ideal S128x256 .f32 :=
  concatenate S128x256 1 [⟨S128x128, select low k0 k1⟩, ⟨S128x128, select low v0 v1⟩] concatenates_S128x128_S128x128_S128x256_d1
def prevKv (H K : Head) : FVec Ideal S128x256 .f32 :=
  beside (fold H.dsp H.q) (fold K.dsp K.q) (fold (truncf .bf16 H.pp bitsLt_bf16_f32) H.d) (fold (truncf .bf16 K.pp bitsLt_bf16_f32) K.d)
def curKv (H K : Head) : FVec Ideal S128x256 .f32 :=
  beside (fold H.dsc H.q) (fold K.dsc K.q) (fold (truncf .bf16 H.pc bitsLt_bf16_f32) H.d) (fold (truncf .bf16 K.pc bitsLt_bf16_f32) K.d)

/-- One head's sum, subtracted from zero, in the lane of its number. -/
def lane (w : BitVec 32) (x : FVec Ideal S128x1 .f32) (acc : FVec Ideal S1x128 .f32) : FVec Ideal S1x128 .f32 :=
  addf acc (select (cmpi .eq (iota .tc S1x128 32 [1] iota_S1x128_d1_w32) (broadcast S1x128 w))
    (broadcastTo S1x128 (shapeCast S1x1 (subf (broadcast S1x1 (Scalar.ofBits (F := Ideal) .f32 0x00000000#32))
      (shapeCast S1x1 (multiReduction .add [0] S1 x 0x00000000#32 reduces_S128x1_S1 (.inl rfl) rfl) shapeCasts_S1_S1x1)) shapeCasts_S1x1_S1x1) broadcasts_S1x1_S1x128)
    (broadcast S1x128 (Scalar.ofBits (F := Ideal) .f32 0x00000000#32)))

def rows0 (x : Col) : FVec Ideal S128x1 .f32 := extractStridedSlice S128x1 ![0, 0] x slices_S1024x1_o0_0_S128x1
def rows1 (x : Col) : FVec Ideal S128x1 .f32 := extractStridedSlice S128x1 ![128, 0] x slices_S1024x1_o128_0_S128x1
def rows2 (x : Col) : FVec Ideal S128x1 .f32 := extractStridedSlice S128x1 ![256, 0] x slices_S1024x1_o256_0_S128x1
def rows3 (x : Col) : FVec Ideal S128x1 .f32 := extractStridedSlice S128x1 ![384, 0] x slices_S1024x1_o384_0_S128x1
def rows4 (x : Col) : FVec Ideal S128x1 .f32 := extractStridedSlice S128x1 ![512, 0] x slices_S1024x1_o512_0_S128x1
def rows5 (x : Col) : FVec Ideal S128x1 .f32 := extractStridedSlice S128x1 ![640, 0] x slices_S1024x1_o640_0_S128x1
def rows6 (x : Col) : FVec Ideal S128x1 .f32 := extractStridedSlice S128x1 ![768, 0] x slices_S1024x1_o768_0_S128x1
def rows7 (x : Col) : FVec Ideal S128x1 .f32 := extractStridedSlice S128x1 ![896, 0] x slices_S1024x1_o896_0_S128x1

/-- The sums of eight heads' rows, in the lanes of their numbers. -/
def lanes (w : Fin 8 → BitVec 32) (x : Col) (acc : FVec Ideal S1x128 .f32) : FVec Ideal S1x128 .f32 :=
  lane (w 7) (rows7 x) (lane (w 6) (rows6 x) (lane (w 5) (rows5 x) (lane (w 4) (rows4 x) (lane (w 3) (rows3 x) (lane (w 2) (rows2 x)
    (lane (w 1) (rows1 x) (lane (w 0) (rows0 x) acc)))))))
def numbers0 : Fin 8 → BitVec 32 := ![0#32, 1#32, 2#32, 3#32, 4#32, 5#32, 6#32, 7#32]
def numbers1 : Fin 8 → BitVec 32 := ![8#32, 9#32, 10#32, 11#32, 12#32, 13#32, 14#32, 15#32]
def sinkGrad (H K : Head) : FVec Ideal S1x128 .f32 :=
  lanes numbers1 K.st (lanes numbers0 H.st (broadcast S1x128 (Scalar.ofBits (F := Ideal) .f32 0x00000000#32)))

/-! ## The heads of a point -/

abbrev ldz (z : Vec Ideal S16 .f32) : Fin 16 → EReal :=
  ![View.ld z (Rect.unit ![0] ![1] inb_S16_S1_0) (Shape.Idx.first (by decide)), View.ld z (Rect.unit ![1] ![1] inb_S16_S1_1) (Shape.Idx.first (by decide)),
    View.ld z (Rect.unit ![2] ![1] inb_S16_S1_2) (Shape.Idx.first (by decide)), View.ld z (Rect.unit ![3] ![1] inb_S16_S1_3) (Shape.Idx.first (by decide)),
    View.ld z (Rect.unit ![4] ![1] inb_S16_S1_4) (Shape.Idx.first (by decide)), View.ld z (Rect.unit ![5] ![1] inb_S16_S1_5) (Shape.Idx.first (by decide)),
    View.ld z (Rect.unit ![6] ![1] inb_S16_S1_6) (Shape.Idx.first (by decide)), View.ld z (Rect.unit ![7] ![1] inb_S16_S1_7) (Shape.Idx.first (by decide)),
    View.ld z (Rect.unit ![8] ![1] inb_S16_S1_8) (Shape.Idx.first (by decide)), View.ld z (Rect.unit ![9] ![1] inb_S16_S1_9) (Shape.Idx.first (by decide)),
    View.ld z (Rect.unit ![10] ![1] inb_S16_S1_10) (Shape.Idx.first (by decide)), View.ld z (Rect.unit ![11] ![1] inb_S16_S1_11) (Shape.Idx.first (by decide)),
    View.ld z (Rect.unit ![12] ![1] inb_S16_S1_12) (Shape.Idx.first (by decide)), View.ld z (Rect.unit ![13] ![1] inb_S16_S1_13) (Shape.Idx.first (by decide)),
    View.ld z (Rect.unit ![14] ![1] inb_S16_S1_14) (Shape.Idx.first (by decide)), View.ld z (Rect.unit ![15] ![1] inb_S16_S1_15) (Shape.Idx.first (by decide))]
abbrev ldq (x : Vec Ideal S128x1024 .bf16) : Fin 8 → Tile :=
  ![View.ld x (Rect.unit ![0, 0] ![128, 128] inb_S128x1024_S128x128_0_0), View.ld x (Rect.unit ![0, 128] ![128, 128] inb_S128x1024_S128x128_0_128),
    View.ld x (Rect.unit ![0, 256] ![128, 128] inb_S128x1024_S128x128_0_256), View.ld x (Rect.unit ![0, 384] ![128, 128] inb_S128x1024_S128x128_0_384),
    View.ld x (Rect.unit ![0, 512] ![128, 128] inb_S128x1024_S128x128_0_512), View.ld x (Rect.unit ![0, 640] ![128, 128] inb_S128x1024_S128x128_0_640),
    View.ld x (Rect.unit ![0, 768] ![128, 128] inb_S128x1024_S128x128_0_768), View.ld x (Rect.unit ![0, 896] ![128, 128] inb_S128x1024_S128x128_0_896)]
abbrev ldk (x : Vec Ideal S128x256 .bf16) : Tile := View.ld x (Rect.unit ![0, 0] ![128, 128] inb_S128x256_S128x128_0_0)
abbrev ldv (x : Vec Ideal S128x256 .bf16) : Tile := View.ld x (Rect.unit ![0, 128] ![128, 128] inb_S128x256_S128x128_0_128)

/-- The heads of the point whose number is `w`. -/
def head0 (w : BitVec 32) (z : Vec Ideal S16 .f32) (q : Vec Ideal S128x1024 .bf16) (p n : Vec Ideal S128x256 .bf16) (d : Vec Ideal S128x1024 .bf16) : Head where
  q := stackQ (ldq q 0) (ldq q 1) (ldq q 2) (ldq q 3)
  d := stackD (ldq d 0) (ldq d 1) (ldq d 2) (ldq d 3)
  kp := both0 (ldk p)
  kc := both0 (ldk n)
  vp := both0 (ldv p)
  vc := both0 (ldv n)
  bp := stackB words0 (k0_pay5 w)
  bc := stackB words0 k0_pay6
  z := sinkCol ![ldz z 0, ldz z 1, ldz z 2, ldz z 3, ldz z 4, ldz z 5, ldz z 6, ldz z 7]
def head1 (w : BitVec 32) (z : Vec Ideal S16 .f32) (q : Vec Ideal S128x1024 .bf16) (p n : Vec Ideal S128x256 .bf16) (d : Vec Ideal S128x1024 .bf16) : Head where
  q := stackQ (ldq q 4) (ldq q 5) (ldq q 6) (ldq q 7)
  d := stackD (ldq d 4) (ldq d 5) (ldq d 6) (ldq d 7)
  kp := both1 (ldk p)
  kc := both1 (ldk n)
  vp := both1 (ldv p)
  vc := both1 (ldv n)
  bp := stackB words1 (k0_pay5 w)
  bc := stackB words1 k0_pay6
  z := sinkCol ![ldz z 8, ldz z 9, ldz z 10, ldz z 11, ldz z 12, ldz z 13, ldz z 14, ldz z 15]

/-! ## What a point leaves -/

def part0 (x : FVec Ideal S1024x128 .bf16) : Tile := extractStridedSlice S128x128 ![0, 0] x slices_S1024x128_o0_0_S128x128
def part1 (x : FVec Ideal S1024x128 .bf16) : Tile := extractStridedSlice S128x128 ![128, 0] x slices_S1024x128_o128_0_S128x128
def part2 (x : FVec Ideal S1024x128 .bf16) : Tile := extractStridedSlice S128x128 ![256, 0] x slices_S1024x128_o256_0_S128x128
def part3 (x : FVec Ideal S1024x128 .bf16) : Tile := extractStridedSlice S128x128 ![384, 0] x slices_S1024x128_o384_0_S128x128
def part4 (x : FVec Ideal S1024x128 .bf16) : Tile := extractStridedSlice S128x128 ![512, 0] x slices_S1024x128_o512_0_S128x128
def part5 (x : FVec Ideal S1024x128 .bf16) : Tile := extractStridedSlice S128x128 ![640, 0] x slices_S1024x128_o640_0_S128x128
def part6 (x : FVec Ideal S1024x128 .bf16) : Tile := extractStridedSlice S128x128 ![768, 0] x slices_S1024x128_o768_0_S128x128
def part7 (x : FVec Ideal S1024x128 .bf16) : Tile := extractStridedSlice S128x128 ![896, 0] x slices_S1024x128_o896_0_S128x128

/-- The queries' gradient of a point, one pair of heads beside another. -/
def dqTile (H K : Head) (p n : Vec Ideal S128x256 .bf16) : Vec Ideal S128x1024 .bf16 :=
  View.canon [⟨Rect.unit ![0, 896] ![128, 128] inb_S128x1024_S128x128_0_896, pair (part6 K.dsp) (part6 K.dsc) (part7 K.dsp) (part7 K.dsc) (lo1 (ldk p)) (lo1 (ldk n)) (hi1 (ldk p)) (hi1 (ldk n))⟩,
    ⟨Rect.unit ![0, 768] ![128, 128] inb_S128x1024_S128x128_0_768, pair (part4 K.dsp) (part4 K.dsc) (part5 K.dsp) (part5 K.dsc) (lo1 (ldk p)) (lo1 (ldk n)) (hi1 (ldk p)) (hi1 (ldk n))⟩,
    ⟨Rect.unit ![0, 640] ![128, 128] inb_S128x1024_S128x128_0_640, pair (part2 K.dsp) (part2 K.dsc) (part3 K.dsp) (part3 K.dsc) (lo1 (ldk p)) (lo1 (ldk n)) (hi1 (ldk p)) (hi1 (ldk n))⟩,
    ⟨Rect.unit ![0, 512] ![128, 128] inb_S128x1024_S128x128_0_512, pair (part0 K.dsp) (part0 K.dsc) (part1 K.dsp) (part1 K.dsc) (lo1 (ldk p)) (lo1 (ldk n)) (hi1 (ldk p)) (hi1 (ldk n))⟩,
    ⟨Rect.unit ![0, 384] ![128, 128] inb_S128x1024_S128x128_0_384, pair (part6 H.dsp) (part6 H.dsc) (part7 H.dsp) (part7 H.dsc) (lo0 (ldk p)) (lo0 (ldk n)) (hi0 (ldk p)) (hi0 (ldk n))⟩,
    ⟨Rect.unit ![0, 256] ![128, 128] inb_S128x1024_S128x128_0_256, pair (part4 H.dsp) (part4 H.dsc) (part5 H.dsp) (part5 H.dsc) (lo0 (ldk p)) (lo0 (ldk n)) (hi0 (ldk p)) (hi0 (ldk n))⟩,
    ⟨Rect.unit ![0, 128] ![128, 128] inb_S128x1024_S128x128_0_128, pair (part2 H.dsp) (part2 H.dsc) (part3 H.dsp) (part3 H.dsc) (lo0 (ldk p)) (lo0 (ldk n)) (hi0 (ldk p)) (hi0 (ldk n))⟩,
    ⟨Rect.unit ![0, 0] ![128, 128] inb_S128x1024_S128x128_0_0, pair (part0 H.dsp) (part0 H.dsc) (part1 H.dsp) (part1 H.dsc) (lo0 (ldk p)) (lo0 (ldk n)) (hi0 (ldk p)) (hi0 (ldk n))⟩]

variable (m : (ℓ : Loc nD τ sig) → Buf (Elt Ideal) ℓ) (c : Dev nD) (t : Fin cfg0.N)

/-- The two key/value heads of a point. -/
def at0 : Head := head0 (BitVec.ofNat 32 ↑(grid0.coords t 0)) (iblk m c 0 t) (iblk m c 1 t) (iblk m c 2 t) (iblk m c 3 t) (iblk m c 4 t)
def at1 : Head := head1 (BitVec.ofNat 32 ↑(grid0.coords t 0)) (iblk m c 0 t) (iblk m c 1 t) (iblk m c 2 t) (iblk m c 3 t) (iblk m c 4 t)

/-- What a point below the last leaves: the queries' gradient, the previous block's keys' and values' gradients
    completed, the sinks' sum, and the current block's gradients carried on. -/
def leaves (s : FVec Ideal S1x128 .f32) (x : FVec Ideal S128x256 .f32) : Left Ideal :=
  (dqTile (at0 m c t) (at1 m c t) (iblk m c 2 t) (iblk m c 3 t),
    truncf .bf16 (addf x (prevKv (at0 m c t) (at1 m c t))) bitsLt_bf16_f32,
    addf (shapeCast S1x128 s shapeCasts_S1x128_S1x128) (sinkGrad (at0 m c t) (at1 m c t)),
    shapeCast S128x256 (curKv (at0 m c t) (at1 m c t)) shapeCasts_S128x256_S128x256)

theorem b5_eq (p : Left Ideal) (h : t.val ≠ 0) (h' : t.val < 32) : View.canon (atB m c t p.2.2.1 p.2.2.2 h h').1 = (leaves m c t p.2.2.1 p.2.2.2).1 := by
  dsimp only [atB]
  unfold runB
  dsimp only
  frame_out
  sl_kernel_rfl

theorem b6_eq (p : Left Ideal) (h : t.val ≠ 0) (h' : t.val < 32) : View.canon (atB m c t p.2.2.1 p.2.2.2 h h').2.1 = (leaves m c t p.2.2.1 p.2.2.2).2.1 := by
  dsimp only [atB]
  unfold runB
  dsimp only
  frame_out
  rw [read_unread_whole]
  sl_kernel_rfl

theorem b7_eq (p : Left Ideal) (h : t.val ≠ 0) (h' : t.val < 32) : View.canon (atB m c t p.2.2.1 p.2.2.2 h h').2.2.1 = (leaves m c t p.2.2.1 p.2.2.2).2.2.1 := by
  dsimp only [atB]
  unfold runB
  dsimp only
  frame_out
  sl_kernel_rfl

theorem b9_eq (p : Left Ideal) (h : t.val ≠ 0) (h' : t.val < 32) : View.canon (atB m c t p.2.2.1 p.2.2.2 h h').2.2.2.1 = (leaves m c t p.2.2.1 p.2.2.2).2.2.2 := by
  dsimp only [atB]
  unfold runB
  dsimp only
  frame_out
  sl_kernel_rfl

theorem a5_eq (h : t.val = 0) : View.canon (atA m c t h).1 = (leaves m c t k0_pay2 k0_pay1).1 := by
  dsimp only [atA]
  unfold runA
  dsimp only
  frame_out
  sl_kernel_rfl

theorem a6_eq (h : t.val = 0) : View.canon (atA m c t h).2.1 = (leaves m c t k0_pay2 k0_pay1).2.1 := by
  dsimp only [atA]
  unfold runA
  dsimp only
  frame_out
  sl_kernel_rfl

theorem a7_eq (h : t.val = 0) : View.canon (atA m c t h).2.2.1 = (leaves m c t k0_pay2 k0_pay1).2.2.1 := by
  dsimp only [atA]
  unfold runA
  dsimp only
  frame_out
  sl_kernel_rfl

theorem a9_eq (h : t.val = 0) : View.canon (atA m c t h).2.2.2.1 = (leaves m c t k0_pay2 k0_pay1).2.2.2 := by
  dsimp only [atA]
  unfold runA
  dsimp only
  frame_out
  sl_kernel_rfl

theorem c6_eq (p : Left Ideal) (h : t.val = 32) : View.canon (atC m c t p.1 p.2.2.1 p.2.2.2 h).1 = k0_pay3 p.2.2.2 := by
  dsimp only [atC]
  unfold runC
  dsimp only
  frame_out
  rw [read_unread_whole]

theorem leftB_eq (p : Left Ideal) (h : t.val ≠ 0) (h' : t.val < 32) : leftB m c t p h h' = leaves m c t p.2.2.1 p.2.2.2 := by
  unfold leftB
  rw [b5_eq, b6_eq, b7_eq, b9_eq]

theorem leftA_eq (h : t.val = 0) : leftA m c t h = leaves m c t k0_pay2 k0_pay1 := by
  unfold leftA
  rw [a5_eq, a6_eq, a7_eq, a9_eq]

theorem leftC_eq (p : Left Ideal) (h : t.val = 32) : leftC m c t p h = (p.1, k0_pay3 p.2.2.2, p.2.2.1, p.2.2.2) := by
  unfold leftC
  rw [c6_eq]

end Cert.AttnGradIdeal.Stage
-- ==== Proof.AttnSpec.lean ====
/-
  The gradient of the windowed attention with sinks over the real numbers: one row's softmax and its gradient,
  one block of queries against its band of two blocks of keys, and the whole sequence.
-/
module

public import proofs.«01_k».proof.Proof.RealLaws

@[expose] public section

noncomputable section

namespace Cert.Step.Attn

open Idealize.ShloMosaic

/-! ## One row -/

section Row

variable (p : Fin 256 → Prop) [DecidablePred p] (x y : Fin 256 → ℝ) (k : ℝ)

/-- The weight of a key: the exponential of its score where the key is visible. -/
def wt (s : Fin 256) : ℝ := if p s then Real.exp (x s) else 0
/-- The weights' sum, with the sink's. -/
def tot : ℝ := ∑ s, wt p x s + Real.exp k
def prob (s : Fin 256) : ℝ := wt p x s / tot p x k
/-- The sink's probability. -/
def psink : ℝ := Real.exp k / tot p x k
/-- The probabilities' mean of the cotangent's products with the values. -/
def dlt : ℝ := ∑ s, prob p x k s * y s
/-- The gradient of a score. -/
def ds (s : Fin 256) : ℝ := prob p x k s * (y s - dlt p x y k)

theorem wt_nonneg (s : Fin 256) : 0 ≤ wt p x s := by
  unfold wt; split
  · exact (Real.exp_pos _).le
  · exact le_rfl

theorem tot_pos : 0 < tot p x k := add_pos_of_nonneg_of_pos (Finset.sum_nonneg fun s _ => wt_nonneg p x s) (Real.exp_pos _)

variable {p x y k} {x' y' : Fin 256 → ℝ}

theorem wt_congr (h : ∀ s, p s → x s = x' s) : wt p x = wt p x' := by
  funext s; unfold wt; split
  · rw [h s ‹_›]
  · rfl

theorem prob_congr (h : ∀ s, p s → x s = x' s) : prob p x k = prob p x' k := by
  funext s; unfold prob tot; rw [wt_congr h]

theorem prob_hidden {s : Fin 256} (h : ¬ p s) : prob p x k s = 0 := by
  unfold prob wt; rw [if_neg h, zero_div]

theorem ds_hidden {s : Fin 256} (h : ¬ p s) : ds p x y k s = 0 := by
  unfold ds; rw [prob_hidden h, zero_mul]

theorem dlt_congr (h : ∀ s, p s → x s = x' s) (hy : ∀ s, p s → y s = y' s) : dlt p x y k = dlt p x' y' k := by
  unfold dlt
  refine Finset.sum_congr rfl fun s _ => ?_
  by_cases hs : p s
  · rw [prob_congr h, hy s hs]
  · rw [prob_hidden hs, prob_hidden hs, zero_mul, zero_mul]

theorem ds_congr (h : ∀ s, p s → x s = x' s) (hy : ∀ s, p s → y s = y' s) : ds p x y k = ds p x' y' k := by
  funext s
  by_cases hs : p s
  · unfold ds; rw [prob_congr h, dlt_congr h hy, hy s hs]
  · rw [ds_hidden hs, ds_hidden hs]

theorem psink_congr (h : ∀ s, p s → x s = x' s) : psink p x k = psink p x' k := by
  unfold psink tot; rw [wt_congr h]

end Row

/-! ## One block of queries -/

/-- A key of the band is visible from a query: at most 128 places before it, and in the sequence. -/
def ok (n : ℕ) (i : Fin 128) (s : Fin 256) : Prop := i.val < s.val ∧ s.val ≤ i.val + 128 ∧ (n = 0 → 128 ≤ s.val)

instance (n : ℕ) (i : Fin 128) : DecidablePred (ok n i) := fun s => by unfold ok; infer_instance

/-- The column of a query head's coordinate, of a key's, of a value's; the query head's number. -/
abbrev qcol (g : Fin 2) (h : Fin 8) (d : Fin 64) : Fin 1024 := ⟨(g.val * 8 + h.val) * 64 + d.val, by omega⟩
abbrev kcol (g : Fin 2) (d : Fin 64) : Fin 256 := ⟨g.val * 64 + d.val, by omega⟩
abbrev vcol (g : Fin 2) (d : Fin 64) : Fin 256 := ⟨128 + (g.val * 64 + d.val), by omega⟩
abbrev num (g : Fin 2) (h : Fin 8) : Fin 16 := ⟨g.val * 8 + h.val, by omega⟩

/-- The float words of the slopes of the sixteen query heads, and the slopes. -/
def words : Fin 2 → Fin 8 → BitVec 32 :=
  ![![0x3F3504F3#32, 0x3F000000#32, 0x3EB504F3#32, 0x3E800000#32, 0x3E3504F3#32, 0x3E000000#32, 0x3DB504F3#32, 0x3D800000#32],
    ![0x3D3504F3#32, 0x3D000000#32, 0x3CB504F3#32, 0x3C800000#32, 0x3C3504F3#32, 0x3C000000#32, 0x3BB504F3#32, 0x3B800000#32]]
def slope (g : Fin 2) (h : Fin 8) : ℝ := (if h.val % 2 = 0 then 11863283 / 2 ^ 24 else 1 / 2) / 2 ^ (g.val * 4 + h.val / 2)

theorem slope_pos (g : Fin 2) (h : Fin 8) : 0 < slope g h := by
  unfold slope; split <;> positivity

theorem lit_slope (g : Fin 2) (h : Fin 8) : Ideal.ofBits .f32 (words g h) = ((slope g h : ℝ) : EReal) := by
  fin_cases g <;> fin_cases h <;> simp [words, slope, Ideal.ofBits, Ideal.ieee, -EReal.coe_mul] <;> norm_num

section Block

variable (n : ℕ) (q e : Fin 128 → Fin 1024 → ℝ) (kv : Fin 256 → Fin 256 → ℝ) (z : Fin 16 → ℝ)

/-- A query's distance from a key of the band. -/
def dist (i : Fin 128) (s : Fin 256) : ℝ := (i.val : ℝ) + 128 - (s.val : ℝ)
/-- A score. -/
def sco (g : Fin 2) (h : Fin 8) (i : Fin 128) (s : Fin 256) : ℝ :=
  (∑ d, q i (qcol g h d) * kv s (kcol g d)) / 8 - slope g h * dist i s
/-- The cotangent's product with a value. -/
def ctv (g : Fin 2) (h : Fin 8) (i : Fin 128) (s : Fin 256) : ℝ := ∑ d, e i (qcol g h d) * kv s (vcol g d)

def P (g : Fin 2) (h : Fin 8) (i : Fin 128) : Fin 256 → ℝ := prob (ok n i) (sco q kv g h i) (z (num g h))
def dS (g : Fin 2) (h : Fin 8) (i : Fin 128) : Fin 256 → ℝ := ds (ok n i) (sco q kv g h i) (ctv e kv g h i) (z (num g h))
/-- The block's gradients: of the queries, of the band's keys and values, of the sinks. -/
def dQ (g : Fin 2) (h : Fin 8) (i : Fin 128) (d : Fin 64) : ℝ := (∑ s, dS n q e kv z g h i s * kv s (kcol g d)) / 8
def dK (g : Fin 2) (s : Fin 256) (d : Fin 64) : ℝ := ∑ h : Fin 8, ∑ i : Fin 128, dS n q e kv z g h i s * (q i (qcol g h d) / 8)
def dV (g : Fin 2) (s : Fin 256) (d : Fin 64) : ℝ := ∑ h : Fin 8, ∑ i : Fin 128, P n q kv z g h i s * e i (qcol g h d)
def dZ (g : Fin 2) (h : Fin 8) : ℝ :=
  ∑ i : Fin 128, psink (ok n i) (sco q kv g h i) (z (num g h)) * dlt (ok n i) (sco q kv g h i) (ctv e kv g h i) (z (num g h))

/-! Only the visible keys count: a band may hold anything before the sequence's first row. -/

variable {n q e kv z} {kv' : Fin 256 → Fin 256 → ℝ} (hk : ∀ s : Fin 256, (n = 0 → 128 ≤ s.val) → kv s = kv' s)

include hk in
theorem sco_congr (g : Fin 2) (h : Fin 8) (i : Fin 128) (s : Fin 256) (hs : ok n i s) : sco q kv g h i s = sco q kv' g h i s := by
  unfold sco; rw [hk s hs.2.2]

include hk in
theorem ctv_congr (g : Fin 2) (h : Fin 8) (i : Fin 128) (s : Fin 256) (hs : ok n i s) : ctv e kv g h i s = ctv e kv' g h i s := by
  unfold ctv; rw [hk s hs.2.2]

include hk in
theorem P_congr : P n q kv z = P n q kv' z := by
  funext g h i; exact prob_congr (sco_congr hk g h i)

include hk in
theorem dS_congr : dS n q e kv z = dS n q e kv' z := by
  funext g h i; exact ds_congr (sco_congr hk g h i) (ctv_congr hk g h i)

include hk in
theorem dQ_congr : dQ n q e kv z = dQ n q e kv' z := by
  funext g h i d
  unfold dQ
  rw [dS_congr hk]
  refine congrArg (· / 8) (Finset.sum_congr rfl fun s _ => ?_)
  by_cases hs : ok n i s
  · rw [hk s hs.2.2]
  · unfold dS; rw [ds_hidden hs, zero_mul, zero_mul]

include hk in
theorem dK_congr : dK n q e kv z = dK n q e kv' z := by
  unfold dK; rw [dS_congr hk]

include hk in
theorem dV_congr : dV n q e kv z = dV n q e kv' z := by
  unfold dV; rw [P_congr hk]

include hk in
theorem dZ_congr : dZ n q e kv z = dZ n q e kv' z := by
  funext g h
  unfold dZ
  refine Finset.sum_congr rfl fun i _ => ?_
  rw [psink_congr (sco_congr hk g h i), dlt_congr (sco_congr hk g h i) (ctv_congr hk g h i)]

/-- A key hidden from every query takes no gradient. -/
theorem dK_hidden {g : Fin 2} {s : Fin 256} {d : Fin 64} (h0 : n = 0) (hs : s.val < 128) : dK n q e kv z g s d = 0 := by
  unfold dK dS
  refine Finset.sum_eq_zero fun h _ => Finset.sum_eq_zero fun i _ => ?_
  rw [ds_hidden (fun hh => absurd (hh.2.2 h0) (by omega)), zero_mul]

theorem dV_hidden {g : Fin 2} {s : Fin 256} {d : Fin 64} (h0 : n = 0) (hs : s.val < 128) : dV n q e kv z g s d = 0 := by
  unfold dV P
  refine Finset.sum_eq_zero fun h _ => Finset.sum_eq_zero fun i _ => ?_
  rw [prob_hidden (fun hh => absurd (hh.2.2 h0) (by omega)), zero_mul]

end Block

/-! ## The whole sequence -/

/-- A row of a block of the sequence. -/
abbrev srow (n : Fin 32) (i : Fin 128) : Fin 4096 := ⟨n.val * 128 + i.val, by omega⟩

section Whole

variable (q e : Fin 4096 → Fin 1024 → ℝ) (kv : Fin 4096 → Fin 256 → ℝ) (z : Fin 16 → ℝ)

def blkQ (n : Fin 32) : Fin 128 → Fin 1024 → ℝ := fun i => q (srow n i)
/-- The band of a block: the rows of the previous block, then the block's own; the first block's begins with its own. -/
def band (n : Fin 32) : Fin 256 → Fin 256 → ℝ := fun s => kv ⟨(n.val - 1 + if n.val = 0 then 0 else s.val / 128) * 128 + s.val % 128, by
  have := s.isLt; have := n.isLt; split <;> omega⟩

def dq (n : Fin 32) := dQ n.val (blkQ q n) (blkQ e n) (band kv n) z
def dk (n : Fin 32) := dK n.val (blkQ q n) (blkQ e n) (band kv n) z
def dv (n : Fin 32) := dV n.val (blkQ q n) (blkQ e n) (band kv n) z
def dz (n : Fin 32) := dZ n.val (blkQ q n) (blkQ e n) (band kv n) z

abbrev own (j : Fin 128) : Fin 256 := ⟨128 + j.val, by omega⟩
abbrev old (j : Fin 128) : Fin 256 := ⟨j.val, by omega⟩

/-- The keys' and values' gradient of a block's row: from the block's own queries and from the next block's. -/
def dkRow (n : Fin 32) (j : Fin 128) (g : Fin 2) (d : Fin 64) : ℝ :=
  dk q e kv z n g (own j) d + if h : n.val + 1 < 32 then dk q e kv z ⟨n.val + 1, h⟩ g (old j) d else 0
def dvRow (n : Fin 32) (j : Fin 128) (g : Fin 2) (d : Fin 64) : ℝ :=
  dv q e kv z n g (own j) d + if h : n.val + 1 < 32 then dv q e kv z ⟨n.val + 1, h⟩ g (old j) d else 0
/-- The sinks' gradient. -/
def dSink (g : Fin 2) (h : Fin 8) : ℝ := -∑ n, dz q e kv z n g h

end Whole

end Cert.Step.Attn
-- ==== Proof.AttnHead.lean ====
/-
  One key/value head of a point, read at an index over the real numbers: from the scores, the sinks and the
  cotangent's products with the values to the probabilities and the scores' gradients.
-/
module

public import proofs.«01_k».proof.Proof.AttnStage
public import proofs.«01_k».proof.Proof.AttnSpec

@[expose] public section

set_option maxRecDepth 16384

noncomputable section

namespace Cert.AttnGradIdeal.Stage

open Idealize.ShloMosaic Idealize.ShloMosaic.Tactic Cert.AttnGradIdeal Cert.AttnGradIdeal.Gen
open Cert.Step Cert.Step.Attn

/-- A stacked row: of a head, of a query. -/
abbrev row (h : Fin 8) (i : Fin 128) : Fin 1024 := ⟨h.val * 128 + i.val, by omega⟩

/-- The largest of finitely many extended reals below `⊤` is below `⊤`. -/
theorem fold_max_lt {ι : Type*} (s : Finset ι) (f : ι → EReal) (b : EReal) (hb : b < ⊤) (h : ∀ i ∈ s, f i < ⊤) : s.fold max b f < ⊤ :=
  (Finset.fold_max_lt _).2 ⟨hb, h⟩

theorem lit_bot : Ideal.ofBits .f32 0xFF800000#32 = ⊥ := by simp [Ideal.ofBits, Ideal.ieee]

theorem rowMax_lt (x : Stack) (r : Fin 1024) (h : ∀ s : Fin 128, x (ix2 r s) < ⊤) : rowMax x (ix2 r 0) < ⊤ := by
  pointwise [rowMax]
  exact fold_max_lt _ _ _ (by rw [lit_bot]; exact bot_lt_top) fun s _ => h s

theorem rowSum_at (x : Stack) (r : Fin 1024) (f : Fin 128 → ℝ) (h : ∀ s, x (ix2 r s) = ((f s : ℝ) : EReal)) :
    rowSum x (ix2 r 0) = ((∑ s, f s : ℝ) : EReal) := by
  pointwise [rowSum]
  simp only [h, coe_sum]

theorem wide_at (x : Col) (r : Fin 1024) (s : Fin 128) : wide x (ix2 r s) = x (ix2 r 0) := by pointwise [wide]

/-- A score's exponential, shifted by a real number. -/
theorem exp_shift (p : Prop) [Decidable p] (x M : ℝ) :
    Ideal.exp ((if p then (x : EReal) else ⊥) - (M : EReal)) = (((if p then Real.exp x else 0) * Real.exp (-M) : ℝ) : EReal) := by
  split
  · rw [← EReal.coe_sub, Ideal.exp_coe, sub_eq_add_neg, Real.exp_add]
  · rw [EReal.bot_sub, Ideal.exp_bot, zero_mul, EReal.coe_zero]

namespace Head

variable (H : Head) (r : Fin 1024) (p : Fin 256 → Prop) [DecidablePred p] (x y : Fin 256 → ℝ) (k : ℝ)
variable (hp : ∀ s : Fin 128, H.sp (ix2 r s) = if p (old s) then ((x (old s) : ℝ) : EReal) else ⊥)
variable (hc : ∀ s : Fin 128, H.sc (ix2 r s) = if p (own s) then ((x (own s) : ℝ) : EReal) else ⊥)
variable (hz : H.z (ix2 r 0) = ((k : ℝ) : EReal))
variable (hyp : ∀ s : Fin 128, H.yp (ix2 r s) = ((y (old s) : ℝ) : EReal))
variable (hyc : ∀ s : Fin 128, H.yc (ix2 r s) = ((y (own s) : ℝ) : EReal))

include hp hc hz in
theorem mx_real : ∃ M : ℝ, H.mx (ix2 r 0) = ((M : ℝ) : EReal) := by
  have e : H.mx (ix2 r 0) = max (max (rowMax H.sp (ix2 r 0)) (rowMax H.sc (ix2 r 0))) (H.z (ix2 r 0)) := by pointwise [mx]
  have h1 : rowMax H.sp (ix2 r 0) < ⊤ := rowMax_lt _ r fun s => by
    rw [hp]; split
    · exact EReal.coe_lt_top _
    · exact bot_lt_top
  have h2 : rowMax H.sc (ix2 r 0) < ⊤ := rowMax_lt _ r fun s => by
    rw [hc]; split
    · exact EReal.coe_lt_top _
    · exact bot_lt_top
  have h3 : H.mx (ix2 r 0) < ⊤ := by
    rw [e, hz]; exact max_lt (max_lt h1 h2) (EReal.coe_lt_top _)
  have h4 : ⊥ < H.mx (ix2 r 0) := by
    rw [e, hz]; exact lt_of_lt_of_le (EReal.bot_lt_coe k) (le_max_right _ _)
  exact ⟨(H.mx (ix2 r 0)).toReal, (EReal.coe_toReal h3.ne h4.ne').symm⟩

include hp hc hz in
/-- The exponentials, shifted by one real number; the reciprocal of their sum. -/
theorem weights : ∃ M : ℝ, (∀ s : Fin 128, H.ep (ix2 r s) = ((wt p x (old s) * Real.exp (-M) : ℝ) : EReal)) ∧
    (∀ s : Fin 128, H.ec (ix2 r s) = ((wt p x (own s) * Real.exp (-M) : ℝ) : EReal)) ∧
    H.es (ix2 r 0) = ((Real.exp k * Real.exp (-M) : ℝ) : EReal) ∧
    H.inv (ix2 r 0) = ((1 / (Attn.tot p x k * Real.exp (-M)) : ℝ) : EReal) := by
  obtain ⟨M, hM⟩ := H.mx_real r p x k hp hc hz
  have e1 : ∀ s : Fin 128, H.ep (ix2 r s) = ((wt p x (old s) * Real.exp (-M) : ℝ) : EReal) := fun s => by
    pointwise [ep, wide_at]
    rw [hp, hM, exp_shift]; rfl
  have e2 : ∀ s : Fin 128, H.ec (ix2 r s) = ((wt p x (own s) * Real.exp (-M) : ℝ) : EReal) := fun s => by
    pointwise [ec, wide_at]
    rw [hc, hM, exp_shift]; rfl
  have e3 : H.es (ix2 r 0) = ((Real.exp k * Real.exp (-M) : ℝ) : EReal) := by
    pointwise [es]
    rw [hz, hM, ← EReal.coe_sub, Ideal.exp_coe, sub_eq_add_neg, Real.exp_add]
  have e4 : H.tot (ix2 r 0) = ((Attn.tot p x k * Real.exp (-M) : ℝ) : EReal) := by
    pointwise [Head.tot]
    rw [rowSum_at _ r _ e1, rowSum_at _ r _ e2, e3, ← EReal.coe_add, ← EReal.coe_add]
    refine congrArg _ ?_
    unfold Attn.tot
    rw [Fin.sum_univ_two_halves 128 128 rfl, add_mul, add_mul, Finset.sum_mul, Finset.sum_mul]
  refine ⟨M, e1, e2, e3, ?_⟩
  pointwise [inv]
  rw [e4, ← EReal.coe_one, div_real _ (mul_pos (tot_pos p x k) (Real.exp_pos _)).ne']

include hp hc hz in
theorem probs : (∀ s : Fin 128, H.pp (ix2 r s) = ((prob p x k (old s) : ℝ) : EReal)) ∧
    (∀ s : Fin 128, H.pc (ix2 r s) = ((prob p x k (own s) : ℝ) : EReal)) ∧
    H.es (ix2 r 0) * H.inv (ix2 r 0) = ((psink p x k : ℝ) : EReal) := by
  obtain ⟨M, e1, e2, e3, e4⟩ := H.weights r p x k hp hc hz
  have hM := (Real.exp_pos (-M)).ne'
  have hT := (tot_pos p x k).ne'
  refine ⟨fun s => ?_, fun s => ?_, ?_⟩
  · pointwise [pp, wide_at]
    rw [e1, e4, ← EReal.coe_mul]
    refine congrArg _ ?_
    unfold prob; field_simp
  · pointwise [pc, wide_at]
    rw [e2, e4, ← EReal.coe_mul]
    refine congrArg _ ?_
    unfold prob; field_simp
  · rw [e3, e4, ← EReal.coe_mul]
    refine congrArg _ ?_
    unfold psink; field_simp

include hp hc hz hyp hyc in
theorem dl_at : H.dl (ix2 r 0) = ((dlt p x y k : ℝ) : EReal) := by
  obtain ⟨e1, e2, -⟩ := H.probs r p x k hp hc hz
  pointwise [dl]
  rw [rowSum_at (mulf H.pp H.yp) r (fun s => prob p x k (old s) * y (old s)) (fun s => by pointwise []; rw [e1, hyp, ← EReal.coe_mul]),
    rowSum_at (mulf H.pc H.yc) r (fun s => prob p x k (own s) * y (own s)) (fun s => by pointwise []; rw [e2, hyc, ← EReal.coe_mul]), ← EReal.coe_add]
  refine congrArg _ ?_
  unfold dlt
  rw [Fin.sum_univ_two_halves 128 128 rfl]

include hp hc hz hyp hyc in
theorem dsp_at (s : Fin 128) : H.dsp (ix2 r s) = ((ds p x y k (old s) : ℝ) : EReal) := by
  pointwise [dsp, wide_at]
  rw [(H.probs r p x k hp hc hz).1, hyp, H.dl_at r p x y k hp hc hz hyp hyc, ← EReal.coe_sub, ← EReal.coe_mul]; rfl

include hp hc hz hyp hyc in
theorem dsc_at (s : Fin 128) : H.dsc (ix2 r s) = ((ds p x y k (own s) : ℝ) : EReal) := by
  pointwise [dsc, wide_at]
  rw [(H.probs r p x k hp hc hz).2.1, hyc, H.dl_at r p x y k hp hc hz hyp hyc, ← EReal.coe_sub, ← EReal.coe_mul]; rfl

include hp hc hz hyp hyc in
theorem st_at : H.st (ix2 r 0) = ((psink p x k * dlt p x y k : ℝ) : EReal) := by
  pointwise [st]
  rw [(H.probs r p x k hp hc hz).2.2, H.dl_at r p x y k hp hc hz hyp hyc, ← EReal.coe_mul]

end Head

end Cert.AttnGradIdeal.Stage
-- ==== Proof.AttnReads.lean ====
/-
  The operands of one key/value head of a point, read at an index: the stacked queries and cotangents, the keys
  and values in both halves of the lanes, the biases and the sinks.
-/
module

public import proofs.«01_k».proof.Proof.AttnHead

@[expose] public section

set_option maxRecDepth 16384

noncomputable section

namespace Cert.AttnGradIdeal.Stage

open Idealize.ShloMosaic Idealize.ShloMosaic.Tactic Cert.AttnGradIdeal Cert.AttnGradIdeal.Gen
open Cert.Step Cert.Step.Attn

/-- A lane's place in its half. -/
abbrev low64 (c : Fin 128) : Fin 64 := ⟨c.val % 64, by omega⟩

/-- A query head's coordinates in its half of the lanes, zero in the other. -/
def side (q : Fin 128 → Fin 1024 → ℝ) (g : Fin 2) (h : Fin 8) (i : Fin 128) (c : Fin 128) : ℝ :=
  if c.val / 64 = h.val % 2 then q i (qcol g h (low64 c)) else 0

/-- What the operands of key/value head `g` hold. -/
structure Reads (H : Head) (g : Fin 2) (n : ℕ) (q e : Fin 128 → Fin 1024 → ℝ) (kv : Fin 256 → Fin 256 → ℝ) (z : Fin 16 → ℝ) : Prop where
  q : ∀ h i c, H.q (ix2 (row h i) c) = ((side q g h i c / 8 : ℝ) : EReal)
  d : ∀ h i c, H.d (ix2 (row h i) c) = ((side e g h i c : ℝ) : EReal)
  kp : ∀ s c, H.kp (ix2 s c) = ((kv (old s) (kcol g (low64 c)) : ℝ) : EReal)
  kc : ∀ s c, H.kc (ix2 s c) = ((kv (own s) (kcol g (low64 c)) : ℝ) : EReal)
  vp : ∀ s c, H.vp (ix2 s c) = ((kv (old s) (vcol g (low64 c)) : ℝ) : EReal)
  vc : ∀ s c, H.vc (ix2 s c) = ((kv (own s) (vcol g (low64 c)) : ℝ) : EReal)
  bp : ∀ h i s, H.bp (ix2 (row h i) s) = if ok n i (old s) then ((-(slope g h * dist i (old s)) : ℝ) : EReal) else ⊥
  bc : ∀ h i s, H.bc (ix2 (row h i) s) = if ok n i (own s) then ((-(slope g h * dist i (own s)) : ℝ) : EReal) else ⊥
  z : ∀ h i, H.z (ix2 (row h i) 0) = ((z (num g h) : ℝ) : EReal)

/-! ## Tiles -/

theorem lit_eighth16 : Ideal.ofBits .bf16 0x3E00#16 = ((1 / 8 : ℝ) : EReal) := by
  simp [Ideal.ofBits, Ideal.ieee, -EReal.coe_mul]; norm_num
theorem lit_zero16 : Ideal.ofBits .bf16 0x0000#16 = ((0 : ℝ) : EReal) := by
  simp [Ideal.ofBits, Ideal.ieee, -EReal.coe_mul]

/-- A select whose flag is a decided comparison. -/
theorem sel {α : Type} {b : BitVec 1} {P : Prop} [Decidable P] (h : b = if P then 1#1 else 0#1) (x y : α) : Scalar.select b x y = if P then x else y := by
  subst h; split
  · exact ValueIdx.select_one _ _
  · exact ValueIdx.select_zero _ _

theorem cmp_low : ∀ c : Fin 128, IntOp.cmpi CmpIPredicate.slt (BitVec.ofNat 32 ↑c) 64#32 = if c.val < 64 then 1#1 else 0#1 := by decide +kernel
theorem cmp_high : ∀ c : Fin 128, IntOp.xori (IntOp.cmpi CmpIPredicate.slt (BitVec.ofNat 32 ↑c) 64#32) 1#1 = if 64 ≤ c.val then 1#1 else 0#1 := by decide +kernel
theorem cmp_own : ∀ i s : Fin 128, IntOp.cmpi CmpIPredicate.sle (BitVec.ofNat 32 ↑s) (BitVec.ofNat 32 ↑i) = if s.val ≤ i.val then 1#1 else 0#1 := by decide +kernel
theorem cmp_old : ∀ i s : Fin 128, IntOp.cmpi CmpIPredicate.sgt (IntOp.subi (BitVec.ofNat 32 ↑s) (BitVec.ofNat 32 ↑i)) 0#32 = if i.val < s.val then 1#1 else 0#1 := by decide +kernel
theorem cmp_first : ∀ i s : Fin 128, IntOp.cmpi CmpIPredicate.sgt (IntOp.subi (BitVec.ofNat 32 ↑s) (BitVec.ofNat 32 ↑i)) 128#32 = 0#1 := by decide +kernel
theorem cmp_point : ∀ n : Fin 33, Scalar.cmpi CmpIPredicate.sgt (BitVec.ofNat 32 ↑n) 0#32 = if n.val ≠ 0 then 1#1 else 0#1 := by decide +kernel
theorem sub_int : ∀ i s : Fin 128, (IntOp.subi (BitVec.ofNat 32 ↑i) (BitVec.ofNat 32 ↑s)).toInt = (i.val : ℤ) - (s.val : ℤ) := by decide +kernel
theorem cmp_row : ∀ (j : Fin 8) (r : Fin 1024), IntOp.cmpi CmpIPredicate.slt (BitVec.ofNat 32 ↑r) (BitVec.ofNat 32 (j.val * 128)) = if r.val < j.val * 128 then 1#1 else 0#1 := by decide +kernel

theorem low_at {α : Type} (i c : Fin 128) (x y : α) : Scalar.select (low (ix2 i c)) x y = if c.val < 64 then x else y := by
  pointwise [low, k0_pay7]
  exact sel (cmp_low c) x y

theorem evenQ_at (x : Tile) (i c : Fin 128) : evenQ x (ix2 i c) = if c.val < 64 then x (ix2 i c) * ((1 / 8 : ℝ) : EReal) else 0 := by
  pointwise [evenQ, eighth, same, zeros, low, k0_pay7]
  rw [sel (cmp_low c), lit_eighth16]

theorem oddQ_at (x : Tile) (i c : Fin 128) : oddQ x (ix2 i c) = if 64 ≤ c.val then x (ix2 i c) * ((1 / 8 : ℝ) : EReal) else 0 := by
  pointwise [oddQ, eighth, same, zeros, low, high, k0_pay7]
  rw [sel (cmp_high c), lit_eighth16]

theorem evenD_at (x : Tile) (i c : Fin 128) : evenD x (ix2 i c) = if c.val < 64 then x (ix2 i c) else 0 := by
  pointwise [evenD, same, zeros, low, k0_pay7]
  rw [sel (cmp_low c)]

theorem oddD_at (x : Tile) (i c : Fin 128) : oddD x (ix2 i c) = if 64 ≤ c.val then x (ix2 i c) else 0 := by
  pointwise [oddD, same, zeros, low, high, k0_pay7]
  rw [sel (cmp_high c)]

theorem both0_at (x : Tile) (i c : Fin 128) : both0 x (ix2 i c) = x (ix2 i ⟨c.val % 64, by omega⟩) := by
  pointwise [both0, turn, same, zeros, low, high, k0_pay7]
  rw [sel (cmp_low c)]
  split
  · exact congrArg (fun k => x (ix2 i k)) (Fin.ext (by dsimp only; omega))
  · exact congrArg (fun k => x (ix2 i k)) (Fin.ext (by dsimp only; omega))

theorem both1_at (x : Tile) (i c : Fin 128) : both1 x (ix2 i c) = x (ix2 i ⟨64 + c.val % 64, by omega⟩) := by
  pointwise [both1, turn, same, zeros, low, high, k0_pay7]
  rw [sel (cmp_low c)]
  split
  · exact congrArg (fun k => x (ix2 i k)) (Fin.ext (by dsimp only; omega))
  · exact congrArg (fun k => x (ix2 i k)) (Fin.ext (by dsimp only; omega))

theorem lo0_at (x : Tile) (i c : Fin 128) : lo0 x (ix2 i c) = if c.val < 64 then x (ix2 i ⟨c.val % 64, by omega⟩) else 0 := by
  pointwise [lo0, turn, same, zeros, low, high, k0_pay7]
  rw [sel (cmp_low c)]
  split
  · exact congrArg (fun k => x (ix2 i k)) (Fin.ext (by dsimp only; omega))
  · rfl

theorem hi0_at (x : Tile) (i c : Fin 128) : hi0 x (ix2 i c) = if c.val < 64 then 0 else x (ix2 i ⟨c.val % 64, by omega⟩) := by
  pointwise [hi0, turn, same, zeros, low, high, k0_pay7]
  rw [sel (cmp_low c)]
  split
  · rfl
  · exact congrArg (fun k => x (ix2 i k)) (Fin.ext (by dsimp only; omega))

theorem lo1_at (x : Tile) (i c : Fin 128) : lo1 x (ix2 i c) = if c.val < 64 then x (ix2 i ⟨64 + c.val % 64, by omega⟩) else 0 := by
  pointwise [lo1, turn, same, zeros, low, high, k0_pay7]
  rw [sel (cmp_low c)]
  split
  · exact congrArg (fun k => x (ix2 i k)) (Fin.ext (by dsimp only; omega))
  · rfl

theorem hi1_at (x : Tile) (i c : Fin 128) : hi1 x (ix2 i c) = if c.val < 64 then 0 else x (ix2 i ⟨64 + c.val % 64, by omega⟩) := by
  pointwise [hi1, turn, same, zeros, low, high, k0_pay7]
  rw [sel (cmp_low c)]
  split
  · rfl
  · exact congrArg (fun k => x (ix2 i k)) (Fin.ext (by dsimp only; omega))

/-! ## Stacks -/

theorem stack_at {α : Type} (f : Fin 8 → S128x128.Idx → α) (h : Fin 8) (i c : Fin 128) :
    concatenate S1024x128 0 [⟨S128x128, f 0⟩, ⟨S128x128, f 1⟩, ⟨S128x128, f 2⟩, ⟨S128x128, f 3⟩, ⟨S128x128, f 4⟩, ⟨S128x128, f 5⟩, ⟨S128x128, f 6⟩, ⟨S128x128, f 7⟩]
      concatenates_S128x128_S128x128_S128x128_S128x128_S128x128_S128x128_S128x128_S128x128_S1024x128_d0 (ix2 (row h i) c) = f h (ix2 i c) := by
  refine concatenate_ofFn_apply (N := 8) (t := S1024x128) (s₁ := S128x128) 0 f
    concatenates_S128x128_S128x128_S128x128_S128x128_S128x128_S128x128_S128x128_S128x128_S1024x128_d0 rfl 128 rfl (ix2 (row h i) c) h ?_ (ix2 i c) ?_ ?_
  · show (h.val * 128 + i.val) / 128 = h.val
    omega
  · show i.val = (h.val * 128 + i.val) % 128
    omega
  · intro b hb
    fin_cases b
    · exact absurd rfl hb
    · rfl

theorem stackQ_at (x : Fin 4 → Tile) (h : Fin 8) (i c : Fin 128) : stackQ (x 0) (x 1) (x 2) (x 3) (ix2 (row h i) c) =
    if c.val / 64 = h.val % 2 then x ⟨h.val / 2, by omega⟩ (ix2 i c) * ((1 / 8 : ℝ) : EReal) else 0 := by
  refine (stack_at ![evenQ (x 0), oddQ (x 0), evenQ (x 1), oddQ (x 1), evenQ (x 2), oddQ (x 2), evenQ (x 3), oddQ (x 3)] h i c).trans ?_
  have e0 : (c.val < 64) = (c.val / 64 = 0) := by apply propext; omega
  have e1 : (64 ≤ c.val) = (c.val / 64 = 1) := by apply propext; omega
  fin_cases h
  · exact (evenQ_at (x 0) i c).trans (if_congr (iff_of_eq e0) rfl rfl)
  · exact (oddQ_at (x 0) i c).trans (if_congr (iff_of_eq e1) rfl rfl)
  · exact (evenQ_at (x 1) i c).trans (if_congr (iff_of_eq e0) rfl rfl)
  · exact (oddQ_at (x 1) i c).trans (if_congr (iff_of_eq e1) rfl rfl)
  · exact (evenQ_at (x 2) i c).trans (if_congr (iff_of_eq e0) rfl rfl)
  · exact (oddQ_at (x 2) i c).trans (if_congr (iff_of_eq e1) rfl rfl)
  · exact (evenQ_at (x 3) i c).trans (if_congr (iff_of_eq e0) rfl rfl)
  · exact (oddQ_at (x 3) i c).trans (if_congr (iff_of_eq e1) rfl rfl)

theorem stackD_at (x : Fin 4 → Tile) (h : Fin 8) (i c : Fin 128) : stackD (x 0) (x 1) (x 2) (x 3) (ix2 (row h i) c) =
    if c.val / 64 = h.val % 2 then x ⟨h.val / 2, by omega⟩ (ix2 i c) else 0 := by
  refine (stack_at ![evenD (x 0), oddD (x 0), evenD (x 1), oddD (x 1), evenD (x 2), oddD (x 2), evenD (x 3), oddD (x 3)] h i c).trans ?_
  have e0 : (c.val < 64) = (c.val / 64 = 0) := by apply propext; omega
  have e1 : (64 ≤ c.val) = (c.val / 64 = 1) := by apply propext; omega
  fin_cases h
  · exact (evenD_at (x 0) i c).trans (if_congr (iff_of_eq e0) rfl rfl)
  · exact (oddD_at (x 0) i c).trans (if_congr (iff_of_eq e1) rfl rfl)
  · exact (evenD_at (x 1) i c).trans (if_congr (iff_of_eq e0) rfl rfl)
  · exact (oddD_at (x 1) i c).trans (if_congr (iff_of_eq e1) rfl rfl)
  · exact (evenD_at (x 2) i c).trans (if_congr (iff_of_eq e0) rfl rfl)
  · exact (oddD_at (x 2) i c).trans (if_congr (iff_of_eq e1) rfl rfl)
  · exact (evenD_at (x 3) i c).trans (if_congr (iff_of_eq e0) rfl rfl)
  · exact (oddD_at (x 3) i c).trans (if_congr (iff_of_eq e1) rfl rfl)

/-! ## The biases -/

theorem mask_bot : Named.named (F := Ideal) κ "mask" (φ := .f32) 0xF149F2CA#32 = (⊥ : EReal) := by
  show (κ "mask").getD _ = ⊥
  simp [κ]

theorem lit_128 : Ideal.ofBits .f32 0x43000000#32 = ((128 : ℝ) : EReal) := by
  simp [Ideal.ofBits, Ideal.ieee, -EReal.coe_mul]; norm_num

theorem sitofp_sub (i s : Fin 128) : FloatOps.sitofp (F := Ideal) .f32 (IntOp.subi (BitVec.ofNat 32 ↑i) (BitVec.ofNat 32 ↑s)) = (((i.val : ℝ) - (s.val : ℝ) : ℝ) : EReal) := by
  show (((IntOp.subi (BitVec.ofNat 32 ↑i) (BitVec.ofNat 32 ↑s)).toInt : ℝ) : EReal) = _
  rw [sub_int]; push_cast; rfl

theorem bias_old (n : Fin 33) (i s : Fin 128) :
    k0_pay5 (F := Ideal) (BitVec.ofNat 32 n.val) (ix2 i s) = if ok n.val i (old s) then ((-dist i (old s) : ℝ) : EReal) else ⊥ := by
  pointwise [k0_pay5, k0_pay4]
  rw [sel (cmp_point n), sitofp_sub, lit_128, mask_bot, zero_sub, ← EReal.coe_neg, ← EReal.coe_sub]
  by_cases hn : n.val = 0
  · rw [if_neg (by omega), cmp_first, ValueIdx.select_zero, if_neg (fun h => absurd (h.2.2 hn) (by dsimp only; omega))]
  · rw [if_pos hn, sel (cmp_old i s)]
    refine if_congr ⟨fun h => ⟨h, by dsimp only; omega, fun h' => absurd h' hn⟩, fun h => h.1⟩ (congrArg _ ?_) rfl
    unfold Attn.dist; dsimp only; ring

theorem bias_own (n : ℕ) (i s : Fin 128) :
    k0_pay6 (F := Ideal) (ix2 i s) = if ok n i (own s) then ((-dist i (own s) : ℝ) : EReal) else ⊥ := by
  pointwise [k0_pay6, k0_pay4]
  rw [sel (cmp_own i s), sitofp_sub, mask_bot, zero_sub, ← EReal.coe_neg]
  refine if_congr ⟨fun h => ⟨by dsimp only; omega, by dsimp only; omega, fun _ => by dsimp only; omega⟩, fun h => by have := h.2.1; dsimp only at this; omega⟩ (congrArg _ ?_) rfl
  unfold Attn.dist; push_cast; ring

theorem slopeOf_at (w : BitVec 32) (b : FVec Ideal S128x128 .f32) (i s : Fin 128) : slopeOf w b (ix2 i s) = Ideal.ofBits .f32 w * b (ix2 i s) := by
  pointwise [slopeOf]

theorem stackB_at (g : Fin 2) (b : FVec Ideal S128x128 .f32) (h : Fin 8) (i s : Fin 128) : stackB (words g) b (ix2 (row h i) s) = ((slope g h : ℝ) : EReal) * b (ix2 i s) := by
  refine (stack_at (fun h => slopeOf (words g h) b) h i s).trans ?_
  rw [slopeOf_at, lit_slope]

/-- A bias times a slope. -/
theorem slope_bias (p : Prop) [Decidable p] (g : Fin 2) (h : Fin 8) (x : ℝ) :
    ((slope g h : ℝ) : EReal) * (if p then ((-x : ℝ) : EReal) else ⊥) = if p then ((-(slope g h * x) : ℝ) : EReal) else ⊥ := by
  split
  · rw [← EReal.coe_mul, mul_neg]
  · exact EReal.coe_mul_bot_of_pos (slope_pos g h)

/-! ## The sinks -/

theorem below_at (j : Fin 8) (x : Col) (z : EReal) (r : Fin 1024) : below (BitVec.ofNat 32 (j.val * 128)) x z (ix2 r 0) = if r.val < j.val * 128 then x (ix2 r 0) else z := by
  pointwise [below]
  exact sel (cmp_row j r) _ _

theorem sink_at (z : Fin 8 → EReal) (h : Fin 8) (i : Fin 128) : sinkCol z (ix2 (row h i) 0) = z h := by
  unfold sinkCol
  refine ((below_at 7 _ (z 7) _).trans (if_congr Iff.rfl ((below_at 6 _ (z 6) _).trans (if_congr Iff.rfl ((below_at 5 _ (z 5) _).trans
    (if_congr Iff.rfl ((below_at 4 _ (z 4) _).trans (if_congr Iff.rfl ((below_at 3 _ (z 3) _).trans (if_congr Iff.rfl ((below_at 2 _ (z 2) _).trans
    (if_congr Iff.rfl (below_at 1 _ (z 1) _) rfl)) rfl)) rfl)) rfl)) rfl)) rfl)).trans ?_
  have hi := i.isLt
  fin_cases h <;> dsimp only <;> split_ifs <;> first | rfl | (exfalso; omega)

/-! ## The loads -/

theorem ld_cols {N : ℕ} (x : Vec Ideal ⟨2, ![128, N]⟩ .bf16) (o : ℕ) (inb) (i c : Fin 128) (k : Fin N) (hk : k.val = o + c.val) :
    View.ld x (Rect.unit ![0, o] ![128, 128] inb) (ix2 i c) = x (ix2 i k) :=
  View.ld_unit_apply_of x _ _ inb _ (ix2 i k) fun a => by
    fin_cases a
    · exact (Nat.zero_add _).symm
    · exact hk

theorem ldq_at (x : Vec Ideal S128x1024 .bf16) (j : Fin 8) (i c : Fin 128) : ldq x j (ix2 i c) = x (ix2 i ⟨j.val * 128 + c.val, by omega⟩) := by
  fin_cases j <;> exact ld_cols x _ _ i c _ rfl

theorem ldk_at (x : Vec Ideal S128x256 .bf16) (s c : Fin 128) : ldk x (ix2 s c) = x (ix2 s ⟨c.val, by omega⟩) :=
  ld_cols x _ _ s c _ (Nat.zero_add _).symm
theorem ldv_at (x : Vec Ideal S128x256 .bf16) (s c : Fin 128) : ldv x (ix2 s c) = x (ix2 s ⟨128 + c.val, by omega⟩) := ld_cols x _ _ s c _ rfl

theorem ld_one (x : Vec Ideal S16 .f32) (o : ℕ) (inb) (hf) (k : Fin 16) (hk : k.val = o) :
    View.ld x (Rect.unit ![o] ![1] inb) (Shape.Idx.first hf) = x (ix1 k) :=
  View.ld_unit_apply_of x _ _ inb _ (ix1 k) fun a => by
    fin_cases a
    exact hk

theorem ldz_at (x : Vec Ideal S16 .f32) (j : Fin 16) : ldz x j = x (ix1 j) := by
  fin_cases j <;> exact ld_one x _ _ _ _ rfl

end Cert.AttnGradIdeal.Stage
-- ==== Proof.AttnOperands.lean ====
/-
  The two key/value heads of a point hold what the block's arithmetic is stated of, and from it follow their
  scores, probabilities and scores' gradients.
-/
module

public import proofs.«01_k».proof.Proof.AttnReads

@[expose] public section

set_option maxRecDepth 16384

noncomputable section

namespace Cert.AttnGradIdeal.Stage

open Idealize.ShloMosaic Idealize.ShloMosaic.Tactic Cert.AttnGradIdeal Cert.AttnGradIdeal.Gen
open Cert.Step Cert.Step.Attn

theorem four0 {α : Type} (f : Fin 8 → α) (k : Fin 4) : (![f 0, f 1, f 2, f 3] : Fin 4 → α) k = f ⟨k.val, by omega⟩ := by fin_cases k <;> rfl
theorem four1 {α : Type} (f : Fin 8 → α) (k : Fin 4) : (![f 4, f 5, f 6, f 7] : Fin 4 → α) k = f ⟨4 + k.val, by omega⟩ := by fin_cases k <;> rfl
theorem eight0 (f : Fin 16 → EReal) (h : Fin 8) : (![f 0, f 1, f 2, f 3, f 4, f 5, f 6, f 7] : Fin 8 → EReal) h = f (num 0 h) := by fin_cases h <;> rfl
theorem eight1 (f : Fin 16 → EReal) (h : Fin 8) : (![f 8, f 9, f 10, f 11, f 12, f 13, f 14, f 15] : Fin 8 → EReal) h = f (num 1 h) := by fin_cases h <;> rfl

theorem words0_eq : words0 = words 0 := rfl
theorem words1_eq : words1 = words 1 := rfl

section Operands

variable (n : Fin 33) (zb : Vec Ideal S16 .f32) (qb : Vec Ideal S128x1024 .bf16) (pb nb : Vec Ideal S128x256 .bf16) (db : Vec Ideal S128x1024 .bf16)
variable (q e : Fin 128 → Fin 1024 → ℝ) (kv : Fin 256 → Fin 256 → ℝ) (z : Fin 16 → ℝ)
variable (hq : ∀ i c, qb (ix2 i c) = ((q i c : ℝ) : EReal)) (he : ∀ i c, db (ix2 i c) = ((e i c : ℝ) : EReal))
variable (hp : ∀ s c, pb (ix2 s c) = ((kv (old s) c : ℝ) : EReal)) (hn : ∀ s c, nb (ix2 s c) = ((kv (own s) c : ℝ) : EReal))
variable (hz : ∀ j, zb (ix1 j) = ((z j : ℝ) : EReal))

include hq in
theorem query_at (g : Fin 2) (h : Fin 8) (i c : Fin 128) :
    (if c.val / 64 = h.val % 2 then ldq qb ⟨g.val * 4 + h.val / 2, by omega⟩ (ix2 i c) * ((1 / 8 : ℝ) : EReal) else 0) = ((side q g h i c / 8 : ℝ) : EReal) := by
  unfold side
  by_cases hc : c.val / 64 = h.val % 2
  · rw [if_pos hc, if_pos hc, ldq_at, hq, ← EReal.coe_mul, mul_one_div]
    exact congrArg (fun k => ((q i k / 8 : ℝ) : EReal)) (Fin.ext (by dsimp only; omega))
  · rw [if_neg hc, if_neg hc, zero_div, EReal.coe_zero]

include he in
theorem cotan_at (g : Fin 2) (h : Fin 8) (i c : Fin 128) :
    (if c.val / 64 = h.val % 2 then ldq db ⟨g.val * 4 + h.val / 2, by omega⟩ (ix2 i c) else 0) = ((side e g h i c : ℝ) : EReal) := by
  unfold side
  by_cases hc : c.val / 64 = h.val % 2
  · rw [if_pos hc, if_pos hc, ldq_at, he]
    exact congrArg (fun k => ((e i k : ℝ) : EReal)) (Fin.ext (by dsimp only; omega))
  · rw [if_neg hc, if_neg hc, EReal.coe_zero]

theorem kcol0 (c : Fin 128) : (⟨c.val % 64, by omega⟩ : Fin 256) = kcol 0 (low64 c) := Fin.ext (by simp)
theorem vcol0 (c : Fin 128) : (⟨128 + (c.val % 64), by omega⟩ : Fin 256) = vcol 0 (low64 c) := Fin.ext (by simp)
theorem quad0 (h : Fin 8) (w) : (⟨h.val / 2, w⟩ : Fin 8) = ⟨((0 : Fin 2)).val * 4 + h.val / 2, by omega⟩ := Fin.ext (by simp)

include hq in
theorem q0_at (h : Fin 8) (i c : Fin 128) : stackQ (ldq qb 0) (ldq qb 1) (ldq qb 2) (ldq qb 3) (ix2 (row h i) c) = ((side q 0 h i c / 8 : ℝ) : EReal) := by
  refine (stackQ_at ![ldq qb 0, ldq qb 1, ldq qb 2, ldq qb 3] h i c).trans ?_
  rw [← query_at qb q hq 0 h i c, four0 (ldq qb), quad0 h]

include he in
theorem d0_at (h : Fin 8) (i c : Fin 128) : stackD (ldq db 0) (ldq db 1) (ldq db 2) (ldq db 3) (ix2 (row h i) c) = ((side e 0 h i c : ℝ) : EReal) := by
  refine (stackD_at ![ldq db 0, ldq db 1, ldq db 2, ldq db 3] h i c).trans ?_
  rw [← cotan_at db e he 0 h i c, four0 (ldq db), quad0 h]

theorem k0_at (x : Vec Ideal S128x256 .bf16) (f : Fin 256 → ℝ) (s c : Fin 128) (hx : ∀ c, x (ix2 s c) = ((f c : ℝ) : EReal)) :
    both0 (ldk x) (ix2 s c) = ((f (kcol 0 (low64 c)) : ℝ) : EReal) := by
  rw [both0_at, ldk_at, hx]
  exact congrArg (fun k => ((f k : ℝ) : EReal)) (kcol0 c)

theorem v0_at (x : Vec Ideal S128x256 .bf16) (f : Fin 256 → ℝ) (s c : Fin 128) (hx : ∀ c, x (ix2 s c) = ((f c : ℝ) : EReal)) :
    both0 (ldv x) (ix2 s c) = ((f (vcol 0 (low64 c)) : ℝ) : EReal) := by
  rw [both0_at, ldv_at, hx]
  exact congrArg (fun k => ((f k : ℝ) : EReal)) (vcol0 c)

theorem bp0_at (h : Fin 8) (i s : Fin 128) : stackB words0 (k0_pay5 (F := Ideal) (BitVec.ofNat 32 n.val)) (ix2 (row h i) s) =
    if ok n.val i (old s) then ((-(slope 0 h * Attn.dist i (old s)) : ℝ) : EReal) else ⊥ := by
  rw [words0_eq, stackB_at, bias_old, slope_bias]

theorem bc0_at (h : Fin 8) (i s : Fin 128) : stackB words0 (k0_pay6 (F := Ideal)) (ix2 (row h i) s) =
    if ok n.val i (own s) then ((-(slope 0 h * Attn.dist i (own s)) : ℝ) : EReal) else ⊥ := by
  rw [words0_eq, stackB_at, bias_own n.val, slope_bias]

include hz in
theorem z0_at (h : Fin 8) (i : Fin 128) : sinkCol ![ldz zb 0, ldz zb 1, ldz zb 2, ldz zb 3, ldz zb 4, ldz zb 5, ldz zb 6, ldz zb 7] (ix2 (row h i) 0) = ((z (num 0 h) : ℝ) : EReal) := by
  rw [sink_at, eight0 (ldz zb) h, ldz_at, hz]

include hq he hp hn hz in
theorem reads0 : Reads (head0 (BitVec.ofNat 32 n.val) zb qb pb nb db) 0 n.val q e kv z where
  q := q0_at qb q hq
  d := d0_at db e he
  kp s c := k0_at pb (kv (old s)) s c (hp s)
  kc s c := k0_at nb (kv (own s)) s c (hn s)
  vp s c := v0_at pb (kv (old s)) s c (hp s)
  vc s c := v0_at nb (kv (own s)) s c (hn s)
  bp := bp0_at n
  bc := bc0_at n
  z := z0_at zb z hz

theorem kcol1 (c : Fin 128) : (⟨64 + c.val % 64, by omega⟩ : Fin 256) = kcol 1 (low64 c) := Fin.ext (by simp)
theorem vcol1 (c : Fin 128) : (⟨128 + (64 + c.val % 64), by omega⟩ : Fin 256) = vcol 1 (low64 c) := Fin.ext (by simp)
theorem quad1 (h : Fin 8) (w) : (⟨4 + h.val / 2, w⟩ : Fin 8) = ⟨((1 : Fin 2)).val * 4 + h.val / 2, by omega⟩ := Fin.ext (by simp)

include hq in
theorem q1_at (h : Fin 8) (i c : Fin 128) : stackQ (ldq qb 4) (ldq qb 5) (ldq qb 6) (ldq qb 7) (ix2 (row h i) c) = ((side q 1 h i c / 8 : ℝ) : EReal) := by
  refine (stackQ_at ![ldq qb 4, ldq qb 5, ldq qb 6, ldq qb 7] h i c).trans ?_
  rw [← query_at qb q hq 1 h i c, four1 (ldq qb), quad1 h]

include he in
theorem d1_at (h : Fin 8) (i c : Fin 128) : stackD (ldq db 4) (ldq db 5) (ldq db 6) (ldq db 7) (ix2 (row h i) c) = ((side e 1 h i c : ℝ) : EReal) := by
  refine (stackD_at ![ldq db 4, ldq db 5, ldq db 6, ldq db 7] h i c).trans ?_
  rw [← cotan_at db e he 1 h i c, four1 (ldq db), quad1 h]

theorem k1_at (x : Vec Ideal S128x256 .bf16) (f : Fin 256 → ℝ) (s c : Fin 128) (hx : ∀ c, x (ix2 s c) = ((f c : ℝ) : EReal)) :
    both1 (ldk x) (ix2 s c) = ((f (kcol 1 (low64 c)) : ℝ) : EReal) := by
  rw [both1_at, ldk_at, hx]
  exact congrArg (fun k => ((f k : ℝ) : EReal)) (kcol1 c)

theorem v1_at (x : Vec Ideal S128x256 .bf16) (f : Fin 256 → ℝ) (s c : Fin 128) (hx : ∀ c, x (ix2 s c) = ((f c : ℝ) : EReal)) :
    both1 (ldv x) (ix2 s c) = ((f (vcol 1 (low64 c)) : ℝ) : EReal) := by
  rw [both1_at, ldv_at, hx]
  exact congrArg (fun k => ((f k : ℝ) : EReal)) (vcol1 c)

theorem bp1_at (h : Fin 8) (i s : Fin 128) : stackB words1 (k0_pay5 (F := Ideal) (BitVec.ofNat 32 n.val)) (ix2 (row h i) s) =
    if ok n.val i (old s) then ((-(slope 1 h * Attn.dist i (old s)) : ℝ) : EReal) else ⊥ := by
  rw [words1_eq, stackB_at, bias_old, slope_bias]

theorem bc1_at (h : Fin 8) (i s : Fin 128) : stackB words1 (k0_pay6 (F := Ideal)) (ix2 (row h i) s) =
    if ok n.val i (own s) then ((-(slope 1 h * Attn.dist i (own s)) : ℝ) : EReal) else ⊥ := by
  rw [words1_eq, stackB_at, bias_own n.val, slope_bias]

include hz in
theorem z1_at (h : Fin 8) (i : Fin 128) : sinkCol ![ldz zb 8, ldz zb 9, ldz zb 10, ldz zb 11, ldz zb 12, ldz zb 13, ldz zb 14, ldz zb 15] (ix2 (row h i) 0) = ((z (num 1 h) : ℝ) : EReal) := by
  rw [sink_at, eight1 (ldz zb) h, ldz_at, hz]

include hq he hp hn hz in
theorem reads1 : Reads (head1 (BitVec.ofNat 32 n.val) zb qb pb nb db) 1 n.val q e kv z where
  q := q1_at qb q hq
  d := d1_at db e he
  kp s c := k1_at pb (kv (old s)) s c (hp s)
  kc s c := k1_at nb (kv (own s)) s c (hn s)
  vp s c := v1_at pb (kv (old s)) s c (hp s)
  vc s c := v1_at nb (kv (own s)) s c (hn s)
  bp := bp1_at n
  bc := bc1_at n
  z := z1_at zb z hz

end Operands

/-! ## From the operands to the gradients of the scores -/

/-- A sum over the lanes of one head's side is the sum over its 64 coordinates. -/
theorem sum_side (q : Fin 128 → Fin 1024 → ℝ) (g : Fin 2) (h : Fin 8) (i : Fin 128) (f : Fin 64 → ℝ) :
    ∑ c : Fin 128, side q g h i c * f (low64 c) = ∑ d : Fin 64, q i (qcol g h d) * f d := by
  rw [Fin.sum_univ_two_halves 64 64 rfl]
  have hl : ∀ d : Fin 64, low64 ⟨d.val, by omega⟩ = d := fun d => Fin.ext (by dsimp only; omega)
  have hh : ∀ d : Fin 64, low64 ⟨64 + d.val, by omega⟩ = d := fun d => Fin.ext (by dsimp only; omega)
  have h2 : h.val % 2 = 0 ∨ h.val % 2 = 1 := by omega
  rcases h2 with h0 | h1
  · rw [Finset.sum_eq_zero (s := Finset.univ) (f := fun d : Fin 64 => side q g h i ⟨64 + d.val, by omega⟩ * f (low64 ⟨64 + d.val, by omega⟩)), add_zero]
    · refine Finset.sum_congr rfl fun d _ => ?_
      unfold side
      rw [if_pos (by dsimp only; omega), hl]
    · intro d _
      unfold side
      rw [if_neg (by dsimp only; omega), zero_mul]
  · rw [Finset.sum_eq_zero (s := Finset.univ) (f := fun d : Fin 64 => side q g h i ⟨d.val, by omega⟩ * f (low64 ⟨d.val, by omega⟩)), zero_add]
    · refine Finset.sum_congr rfl fun d _ => ?_
      unfold side
      rw [if_pos (by dsimp only; omega), hh]
    · intro d _
      unfold side
      rw [if_neg (by dsimp only; omega), zero_mul]

theorem dotT_at (a : FVec Ideal S1024x128 .bf16) (b : Tile) (r : Fin 1024) (s : Fin 128) (f u : Fin 128 → ℝ)
    (ha : ∀ c, a (ix2 r c) = ((f c : ℝ) : EReal)) (hb : ∀ c, b (ix2 s c) = ((u c : ℝ) : EReal)) :
    dotT a b (ix2 r s) = ((∑ c, f c * u c : ℝ) : EReal) := by
  pointwise [dotT]
  simp only [ha, hb, ← EReal.coe_mul, coe_sum]

section Grads

variable {H : Head} {g : Fin 2} {n : ℕ} {q e : Fin 128 → Fin 1024 → ℝ} {kv : Fin 256 → Fin 256 → ℝ} {z : Fin 16 → ℝ}
variable (R : Reads H g n q e kv z)

include R

theorem sp_at (h : Fin 8) (i s : Fin 128) : H.sp (ix2 (row h i) s) = if ok n i (old s) then ((sco q kv g h i (old s) : ℝ) : EReal) else ⊥ := by
  pointwise [Head.sp]
  rw [dotT_at H.q H.kp (row h i) s _ _ (R.q h i) (R.kp s), R.bp]
  split
  · rw [← EReal.coe_add]
    refine congrArg _ ?_
    unfold sco
    rw [← sum_side q g h i fun d => kv (old s) (kcol g d), Finset.sum_div, sub_eq_add_neg]
    exact congrArg (· + _) (Finset.sum_congr rfl fun c _ => by ring)
  · exact EReal.add_bot _

theorem sc_at (h : Fin 8) (i s : Fin 128) : H.sc (ix2 (row h i) s) = if ok n i (own s) then ((sco q kv g h i (own s) : ℝ) : EReal) else ⊥ := by
  pointwise [Head.sc]
  rw [dotT_at H.q H.kc (row h i) s _ _ (R.q h i) (R.kc s), R.bc]
  split
  · rw [← EReal.coe_add]
    refine congrArg _ ?_
    unfold sco
    rw [← sum_side q g h i fun d => kv (own s) (kcol g d), Finset.sum_div, sub_eq_add_neg]
    exact congrArg (· + _) (Finset.sum_congr rfl fun c _ => by ring)
  · exact EReal.add_bot _

theorem yp_at (h : Fin 8) (i s : Fin 128) : H.yp (ix2 (row h i) s) = ((ctv e kv g h i (old s) : ℝ) : EReal) :=
  (dotT_at H.d H.vp (row h i) s _ _ (R.d h i) (R.vp s)).trans (congrArg _ (sum_side e g h i fun d => kv (old s) (vcol g d)))

theorem yc_at (h : Fin 8) (i s : Fin 128) : H.yc (ix2 (row h i) s) = ((ctv e kv g h i (own s) : ℝ) : EReal) :=
  (dotT_at H.d H.vc (row h i) s _ _ (R.d h i) (R.vc s)).trans (congrArg _ (sum_side e g h i fun d => kv (own s) (vcol g d)))

theorem pp_at (h : Fin 8) (i s : Fin 128) : H.pp (ix2 (row h i) s) = ((P n q kv z g h i (old s) : ℝ) : EReal) :=
  (H.probs (row h i) (ok n i) _ _ (sp_at R h i) (sc_at R h i) (R.z h i)).1 s

theorem pc_at (h : Fin 8) (i s : Fin 128) : H.pc (ix2 (row h i) s) = ((P n q kv z g h i (own s) : ℝ) : EReal) :=
  (H.probs (row h i) (ok n i) _ _ (sp_at R h i) (sc_at R h i) (R.z h i)).2.1 s

theorem dsp_at (h : Fin 8) (i s : Fin 128) : H.dsp (ix2 (row h i) s) = ((dS n q e kv z g h i (old s) : ℝ) : EReal) :=
  H.dsp_at (row h i) (ok n i) _ _ _ (sp_at R h i) (sc_at R h i) (R.z h i) (yp_at R h i) (yc_at R h i) s

theorem dsc_at (h : Fin 8) (i s : Fin 128) : H.dsc (ix2 (row h i) s) = ((dS n q e kv z g h i (own s) : ℝ) : EReal) :=
  H.dsc_at (row h i) (ok n i) _ _ _ (sp_at R h i) (sc_at R h i) (R.z h i) (yp_at R h i) (yc_at R h i) s

theorem st_at (h : Fin 8) (i : Fin 128) : H.st (ix2 (row h i) 0) =
    ((psink (ok n i) (sco q kv g h i) (z (num g h)) * dlt (ok n i) (sco q kv g h i) (ctv e kv g h i) (z (num g h)) : ℝ) : EReal) :=
  H.st_at (row h i) (ok n i) _ _ _ (sp_at R h i) (sc_at R h i) (R.z h i) (yp_at R h i) (yc_at R h i)

end Grads

end Cert.AttnGradIdeal.Stage
-- ==== Proof.AttnBlock.lean ====
/-
  What one point of the attention's gradient stores, read at an index: the block's gradients of the queries, of the
  band's keys and values, and of the sinks.
-/
module

public import proofs.«01_k».proof.Proof.AttnOperands
import Idealize.ShloMosaic.Lib.Pipeline.ValueKit
import Idealize.ShloMosaic.Lib.Pipeline.ReadBack

@[expose] public section

set_option maxRecDepth 16384

noncomputable section

namespace Cert.AttnGradIdeal.Stage

open Idealize.ShloMosaic Idealize.ShloMosaic.Tactic Cert.AttnGradIdeal Cert.AttnGradIdeal.Gen
open Cert.Step Cert.Step.Attn

/-! ## The queries -/

theorem lit_eighth : Ideal.ofBits .f32 0x3E000000#32 = ((1 / 8 : ℝ) : EReal) := by
  simp [Ideal.ofBits, Ideal.ieee, -EReal.coe_mul]; norm_num

theorem dotN_at (a b : Tile) (i c : Fin 128) (f u : Fin 128 → ℝ)
    (ha : ∀ s, a (ix2 i s) = ((f s : ℝ) : EReal)) (hb : ∀ s, b (ix2 s c) = ((u s : ℝ) : EReal)) :
    dotN a b (ix2 i c) = ((∑ s, f s * u s : ℝ) : EReal) := by
  pointwise [dotN]
  simp only [ha, hb, ← EReal.coe_mul, coe_sum]

/-- A pair of heads, each times its half of the keys' lanes. -/
theorem pair_at (a a' b b' kl kl' kh kh' : Tile) (i c : Fin 128) (f f' g g' u u' : Fin 128 → ℝ)
    (ha : ∀ s, a (ix2 i s) = ((f s : ℝ) : EReal)) (ha' : ∀ s, a' (ix2 i s) = ((f' s : ℝ) : EReal))
    (hb : ∀ s, b (ix2 i s) = ((g s : ℝ) : EReal)) (hb' : ∀ s, b' (ix2 i s) = ((g' s : ℝ) : EReal))
    (hl : ∀ s, kl (ix2 s c) = if c.val < 64 then ((u s : ℝ) : EReal) else 0) (hl' : ∀ s, kl' (ix2 s c) = if c.val < 64 then ((u' s : ℝ) : EReal) else 0)
    (hh : ∀ s, kh (ix2 s c) = if c.val < 64 then 0 else ((u s : ℝ) : EReal)) (hh' : ∀ s, kh' (ix2 s c) = if c.val < 64 then 0 else ((u' s : ℝ) : EReal)) :
    pair a a' b b' kl kl' kh kh' (ix2 i c) =
      (((if c.val < 64 then ∑ s, f s * u s + ∑ s, f' s * u' s else ∑ s, g s * u s + ∑ s, g' s * u' s) / 8 : ℝ) : EReal) := by
  pointwise [pair]
  rw [lit_eighth]
  by_cases hc : c.val < 64
  · simp only [if_pos hc] at hl hl' hh hh' ⊢
    rw [dotN_at a kl i c f u ha hl, dotN_at a' kl' i c f' u' ha' hl', dotN_at b kh i c g 0 hb (fun s => by rw [hh]; rfl), dotN_at b' kh' i c g' 0 hb' (fun s => by rw [hh']; rfl),
      ← EReal.coe_add, ← EReal.coe_add, ← EReal.coe_add, ← EReal.coe_mul]
    refine congrArg _ ?_
    simp only [Pi.zero_apply, mul_zero, Finset.sum_const_zero, add_zero]
    ring
  · simp only [if_neg hc] at hl hl' hh hh' ⊢
    rw [dotN_at a kl i c f 0 ha (fun s => by rw [hl]; rfl), dotN_at a' kl' i c f' 0 ha' (fun s => by rw [hl']; rfl), dotN_at b kh i c g u hb hh, dotN_at b' kh' i c g' u' hb' hh',
      ← EReal.coe_add, ← EReal.coe_add, ← EReal.coe_add, ← EReal.coe_mul]
    refine congrArg _ ?_
    simp only [Pi.zero_apply, mul_zero, Finset.sum_const_zero, zero_add]
    ring

theorem part_at {o : ℕ} (x : FVec Ideal S1024x128 .bf16) (hs) (h : Fin 8) (ho : o = h.val * 128) (i s : Fin 128) :
    extractStridedSlice S128x128 ![o, 0] x hs (ix2 i s) = x (ix2 (row h i) s) := by
  pointwise []
  exact congrArg (fun k => x (ix2 k s)) (Fin.ext (by dsimp only; omega))

section Store

variable {H K : Head} {n : ℕ} {q e : Fin 128 → Fin 1024 → ℝ} {kv : Fin 256 → Fin 256 → ℝ} {z : Fin 16 → ℝ}
variable (RH : Reads H 0 n q e kv z) (RK : Reads K 1 n q e kv z)

/-- A pair of neighbouring heads' gradient of the queries, at a lane. -/
def pairQ (n : ℕ) (q e : Fin 128 → Fin 1024 → ℝ) (kv : Fin 256 → Fin 256 → ℝ) (z : Fin 16 → ℝ) (g : Fin 2) (u : Fin 4) (i c : Fin 128) : ℝ :=
  dQ n q e kv z g ⟨u.val * 2 + c.val / 64, by omega⟩ i (low64 c)

theorem pairQ_at {H : Head} {g : Fin 2} (R : Reads H g n q e kv z) (u : Fin 4) (i c : Fin 128) {o o' : ℕ} (h1 h1' h2 h2') (ho : o = u.val * 2 * 128) (ho' : o' = (u.val * 2 + 1) * 128)
    (kl kl' kh kh' : Tile)
    (hl : ∀ s, kl (ix2 s c) = if c.val < 64 then ((kv (old s) (kcol g (low64 c)) : ℝ) : EReal) else 0)
    (hl' : ∀ s, kl' (ix2 s c) = if c.val < 64 then ((kv (own s) (kcol g (low64 c)) : ℝ) : EReal) else 0)
    (hh : ∀ s, kh (ix2 s c) = if c.val < 64 then 0 else ((kv (old s) (kcol g (low64 c)) : ℝ) : EReal))
    (hh' : ∀ s, kh' (ix2 s c) = if c.val < 64 then 0 else ((kv (own s) (kcol g (low64 c)) : ℝ) : EReal)) :
    pair (extractStridedSlice S128x128 ![o, 0] H.dsp h1) (extractStridedSlice S128x128 ![o, 0] H.dsc h1') (extractStridedSlice S128x128 ![o', 0] H.dsp h2) (extractStridedSlice S128x128 ![o', 0] H.dsc h2')
      kl kl' kh kh' (ix2 i c) = ((pairQ n q e kv z g u i c : ℝ) : EReal) := by
  refine (pair_at _ _ _ _ kl kl' kh kh' i c
    (fun s => dS n q e kv z g ⟨u.val * 2, by omega⟩ i (old s)) (fun s => dS n q e kv z g ⟨u.val * 2, by omega⟩ i (own s))
    (fun s => dS n q e kv z g ⟨u.val * 2 + 1, by omega⟩ i (old s)) (fun s => dS n q e kv z g ⟨u.val * 2 + 1, by omega⟩ i (own s))
    (fun s => kv (old s) (kcol g (low64 c))) (fun s => kv (own s) (kcol g (low64 c)))
    (fun s => (part_at _ _ ⟨u.val * 2, by omega⟩ ho i s).trans (dsp_at R _ i s)) (fun s => (part_at _ _ ⟨u.val * 2, by omega⟩ ho i s).trans (dsc_at R _ i s))
    (fun s => (part_at _ _ ⟨u.val * 2 + 1, by omega⟩ ho' i s).trans (dsp_at R _ i s)) (fun s => (part_at _ _ ⟨u.val * 2 + 1, by omega⟩ ho' i s).trans (dsc_at R _ i s))
    hl hl' hh hh').trans (congrArg _ ?_)
  unfold pairQ dQ
  rw [Fin.sum_univ_two_halves 128 128 rfl]
  by_cases hc : c.val < 64
  · rw [if_pos hc]
    have : (⟨u.val * 2 + c.val / 64, by omega⟩ : Fin 8) = ⟨u.val * 2, by omega⟩ := Fin.ext (by dsimp only; omega)
    rw [this]
  · rw [if_neg hc]
    have : (⟨u.val * 2 + c.val / 64, by omega⟩ : Fin 8) = ⟨u.val * 2 + 1, by omega⟩ := Fin.ext (by dsimp only; omega)
    rw [this]

/-- The block's gradient of the queries, by columns. -/
def dqBlock (n : ℕ) (q e : Fin 128 → Fin 1024 → ℝ) (kv : Fin 256 → Fin 256 → ℝ) (z : Fin 16 → ℝ) : Vec Ideal S128x1024 .bf16 :=
  fun x => ((dQ n q e kv z ⟨(x 1).val / 512, by have := (x 1).isLt; simp only [Matrix.cons_val_one, Matrix.cons_val_fin_one] at this; omega⟩ ⟨(x 1).val / 64 % 8, by omega⟩ (x 0) ⟨(x 1).val % 64, by omega⟩ : ℝ) : EReal)

theorem pairQ_block (g : Fin 2) (u : Fin 4) (i c : Fin 128) :
    ((pairQ n q e kv z g u i c : ℝ) : EReal) = dqBlock n q e kv z (ix2 i ⟨g.val * 512 + u.val * 128 + c.val, by omega⟩) := by
  have e1 : (⟨u.val * 2 + c.val / 64, by omega⟩ : Fin 8) = ⟨(g.val * 512 + u.val * 128 + c.val) / 64 % 8, by omega⟩ := Fin.ext (by dsimp only; omega)
  have e2 : g = ⟨(g.val * 512 + u.val * 128 + c.val) / 512, by omega⟩ := Fin.ext (by dsimp only; omega)
  have e3 : low64 c = ⟨(g.val * 512 + u.val * 128 + c.val) % 64, by omega⟩ := Fin.ext (by dsimp only; omega)
  unfold pairQ
  rw [e1, e3]
  exact congrArg (fun g' => ((dQ n q e kv z g' _ i _ : ℝ) : EReal)) e2

variable (pb nb : Vec Ideal S128x256 .bf16)
variable (hp : ∀ s c, pb (ix2 s c) = ((kv (old s) c : ℝ) : EReal)) (hn : ∀ s c, nb (ix2 s c) = ((kv (own s) c : ℝ) : EReal))

theorem l0_at (x : Vec Ideal S128x256 .bf16) (f : Fin 256 → ℝ) (s c : Fin 128) (hx : ∀ c, x (ix2 s c) = ((f c : ℝ) : EReal)) :
    lo0 (ldk x) (ix2 s c) = if c.val < 64 then ((f (kcol 0 (low64 c)) : ℝ) : EReal) else 0 := by
  rw [lo0_at, ldk_at, hx]; exact if_congr Iff.rfl (congrArg (fun k => ((f k : ℝ) : EReal)) (kcol0 c)) rfl
theorem h0_at (x : Vec Ideal S128x256 .bf16) (f : Fin 256 → ℝ) (s c : Fin 128) (hx : ∀ c, x (ix2 s c) = ((f c : ℝ) : EReal)) :
    hi0 (ldk x) (ix2 s c) = if c.val < 64 then 0 else ((f (kcol 0 (low64 c)) : ℝ) : EReal) := by
  rw [hi0_at, ldk_at, hx]; exact if_congr Iff.rfl rfl (congrArg (fun k => ((f k : ℝ) : EReal)) (kcol0 c))
theorem l1_at (x : Vec Ideal S128x256 .bf16) (f : Fin 256 → ℝ) (s c : Fin 128) (hx : ∀ c, x (ix2 s c) = ((f c : ℝ) : EReal)) :
    lo1 (ldk x) (ix2 s c) = if c.val < 64 then ((f (kcol 1 (low64 c)) : ℝ) : EReal) else 0 := by
  rw [lo1_at, ldk_at, hx]; exact if_congr Iff.rfl (congrArg (fun k => ((f k : ℝ) : EReal)) (kcol1 c)) rfl
theorem h1_at (x : Vec Ideal S128x256 .bf16) (f : Fin 256 → ℝ) (s c : Fin 128) (hx : ∀ c, x (ix2 s c) = ((f c : ℝ) : EReal)) :
    hi1 (ldk x) (ix2 s c) = if c.val < 64 then 0 else ((f (kcol 1 (low64 c)) : ℝ) : EReal) := by
  rw [hi1_at, ldk_at, hx]; exact if_congr Iff.rfl rfl (congrArg (fun k => ((f k : ℝ) : EReal)) (kcol1 c))

theorem idx_col (o : ℕ) (inb) (i c : Fin 128) (k : Fin 1024) (hk : k.val = o + c.val) :
    (Rect.unit (s := S128x1024) ![0, o] ![128, 128] inb).emb (ix2 i c) = (ix2 i k : S128x1024.Idx) := by
  funext a
  refine Fin.ext ((Rect.idx_unit_val (s := S128x1024) ![0, o] ![128, 128] inb (ix2 i c) a).trans ?_)
  fin_cases a
  · exact Nat.zero_add _
  · exact hk.symm

include RH hp hn in
theorem piece0 (u : Fin 4) (o o' k : ℕ) (inb) (h1 h1' h2 h2') (ho : o = u.val * 2 * 128) (ho' : o' = (u.val * 2 + 1) * 128) (hk : k = u.val * 128) (x : S128x128.Idx) :
    pair (extractStridedSlice S128x128 ![o, 0] H.dsp h1) (extractStridedSlice S128x128 ![o, 0] H.dsc h1') (extractStridedSlice S128x128 ![o', 0] H.dsp h2) (extractStridedSlice S128x128 ![o', 0] H.dsc h2')
      (lo0 (ldk pb)) (lo0 (ldk nb)) (hi0 (ldk pb)) (hi0 (ldk nb)) x = dqBlock n q e kv z ((Rect.unit (s := S128x1024) ![0, k] ![128, 128] inb).emb x) := by
  idx_vars x
  refine (pairQ_at RH u x0 x1 h1 h1' h2 h2' ho ho' _ _ _ _ (fun s => l0_at pb _ s x1 (hp s)) (fun s => l0_at nb _ s x1 (hn s)) (fun s => h0_at pb _ s x1 (hp s)) (fun s => h0_at nb _ s x1 (hn s))).trans ?_
  rw [pairQ_block, idx_col k inb x0 x1 ⟨(0 : Fin 2).val * 512 + u.val * 128 + x1.val, by simp; omega⟩ (by simp; omega)]

include RK hp hn in
theorem piece1 (u : Fin 4) (o o' k : ℕ) (inb) (h1 h1' h2 h2') (ho : o = u.val * 2 * 128) (ho' : o' = (u.val * 2 + 1) * 128) (hk : k = 512 + u.val * 128) (x : S128x128.Idx) :
    pair (extractStridedSlice S128x128 ![o, 0] K.dsp h1) (extractStridedSlice S128x128 ![o, 0] K.dsc h1') (extractStridedSlice S128x128 ![o', 0] K.dsp h2) (extractStridedSlice S128x128 ![o', 0] K.dsc h2')
      (lo1 (ldk pb)) (lo1 (ldk nb)) (hi1 (ldk pb)) (hi1 (ldk nb)) x = dqBlock n q e kv z ((Rect.unit (s := S128x1024) ![0, k] ![128, 128] inb).emb x) := by
  idx_vars x
  refine (pairQ_at RK u x0 x1 h1 h1' h2 h2' ho ho' _ _ _ _ (fun s => l1_at pb _ s x1 (hp s)) (fun s => l1_at nb _ s x1 (hn s)) (fun s => h1_at pb _ s x1 (hp s)) (fun s => h1_at nb _ s x1 (hn s))).trans ?_
  rw [pairQ_block, idx_col k inb x0 x1 ⟨(1 : Fin 2).val * 512 + u.val * 128 + x1.val, by simp; omega⟩ (by simp; omega)]

include RH RK hp hn in
theorem dqTile_eq : dqTile H K pb nb = dqBlock n q e kv z := by
  unfold dqTile
  funext y
  refine View.canon_append_of_piecesOf (dqBlock n q e kv z) [] [_, _, _, _, _, _, _, _]
    ?_ y ?_
  · exact ⟨piece1 RK pb nb hp hn 3 768 896 896 inb_S128x1024_S128x128_0_896 slices_S1024x128_o768_0_S128x128 slices_S1024x128_o768_0_S128x128 slices_S1024x128_o896_0_S128x128 slices_S1024x128_o896_0_S128x128 rfl rfl rfl, piece1 RK pb nb hp hn 2 512 640 768 inb_S128x1024_S128x128_0_768 slices_S1024x128_o512_0_S128x128 slices_S1024x128_o512_0_S128x128 slices_S1024x128_o640_0_S128x128 slices_S1024x128_o640_0_S128x128 rfl rfl rfl,
      piece1 RK pb nb hp hn 1 256 384 640 inb_S128x1024_S128x128_0_640 slices_S1024x128_o256_0_S128x128 slices_S1024x128_o256_0_S128x128 slices_S1024x128_o384_0_S128x128 slices_S1024x128_o384_0_S128x128 rfl rfl rfl, piece1 RK pb nb hp hn 0 0 128 512 inb_S128x1024_S128x128_0_512 slices_S1024x128_o0_0_S128x128 slices_S1024x128_o0_0_S128x128 slices_S1024x128_o128_0_S128x128 slices_S1024x128_o128_0_S128x128 rfl rfl rfl,
      piece0 RH pb nb hp hn 3 768 896 384 inb_S128x1024_S128x128_0_384 slices_S1024x128_o768_0_S128x128 slices_S1024x128_o768_0_S128x128 slices_S1024x128_o896_0_S128x128 slices_S1024x128_o896_0_S128x128 rfl rfl rfl, piece0 RH pb nb hp hn 2 512 640 256 inb_S128x1024_S128x128_0_256 slices_S1024x128_o512_0_S128x128 slices_S1024x128_o512_0_S128x128 slices_S1024x128_o640_0_S128x128 slices_S1024x128_o640_0_S128x128 rfl rfl rfl,
      piece0 RH pb nb hp hn 1 256 384 128 inb_S128x1024_S128x128_0_128 slices_S1024x128_o256_0_S128x128 slices_S1024x128_o256_0_S128x128 slices_S1024x128_o384_0_S128x128 slices_S1024x128_o384_0_S128x128 rfl rfl rfl, piece0 RH pb nb hp hn 0 0 128 0 inb_S128x1024_S128x128_0_0 slices_S1024x128_o0_0_S128x128 slices_S1024x128_o0_0_S128x128 slices_S1024x128_o128_0_S128x128 slices_S1024x128_o128_0_S128x128 rfl rfl rfl, trivial⟩
  idx_vars y
  have hy := y1.isLt
  have cov : ∀ (k : ℕ) (inb), k ≤ y1.val → y1.val < k + 128 → (ix2 y0 y1 : S128x1024.Idx) ∈ (Rect.unit (s := S128x1024) ![0, k] ![128, 128] inb).set := fun k inb h1 h2 =>
    (Rect.mem_set_unit (inb := inb)).mpr fun a => by
      fin_cases a
      · exact ⟨Nat.zero_le _, by have := y0.isLt; simpa using this⟩
      · exact ⟨h1, h2⟩
  have hk : y1.val / 128 = 0 ∨ y1.val / 128 = 1 ∨ y1.val / 128 = 2 ∨ y1.val / 128 = 3 ∨ y1.val / 128 = 4 ∨ y1.val / 128 = 5 ∨ y1.val / 128 = 6 ∨ y1.val / 128 = 7 := by omega
  rcases hk with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), cov 0 inb_S128x1024_S128x128_0_0 (by omega) (by omega)⟩
  · exact ⟨_, List.mem_cons_of_mem _ (List.mem_cons_of_mem _ (List.mem_cons_of_mem _ (List.mem_cons_of_mem _ (List.mem_cons_of_mem _ (List.mem_cons_of_mem _ List.mem_cons_self))))), cov 128 inb_S128x1024_S128x128_0_128 (by omega) (by omega)⟩
  · exact ⟨_, List.mem_cons_of_mem _ (List.mem_cons_of_mem _ (List.mem_cons_of_mem _ (List.mem_cons_of_mem _ (List.mem_cons_of_mem _ List.mem_cons_self)))), cov 256 inb_S128x1024_S128x128_0_256 (by omega) (by omega)⟩
  · exact ⟨_, List.mem_cons_of_mem _ (List.mem_cons_of_mem _ (List.mem_cons_of_mem _ (List.mem_cons_of_mem _ List.mem_cons_self))), cov 384 inb_S128x1024_S128x128_0_384 (by omega) (by omega)⟩
  · exact ⟨_, List.mem_cons_of_mem _ (List.mem_cons_of_mem _ (List.mem_cons_of_mem _ List.mem_cons_self)), cov 512 inb_S128x1024_S128x128_0_512 (by omega) (by omega)⟩
  · exact ⟨_, List.mem_cons_of_mem _ (List.mem_cons_of_mem _ List.mem_cons_self), cov 640 inb_S128x1024_S128x128_0_640 (by omega) (by omega)⟩
  · exact ⟨_, List.mem_cons_of_mem _ List.mem_cons_self, cov 768 inb_S128x1024_S128x128_0_768 (by omega) (by omega)⟩
  · exact ⟨_, List.mem_cons_self, cov 896 inb_S128x1024_S128x128_0_896 (by omega) (by omega)⟩

/-! ## The keys and values -/

theorem dotR_at (a b : FVec Ideal S1024x128 .bf16) (s c : Fin 128) (f u : Fin 8 → Fin 128 → ℝ)
    (ha : ∀ h i, a (ix2 (row h i) s) = ((f h i : ℝ) : EReal)) (hb : ∀ h i, b (ix2 (row h i) c) = ((u h i : ℝ) : EReal)) :
    addf (broadcast S128x128 (Scalar.ofBits (F := Ideal) .f32 0x00000000#32)) (matmul dot_S1024x128_S1024x128_S128x128_0_0_1_1_n_n none a b (constant S128x128 .f32 0x00000000#32)) (ix2 s c) =
      ((∑ h, ∑ i, f h i * u h i : ℝ) : EReal) := by
  pointwise []
  rw [Fin.sum_univ_tiles 8 128 rfl]
  simp only [ha, hb, ← EReal.coe_mul, coe_sum]

theorem fold_at (a b : FVec Ideal S1024x128 .bf16) (g : Fin 2) (s c : Fin 128) (f : Fin 8 → Fin 128 → ℝ) (q : Fin 128 → Fin 1024 → ℝ) (w : ℝ)
    (ha : ∀ h i, a (ix2 (row h i) s) = ((f h i : ℝ) : EReal)) (hb : ∀ h i c, b (ix2 (row h i) c) = ((side q g h i c * w : ℝ) : EReal)) :
    fold a b (ix2 s c) = ((∑ h, ∑ i, f h i * (q i (qcol g h (low64 c)) * w) : ℝ) : EReal) := by
  unfold fold
  dsimp only
  have e : ∀ x : FVec Ideal S128x128 .f32, addf x (dynamicRotate 1 64#32 none x rotates_S128x128_d1) (ix2 s c) = x (ix2 s c) + x (ix2 s ⟨(c.val + 128 - 64) % 128, by omega⟩) := fun x => by
    pointwise []
  rw [e, dotR_at a b s c f _ ha (fun h i => hb h i c), dotR_at a b s _ f _ ha (fun h i => hb h i _), ← EReal.coe_add]
  refine congrArg _ ?_
  rw [← Finset.sum_add_distrib]
  refine Finset.sum_congr rfl fun h _ => ?_
  rw [← Finset.sum_add_distrib]
  refine Finset.sum_congr rfl fun i _ => ?_
  have hl : low64 ⟨(c.val + 128 - 64) % 128, by omega⟩ = low64 c := Fin.ext (by dsimp only; omega)
  unfold side
  rw [hl]
  by_cases hc : c.val / 64 = h.val % 2
  · rw [if_pos hc, if_neg (by dsimp only; omega)]; ring
  · rw [if_neg hc, if_pos (by dsimp only; omega)]; ring

theorem beside_key (k0 k1 v0 v1 : FVec Ideal S128x128 .f32) (s c : Fin 128) :
    beside k0 k1 v0 v1 (ix2 s ⟨c.val, by omega⟩) = if c.val < 64 then k0 (ix2 s c) else k1 (ix2 s c) := by
  pointwise [beside, low_at]

theorem beside_val (k0 k1 v0 v1 : FVec Ideal S128x128 .f32) (s c : Fin 128) :
    beside k0 k1 v0 v1 (ix2 s ⟨128 + c.val, by omega⟩) = if c.val < 64 then v0 (ix2 s c) else v1 (ix2 s c) := by
  pointwise [beside, low_at]

/-- The block's gradient of the band's keys, and of its values, by columns. -/
def bandK (n : ℕ) (q e : Fin 128 → Fin 1024 → ℝ) (kv : Fin 256 → Fin 256 → ℝ) (z : Fin 16 → ℝ) (s : Fin 256) (c : Fin 128) : ℝ :=
  dK n q e kv z ⟨c.val / 64, by omega⟩ s (low64 c)
def bandV (n : ℕ) (q e : Fin 128 → Fin 1024 → ℝ) (kv : Fin 256 → Fin 256 → ℝ) (z : Fin 16 → ℝ) (s : Fin 256) (c : Fin 128) : ℝ :=
  dV n q e kv z ⟨c.val / 64, by omega⟩ s (low64 c)

theorem foldK {H : Head} {g : Fin 2} (R : Reads H g n q e kv z) (a : FVec Ideal S1024x128 .bf16) (s c : Fin 128) (s' : Fin 256)
    (ha : ∀ h i, a (ix2 (row h i) s) = ((dS n q e kv z g h i s' : ℝ) : EReal)) : fold a H.q (ix2 s c) = ((dK n q e kv z g s' (low64 c) : ℝ) : EReal) := by
  rw [fold_at a H.q g s c (fun h i => dS n q e kv z g h i s') q (1 / 8) ha (fun h i c => by rw [R.q, mul_one_div])]
  unfold dK
  simp only [mul_one_div]

theorem foldV {H : Head} {g : Fin 2} (R : Reads H g n q e kv z) (a : FVec Ideal S1024x128 .bf16) (s c : Fin 128) (s' : Fin 256)
    (ha : ∀ h i, a (ix2 (row h i) s) = ((P n q kv z g h i s' : ℝ) : EReal)) : fold a H.d (ix2 s c) = ((dV n q e kv z g s' (low64 c) : ℝ) : EReal) := by
  rw [fold_at a H.d g s c (fun h i => P n q kv z g h i s') e 1 ha (fun h i c => by rw [R.d, mul_one])]
  unfold dV
  simp only [mul_one]

theorem half_real (f : Fin 2 → ℝ) (c : Fin 128) : (if c.val < 64 then ((f 0 : ℝ) : EReal) else ((f 1 : ℝ) : EReal)) = ((f ⟨c.val / 64, by omega⟩ : ℝ) : EReal) := by
  by_cases hc : c.val < 64
  · rw [if_pos hc]; exact congrArg (fun k => ((f k : ℝ) : EReal)) (Fin.ext (by simp; omega))
  · rw [if_neg hc]; exact congrArg (fun k => ((f k : ℝ) : EReal)) (Fin.ext (by simp; omega))

include RH RK

theorem prevK_at (s c : Fin 128) : prevKv H K (ix2 s ⟨c.val, by omega⟩) = ((bandK n q e kv z (old s) c : ℝ) : EReal) := by
  unfold prevKv
  rw [beside_key, foldK RH H.dsp s c (old s) fun h i => dsp_at RH h i s, foldK RK K.dsp s c (old s) fun h i => dsp_at RK h i s]
  exact half_real (fun g => dK n q e kv z g (old s) (low64 c)) c

theorem prevV_at (s c : Fin 128) : prevKv H K (ix2 s ⟨128 + c.val, by omega⟩) = ((bandV n q e kv z (old s) c : ℝ) : EReal) := by
  unfold prevKv
  rw [beside_val, foldV RH (truncf (F := Ideal) .bf16 H.pp bitsLt_bf16_f32) s c (old s) fun h i => pp_at RH h i s, foldV RK (truncf (F := Ideal) .bf16 K.pp bitsLt_bf16_f32) s c (old s) fun h i => pp_at RK h i s]
  exact half_real (fun g => dV n q e kv z g (old s) (low64 c)) c

theorem curK_at (s c : Fin 128) : curKv H K (ix2 s ⟨c.val, by omega⟩) = ((bandK n q e kv z (own s) c : ℝ) : EReal) := by
  unfold curKv
  rw [beside_key, foldK RH H.dsc s c (own s) fun h i => dsc_at RH h i s, foldK RK K.dsc s c (own s) fun h i => dsc_at RK h i s]
  exact half_real (fun g => dK n q e kv z g (own s) (low64 c)) c

theorem curV_at (s c : Fin 128) : curKv H K (ix2 s ⟨128 + c.val, by omega⟩) = ((bandV n q e kv z (own s) c : ℝ) : EReal) := by
  unfold curKv
  rw [beside_val, foldV RH (truncf (F := Ideal) .bf16 H.pc bitsLt_bf16_f32) s c (own s) fun h i => pc_at RH h i s, foldV RK (truncf (F := Ideal) .bf16 K.pc bitsLt_bf16_f32) s c (own s) fun h i => pc_at RK h i s]
  exact half_real (fun g => dV n q e kv z g (own s) (low64 c)) c

omit RH RK

/-! ## The sinks -/

theorem cmp_lane : ∀ (j : Fin 16) (c : Fin 128), IntOp.cmpi CmpIPredicate.eq (BitVec.ofNat 32 c.val) (BitVec.ofNat 32 j.val) = if c.val = j.val then 1#1 else 0#1 := by decide +kernel

theorem lane_at (w : BitVec 32) (j : Fin 16) (hw : w = BitVec.ofNat 32 j.val) (x : FVec Ideal S128x1 .f32) (acc : FVec Ideal S1x128 .f32) (c : Fin 128) (f : Fin 128 → ℝ) (hx : ∀ i, x (ix2 i 0) = ((f i : ℝ) : EReal)) :
    lane w x acc (ix2 0 c) = acc (ix2 0 c) + ((if c.val = j.val then -∑ i, f i else 0 : ℝ) : EReal) := by
  subst hw
  pointwise [lane]
  rw [sel (cmp_lane j c)]
  simp only [hx, coe_sum, zero_sub, ← EReal.coe_neg]
  split <;> rfl

theorem rows_at {o : ℕ} (x : Col) (hs) (h : Fin 8) (ho : o = h.val * 128) (i : Fin 128) :
    extractStridedSlice S128x1 ![o, 0] x hs (ix2 i 0) = x (ix2 (row h i) 0) := by
  pointwise []
  exact congrArg (fun k => x (ix2 k 0)) (Fin.ext (by dsimp only; omega))

theorem lanes_at (g : Fin 2) (w : Fin 8 → BitVec 32) (hw : ∀ h, w h = BitVec.ofNat 32 (num g h).val) (x : Col) (acc : FVec Ideal S1x128 .f32) (c : Fin 128) (f : Fin 8 → Fin 128 → ℝ)
    (hx : ∀ h i, x (ix2 (row h i) 0) = ((f h i : ℝ) : EReal)) :
    lanes w x acc (ix2 0 c) = acc (ix2 0 c) + ((∑ h : Fin 8, if c.val = (num g h).val then -∑ i, f h i else 0 : ℝ) : EReal) := by
  unfold lanes
  rw [lane_at (w 7) (num g 7) (hw 7) (rows7 x) _ c (f 7) fun i => (rows_at x _ 7 rfl i).trans (hx 7 i), lane_at (w 6) (num g 6) (hw 6) (rows6 x) _ c (f 6) fun i => (rows_at x _ 6 rfl i).trans (hx 6 i),
    lane_at (w 5) (num g 5) (hw 5) (rows5 x) _ c (f 5) fun i => (rows_at x _ 5 rfl i).trans (hx 5 i), lane_at (w 4) (num g 4) (hw 4) (rows4 x) _ c (f 4) fun i => (rows_at x _ 4 rfl i).trans (hx 4 i),
    lane_at (w 3) (num g 3) (hw 3) (rows3 x) _ c (f 3) fun i => (rows_at x _ 3 rfl i).trans (hx 3 i), lane_at (w 2) (num g 2) (hw 2) (rows2 x) _ c (f 2) fun i => (rows_at x _ 2 rfl i).trans (hx 2 i),
    lane_at (w 1) (num g 1) (hw 1) (rows1 x) _ c (f 1) fun i => (rows_at x _ 1 rfl i).trans (hx 1 i), lane_at (w 0) (num g 0) (hw 0) (rows0 x) _ c (f 0) fun i => (rows_at x _ 0 rfl i).trans (hx 0 i),
    Fin.sum_univ_eight]
  simp only [EReal.coe_add, add_assoc]

/-- The block's gradient of the sinks, by lanes. -/
def sinkRow (n : ℕ) (q e : Fin 128 → Fin 1024 → ℝ) (kv : Fin 256 → Fin 256 → ℝ) (z : Fin 16 → ℝ) (c : Fin 128) : ℝ :=
  ∑ g : Fin 2, ∑ h : Fin 8, if c.val = (num g h).val then -dZ n q e kv z g h else 0

include RH RK in
theorem sinkGrad_at (c : Fin 128) : sinkGrad H K (ix2 0 c) = ((sinkRow n q e kv z c : ℝ) : EReal) := by
  unfold sinkGrad
  rw [lanes_at 1 numbers1 (fun h => by fin_cases h <;> rfl) K.st _ c _ (st_at RK), lanes_at 0 numbers0 (fun h => by fin_cases h <;> rfl) H.st _ c _ (st_at RH)]
  have e0 : broadcast S1x128 (Scalar.ofBits (F := Ideal) .f32 0x00000000#32) (ix2 0 c) = (0 : EReal) := by pointwise []
  rw [e0, zero_add, ← EReal.coe_add]
  unfold sinkRow dZ
  rw [Fin.sum_univ_two]

end Store

end Cert.AttnGradIdeal.Stage
-- ==== Proof.AttnPoints.lean ====
/-
  What each point of the attention's gradient holds after it, at an index over the real numbers.
-/
module

public import proofs.«01_k».proof.Proof.AttnBlock
public import Idealize.ShloMosaic.Lib.Pipeline.ValueKit
public import Idealize.ShloMosaic.Lib.Pipeline.ReadBack

@[expose] public section

set_option maxRecDepth 16384

noncomputable section

namespace Cert.AttnGradIdeal.Stage

open Idealize.ShloMosaic Idealize.ShloMosaic.Tactic Idealize.ShloMosaic.TcCoe Idealize.SL.Sem Cert.AttnGradIdeal Cert.AttnGradIdeal.Gen
open Cert.AttnGradIdeal.Run (Left outs prev leftA leftB leftC outs_A outs_B outs_C dats after_5 after_6 after_7)
open Cert.Step Cert.Step.Attn

theorem idx : ∀ t : Fin cfg0.N, win0_0.index t = ![0] ∧ win0_1.index t = ![min t.val 31, 0] ∧ win0_2.index t = ![min t.val 31 - 1, 0]
    ∧ win0_3.index t = ![min t.val 31, 0] ∧ win0_4.index t = ![min t.val 31, 0] ∧ win0_5.index t = ![min t.val 31, 0]
    ∧ win0_6.index t = ![t.val - 1, 0] ∧ win0_7.index t = ![0, 0] :=
  (by decide +kernel : ∀ t : Fin grid0.N, _)

theorem coord : ∀ t : Fin cfg0.N, (grid0.coords t 0).val = t.val := (by decide +kernel : ∀ t : Fin grid0.N, _)

theorem lt33 (t : Fin cfg0.N) : t.val < 33 := lt_of_lt_of_eq t.isLt N_0

/-- A block's gradient of a row of its band: the key's columns, then the value's. -/
def bandKv (q e : Fin 4096 → Fin 1024 → ℝ) (kv : Fin 4096 → Fin 256 → ℝ) (z : Fin 16 → ℝ) (n : Fin 32) (s : Fin 256) (j : Fin 256) : ℝ :=
  if h : j.val < 128 then dk q e kv z n ⟨j.val / 64, by omega⟩ s ⟨j.val % 64, by omega⟩ else dv q e kv z n ⟨(j.val - 128) / 64, by omega⟩ s ⟨(j.val - 128) % 64, by omega⟩

variable (m : (ℓ : Loc nD τ sig) → Buf (Elt Ideal) ℓ) (c : Dev nD)
variable (q e : Fin 4096 → Fin 1024 → ℝ) (kv : Fin 4096 → Fin 256 → ℝ) (z : Fin 16 → ℝ)
variable (hq : ∀ r c', m ((c.tc : Thread nD τ).loc main_arg0) (ix3 0 r c') = ((q r c' : ℝ) : EReal))
variable (hk : ∀ r g d, m ((c.tc : Thread nD τ).loc main_arg1) (ix4 0 r g d) = ((kv r (kcol g d) : ℝ) : EReal))
variable (hv : ∀ r g d, m ((c.tc : Thread nD τ).loc main_arg2) (ix4 0 r g d) = ((kv r (vcol g d) : ℝ) : EReal))
variable (hz : ∀ j, m ((c.tc : Thread nD τ).loc main_arg3) (ix1 j) = ((z j : ℝ) : EReal))
variable (he : ∀ r c', m ((c.tc : Thread nD τ).loc main_arg4) (ix3 0 r c') = ((e r c' : ℝ) : EReal))

/-! ## The arrays before the call -/

theorem rows_read (x : FVec Ideal S1x4096x1024 .bf16) (r : Fin 4096) (j : Fin 1024) :
    shapeCast S4096x1024 x shapeCasts_S1x4096x1024_S4096x1024 (ix2 r j) = x (ix3 0 r j) := by
  pointwise []

theorem keys_read (x y : FVec Ideal S1x4096x2x64 .bf16) (r : Fin 4096) (j : Fin 256) :
    concatenate S4096x256 1 [⟨S4096x128, shapeCast S4096x128 x shapeCasts_S1x4096x2x64_S4096x128⟩, ⟨S4096x128, shapeCast S4096x128 y shapeCasts_S1x4096x2x64_S4096x128⟩]
      concatenates_S4096x128_S4096x128_S4096x256_d1 (ix2 r j)
      = if h : j.val < 128 then x (ix4 0 r ⟨j.val / 64, by omega⟩ ⟨j.val % 64, by omega⟩) else y (ix4 0 r ⟨(j.val - 128) / 64, by omega⟩ ⟨(j.val - 128) % 64, by omega⟩) := by
  pointwise []

theorem V_q : V m c main_v3 = (shapeCast S4096x1024 (m ((c.tc : Thread nD τ).loc main_arg0)) shapeCasts_S1x4096x1024_S4096x1024 : FVec Ideal S4096x1024 .bf16) := by
  unfold_abbrev_sides; after_results; rfl
theorem V_d : V m c main_v4 = (shapeCast S4096x1024 (m ((c.tc : Thread nD τ).loc main_arg4)) shapeCasts_S1x4096x1024_S4096x1024 : FVec Ideal S4096x1024 .bf16) := by
  unfold_abbrev_sides; after_results; rfl
theorem V_kv : V m c main_v2 = (concatenate S4096x256 1 [⟨S4096x128, shapeCast S4096x128 (m ((c.tc : Thread nD τ).loc main_arg1)) shapeCasts_S1x4096x2x64_S4096x128⟩,
    ⟨S4096x128, shapeCast S4096x128 (m ((c.tc : Thread nD τ).loc main_arg2)) shapeCasts_S1x4096x2x64_S4096x128⟩] concatenates_S4096x128_S4096x128_S4096x256_d1 : FVec Ideal S4096x256 .bf16) := by
  unfold_abbrev_sides; after_results; rfl

include hq in
theorem q_at (r : Fin 4096) (j : Fin 1024) : V m c main_v3 (ix2 r j) = ((q r j : ℝ) : EReal) :=
  (congrFun (V_q m c) (ix2 r j)).trans ((rows_read _ r j).trans (hq r j))
include he in
theorem d_at (r : Fin 4096) (j : Fin 1024) : V m c main_v4 (ix2 r j) = ((e r j : ℝ) : EReal) :=
  (congrFun (V_d m c) (ix2 r j)).trans ((rows_read _ r j).trans (he r j))
include hk hv in
theorem kv_at (r : Fin 4096) (j : Fin 256) : V m c main_v2 (ix2 r j) = ((kv r j : ℝ) : EReal) := by
  refine (congrFun (V_kv m c) (ix2 r j)).trans ((keys_read _ _ r j).trans ?_)
  split
  · refine (hk _ _ _).trans (congrArg (fun k => ((kv r k : ℝ) : EReal)) (Fin.ext ?_))
    dsimp only [kcol]; omega
  · refine (hv _ _ _).trans (congrArg (fun k => ((kv r k : ℝ) : EReal)) (Fin.ext ?_))
    dsimp only [vcol]; omega

/-! ## A point's blocks -/

/-- The block of a point below the last. -/
abbrev blk (t : Fin cfg0.N) (h : t.val < 32) : Fin 32 := ⟨t.val, h⟩

variable (t : Fin cfg0.N) (h : t.val < 32)

include hz in
theorem blk_z (j : Fin 16) : iblk (F := Ideal) m c 0 t (ix1 j) = ((z j : ℝ) : EReal) := by
  rw [← hz]
  blk_point [iblk, Gen.V, idx t]
  all_goals rfl

include hq in
theorem blk_q (i : Fin 128) (j : Fin 1024) : iblk (F := Ideal) m c 1 t (ix2 i j) = ((blkQ q (blk t h) i j : ℝ) : EReal) := by
  refine Eq.trans ?_ (q_at m c q hq (srow (blk t h) i) j)
  blk_point [iblk, idx t]
  all_goals first | rfl | (simp only [srow, blk]; omega)

include he in
theorem blk_d (i : Fin 128) (j : Fin 1024) : iblk (F := Ideal) m c 4 t (ix2 i j) = ((blkQ e (blk t h) i j : ℝ) : EReal) := by
  refine Eq.trans ?_ (d_at m c e he (srow (blk t h) i) j)
  blk_point [iblk, idx t]
  all_goals first | rfl | (simp only [srow, blk]; omega)

include hk hv in
theorem blk_p (s : Fin 128) (j : Fin 256) : iblk (F := Ideal) m c 2 t (ix2 s j) = ((band kv (blk t h) (old s) j : ℝ) : EReal) := by
  have e0 : (⟨(t.val - 1 + if t.val = 0 then 0 else (old s).val / 128) * 128 + (old s).val % 128, by have := s.isLt; split <;> omega⟩ : Fin 4096)
      = ⟨(t.val - 1) * 128 + s.val, by have := s.isLt; omega⟩ := by
    refine Fin.ext ?_
    have h1 : s.val / 128 = 0 := Nat.div_eq_of_lt s.isLt
    have h2 : s.val % 128 = s.val := Nat.mod_eq_of_lt s.isLt
    show (t.val - 1 + if t.val = 0 then 0 else s.val / 128) * 128 + s.val % 128 = (t.val - 1) * 128 + s.val
    rw [h1, h2]; simp
  unfold band
  refine Eq.trans ?_ ((kv_at m c kv hk hv ⟨(t.val - 1) * 128 + s.val, by have := s.isLt; omega⟩ j).trans (congrArg (fun r => ((kv r j : ℝ) : EReal)) e0.symm))
  blk_point [iblk, idx t]
  all_goals first | rfl | (dsimp only; omega)

include hk hv in
theorem blk_n (s : Fin 128) (j : Fin 256) : iblk (F := Ideal) m c 3 t (ix2 s j) = ((band kv (blk t h) (own s) j : ℝ) : EReal) := by
  have e0 : (⟨(t.val - 1 + if t.val = 0 then 0 else (own s).val / 128) * 128 + (own s).val % 128, by have := s.isLt; split <;> omega⟩ : Fin 4096)
      = ⟨t.val * 128 + s.val, by have := s.isLt; omega⟩ := by
    refine Fin.ext ?_
    have := s.isLt
    have h1 : (128 + s.val) / 128 = 1 := by omega
    have h2 : (128 + s.val) % 128 = s.val := by omega
    show (t.val - 1 + if t.val = 0 then 0 else (128 + s.val) / 128) * 128 + (128 + s.val) % 128 = t.val * 128 + s.val
    rw [h1, h2]; split <;> omega
  unfold band
  refine Eq.trans ?_ ((kv_at m c kv hk hv ⟨t.val * 128 + s.val, by have := s.isLt; omega⟩ j).trans (congrArg (fun r => ((kv r j : ℝ) : EReal)) e0.symm))
  blk_point [iblk, idx t]
  all_goals first | rfl | (dsimp only; omega)

include hq hk hv hz he in
theorem point0 : Reads (at0 m c t) 0 t.val (blkQ q (blk t h)) (blkQ e (blk t h)) (band kv (blk t h)) z := by
  unfold at0
  rw [coord]
  exact reads0 ⟨t.val, lt33 t⟩ _ _ _ _ _ _ _ _ _ (blk_q m c q hq t h) (blk_d m c e he t h) (blk_p m c kv hk hv t h) (blk_n m c kv hk hv t h) (blk_z m c z hz t)

include hq hk hv hz he in
theorem point1 : Reads (at1 m c t) 1 t.val (blkQ q (blk t h)) (blkQ e (blk t h)) (band kv (blk t h)) z := by
  unfold at1
  rw [coord]
  exact reads1 ⟨t.val, lt33 t⟩ _ _ _ _ _ _ _ _ _ (blk_q m c q hq t h) (blk_d m c e he t h) (blk_p m c kv hk hv t h) (blk_n m c kv hk hv t h) (blk_z m c z hz t)

/-! ## What a point holds -/

include hq hk hv hz he in
theorem prev_at (s : Fin 128) (j : Fin 256) : prevKv (at0 m c t) (at1 m c t) (ix2 s j) = ((bandKv q e kv z (blk t h) (old s) j : ℝ) : EReal) := by
  have R0 := point0 m c q e kv z hq hk hv hz he t h
  have R1 := point1 m c q e kv z hq hk hv hz he t h
  unfold bandKv
  by_cases hj : j.val < 128
  · rw [dif_pos hj]
    exact prevK_at R0 R1 s ⟨j.val, hj⟩
  · rw [dif_neg hj]
    refine Eq.trans (congrArg (fun k => prevKv (at0 m c t) (at1 m c t) (ix2 s k)) (Fin.ext (by dsimp only; omega))) (prevV_at R0 R1 s ⟨j.val - 128, by omega⟩)

include hq hk hv hz he in
theorem cur_at (s : Fin 128) (j : Fin 256) : curKv (at0 m c t) (at1 m c t) (ix2 s j) = ((bandKv q e kv z (blk t h) (own s) j : ℝ) : EReal) := by
  have R0 := point0 m c q e kv z hq hk hv hz he t h
  have R1 := point1 m c q e kv z hq hk hv hz he t h
  unfold bandKv
  by_cases hj : j.val < 128
  · rw [dif_pos hj]
    exact curK_at R0 R1 s ⟨j.val, hj⟩
  · rw [dif_neg hj]
    refine Eq.trans (congrArg (fun k => curKv (at0 m c t) (at1 m c t) (ix2 s k)) (Fin.ext (by dsimp only; omega))) (curV_at R0 R1 s ⟨j.val - 128, by omega⟩)

/-- A point below the last leaves its stages' values, over some sums and rows carried to it. -/
theorem outs_eq (h : t.val < 32) : ∃ (s : FVec Ideal S1x128 .f32) (x : FVec Ideal S128x256 .f32), outs m c t.val t.isLt = leaves m c t s x
    ∧ (t.val = 0 → s = k0_pay2) ∧ (t.val ≠ 0 → s = (prev m c t).2.2.1 ∧ x = (prev m c t).2.2.2) := by
  by_cases h0 : t.val = 0
  · exact ⟨_, _, (outs_A m c t h0).trans (leftA_eq m c t h0), fun _ => rfl, fun hh => absurd h0 hh⟩
  · exact ⟨_, _, (outs_B m c t h0 h).trans (leftB_eq m c t _ h0 h), fun hh => absurd hh h0, fun _ => ⟨rfl, rfl⟩⟩

include hq hk hv hz he in
theorem outs_dq : (outs m c t.val t.isLt).1 = dqBlock t.val (blkQ q (blk t h)) (blkQ e (blk t h)) (band kv (blk t h)) z := by
  obtain ⟨s, x, e0, -, -⟩ := outs_eq m c t h
  rw [e0]
  exact dqTile_eq (point0 m c q e kv z hq hk hv hz he t h) (point1 m c q e kv z hq hk hv hz he t h) _ _ (blk_p m c kv hk hv t h) (blk_n m c kv hk hv t h)

theorem same_rows (x : FVec Ideal S128x256 .f32) (s : Fin 128) (j : Fin 256) : shapeCast S128x256 x shapeCasts_S128x256_S128x256 (ix2 s j) = x (ix2 s j) := by
  pointwise []
theorem same_sums (x : FVec Ideal S1x128 .f32) (s : Fin 1) (j : Fin 128) : shapeCast S1x128 x shapeCasts_S1x128_S1x128 (ix2 s j) = x (ix2 s j) := by
  pointwise []

include hq hk hv hz he in
theorem outs_carry (s : Fin 128) (j : Fin 256) : (outs m c t.val t.isLt).2.2.2 (ix2 s j) = ((bandKv q e kv z (blk t h) (own s) j : ℝ) : EReal) := by
  obtain ⟨s', x, e0, -, -⟩ := outs_eq m c t h
  rw [e0]
  exact (same_rows _ s j).trans (cur_at m c q e kv z hq hk hv hz he t h s j)

end Cert.AttnGradIdeal.Stage
-- ==== Proof.AttnValue.lean ====
/-
  The three arrays that the attention's gradient leaves, at every index, over the real numbers.
-/
module

public import proofs.«01_k».proof.Proof.AttnPoints
public import Idealize.ShloMosaic.Lib.Pipeline.ValueKit
public import Idealize.ShloMosaic.Lib.Pipeline.ReadBack

@[expose] public section

set_option maxRecDepth 16384

noncomputable section

namespace Cert.AttnGradIdeal.Stage

open Idealize.ShloMosaic Idealize.ShloMosaic.Tactic Idealize.ShloMosaic.TcCoe Idealize.SL.Sem Cert.AttnGradIdeal Cert.AttnGradIdeal.Gen
open Cert.AttnGradIdeal.Run (Left outs prev leftA leftB leftC outs_A outs_B outs_C dats after_5 after_6 after_7)
open Cert.Step Cert.Step.Attn

/-- The array of the queries' gradient. -/
def dqAll (q e : Fin 4096 → Fin 1024 → ℝ) (kv : Fin 4096 → Fin 256 → ℝ) (z : Fin 16 → ℝ) (r : Fin 4096) (j : Fin 1024) : ℝ :=
  dq q e kv z ⟨r.val / 128, by omega⟩ ⟨j.val / 512, by omega⟩ ⟨j.val / 64 % 8, by omega⟩ ⟨r.val % 128, by omega⟩ ⟨j.val % 64, by omega⟩

/-- The array of the keys' and the values' gradients. -/
def dkvAll (q e : Fin 4096 → Fin 1024 → ℝ) (kv : Fin 4096 → Fin 256 → ℝ) (z : Fin 16 → ℝ) (r : Fin 4096) (j : Fin 256) : ℝ :=
  if h : j.val < 128 then dkRow q e kv z ⟨r.val / 128, by omega⟩ ⟨r.val % 128, by omega⟩ ⟨j.val / 64, by omega⟩ ⟨j.val % 64, by omega⟩
  else dvRow q e kv z ⟨r.val / 128, by omega⟩ ⟨r.val % 128, by omega⟩ ⟨(j.val - 128) / 64, by omega⟩ ⟨(j.val - 128) % 64, by omega⟩

/-- The row of the sinks' gradient. -/
def sinkAll (q e : Fin 4096 → Fin 1024 → ℝ) (kv : Fin 4096 → Fin 256 → ℝ) (z : Fin 16 → ℝ) (j : Fin 128) : ℝ :=
  if h : j.val < 16 then dSink q e kv z ⟨j.val / 8, by omega⟩ ⟨j.val % 8, by omega⟩ else 0

/-- A block's row, from its own queries and the next block's. -/
theorem bandKv_join (q e : Fin 4096 → Fin 1024 → ℝ) (kv : Fin 4096 → Fin 256 → ℝ) (z : Fin 16 → ℝ) (n : Fin 32) (s : Fin 128) (j : Fin 256) (r : Fin 4096)
    (hr : r.val = n.val * 128 + s.val) :
    dkvAll q e kv z r j = bandKv q e kv z n (own s) j + if h : n.val + 1 < 32 then bandKv q e kv z ⟨n.val + 1, h⟩ (old s) j else 0 := by
  have e0 : (⟨r.val / 128, by omega⟩ : Fin 32) = n := Fin.ext (by dsimp only; omega)
  have e1 : (⟨r.val % 128, by omega⟩ : Fin 128) = s := Fin.ext (by dsimp only; omega)
  unfold dkvAll bandKv
  rw [e0, e1]
  unfold dkRow dvRow
  by_cases hj : j.val < 128
  · simp only [dif_pos hj]
  · simp only [dif_neg hj]

/-- The sum of the blocks' rows of the sinks' gradient. -/
theorem sink_join (q e : Fin 4096 → Fin 1024 → ℝ) (kv : Fin 4096 → Fin 256 → ℝ) (z : Fin 16 → ℝ) (j : Fin 128) :
    ∑ n : Fin 32, sinkRow n.val (blkQ q n) (blkQ e n) (band kv n) z j = sinkAll q e kv z j := by
  unfold sinkAll
  have key (g : Fin 2) (h : Fin 8) (n : Fin 32) : dZ n.val (blkQ q n) (blkQ e n) (band kv n) z g h = dz q e kv z n g h := rfl
  by_cases hj : j.val < 16
  · rw [dif_pos hj]
    unfold dSink
    rw [← Finset.sum_neg_distrib]
    refine Finset.sum_congr rfl fun n _ => ?_
    unfold sinkRow
    rw [Finset.sum_eq_single (⟨j.val / 8, by omega⟩ : Fin 2), Finset.sum_eq_single (⟨j.val % 8, by omega⟩ : Fin 8)]
    · rw [if_pos (by dsimp only [num]; omega)]; rfl
    · intro h _ hh
      exact if_neg fun e => hh (Fin.ext (by dsimp only [num] at e ⊢; omega))
    · intro hh; exact absurd (Finset.mem_univ _) hh
    · intro g _ hg
      refine Finset.sum_eq_zero fun h _ => if_neg fun e => hg (Fin.ext (by dsimp only [num] at e ⊢; omega))
    · intro hh; exact absurd (Finset.mem_univ _) hh
  · rw [dif_neg hj]
    refine Finset.sum_eq_zero fun n _ => Finset.sum_eq_zero fun g _ => Finset.sum_eq_zero fun h _ => if_neg fun e => hj ?_
    dsimp only [num] at e; omega

variable (m : (ℓ : Loc nD τ sig) → Buf (Elt Ideal) ℓ) (c : Dev nD)
variable (q e : Fin 4096 → Fin 1024 → ℝ) (kv : Fin 4096 → Fin 256 → ℝ) (z : Fin 16 → ℝ)
variable (hq : ∀ r c', m ((c.tc : Thread nD τ).loc main_arg0) (ix3 0 r c') = ((q r c' : ℝ) : EReal))
variable (hk : ∀ r g d, m ((c.tc : Thread nD τ).loc main_arg1) (ix4 0 r g d) = ((kv r (kcol g d) : ℝ) : EReal))
variable (hv : ∀ r g d, m ((c.tc : Thread nD τ).loc main_arg2) (ix4 0 r g d) = ((kv r (vcol g d) : ℝ) : EReal))
variable (hz : ∀ j, m ((c.tc : Thread nD τ).loc main_arg3) (ix1 j) = ((z j : ℝ) : EReal))
variable (he : ∀ r c', m ((c.tc : Thread nD τ).loc main_arg4) (ix3 0 r c') = ((e r c' : ℝ) : EReal))

/-- Where the queries' gradient is written back: at every point but the one before the last. -/
theorem flush_dq : ∀ t : Fin cfg0.N, (cfg0.win 5).flush t = true → t.val ≠ 31 := (by decide +kernel : ∀ t : Fin grid0.N, win0_5.flush t = true → t.val ≠ 31)
/-- Where the keys' and values' gradient is written back: at every point but the first. -/
theorem flush_dkv : ∀ t : Fin cfg0.N, (cfg0.win 6).flush t = true → t.val ≠ 0 := (by decide +kernel : ∀ t : Fin grid0.N, win0_6.flush t = true → t.val ≠ 0)

/-! ## The queries' gradient -/

include hq hk hv hz he in
theorem dq_point (t : Fin cfg0.N) (ht : t.val ≠ 31) (n : Fin 32) (hn : n.val = min t.val 31) :
    (outs m c t.val t.isLt).1 = dqBlock n.val (blkQ q n) (blkQ e n) (band kv n) z := by
  by_cases h : t.val < 32
  · have e0 : blk t h = n := Fin.ext (by show t.val = n.val; omega)
    have := outs_dq m c q e kv z hq hk hv hz he t h
    rw [e0] at this
    exact this.trans (congrArg (fun k => dqBlock k (blkQ q n) (blkQ e n) (band kv n) z) (show t.val = n.val by omega))
  · have h32 : t.val = 32 := by have := lt33 t; omega
    rw [outs_C m c t h32, leftC_eq]
    have e0 : blk ⟨t.val - 1, Nat.lt_of_le_of_lt (Nat.sub_le _ _) t.isLt⟩ (by dsimp only; omega) = n := Fin.ext (by show t.val - 1 = n.val; omega)
    refine (outs_dq m c q e kv z hq hk hv hz he ⟨t.val - 1, Nat.lt_of_le_of_lt (Nat.sub_le _ _) t.isLt⟩ (by dsimp only; omega)).trans ?_
    rw [e0]
    exact congrArg (fun k => dqBlock k (blkQ q n) (blkQ e n) (band kv n) z) (show t.val - 1 = n.val by omega)

theorem dqBlock_at (n : Fin 32) (i : Fin 128) (j : Fin 1024) (y : S4096x1024.Idx) (hy : y = ix2 (srow n i) j) :
    dqBlock n.val (blkQ q n) (blkQ e n) (band kv n) z (ix2 i j) = ((dqAll q e kv z (y 0) (y 1) : ℝ) : EReal) := by
  subst hy
  refine congrArg (fun r : ℝ => (r : EReal)) ?_
  show _ = dq q e kv z ⟨(srow n i).val / 128, by omega⟩ ⟨j.val / 512, by omega⟩ ⟨j.val / 64 % 8, by omega⟩ ⟨(srow n i).val % 128, by omega⟩ ⟨j.val % 64, by omega⟩
  have e0 : (⟨(srow n i).val / 128, by omega⟩ : Fin 32) = n := Fin.ext (by dsimp only; omega)
  have e1 : (⟨(srow n i).val % 128, by omega⟩ : Fin 128) = i := Fin.ext (by dsimp only; omega)
  rw [e0, e1]
  rfl

include hq hk hv hz he in
set_option maxHeartbeats 1000000 in
theorem final_dq : (dats m 0 c).arrAt 5 cfg0.N = fun y : S4096x1024.Idx => ((dqAll q e kv z (y 0) (y 1) : ℝ) : EReal) := by
  refine (dats m 0 c).arrAt_eq_of_covers 5 _ (by decide +kernel) fun t hf y => ?_
  have ht := flush_dq t hf
  have h33 := lt33 t
  blk_simp
  rw [after_5, dq_point m c q e kv z hq hk hv hz he t ht ⟨min t.val 31, by omega⟩ rfl]
  idx_vars y
  refine dqBlock_at q e kv z ⟨min t.val 31, by omega⟩ y0 y1 _ ?_
  blk_ext [idx t]
  all_goals first | rfl | (dsimp only [srow]; omega)

/-! ## The keys' and the values' gradients -/

theorem trunc_rows (x : FVec Ideal S128x256 .f32) (s : Fin 128) (j : Fin 256) : truncf .bf16 x bitsLt_bf16_f32 (ix2 s j) = x (ix2 s j) := by
  pointwise []
theorem pay3_at (x : FVec Ideal S128x256 .f32) (s : Fin 128) (j : Fin 256) : k0_pay3 (F := Ideal) x (ix2 s j) = (x (ix2 s j) : EReal) :=
  trunc_rows x s j
theorem add_at (x y : FVec Ideal S128x256 .f32) (s : Fin 128) (j : Fin 256) : addf x y (ix2 s j) = x (ix2 s j) + y (ix2 s j) := by
  pointwise []
theorem add_row (x y : FVec Ideal S1x128 .f32) (s : Fin 1) (j : Fin 128) : addf x y (ix2 s j) = x (ix2 s j) + y (ix2 s j) := by
  pointwise []
theorem pay2_at (s : Fin 1) (j : Fin 128) : k0_pay2 (F := Ideal) (ix2 s j) = (0 : EReal) := by
  unfold k0_pay2; pointwise []

include hq hk hv hz he in
theorem dkv_point (t : Fin cfg0.N) (ht : t.val ≠ 0) (s : Fin 128) (j : Fin 256) (n : Fin 32) (hn : n.val = t.val - 1) :
    (outs m c t.val t.isLt).2.1 (ix2 s j)
      = ((bandKv q e kv z n (own s) j + if h : n.val + 1 < 32 then bandKv q e kv z ⟨n.val + 1, h⟩ (old s) j else 0 : ℝ) : EReal) := by
  have h33 := lt33 t
  have e0 : blk ⟨t.val - 1, Nat.lt_of_le_of_lt (Nat.sub_le _ _) t.isLt⟩ (by dsimp only; omega) = n := Fin.ext (by show t.val - 1 = n.val; omega)
  have p := outs_carry m c q e kv z hq hk hv hz he ⟨t.val - 1, Nat.lt_of_le_of_lt (Nat.sub_le _ _) t.isLt⟩ (by dsimp only; omega) s j
  rw [e0] at p
  by_cases h : t.val < 32
  · obtain ⟨s', x, e1, -, e2⟩ := outs_eq m c t h
    obtain ⟨-, rfl⟩ := e2 ht
    rw [e1]
    refine (trunc_rows _ s j).trans ((add_at _ _ s j).trans ?_)
    rw [prev_at m c q e kv z hq hk hv hz he t h s j, dif_pos (show n.val + 1 < 32 by omega), EReal.coe_add]
    have e3 : blk t h = ⟨n.val + 1, by omega⟩ := Fin.ext (by show t.val = n.val + 1; omega)
    rw [e3]
    exact congrArg (· + _) p
  · have h32 : t.val = 32 := by omega
    rw [outs_C m c t h32, leftC_eq]
    refine (pay3_at _ s j).trans (p.trans ?_)
    rw [dif_neg (show ¬ n.val + 1 < 32 by omega), add_zero]

theorem dkv_at (n : Fin 32) (s : Fin 128) (j : Fin 256) (y : S4096x256.Idx) (hy : y = ix2 (srow n s) j) :
    ((bandKv q e kv z n (own s) j + if h : n.val + 1 < 32 then bandKv q e kv z ⟨n.val + 1, h⟩ (old s) j else 0 : ℝ) : EReal)
      = ((dkvAll q e kv z (y 0) (y 1) : ℝ) : EReal) := by
  subst hy
  exact congrArg (fun r : ℝ => (r : EReal)) (bandKv_join q e kv z n s j (srow n s) rfl).symm

include hq hk hv hz he in
set_option maxHeartbeats 1000000 in
theorem final_dkv : (dats m 0 c).arrAt 6 cfg0.N = fun y : S4096x256.Idx => ((dkvAll q e kv z (y 0) (y 1) : ℝ) : EReal) := by
  refine (dats m 0 c).arrAt_eq_of_covers 6 _ (by decide +kernel) fun t hf y => ?_
  have ht := flush_dkv t hf
  have h33 := lt33 t
  blk_simp
  rw [after_6]
  idx_vars y
  refine (dkv_point m c q e kv z hq hk hv hz he t ht y0 y1 ⟨t.val - 1, by omega⟩ rfl).trans (dkv_at q e kv z ⟨t.val - 1, by omega⟩ y0 y1 _ ?_)
  blk_ext [idx t]
  all_goals first | rfl | (dsimp only [srow]; omega)

/-! ## The sinks' gradient -/

/-- What a point adds to the sinks' gradient: nothing at the last. -/
def sinkTerm (t : Fin cfg0.N) (j : Fin 128) : ℝ :=
  if h : t.val < 32 then sinkRow t.val (blkQ q (blk t h)) (blkQ e (blk t h)) (band kv (blk t h)) z j else 0

include hq hk hv hz he in
theorem sink_first (t : Fin cfg0.N) (ht : t.val = 0) (j : Fin 128) : (outs m c t.val t.isLt).2.2.1 (ix2 0 j) = 0 + ((sinkTerm q e kv z t j : ℝ) : EReal) := by
  have h : t.val < 32 := by omega
  obtain ⟨s', x, e1, e2, -⟩ := outs_eq m c t h
  obtain rfl := e2 ht
  rw [e1]
  refine (add_row _ _ 0 j).trans ?_
  rw [same_sums, pay2_at, sinkGrad_at (point0 m c q e kv z hq hk hv hz he t h) (point1 m c q e kv z hq hk hv hz he t h) j]
  unfold sinkTerm
  rw [dif_pos h]

include hq hk hv hz he in
theorem sink_step (t : Fin cfg0.N) (ht : t.val ≠ 0) (j : Fin 128) :
    (outs m c t.val t.isLt).2.2.1 (ix2 0 j) = (prev m c t).2.2.1 (ix2 0 j) + ((sinkTerm q e kv z t j : ℝ) : EReal) := by
  have h33 := lt33 t
  unfold sinkTerm
  by_cases h : t.val < 32
  · obtain ⟨s', x, e1, -, e2⟩ := outs_eq m c t h
    obtain ⟨rfl, -⟩ := e2 ht
    rw [e1]
    refine (add_row _ _ 0 j).trans ?_
    rw [same_sums, sinkGrad_at (point0 m c q e kv z hq hk hv hz he t h) (point1 m c q e kv z hq hk hv hz he t h) j, dif_pos h]
  · rw [outs_C m c t (by omega), leftC_eq, dif_neg h, EReal.coe_zero, add_zero]

/-- The points' parts together. -/
theorem sink_total (j : Fin 128) : ∑ t : Fin cfg0.N, ((sinkTerm q e kv z t j : ℝ) : EReal) = ((sinkAll q e kv z j : ℝ) : EReal) := by
  rw [coe_sum, ← sink_join]
  refine congrArg (fun r : ℝ => (r : EReal)) ?_
  refine (Fin.sum_univ_castSucc (n := 32) (fun t => sinkTerm q e kv z t j)).trans ?_
  rw [show sinkTerm q e kv z (Fin.last 32) j = 0 from dif_neg (by decide), add_zero]
  exact Finset.sum_congr rfl fun n _ => dif_pos n.isLt

theorem flush_sink : ∀ t : Fin cfg0.N, (cfg0.win 7).flush t = true → t.val = 32 := (by decide +kernel : ∀ t : Fin grid0.N, win0_7.flush t = true → t.val = 32)

include hq hk hv hz he in
theorem sink_point (t : Fin cfg0.N) (ht : t.val = 32) (j : Fin 128) : (outs m c t.val t.isLt).2.2.1 (ix2 0 j) = ((sinkAll q e kv z j : ℝ) : EReal) := by
  refine (Pipeline.eq_sum_fin_of_reset_step_apply_last (fun n h (j : Fin 128) => (outs m c n h).2.2.1 (ix2 0 j)) 33 (fun _ => (0 : EReal))
    (fun t j => ((sinkTerm q e kv z t j : ℝ) : EReal))
    (fun t h j => sink_first m c q e kv z hq hk hv hz he t (by have := lt33 t; omega) j)
    (fun t h j => sink_step m c q e kv z hq hk hv hz he t (fun h0 => h (by rw [h0])) j)
    (le_of_eq N_0) t (by rw [ht]; exact N_0.symm) j).trans ?_
  rw [zero_add, sink_total]

include hq hk hv hz he in
set_option maxHeartbeats 1000000 in
theorem final_sink : (dats m 0 c).arrAt 7 cfg0.N = fun y : S1x128.Idx => ((sinkAll q e kv z (y 1) : ℝ) : EReal) := by
  refine (dats m 0 c).arrAt_eq_of_covers 7 _ (by decide +kernel) fun t hf y => ?_
  have ht := flush_sink t hf
  blk_simp
  rw [after_7]
  idx_vars y
  obtain rfl : y0 = 0 := Subsingleton.elim _ _
  refine (sink_point m c q e kv z hq hk hv hz he t ht y1).trans (congrArg (fun k => ((sinkAll q e kv z k : ℝ) : EReal)) ?_)
  refine Fin.ext ?_
  simp [idx t]

end Cert.AttnGradIdeal.Stage
-- ==== Proof.AttnRefScore.lean ====
/-
  The reference's arguments in bands, and its scores, read at an index over the real numbers.
-/
module

public import proofs.«01_k».proof.Proof.AttnReads
public import proofs.«01_k».proof.Proof.Gen.AttnGradRefIdeal.Read

@[expose] public section

set_option maxRecDepth 16384

noncomputable section

namespace Cert.AttnGradRefIdeal.Val

open Idealize.ShloMosaic Cert.AttnGradRefIdeal Cert.AttnGradRefIdeal.Read Cert.Step Cert.Step.Attn
open Cert.AttnGradIdeal.Stage (sel exp_shift fold_max_lt lit_bot)

/-- A row of the band: its row of the sequence, zero before the sequence's first. -/
def zband (kv : Fin 4096 → Fin 256 → ℝ) (n : Fin 32) : Fin 256 → Fin 256 → ℝ := fun s c => if n.val = 0 ∧ s.val < 128 then 0 else band kv n s c

theorem zband_visible (kv : Fin 4096 → Fin 256 → ℝ) (n : Fin 32) (s : Fin 256) (h : n.val = 0 → 128 ≤ s.val) : zband kv n s = band kv n s := by
  funext c
  unfold zband
  rw [if_neg (by omega)]

theorem band_old (kv : Fin 4096 → Fin 256 → ℝ) (n : Fin 32) (s : Fin 256) (c : Fin 256) (h0 : ¬ n.val < 1) (hs : s.val < 128) (h : (n.val - 1) * 128 + s.val < 4096) :
    zband kv n s c = kv ⟨(n.val - 1) * 128 + s.val, h⟩ c := by
  unfold zband band
  rw [if_neg (by omega)]
  refine congrArg (fun r => kv r c) (Fin.ext ?_)
  simp only [if_neg (show ¬ n.val = 0 by omega), Nat.div_eq_of_lt hs, Nat.mod_eq_of_lt hs, add_zero]

theorem band_own (kv : Fin 4096 → Fin 256 → ℝ) (n : Fin 32) (s : Fin 256) (c : Fin 256) (hs : ¬ s.val < 128) (h : n.val * 128 + (s.val - 128) < 4096) :
    zband kv n s c = kv ⟨n.val * 128 + (s.val - 128), h⟩ c := by
  unfold zband band
  rw [if_neg (by omega)]
  refine congrArg (fun r => kv r c) (Fin.ext ?_)
  have := s.isLt
  have h1 : s.val / 128 = 1 := by omega
  have h2 : s.val % 128 = s.val - 128 := by omega
  show (n.val - 1 + if n.val = 0 then 0 else s.val / 128) * 128 + s.val % 128 = n.val * 128 + (s.val - 128)
  rw [h1, h2]
  split <;> omega

variable (x0 : Vec Ideal S1x4096x1024 .bf16) (x1 x2 : Vec Ideal S1x4096x2x64 .bf16) (x3 : Vec Ideal S16 .f32) (x4 : Vec Ideal S1x4096x1024 .bf16)
variable (q e : Fin 4096 → Fin 1024 → ℝ) (kv : Fin 4096 → Fin 256 → ℝ) (z : Fin 16 → ℝ)
variable (hq : ∀ r c, x0 (ix3 0 r c) = ((q r c : ℝ) : EReal)) (hk : ∀ r g d, x1 (ix4 0 r g d) = ((kv r (kcol g d) : ℝ) : EReal))
variable (hv : ∀ r g d, x2 (ix4 0 r g d) = ((kv r (vcol g d) : ℝ) : EReal)) (hz : ∀ j, x3 (ix1 j) = ((z j : ℝ) : EReal))
variable (he : ∀ r c, x4 (ix3 0 r c) = ((e r c : ℝ) : EReal))

/-- The column of a query head's coordinate, as three digits. -/
theorem qcol_digits (g : Fin 2) (h : Fin 8) (d : Fin 64) (hh : g.val * 512 + h.val * 64 + d.val < 1024) :
    (⟨g.val * 512 + h.val * 64 + d.val, hh⟩ : Fin 1024) = qcol g h d := Fin.ext (by dsimp only; omega)

include hq in
theorem v3_at (n : Fin 32) (i : Fin 128) (g : Fin 2) (h : Fin 8) (d : Fin 64) :
    val_main_v3 (F := Ideal) x0 (ix6 0 n i g h d) = ((blkQ q n i (qcol g h d) : ℝ) : EReal) := by
  pointwise [val_main_v3, val_main_v0]
  rw [qcol_digits, hq]; rfl

include he in
theorem v129_at (n : Fin 32) (g : Fin 2) (d : Fin 64) (h : Fin 8) (i : Fin 128) :
    val_main_v129 (F := Ideal) x4 (ix6 0 n g d h i) = ((blkQ e n i (qcol g h d) : ℝ) : EReal) := by
  pointwise [val_main_v129, val_main_v128, val_main_v127]
  rw [qcol_digits, he]; rfl

include hk in
theorem v4_at (n : Fin 32) (s : Fin 128) (g : Fin 2) (d : Fin 64) (hh : n.val * 128 + s.val < 4096) :
    val_main_v4 (F := Ideal) x1 (ix5 0 n s g d) = ((kv ⟨n.val * 128 + s.val, hh⟩ (kcol g d) : ℝ) : EReal) := by
  pointwise [val_main_v4, val_main_v1]
  exact hk _ _ _

include hv in
theorem v10_at (n : Fin 32) (s : Fin 128) (g : Fin 2) (d : Fin 64) (hh : n.val * 128 + s.val < 4096) :
    val_main_v10 (F := Ideal) x2 (ix5 0 n s g d) = ((kv ⟨n.val * 128 + s.val, hh⟩ (vcol g d) : ℝ) : EReal) := by
  pointwise [val_main_v10, val_main_v2]
  exact hv _ _ _

include hk in
theorem v9_at (n : Fin 32) (s : Fin 256) (g : Fin 2) (d : Fin 64) :
    val_main_v9 (F := Ideal) x1 (ix5 0 n s g d) = ((zband kv n s (kcol g d) : ℝ) : EReal) := by
  have := n.isLt; have := s.isLt
  pointwise [val_main_v9, val_main_v7, val_main_v6, val_main_v5, val_main_cst]
  split
  · rename_i hs
    split
    · rename_i h0
      unfold zband
      rw [if_pos ⟨by omega, hs⟩, EReal.coe_zero]
    · rename_i h0
      rw [v4_at x1 kv hk _ _ _ _ (by dsimp only; omega), band_old kv n s _ h0 hs (by omega)]
  · rename_i hs
    rw [v4_at x1 kv hk _ _ _ _ (by dsimp only; omega), band_own kv n s _ hs (by omega)]

include hv in
theorem v15_at (n : Fin 32) (s : Fin 256) (g : Fin 2) (d : Fin 64) :
    val_main_v15 (F := Ideal) x2 (ix5 0 n s g d) = ((zband kv n s (vcol g d) : ℝ) : EReal) := by
  have := n.isLt; have := s.isLt
  pointwise [val_main_v15, val_main_v13, val_main_v12, val_main_v11, val_main_cst_1]
  split
  · rename_i hs
    split
    · rename_i h0
      unfold zband
      rw [if_pos ⟨by omega, hs⟩, EReal.coe_zero]
    · rename_i h0
      rw [v10_at x2 kv hv _ _ _ _ (by dsimp only; omega), band_old kv n s _ h0 hs (by omega)]
  · rename_i hs
    rw [v10_at x2 kv hv _ _ _ _ (by dsimp only; omega), band_own kv n s _ hs (by omega)]

theorem lit_eighth : Ideal.ofBits .f32 0x3E000000#32 = ((1 / 8 : ℝ) : EReal) := by
  simp [Ideal.ofBits, Ideal.ieee, -EReal.coe_mul]; norm_num

include hq hk in
theorem v19_at (n : Fin 32) (g : Fin 2) (h : Fin 8) (i : Fin 128) (s : Fin 256) :
    val_main_v19 (F := Ideal) x0 x1 (ix6 0 n g h i s) = (((∑ d, blkQ q n i (qcol g h d) * zband kv n s (kcol g d)) / 8 : ℝ) : EReal) := by
  pointwise [val_main_v19, val_main_v17, val_main_v16, val_main_v18, val_main_cst_3]
  simp only [v9_at x1 kv hk, v3_at x0 q hq, ← EReal.coe_mul, coe_sum, lit_eighth]
  refine congrArg _ ?_
  rw [mul_one_div]
  exact congrArg (· / 8) (Finset.sum_congr rfl fun d _ => mul_comm _ _)

/-! ## Distances, slopes and the mask -/

theorem sub_int' : ∀ (i : Fin 128) (s : Fin 256), (IntOp.subi (IntOp.addi (BitVec.ofNat 32 ↑i) 128#32) (BitVec.ofNat 32 ↑s)).toInt = (i.val : ℤ) + 128 - (s.val : ℤ) := by decide +kernel
theorem cmp_dist : ∀ (i : Fin 128) (s : Fin 256), IntOp.andi (IntOp.cmpi CmpIPredicate.sge (IntOp.subi (IntOp.addi (BitVec.ofNat 32 ↑i) 128#32) (BitVec.ofNat 32 ↑s)) 0#32)
    (IntOp.cmpi CmpIPredicate.slt (IntOp.subi (IntOp.addi (BitVec.ofNat 32 ↑i) 128#32) (BitVec.ofNat 32 ↑s)) 128#32) = if i.val < s.val ∧ s.val ≤ i.val + 128 then 1#1 else 0#1 := by decide +kernel
theorem cmp_abs : ∀ (n : Fin 32) (s : Fin 256), IntOp.cmpi CmpIPredicate.sge (IntOp.subi (IntOp.addi (IntOp.muli (BitVec.ofNat 32 ↑n) 128#32) (BitVec.ofNat 32 ↑s)) 128#32) 0#32
    = if n.val = 0 → 128 ≤ s.val then 1#1 else 0#1 := by decide +kernel

theorem v28_at (i : Fin 128) (s : Fin 256) :
    val_main_v28 (F := Ideal) (ix2 i s) = IntOp.subi (IntOp.addi (BitVec.ofNat 32 ↑i) 128#32) (BitVec.ofNat 32 ↑s) := by
  pointwise [val_main_v28, val_main_v27, val_main_v26, val_main_v25, val_main_v24, val_main_v23, val_main_v22, val_main_v21, val_main_v20, val_main_c]

theorem v51_at (n : Fin 32) (i : Fin 128) (s : Fin 256) :
    val_main_v51 (F := Ideal) (ix3 n i s) = if ok n.val i s then 1#1 else 0#1 := by
  pointwise [val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_c_4, val_main_c_5, val_main_c_6, val_main_c_7, val_main_c_8]
  rw [v28_at, cmp_dist, cmp_abs]
  by_cases h1 : i.val < s.val ∧ s.val ≤ i.val + 128
  · by_cases h2 : n.val = 0 → 128 ≤ s.val
    · rw [if_pos h1, if_pos h2, if_pos (show ok n.val i s from ⟨h1.1, h1.2, h2⟩)]; rfl
    · rw [if_pos h1, if_neg h2, if_neg (fun hh : ok n.val i s => h2 hh.2.2)]; rfl
  · rw [if_neg h1, if_neg (fun hh : ok n.val i s => h1 ⟨hh.1, hh.2.1⟩)]
    split <;> rfl

theorem v68_at (g : Fin 2) (h : Fin 8) : val_main_v68 (F := Ideal) (ix1 (num g h)) = Ideal.ofBits .f32 (words g h) := by
  pointwise [val_main_v68, val_main_v52, val_main_v53, val_main_v54, val_main_v55, val_main_v56, val_main_v57, val_main_v58, val_main_v59, val_main_v60, val_main_v61, val_main_v62, val_main_v63, val_main_v64, val_main_v65, val_main_v66, val_main_v67, val_main_cst_9, val_main_cst_10, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24]
  fin_cases g <;> fin_cases h <;> rfl

theorem v75_at (g : Fin 2) (h : Fin 8) (i : Fin 128) (s : Fin 256) :
    val_main_v75 (F := Ideal) (ix4 g h i s) = ((slope g h * Attn.dist i s : ℝ) : EReal) := by
  pointwise [val_main_v75, val_main_v74, val_main_v73, val_main_v72, val_main_v71, val_main_v70, val_main_v69]
  refine Eq.trans (congrArg₂ (· * ·) ((v68_at g h).trans (lit_slope g h)) ?_) (EReal.coe_mul _ _).symm
  rw [v28_at]
  show (((IntOp.subi (IntOp.addi (BitVec.ofNat 32 ↑i) 128#32) (BitVec.ofNat 32 ↑s)).toInt : ℝ) : EReal) = _
  rw [sub_int']; push_cast; rfl

include hq hk in
theorem v78_at (n : Fin 32) (g : Fin 2) (h : Fin 8) (i : Fin 128) (s : Fin 256) :
    val_main_v78 (F := Ideal) x0 x1 (ix6 0 n g h i s) = ((sco (blkQ q n) (zband kv n) g h i s : ℝ) : EReal) := by
  pointwise [val_main_v78, val_main_v77, val_main_v76]
  rw [v19_at x0 x1 q kv hq hk, v75_at, ← EReal.coe_sub]
  rfl

include hq hk in
/-- The masked scores. -/
theorem v80_at (n : Fin 32) (g : Fin 2) (h : Fin 8) (i : Fin 128) (s : Fin 256) :
    val_main_v80_0 (F := Ideal) x0 x1 (ix6 0 n g h i s) = if ok n.val i s then ((sco (blkQ q n) (zband kv n) g h i s : ℝ) : EReal) else ⊥ := by
  pointwise [val_main_v80_0, val_main_v80_1, val_main_v79, val_main_call0_v2, val_main_call0_v0, val_main_cst_25]
  rw [sel (v51_at n i s), v78_at x0 x1 q kv hq hk]
  exact congrArg (fun y => if ok n.val i s then _ else y) lit_bot

include hz in
theorem v82_at (g : Fin 2) (h : Fin 8) : val_main_v82 (F := Ideal) x3 (ix6 0 0 g h 0 0) = ((z (num g h) : ℝ) : EReal) := by
  pointwise [val_main_v82, val_main_v81]
  exact hz _

end Cert.AttnGradRefIdeal.Val
-- ==== Proof.AttnRefSums.lean ====
/-
  Sums over axes of the reference's arrays, and one row of a softmax with its gradient over the real numbers.
-/
module

public import proofs.«01_k».proof.Proof.AttnRefScore

@[expose] public section

set_option maxRecDepth 16384

noncomputable section

namespace Cert.AttnGradRefIdeal.Val

open Idealize.ShloMosaic Cert.AttnGradRefIdeal Cert.AttnGradRefIdeal.Read Cert.Step Cert.Step.Attn
open Cert.AttnGradIdeal.Stage (sel exp_shift fold_max_lt lit_bot)

/-! ## Sums over axes -/

/-- A sum over several axes as a sum over what indexes them. -/
theorem hostReduceAdd_over {s t : Shape} {axes : List (Fin s.rank)} (h : s.ReducesTo axes t) (x : s.Idx → EReal)
    (init : EReal) (j : t.Idx) {ι : Type} [Fintype ι] (e : ι → s.Idx) (p : s.Idx → ι) (he : ∀ k, h.drop (e k) = j)
    (hp : ∀ k, p (e k) = k) (hi : ∀ i, h.drop i = j → e (p i) = i) :
    Ideal.hostReduceAdd h x init j = init + ∑ k, x (e k) := by
  unfold Ideal.hostReduceAdd
  congr 1
  refine Finset.sum_nbij' p e (fun _ _ => Finset.mem_univ _) (fun k _ => Finset.mem_filter.2 ⟨Finset.mem_univ _, he k⟩)
    (fun i hi' => hi i (Finset.mem_filter.1 hi').2) (fun k _ => hp k) (fun i hi' => ?_)
  rw [hi i (Finset.mem_filter.1 hi').2]

theorem reduce_keys (x : S1x32x2x8x128x256.Idx → EReal) (init : EReal) (n : Fin 32) (g : Fin 2) (h : Fin 8) (i : Fin 128) :
    Ideal.hostReduceAdd Gen.reducesTo_S1x32x2x8x128x256_S1x32x2x8x128_d5 x init (ix5 0 n g h i) = init + ∑ s : Fin 256, x (ix6 0 n g h i s) := by
  refine hostReduceAdd_over _ x init _ (fun s => ix6 0 n g h i s) (fun y => y 5) ?_ (fun _ => rfl) ?_
  · intro k; funext b; fin_cases b <;> rfl
  · intro y hy
    have h0 := congrFun hy 0; have h1 := congrFun hy 1; have h2 := congrFun hy 2; have h3 := congrFun hy 3; have h4 := congrFun hy 4
    funext b
    fin_cases b
    · exact h0.symm
    · exact h1.symm
    · exact h2.symm
    · exact h3.symm
    · exact h4.symm
    · rfl

theorem reduce_rows (x : S1x32x2x8x128x1.Idx → EReal) (init : EReal) (g : Fin 2) (h : Fin 8) :
    Ideal.hostReduceAdd Gen.reducesTo_S1x32x2x8x128x1_S1x2x8x1_d1_4 x init (ix4 0 g h 0) = init + ∑ n : Fin 32, ∑ i : Fin 128, x (ix6 0 n g h i 0) := by
  rw [← Fintype.sum_prod_type']
  refine hostReduceAdd_over _ x init _ (fun k : Fin 32 × Fin 128 => ix6 0 k.1 g h k.2 0) (fun y => (y 1, y 4)) ?_ (fun _ => rfl) ?_
  · intro k; funext b; fin_cases b <;> rfl
  · intro y hy
    have h0 := congrFun hy 0; have h1 := congrFun hy 1; have h2 := congrFun hy 2; have h3 := congrFun hy 3
    funext b
    fin_cases b
    · exact h0.symm
    · rfl
    · exact h1.symm
    · exact h2.symm
    · rfl
    · exact h3.symm

theorem reduce_unit (x : S1x32x2x8x128x1.Idx → EReal) (init : EReal) (n : Fin 32) (g : Fin 2) (h : Fin 8) (i : Fin 128) :
    Ideal.hostReduceAdd Gen.reducesTo_S1x32x2x8x128x1_S32x2x8x128_d0_5 x init (ix4 n g h i) = init + x (ix6 0 n g h i 0) := by
  rw [hostReduceAdd_over _ x init _ (fun _ : Unit => ix6 0 n g h i 0) (fun _ => ()) ?_ (fun _ => rfl) ?_]
  · simp
  · intro k; funext b; fin_cases b <;> rfl
  · intro y hy
    have h0 := congrFun hy 0; have h1 := congrFun hy 1; have h2 := congrFun hy 2; have h3 := congrFun hy 3
    funext b
    fin_cases b
    · exact Subsingleton.elim (α := Fin 1) _ _
    · exact h0.symm
    · exact h1.symm
    · exact h2.symm
    · exact h3.symm
    · exact Subsingleton.elim (α := Fin 1) _ _

theorem reduce_units (x : S1x1x2x8x1x1.Idx → EReal) (init : EReal) (g : Fin 2) (h : Fin 8) :
    Ideal.hostReduceAdd Gen.reducesTo_S1x1x2x8x1x1_S2x8_d0_1_4_5 x init (ix2 g h) = init + x (ix6 0 0 g h 0 0) := by
  rw [hostReduceAdd_over _ x init _ (fun _ : Unit => ix6 0 0 g h 0 0) (fun _ => ()) ?_ (fun _ => rfl) ?_]
  · simp
  · intro k; funext b; fin_cases b <;> rfl
  · intro y hy
    have h0 := congrFun hy 0; have h1 := congrFun hy 1
    funext b
    fin_cases b
    · exact Subsingleton.elim (α := Fin 1) _ _
    · exact Subsingleton.elim (α := Fin 1) _ _
    · exact h0.symm
    · exact h1.symm
    · exact Subsingleton.elim (α := Fin 1) _ _
    · exact Subsingleton.elim (α := Fin 1) _ _

/-! ## A row over the real numbers -/

section Real

variable (p : Fin 256 → Prop) [DecidablePred p] (x y : Fin 256 → ℝ) (k M : ℝ)

/-- The row's sum, shifted by the row's maximum. -/
def L : ℝ := tot p x k * Real.exp (-M)

theorem L_pos : 0 < L p x k M := mul_pos (tot_pos p x k) (Real.exp_pos _)

theorem L_eq : L p x k M = ∑ s, wt p x s * Real.exp (-M) + Real.exp k * Real.exp (-M) := by
  unfold L tot; rw [add_mul, Finset.sum_mul]

theorem prob_eq (s : Fin 256) : wt p x s * Real.exp (-M) / L p x k M = prob p x k s := by
  unfold L prob; rw [mul_div_mul_right _ _ (Real.exp_pos _).ne']

theorem psink_eq : Real.exp k * Real.exp (-M) / L p x k M = psink p x k := by
  unfold L psink; rw [mul_div_mul_right _ _ (Real.exp_pos _).ne']

theorem prob_sum : ∑ s, prob p x k s + psink p x k = 1 := by
  unfold prob psink
  rw [← Finset.sum_div, ← add_div]
  exact div_self (tot_pos p x k).ne'

theorem dlt_eq : -∑ s, y s * (1 / (L p x k M * L p x k M)) * (wt p x s * Real.exp (-M)) = -(dlt p x y k / L p x k M) := by
  unfold dlt
  rw [Finset.sum_div]
  refine congrArg Neg.neg (Finset.sum_congr rfl fun s _ => ?_)
  rw [← prob_eq p x k M s]
  have := (L_pos p x k M).ne'
  field_simp

theorem sink_eq : -(dlt p x y k / L p x k M) * (Real.exp k * Real.exp (-M)) = -(psink p x k * dlt p x y k) := by
  rw [← psink_eq p x k M]
  have := (L_pos p x k M).ne'
  field_simp

theorem ds_eq (s : Fin 256) : (y s / L p x k M + -(dlt p x y k / L p x k M)) * (wt p x s * Real.exp (-M)) = ds p x y k s := by
  unfold ds
  rw [← prob_eq p x k M s]
  have := (L_pos p x k M).ne'
  field_simp
  ring

/-- What the row's maximum would receive. -/
theorem max_zero : -(-(psink p x k * dlt p x y k)) + ∑ s, -ds p x y k s = 0 := by
  have h1 : ∑ s, ds p x y k s = dlt p x y k - dlt p x y k * ∑ s, prob p x k s := by
    unfold ds
    rw [Finset.mul_sum]
    nth_rewrite 2 [dlt]
    rw [← Finset.sum_sub_distrib]
    exact Finset.sum_congr rfl fun s _ => by ring
  have h2 := prob_sum p x k
  rw [Finset.sum_neg_distrib, h1, show ∑ s, prob p x k s = 1 - psink p x k by linarith]
  ring

end Real

end Cert.AttnGradRefIdeal.Val
-- ==== Proof.AttnRefRow.lean ====
/-
  One row of the reference's softmax and of its gradient, read at an index over the real numbers.
-/
module

public import proofs.«01_k».proof.Proof.AttnRefSums

@[expose] public section

set_option maxRecDepth 16384

noncomputable section

namespace Cert.AttnGradRefIdeal.Val

open Idealize.ShloMosaic Cert.AttnGradRefIdeal Cert.AttnGradRefIdeal.Read Cert.Step Cert.Step.Attn
open Cert.AttnGradIdeal.Stage (sel exp_shift fold_max_lt lit_bot)

variable (x0 : Vec Ideal S1x4096x1024 .bf16) (x1 x2 : Vec Ideal S1x4096x2x64 .bf16) (x3 : Vec Ideal S16 .f32) (x4 : Vec Ideal S1x4096x1024 .bf16)
variable (q e : Fin 4096 → Fin 1024 → ℝ) (kv : Fin 4096 → Fin 256 → ℝ) (z : Fin 16 → ℝ)
variable (hq : ∀ r c, x0 (ix3 0 r c) = ((q r c : ℝ) : EReal)) (hk : ∀ r g d, x1 (ix4 0 r g d) = ((kv r (kcol g d) : ℝ) : EReal))
variable (hv : ∀ r g d, x2 (ix4 0 r g d) = ((kv r (vcol g d) : ℝ) : EReal)) (hz : ∀ j, x3 (ix1 j) = ((z j : ℝ) : EReal))
variable (he : ∀ r c, x4 (ix3 0 r c) = ((e r c : ℝ) : EReal))

/-- The row's scores, the cotangent's products with the values, and the row's sum. -/
abbrev X (n : Fin 32) (g : Fin 2) (h : Fin 8) (i : Fin 128) : Fin 256 → ℝ := sco (blkQ q n) (zband kv n) g h i
abbrev Y (n : Fin 32) (g : Fin 2) (h : Fin 8) (i : Fin 128) : Fin 256 → ℝ := ctv (blkQ e n) (zband kv n) g h i
abbrev LL (n : Fin 32) (g : Fin 2) (h : Fin 8) (i : Fin 128) (M : ℝ) : ℝ := L (ok n.val i) (X q kv n g h i) (z (num g h)) M

/-- The larger of an extended real below `⊤` and a real number is a real number. -/
theorem max_real {a : EReal} (ha : a < ⊤) (r : ℝ) : ∃ M : ℝ, FloatOps.maximumf (F := Ideal) (φ := .f32) a (r : EReal) = (M : EReal) := by
  refine ⟨(max a (r : EReal)).toReal, (EReal.coe_toReal ?_ ?_).symm⟩
  · exact (max_lt ha (EReal.coe_lt_top _)).ne
  · exact (lt_of_lt_of_le (EReal.bot_lt_coe _) (le_max_right _ _)).ne'

include hq hk in
theorem v80_lt (y : S1x32x2x8x128x256.Idx) : val_main_v80_0 (F := Ideal) x0 x1 y < ⊤ := by
  have key : ∀ (n : Fin 32) (g : Fin 2) (h : Fin 8) (i : Fin 128) (s : Fin 256), val_main_v80_0 (F := Ideal) x0 x1 (ix6 0 n g h i s) < ⊤ := by
    intro n g h i s
    rw [v80_at x0 x1 q kv hq hk]
    split
    · exact EReal.coe_lt_top _
    · exact bot_lt_top
  have e : y = ix6 0 (y 1) (y 2) (y 3) (y 4) (y 5) := (eq_ix6 y).trans (congrArg (fun a : Fin 1 => ix6 a (y 1) (y 2) (y 3) (y 4) (y 5)) (Subsingleton.elim _ _))
  exact (congrArg (fun y => val_main_v80_0 (F := Ideal) x0 x1 y < ⊤) e).mpr (key _ _ _ _ _)

section RowMax
include hq hk hz

/-- The row's maximum, with the sink, is a real number. -/
theorem v91_real (n : Fin 32) (g : Fin 2) (h : Fin 8) (i : Fin 128) :
    ∃ M : ℝ, val_main_v91 (F := Ideal) x0 x1 x3 (ix6 0 n g h i 0) = (M : EReal) := by
  have e1 : val_main_v90 (F := Ideal) x3 (ix6 0 n g h i 0) = ((z (num g h) : ℝ) : EReal) := by
    pointwise [val_main_v90]
    exact v82_at x3 z hz g h
  have e2 : val_main_v89 (F := Ideal) x0 x1 (ix6 0 n g h i 0) = val_main_v83 (F := Ideal) x0 x1 (ix5 0 n g h i) := by
    pointwise [val_main_v89]
  have e3 : val_main_v83 (F := Ideal) x0 x1 (ix5 0 n g h i) < ⊤ := by
    pointwise [val_main_v83, val_main_cst_26]
    refine fold_max_lt _ _ _ (by rw [lit_bot]; exact bot_lt_top) fun y _ => ?_
    exact v80_lt x0 x1 q kv hq hk y
  rw [val_main_v91_apply, e1, e2]
  exact max_real e3 _

end RowMax

variable {n : Fin 32} {g : Fin 2} {h : Fin 8} {i : Fin 128} {M : ℝ}
variable (hM : val_main_v91 (F := Ideal) x0 x1 x3 (ix6 0 n g h i 0) = (M : EReal))

include hq hk hM in
theorem v112_at (s : Fin 256) : val_main_v112 (F := Ideal) x0 x1 x3 (ix6 0 n g h i s) = ((wt (ok n.val i) (X q kv n g h i) s * Real.exp (-M) : ℝ) : EReal) := by
  pointwise [val_main_v112, val_main_v111, val_main_v110]
  rw [hM, v80_at x0 x1 q kv hq hk]
  exact exp_shift _ _ _

include hz hM in
theorem v117_at : val_main_v117 (F := Ideal) x0 x1 x3 (ix6 0 n g h i 0) = ((Real.exp (z (num g h)) * Real.exp (-M) : ℝ) : EReal) := by
  pointwise [val_main_v117, val_main_v116, val_main_v115]
  rw [hM, v82_at x3 z hz, ← EReal.coe_sub, Ideal.exp_coe, sub_eq_add_neg, Real.exp_add]

include hq hk hz hM in
theorem v118_at : val_main_v118 (F := Ideal) x0 x1 x3 (ix6 0 n g h i 0) = ((LL q kv z n g h i M : ℝ) : EReal) := by
  pointwise [val_main_v118, val_main_v114, val_main_v113, val_main_cst_34]
  rw [reduce_keys, v117_at x0 x1 x3 z hz hM]
  simp only [v112_at x0 x1 x3 q kv hq hk hM, coe_sum, zero_add, ← EReal.coe_add]
  exact congrArg _ (L_eq _ _ _ _).symm

include hq hk hz hM in
theorem v120_of (s : Fin 256) : val_main_v120 (F := Ideal) x0 x1 x3 (ix6 0 n g h i s) = ((P n.val (blkQ q n) (zband kv n) z g h i s : ℝ) : EReal) := by
  pointwise [val_main_v120, val_main_v119]
  rw [v118_at x0 x1 x3 q kv z hq hk hz hM, v112_at x0 x1 x3 q kv hq hk hM, div_real _ (L_pos _ _ _ _).ne']
  exact congrArg _ (prob_eq _ _ _ _ _)

include hv he in
theorem v130_at (s : Fin 256) : val_main_v130 (F := Ideal) x2 x4 (ix6 0 n g h i s) = ((Y e kv n g h i s : ℝ) : EReal) := by
  pointwise [val_main_v130]
  simp only [v129_at x4 e he, v15_at x2 kv hv, ← EReal.coe_mul, coe_sum]
  rfl

include hq hk hv hz he hM in
theorem v138_at : val_main_v138 (F := Ideal) x0 x1 x2 x3 x4 (ix6 0 n g h i 0)
    = ((-(dlt (ok n.val i) (X q kv n g h i) (Y e kv n g h i) (z (num g h)) / LL q kv z n g h i M) : ℝ) : EReal) := by
  have h135 : ∀ s, val_main_v135 (F := Ideal) x0 x1 x2 x3 x4 (ix6 0 n g h i s)
      = ((Y e kv n g h i s * (1 / (LL q kv z n g h i M * LL q kv z n g h i M)) * (wt (ok n.val i) (X q kv n g h i) s * Real.exp (-M)) : ℝ) : EReal) := by
    intro s
    pointwise [val_main_v135, val_main_v134, val_main_v133, val_main_v123, val_main_v122, val_main_v121, val_main_cst_35]
    rw [v118_at x0 x1 x3 q kv z hq hk hz hM, v112_at x0 x1 x3 q kv hq hk hM, v130_at x2 x4 e kv hv he, ← EReal.coe_one, ← EReal.coe_mul,
      div_real _ (mul_pos (L_pos _ _ _ _) (L_pos _ _ _ _)).ne', ← EReal.coe_mul, ← EReal.coe_mul]
  pointwise [val_main_v138, val_main_v137, val_main_v136, val_main_cst_36]
  rw [reduce_keys]
  simp only [h135, coe_sum, zero_add, ← EReal.coe_neg]
  exact congrArg _ (dlt_eq _ _ _ _ _)

include hq hk hv hz he hM in
theorem v141_of : val_main_v141 (F := Ideal) x0 x1 x2 x3 x4 (ix6 0 n g h i 0)
    = ((-(psink (ok n.val i) (X q kv n g h i) (z (num g h)) * dlt (ok n.val i) (X q kv n g h i) (Y e kv n g h i) (z (num g h))) : ℝ) : EReal) := by
  pointwise [val_main_v141]
  rw [v138_at x0 x1 x2 x3 x4 q e kv z hq hk hv hz he hM, v117_at x0 x1 x3 z hz hM, ← EReal.coe_mul]
  exact congrArg _ (sink_eq _ _ _ _ _)

include hq hk hv hz he hM in
theorem v149_of (s : Fin 256) : val_main_v149 (F := Ideal) x0 x1 x2 x3 x4 (ix6 0 n g h i s)
    = ((dS n.val (blkQ q n) (blkQ e n) (zband kv n) z g h i s : ℝ) : EReal) := by
  have h147 : val_main_v147 (F := Ideal) x0 x1 x2 x3 x4 (ix6 0 n g h i s) = val_main_v138 (F := Ideal) x0 x1 x2 x3 x4 (ix6 0 n g h i 0) := by
    pointwise [val_main_v147, val_main_v146, val_main_v145, val_main_cst_38]
    rw [reduce_unit, zero_add]
  pointwise [val_main_v149, val_main_v148, val_main_v140, val_main_v139]
  rw [h147, v138_at x0 x1 x2 x3 x4 q e kv z hq hk hv hz he hM, v118_at x0 x1 x3 q kv z hq hk hz hM, v112_at x0 x1 x3 q kv hq hk hM,
    v130_at x2 x4 e kv hv he, div_real _ (L_pos _ _ _ _).ne', ← EReal.coe_add, ← EReal.coe_mul]
  exact congrArg _ (ds_eq _ _ _ _ _ _)

include hq hk hv hz he hM in
/-- The row's maximum receives nothing. -/
theorem v153_of : val_main_v153 (F := Ideal) x0 x1 x2 x3 x4 (ix6 0 n g h i 0) = 0 := by
  have h150 : ∀ s, Host.negf (F := Ideal) (φ := .f32) (val_main_v149 (F := Ideal) x0 x1 x2 x3 x4) (ix6 0 n g h i s)
      = ((-dS n.val (blkQ q n) (blkQ e n) (zband kv n) z g h i s : ℝ) : EReal) := by
    intro s
    pointwise []
    rw [v149_of x0 x1 x2 x3 x4 q e kv z hq hk hv hz he hM, ← EReal.coe_neg]
  pointwise [val_main_v153, val_main_v152, val_main_v151, val_main_v150, val_main_v144, val_main_cst_39]
  rw [reduce_keys, v141_of x0 x1 x2 x3 x4 q e kv z hq hk hv hz he hM]
  simp only [h150, coe_sum, zero_add, ← EReal.coe_neg, ← EReal.coe_add]
  exact (congrArg _ (max_zero _ _ _ _)).trans EReal.coe_zero

end Cert.AttnGradRefIdeal.Val
-- ==== Proof.AttnRef.lean ====
/-
  The reference's results at an index over the real numbers: the gradients of the queries, of the keys and values, and
  of the sinks.
-/
module

public import proofs.«01_k».proof.Proof.AttnRefRow

@[expose] public section

set_option maxRecDepth 16384

noncomputable section

namespace Cert.AttnGradRefIdeal.Val

open Idealize.ShloMosaic Cert.AttnGradRefIdeal Cert.AttnGradRefIdeal.Read Cert.Step Cert.Step.Attn
open Cert.AttnGradIdeal.Stage (sel exp_shift fold_max_lt lit_bot)

variable (x0 : Vec Ideal S1x4096x1024 .bf16) (x1 x2 : Vec Ideal S1x4096x2x64 .bf16) (x3 : Vec Ideal S16 .f32) (x4 : Vec Ideal S1x4096x1024 .bf16)
variable (q e : Fin 4096 → Fin 1024 → ℝ) (kv : Fin 4096 → Fin 256 → ℝ) (z : Fin 16 → ℝ)
variable (hq : ∀ r c, x0 (ix3 0 r c) = ((q r c : ℝ) : EReal)) (hk : ∀ r g d, x1 (ix4 0 r g d) = ((kv r (kcol g d) : ℝ) : EReal))
variable (hv : ∀ r g d, x2 (ix4 0 r g d) = ((kv r (vcol g d) : ℝ) : EReal)) (hz : ∀ j, x3 (ix1 j) = ((z j : ℝ) : EReal))
variable (he : ∀ r c, x4 (ix3 0 r c) = ((e r c : ℝ) : EReal))

section Row

variable (n : Fin 32) (g : Fin 2) (h : Fin 8) (i : Fin 128) (s : Fin 256)

include hq hk hz in
theorem v120_at : val_main_v120 (F := Ideal) x0 x1 x3 (ix6 0 n g h i s) = ((P n.val (blkQ q n) (zband kv n) z g h i s : ℝ) : EReal) := by
  obtain ⟨M, hM⟩ := v91_real x0 x1 x3 q kv z hq hk hz n g h i
  exact v120_of x0 x1 x3 q kv z hq hk hz hM s

include hq hk hv hz he in
theorem v141_at : val_main_v141 (F := Ideal) x0 x1 x2 x3 x4 (ix6 0 n g h i 0)
    = ((-(psink (ok n.val i) (X q kv n g h i) (z (num g h)) * dlt (ok n.val i) (X q kv n g h i) (Y e kv n g h i) (z (num g h))) : ℝ) : EReal) := by
  obtain ⟨M, hM⟩ := v91_real x0 x1 x3 q kv z hq hk hz n g h i
  exact v141_of x0 x1 x2 x3 x4 q e kv z hq hk hv hz he hM

include hq hk hv hz he in
theorem v149_at : val_main_v149 (F := Ideal) x0 x1 x2 x3 x4 (ix6 0 n g h i s) = ((dS n.val (blkQ q n) (blkQ e n) (zband kv n) z g h i s : ℝ) : EReal) := by
  obtain ⟨M, hM⟩ := v91_real x0 x1 x3 q kv z hq hk hz n g h i
  exact v149_of x0 x1 x2 x3 x4 q e kv z hq hk hv hz he hM s

include hq hk hv hz he in
theorem v153_at : val_main_v153 (F := Ideal) x0 x1 x2 x3 x4 (ix6 0 n g h i 0) = 0 := by
  obtain ⟨M, hM⟩ := v91_real x0 x1 x3 q kv z hq hk hz n g h i
  exact v153_of x0 x1 x2 x3 x4 q e kv z hq hk hv hz he hM

/-- The indicator of the row's maximum: zero or one. -/
def ind : ℝ := (val_main_v86 (F := Ideal) x0 x1 (ix6 0 n g h i s)).toNat

theorem ind_nonneg : 0 ≤ ind x0 x1 n g h i s := Nat.cast_nonneg _

theorem v87_at : val_main_v87 (F := Ideal) x0 x1 (ix6 0 n g h i s) = ((ind x0 x1 n g h i s : ℝ) : EReal) := rfl

theorem v88_at : val_main_v88 (F := Ideal) x0 x1 (ix5 0 n g h i) = ((∑ s, ind x0 x1 n g h i s : ℝ) : EReal) := by
  pointwise [val_main_v88, val_main_cst_27]
  rw [reduce_keys]
  simp only [v87_at, coe_sum, zero_add]

include hq hk hv hz he in
theorem v159_at : val_main_v159 (F := Ideal) x0 x1 x2 x3 x4 (ix4 n g h i) = 0 := by
  have h158 : val_main_v158 (F := Ideal) x0 x1 x2 x3 x4 (ix6 0 n g h i 0) = 0 := by
    rw [val_main_v158_apply, v153_at x0 x1 x2 x3 x4 q e kv z hq hk hv hz he]
    exact zero_mul (M₀ := EReal) _
  pointwise [val_main_v159, val_main_cst_41]
  rw [reduce_unit, zero_add, h158]

include hq hk hv hz he in
/-- The row's maximum passes nothing on. -/
theorem v163_at : val_main_v163 (F := Ideal) x0 x1 x2 x3 x4 (ix6 0 n g h i s) = 0 := by
  pointwise [val_main_v163, val_main_v162, val_main_v161, val_main_v160]
  rw [v159_at x0 x1 x2 x3 x4 q e kv z hq hk hv hz he, v87_at, v88_at, ← EReal.coe_zero]
  by_cases h0 : ind x0 x1 n g h i s = 0
  · rw [h0, EReal.coe_zero, mul_zero]
  · have h1 : 0 < ∑ s, ind x0 x1 n g h i s :=
      lt_of_lt_of_le (lt_of_le_of_ne (ind_nonneg x0 x1 n g h i s) (Ne.symm h0))
        (Finset.single_le_sum (fun t _ => ind_nonneg x0 x1 n g h i t) (Finset.mem_univ s))
    rw [div_real _ h1.ne', ← EReal.coe_mul, zero_div, zero_mul]

include hq hk hv hz he in
/-- The gradient of a scaled score. -/
theorem v169_at : val_main_v169 (F := Ideal) x0 x1 x2 x3 x4 (ix6 0 n g h i s) = ((dS n.val (blkQ q n) (blkQ e n) (zband kv n) z g h i s / 8 : ℝ) : EReal) := by
  pointwise [val_main_v169, val_main_v168, val_main_v167, val_main_call1_v0, val_main_call1_cst, val_main_cst_43, val_main_v80_1, val_main_v79, val_main_v164]
  rw [sel (v51_at n i s), v163_at x0 x1 x2 x3 x4 q e kv z hq hk hv hz he, v149_at x0 x1 x2 x3 x4 q e kv z hq hk hv hz he, add_zero, lit_eighth, ← EReal.coe_mul]
  split
  · exact congrArg _ (by ring)
  · rename_i hs
    rw [← EReal.coe_zero]
    refine congrArg _ ?_
    unfold dS
    rw [ds_hidden hs, zero_div]

end Row

include hq hk hv hz he in
theorem v172_at (n : Fin 32) (i : Fin 128) (g : Fin 2) (h : Fin 8) (d : Fin 64) :
    val_main_v172 (F := Ideal) x0 x1 x2 x3 x4 (ix6 0 n i g h d) = ((dq q e kv z n g h i d : ℝ) : EReal) := by
  pointwise [val_main_v172, val_main_v171, val_main_v170]
  simp only [v169_at x0 x1 x2 x3 x4 q e kv z hq hk hv hz he, v9_at x1 kv hk, ← EReal.coe_mul, coe_sum]
  refine congrArg _ ?_
  unfold dq
  rw [← dQ_congr (zband_visible kv n)]
  unfold dQ
  rw [Finset.sum_div]
  exact Finset.sum_congr rfl fun s _ => by ring

include hq hk hv hz he in
theorem v174_at (n : Fin 32) (s : Fin 256) (g : Fin 2) (d : Fin 64) :
    val_main_v174 (F := Ideal) x0 x1 x2 x3 x4 (ix5 0 n s g d) = ((dk q e kv z n g s d : ℝ) : EReal) := by
  pointwise [val_main_v174, val_main_v173, val_main_v170]
  simp only [v169_at x0 x1 x2 x3 x4 q e kv z hq hk hv hz he, v3_at x0 q hq, ← EReal.coe_mul, coe_sum]
  refine congrArg _ ?_
  unfold dk
  rw [← dK_congr (zband_visible kv n), Finset.sum_comm]
  unfold dK
  exact Finset.sum_congr rfl fun h _ => Finset.sum_congr rfl fun i _ => by ring

include hq hk hz he in
theorem v132_at (n : Fin 32) (s : Fin 256) (g : Fin 2) (d : Fin 64) :
    val_main_v132 (F := Ideal) x0 x1 x3 x4 (ix5 0 n s g d) = ((dv q e kv z n g s d : ℝ) : EReal) := by
  pointwise [val_main_v132, val_main_v131]
  simp only [v120_at x0 x1 x3 q kv z hq hk hz, v129_at x4 e he, ← EReal.coe_mul, coe_sum]
  refine congrArg _ ?_
  unfold dv
  rw [← dV_congr (e := blkQ e n) (zband_visible kv n)]
  unfold dV
  exact Finset.sum_congr rfl fun h _ => Finset.sum_congr rfl fun i _ => mul_comm _ _

/-! ## The results -/

include hq hk hz he in
theorem v180_at (n : Fin 32) (j : Fin 128) (g : Fin 2) (d : Fin 64) :
    val_main_v180 (F := Ideal) x0 x1 x3 x4 (ix5 0 n j g d) = ((dvRow q e kv z n j g d : ℝ) : EReal) := by
  pointwise [val_main_v180, val_main_v179, val_main_v178, val_main_v175, val_main_v176, val_main_cst_44]
  unfold dvRow
  rw [v132_at x0 x1 x3 x4 q e kv z hq hk hz he]
  split
  · rename_i hn
    have e1 : (⟨1 + n.val, by omega⟩ : Fin 32) = ⟨n.val + 1, by omega⟩ := Fin.ext (by dsimp only; omega)
    rw [dif_pos (by omega), v132_at x0 x1 x3 x4 q e kv z hq hk hz he, ← EReal.coe_add]
    exact congrArg (fun m : Fin 32 => (((_ : ℝ) + dv q e kv z m g (old j) d : ℝ) : EReal)) e1
  · rw [dif_neg (by omega), ← EReal.coe_zero, ← EReal.coe_add]

include hq hk hv hz he in
theorem v187_at (n : Fin 32) (j : Fin 128) (g : Fin 2) (d : Fin 64) :
    val_main_v187 (F := Ideal) x0 x1 x2 x3 x4 (ix5 0 n j g d) = ((dkRow q e kv z n j g d : ℝ) : EReal) := by
  pointwise [val_main_v187, val_main_v186, val_main_v185, val_main_v182, val_main_v183, val_main_cst_45]
  unfold dkRow
  rw [v174_at x0 x1 x2 x3 x4 q e kv z hq hk hv hz he]
  split
  · rename_i hn
    have e1 : (⟨1 + n.val, by omega⟩ : Fin 32) = ⟨n.val + 1, by omega⟩ := Fin.ext (by dsimp only; omega)
    rw [dif_pos (by omega), v174_at x0 x1 x2 x3 x4 q e kv z hq hk hv hz he, ← EReal.coe_add]
    exact congrArg (fun m : Fin 32 => (((_ : ℝ) + dk q e kv z m g (old j) d : ℝ) : EReal)) e1
  · rw [dif_neg (by omega), ← EReal.coe_zero, ← EReal.coe_add]

include hq hk hv hz he in
/-- The first result: the queries' gradient. -/
theorem v197_at (r : Fin 4096) (c : Fin 1024) : val_main_v197 (F := Ideal) x0 x1 x2 x3 x4 (ix2 r c)
    = ((dq q e kv z ⟨r.val / 128, by omega⟩ ⟨c.val / 512, by omega⟩ ⟨c.val / 64 % 8, by omega⟩ ⟨r.val % 128, by omega⟩ ⟨c.val % 64, by omega⟩ : ℝ) : EReal) := by
  pointwise [val_main_v197, val_main_v196, val_main_v189]
  exact v172_at x0 x1 x2 x3 x4 q e kv z hq hk hv hz he _ _ _ _ _

include hq hk hv hz he in
/-- The second result: the keys' gradient, then the values'. -/
theorem v198_at (r : Fin 4096) (c : Fin 256) : val_main_v198 (F := Ideal) x0 x1 x2 x3 x4 (ix2 r c)
    = if h : c.val < 128 then ((dkRow q e kv z ⟨r.val / 128, by omega⟩ ⟨r.val % 128, by omega⟩ ⟨c.val / 64, by omega⟩ ⟨c.val % 64, by omega⟩ : ℝ) : EReal)
      else ((dvRow q e kv z ⟨r.val / 128, by omega⟩ ⟨r.val % 128, by omega⟩ ⟨(c.val - 128) / 64, by omega⟩ ⟨(c.val - 128) % 64, by omega⟩ : ℝ) : EReal) := by
  have hK : ∀ c' : Fin 128, val_main_v190 (F := Ideal) x0 x1 x2 x3 x4 (ix2 r c')
      = ((dkRow q e kv z ⟨r.val / 128, by omega⟩ ⟨r.val % 128, by omega⟩ ⟨c'.val / 64, by omega⟩ ⟨c'.val % 64, by omega⟩ : ℝ) : EReal) := by
    intro c'
    pointwise [val_main_v190, val_main_v188]
    exact v187_at x0 x1 x2 x3 x4 q e kv z hq hk hv hz he _ _ _ _
  have hV : ∀ c' : Fin 128, val_main_v191 (F := Ideal) x0 x1 x3 x4 (ix2 r c')
      = ((dvRow q e kv z ⟨r.val / 128, by omega⟩ ⟨r.val % 128, by omega⟩ ⟨c'.val / 64, by omega⟩ ⟨c'.val % 64, by omega⟩ : ℝ) : EReal) := by
    intro c'
    pointwise [val_main_v191, val_main_v181]
    exact v180_at x0 x1 x3 x4 q e kv z hq hk hz he _ _ _ _
  pointwise [val_main_v198, val_main_v192]
  split
  · exact hK _
  · exact hV _

include hq hk hv hz he in
theorem v166_at (g : Fin 2) (h : Fin 8) : val_main_v165 (F := Ideal) x0 x1 x2 x3 x4 (ix2 g h) = ((dSink q e kv z g h : ℝ) : EReal) := by
  have h154 : ∀ (n : Fin 32) (i : Fin 128), mulf (F := Ideal) (φ := .f32) (val_main_v153 (F := Ideal) x0 x1 x2 x3 x4) (val_main_v109 (F := Ideal) x0 x1 x3) (ix6 0 n g h i 0) = 0 := by
    intro n i
    refine Eq.trans (val_main_v154_apply (F := Ideal) x0 x1 x2 x3 x4 (ix6 0 n g h i 0)) ?_
    rw [v153_at x0 x1 x2 x3 x4 q e kv z hq hk hv hz he]
    exact zero_mul (M₀ := EReal) _
  have h157 : val_main_v157 (F := Ideal) x0 x1 x2 x3 x4 (ix6 0 0 g h 0 0) = ((dSink q e kv z g h : ℝ) : EReal) := by
    pointwise [val_main_v157, val_main_v156, val_main_v155, val_main_v154, val_main_cst_40, val_main_v143, val_main_v142, val_main_cst_37]
    rw [reduce_rows, reduce_rows]
    simp only [h154, v141_at x0 x1 x2 x3 x4 q e kv z hq hk hv hz he, coe_sum, Finset.sum_const_zero, add_zero, zero_add]
    refine congrArg _ ?_
    unfold dSink
    rw [← Finset.sum_neg_distrib]
    refine Finset.sum_congr rfl fun n _ => ?_
    unfold dz
    rw [← dZ_congr (zband_visible kv n)]
    unfold dZ
    rw [← Finset.sum_neg_distrib]
  pointwise [val_main_v165, val_main_cst_42]
  rw [reduce_units, zero_add, h157]

include hq hk hv hz he in
/-- The third result: the sinks' gradient, then zeros. -/
theorem v195_at (c : Fin 128) : val_main_v195 (F := Ideal) x0 x1 x2 x3 x4 (ix2 0 c)
    = if h : c.val < 16 then ((dSink q e kv z ⟨c.val / 8, by omega⟩ ⟨c.val % 8, by omega⟩ : ℝ) : EReal) else 0 := by
  pointwise [val_main_v195, val_main_v194, val_main_v193, val_main_cst_46, val_main_v166]
  split
  · exact v166_at x0 x1 x2 x3 x4 q e kv z hq hk hv hz he _ _
  · rfl

end Cert.AttnGradRefIdeal.Val
-- ==== Proof.AttnFrame.lean ====
/-
  The frame of the attention's gradient over the machine's words: its text is the one whose run is proved over any
  values, with the mask's word in the named constant's place.
-/
module

public import proofs.«01_k».proof.Defs
public import proofs.«01_k».proof.Proof.AttnLaunch
public import proofs.«01_k».proof.Proof.Gen.AttnGrad
public import Idealize.ShloMosaic.Lib.Claim

@[expose] public section

set_option maxRecDepth 16384

noncomputable section

open Idealize.ShloMosaic Idealize.SL.Sem

namespace Cert.Step

/-- A named constant read as its word. -/
@[reducible] def wordNamed : Named Bits where
  named _ _ {φ} bits := Scalar.ofBits (F := Bits) φ bits

set_option maxHeartbeats 4000000 in
/-- The kernel terminates and leaves its arguments as they were. -/
theorem attn_frame : letI := Cert.AttnGrad.Gen.facts; Cert.quiescent_AttnGrad :=
  fun m ρ _ => letI := wordNamed; cast (by sl_kernel_rfl) (Cert.AttnGradIdeal.Run.frame (F := Bits) m ρ)

end Cert.Step

end
-- ==== Proof.AttnClaim.lean ====
/-
  The value claim of the attention's gradient: at finite arguments both programs end with the same three arrays.
-/
module

public import proofs.«01_k».proof.Defs
public import proofs.«01_k».proof.Proof.AttnValue
public import proofs.«01_k».proof.Proof.AttnRef
public import proofs.«01_k».proof.Proof.RealLaws
public import proofs.«01_k».proof.Proof.AttnFrame
public import proofs.«01_k».proof.Proof.Gen.AttnGradRefIdeal.Run
public import proofs.«01_k».proof.Proof.Gen.AttnGradRefIdeal.Read
public import proofs.«01_k».proof.Proof.Gen.Pre_attn_finite
public import Idealize.ShloMosaic.Lib.Claim

@[expose] public section

set_option maxRecDepth 16384

noncomputable section

open Idealize.ShloMosaic Idealize.SL.Sem

namespace Cert.AttnGradRefIdeal.Val

open Cert.AttnGradRefIdeal Cert.AttnGradRefIdeal.Gen Cert.AttnGradRefIdeal.Read
set_option maxHeartbeats 2000000 in
open Idealize.SL.Sem in
/-- The reference's run, its results named operation by operation. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v197) = val_main_v197 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v198) = val_main_v198 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v195) = val_main_v195 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (val_main_v197_eq (StableHlo.launchContents m c)), (h c).2.1.trans (val_main_v198_eq (StableHlo.launchContents m c)), (h c).2.2.1.trans (val_main_v195_eq (StableHlo.launchContents m c)), (h c).2.2.2⟩)
    (Cert.AttnGradRefIdeal.Value.run (F := Ideal) m ρ)

end Cert.AttnGradRefIdeal.Val

namespace Cert.Step

open Attn

/-- Two finite arrays of heads are the two halves of the rows of one array of real numbers. -/
theorem real_heads (x y : FVec Ideal ⟨4, ![1, 4096, 2, 64]⟩ .bf16) (hx : ∀ i, x i = ((x i).toReal : EReal)) (hy : ∀ i, y i = ((y i).toReal : EReal)) :
    ∃ kv : Fin 4096 → Fin 256 → ℝ, (∀ r g d, x (ix4 0 r g d) = ((kv r (kcol g d) : ℝ) : EReal)) ∧ ∀ r g d, y (ix4 0 r g d) = ((kv r (vcol g d) : ℝ) : EReal) := by
  refine ⟨fun r j => if h : j.val < 128 then (x (ix4 0 r ⟨j.val / 64, by omega⟩ ⟨j.val % 64, by omega⟩)).toReal
    else (y (ix4 0 r ⟨(j.val - 128) / 64, by omega⟩ ⟨(j.val - 128) % 64, by omega⟩)).toReal, fun r g d => ?_, fun r g d => ?_⟩
  · have e0 : (⟨(kcol g d).val / 64, by dsimp only [kcol]; omega⟩ : Fin 2) = g := Fin.ext (by dsimp only [kcol]; omega)
    have e1 : (⟨(kcol g d).val % 64, by omega⟩ : Fin 64) = d := Fin.ext (by dsimp only [kcol]; omega)
    dsimp only
    rw [dif_pos (show (kcol g d).val < 128 by dsimp only [kcol]; omega), e0, e1]
    exact hx _
  · have e0 : (⟨((vcol g d).val - 128) / 64, by dsimp only [vcol]; omega⟩ : Fin 2) = g := Fin.ext (by dsimp only [vcol]; omega)
    have e1 : (⟨((vcol g d).val - 128) % 64, by omega⟩ : Fin 64) = d := Fin.ext (by dsimp only [vcol]; omega)
    dsimp only
    rw [dif_neg (show ¬ (vcol g d).val < 128 by dsimp only [vcol]; omega), e0, e1]
    exact hy _

/-- The idealized kernel terminates and leaves its arguments as they were. -/
theorem attn_frame_ideal : letI := Cert.AttnGradIdeal.Gen.facts; Cert.quiescent_AttnGradIdeal := fun m ρ _ => Cert.AttnGradIdeal.Run.frame (F := Ideal) m ρ

/-- The reference terminates and leaves its arguments as they were. -/
theorem attn_ref_frame : letI := Cert.AttnGradRefIdeal.Gen.facts; Cert.quiescent_AttnGradRefIdeal := fun m ρ _ =>
  (θ_run Cert.AttnGradRefIdeal.defs _ _).mono (fun r h => ⟨fun c => (h c).2.2.2, sem_eq_zero_of_no_sems (by decide) r.2⟩)
    (Cert.AttnGradRefIdeal.Value.run (F := Ideal) m ρ)

/-- The one rewrite: the mask's word is the named constant, −∞ over the extended reals. -/
theorem attn_preserves : Cert.preserves_AttnGrad_AttnGradIdeal :=
  IdealRules.named_const.statement Cert.AttnGradIdeal.κ "mask" .f32 0xF149F2CA#32 ⊥ rfl

section Ref

variable (x0 : FVec Ideal ⟨3, ![1, 4096, 1024]⟩ .bf16) (x1 x2 : FVec Ideal ⟨4, ![1, 4096, 2, 64]⟩ .bf16) (x3 : FVec Ideal ⟨1, ![16]⟩ .f32) (x4 : FVec Ideal ⟨3, ![1, 4096, 1024]⟩ .bf16)
variable (q e : Fin 4096 → Fin 1024 → ℝ) (kv : Fin 4096 → Fin 256 → ℝ) (z : Fin 16 → ℝ)
variable (hq : ∀ r c, x0 (ix3 0 r c) = ((q r c : ℝ) : EReal)) (hk : ∀ r g d, x1 (ix4 0 r g d) = ((kv r (kcol g d) : ℝ) : EReal))
variable (hv : ∀ r g d, x2 (ix4 0 r g d) = ((kv r (vcol g d) : ℝ) : EReal)) (hz : ∀ j, x3 (ix1 j) = ((z j : ℝ) : EReal))
variable (he : ∀ r c, x4 (ix3 0 r c) = ((e r c : ℝ) : EReal))

include hq hk hv hz he in
theorem dq_eq : Cert.AttnGradRefIdeal.Read.val_main_v197 (F := Ideal) x0 x1 x2 x3 x4 = fun y => ((Cert.AttnGradIdeal.Stage.dqAll q e kv z (y 0) (y 1) : ℝ) : EReal) := by
  funext y
  rw [eq_ix2 y]
  exact Cert.AttnGradRefIdeal.Val.v197_at x0 x1 x2 x3 x4 q e kv z hq hk hv hz he (y 0) (y 1)

include hq hk hv hz he in
theorem dkv_eq : Cert.AttnGradRefIdeal.Read.val_main_v198 (F := Ideal) x0 x1 x2 x3 x4 = fun y => ((Cert.AttnGradIdeal.Stage.dkvAll q e kv z (y 0) (y 1) : ℝ) : EReal) := by
  funext y
  refine (congrArg (fun y => Cert.AttnGradRefIdeal.Read.val_main_v198 (F := Ideal) x0 x1 x2 x3 x4 y) (eq_ix2 y)).trans ?_
  refine (Cert.AttnGradRefIdeal.Val.v198_at x0 x1 x2 x3 x4 q e kv z hq hk hv hz he (y 0) (y 1)).trans ?_
  unfold Cert.AttnGradIdeal.Stage.dkvAll
  split <;> rfl

include hq hk hv hz he in
theorem sink_eq : Cert.AttnGradRefIdeal.Read.val_main_v195 (F := Ideal) x0 x1 x2 x3 x4 = fun y => ((Cert.AttnGradIdeal.Stage.sinkAll q e kv z (y 1) : ℝ) : EReal) := by
  funext y
  refine (congrArg (fun y => Cert.AttnGradRefIdeal.Read.val_main_v195 (F := Ideal) x0 x1 x2 x3 x4 y) (eq_ix2 y)).trans ?_
  have e0 : y 0 = (0 : Fin 1) := Subsingleton.elim (α := Fin 1) _ _
  refine (congrArg (fun k : Fin 1 => Cert.AttnGradRefIdeal.Read.val_main_v195 (F := Ideal) x0 x1 x2 x3 x4 (ix2 k (y 1))) e0).trans ?_
  refine (Cert.AttnGradRefIdeal.Val.v195_at x0 x1 x2 x3 x4 q e kv z hq hk hv hz he (y 1)).trans ?_
  unfold Cert.AttnGradIdeal.Stage.sinkAll
  split <;> rfl

end Ref

set_option maxHeartbeats 2000000 in
theorem attn_algebraic : letI := Cert.AttnGradIdeal.Gen.facts; letI := Cert.AttnGradRefIdeal.Gen.facts; letI := Cert.Pre_attn_finite.Gen.facts;
    Cert.algebraic_AttnGradIdeal_AttnGradRefIdeal_pre_attn_finite := by
  intro m g m' g' hpre hargs
  refine ⟨fun c => (Cert.AttnGradIdeal.Run.dats m 0 c).arrAt 5 Cert.AttnGradIdeal.cfg0.N,
    fun c => (Cert.AttnGradIdeal.Run.dats m 0 c).arrAt 6 Cert.AttnGradIdeal.cfg0.N,
    fun c => (Cert.AttnGradIdeal.Run.dats m 0 c).arrAt 7 Cert.AttnGradIdeal.cfg0.N, ?_, ?_⟩
  · run_from Cert.AttnGradIdeal.Run.run_main m g
  · refine (θ_run Cert.AttnGradRefIdeal.defs _ _).mono (fun r h c => ?_) (Cert.AttnGradRefIdeal.Val.run m' g')
    obtain ⟨p0, p1, p2, p3, p4⟩ := hpre c
    obtain ⟨a0, a1, a2, a3, a4⟩ := hargs c
    obtain ⟨q, hq⟩ := real_rows16 _ _ p0
    obtain ⟨kv, hk, hv⟩ := real_heads _ _ (fun i => real_of_finite16 _ _ p1 i) (fun i => real_of_finite16 _ _ p2 i)
    obtain ⟨z, hz⟩ := real_vec _ _ p3
    obtain ⟨e, he⟩ := real_rows16 _ _ p4
    obtain ⟨h0, h1, h2, k⟩ := h c
    have e0 := Cert.AttnGradIdeal.Stage.final_dq m c q e kv z (hq 0) hk hv hz (he 0)
    have e1 := Cert.AttnGradIdeal.Stage.final_dkv m c q e kv z (hq 0) hk hv hz (he 0)
    have e2 := Cert.AttnGradIdeal.Stage.final_sink m c q e kv z (hq 0) hk hv hz (he 0)
    rw [← a0] at hq
    rw [← a1] at hk
    rw [← a2] at hv
    rw [← a3] at hz
    rw [← a4] at he
    refine ⟨?_, ?_, ?_, k⟩
    · exact h0.trans ((dq_eq _ _ _ _ _ q e kv z (hq 0) hk hv hz (he 0)).trans e0.symm)
    · exact h1.trans ((dkv_eq _ _ _ _ _ q e kv z (hq 0) hk hv hz (he 0)).trans e1.symm)
    · exact h2.trans ((sink_eq _ _ _ _ _ q e kv z (hq 0) hk hv hz (he 0)).trans e2.symm)

end Cert.Step

end
-- ==== Proof.AttnMixBlock.lean ====
/-
  What one point of the attention's forward call stores: of each pair of neighbouring heads, the probabilities times
  the values of the band. The probabilities are those that the gradient's point computes again, so its words are used.
-/
module

public import proofs.«01_k».proof.Proof.AttnBlock
public import proofs.«01_k».proof.Proof.Gen.AttnMixIdeal.Frame
import Idealize.ShloMosaic.Lib.Pipeline.ValueKit
import Idealize.ShloMosaic.Lib.Pipeline.ReadBack

@[expose] public section

set_option maxRecDepth 16384

noncomputable section

namespace Cert.AttnGradIdeal.Stage

open Idealize.ShloMosaic Idealize.ShloMosaic.Tactic Cert.AttnGradIdeal Cert.AttnGradIdeal.Gen
open Cert.Step Cert.Step.Attn

/-! ## The stored pieces -/

/-- The probabilities, narrowed as the product with the values takes them. -/
def Head.wp (H : Head) : FVec Ideal S1024x128 .bf16 := truncf .bf16 H.pp bitsLt_bf16_f32
def Head.wc (H : Head) : FVec Ideal S1024x128 .bf16 := truncf .bf16 H.pc bitsLt_bf16_f32

/-- A pair of heads' outputs. -/
def mixPair (a a' b b' vl vl' vh vh' : Tile) : Tile :=
  truncf .bf16 (addf (addf (addf (dotN a vl) (dotN a' vl')) (dotN b vh)) (dotN b' vh')) bitsLt_bf16_f32

/-- The outputs of a point, one pair of heads beside another. -/
def mixTile (H K : Head) (p n : Vec Ideal S128x256 .bf16) : Vec Ideal S128x1024 .bf16 :=
  View.canon [⟨Rect.unit ![0, 896] ![128, 128] inb_S128x1024_S128x128_0_896, mixPair (part6 K.wp) (part6 K.wc) (part7 K.wp) (part7 K.wc) (lo1 (ldv p)) (lo1 (ldv n)) (hi1 (ldv p)) (hi1 (ldv n))⟩,
    ⟨Rect.unit ![0, 768] ![128, 128] inb_S128x1024_S128x128_0_768, mixPair (part4 K.wp) (part4 K.wc) (part5 K.wp) (part5 K.wc) (lo1 (ldv p)) (lo1 (ldv n)) (hi1 (ldv p)) (hi1 (ldv n))⟩,
    ⟨Rect.unit ![0, 640] ![128, 128] inb_S128x1024_S128x128_0_640, mixPair (part2 K.wp) (part2 K.wc) (part3 K.wp) (part3 K.wc) (lo1 (ldv p)) (lo1 (ldv n)) (hi1 (ldv p)) (hi1 (ldv n))⟩,
    ⟨Rect.unit ![0, 512] ![128, 128] inb_S128x1024_S128x128_0_512, mixPair (part0 K.wp) (part0 K.wc) (part1 K.wp) (part1 K.wc) (lo1 (ldv p)) (lo1 (ldv n)) (hi1 (ldv p)) (hi1 (ldv n))⟩,
    ⟨Rect.unit ![0, 384] ![128, 128] inb_S128x1024_S128x128_0_384, mixPair (part6 H.wp) (part6 H.wc) (part7 H.wp) (part7 H.wc) (lo0 (ldv p)) (lo0 (ldv n)) (hi0 (ldv p)) (hi0 (ldv n))⟩,
    ⟨Rect.unit ![0, 256] ![128, 128] inb_S128x1024_S128x128_0_256, mixPair (part4 H.wp) (part4 H.wc) (part5 H.wp) (part5 H.wc) (lo0 (ldv p)) (lo0 (ldv n)) (hi0 (ldv p)) (hi0 (ldv n))⟩,
    ⟨Rect.unit ![0, 128] ![128, 128] inb_S128x1024_S128x128_0_128, mixPair (part2 H.wp) (part2 H.wc) (part3 H.wp) (part3 H.wc) (lo0 (ldv p)) (lo0 (ldv n)) (hi0 (ldv p)) (hi0 (ldv n))⟩,
    ⟨Rect.unit ![0, 0] ![128, 128] inb_S128x1024_S128x128_0_0, mixPair (part0 H.wp) (part0 H.wc) (part1 H.wp) (part1 H.wc) (lo0 (ldv p)) (lo0 (ldv n)) (hi0 (ldv p)) (hi0 (ldv n))⟩]

/-- What the run leaves of a point. The cotangent's place among the operands is not read. -/
theorem mix_out (c : Dev Cert.AttnMixIdeal.nD) (i : Cert.AttnMixIdeal.grid0.Coords)
    (a1 : Memref Cert.AttnMixIdeal.sig .tc .smem S16 .f32) (h1 : a1.IsWhole) (a2 : Memref Cert.AttnMixIdeal.sig .tc .vmem S128x1024 .bf16) (h2 : a2.IsWhole)
    (a3 : Memref Cert.AttnMixIdeal.sig .tc .vmem S128x256 .bf16) (h3 : a3.IsWhole) (a4 : Memref Cert.AttnMixIdeal.sig .tc .vmem S128x256 .bf16) (h4 : a4.IsWhole)
    (a5 : Memref Cert.AttnMixIdeal.sig .tc .vmem S128x1024 .bf16) (h5 : a5.IsWhole)
    (x0 : Vec Ideal S16 .f32) (x1 : Vec Ideal S128x1024 .bf16) (x2 x3 : Vec Ideal S128x256 .bf16) :
    Cert.AttnMixIdeal.Gen.out0_A_4 (F := Ideal) c i a1 h1 a2 h2 a3 h3 a4 h4 a5 h5 x0 x1 x2 x3
      = mixTile (head0 (BitVec.ofNat 32 (i 0).val) x0 x1 x2 x3 x1) (head1 (BitVec.ofNat 32 (i 0).val) x0 x1 x2 x3 x1) x2 x3 := by
  unfold Cert.AttnMixIdeal.Gen.out0_A_4 Cert.AttnMixIdeal.Gen.kernelRun0_A
  dsimp only
  frame_out
  sl_kernel_rfl

/-! ## Read at an index -/

theorem mixPair_at (a a' b b' kl kl' kh kh' : Tile) (i c : Fin 128) (f f' g g' u u' : Fin 128 → ℝ)
    (ha : ∀ s, a (ix2 i s) = ((f s : ℝ) : EReal)) (ha' : ∀ s, a' (ix2 i s) = ((f' s : ℝ) : EReal))
    (hb : ∀ s, b (ix2 i s) = ((g s : ℝ) : EReal)) (hb' : ∀ s, b' (ix2 i s) = ((g' s : ℝ) : EReal))
    (hl : ∀ s, kl (ix2 s c) = if c.val < 64 then ((u s : ℝ) : EReal) else 0) (hl' : ∀ s, kl' (ix2 s c) = if c.val < 64 then ((u' s : ℝ) : EReal) else 0)
    (hh : ∀ s, kh (ix2 s c) = if c.val < 64 then 0 else ((u s : ℝ) : EReal)) (hh' : ∀ s, kh' (ix2 s c) = if c.val < 64 then 0 else ((u' s : ℝ) : EReal)) :
    mixPair a a' b b' kl kl' kh kh' (ix2 i c) =
      ((if c.val < 64 then ∑ s, f s * u s + ∑ s, f' s * u' s else ∑ s, g s * u s + ∑ s, g' s * u' s : ℝ) : EReal) := by
  pointwise [mixPair]
  by_cases hc : c.val < 64
  · simp only [if_pos hc] at hl hl' hh hh' ⊢
    rw [dotN_at a kl i c f u ha hl, dotN_at a' kl' i c f' u' ha' hl', dotN_at b kh i c g 0 hb (fun s => by rw [hh]; rfl), dotN_at b' kh' i c g' 0 hb' (fun s => by rw [hh']; rfl),
      ← EReal.coe_add, ← EReal.coe_add, ← EReal.coe_add]
    simp only [Pi.zero_apply, mul_zero, Finset.sum_const_zero, add_zero]
  · simp only [if_neg hc] at hl hl' hh hh' ⊢
    rw [dotN_at a kl i c f 0 ha (fun s => by rw [hl]; rfl), dotN_at a' kl' i c f' 0 ha' (fun s => by rw [hl']; rfl), dotN_at b kh i c g u hb hh, dotN_at b' kh' i c g' u' hb' hh',
      ← EReal.coe_add, ← EReal.coe_add, ← EReal.coe_add]
    simp only [Pi.zero_apply, mul_zero, Finset.sum_const_zero, zero_add]

/-- A query's output: the probabilities' mean of the band's values. -/
def mixOut (n : ℕ) (q : Fin 128 → Fin 1024 → ℝ) (kv : Fin 256 → Fin 256 → ℝ) (z : Fin 16 → ℝ) (g : Fin 2) (h : Fin 8) (i : Fin 128) (d : Fin 64) : ℝ :=
  ∑ s, P n q kv z g h i s * kv s (vcol g d)

/-- Only the visible keys count. -/
theorem mixOut_congr {n : ℕ} {q : Fin 128 → Fin 1024 → ℝ} {z : Fin 16 → ℝ} {kv kv' : Fin 256 → Fin 256 → ℝ} (hk : ∀ s : Fin 256, (n = 0 → 128 ≤ s.val) → kv s = kv' s) :
    mixOut n q kv z = mixOut n q kv' z := by
  funext g h i d
  unfold mixOut
  rw [P_congr hk]
  refine Finset.sum_congr rfl fun s _ => ?_
  by_cases hs : ok n i s
  · rw [hk s hs.2.2]
  · unfold P; rw [prob_hidden hs, zero_mul, zero_mul]

section Store

variable {H K : Head} {n : ℕ} {q e : Fin 128 → Fin 1024 → ℝ} {kv : Fin 256 → Fin 256 → ℝ} {z : Fin 16 → ℝ}
variable (RH : Reads H 0 n q e kv z) (RK : Reads K 1 n q e kv z)

def pairO (n : ℕ) (q : Fin 128 → Fin 1024 → ℝ) (kv : Fin 256 → Fin 256 → ℝ) (z : Fin 16 → ℝ) (g : Fin 2) (u : Fin 4) (i c : Fin 128) : ℝ :=
  mixOut n q kv z g ⟨u.val * 2 + c.val / 64, by omega⟩ i (low64 c)

theorem wp_at {H : Head} {g : Fin 2} (R : Reads H g n q e kv z) (h : Fin 8) (i s : Fin 128) : H.wp (ix2 (row h i) s) = ((P n q kv z g h i (old s) : ℝ) : EReal) :=
  pp_at R h i s
theorem wc_at {H : Head} {g : Fin 2} (R : Reads H g n q e kv z) (h : Fin 8) (i s : Fin 128) : H.wc (ix2 (row h i) s) = ((P n q kv z g h i (own s) : ℝ) : EReal) :=
  pc_at R h i s

theorem pairO_at {H : Head} {g : Fin 2} (R : Reads H g n q e kv z) (u : Fin 4) (i c : Fin 128) {o o' : ℕ} (h1 h1' h2 h2') (ho : o = u.val * 2 * 128) (ho' : o' = (u.val * 2 + 1) * 128)
    (kl kl' kh kh' : Tile)
    (hl : ∀ s, kl (ix2 s c) = if c.val < 64 then ((kv (old s) (vcol g (low64 c)) : ℝ) : EReal) else 0)
    (hl' : ∀ s, kl' (ix2 s c) = if c.val < 64 then ((kv (own s) (vcol g (low64 c)) : ℝ) : EReal) else 0)
    (hh : ∀ s, kh (ix2 s c) = if c.val < 64 then 0 else ((kv (old s) (vcol g (low64 c)) : ℝ) : EReal))
    (hh' : ∀ s, kh' (ix2 s c) = if c.val < 64 then 0 else ((kv (own s) (vcol g (low64 c)) : ℝ) : EReal)) :
    mixPair (extractStridedSlice S128x128 ![o, 0] H.wp h1) (extractStridedSlice S128x128 ![o, 0] H.wc h1') (extractStridedSlice S128x128 ![o', 0] H.wp h2) (extractStridedSlice S128x128 ![o', 0] H.wc h2')
      kl kl' kh kh' (ix2 i c) = ((pairO n q kv z g u i c : ℝ) : EReal) := by
  refine (mixPair_at _ _ _ _ kl kl' kh kh' i c
    (fun s => P n q kv z g ⟨u.val * 2, by omega⟩ i (old s)) (fun s => P n q kv z g ⟨u.val * 2, by omega⟩ i (own s))
    (fun s => P n q kv z g ⟨u.val * 2 + 1, by omega⟩ i (old s)) (fun s => P n q kv z g ⟨u.val * 2 + 1, by omega⟩ i (own s))
    (fun s => kv (old s) (vcol g (low64 c))) (fun s => kv (own s) (vcol g (low64 c)))
    (fun s => (part_at _ _ ⟨u.val * 2, by omega⟩ ho i s).trans (wp_at R _ i s)) (fun s => (part_at _ _ ⟨u.val * 2, by omega⟩ ho i s).trans (wc_at R _ i s))
    (fun s => (part_at _ _ ⟨u.val * 2 + 1, by omega⟩ ho' i s).trans (wp_at R _ i s)) (fun s => (part_at _ _ ⟨u.val * 2 + 1, by omega⟩ ho' i s).trans (wc_at R _ i s))
    hl hl' hh hh').trans (congrArg _ ?_)
  unfold pairO mixOut
  rw [Fin.sum_univ_two_halves 128 128 rfl]
  by_cases hc : c.val < 64
  · rw [if_pos hc]
    have : (⟨u.val * 2 + c.val / 64, by omega⟩ : Fin 8) = ⟨u.val * 2, by omega⟩ := Fin.ext (by dsimp only; omega)
    rw [this]
  · rw [if_neg hc]
    have : (⟨u.val * 2 + c.val / 64, by omega⟩ : Fin 8) = ⟨u.val * 2 + 1, by omega⟩ := Fin.ext (by dsimp only; omega)
    rw [this]

/-- The block's outputs, by columns. -/
def mixBlock (n : ℕ) (q : Fin 128 → Fin 1024 → ℝ) (kv : Fin 256 → Fin 256 → ℝ) (z : Fin 16 → ℝ) : Vec Ideal S128x1024 .bf16 :=
  fun x => ((mixOut n q kv z ⟨(x 1).val / 512, by have := (x 1).isLt; simp only [Matrix.cons_val_one, Matrix.cons_val_fin_one] at this; omega⟩ ⟨(x 1).val / 64 % 8, by omega⟩ (x 0) ⟨(x 1).val % 64, by omega⟩ : ℝ) : EReal)

theorem pairO_block (g : Fin 2) (u : Fin 4) (i c : Fin 128) :
    ((pairO n q kv z g u i c : ℝ) : EReal) = mixBlock n q kv z (ix2 i ⟨g.val * 512 + u.val * 128 + c.val, by omega⟩) := by
  have e1 : (⟨u.val * 2 + c.val / 64, by omega⟩ : Fin 8) = ⟨(g.val * 512 + u.val * 128 + c.val) / 64 % 8, by omega⟩ := Fin.ext (by dsimp only; omega)
  have e2 : g = ⟨(g.val * 512 + u.val * 128 + c.val) / 512, by omega⟩ := Fin.ext (by dsimp only; omega)
  have e3 : low64 c = ⟨(g.val * 512 + u.val * 128 + c.val) % 64, by omega⟩ := Fin.ext (by dsimp only; omega)
  unfold pairO
  rw [e1, e3]
  exact congrArg (fun g' => ((mixOut n q kv z g' _ i _ : ℝ) : EReal)) e2

variable (pb nb : Vec Ideal S128x256 .bf16)
variable (hp : ∀ s c, pb (ix2 s c) = ((kv (old s) c : ℝ) : EReal)) (hn : ∀ s c, nb (ix2 s c) = ((kv (own s) c : ℝ) : EReal))

theorem lv0_at (x : Vec Ideal S128x256 .bf16) (f : Fin 256 → ℝ) (s c : Fin 128) (hx : ∀ c, x (ix2 s c) = ((f c : ℝ) : EReal)) :
    lo0 (ldv x) (ix2 s c) = if c.val < 64 then ((f (vcol 0 (low64 c)) : ℝ) : EReal) else 0 := by
  rw [lo0_at, ldv_at, hx]; exact if_congr Iff.rfl (congrArg (fun k => ((f k : ℝ) : EReal)) (vcol0 c)) rfl
theorem hv0_at (x : Vec Ideal S128x256 .bf16) (f : Fin 256 → ℝ) (s c : Fin 128) (hx : ∀ c, x (ix2 s c) = ((f c : ℝ) : EReal)) :
    hi0 (ldv x) (ix2 s c) = if c.val < 64 then 0 else ((f (vcol 0 (low64 c)) : ℝ) : EReal) := by
  rw [hi0_at, ldv_at, hx]; exact if_congr Iff.rfl rfl (congrArg (fun k => ((f k : ℝ) : EReal)) (vcol0 c))
theorem lv1_at (x : Vec Ideal S128x256 .bf16) (f : Fin 256 → ℝ) (s c : Fin 128) (hx : ∀ c, x (ix2 s c) = ((f c : ℝ) : EReal)) :
    lo1 (ldv x) (ix2 s c) = if c.val < 64 then ((f (vcol 1 (low64 c)) : ℝ) : EReal) else 0 := by
  rw [lo1_at, ldv_at, hx]; exact if_congr Iff.rfl (congrArg (fun k => ((f k : ℝ) : EReal)) (vcol1 c)) rfl
theorem hv1_at (x : Vec Ideal S128x256 .bf16) (f : Fin 256 → ℝ) (s c : Fin 128) (hx : ∀ c, x (ix2 s c) = ((f c : ℝ) : EReal)) :
    hi1 (ldv x) (ix2 s c) = if c.val < 64 then 0 else ((f (vcol 1 (low64 c)) : ℝ) : EReal) := by
  rw [hi1_at, ldv_at, hx]; exact if_congr Iff.rfl rfl (congrArg (fun k => ((f k : ℝ) : EReal)) (vcol1 c))

include RH hp hn in
theorem mix0 (u : Fin 4) (o o' k : ℕ) (inb) (h1 h1' h2 h2') (ho : o = u.val * 2 * 128) (ho' : o' = (u.val * 2 + 1) * 128) (hk : k = u.val * 128) (x : S128x128.Idx) :
    mixPair (extractStridedSlice S128x128 ![o, 0] H.wp h1) (extractStridedSlice S128x128 ![o, 0] H.wc h1') (extractStridedSlice S128x128 ![o', 0] H.wp h2) (extractStridedSlice S128x128 ![o', 0] H.wc h2')
      (lo0 (ldv pb)) (lo0 (ldv nb)) (hi0 (ldv pb)) (hi0 (ldv nb)) x = mixBlock n q kv z ((Rect.unit (s := S128x1024) ![0, k] ![128, 128] inb).emb x) := by
  idx_vars x
  refine (pairO_at RH u x0 x1 h1 h1' h2 h2' ho ho' _ _ _ _ (fun s => lv0_at pb _ s x1 (hp s)) (fun s => lv0_at nb _ s x1 (hn s)) (fun s => hv0_at pb _ s x1 (hp s)) (fun s => hv0_at nb _ s x1 (hn s))).trans ?_
  rw [pairO_block, idx_col k inb x0 x1 ⟨(0 : Fin 2).val * 512 + u.val * 128 + x1.val, by simp; omega⟩ (by simp; omega)]

include RK hp hn in
theorem mix1 (u : Fin 4) (o o' k : ℕ) (inb) (h1 h1' h2 h2') (ho : o = u.val * 2 * 128) (ho' : o' = (u.val * 2 + 1) * 128) (hk : k = 512 + u.val * 128) (x : S128x128.Idx) :
    mixPair (extractStridedSlice S128x128 ![o, 0] K.wp h1) (extractStridedSlice S128x128 ![o, 0] K.wc h1') (extractStridedSlice S128x128 ![o', 0] K.wp h2) (extractStridedSlice S128x128 ![o', 0] K.wc h2')
      (lo1 (ldv pb)) (lo1 (ldv nb)) (hi1 (ldv pb)) (hi1 (ldv nb)) x = mixBlock n q kv z ((Rect.unit (s := S128x1024) ![0, k] ![128, 128] inb).emb x) := by
  idx_vars x
  refine (pairO_at RK u x0 x1 h1 h1' h2 h2' ho ho' _ _ _ _ (fun s => lv1_at pb _ s x1 (hp s)) (fun s => lv1_at nb _ s x1 (hn s)) (fun s => hv1_at pb _ s x1 (hp s)) (fun s => hv1_at nb _ s x1 (hn s))).trans ?_
  rw [pairO_block, idx_col k inb x0 x1 ⟨(1 : Fin 2).val * 512 + u.val * 128 + x1.val, by simp; omega⟩ (by simp; omega)]

include RH RK hp hn in
theorem mixTile_eq : mixTile H K pb nb = mixBlock n q kv z := by
  unfold mixTile
  funext y
  refine View.canon_append_of_piecesOf (mixBlock n q kv z) [] [_, _, _, _, _, _, _, _]
    ?_ y ?_
  · exact ⟨mix1 RK pb nb hp hn 3 768 896 896 inb_S128x1024_S128x128_0_896 slices_S1024x128_o768_0_S128x128 slices_S1024x128_o768_0_S128x128 slices_S1024x128_o896_0_S128x128 slices_S1024x128_o896_0_S128x128 rfl rfl rfl,
      mix1 RK pb nb hp hn 2 512 640 768 inb_S128x1024_S128x128_0_768 slices_S1024x128_o512_0_S128x128 slices_S1024x128_o512_0_S128x128 slices_S1024x128_o640_0_S128x128 slices_S1024x128_o640_0_S128x128 rfl rfl rfl,
      mix1 RK pb nb hp hn 1 256 384 640 inb_S128x1024_S128x128_0_640 slices_S1024x128_o256_0_S128x128 slices_S1024x128_o256_0_S128x128 slices_S1024x128_o384_0_S128x128 slices_S1024x128_o384_0_S128x128 rfl rfl rfl,
      mix1 RK pb nb hp hn 0 0 128 512 inb_S128x1024_S128x128_0_512 slices_S1024x128_o0_0_S128x128 slices_S1024x128_o0_0_S128x128 slices_S1024x128_o128_0_S128x128 slices_S1024x128_o128_0_S128x128 rfl rfl rfl,
      mix0 RH pb nb hp hn 3 768 896 384 inb_S128x1024_S128x128_0_384 slices_S1024x128_o768_0_S128x128 slices_S1024x128_o768_0_S128x128 slices_S1024x128_o896_0_S128x128 slices_S1024x128_o896_0_S128x128 rfl rfl rfl,
      mix0 RH pb nb hp hn 2 512 640 256 inb_S128x1024_S128x128_0_256 slices_S1024x128_o512_0_S128x128 slices_S1024x128_o512_0_S128x128 slices_S1024x128_o640_0_S128x128 slices_S1024x128_o640_0_S128x128 rfl rfl rfl,
      mix0 RH pb nb hp hn 1 256 384 128 inb_S128x1024_S128x128_0_128 slices_S1024x128_o256_0_S128x128 slices_S1024x128_o256_0_S128x128 slices_S1024x128_o384_0_S128x128 slices_S1024x128_o384_0_S128x128 rfl rfl rfl,
      mix0 RH pb nb hp hn 0 0 128 0 inb_S128x1024_S128x128_0_0 slices_S1024x128_o0_0_S128x128 slices_S1024x128_o0_0_S128x128 slices_S1024x128_o128_0_S128x128 slices_S1024x128_o128_0_S128x128 rfl rfl rfl, trivial⟩
  idx_vars y
  have hy := y1.isLt
  have cov : ∀ (k : ℕ) (inb), k ≤ y1.val → y1.val < k + 128 → (ix2 y0 y1 : S128x1024.Idx) ∈ (Rect.unit (s := S128x1024) ![0, k] ![128, 128] inb).set := fun k inb h1 h2 =>
    (Rect.mem_set_unit (inb := inb)).mpr fun a => by
      fin_cases a
      · exact ⟨Nat.zero_le _, by have := y0.isLt; simpa using this⟩
      · exact ⟨h1, h2⟩
  have hk : y1.val / 128 = 0 ∨ y1.val / 128 = 1 ∨ y1.val / 128 = 2 ∨ y1.val / 128 = 3 ∨ y1.val / 128 = 4 ∨ y1.val / 128 = 5 ∨ y1.val / 128 = 6 ∨ y1.val / 128 = 7 := by omega
  rcases hk with h | h | h | h | h | h | h | h
  · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), cov 0 inb_S128x1024_S128x128_0_0 (by omega) (by omega)⟩
  · exact ⟨_, List.mem_cons_of_mem _ (List.mem_cons_of_mem _ (List.mem_cons_of_mem _ (List.mem_cons_of_mem _ (List.mem_cons_of_mem _ (List.mem_cons_of_mem _ List.mem_cons_self))))), cov 128 inb_S128x1024_S128x128_0_128 (by omega) (by omega)⟩
  · exact ⟨_, List.mem_cons_of_mem _ (List.mem_cons_of_mem _ (List.mem_cons_of_mem _ (List.mem_cons_of_mem _ (List.mem_cons_of_mem _ List.mem_cons_self)))), cov 256 inb_S128x1024_S128x128_0_256 (by omega) (by omega)⟩
  · exact ⟨_, List.mem_cons_of_mem _ (List.mem_cons_of_mem _ (List.mem_cons_of_mem _ (List.mem_cons_of_mem _ List.mem_cons_self))), cov 384 inb_S128x1024_S128x128_0_384 (by omega) (by omega)⟩
  · exact ⟨_, List.mem_cons_of_mem _ (List.mem_cons_of_mem _ (List.mem_cons_of_mem _ List.mem_cons_self)), cov 512 inb_S128x1024_S128x128_0_512 (by omega) (by omega)⟩
  · exact ⟨_, List.mem_cons_of_mem _ (List.mem_cons_of_mem _ List.mem_cons_self), cov 640 inb_S128x1024_S128x128_0_640 (by omega) (by omega)⟩
  · exact ⟨_, List.mem_cons_of_mem _ List.mem_cons_self, cov 768 inb_S128x1024_S128x128_0_768 (by omega) (by omega)⟩
  · exact ⟨_, List.mem_cons_self, cov 896 inb_S128x1024_S128x128_0_896 (by omega) (by omega)⟩

end Store

end Cert.AttnGradIdeal.Stage
-- ==== Proof.AttnMixValue.lean ====
/-
  The array that the attention's forward call leaves, at every index, over the real numbers.
-/
module

public import proofs.«01_k».proof.Proof.AttnMixBlock
public import proofs.«01_k».proof.Proof.AttnPoints
public import Idealize.ShloMosaic.Lib.Pipeline.ValueKit
public import Idealize.ShloMosaic.Lib.Pipeline.ReadBack

@[expose] public section

set_option maxRecDepth 16384

noncomputable section

namespace Cert.AttnMixIdeal.Mix

open Idealize.ShloMosaic Idealize.ShloMosaic.Tactic Idealize.ShloMosaic.TcCoe Idealize.SL.Sem Cert.AttnMixIdeal Cert.AttnMixIdeal.Gen
open Cert.AttnGradIdeal.Stage (mixOut mixBlock mixTile_eq mix_out reads0 reads1)
open Cert.Step Cert.Step.Attn

theorem idx : ∀ t : Fin cfg0.N, win0_0.index t = ![0] ∧ win0_1.index t = ![t.val, 0] ∧ win0_2.index t = ![t.val - 1, 0]
    ∧ win0_3.index t = ![t.val, 0] ∧ win0_4.index t = ![t.val, 0] :=
  (by decide +kernel : ∀ t : Fin grid0.N, _)

theorem coord : ∀ t : Fin cfg0.N, (grid0.coords t 0).val = t.val := (by decide +kernel : ∀ t : Fin grid0.N, _)

theorem lt32 (t : Fin cfg0.N) : t.val < 32 := lt_of_lt_of_eq t.isLt N_0

/-- The block of a point. -/
abbrev blk (t : Fin cfg0.N) : Fin 32 := ⟨t.val, lt32 t⟩

/-- The array of the outputs. -/
def mixAll (q : Fin 4096 → Fin 1024 → ℝ) (kv : Fin 4096 → Fin 256 → ℝ) (z : Fin 16 → ℝ) (r : Fin 4096) (j : Fin 1024) : ℝ :=
  mixOut (r.val / 128) (blkQ q ⟨r.val / 128, by omega⟩) (band kv ⟨r.val / 128, by omega⟩) z ⟨j.val / 512, by omega⟩ ⟨j.val / 64 % 8, by omega⟩ ⟨r.val % 128, by omega⟩ ⟨j.val % 64, by omega⟩

variable (m : (ℓ : Loc nD τ sig) → Buf (Elt Ideal) ℓ) (c : Dev nD)
variable (q : Fin 4096 → Fin 1024 → ℝ) (kv : Fin 4096 → Fin 256 → ℝ) (z : Fin 16 → ℝ)

theorem mixBlock_at (n : Fin 32) (i : Fin 128) (j : Fin 1024) (y : S4096x1024.Idx) (hy : y = ix2 (srow n i) j) :
    mixBlock n.val (blkQ q n) (band kv n) z (ix2 i j) = ((mixAll q kv z (y 0) (y 1) : ℝ) : EReal) := by
  subst hy
  have e0 : (srow n i).val / 128 = n.val := by dsimp only [srow]; omega
  have e1 : (⟨(srow n i).val / 128, by omega⟩ : Fin 32) = n := Fin.ext e0
  have e2 : (⟨(srow n i).val % 128, by omega⟩ : Fin 128) = i := Fin.ext (by dsimp only [srow]; omega)
  show _ = ((mixAll q kv z (srow n i) j : ℝ) : EReal)
  unfold mixAll
  rw [e1, e2, e0]
  rfl

variable (hq : ∀ r c', m ((c.tc : Thread nD τ).loc main_arg0) (ix3 0 r c') = ((q r c' : ℝ) : EReal))
variable (hk : ∀ r g d, m ((c.tc : Thread nD τ).loc main_arg1) (ix4 0 r g d) = ((kv r (kcol g d) : ℝ) : EReal))
variable (hv : ∀ r g d, m ((c.tc : Thread nD τ).loc main_arg2) (ix4 0 r g d) = ((kv r (vcol g d) : ℝ) : EReal))
variable (hz : ∀ j, m ((c.tc : Thread nD τ).loc main_arg3) (ix1 j) = ((z j : ℝ) : EReal))

/-! ## The arrays before the call -/

theorem V_q : V m c main_v3 = (shapeCast S4096x1024 (m ((c.tc : Thread nD τ).loc main_arg0)) shapeCasts_S1x4096x1024_S4096x1024 : FVec Ideal S4096x1024 .bf16) := by
  unfold_abbrev_sides; after_results; rfl
theorem V_kv : V m c main_v2 = (concatenate S4096x256 1 [⟨S4096x128, shapeCast S4096x128 (m ((c.tc : Thread nD τ).loc main_arg1)) shapeCasts_S1x4096x2x64_S4096x128⟩,
    ⟨S4096x128, shapeCast S4096x128 (m ((c.tc : Thread nD τ).loc main_arg2)) shapeCasts_S1x4096x2x64_S4096x128⟩] concatenates_S4096x128_S4096x128_S4096x256_d1 : FVec Ideal S4096x256 .bf16) := by
  unfold_abbrev_sides; after_results; rfl

include hq in
theorem q_at (r : Fin 4096) (j : Fin 1024) : V m c main_v3 (ix2 r j) = ((q r j : ℝ) : EReal) :=
  (congrFun (V_q m c) (ix2 r j)).trans ((Cert.AttnGradIdeal.Stage.rows_read _ r j).trans (hq r j))
include hk hv in
theorem kv_at (r : Fin 4096) (j : Fin 256) : V m c main_v2 (ix2 r j) = ((kv r j : ℝ) : EReal) := by
  refine (congrFun (V_kv m c) (ix2 r j)).trans ((Cert.AttnGradIdeal.Stage.keys_read _ _ r j).trans ?_)
  split
  · refine (hk _ _ _).trans (congrArg (fun k => ((kv r k : ℝ) : EReal)) (Fin.ext ?_))
    dsimp only [kcol]; omega
  · refine (hv _ _ _).trans (congrArg (fun k => ((kv r k : ℝ) : EReal)) (Fin.ext ?_))
    dsimp only [vcol]; omega

/-! ## A point's blocks -/

variable (t : Fin cfg0.N)

include hz in
theorem blk_z (j : Fin 16) : iblk (F := Ideal) m c 0 t (ix1 j) = ((z j : ℝ) : EReal) := by
  rw [← hz]
  blk_point [iblk, Gen.V, idx t]
  all_goals rfl

include hq in
theorem blk_q (i : Fin 128) (j : Fin 1024) : iblk (F := Ideal) m c 1 t (ix2 i j) = ((blkQ q (blk t) i j : ℝ) : EReal) := by
  refine Eq.trans ?_ (q_at m c q hq (srow (blk t) i) j)
  blk_point [iblk, idx t]
  all_goals first | rfl | (simp only [srow, blk]; omega)

theorem band_old_row (s : Fin 128) : (⟨(t.val - 1 + if t.val = 0 then 0 else (old s).val / 128) * 128 + (old s).val % 128, by have := lt32 t; have := s.isLt; split <;> omega⟩ : Fin 4096)
    = ⟨(t.val - 1) * 128 + s.val, by have := lt32 t; have := s.isLt; omega⟩ := by
  refine Fin.ext ?_
  have h1 : s.val / 128 = 0 := Nat.div_eq_of_lt s.isLt
  have h2 : s.val % 128 = s.val := Nat.mod_eq_of_lt s.isLt
  show (t.val - 1 + if t.val = 0 then 0 else s.val / 128) * 128 + s.val % 128 = (t.val - 1) * 128 + s.val
  rw [h1, h2]; simp

theorem band_own_row (s : Fin 128) : (⟨(t.val - 1 + if t.val = 0 then 0 else (own s).val / 128) * 128 + (own s).val % 128, by have := lt32 t; have := s.isLt; split <;> omega⟩ : Fin 4096)
    = ⟨t.val * 128 + s.val, by have := lt32 t; have := s.isLt; omega⟩ := by
  refine Fin.ext ?_
  have := s.isLt
  have h1 : (128 + s.val) / 128 = 1 := by omega
  have h2 : (128 + s.val) % 128 = s.val := by omega
  show (t.val - 1 + if t.val = 0 then 0 else (128 + s.val) / 128) * 128 + (128 + s.val) % 128 = t.val * 128 + s.val
  rw [h1, h2]
  split <;> omega

include hk hv in
theorem blk_p (s : Fin 128) (j : Fin 256) : iblk (F := Ideal) m c 2 t (ix2 s j) = ((band kv (blk t) (old s) j : ℝ) : EReal) := by
  unfold band
  refine Eq.trans ?_ ((kv_at m c kv hk hv ⟨(t.val - 1) * 128 + s.val, by have := lt32 t; have := s.isLt; omega⟩ j).trans (congrArg (fun r => ((kv r j : ℝ) : EReal)) (band_old_row t s).symm))
  blk_point [iblk, idx t]
  all_goals first | rfl | (dsimp only; omega)

include hk hv in
theorem blk_n (s : Fin 128) (j : Fin 256) : iblk (F := Ideal) m c 3 t (ix2 s j) = ((band kv (blk t) (own s) j : ℝ) : EReal) := by
  unfold band
  refine Eq.trans ?_ ((kv_at m c kv hk hv ⟨t.val * 128 + s.val, by have := lt32 t; have := s.isLt; omega⟩ j).trans (congrArg (fun r => ((kv r j : ℝ) : EReal)) (band_own_row t s).symm))
  blk_point [iblk, idx t]
  all_goals first | rfl | (dsimp only; omega)

include hq hk hv hz in
/-- What a point leaves. -/
theorem point : outsAt0 (F := Ideal) m c t = mixBlock t.val (blkQ q (blk t)) (band kv (blk t)) z := by
  unfold outsAt0
  rw [mix_out, coord t]
  exact mixTile_eq
    (reads0 (n := ⟨t.val, by have := lt32 t; omega⟩) (iblk m c 0 t) (iblk m c 1 t) (iblk m c 2 t) (iblk m c 3 t) (iblk m c 1 t) (blkQ q (blk t)) (blkQ q (blk t)) (band kv (blk t)) z (blk_q m c q hq t) (blk_q m c q hq t) (blk_p m c kv hk hv t) (blk_n m c kv hk hv t) (blk_z m c z hz t))
    (reads1 (n := ⟨t.val, by have := lt32 t; omega⟩) (iblk m c 0 t) (iblk m c 1 t) (iblk m c 2 t) (iblk m c 3 t) (iblk m c 1 t) (blkQ q (blk t)) (blkQ q (blk t)) (band kv (blk t)) z (blk_q m c q hq t) (blk_q m c q hq t) (blk_p m c kv hk hv t) (blk_n m c kv hk hv t) (blk_z m c z hz t))
    _ _ (blk_p m c kv hk hv t) (blk_n m c kv hk hv t)

include hq hk hv hz in
theorem final_out : (dats (F := Ideal) m 0 c).arrAt 4 cfg0.N = fun y : S4096x1024.Idx => ((mixAll q kv z (y 0) (y 1) : ℝ) : EReal) := by
  refine (dats m 0 c).arrAt_eq_of_covers 4 _ (by decide +kernel) fun t hf y => ?_
  have h32 := lt32 t
  blk_simp
  rw [after0_4, point m c q kv z hq hk hv hz t]
  idx_vars y
  refine mixBlock_at q kv z (blk t) y0 y1 _ ?_
  blk_ext [idx t]
  all_goals first | rfl | (dsimp only [srow]; omega)

end Cert.AttnMixIdeal.Mix

end
-- ==== Proof.AttnMixRef.lean ====
/-
  The reference of the attention's forward call over the real numbers. Its probabilities and its band of values are
  those of the gradient's reference, operation by operation; the last product and the columns' order are read here.
-/
module

public import proofs.«01_k».proof.Proof.AttnRef
public import proofs.«01_k».proof.Proof.AttnMixValue
public import proofs.«01_k».proof.Proof.Gen.AttnMixRefIdeal.Read

@[expose] public section

set_option maxRecDepth 16384

noncomputable section

namespace Cert.AttnMixRefIdeal.Val

open Idealize.ShloMosaic Idealize.ShloMosaic.Tactic Cert.AttnMixRefIdeal Cert.AttnMixRefIdeal.Gen Cert.AttnMixRefIdeal.Read
open Cert.AttnGradIdeal.Stage (mixOut mixOut_congr)
open Cert.AttnGradRefIdeal.Val (zband zband_visible v15_at v120_at)
open Cert.Step Cert.Step.Attn Cert.AttnMixIdeal.Mix

variable (x0 : Vec Ideal S1x4096x1024 .bf16) (x1 x2 : Vec Ideal S1x4096x2x64 .bf16) (x3 : Vec Ideal S16 .f32)

theorem probs_eq : val_main_v95 (F := Ideal) x0 x1 x3 = Cert.AttnGradRefIdeal.Read.val_main_v120 (F := Ideal) x0 x1 x3 := by
  sl_kernel_rfl
theorem values_eq : val_main_v13 (F := Ideal) x2 = Cert.AttnGradRefIdeal.Read.val_main_v15 (F := Ideal) x2 := by
  sl_kernel_rfl

variable (q : Fin 4096 → Fin 1024 → ℝ) (kv : Fin 4096 → Fin 256 → ℝ) (z : Fin 16 → ℝ)
variable (hq : ∀ r c, x0 (ix3 0 r c) = ((q r c : ℝ) : EReal)) (hk : ∀ r g d, x1 (ix4 0 r g d) = ((kv r (kcol g d) : ℝ) : EReal))
variable (hv : ∀ r g d, x2 (ix4 0 r g d) = ((kv r (vcol g d) : ℝ) : EReal)) (hz : ∀ j, x3 (ix1 j) = ((z j : ℝ) : EReal))

include hq hk hv hz in
theorem v96_at (n : Fin 32) (g : Fin 2) (d : Fin 64) (h : Fin 8) (i : Fin 128) :
    val_main_v96 (F := Ideal) x0 x1 x2 x3 (ix6 0 n g d h i) = ((mixOut n.val (blkQ q n) (band kv n) z g h i d : ℝ) : EReal) := by
  pointwise [val_main_v96]
  simp only [probs_eq, values_eq, v120_at x0 x1 x3 q kv z hq hk hz, v15_at x2 kv hv, ← EReal.coe_mul, coe_sum]
  refine congrArg _ ?_
  rw [← mixOut_congr (zband_visible kv n)]
  unfold mixOut
  exact Finset.sum_congr rfl fun s _ => mul_comm _ _

include hq hk hv hz in
theorem v100_at (r : Fin 4096) (c : Fin 1024) : val_main_v100 (F := Ideal) x0 x1 x2 x3 (ix2 r c) = ((mixAll q kv z r c : ℝ) : EReal) := by
  pointwise [val_main_v100, val_main_v99, val_main_v98, val_main_v97]
  exact v96_at x0 x1 x2 x3 q kv z hq hk hv hz _ _ _ _ _

include hq hk hv hz in
theorem out_eq : val_main_v100 (F := Ideal) x0 x1 x2 x3 = fun y => ((mixAll q kv z (y 0) (y 1) : ℝ) : EReal) := by
  funext y
  refine (congrArg (fun y => val_main_v100 (F := Ideal) x0 x1 x2 x3 y) (eq_ix2 y)).trans ?_
  exact v100_at x0 x1 x2 x3 q kv z hq hk hv hz (y 0) (y 1)

end Cert.AttnMixRefIdeal.Val

end
-- ==== Proof.AttnMixClaim.lean ====
/-
  The value claim of the attention's forward call: at finite arguments both programs end with the same array.
-/
module

public import proofs.«01_k».proof.Defs
public import proofs.«01_k».proof.Proof.AttnMixRef
public import proofs.«01_k».proof.Proof.AttnClaim
public import proofs.«01_k».proof.Proof.Gen.AttnMix.Frame
public import proofs.«01_k».proof.Proof.Gen.AttnMixRefIdeal.Run
public import proofs.«01_k».proof.Proof.Gen.Pre_attf_finite
public import Idealize.ShloMosaic.Lib.Claim

@[expose] public section

set_option maxRecDepth 16384

noncomputable section

open Idealize.ShloMosaic Idealize.SL.Sem

namespace Cert.Step

open Attn

/-- The reference terminates and leaves its arguments as they were. -/
theorem attf_ref_frame : letI := Cert.AttnMixRefIdeal.Gen.facts; Cert.quiescent_AttnMixRefIdeal := fun m ρ _ =>
  (θ_run Cert.AttnMixRefIdeal.defs _ _).mono (fun r h => ⟨fun c => (h c).2, sem_eq_zero_of_no_sems (by decide) r.2⟩)
    (Cert.AttnMixRefIdeal.Value.run (F := Ideal) m ρ)

/-- The one rewrite: the mask's word is the named constant, −∞ over the extended reals. -/
theorem attf_preserves : Cert.preserves_AttnMix_AttnMixIdeal :=
  IdealRules.named_const.statement Cert.AttnMixIdeal.κ "mask" .f32 0xF149F2CA#32 ⊥ rfl

theorem attf_algebraic : letI := Cert.AttnMixIdeal.Gen.facts; letI := Cert.AttnMixRefIdeal.Gen.facts; letI := Cert.Pre_attf_finite.Gen.facts;
    Cert.algebraic_AttnMixIdeal_AttnMixRefIdeal_pre_attf_finite := by
  intro m g m' g' hpre hargs
  refine ⟨fun c => (Cert.AttnMixIdeal.Gen.dats m 0 c).arrAt 4 Cert.AttnMixIdeal.cfg0.N, ?_, ?_⟩
  · run_from Cert.AttnMixIdeal.Gen.run_main m g
  · refine (θ_run Cert.AttnMixRefIdeal.defs _ _).mono (fun r h c => ?_) (Cert.AttnMixRefIdeal.Value.run (F := Ideal) m' g')
    obtain ⟨p0, p1, p2, p3⟩ := hpre c
    obtain ⟨a0, a1, a2, a3⟩ := hargs c
    obtain ⟨q, hq⟩ := real_rows16 _ _ p0
    obtain ⟨kv, hk, hv⟩ := real_heads _ _ (fun i => real_of_finite16 _ _ p1 i) (fun i => real_of_finite16 _ _ p2 i)
    obtain ⟨z, hz⟩ := real_vec _ _ p3
    obtain ⟨h0, k⟩ := h c
    have e0 := Cert.AttnMixIdeal.Mix.final_out m c q kv z (hq 0) hk hv hz
    rw [← a0] at hq
    rw [← a1] at hk
    rw [← a2] at hv
    rw [← a3] at hz
    exact ⟨(h0.trans (Cert.AttnMixRefIdeal.Read.val_main_v100_eq m' c)).trans ((Cert.AttnMixRefIdeal.Val.out_eq _ _ _ _ q kv z (hq 0) hk hv hz).trans e0.symm), k⟩

end Cert.Step

end
-- ==== Proof.ScanTrip.lean ====
/-
  One chunk of the recurrence's kernel: what its 64 rows store for each of the eight heads, as a function of the
  block's arguments and of the state the chunk finds, and the loop over the four chunks of a block.
-/
module

public import proofs.«01_k».proof.Proof.Gen.HgrnMixIdeal.Loops
public import Idealize.ShloMosaic.Lib.VecWindow
public import Idealize.ShloMosaic.Lib.Pointwise

@[expose] public section

set_option maxRecDepth 16384

noncomputable section

namespace Cert.HgrnMixIdeal.Run

open Idealize.ShloMosaic Idealize.ShloMosaic.TcCoe Idealize.ShloMosaic.Tactic
open Cert.HgrnMixIdeal Cert.HgrnMixIdeal.Gen

variable {F : FTy → Type} [FloatOps F]

theorem trips_eq : k0_t1_loop.trips = 4 := by decide +kernel

/-- A block's arguments: the four projections, the two rows of bounds' logits, the norm's gain. -/
structure Blk (F : FTy → Type) where
  q : Vec F S256x1024 .f32
  f : Vec F S256x1024 .f32
  v : Vec F S256x1024 .f32
  g : Vec F S256x1024 .f32
  l0 : Vec F S1x1024 .f32
  l1 : Vec F S1x1024 .f32
  w : Vec F S1x128 .f32

/-- The 64 rows of chunk `k`. -/
def rows (x : Vec F S256x1024 .f32) (k : Fin k0_t1_loop.trips) : Vec F S64x1024 .f32 :=
  VecWindow.window x (k0_off1 k) S64x1024.size (k0_off1_inb k)

namespace Blk

variable (b : Blk F) (k : Fin k0_t1_loop.trips)

def lb : FVec F S1x1024 .f32 := k0_pay2 b.l0 b.l1
/-- The query, the decay's logarithm and the key of a chunk's rows, -/
def tq : FVec F S64x1024 .f32 := k0_pay8 (rows b.q k)
def tg : FVec F S64x1024 .f32 := k0_pay10 b.lb (rows b.f k)
def tk : FVec F S64x1024 .f32 := k0_pay11 b.lb (rows b.f k)
def t15 : FVec F S64x1024 .bf16 := k0_pay15 b.lb (rows b.f k)
def t16 : FVec F S64x1024 .f32 := k0_pay16 b.lb k0_pay6 (rows b.f k)
def zer : FVec F S64x1024 .f32 := constant S64x1024 .f32 0x00000000#32
/-- the decay over the whole chunk, -/
def last : FVec F S1x1024 .f32 := k0_pay20 (b.tg k)
/-- and the four decayed operands with the value and the gate. -/
def qi : FVec F S64x1024 .bf16 := k0_pay21 k0_pay5 k0_pay6 (b.tq k) (b.tg k) (b.t15 k) (b.t16 k) zer
def ki : FVec F S64x1024 .bf16 := k0_pay22 k0_pay5 k0_pay6 (b.tg k) (b.tk k) (b.t15 k) (b.t16 k) zer
def q0 : FVec F S64x1024 .bf16 := k0_pay23 k0_pay6 (b.tq k) (b.t15 k) (b.t16 k) zer
def kl : FVec F S64x1024 .bf16 := k0_pay24 k0_pay6 (b.tg k) (b.tk k) (b.t15 k) (b.t16 k) zer
def tv : FVec F S64x1024 .bf16 := k0_pay25 (rows b.v k)
def gate : FVec F S64x1024 .f32 := k0_pay26 (rows b.g k)

end Blk

/-! ## One head -/

theorem slices64 (h : Fin 8) : S64x1024.Slices ![0, 128 * h.val] S64x128 := by revert h; decide
theorem slices1 (h : Fin 8) : S1x1024.Slices ![0, 128 * h.val] S1x128 := by revert h; decide
theorem inbS (h : Fin 8) : ∀ a, (![h.val, 0, 0] : Fin 3 → Nat) a + S1x128x128.size a ≤ S8x128x128.size a := by revert h; decide

/-- Head `h`'s columns. -/
def colsOf {α : Type} (h : Fin 8) (x : S64x1024.Idx → α) : S64x128.Idx → α :=
  extractStridedSlice S64x128 ![0, 128 * h.val] x (slices64 h)

/-- Head `h`'s state. -/
def stAt (S : Vec F S8x128x128 .f32) (h : Fin 8) : Vec F S1x128x128 .f32 :=
  VecWindow.window S ![h.val, 0, 0] S1x128x128.size (inbS h)
def stMat (st : Vec F S1x128x128 .f32) : FVec F S128x128 .f32 := shapeCast S128x128 st shapeCasts_S1x128x128_S128x128

variable (b : Blk F) (k : Fin k0_t1_loop.trips) (h : Fin 8)

/-- The rows' scores, the later positions masked, -/
def headA : FVec F S64x64 .f32 :=
  select k0_pay4 (matmul dot_S64x128_S64x128_S64x64_1_1_0_0_n_n none (colsOf h (b.qi k)) (colsOf h (b.ki k)) (constant S64x64 .f32 0x00000000#32))
    (broadcast S64x64 (Scalar.ofBits .f32 0x00000000#32))
/-- the head's output, -/
def headO (st : Vec F S1x128x128 .f32) : FVec F S64x128 .f32 :=
  addf (matmul dot_S64x128_S128x128_S64x128_1_1_0_0_n_n none (colsOf h (b.q0 k)) (truncf .bf16 (stMat st) bitsLt_bf16_f32) (constant S64x128 .f32 0x00000000#32))
    (matmul dot_S64x64_S64x128_S64x128_1_0_0_1_n_n none (truncf .bf16 (headA b k h) bitsLt_bf16_f32) (colsOf h (b.tv k)) (constant S64x128 .f32 0x00000000#32))
/-- the state after the chunk, -/
def headS (st : Vec F S1x128x128 .f32) : FVec F S1x128x128 .f32 :=
  shapeCast S1x128x128 (addf (mulf (stMat st) (broadcastTo S128x128 (extractStridedSlice S1x128 ![0, 128 * h.val] (b.last k) (slices1 h)) broadcasts_S1x128_S128x128))
    (matmul dot_S64x128_S64x128_S128x128_0_0_1_1_n_n none (colsOf h (b.tv k)) (colsOf h (b.kl k)) (constant S128x128 .f32 0x00000000#32))) shapeCasts_S128x128_S1x128x128
/-- and the head's output normed, with its gain and its gate. -/
def headY (st : Vec F S1x128x128 .f32) : FVec F S64x128 .bf16 :=
  truncf .bf16 (mulf (mulf (mulf (headO b k h st) (broadcastTo S64x128 (rsqrt (addf (divf (shapeCast S64x1 (multiReduction .add [1] S64 (mulf (headO b k h st) (headO b k h st)) 0x00000000#32 reduces_S64x128_S64 (.inl rfl) rfl) shapeCasts_S64_S64x1)
      (broadcast S64x1 (Scalar.ofBits .f32 0x43000000#32))) (broadcast S64x1 (Scalar.ofBits .f32 0x358637BD#32)))) broadcasts_S64x1_S64x128))
    (broadcastTo S64x128 (k0_pay3 b.w) broadcasts_S1x128_S64x128)) (colsOf h (b.gate k))) bitsLt_bf16_f32

/-! ## The chunk's stores, by their place in the whole block -/

variable (S : Vec F S8x128x128 .f32)

def newS : Vec F S8x128x128 .f32 := fun y => headS b k (y 0) (stAt S (y 0)) (ix3 (0 : Fin 1) (y 1 : Fin 128) (y 2 : Fin 128))

theorem hcol (y : S256x1024.Idx) : (y 1).val / 128 < 8 := by
  have : (y 1).val < 1024 := (y 1).isLt
  omega
def outO : Vec F S256x1024 .f32 := fun y =>
  headO b k ⟨(y 1).val / 128, hcol y⟩ (stAt S ⟨(y 1).val / 128, hcol y⟩)
    (ix2 (⟨(y 0).val % 64, Nat.mod_lt _ (by decide)⟩ : Fin 64) (⟨(y 1).val % 128, Nat.mod_lt _ (by decide)⟩ : Fin 128))
def outY : Vec F S256x1024 .bf16 := fun y =>
  headY b k ⟨(y 1).val / 128, hcol y⟩ (stAt S ⟨(y 1).val / 128, hcol y⟩)
    (ix2 (⟨(y 0).val % 64, Nat.mod_lt _ (by decide)⟩ : Fin 64) (⟨(y 1).val % 128, Nat.mod_lt _ (by decide)⟩ : Fin 128))
def outT : Vec F S8x4x128x128 .f32 := fun y => S (ix3 (y 0 : Fin 8) (y 2 : Fin 128) (y 3 : Fin 128))

variable {b k h S}

theorem newS_emb (h : Fin 8) (inb) (x : (Rect.unit (s := S8x128x128) ![h.val, 0, 0] ![1, 128, 128] inb).shape.Idx) :
    headS b k h (stAt S h) x = newS b k S ((Rect.unit (s := S8x128x128) ![h.val, 0, 0] ![1, 128, 128] inb).emb x) := by
  have e0 : (Rect.unit (s := S8x128x128) ![h.val, 0, 0] ![1, 128, 128] inb).emb x 0 = h :=
    Fin.ext (by have : (x 0).val < 1 := (x 0).isLt; show h.val + 1 * (x 0).val = h.val; omega)
  unfold newS
  rw [e0]
  congr 1
  funext a
  match a with
  | ⟨0, _⟩ => exact Fin.ext (by have : (x 0).val < 1 := (x 0).isLt; show (x 0).val = 0; omega)
  | ⟨1, _⟩ => exact Fin.ext (by show (x 1).val = 0 + 1 * (x 1).val; omega)
  | ⟨2, _⟩ => exact Fin.ext (by show (x 2).val = 0 + 1 * (x 2).val; omega)

theorem out_emb {e : EltTy} (H : (h : Fin 8) → S64x128.Idx → Elt F e) (h : Fin 8) {off : Fin 2 → ℕ} (ho : off = ![64 * k.val, 128 * h.val]) (inb)
    (x : (Rect.unit (s := S256x1024) off ![64, 128] inb).shape.Idx) :
    H h x = (fun y : S256x1024.Idx => H ⟨(y 1).val / 128, hcol y⟩
      (ix2 (⟨(y 0).val % 64, Nat.mod_lt _ (by decide)⟩ : Fin 64) (⟨(y 1).val % 128, Nat.mod_lt _ (by decide)⟩ : Fin 128)))
      ((Rect.unit (s := S256x1024) off ![64, 128] inb).emb x) := by
  subst ho
  have l0 : (x 0).val < 64 := (x 0).isLt
  have l1 : (x 1).val < 128 := (x 1).isLt
  have v0 : ((Rect.unit (s := S256x1024) ![64 * k.val, 128 * h.val] ![64, 128] inb).emb x 0).val = 64 * k.val + 1 * (x 0).val := rfl
  have v1 : ((Rect.unit (s := S256x1024) ![64 * k.val, 128 * h.val] ![64, 128] inb).emb x 1).val = 128 * h.val + 1 * (x 1).val := rfl
  generalize (Rect.unit (s := S256x1024) ![64 * k.val, 128 * h.val] ![64, 128] inb).emb x = y at v0 v1
  have eh : (⟨(y 1).val / 128, hcol y⟩ : Fin 8) = h := Fin.ext (by show (y 1).val / 128 = h.val; rw [v1]; omega)
  dsimp only
  rw [eh]
  congr 1
  funext a
  match a with
  | ⟨0, _⟩ => exact Fin.ext (by show (x 0).val = (y 0).val % 64; rw [v0]; omega)
  | ⟨1, _⟩ => exact Fin.ext (by show (x 1).val = (y 1).val % 128; rw [v1]; omega)

theorem outO_emb (h : Fin 8) {off : Fin 2 → ℕ} (ho : off = ![64 * k.val, 128 * h.val]) (inb)
    (x : (Rect.unit (s := S256x1024) off ![64, 128] inb).shape.Idx) :
    headO b k h (stAt S h) x = outO b k S ((Rect.unit (s := S256x1024) off ![64, 128] inb).emb x) :=
  out_emb (e := .f32) (fun h => headO b k h (stAt S h)) h ho inb x

theorem outY_emb (h : Fin 8) {off : Fin 2 → ℕ} (ho : off = ![64 * k.val, 128 * h.val]) (inb)
    (x : (Rect.unit (s := S256x1024) off ![64, 128] inb).shape.Idx) :
    headY b k h (stAt S h) x = outY b k S ((Rect.unit (s := S256x1024) off ![64, 128] inb).emb x) :=
  out_emb (e := .bf16) (fun h => headY b k h (stAt S h)) h ho inb x

theorem outT_emb (h : Fin 8) {off : Fin 4 → ℕ} (ho : off = ![h.val, k.val, 0, 0]) (inb)
    (x : (Rect.unit (s := S8x4x128x128) off ![1, 1, 128, 128] inb).shape.Idx) :
    shapeCast S1x1x128x128 (stMat (stAt S h)) shapeCasts_S128x128_S1x1x128x128 x = outT S ((Rect.unit (s := S8x4x128x128) off ![1, 1, 128, 128] inb).emb x) := by
  subst ho
  have l0 : (x 0).val < 1 := (x 0).isLt
  idx_vars x
  unfold stMat outT stAt VecWindow.window
  pointwise
  congr 1
  funext a
  match a with
  | ⟨0, _⟩ => exact Fin.ext (by have : x0.val < 1 := x0.isLt; show h.val + 1 * 0 = h.val + 1 * x0.val; omega)
  | ⟨1, _⟩ => exact Fin.ext (by show 0 + 1 * x2.val = 0 + 1 * x2.val; rfl)
  | ⟨2, _⟩ => exact Fin.ext (by show 0 + 1 * x3.val = 0 + 1 * x3.val; rfl)

theorem mem_rows {h : ℕ} {off : Fin 2 → ℕ} (ho : off = ![64 * k.val, 128 * h]) {inb} {y : S256x1024.Idx} :
    y ∈ (Rect.unit (s := S256x1024) off ![64, 128] inb).set ↔ (y 0).val / 64 = k.val ∧ (y 1).val / 128 = h := by
  subst ho
  rw [Rect.mem_set_unit, Fin.forall_fin_two]
  show (64 * k.val ≤ (y 0).val ∧ (y 0).val < 64 * k.val + 64) ∧ (128 * h ≤ (y 1).val ∧ (y 1).val < 128 * h + 128) ↔ _
  omega
theorem mem_chunk {h : ℕ} {off : Fin 4 → ℕ} (ho : off = ![h, k.val, 0, 0]) {inb} {y : S8x4x128x128.Idx} :
    y ∈ (Rect.unit (s := S8x4x128x128) off ![1, 1, 128, 128] inb).set ↔ (y 0).val = h ∧ (y 1).val = k.val := by
  subst ho
  have h2 : (y 2).val < 128 := (y 2).isLt
  have h3 : (y 3).val < 128 := (y 3).isLt
  rw [Rect.mem_set_unit, Fin.forall_fin_succ, Fin.forall_fin_succ, Fin.forall_fin_two]
  show (h ≤ (y 0).val ∧ (y 0).val < h + 1) ∧ (k.val ≤ (y 1).val ∧ (y 1).val < k.val + 1) ∧ (0 ≤ (y 2).val ∧ (y 2).val < 0 + 128) ∧ (0 ≤ (y 3).val ∧ (y 3).val < 0 + 128) ↔ _
  omega
theorem mem_head {h : ℕ} {inb} {y : S8x128x128.Idx} :
    y ∈ (Rect.unit (s := S8x128x128) ![h, 0, 0] ![1, 128, 128] inb).set ↔ (y 0).val = h := by
  have h2 : (y 1).val < 128 := (y 1).isLt
  have h3 : (y 2).val < 128 := (y 2).isLt
  rw [Rect.mem_set_unit, Fin.forall_fin_succ, Fin.forall_fin_two]
  show (h ≤ (y 0).val ∧ (y 0).val < h + 1) ∧ (0 ≤ (y 1).val ∧ (y 1).val < 0 + 128) ∧ (0 ≤ (y 2).val ∧ (y 2).val < 0 + 128) ↔ _
  omega

/-! ## The chunk's stores -/

section
variable (c : Dev nD) (i : grid0.Coords)
variable (arg1 : Memref sig .tc .vmem S256x1024 .f32) (harg1 : arg1.IsWhole) (arg2 : Memref sig .tc .vmem S256x1024 .f32) (harg2 : arg2.IsWhole)
variable (arg3 : Memref sig .tc .vmem S256x1024 .f32) (harg3 : arg3.IsWhole) (arg4 : Memref sig .tc .vmem S256x1024 .f32) (harg4 : arg4.IsWhole)
variable (arg5 : Memref sig .tc .vmem S2x1024 .f32) (harg5 : arg5.IsWhole) (arg6 : Memref sig .tc .vmem S1x128 .f32) (harg6 : arg6.IsWhole)
variable (arg7 : Memref sig .tc .vmem S256x1024 .f32) (harg7 : arg7.IsWhole) (arg8 : Memref sig .tc .vmem S256x1024 .bf16) (harg8 : arg8.IsWhole)
variable (arg9 : Memref sig .tc .vmem S8x4x128x128 .f32) (harg9 : arg9.IsWhole) (arg10 : Memref sig .tc .vmem S8x128x128 .f32) (harg10 : arg10.IsWhole)
variable (v3 v4 : Vec F S1x1024 .f32) (v13 : Vec F S1x128 .f32)
variable (X1 : BufTy.Contents (Elt F) arg1.view.ty) (X2 : BufTy.Contents (Elt F) arg2.view.ty) (X3 : BufTy.Contents (Elt F) arg3.view.ty) (X4 : BufTy.Contents (Elt F) arg4.view.ty)
variable (G7 : BufTy.Contents (Elt F) arg7.view.ty) (G8 : BufTy.Contents (Elt F) arg8.view.ty) (G9 : BufTy.Contents (Elt F) arg9.view.ty) (G10 : BufTy.Contents (Elt F) arg10.view.ty)

/-- The block that the buffers hold. -/
abbrev blkOf : Blk F := ⟨arg1.view.read (Elt F) X1, arg2.view.read (Elt F) X2, arg3.view.read (Elt F) X3, arg4.view.read (Elt F) X4, v3, v4, v13⟩

/-- What chunk `k` stores. -/
abbrev stores := tripL_k0_t1 (F := F) Variants.none c none i arg1 harg1 arg2 harg2 arg3 harg3 arg4 harg4 arg5 harg5 arg6 harg6 arg7 harg7 arg8 harg8 arg9 harg9 arg10 harg10 v3 v4 v13 X1 X2 X3 X4 k G7 G8 G9 G10

theorem stores_S : ∀ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).2.2.2,
    ∀ x, p.2 x = newS (blkOf arg1 arg2 arg3 arg4 v3 v4 v13 X1 X2 X3 X4) k (arg10.view.read (Elt F) G10) (p.1.emb x) := by
  unfold stores tripL_k0_t1 trip_k0_t1
  dsimp only
  simp only [List.forall_mem_cons, List.not_mem_nil, false_imp_iff, implies_true, and_true]
  refine ⟨fun x => Eq.trans ?_ (newS_emb 7 _ x), fun x => Eq.trans ?_ (newS_emb 6 _ x), fun x => Eq.trans ?_ (newS_emb 5 _ x), fun x => Eq.trans ?_ (newS_emb 4 _ x),
    fun x => Eq.trans ?_ (newS_emb 3 _ x), fun x => Eq.trans ?_ (newS_emb 2 _ x), fun x => Eq.trans ?_ (newS_emb 1 _ x), fun x => Eq.trans ?_ (newS_emb 0 _ x)⟩ <;>
  exact congrFun (by sl_kernel_rfl) x

theorem stores_O : ∀ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).1,
    ∀ x, p.2 x = outO (blkOf arg1 arg2 arg3 arg4 v3 v4 v13 X1 X2 X3 X4) k (arg10.view.read (Elt F) G10) (p.1.emb x) := by
  unfold stores tripL_k0_t1 trip_k0_t1
  dsimp only
  simp only [List.forall_mem_cons, List.not_mem_nil, false_imp_iff, implies_true, and_true]
  refine ⟨fun x => Eq.trans ?_ (outO_emb 7 (k0_off17_eq k) _ x), fun x => Eq.trans ?_ (outO_emb 6 (k0_off15_eq k) _ x), fun x => Eq.trans ?_ (outO_emb 5 (k0_off13_eq k) _ x), fun x => Eq.trans ?_ (outO_emb 4 (k0_off11_eq k) _ x), fun x => Eq.trans ?_ (outO_emb 3 (k0_off9_eq k) _ x), fun x => Eq.trans ?_ (outO_emb 2 (k0_off7_eq k) _ x), fun x => Eq.trans ?_ (outO_emb 1 (k0_off5_eq k) _ x), fun x => Eq.trans ?_ (outO_emb 0 (k0_off3_eq k) _ x)⟩ <;>
  exact congrFun (by sl_kernel_rfl) x
theorem stores_Y : ∀ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).2.1,
    ∀ x, p.2 x = outY (blkOf arg1 arg2 arg3 arg4 v3 v4 v13 X1 X2 X3 X4) k (arg10.view.read (Elt F) G10) (p.1.emb x) := by
  unfold stores tripL_k0_t1 trip_k0_t1
  dsimp only
  simp only [List.forall_mem_cons, List.not_mem_nil, false_imp_iff, implies_true, and_true]
  refine ⟨fun x => Eq.trans ?_ (outY_emb 7 (k0_off17_eq k) _ x), fun x => Eq.trans ?_ (outY_emb 6 (k0_off15_eq k) _ x), fun x => Eq.trans ?_ (outY_emb 5 (k0_off13_eq k) _ x), fun x => Eq.trans ?_ (outY_emb 4 (k0_off11_eq k) _ x), fun x => Eq.trans ?_ (outY_emb 3 (k0_off9_eq k) _ x), fun x => Eq.trans ?_ (outY_emb 2 (k0_off7_eq k) _ x), fun x => Eq.trans ?_ (outY_emb 1 (k0_off5_eq k) _ x), fun x => Eq.trans ?_ (outY_emb 0 (k0_off3_eq k) _ x)⟩ <;>
  exact congrFun (by sl_kernel_rfl) x
theorem stores_T : ∀ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).2.2.1,
    ∀ x, p.2 x = outT (arg10.view.read (Elt F) G10) (p.1.emb x) := by
  unfold stores tripL_k0_t1 trip_k0_t1
  dsimp only
  simp only [List.forall_mem_cons, List.not_mem_nil, false_imp_iff, implies_true, and_true]
  refine ⟨fun x => Eq.trans ?_ (outT_emb (S := arg10.view.read (Elt F) G10) 7 (k0_off16_eq k) _ x), fun x => Eq.trans ?_ (outT_emb (S := arg10.view.read (Elt F) G10) 6 (k0_off14_eq k) _ x), fun x => Eq.trans ?_ (outT_emb (S := arg10.view.read (Elt F) G10) 5 (k0_off12_eq k) _ x), fun x => Eq.trans ?_ (outT_emb (S := arg10.view.read (Elt F) G10) 4 (k0_off10_eq k) _ x), fun x => Eq.trans ?_ (outT_emb (S := arg10.view.read (Elt F) G10) 3 (k0_off8_eq k) _ x), fun x => Eq.trans ?_ (outT_emb (S := arg10.view.read (Elt F) G10) 2 (k0_off6_eq k) _ x), fun x => Eq.trans ?_ (outT_emb (S := arg10.view.read (Elt F) G10) 1 (k0_off4_eq k) _ x), fun x => Eq.trans ?_ (outT_emb (S := arg10.view.read (Elt F) G10) 0 (k0_off2_eq k) _ x)⟩ <;>
  exact congrFun (by sl_kernel_rfl) x

/-! ## Where the stores lie -/

theorem stores_O_cover (y) (hy : (y 0).val / 64 = k.val) : ∃ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).1, y ∈ p.1.set := by
  unfold stores tripL_k0_t1 trip_k0_t1
  dsimp only
  simp only [List.mem_cons, List.not_mem_nil, or_false, exists_eq_or_imp, exists_eq_left]
  simp only [mem_rows (h := 0) (k0_off3_eq k), mem_rows (h := 1) (k0_off5_eq k), mem_rows (h := 2) (k0_off7_eq k), mem_rows (h := 3) (k0_off9_eq k), mem_rows (h := 4) (k0_off11_eq k), mem_rows (h := 5) (k0_off13_eq k), mem_rows (h := 6) (k0_off15_eq k), mem_rows (h := 7) (k0_off17_eq k)]
  have := hcol y
  omega
theorem stores_O_other (y) (hy : ¬ ((y 0).val / 64 = k.val)) : ∀ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).1, y ∉ p.1.set := by
  unfold stores tripL_k0_t1 trip_k0_t1
  dsimp only
  simp only [List.forall_mem_cons, List.not_mem_nil, false_imp_iff, implies_true, and_true]
  simp only [mem_rows (h := 0) (k0_off3_eq k), mem_rows (h := 1) (k0_off5_eq k), mem_rows (h := 2) (k0_off7_eq k), mem_rows (h := 3) (k0_off9_eq k), mem_rows (h := 4) (k0_off11_eq k), mem_rows (h := 5) (k0_off13_eq k), mem_rows (h := 6) (k0_off15_eq k), mem_rows (h := 7) (k0_off17_eq k)]
  omega
theorem stores_Y_cover (y) (hy : (y 0).val / 64 = k.val) : ∃ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).2.1, y ∈ p.1.set := by
  unfold stores tripL_k0_t1 trip_k0_t1
  dsimp only
  simp only [List.mem_cons, List.not_mem_nil, or_false, exists_eq_or_imp, exists_eq_left]
  simp only [mem_rows (h := 0) (k0_off3_eq k), mem_rows (h := 1) (k0_off5_eq k), mem_rows (h := 2) (k0_off7_eq k), mem_rows (h := 3) (k0_off9_eq k), mem_rows (h := 4) (k0_off11_eq k), mem_rows (h := 5) (k0_off13_eq k), mem_rows (h := 6) (k0_off15_eq k), mem_rows (h := 7) (k0_off17_eq k)]
  have := hcol y
  omega
theorem stores_Y_other (y) (hy : ¬ ((y 0).val / 64 = k.val)) : ∀ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).2.1, y ∉ p.1.set := by
  unfold stores tripL_k0_t1 trip_k0_t1
  dsimp only
  simp only [List.forall_mem_cons, List.not_mem_nil, false_imp_iff, implies_true, and_true]
  simp only [mem_rows (h := 0) (k0_off3_eq k), mem_rows (h := 1) (k0_off5_eq k), mem_rows (h := 2) (k0_off7_eq k), mem_rows (h := 3) (k0_off9_eq k), mem_rows (h := 4) (k0_off11_eq k), mem_rows (h := 5) (k0_off13_eq k), mem_rows (h := 6) (k0_off15_eq k), mem_rows (h := 7) (k0_off17_eq k)]
  omega
theorem stores_T_cover (y) (hy : (y 1).val = k.val) : ∃ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).2.2.1, y ∈ p.1.set := by
  unfold stores tripL_k0_t1 trip_k0_t1
  dsimp only
  simp only [List.mem_cons, List.not_mem_nil, or_false, exists_eq_or_imp, exists_eq_left]
  simp only [mem_chunk (h := 0) (k0_off2_eq k), mem_chunk (h := 1) (k0_off4_eq k), mem_chunk (h := 2) (k0_off6_eq k), mem_chunk (h := 3) (k0_off8_eq k), mem_chunk (h := 4) (k0_off10_eq k), mem_chunk (h := 5) (k0_off12_eq k), mem_chunk (h := 6) (k0_off14_eq k), mem_chunk (h := 7) (k0_off16_eq k)]
  have : (y 0).val < 8 := (y 0).isLt
  omega
theorem stores_T_other (y) (hy : ¬ ((y 1).val = k.val)) : ∀ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).2.2.1, y ∉ p.1.set := by
  unfold stores tripL_k0_t1 trip_k0_t1
  dsimp only
  simp only [List.forall_mem_cons, List.not_mem_nil, false_imp_iff, implies_true, and_true]
  simp only [mem_chunk (h := 0) (k0_off2_eq k), mem_chunk (h := 1) (k0_off4_eq k), mem_chunk (h := 2) (k0_off6_eq k), mem_chunk (h := 3) (k0_off8_eq k), mem_chunk (h := 4) (k0_off10_eq k), mem_chunk (h := 5) (k0_off12_eq k), mem_chunk (h := 6) (k0_off14_eq k), mem_chunk (h := 7) (k0_off16_eq k)]
  omega
theorem stores_S_cover (y) (hy : True) : ∃ p ∈ (stores c i arg1 harg1 arg2 harg2 arg3 harg3 arg4 harg4 arg5 harg5 arg6 harg6 arg7 harg7 arg8 harg8 arg9 harg9 arg10 harg10 v3 v4 v13 X1 X2 X3 X4 (k := k) G7 G8 G9 G10).2.2.2, y ∈ p.1.set := by
  unfold stores tripL_k0_t1 trip_k0_t1
  dsimp only
  simp only [List.mem_cons, List.not_mem_nil, or_false, exists_eq_or_imp, exists_eq_left]
  simp only [mem_head (h := 0), mem_head (h := 1), mem_head (h := 2), mem_head (h := 3), mem_head (h := 4), mem_head (h := 5), mem_head (h := 6), mem_head (h := 7)]
  have : (y 0).val < 8 := (y 0).isLt
  omega
end

end Cert.HgrnMixIdeal.Run

end
-- ==== Proof.ScanReal.lean ====
module

public import Mathlib.Analysis.SpecialFunctions.Log.Basic
public import Mathlib.Algebra.BigOperators.Fin

/-! # A decaying sum, taken by blocks

`scanSt g w n` is the running state of one pair of columns: each step multiplies it by `exp (g n)` and adds `w n`. Taken a
block of positions at a time, the state after the block is the decayed state before it plus the block's own
contributions, each decayed by what follows it. -/

@[expose] public section

noncomputable section

namespace Cert.Step

open Finset

/-- The running state. -/
def scanSt (g w : ℕ → ℝ) : ℕ → ℝ
  | 0 => 0
  | n + 1 => Real.exp (g n) * scanSt g w n + w n

/-- The logarithm of the decay of the `n` positions from `p`. -/
def scanCum (g : ℕ → ℝ) (p n : ℕ) : ℝ := ∑ r ∈ range n, g (p + r)

theorem scanCum_succ (g : ℕ → ℝ) (p n : ℕ) : scanCum g p (n + 1) = scanCum g p n + g (p + n) := by
  unfold scanCum; rw [sum_range_succ]

/-- The state after `n` positions from `p`. -/
theorem scanSt_add (g w : ℕ → ℝ) (p n : ℕ) :
    scanSt g w (p + n) = Real.exp (scanCum g p n) * scanSt g w p
      + ∑ s ∈ range n, Real.exp (scanCum g p n - scanCum g p (s + 1)) * w (p + s) := by
  induction n with
  | zero => simp [scanCum]
  | succ n ih =>
    rw [← add_assoc, scanSt, ih, sum_range_succ, scanCum_succ, sub_self, Real.exp_zero, one_mul, mul_add, ← mul_assoc,
      ← Real.exp_add, mul_sum, add_comm (g (p + n)), add_assoc]
    congr 2
    refine sum_congr rfl fun s _ => ?_
    rw [← mul_assoc, ← Real.exp_add]
    congr 2
    ring

/-- What position `p + t` reads of the state with weights `q`: the decayed state before the block, and the block's own
    positions up to `t`. -/
theorem scan_out {D : Type} [Fintype D] (q : D → ℝ) (g k : D → ℕ → ℝ) (v : ℕ → ℝ) (p t : ℕ) :
    ∑ d, q d * scanSt (g d) (fun n => k d n * v n) (p + t + 1)
      = ∑ d, q d * Real.exp (scanCum (g d) p (t + 1)) * scanSt (g d) (fun n => k d n * v n) p
        + ∑ s ∈ range (t + 1),
            (∑ d, q d * k d (p + s) * Real.exp (scanCum (g d) p (t + 1) - scanCum (g d) p (s + 1))) * v (p + s) := by
  simp only [add_assoc p t 1, scanSt_add, mul_add, sum_add_distrib, ← mul_assoc, add_right_inj, mul_sum, sum_mul]
  rw [sum_comm]
  refine sum_congr rfl fun s _ => sum_congr rfl fun d _ => ?_
  ring

end Cert.Step
-- ==== Proof.ScanSpec.lean ====
/-
  The gated recurrence over the reals: the gates of a position, the state of a head before it, and its outputs.
-/
module

public import proofs.«01_k».proof.Proof.ScanReal
public import proofs.«01_k».proof.Proof.ConvSpec

@[expose] public section

noncomputable section

namespace Cert.Step

open Idealize.ShloMosaic

/-- The query's scale, as the float word's rational. -/
def scale : ℝ := 11863283 / 2 ^ 27

theorem lit_scale : Ideal.ofBits .f32 0x3DB504F3#32 = ((scale : ℝ) : EReal) := by
  simp [Ideal.ofBits, Ideal.ieee, -EReal.coe_mul, scale]; norm_num

theorem lit_128 : Ideal.ofBits .f32 0x43000000#32 = ((128 : ℝ) : EReal) := by
  simp [Ideal.ofBits, Ideal.ieee, -EReal.coe_mul]; norm_num

theorem logi_pos (x : ℝ) : 0 < logi x := one_div_pos.mpr (exp_pos_one x)
theorem logi_lt_one (x : ℝ) : logi x < 1 := by
  unfold logi
  rw [div_lt_one (exp_pos_one x)]
  have := Real.exp_pos (-x)
  linarith

/-- Column `d` of head `h`. -/
def hd (h : Fin 8) (d : Fin 128) : Fin 1024 := ⟨128 * h.val + d.val, by have := h.isLt; have := d.isLt; omega⟩

/-- The projection's four parts (query, forget, value, gate) as sequences, zero past their end. -/
def parts (p : Fin 4096 → Fin 4096 → ℝ) (j : Fin 4) (s : ℕ) (d : Fin 1024) : ℝ :=
  if h : s < 4096 then p ⟨s, h⟩ ⟨1024 * j.val + d.val, by have := j.isLt; have := d.isLt; omega⟩ else 0

/-- The forget gate's lower bound. -/
def hgLb (L : Fin 2 → Fin 1024 → ℝ) (d : Fin 1024) : ℝ := logi (L 0 d - L 1 d)

/-- A position's forget gate, from its lower bound and its raw value. -/
def fgate (l x : ℝ) : ℝ := l + (1 - l) * logi x

theorem fgate_pos {l : ℝ} (h0 : 0 < l) (h1 : l < 1) (x : ℝ) : 0 < fgate l x := by
  have := mul_pos (sub_pos.mpr h1) (logi_pos x)
  unfold fgate; linarith

theorem hgLb_fgate (L : Fin 2 → Fin 1024 → ℝ) (d : Fin 1024) (x : ℝ) : 0 < fgate (hgLb L d) x :=
  fgate_pos (logi_pos _) (logi_lt_one _) x

section
variable (X : Fin 4 → ℕ → Fin 1024 → ℝ) (L : Fin 2 → Fin 1024 → ℝ) (w : Fin 128 → ℝ)

/-- The query, -/
def hgQ (s : ℕ) (d : Fin 1024) : ℝ := X 0 s d * logi (X 0 s d) * scale
/-- the decay's logarithm, -/
def hgG (s : ℕ) (d : Fin 1024) : ℝ := Real.log (fgate (hgLb L d) (X 1 s d))
/-- and the key of a position. -/
def hgK (s : ℕ) (d : Fin 1024) : ℝ := 1 - fgate (hgLb L d) (X 1 s d)

/-- The state of head `h` before position `n`, -/
def hgS (h : Fin 8) (n : ℕ) (k v : Fin 128) : ℝ :=
  scanSt (fun s => hgG X L s (hd h k)) (fun s => hgK X L s (hd h k) * X 2 s (hd h v)) n

/-- the head's output at a position, -/
def hgO (h : Fin 8) (s : ℕ) (v : Fin 128) : ℝ := ∑ k, hgQ X s (hd h k) * hgS X L h (s + 1) k v

/-- and the output normed, with the gain and the gate. -/
def hgY (h : Fin 8) (s : ℕ) (v : Fin 128) : ℝ :=
  hgO X L h s v * (Real.sqrt ((∑ c, hgO X L h s c * hgO X L h s c) / 128 + eps))⁻¹ * w v * (X 3 s (hd h v) * logi (X 3 s (hd h v)))

/-- The state after `n` more positions. -/
theorem hgS_add (h : Fin 8) (p n : ℕ) (k v : Fin 128) :
    hgS X L h (p + n) k v = Real.exp (scanCum (fun s => hgG X L s (hd h k)) p n) * hgS X L h p k v
      + ∑ s ∈ Finset.range n, Real.exp (scanCum (fun s => hgG X L s (hd h k)) p n - scanCum (fun s => hgG X L s (hd h k)) p (s + 1))
          * (hgK X L (p + s) (hd h k) * X 2 (p + s) (hd h v)) := scanSt_add _ _ p n

/-- The output from the state before the chunk and the chunk's own positions. -/
theorem hgO_chunk (h : Fin 8) (p t : ℕ) (v : Fin 128) :
    hgO X L h (p + t) v
      = ∑ k, hgQ X (p + t) (hd h k) * Real.exp (scanCum (fun s => hgG X L s (hd h k)) p (t + 1)) * hgS X L h p k v
        + ∑ s ∈ Finset.range (t + 1),
            (∑ k, hgQ X (p + t) (hd h k) * hgK X L (p + s) (hd h k)
                * Real.exp (scanCum (fun s => hgG X L s (hd h k)) p (t + 1) - scanCum (fun s => hgG X L s (hd h k)) p (s + 1))) * X 2 (p + s) (hd h v) :=
  scan_out (fun k => hgQ X (p + t) (hd h k)) (fun k s => hgG X L s (hd h k)) (fun k s => hgK X L s (hd h k)) (fun s => X 2 s (hd h v)) p t

/-- A sum over the positions up to `t` of a chunk, as one over all of them with the later ones at zero. -/
theorem sum_upto {n : ℕ} (t : Fin n) (f : ℕ → ℝ) : ∑ s ∈ Finset.range (t.val + 1), f s = ∑ s : Fin n, if s.val ≤ t.val then f s.val else 0 := by
  rw [Fin.sum_univ_eq_sum_range (fun s => if s ≤ t.val then f s else 0) n, ← Finset.sum_filter]
  congr 1
  ext s
  have := t.isLt
  simp only [Finset.mem_range, Finset.mem_filter]
  omega
end

end Cert.Step

end
-- ==== Proof.ScanPays.lean ====
/-
  The rows of one chunk over the reals: the query, the key, the decay and its running sum.
-/
module

public import proofs.«01_k».proof.Proof.ScanTrip
public import proofs.«01_k».proof.Proof.ScanSpec

@[expose] public section

set_option maxRecDepth 16384

noncomputable section

namespace Cert.HgrnMixIdeal.Run

open Idealize.ShloMosaic Idealize.ShloMosaic.TcCoe Idealize.ShloMosaic.Tactic
open Cert.HgrnMixIdeal Cert.HgrnMixIdeal.Gen Cert.Step

section
variable (x : Vec Ideal S64x1024 .f32) (l0 l1 lb : Vec Ideal S1x1024 .f32) (R : Fin 64 → Fin 1024 → ℝ) (L : Fin 2 → Fin 1024 → ℝ)
variable (hx : ∀ r e, x (ix2 r e) = ((R r e : ℝ) : EReal))

theorem pay2_at (h0 : ∀ e, l0 (ix2 0 e) = ((L 0 e : ℝ) : EReal)) (h1 : ∀ e, l1 (ix2 0 e) = ((L 1 e : ℝ) : EReal)) (e : Fin 1024) :
    k0_pay2 (F := Ideal) l0 l1 (ix2 0 e) = ((hgLb L e : ℝ) : EReal) := by
  pointwise [k0_pay2]
  rw [h0, h1, lit_half, ← EReal.coe_sub, ← EReal.coe_mul, Ideal.tanh_coe, ← EReal.coe_mul, ← EReal.coe_add, logi_tanh]
  rfl

include hx in
theorem pay8_at (r : Fin 64) (e : Fin 1024) : k0_pay8 (F := Ideal) x (ix2 r e) = ((R r e * logi (R r e) * scale : ℝ) : EReal) := by
  pointwise [k0_pay8]
  rw [hx, lit_half, lit_scale, ← EReal.coe_mul, Ideal.tanh_coe, ← EReal.coe_mul, ← EReal.coe_add, logi_tanh, ← EReal.coe_mul, ← EReal.coe_mul]

include hx in
theorem pay26_at (r : Fin 64) (e : Fin 1024) : k0_pay26 (F := Ideal) x (ix2 r e) = ((R r e * logi (R r e) : ℝ) : EReal) := by
  pointwise [k0_pay26]
  rw [hx, lit_half, ← EReal.coe_mul, Ideal.tanh_coe, ← EReal.coe_mul, ← EReal.coe_add, logi_tanh, ← EReal.coe_mul]

variable (hlb : ∀ e, lb (ix2 0 e) = ((hgLb L e : ℝ) : EReal))

include hx hlb in
theorem pay9_at (r : Fin 64) (e : Fin 1024) : k0_pay9 (F := Ideal) lb x (ix2 r e) = ((fgate (hgLb L e) (R r e) : ℝ) : EReal) := by
  pointwise [k0_pay9]
  rw [hx, hlb, lit_half, ← EReal.coe_one, ← EReal.coe_mul, Ideal.tanh_coe, ← EReal.coe_mul, ← EReal.coe_add, logi_tanh, ← EReal.coe_sub, ← EReal.coe_mul, ← EReal.coe_add]
  rfl

include hx hlb in
theorem pay10_at (r : Fin 64) (e : Fin 1024) : k0_pay10 (F := Ideal) lb x (ix2 r e) = ((Real.log (fgate (hgLb L e) (R r e)) : ℝ) : EReal) := by
  pointwise [k0_pay10]
  rw [pay9_at x lb R L hx hlb, log_real (hgLb_fgate L e _)]

include hx hlb in
theorem pay11_at (r : Fin 64) (e : Fin 1024) : k0_pay11 (F := Ideal) lb x (ix2 r e) = ((1 - fgate (hgLb L e) (R r e) : ℝ) : EReal) := by
  pointwise [k0_pay11]
  rw [pay9_at x lb R L hx hlb, ← EReal.coe_one, ← EReal.coe_sub]

/-- The mask of the earlier rows, -/
theorem pay4_at (r s : Fin 64) : k0_pay4 (ix2 r s) = if s.val ≤ r.val then 1#1 else 0#1 := by
  revert r s
  decide +kernel
theorem pay5_at (r : Fin 64) (e : Fin 1024) : k0_pay5 (ix2 r e) = if r.val < 32 then 1#1 else 0#1 := by
  pointwise [k0_pay5]
  revert r
  decide +kernel
/-- as numbers. -/
theorem pay6_at (r s : Fin 64) : k0_pay6 (F := Ideal) (ix2 r s) = (((if s.val ≤ r.val then 1 else 0 : ℝ)) : EReal) := by
  pointwise [k0_pay6, pay4_at r s]
  split
  · show ((((1#32).toInt : ℤ) : ℝ) : EReal) = _; norm_num
  · show ((((0#32).toInt : ℤ) : ℝ) : EReal) = _; norm_num

include hx hlb in
/-- The three parts' products add up to the decay's running sum. -/
theorem cum_at (r : Fin 64) (e : Fin 1024) :
    k0_pay17 (F := Ideal) k0_pay6 (k0_pay15 lb x) (k0_pay16 lb k0_pay6 x) Blk.zer (ix2 r e)
      = ((∑ s : Fin 64, (if s.val ≤ r.val then 1 else 0) * Real.log (fgate (hgLb L e) (R s e)) : ℝ) : EReal) := by
  have h12 (s : Fin 64) : k0_pay12 (F := Ideal) lb x (ix2 s e) = ((Real.log (fgate (hgLb L e) (R s e)) : ℝ) : EReal) := by
    pointwise [k0_pay12]; exact pay10_at x lb R L hx hlb s e
  have h13 (s : Fin 64) : k0_pay13 (F := Ideal) lb x (ix2 s e) = ((0 : ℝ) : EReal) := by
    pointwise [k0_pay13]; rw [h12, pay10_at x lb R L hx hlb, ← EReal.coe_sub, sub_self]
  have h14 (s : Fin 64) : k0_pay14 (F := Ideal) lb x (ix2 s e) = ((0 : ℝ) : EReal) := by
    pointwise [k0_pay14]; exact h13 s
  have h15 (s : Fin 64) : k0_pay15 (F := Ideal) lb x (ix2 s e) = ((0 : ℝ) : EReal) := by
    pointwise [k0_pay15]; rw [h14, h13, ← EReal.coe_sub, sub_self]
  pointwise [k0_pay17, k0_pay16, Blk.zer]
  simp only [pay6_at, h12, h14, h15, lit_zero, ← EReal.coe_mul, coe_sum, ← EReal.coe_add, mul_zero, Finset.sum_const_zero, add_zero, zero_add]
end

end Cert.HgrnMixIdeal.Run

end
-- ==== Proof.ScanChunk.lean ====
/-
  One head of one chunk over the reals: its output, its state after the chunk, and its normed output.
-/
module

public import proofs.«01_k».proof.Proof.ScanPays

@[expose] public section

set_option maxRecDepth 16384

noncomputable section

namespace Cert.HgrnMixIdeal.Run

open Idealize.ShloMosaic Idealize.ShloMosaic.TcCoe Idealize.ShloMosaic.Tactic
open Cert.HgrnMixIdeal Cert.HgrnMixIdeal.Gen Cert.Step

/-- A block holds the 256 positions from `p`. -/
structure BlkIs (b : Blk Ideal) (X : Fin 4 → ℕ → Fin 1024 → ℝ) (L : Fin 2 → Fin 1024 → ℝ) (w : Fin 128 → ℝ) (p : ℕ) : Prop where
  q : ∀ (r : Fin 256) (e : Fin 1024), b.q (ix2 r e) = ((X 0 (p + r.val) e : ℝ) : EReal)
  f : ∀ (r : Fin 256) (e : Fin 1024), b.f (ix2 r e) = ((X 1 (p + r.val) e : ℝ) : EReal)
  v : ∀ (r : Fin 256) (e : Fin 1024), b.v (ix2 r e) = ((X 2 (p + r.val) e : ℝ) : EReal)
  g : ∀ (r : Fin 256) (e : Fin 1024), b.g (ix2 r e) = ((X 3 (p + r.val) e : ℝ) : EReal)
  l0 : ∀ e : Fin 1024, b.l0 (ix2 0 e) = ((L 0 e : ℝ) : EReal)
  l1 : ∀ e : Fin 1024, b.l1 (ix2 0 e) = ((L 1 e : ℝ) : EReal)
  w : ∀ e : Fin 128, b.w (ix2 0 e) = ((w e : ℝ) : EReal)

variable {b : Blk Ideal} {X : Fin 4 → ℕ → Fin 1024 → ℝ} {L : Fin 2 → Fin 1024 → ℝ} {w : Fin 128 → ℝ} {p₀ : ℕ}
variable (k : Fin k0_t1_loop.trips)

theorem rows_at {x : Vec Ideal S256x1024 .f32} {R : ℕ → Fin 1024 → ℝ} {p : ℕ} (hx : ∀ (r : Fin 256) (e : Fin 1024), x (ix2 r e) = ((R (p + r.val) e : ℝ) : EReal))
    (r : Fin 64) (e : Fin 1024) : rows x k (ix2 r e) = ((R (p + 64 * k.val + r.val) e : ℝ) : EReal) := by
  have hk : k.val < 4 := lt_of_lt_of_eq k.isLt trips_eq
  have := r.isLt
  have ho : k0_off1 k = ![64 * k.val, 0] := by rw [k0_off1_eq]
  refine Eq.trans ?_ ((hx ⟨64 * k.val + r.val, by omega⟩ e).trans ?_)
  · unfold rows VecWindow.window
    congr 1
    funext a
    match a with
    | ⟨0, _⟩ => exact Fin.ext (by show k0_off1 k 0 + 1 * r.val = 64 * k.val + r.val; rw [ho]; show 64 * k.val + 1 * r.val = _; omega)
    | ⟨1, _⟩ => exact Fin.ext (by show k0_off1 k 1 + 1 * e.val = e.val; rw [ho]; show 0 + 1 * e.val = _; omega)
  · dsimp only; rw [add_assoc]

theorem sel_ite {α : Type} (P : Prop) [Decidable P] (x y : α) : Scalar.select (if P then 1#1 else 0#1) x y = if P then x else y := by
  split <;> rfl

theorem cols_at {α : Type} (h : Fin 8) (x : S64x1024.Idx → α) (r : Fin 64) (d : Fin 128) : colsOf h x (ix2 r d) = x (ix2 r (hd h d)) := by
  unfold colsOf extractStridedSlice
  congr 1
  funext a
  match a with
  | ⟨0, _⟩ => exact Fin.ext (by show 0 + r.val = r.val; omega)
  | ⟨1, _⟩ => rfl

/-- The sum of a sequence over a chunk's first half. -/
def lowSum (f : ℕ → ℝ) : ℝ := ∑ s : Fin 64, if s.val < 32 then f s.val else 0

section
variable (B : BlkIs b X L w p₀)
local notation "p" => p₀ + 64 * k.val
include B

theorem lb_at (e : Fin 1024) : b.lb (ix2 0 e) = ((hgLb L e : ℝ) : EReal) := pay2_at _ _ L B.l0 B.l1 e
theorem tq_at (r : Fin 64) (e : Fin 1024) : b.tq k (ix2 r e) = ((hgQ X (p + r.val) e : ℝ) : EReal) :=
  pay8_at _ (fun r e => X 0 (p + r.val) e) (rows_at (R := X 0) k B.q) r e
theorem gate_at (r : Fin 64) (e : Fin 1024) : b.gate k (ix2 r e) = ((X 3 (p + r.val) e * logi (X 3 (p + r.val) e) : ℝ) : EReal) :=
  pay26_at _ (fun r e => X 3 (p + r.val) e) (rows_at (R := X 3) k B.g) r e
theorem tv_at (r : Fin 64) (e : Fin 1024) : b.tv k (ix2 r e) = ((X 2 (p + r.val) e : ℝ) : EReal) := by
  unfold Blk.tv
  pointwise [k0_pay25]
  exact rows_at (R := X 2) k B.v r e
theorem tg_at (r : Fin 64) (e : Fin 1024) : b.tg k (ix2 r e) = ((hgG X L (p + r.val) e : ℝ) : EReal) :=
  pay10_at _ _ (fun r e => X 1 (p + r.val) e) L (rows_at (R := X 1) k B.f) (lb_at B) r e
theorem tk_at (r : Fin 64) (e : Fin 1024) : b.tk k (ix2 r e) = ((hgK X L (p + r.val) e : ℝ) : EReal) :=
  pay11_at _ _ (fun r e => X 1 (p + r.val) e) L (rows_at (R := X 1) k B.f) (lb_at B) r e

/-- The running sum of the decay within the chunk. -/
theorem tc_at (r : Fin 64) (e : Fin 1024) :
    k0_pay17 (F := Ideal) k0_pay6 (b.t15 k) (b.t16 k) Blk.zer (ix2 r e) = ((scanCum (fun s => hgG X L s e) p (r.val + 1) : ℝ) : EReal) := by
  refine (cum_at _ _ (fun r e => X 1 (p + r.val) e) L (rows_at (R := X 1) k B.f) (lb_at B) r e).trans ?_
  unfold scanCum
  rw [sum_upto r fun s => hgG X L (p + s) e]
  simp only [ite_mul, one_mul, zero_mul]
  rfl

theorem sum_at (e : Fin 1024) : k0_pay18 (F := Ideal) (b.tg k) (ix2 0 e) = ((scanCum (fun s => hgG X L s e) p 64 : ℝ) : EReal) := by
  pointwise [k0_pay18]
  simp only [tg_at k B, coe_sum, zero_add, lit_zero, EReal.coe_zero]
  unfold scanCum
  rw [Fin.sum_univ_eq_sum_range (fun s => hgG X L (p + s) e) 64]

/-- The sum that the running sums are taken relative to is a real number. -/
theorem mid_at (e : Fin 1024) : ∃ M : ℝ, k0_pay19 (F := Ideal) k0_pay5 (b.tg k) (ix2 0 e) = ((M : ℝ) : EReal) := by
  refine ⟨lowSum fun s => hgG X L (p + s) e, ?_⟩
  pointwise [k0_pay19]
  simp only [pay5_at, tg_at k B, sel_ite]
  unfold lowSum
  rw [← coe_sum]
  refine Finset.sum_congr rfl fun s _ => ?_
  split_ifs <;> rfl

theorem last_at (e : Fin 1024) : b.last k (ix2 0 e) = ((Real.exp (scanCum (fun s => hgG X L s e) p 64) : ℝ) : EReal) := by
  unfold Blk.last
  pointwise [k0_pay20]
  rw [sum_at k B, Ideal.exp_coe]

theorem q0_at (r : Fin 64) (e : Fin 1024) :
    b.q0 k (ix2 r e) = ((hgQ X (p + r.val) e * Real.exp (scanCum (fun s => hgG X L s e) p (r.val + 1)) : ℝ) : EReal) := by
  unfold Blk.q0
  pointwise [k0_pay23]
  rw [tc_at k B, tq_at k B, Ideal.exp_coe, ← EReal.coe_mul]

theorem kl_at (r : Fin 64) (e : Fin 1024) :
    b.kl k (ix2 r e) = ((hgK X L (p + r.val) e * Real.exp (scanCum (fun s => hgG X L s e) p 64 - scanCum (fun s => hgG X L s e) p (r.val + 1)) : ℝ) : EReal) := by
  unfold Blk.kl
  pointwise [k0_pay24]
  rw [tc_at k B, tk_at k B, sum_at k B, ← EReal.coe_sub, Ideal.exp_coe, ← EReal.coe_mul]

/-- A query's and a key's decayed values multiply to the decay between them. -/
theorem qk_at (r s : Fin 64) (e : Fin 1024) :
    b.qi k (ix2 r e) * b.ki k (ix2 s e) = ((hgQ X (p + r.val) e * hgK X L (p + s.val) e
      * Real.exp (scanCum (fun s => hgG X L s e) p (r.val + 1) - scanCum (fun s => hgG X L s e) p (s.val + 1)) : ℝ) : EReal) := by
  obtain ⟨M, hM⟩ := mid_at k B e
  unfold Blk.qi Blk.ki
  pointwise [k0_pay21, k0_pay22]
  rw [tc_at k B, tc_at k B, tq_at k B, tk_at k B, hM, ← EReal.coe_sub, ← EReal.coe_sub, Ideal.exp_coe, Ideal.exp_coe, ← EReal.coe_mul, ← EReal.coe_mul, ← EReal.coe_mul]
  congr 1
  rw [mul_mul_mul_comm, ← Real.exp_add]
  congr 2
  ring

variable (h : Fin 8)

theorem headA_at (r s : Fin 64) : headA b k h (ix2 r s) = (((if s.val ≤ r.val then ∑ d, hgQ X (p + r.val) (hd h d) * hgK X L (p + s.val) (hd h d)
      * Real.exp (scanCum (fun s => hgG X L s (hd h d)) p (r.val + 1) - scanCum (fun s => hgG X L s (hd h d)) p (s.val + 1)) else 0 : ℝ)) : EReal) := by
  unfold headA
  pointwise
  simp only [cols_at, qk_at k B, coe_sum, pay4_at, sel_ite]
  split_ifs <;> rfl

variable {st : Vec Ideal S1x128x128 .f32} {S : Fin 128 → Fin 128 → ℝ}

theorem headO_at (hst : ∀ v d, st (ix3 0 v d) = ((hgS X L h p d v : ℝ) : EReal)) (r : Fin 64) (v : Fin 128) :
    headO b k h st (ix2 r v) = ((hgO X L h (p + r.val) v : ℝ) : EReal) := by
  unfold headO stMat
  pointwise
  simp only [cols_at, q0_at k B, headA_at k B, tv_at k B, hst, coe_sum, ← EReal.coe_mul, ← EReal.coe_add, lit_zero, zero_add, EReal.coe_zero]
  rw [hgO_chunk, sum_upto r fun s => (∑ d, hgQ X (p + r.val) (hd h d) * hgK X L (p + s) (hd h d)
      * Real.exp (scanCum (fun s => hgG X L s (hd h d)) p (r.val + 1) - scanCum (fun s => hgG X L s (hd h d)) p (s + 1))) * X 2 (p + s) (hd h v)]
  simp only [ite_mul, zero_mul]

theorem headS_at (hst : ∀ v d, st (ix3 0 v d) = ((hgS X L h p d v : ℝ) : EReal)) (v d : Fin 128) :
    headS b k h st (ix3 0 v d) = ((hgS X L h (p + 64) d v : ℝ) : EReal) := by
  unfold headS stMat
  pointwise
  simp only [cols_at]
  rw [show (⟨128 * h.val + d.val, _⟩ : Fin 1024) = hd h d from rfl]
  simp only [tv_at k B, kl_at k B, hst, last_at k B, coe_sum, ← EReal.coe_mul, ← EReal.coe_add, lit_zero, zero_add, EReal.coe_zero]
  rw [hgS_add X L h (p) 64, ← Fin.sum_univ_eq_sum_range (fun s => Real.exp (scanCum (fun s => hgG X L s (hd h d)) p 64 - scanCum (fun s => hgG X L s (hd h d)) p (s + 1))
    * (hgK X L (p + s) (hd h d) * X 2 (p + s) (hd h v))) 64, mul_comm]
  congr 2
  refine Finset.sum_congr rfl fun s _ => ?_
  ring

theorem headY_at (hst : ∀ v d, st (ix3 0 v d) = ((hgS X L h p d v : ℝ) : EReal)) (r : Fin 64) (v : Fin 128) :
    headY b k h st (ix2 r v) = ((hgY X L w h (p + r.val) v : ℝ) : EReal) := by
  unfold headY
  pointwise [k0_pay3]
  have hp : 0 < (∑ c, hgO X L h (p + r.val) c * hgO X L h (p + r.val) c) / 128 + eps := by
    have := eps_pos
    have : 0 ≤ ∑ c, hgO X L h (p + r.val) c * hgO X L h (p + r.val) c := Finset.sum_nonneg fun c _ => mul_self_nonneg _
    positivity
  simp only [headO_at k B h hst, cols_at, gate_at k B, B.w, coe_sum, ← EReal.coe_mul, lit_128, lit_eps, div_real _ (show (128 : ℝ) ≠ 0 by norm_num), ← EReal.coe_add]
  rw [rsqrt_real hp]
  simp only [← EReal.coe_mul]
  rfl
end

end Cert.HgrnMixIdeal.Run

end
-- ==== Proof.ScanLoop.lean ====
/-
  The loop over a block's four chunks: what its trips leave in the block's outputs and in the carried state.
-/
module

public import proofs.«01_k».proof.Proof.ScanTrip

@[expose] public section

set_option maxRecDepth 16384

noncomputable section

namespace Cert.HgrnMixIdeal.Run

open Idealize.ShloMosaic Idealize.ShloMosaic.TcCoe Idealize.ShloMosaic.Tactic
open Cert.HgrnMixIdeal Cert.HgrnMixIdeal.Gen

variable {F : FTy → Type} [FloatOps F]

/-- The state after `n` of a block's chunks. -/
def scan (b : Blk F) (S : Vec F S8x128x128 .f32) : ℕ → Vec F S8x128x128 .f32
  | 0 => S
  | n + 1 => if h : n < k0_t1_loop.trips then newS b ⟨n, h⟩ (scan b S n) else scan b S n

theorem scan_succ (b : Blk F) (S : Vec F S8x128x128 .f32) (k : Fin k0_t1_loop.trips) : scan b S (k.val + 1) = newS b k (scan b S k.val) := by
  rw [scan]; exact dif_pos k.isLt

theorem hchunk (y : S256x1024.Idx) : (y 0).val / 64 < k0_t1_loop.trips := by
  have : (y 0).val < 256 := (y 0).isLt
  rw [trips_eq]; omega

/-- What the block's four chunks leave in the outputs. -/
def blkO (b : Blk F) (S : Vec F S8x128x128 .f32) : Vec F S256x1024 .f32 := fun y =>
  outO b ⟨(y 0).val / 64, hchunk y⟩ (scan b S ((y 0).val / 64)) y
def blkY (b : Blk F) (S : Vec F S8x128x128 .f32) : Vec F S256x1024 .bf16 := fun y =>
  outY b ⟨(y 0).val / 64, hchunk y⟩ (scan b S ((y 0).val / 64)) y
def blkT (b : Blk F) (S : Vec F S8x128x128 .f32) : Vec F S8x4x128x128 .f32 := fun y => outT (scan b S (y 1).val) y

section
variable (c : Dev nD) (i : grid0.Coords)
variable (arg1 : Memref sig .tc .vmem S256x1024 .f32) (harg1 : arg1.IsWhole) (arg2 : Memref sig .tc .vmem S256x1024 .f32) (harg2 : arg2.IsWhole)
variable (arg3 : Memref sig .tc .vmem S256x1024 .f32) (harg3 : arg3.IsWhole) (arg4 : Memref sig .tc .vmem S256x1024 .f32) (harg4 : arg4.IsWhole)
variable (arg5 : Memref sig .tc .vmem S2x1024 .f32) (harg5 : arg5.IsWhole) (arg6 : Memref sig .tc .vmem S1x128 .f32) (harg6 : arg6.IsWhole)
variable (arg7 : Memref sig .tc .vmem S256x1024 .f32) (harg7 : arg7.IsWhole) (arg8 : Memref sig .tc .vmem S256x1024 .bf16) (harg8 : arg8.IsWhole)
variable (arg9 : Memref sig .tc .vmem S8x4x128x128 .f32) (harg9 : arg9.IsWhole) (arg10 : Memref sig .tc .vmem S8x128x128 .f32) (harg10 : arg10.IsWhole)
variable (v3 v4 : Vec F S1x1024 .f32) (v13 : Vec F S1x128 .f32)
variable (X1 : BufTy.Contents (Elt F) arg1.view.ty) (X2 : BufTy.Contents (Elt F) arg2.view.ty) (X3 : BufTy.Contents (Elt F) arg3.view.ty) (X4 : BufTy.Contents (Elt F) arg4.view.ty)
variable (G7 : BufTy.Contents (Elt F) arg7.view.ty) (G8 : BufTy.Contents (Elt F) arg8.view.ty) (G9 : BufTy.Contents (Elt F) arg9.view.ty) (G10 : BufTy.Contents (Elt F) arg10.view.ty)

/-- What the chunks before `n` store. -/
abbrev pieces (n : ℕ) := pb_k0_t1 (F := F) Variants.none c none i arg1 harg1 arg2 harg2 arg3 harg3 arg4 harg4 arg5 harg5 arg6 harg6 arg7 harg7 arg8 harg8 arg9 harg9 arg10 harg10 v3 v4 v13 X1 X2 X3 X4 G7 G8 G9 G10 n

theorem pieces_left (n : ℕ) (hn : n ≤ k0_t1_loop.trips) :
    arg10.view.read (Elt F) (arg10.view.writes (Elt F) G10 (pieces c i arg1 harg1 arg2 harg2 arg3 harg3 arg4 harg4 arg5 harg5 arg6 harg6 arg7 harg7 arg8 harg8 arg9 harg9 arg10 harg10 v3 v4 v13 X1 X2 X3 X4 G7 G8 G9 G10 n).2.2.2)
        = scan (blkOf arg1 arg2 arg3 arg4 v3 v4 v13 X1 X2 X3 X4) (arg10.view.read (Elt F) G10) n
      ∧ (∀ y, (y 0).val / 64 < n → arg7.view.read (Elt F) (arg7.view.writes (Elt F) G7 (pieces c i arg1 harg1 arg2 harg2 arg3 harg3 arg4 harg4 arg5 harg5 arg6 harg6 arg7 harg7 arg8 harg8 arg9 harg9 arg10 harg10 v3 v4 v13 X1 X2 X3 X4 G7 G8 G9 G10 n).1) y
        = blkO (blkOf arg1 arg2 arg3 arg4 v3 v4 v13 X1 X2 X3 X4) (arg10.view.read (Elt F) G10) y)
      ∧ (∀ y, (y 0).val / 64 < n → arg8.view.read (Elt F) (arg8.view.writes (Elt F) G8 (pieces c i arg1 harg1 arg2 harg2 arg3 harg3 arg4 harg4 arg5 harg5 arg6 harg6 arg7 harg7 arg8 harg8 arg9 harg9 arg10 harg10 v3 v4 v13 X1 X2 X3 X4 G7 G8 G9 G10 n).2.1) y
        = blkY (blkOf arg1 arg2 arg3 arg4 v3 v4 v13 X1 X2 X3 X4) (arg10.view.read (Elt F) G10) y)
      ∧ (∀ y, (y 1).val < n → arg9.view.read (Elt F) (arg9.view.writes (Elt F) G9 (pieces c i arg1 harg1 arg2 harg2 arg3 harg3 arg4 harg4 arg5 harg5 arg6 harg6 arg7 harg7 arg8 harg8 arg9 harg9 arg10 harg10 v3 v4 v13 X1 X2 X3 X4 G7 G8 G9 G10 n).2.2.1) y
        = blkT (blkOf arg1 arg2 arg3 arg4 v3 v4 v13 X1 X2 X3 X4) (arg10.view.read (Elt F) G10) y) := by
  induction n with
  | zero => exact ⟨rfl, fun _ h => absurd h (Nat.not_lt_zero _), fun _ h => absurd h (Nat.not_lt_zero _), fun _ h => absurd h (Nat.not_lt_zero _)⟩
  | succ n ih =>
    obtain ⟨hS, hO, hY, hT⟩ := ih (Nat.le_of_succ_le hn)
    have hp := pb_k0_t1_succ (F := F) Variants.none c none i arg1 harg1 arg2 harg2 arg3 harg3 arg4 harg4 arg5 harg5 arg6 harg6 arg7 harg7 arg8 harg8 arg9 harg9 arg10 harg10 v3 v4 v13 X1 X2 X3 X4 G7 G8 G9 G10 ⟨n, hn⟩
    dsimp only at hp
    rw [pieces, hp]
    rw [pieces] at hS hO hY hT
    refine ⟨?_, fun y hy => ?_, fun y hy => ?_, fun y hy => ?_⟩
    · rw [View.writes_append]
      funext y
      rw [View.read_writes_apply_of_pieces _ _ _ _ (stores_S (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _) y
        (stores_S_cover (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _ y trivial), hS]
      exact (congrFun (scan_succ _ _ ⟨n, hn⟩) y).symm
    · rw [View.writes_append]
      by_cases h : (y 0).val / 64 = n
      · rw [View.read_writes_apply_of_pieces _ _ _ _ (stores_O (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _) y
          (stores_O_cover (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _ y h), hS]
        subst h; rfl
      · rw [View.read_writes_apply_of_forall_not_mem _ _ y _ (stores_O_other (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _ y h)]
        exact hO y (by omega)
    · rw [View.writes_append]
      by_cases h : (y 0).val / 64 = n
      · rw [View.read_writes_apply_of_pieces _ _ _ _ (stores_Y (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _) y
          (stores_Y_cover (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _ y h), hS]
        subst h; rfl
      · rw [View.read_writes_apply_of_forall_not_mem _ _ y _ (stores_Y_other (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _ y h)]
        exact hY y (by omega)
    · rw [View.writes_append]
      by_cases h : (y 1).val = n
      · rw [View.read_writes_apply_of_pieces _ _ _ _ (stores_T (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _) y
          (stores_T_cover (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _ y h), hS]
        subst h; rfl
      · rw [View.read_writes_apply_of_forall_not_mem _ _ y _ (stores_T_other (k := ⟨n, hn⟩) c i arg1 harg1 arg2 harg2 arg3 harg3 arg4 harg4 arg5 harg5 arg6 harg6 arg7 harg7 arg8 harg8 arg9 harg9 arg10 harg10 v3 v4 v13 X1 X2 X3 X4 _ _ _ _ y h)]
        exact hT y (by omega)

end

end Cert.HgrnMixIdeal.Run

end
-- ==== Proof.ScanRun.lean ====
/-
  The body of the recurrence's forward pass, run once per branch: what it leaves in its outputs and in the carried
  state, at the first point and at the others.
-/
module

public import proofs.«01_k».proof.Proof.ScanLoop
public import proofs.«01_k».proof.Proof.Gen.HgrnMixIdeal.Frame.Runs
public import Idealize.ShloMosaic.Lib.Exec

@[expose] public section

set_option maxRecDepth 16384

noncomputable section

namespace Cert.HgrnMixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.HgrnMixIdeal Cert.HgrnMixIdeal.Gen

variable {F : FTy → Type} [FloatOps F]

local notation "𝕄" => MT nD τ sig Unit (Elt F) ℕ (UR sig nD τ) ℕ

/-- The block that the six inputs' contents are. -/
def blkAt (x0 x1 x2 x3 : Vec F S256x1024 .f32) (x4 : Vec F S2x1024 .f32) (x5 : Vec F S1x128 .f32) : Blk F :=
  ⟨x0, x1, x2, x3, VecWindow.window x4 ![0, 0] S1x1024.size inb_S2x1024_S1x1024_0_0, VecWindow.window x4 ![1, 0] S1x1024.size inb_S2x1024_S1x1024_1_0, x5⟩

/-- The state that the first block starts from. -/
abbrev noState : Vec F S8x128x128 .f32 := k0_pay1

variable (c : Dev nD) (i : grid0.Coords)
variable (arg1 : Memref sig .tc .vmem S256x1024 .f32) (harg1 : arg1.IsWhole) (arg2 : Memref sig .tc .vmem S256x1024 .f32) (harg2 : arg2.IsWhole)
variable (arg3 : Memref sig .tc .vmem S256x1024 .f32) (harg3 : arg3.IsWhole) (arg4 : Memref sig .tc .vmem S256x1024 .f32) (harg4 : arg4.IsWhole)
variable (arg5 : Memref sig .tc .vmem S2x1024 .f32) (harg5 : arg5.IsWhole) (arg6 : Memref sig .tc .vmem S1x128 .f32) (harg6 : arg6.IsWhole)
variable (arg7 : Memref sig .tc .vmem S256x1024 .f32) (harg7 : arg7.IsWhole) (arg8 : Memref sig .tc .vmem S256x1024 .bf16) (harg8 : arg8.IsWhole)
variable (arg9 : Memref sig .tc .vmem S8x4x128x128 .f32) (harg9 : arg9.IsWhole) (arg10 : Memref sig .tc .vmem S8x128x128 .f32) (harg10 : arg10.IsWhole)

section
variable (v3 v4 : Vec F S1x1024 .f32) (v13 : Vec F S1x128 .f32)
variable (X1 : BufTy.Contents (Elt F) arg1.view.ty) (X2 : BufTy.Contents (Elt F) arg2.view.ty) (X3 : BufTy.Contents (Elt F) arg3.view.ty) (X4 : BufTy.Contents (Elt F) arg4.view.ty)
variable (G7 : BufTy.Contents (Elt F) arg7.view.ty) (G8 : BufTy.Contents (Elt F) arg8.view.ty) (G9 : BufTy.Contents (Elt F) arg9.view.ty) (G10 : BufTy.Contents (Elt F) arg10.view.ty)

/-- What the whole loop stores. -/
abbrev all := pieces c i arg1 harg1 arg2 harg2 arg3 harg3 arg4 harg4 arg5 harg5 arg6 harg6 arg7 harg7 arg8 harg8 arg9 harg9 arg10 harg10 v3 v4 v13 X1 X2 X3 X4 G7 G8 G9 G10 k0_t1_loop.trips

variable {b : Blk F} {S : Vec F S8x128x128 .f32}

theorem all_S (hb : blkOf arg1 arg2 arg3 arg4 v3 v4 v13 X1 X2 X3 X4 = b) (hS : arg10.view.read (Elt F) G10 = S) :
    arg10.view.read (Elt F) (arg10.view.writes (Elt F) G10 (all c i arg1 harg1 arg2 harg2 arg3 harg3 arg4 harg4 arg5 harg5 arg6 harg6 arg7 harg7 arg8 harg8 arg9 harg9 arg10 harg10 v3 v4 v13 X1 X2 X3 X4 G7 G8 G9 G10).2.2.2) = scan b S 4 := by
  have h := (pieces_left c i arg1 harg1 arg2 harg2 arg3 harg3 arg4 harg4 arg5 harg5 arg6 harg6 arg7 harg7 arg8 harg8 arg9 harg9 arg10 harg10 v3 v4 v13 X1 X2 X3 X4 G7 G8 G9 G10 k0_t1_loop.trips le_rfl).1
  rw [hb, hS] at h; exact h.trans (congrArg (scan b S) trips_eq)
theorem all_O (hb : blkOf arg1 arg2 arg3 arg4 v3 v4 v13 X1 X2 X3 X4 = b) (hS : arg10.view.read (Elt F) G10 = S) :
    arg7.view.read (Elt F) (arg7.view.writes (Elt F) G7 (all c i arg1 harg1 arg2 harg2 arg3 harg3 arg4 harg4 arg5 harg5 arg6 harg6 arg7 harg7 arg8 harg8 arg9 harg9 arg10 harg10 v3 v4 v13 X1 X2 X3 X4 G7 G8 G9 G10).1) = blkO b S := by
  have h := (pieces_left c i arg1 harg1 arg2 harg2 arg3 harg3 arg4 harg4 arg5 harg5 arg6 harg6 arg7 harg7 arg8 harg8 arg9 harg9 arg10 harg10 v3 v4 v13 X1 X2 X3 X4 G7 G8 G9 G10 k0_t1_loop.trips le_rfl).2.1
  rw [hb, hS] at h; exact funext fun y => h y (hchunk y)
theorem all_Y (hb : blkOf arg1 arg2 arg3 arg4 v3 v4 v13 X1 X2 X3 X4 = b) (hS : arg10.view.read (Elt F) G10 = S) :
    arg8.view.read (Elt F) (arg8.view.writes (Elt F) G8 (all c i arg1 harg1 arg2 harg2 arg3 harg3 arg4 harg4 arg5 harg5 arg6 harg6 arg7 harg7 arg8 harg8 arg9 harg9 arg10 harg10 v3 v4 v13 X1 X2 X3 X4 G7 G8 G9 G10).2.1) = blkY b S := by
  have h := (pieces_left c i arg1 harg1 arg2 harg2 arg3 harg3 arg4 harg4 arg5 harg5 arg6 harg6 arg7 harg7 arg8 harg8 arg9 harg9 arg10 harg10 v3 v4 v13 X1 X2 X3 X4 G7 G8 G9 G10 k0_t1_loop.trips le_rfl).2.2.1
  rw [hb, hS] at h; exact funext fun y => h y (hchunk y)
theorem all_T (hb : blkOf arg1 arg2 arg3 arg4 v3 v4 v13 X1 X2 X3 X4 = b) (hS : arg10.view.read (Elt F) G10 = S) :
    arg9.view.read (Elt F) (arg9.view.writes (Elt F) G9 (all c i arg1 harg1 arg2 harg2 arg3 harg3 arg4 harg4 arg5 harg5 arg6 harg6 arg7 harg7 arg8 harg8 arg9 harg9 arg10 harg10 v3 v4 v13 X1 X2 X3 X4 G7 G8 G9 G10).2.2.1) = blkT b S := by
  have h := (pieces_left c i arg1 harg1 arg2 harg2 arg3 harg3 arg4 harg4 arg5 harg5 arg6 harg6 arg7 harg7 arg8 harg8 arg9 harg9 arg10 harg10 v3 v4 v13 X1 X2 X3 X4 G7 G8 G9 G10 k0_t1_loop.trips le_rfl).2.2.2
  rw [hb, hS] at h; exact funext fun y => h y (lt_of_lt_of_eq (y 1).isLt trips_eq.symm)
end

variable (x0 x1 x2 x3 : Vec F S256x1024 .f32) (x4 : Vec F S2x1024 .f32) (x5 : Vec F S1x128 .f32) (xs : Vec F S8x128x128 .f32)

/-- The six inputs' staging buffers at their contents. -/
abbrev ins : sProp 𝕄 :=
  iprop(owns (c : Thread nD τ) arg1 fullShare x0 ∗ owns (c : Thread nD τ) arg2 fullShare x1 ∗ owns (c : Thread nD τ) arg3 fullShare x2
    ∗ owns (c : Thread nD τ) arg4 fullShare x3 ∗ owns (c : Thread nD τ) arg5 fullShare x4 ∗ owns (c : Thread nD τ) arg6 fullShare x5)

/-- A whole buffer at some contents. -/
abbrev anyAt {s : Shape} {e : EltTy} (a : Memref sig .tc .vmem s e) : sProp 𝕄 := iprop(∃ d, owns (c : Thread nD τ) a fullShare d)

/-- The outputs and the carried state after a block that starts from the state `S`. -/
abbrev left (b : Blk F) (S : Vec F S8x128x128 .f32) : sProp 𝕄 :=
  iprop(owns (c : Thread nD τ) arg7 fullShare (blkO b S) ∗ owns (c : Thread nD τ) arg8 fullShare (blkY b S)
    ∗ owns (c : Thread nD τ) arg9 fullShare (blkT b S) ∗ owns (c : Thread nD τ) arg10 fullShare (scan b S 4))

theorem blk_eq : blkOf arg1 arg2 arg3 arg4
      (arg5.view.readAt (Elt F) (Rect.unit (s := S2x1024) ![0, 0] S1x1024.size inb_S2x1024_S1x1024_0_0).toLoadRect (harg5.unread x4))
      (arg5.view.readAt (Elt F) (Rect.unit (s := S2x1024) ![1, 0] S1x1024.size inb_S2x1024_S1x1024_1_0).toLoadRect (harg5.unread x4))
      (arg6.view.readAt (Elt F) (Rect.unit (s := S1x128) ![0, 0] S1x128.size inb_S1x128_S1x128_0_0).toLoadRect (harg6.unread x5))
      (harg1.unread x0) (harg2.unread x1) (harg3.unread x2) (harg4.unread x3) = blkAt x0 x1 x2 x3 x4 x5 := by
  have h6 : arg6.view.readAt (Elt F) (Rect.unit (s := S1x128) ![0, 0] S1x128.size inb_S1x128_S1x128_0_0).toLoadRect (harg6.unread x5) = x5 := by
    exact (View.readAt_full _ _ _).trans (harg6.read_unread x5)
  unfold blkAt blkOf
  rw [h6, harg1.read_unread, harg2.read_unread, harg3.read_unread, harg4.read_unread, View.readAt_unit _ _ _ rfl, View.readAt_unit _ _ _ rfl, harg5.read_unread]

theorem start_eq (f : BufTy.Contents (Elt F) arg10.view.ty) :
    arg10.view.read (Elt F) (arg10.view.writes (Elt F) f [⟨Rect.unit (s := S8x128x128) ![0, 0, 0] S8x128x128.size inb_S8x128x128_S8x128x128_0_0_0, k0_pay1 (F := F)⟩]) = noState := by
  funext y
  rw [View.read_writes_apply_of_pieces (G := noState) _ _ _ _ y]
  · exact ⟨_, List.mem_singleton_self _, View.mem_set_unit_zero (by funext a; fin_cases a <;> rfl) inb_S8x128x128_S8x128x128_0_0_0 y⟩
  · intro p hp x
    rw [List.mem_singleton] at hp; subst hp; rfl

set_option maxHeartbeats 1000000 in
/-- The first point: the state starts at zero. -/
theorem runA (hc : cond0_0 i) (E : Set ℕ) (K : PUnit → sProp 𝕄) :
    iprop(ins c arg1 arg2 arg3 arg4 arg5 arg6 x0 x1 x2 x3 x4 x5 ∗ anyAt c arg7 ∗ anyAt c arg8 ∗ anyAt c arg9 ∗ anyAt c arg10
        ∗ (iprop(ins c arg1 arg2 arg3 arg4 arg5 arg6 x0 x1 x2 x3 x4 x5 ∗ left c arg7 arg8 arg9 arg10 (blkAt x0 x1 x2 x3 x4 x5) noState) -∗ K ⟨⟩))
      ⊢ wp frame (wpE (defs₀ (F := F)) Variants.none c none) E (cc0_hgrn_fwd i arg1 harg1 arg2 harg2 arg3 harg3 arg4 harg4 arg5 harg5 arg6 harg6 arg7 harg7 arg8 harg8 arg9 harg9 arg10 harg10) K := by
  simp only [cc0_hgrn_fwd_eq_skeleton]; unfold cc0_hgrn_fwd_skel
  unfold ins anyAt left owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%ds, %fs, -, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  have hb := blk_eq (F := F) arg1 harg1 arg2 harg2 arg3 harg3 arg4 harg4 arg5 harg5 arg6 harg6 x0 x1 x2 x3 x4 x5
  sl_exec (disch := first | sl_exact hc)
  sl_step
  iapply Hk
  isplitl [H0 H1 H2 H3 H4 H5]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; · ipureintro; exact harg6.read_unread _
    iexact H5
  isplitl [H6]
  · iexists _; isplitr; swap; · iexact H6
    ipureintro; exact all_O _ _ _ _ _ _ _ _ _ _ _ _ _ _ _ _ _ _ _ _ _ _ _ _ _ _ _ _ _ _ _ _ _ hb (start_eq _ _)
  isplitl [H7]
  · iexists _; isplitr; swap; · iexact H7
    ipureintro; exact all_Y _ _ _ _ _ _ _ _ _ _ _ _ _ _ _ _ _ _ _ _ _ _ _ _ _ _ _ _ _ _ _ _ _ hb (start_eq _ _)
  isplitl [H8]
  · iexists _; isplitr; swap; · iexact H8
    ipureintro; exact all_T _ _ _ _ _ _ _ _ _ _ _ _ _ _ _ _ _ _ _ _ _ _ _ _ _ _ _ _ _ _ _ _ _ hb (start_eq _ _)
  iexists _; isplitr; swap; · iexact HS
  ipureintro; exact (congrArg (arg10.view.read (Elt F)) (View.writes_append _ _ _ _)).trans (all_S _ _ _ _ _ _ _ _ _ _ _ _ _ _ _ _ _ _ _ _ _ _ _ _ _ _ _ _ _ _ _ _ _ hb (start_eq _ _))

set_option maxHeartbeats 1000000 in
/-- Every later point: the state is the one carried. -/
theorem runB (hc : ¬ cond0_0 i) (E : Set ℕ) (K : PUnit → sProp 𝕄) :
    iprop(ins c arg1 arg2 arg3 arg4 arg5 arg6 x0 x1 x2 x3 x4 x5 ∗ anyAt c arg7 ∗ anyAt c arg8 ∗ anyAt c arg9 ∗ owns (c : Thread nD τ) arg10 fullShare xs
        ∗ (iprop(ins c arg1 arg2 arg3 arg4 arg5 arg6 x0 x1 x2 x3 x4 x5 ∗ left c arg7 arg8 arg9 arg10 (blkAt x0 x1 x2 x3 x4 x5) xs) -∗ K ⟨⟩))
      ⊢ wp frame (wpE (defs₀ (F := F)) Variants.none c none) E (cc0_hgrn_fwd i arg1 harg1 arg2 harg2 arg3 harg3 arg4 harg4 arg5 harg5 arg6 harg6 arg7 harg7 arg8 harg8 arg9 harg9 arg10 harg10) K := by
  simp only [cc0_hgrn_fwd_eq_skeleton]; unfold cc0_hgrn_fwd_skel
  unfold ins anyAt left owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%d6, %f6, -, H6⟩, ⟨%d7, %f7, -, H7⟩, ⟨%d8, %f8, -, H8⟩, ⟨%fs, %hfs, HS⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5; obtain rfl := harg10.eq_unread hfs
  have hb := blk_eq (F := F) arg1 harg1 arg2 harg2 arg3 harg3 arg4 harg4 arg5 harg5 arg6 harg6 x0 x1 x2 x3 x4 x5
  sl_exec (disch := first | sl_exact hc)
  sl_step
  iapply Hk
  isplitl [H0 H1 H2 H3 H4 H5]
  · isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; isplitr; · ipureintro; exact harg6.read_unread _
    iexact H5
  isplitl [H6]
  · iexists _; isplitr; swap; · iexact H6
    ipureintro; exact all_O _ _ _ _ _ _ _ _ _ _ _ _ _ _ _ _ _ _ _ _ _ _ _ _ _ _ _ _ _ _ _ _ _ hb (harg10.read_unread _)
  isplitl [H7]
  · iexists _; isplitr; swap; · iexact H7
    ipureintro; exact all_Y _ _ _ _ _ _ _ _ _ _ _ _ _ _ _ _ _ _ _ _ _ _ _ _ _ _ _ _ _ _ _ _ _ hb (harg10.read_unread _)
  isplitl [H8]
  · iexists _; isplitr; swap; · iexact H8
    ipureintro; exact all_T _ _ _ _ _ _ _ _ _ _ _ _ _ _ _ _ _ _ _ _ _ _ _ _ _ _ _ _ _ _ _ _ _ hb (harg10.read_unread _)
  iexists _; isplitr; swap; · iexact HS
  ipureintro; exact all_S _ _ _ _ _ _ _ _ _ _ _ _ _ _ _ _ _ _ _ _ _ _ _ _ _ _ _ _ _ _ _ _ _ hb (harg10.read_unread _)

end Cert.HgrnMixIdeal.Run

end
-- ==== Proof.ScanLaunch.lean ====
/-
  The launch of the recurrence's forward pass: the state carried into every point, what the outputs hold after it,
  the pipeline's proof data, the body at every point, and the run of the whole program at any values.
-/
module

public import proofs.«01_k».proof.Proof.ScanRun
public import Idealize.ShloMosaic.Lib.Pipeline.ValueKit

@[expose] public section

set_option maxRecDepth 16384

noncomputable section

namespace Cert.HgrnMixIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.HgrnMixIdeal Cert.HgrnMixIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Only the first point starts the state. -/
theorem cond_iff : ∀ t : Fin cfg0.N, cond0_0 (grid0.coords t) ↔ t.val = 0 :=
  (by decide +kernel : ∀ t : Fin grid0.N, cond0_0 (grid0.coords t) ↔ t.val = 0)

/-! ## What a point leaves -/

/-- The block that point `t` reads. -/
def blkPt (c : Dev nD) (t : Fin cfg0.N) : Blk F :=
  blkAt (iblk m c 0 t) (iblk m c 1 t) (iblk m c 2 t) (iblk m c 3 t) (iblk m c 4 t) (iblk m c 5 t)

/-- The state carried into point `n`. -/
def carried (c : Dev nD) : ℕ → Vec F S8x128x128 .f32
  | 0 => noState
  | n + 1 => if h : n < cfg0.N then scan (blkPt m c ⟨n, h⟩) (carried c n) 4 else carried c n

theorem carried_succ (c : Dev nD) (t : Fin cfg0.N) : carried m c (t.val + 1) = scan (blkPt m c t) (carried m c t.val) 4 := by
  rw [carried]; exact dif_pos t.isLt

/-! ## The proof data -/

/-- The region's invariant: between points the scratch holds the carried state. -/
def PhiS (c : Dev nD) : ℕ → sProp 𝕄
  | 0 => Pipeline.ΦA spec0 c
  | n + 1 => iprop(iprop(owns (c : Thread nD τ) scM0_0 fullShare (carried m c (n + 1))) ∗ (∃ r, prngReg c r))

theorem PhiS_pos (c : Dev nD) (n : ℕ) (hz : n ≠ 0) :
    PhiS m c n = iprop(iprop(owns (c : Thread nD τ) scM0_0 fullShare (carried m c n)) ∗ (∃ r, prngReg c r)) := by
  cases n with
  | zero => exact absurd rfl hz
  | succ n => rfl

/-- The proof data: the inputs' buffers at their blocks, the outputs' at what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blkO (blkPt m c t) (carried m c t.val)
    | ⟨7, _⟩ => blkY (blkPt m c t) (carried m c t.val)
    | ⟨8, _⟩ => blkT (blkPt m c t) (carried m c t.val)
  Φ t := PhiS m c t.val
  q w := Pipeline.shareOf spec0 w
  owed _ := 0

theorem A_eq (c : Dev nD) (w : Fin cfg0.W) : (dats m 0 c).A w = V m c (Pipeline.arrRef spec0 w) := by
  dsimp only [dats]
theorem PhiS_castSucc (c : Dev nD) (t : Fin cfg0.N) : (dats m 0 c).Φ t.castSucc = PhiS m c t.val := by
  dsimp only [dats]; rfl
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blkO (blkPt m c t) (carried m c t.val) := by dsimp only [dats]
theorem after_7 (c : Dev nD) (t : Fin cfg0.N) : (dats m 0 c).after 7 t = blkY (blkPt m c t) (carried m c t.val) := by dsimp only [dats]
theorem after_8 (c : Dev nD) (t : Fin cfg0.N) : (dats m 0 c).after 8 t = blkT (blkPt m c t) (carried m c t.val) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at every point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t))

set_option maxHeartbeats 6400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, after_7, after_8]
  rw [show (dats m 0 c).Φ t.succ = PhiS m c (t.val + 1) from rfl, PhiS_pos m c _ (Nat.succ_ne_zero _), carried_succ, PhiS_castSucc m c t]
  by_cases hz : t.val = 0
  · rw [show PhiS m c t.val = Pipeline.ΦA spec0 c by rw [hz]; rfl, PhiA0_eq, show carried m c t.val = noState by rw [hz]; rfl]
    unfold blkPt
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) ((cond_iff t).mpr hz) Set.univ _)
    unfold ins anyAt left
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS]; · iexact HS
    iintro ⟨⟨H0, H1, H2, H3, H4, H5⟩, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [PhiS_pos m c _ hz]
    unfold blkPt
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (carried m c t.val) (fun e => hz ((cond_iff t).mp e)) Set.univ _)
    unfold ins anyAt left
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6]; · iexists _; iexact H6
    isplitl [H7]; · iexists _; iexact H7
    isplitl [H8]; · iexists _; iexact H8
    isplitl [HS]; · iexact HS
    iintro ⟨⟨H0, H1, H2, H3, H4, H5⟩, H6, H7, H8, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  have hN : cfg0.N = 16 := N_0
  rw [show (dats m 0 c).Φ (Fin.last cfg0.N) = PhiS m c cfg0.N from rfl, PhiS_pos m c _ (by omega), PhiA0_eq]
  iintro ⟨HS, Hg⟩
  isplitl [HS]
  · iexists _; iexact HS
  iexact Hg

/-! ## The run -/

set_option backward.isDefEq.respectTransparency.types false in
/-- Every execution ends with the arrays at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any values: the arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.HgrnMixIdeal.Run

end
-- ==== Proof.ScanValue.lean ====
/-
  The arrays that the recurrence's forward call leaves, at every index, over the real numbers.
-/
module

public import proofs.«01_k».proof.Proof.ScanChunk
public import proofs.«01_k».proof.Proof.ScanLaunch
public import Idealize.ShloMosaic.Lib.Pipeline.ReadBack

@[expose] public section

set_option maxRecDepth 16384

noncomputable section

namespace Cert.HgrnMixIdeal.Run

open Idealize.ShloMosaic Idealize.ShloMosaic.Tactic Idealize.ShloMosaic.TcCoe Idealize.SL.Sem Cert.HgrnMixIdeal Cert.HgrnMixIdeal.Gen
open Cert.Step

/-- A state array holds the state before position `n`. -/
def StIs (S : Vec Ideal S8x128x128 .f32) (X : Fin 4 → ℕ → Fin 1024 → ℝ) (L : Fin 2 → Fin 1024 → ℝ) (n : ℕ) : Prop :=
  ∀ (h : Fin 8) (v d : Fin 128), S (ix3 h v d) = ((hgS X L h n d v : ℝ) : EReal)

section
variable {b : Blk Ideal} {X : Fin 4 → ℕ → Fin 1024 → ℝ} {L : Fin 2 → Fin 1024 → ℝ} {w : Fin 128 → ℝ} {p : ℕ}
variable {S : Vec Ideal S8x128x128 .f32}

theorem stAt_at {n : ℕ} (hS : StIs S X L n) (h : Fin 8) (v d : Fin 128) : stAt S h (ix3 0 v d) = ((hgS X L h n d v : ℝ) : EReal) := by
  refine Eq.trans ?_ (hS h v d)
  unfold stAt VecWindow.window
  congr 1
  funext a
  match a with
  | ⟨0, _⟩ => exact Fin.ext (by show h.val + 1 * 0 = h.val; omega)
  | ⟨1, _⟩ => exact Fin.ext (by show 0 + 1 * v.val = v.val; omega)
  | ⟨2, _⟩ => exact Fin.ext (by show 0 + 1 * d.val = d.val; omega)

theorem noState_is : StIs noState X L 0 := fun h v d => by
  unfold noState
  pointwise [k0_pay1]
  rfl

theorem scan_is (B : BlkIs b X L w p) (hS : StIs S X L p) (n : ℕ) (hn : n ≤ 4) : StIs (scan b S n) X L (p + 64 * n) := by
  induction n with
  | zero => exact hS
  | succ n ih =>
    intro h v d
    have hk : n < k0_t1_loop.trips := by rw [trips_eq]; omega
    have e := scan_succ b S ⟨n, hk⟩
    dsimp only at e
    rw [e, show p + 64 * (n + 1) = p + 64 * n + 64 by omega]
    exact headS_at ⟨n, hk⟩ B h (stAt_at (ih (by omega)) h) v d

theorem blkO_at (B : BlkIs b X L w p) (hS : StIs S X L p) (r : Fin 256) (h : Fin 8) (v : Fin 128) :
    blkO b S (ix2 r (hd h v)) = ((hgO X L h (p + r.val) v : ℝ) : EReal) := by
  have hr := r.isLt
  have hv := v.isLt
  have hk : r.val / 64 < k0_t1_loop.trips := by rw [trips_eq]; omega
  have eh : (⟨(hd h v).val / 128, by have := (hd h v).isLt; omega⟩ : Fin 8) = h := Fin.ext (by show (128 * h.val + v.val) / 128 = h.val; omega)
  have ev : (⟨(hd h v).val % 128, Nat.mod_lt _ (by decide)⟩ : Fin 128) = v := Fin.ext (by show (128 * h.val + v.val) % 128 = v.val; omega)
  have e := headO_at ⟨r.val / 64, hk⟩ B h (stAt_at (scan_is B hS (r.val / 64) (by omega)) h) ⟨r.val % 64, Nat.mod_lt _ (by decide)⟩ v
  dsimp only at e
  rw [show p + 64 * (r.val / 64) + r.val % 64 = p + r.val by omega] at e
  unfold blkO outO
  dsimp only [ix2_0, ix2_1]
  refine Eq.trans ?_ e
  show headO b _ ⟨(hd h v).val / 128, _⟩ (stAt _ ⟨(hd h v).val / 128, _⟩) (ix2 _ ⟨(hd h v).val % 128, _⟩) = _
  rw [eh, ev]

theorem blkY_at (B : BlkIs b X L w p) (hS : StIs S X L p) (r : Fin 256) (h : Fin 8) (v : Fin 128) :
    blkY b S (ix2 r (hd h v)) = ((hgY X L w h (p + r.val) v : ℝ) : EReal) := by
  have hr := r.isLt
  have hv := v.isLt
  have hk : r.val / 64 < k0_t1_loop.trips := by rw [trips_eq]; omega
  have eh : (⟨(hd h v).val / 128, by have := (hd h v).isLt; omega⟩ : Fin 8) = h := Fin.ext (by show (128 * h.val + v.val) / 128 = h.val; omega)
  have ev : (⟨(hd h v).val % 128, Nat.mod_lt _ (by decide)⟩ : Fin 128) = v := Fin.ext (by show (128 * h.val + v.val) % 128 = v.val; omega)
  have e := headY_at ⟨r.val / 64, hk⟩ B h (stAt_at (scan_is B hS (r.val / 64) (by omega)) h) ⟨r.val % 64, Nat.mod_lt _ (by decide)⟩ v
  dsimp only at e
  rw [show p + 64 * (r.val / 64) + r.val % 64 = p + r.val by omega] at e
  unfold blkY outY
  refine Eq.trans ?_ e
  show headY b _ ⟨(hd h v).val / 128, _⟩ (stAt _ ⟨(hd h v).val / 128, _⟩) (ix2 _ ⟨(hd h v).val % 128, _⟩) = _
  rw [eh, ev]
  rfl

theorem blkT_at (B : BlkIs b X L w p) (hS : StIs S X L p) (h : Fin 8) (k : Fin 4) (v d : Fin 128) :
    blkT b S (ix4 h k v d) = ((hgS X L h (p + 64 * k.val) d v : ℝ) : EReal) :=
  scan_is B hS k.val (by have := k.isLt; omega) h v d
end

/-! ## The blocks of a point -/

theorem idx : ∀ t : Fin cfg0.N, win0_0.index t = ![t.val, 0] ∧ win0_1.index t = ![t.val, 1] ∧ win0_2.index t = ![t.val, 2] ∧ win0_3.index t = ![t.val, 3]
    ∧ win0_4.index t = ![0, 0] ∧ win0_5.index t = ![0, 0] ∧ win0_6.index t = ![t.val, 0] ∧ win0_7.index t = ![t.val, 0] ∧ win0_8.index t = ![0, t.val, 0, 0] :=
  (by decide +kernel : ∀ t : Fin grid0.N, _)

theorem lt16 (t : Fin cfg0.N) : t.val < 16 := lt_of_lt_of_eq t.isLt N_0

variable (m : (ℓ : Loc nD τ sig) → Buf (Elt Ideal) ℓ) (c : Dev nD)
variable (P : Fin 4096 → Fin 4096 → ℝ) (L : Fin 2 → Fin 1024 → ℝ) (w : Fin 128 → ℝ)
variable (hP : ∀ s e, m ((c.tc : Thread nD τ).loc main_arg0) (ix3 0 s e) = ((P s e : ℝ) : EReal))
variable (hL : ∀ j d, m ((c.tc : Thread nD τ).loc main_arg1) (ix2 j d) = ((L j d : ℝ) : EReal))
variable (hw : ∀ e, m ((c.tc : Thread nD τ).loc main_arg2) (ix1 e) = ((w e : ℝ) : EReal))

theorem V_p : V m c main_v0 = (shapeCast S4096x4096 (m ((c.tc : Thread nD τ).loc main_arg0)) shapeCasts_S1x4096x4096_S4096x4096 : FVec Ideal S4096x4096 .f32) := by
  unfold_abbrev_sides; after_results; rfl
theorem V_w : V m c main_v1 = (shapeCast S1x128 (m ((c.tc : Thread nD τ).loc main_arg2)) shapeCasts_S128_S1x128 : FVec Ideal S1x128 .f32) := by
  unfold_abbrev_sides; after_results; rfl

include hP in
theorem p_at (s e : Fin 4096) : V m c main_v0 (ix2 s e) = ((P s e : ℝ) : EReal) := by
  refine (congrFun (V_p m c) (ix2 s e)).trans (Eq.trans ?_ (hP s e))
  refine (shapeCast_dropUnit_apply ![4096, 4096] _ _ (ix2 s e)).trans (congrArg _ ?_)
  funext a
  match a with
  | ⟨0, _⟩ => rfl
  | ⟨1, _⟩ => rfl
  | ⟨2, _⟩ => rfl
include hw in
theorem w_at (e : Fin 128) : V m c main_v1 (ix2 0 e) = ((w e : ℝ) : EReal) := by
  refine (congrFun (V_w m c) (ix2 0 e)).trans (Eq.trans ?_ (hw e))
  pointwise

variable (t : Fin cfg0.N)

theorem parts_at (j : Fin 4) (r : Fin 256) (e : Fin 1024) :
    parts P j (256 * t.val + r.val) e = P ⟨256 * t.val + r.val, by have := lt16 t; have := r.isLt; omega⟩ ⟨1024 * j.val + e.val, by have := j.isLt; have := e.isLt; omega⟩ := by
  unfold parts
  rw [dif_pos (by have := lt16 t; have := r.isLt; omega)]

include hP hL hw in
/-- What a point reads. -/
theorem blk_is : BlkIs (blkPt (F := Ideal) m c t) (parts P) L w (256 * t.val) where
  q r e := by
    rw [parts_at]
    refine Eq.trans ?_ (p_at m c P hP _ _)
    show iblk (F := Ideal) m c 0 t (ix2 r e) = _
    blk_point [iblk, idx t]
    all_goals first | rfl | (dsimp only; omega)
  f r e := by
    rw [parts_at]
    refine Eq.trans ?_ (p_at m c P hP _ _)
    show iblk (F := Ideal) m c 1 t (ix2 r e) = _
    blk_point [iblk, idx t]
    all_goals first | rfl | (dsimp only; omega)
  v r e := by
    rw [parts_at]
    refine Eq.trans ?_ (p_at m c P hP _ _)
    show iblk (F := Ideal) m c 2 t (ix2 r e) = _
    blk_point [iblk, idx t]
    all_goals first | rfl | (dsimp only; omega)
  g r e := by
    rw [parts_at]
    refine Eq.trans ?_ (p_at m c P hP _ _)
    show iblk (F := Ideal) m c 3 t (ix2 r e) = _
    blk_point [iblk, idx t]
    all_goals first | rfl | (dsimp only; omega)
  l0 e := by
    rw [← hL]
    show iblk (F := Ideal) m c 4 t _ = _
    blk_point [iblk, Gen.V, idx t]
  l1 e := by
    rw [← hL]
    show iblk (F := Ideal) m c 4 t _ = _
    blk_point [iblk, Gen.V, idx t]
  w e := by
    refine Eq.trans ?_ (w_at m c w hw e)
    show iblk (F := Ideal) m c 5 t (ix2 0 e) = _
    blk_point [iblk, idx t]
    all_goals first | rfl | (dsimp only; omega)

include hP hL hw in
/-- The state carried into a point. -/
theorem carried_is (n : ℕ) (hn : n ≤ 16) : StIs (carried (F := Ideal) m c n) (parts P) L (256 * n) := by
  induction n with
  | zero => exact noState_is
  | succ n ih =>
    have e := carried_succ (F := Ideal) m c ⟨n, lt_of_lt_of_eq (by omega) N_0.symm⟩
    dsimp only at e
    rw [e, show 256 * (n + 1) = 256 * n + 64 * 4 by omega]
    exact scan_is (blk_is m c P L w hP hL hw ⟨n, lt_of_lt_of_eq (by omega) N_0.symm⟩) (ih (by omega)) 4 le_rfl

/-! ## The arrays -/

/-- A column is a head's. -/
theorem col_hd (e : Fin 1024) : e = hd ⟨e.val / 128, by omega⟩ ⟨e.val % 128, by omega⟩ := Fin.ext (by show e.val = 128 * (e.val / 128) + e.val % 128; omega)

def arrO (y : S4096x1024.Idx) : EReal := ((hgO (parts P) L ⟨(y 1).val / 128, by have : (y 1).val < 1024 := (y 1).isLt; omega⟩ (y 0).val ⟨(y 1).val % 128, by omega⟩ : ℝ) : EReal)
def arrY (y : S4096x1024.Idx) : EReal := ((hgY (parts P) L w ⟨(y 1).val / 128, by have : (y 1).val < 1024 := (y 1).isLt; omega⟩ (y 0).val ⟨(y 1).val % 128, by omega⟩ : ℝ) : EReal)
def arrT (y : S8x64x128x128.Idx) : EReal := ((hgS (parts P) L (y 0) (64 * (y 1).val) (y 3) (y 2) : ℝ) : EReal)

theorem arrO_hd (s : Fin 4096) (h : Fin 8) (v : Fin 128) : arrO P L (ix2 s (hd h v)) = ((hgO (parts P) L h s.val v : ℝ) : EReal) := by
  have hv := v.isLt
  have eh : (⟨(hd h v).val / 128, by have := (hd h v).isLt; omega⟩ : Fin 8) = h := Fin.ext (by show (128 * h.val + v.val) / 128 = h.val; omega)
  have ev : (⟨(hd h v).val % 128, Nat.mod_lt _ (by decide)⟩ : Fin 128) = v := Fin.ext (by show (128 * h.val + v.val) % 128 = v.val; omega)
  show ((hgO (parts P) L ⟨(hd h v).val / 128, _⟩ s.val ⟨(hd h v).val % 128, _⟩ : ℝ) : EReal) = _
  rw [eh, ev]
theorem arrY_hd (s : Fin 4096) (h : Fin 8) (v : Fin 128) : arrY P L w (ix2 s (hd h v)) = ((hgY (parts P) L w h s.val v : ℝ) : EReal) := by
  have hv := v.isLt
  have eh : (⟨(hd h v).val / 128, by have := (hd h v).isLt; omega⟩ : Fin 8) = h := Fin.ext (by show (128 * h.val + v.val) / 128 = h.val; omega)
  have ev : (⟨(hd h v).val % 128, Nat.mod_lt _ (by decide)⟩ : Fin 128) = v := Fin.ext (by show (128 * h.val + v.val) % 128 = v.val; omega)
  show ((hgY (parts P) L w ⟨(hd h v).val / 128, _⟩ s.val ⟨(hd h v).val % 128, _⟩ : ℝ) : EReal) = _
  rw [eh, ev]

include hP hL hw in
theorem final_o : (dats (F := Ideal) m 0 c).arrAt 6 cfg0.N = arrO P L := by
  refine (dats m 0 c).arrAt_eq_of_covers 6 _ (by decide +kernel) fun t hf y => ?_
  have h16 := lt16 t
  blk_simp
  rw [after_6]
  idx_vars y
  rw [col_hd y1]
  refine (blkO_at (blk_is m c P L w hP hL hw t) (carried_is m c P L w hP hL hw t.val (by omega)) y0 _ _).trans ?_
  refine (arrO_hd P L ⟨256 * t.val + y0.val, by have := y0.isLt; omega⟩ _ _).symm.trans ?_
  blk_ext [idx t]
  all_goals first | rfl | (dsimp only [hd]; omega)

include hP hL hw in
theorem final_y : (dats (F := Ideal) m 0 c).arrAt 7 cfg0.N = arrY P L w := by
  refine (dats m 0 c).arrAt_eq_of_covers 7 _ (by decide +kernel) fun t hf y => ?_
  have h16 := lt16 t
  blk_simp
  rw [after_7]
  idx_vars y
  rw [col_hd y1]
  refine (blkY_at (blk_is m c P L w hP hL hw t) (carried_is m c P L w hP hL hw t.val (by omega)) y0 _ _).trans ?_
  refine (arrY_hd P L w ⟨256 * t.val + y0.val, by have := y0.isLt; omega⟩ _ _).symm.trans ?_
  blk_ext [idx t]
  all_goals first | rfl | (dsimp only [hd]; omega)

include hP hL hw in
theorem final_t : (dats (F := Ideal) m 0 c).arrAt 8 cfg0.N = arrT P L := by
  refine (dats m 0 c).arrAt_eq_of_covers 8 _ (by decide +kernel) fun t hf y => ?_
  have h16 := lt16 t
  blk_simp
  rw [after_8]
  idx_vars y
  refine (blkT_at (blk_is m c P L w hP hL hw t) (carried_is m c P L w hP hL hw t.val (by omega)) y0 y1 y2 y3).trans ?_
  have e : 256 * t.val + 64 * y1.val = 64 * (4 * t.val + y1.val) := by omega
  rw [e]
  show arrT P L (ix4 y0 ⟨4 * t.val + y1.val, by have := y1.isLt; omega⟩ y2 y3) = _
  blk_ext [idx t]
  all_goals first | rfl | (dsimp only; omega)

end Cert.HgrnMixIdeal.Run

end
-- ==== Proof.ScanLoopRun.lean ====
/-
  The reference's run: its loop's trips, as a sequence of states, and its results as the last state's.
-/
module

public import proofs.«01_k».proof.Proof.Gen.HgrnMixRefIdeal.Run
public import proofs.«01_k».proof.Proof.Gen.HgrnMixRefIdeal.Step
public import Idealize.ShloMosaic.Lib.Tactic

@[expose] public section

set_option maxRecDepth 16384

noncomputable section

namespace Cert.HgrnMixRefIdeal.Trips

open Idealize.ShloMosaic Idealize.ShloMosaic.TcCoe Idealize.SL.Sem Idealize.ShloMosaic.StableHlo Idealize.ShloMosaic.Tactic
open Cert.HgrnMixRefIdeal Cert.HgrnMixRefIdeal.Gen Cert.HgrnMixRefIdeal.Value
open Cert.HgrnMixRefIdeal.Step (State step init K_main_v52 R_main_v78 R_main_v79 R_main_v82)

variable {F : FTy → Type} [FloatOps F]

/-- The loop's buffers hold a state before trip `j`. -/
structure Keeps (V0 : Valuation τ sig (Elt F)) (s : State F) (j : ℕ) : Prop where
  f6 : V0 (Proc.devRef .tc main_v56_6) = s.main_v56_6
  f7 : V0 (Proc.devRef .tc main_v56_7) = s.main_v56_7
  f8 : V0 (Proc.devRef .tc main_v56_8) = s.main_v56_8
  f0 : V0 (Proc.devRef .tc main_v56_0) = s.main_v56_0
  f1 : V0 (Proc.devRef .tc main_v56_1) = s.main_v56_1
  f2 : V0 (Proc.devRef .tc main_v56_2) = s.main_v56_2
  f3 : V0 (Proc.devRef .tc main_v56_3) = s.main_v56_3
  n5 : V0 (Proc.devRef .tc main_v56_5) = constantI S_ 32 (BitVec.ofNat 32 j)
  k4 : V0 (Proc.devRef .tc main_v56_4) = K_main_v52 (F := F)

variable {V0 : Valuation τ sig (Elt F)} {s : State F} {j : ℕ}

theorem next6 (h : Keeps V0 s j) : step_main_v56_6 V0 = (step j s).main_v56_6 := by
  obtain ⟨f6, f7, f8, f0, f1, f2, f3, n5, k4⟩ := h
  obtain ⟨s6, s7, s8, s0, s1, s2, s3⟩ := s
  dsimp only at f6 f7 f8 f0 f1 f2 f3
  simp only [step_main_v56_6, res_main_while0b_v83, res_main_while0b_v84, res_main_while0b_v85, res_main_while0b_v87, res_main_while0b_v106, n5, k4, f6, f0, f1, f2, f3]
  sl_kernel_rfl

theorem next7 (h : Keeps V0 s j) : step_main_v56_7 V0 = (step j s).main_v56_7 := by
  obtain ⟨f6, f7, f8, f0, f1, f2, f3, n5, k4⟩ := h
  obtain ⟨s6, s7, s8, s0, s1, s2, s3⟩ := s
  dsimp only at f6 f7 f8 f0 f1 f2 f3
  simp only [step_main_v56_7, res_main_while0b_v83, res_main_while0b_v84, res_main_while0b_v85, res_main_while0b_v87, res_main_while0b_v106, n5, k4, f6, f7, f0, f1, f2, f3]
  sl_kernel_rfl

theorem next8 (h : Keeps V0 s j) : step_main_v56_8 V0 = (step j s).main_v56_8 := by
  obtain ⟨f6, f7, f8, f0, f1, f2, f3, n5, k4⟩ := h
  obtain ⟨s6, s7, s8, s0, s1, s2, s3⟩ := s
  dsimp only at f6 f7 f8 f0 f1 f2 f3
  simp only [step_main_v56_8, n5, f6, f8]
  sl_kernel_rfl

theorem next5 (h : Keeps V0 s j) : step_main_v56_5 V0 = constantI S_ 32 (BitVec.ofNat 32 (j + 1)) := by
  unfold step_main_v56_5
  rw [h.n5]
  funext i
  show BitVec.ofNat 32 j + 1#32 = BitVec.ofNat 32 (j + 1)
  simp only [BitVec.ofNat_add]

theorem keeps_step (h : Keeps V0 s j) : Keeps (STEP V0) (step j s) (j + 1) where
  f6 := (STEP_main_v56_6 V0).trans (next6 h)
  f7 := (STEP_main_v56_7 V0).trans (next7 h)
  f8 := (STEP_main_v56_8 V0).trans (next8 h)
  n5 := (STEP_main_v56_5 V0).trans (next5 h)
  k4 := (STEP_main_v56_4 V0).trans h.k4
  f0 := (STEP_main_v56_0 V0).trans h.f0
  f1 := (STEP_main_v56_1 V0).trans h.f1
  f2 := (STEP_main_v56_2 V0).trans h.f2
  f3 := (STEP_main_v56_3 V0).trans h.f3

variable (m : (ℓ : Loc nD τ sig) → Buf (Elt F) ℓ) (c : Dev nD)

/-- The state before trip `n`. -/
def st : ℕ → State F
  | 0 => init (m ((c.tc : Thread nD τ).loc main_arg0)) (m ((c.tc : Thread nD τ).loc main_arg1))
  | n + 1 => step n (st n)

set_option maxRecDepth 65536 in
set_option maxHeartbeats 500000 in
theorem keeps_entry : Keeps (entryContents preI m c) (st m c 0) 0 := by
  constructor <;> (simp only [entryContents, afterL_cons, afterL_nil]; after_reads_simp) <;> rfl

theorem keeps_iter : ∀ k, Keeps (STEP^[k] (entryContents preI m c)) (st m c k) k
  | 0 => keeps_entry m c
  | k + 1 => by
    rw [Function.iterate_succ_apply']
    exact keeps_step (keeps_iter k)

theorem last78 (h : Keeps V0 s j) : out_main_v78 V0 = R_main_v78 s := by
  unfold out_main_v78 R_main_v78
  rw [h.f7]
  rfl
theorem last79 (h : Keeps V0 s j) {a : (⟨S1x4096x4096, .f32⟩ : BufTy).Contents (Elt F)} (ha : V0 (Proc.devRef .tc main_arg0) = a)
    {w : (⟨S128, .f32⟩ : BufTy).Contents (Elt F)} (hw : V0 (Proc.devRef .tc main_arg2) = w) : out_main_v79 V0 = R_main_v79 s a w := by
  unfold out_main_v79 R_main_v79
  rw [h.f7, ha, hw]
  rfl
theorem last82 (h : Keeps V0 s j) : out_main_v82 V0 = R_main_v82 s := by
  unfold out_main_v82 R_main_v82
  rw [h.f8]

/-- The run: each result is its operation of the last state, and the arguments are unchanged. -/
theorem run (ρ : Dev nD → PrngReg) : θ_run (defs (F := F)) (onTc (τ := τ) (main (F := F))) ⟨m, fun _ => 0, ρ⟩ fun r => ∀ c : Dev nD,
      r.2.mem ((c.tc : Thread nD τ).loc main_v78) = R_main_v78 (st m c 128)
      ∧ r.2.mem ((c.tc : Thread nD τ).loc main_v79) = R_main_v79 (st m c 128) (m ((c.tc : Thread nD τ).loc main_arg0)) (m ((c.tc : Thread nD τ).loc main_arg2))
      ∧ r.2.mem ((c.tc : Thread nD τ).loc main_v82) = R_main_v82 (st m c 128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    have hk := keeps_iter m c 128
    ⟨(h c).1.trans (last78 hk), (h c).2.1.trans (last79 hk (iter_main_arg0 m c 128) (iter_main_arg2 m c 128)), (h c).2.2.1.trans (last82 hk),
      (h c).2.2.2.1, (h c).2.2.2.2.1, (h c).2.2.2.2.2⟩) (Value.run m ρ)

end Cert.HgrnMixRefIdeal.Trips

end
-- ==== Proof.ScanWindow.lean ====
/-
  Running sums over the reals, as sums over windows padded below: the sum of a chunk's first rows, and of two rows.
-/
module

public import proofs.«01_k».proof.Proof.Gen.HgrnMixRefIdeal.Step
public import Idealize.ShloMosaic.Lib.Pointwise

@[expose] public section

noncomputable section

namespace Cert.HgrnMixRefIdeal.Trips

open Idealize.ShloMosaic Idealize.ShloMosaic.TcCoe Idealize.ShloMosaic.Tactic
open Cert.HgrnMixRefIdeal Cert.HgrnMixRefIdeal.Gen

theorem foldl_plus {α : Type} (f : α → EReal) (l : List α) (v : EReal) : l.foldl (fun r n => r + f n) v = v + (l.map f).sum := by
  induction l generalizing v with
  | nil => simp
  | cons a l ih => rw [List.foldl_cons, ih, List.map_cons, List.sum_cons, add_assoc]

/-- A window's sum from what each of its positions holds. -/
theorem window_total {s t u : Shape} (window strides lo hi : Fin s.rank → Nat) (x : s.Idx → EReal) (init : u.Idx → EReal)
    (h : s.ReduceWindows window strides lo hi t) (hu : 0 < u.numel) (y : t.Idx) (T : ℕ → EReal)
    (hT : ∀ n : Fin (⟨s.rank, window⟩ : Shape).numel,
      (let p : Fin s.rank → Nat := fun a => (y (a.cast h.1.symm)).val * strides a + ((⟨s.rank, window⟩ : Shape).rowMajor.symm n a).val
       if hin : ∀ a, lo a ≤ p a ∧ p a - lo a < s.size a then x (fun a => ⟨p a - lo a, (hin a).2⟩) else init (Shape.Idx.first hu)) = T n.val) :
    Host.reduceWindowAdd (F := Ideal) (φ := .f32) window strides lo hi x init h hu y
      = init (Shape.Idx.first hu) + ∑ n ∈ Finset.range (⟨s.rank, window⟩ : Shape).numel, T n := by
  refine (foldl_plus _ _ _).trans ?_
  rw [← Fin.sum_univ_def]
  refine congrArg (init (Shape.Idx.first hu) + ·) ((Finset.sum_congr rfl fun n _ => ?_).trans (Fin.sum_univ_eq_sum_range T _))
  convert hT n

/-- Of a running sum's window, the positions below the first row are padding. -/
theorem window_tail (f : ℕ → EReal) (r : ℕ) (hr : r < 32) :
    ∑ n ∈ Finset.range 32, (if 31 ≤ r + n then f (r + n - 31) else 0) = ∑ n ∈ Finset.range (r + 1), f n := by
  rw [show 32 = (31 - r) + (r + 1) by omega, Finset.sum_range_add]
  rw [Finset.sum_eq_zero (fun n hn => if_neg (by have := Finset.mem_range.mp hn; omega)), zero_add]
  refine Finset.sum_congr rfl fun n hn => ?_
  rw [if_pos (by omega)]
  exact congrArg f (by omega)

/-- The running sum of a chunk's rows. -/
theorem cum_read (x : S1x8x32x128.Idx → EReal) (init : S_.Idx → EReal) (hi : ∀ i, init i = 0) (h : S1x8x32x128.ReduceWindows ![1, 1, 32, 1] ![1, 1, 1, 1] ![0, 0, 31, 0] ![0, 0, 0, 0] S1x8x32x128)
    (hu : 0 < S_.numel) (e : Fin 8) (r : Fin 32) (d : Fin 128) (f : ℕ → EReal) (hf : ∀ n : Fin 32, x (ix4 0 e n d) = f n.val) :
    Host.reduceWindowAdd (F := Ideal) (φ := .f32) ![1, 1, 32, 1] ![1, 1, 1, 1] ![0, 0, 31, 0] ![0, 0, 0, 0] x init h hu (ix4 0 e r d)
      = ∑ n ∈ Finset.range (r.val + 1), f n := by
  refine (window_total _ _ _ _ x init h hu _ (fun n => if 31 ≤ r.val + n then f (r.val + n - 31) else 0) fun n => ?_).trans ?_
  · have hr := Shape.rowMajor_val_four ((⟨4, ![1, 1, 32, 1]⟩ : Shape).rowMajor.symm n)
    rw [Equiv.apply_symm_apply] at hr
    set c := (⟨4, ![1, 1, 32, 1]⟩ : Shape).rowMajor.symm n with hc
    have c0 : (c 0).val < 1 := (c 0).isLt
    have c1 : (c 1).val < 1 := (c 1).isLt
    have c2 : (c 2).val < 32 := (c 2).isLt
    have c3 : (c 3).val < 1 := (c 3).isLt
    have hn : n.val = (c 2).val := hr.trans (show (((c 0).val * 1 + (c 1).val) * 32 + (c 2).val) * 1 + (c 3).val = _ by omega)
    have hr' := r.isLt
    dsimp only
    split
    · next hin =>
      have h2 : 31 ≤ r.val * 1 + (c 2).val := (hin 2).1
      rw [if_pos (by omega)]
      refine (congrArg x (funext fun a => ?_)).trans ((hf ⟨r.val + n.val - 31, by omega⟩).trans rfl)
      match a with
      | ⟨0, _⟩ => exact Fin.ext (show 0 * 1 + (c 0).val - 0 = 0 by omega)
      | ⟨1, _⟩ => exact Fin.ext (show e.val * 1 + (c 1).val - 0 = e.val by omega)
      | ⟨2, _⟩ => exact Fin.ext (show r.val * 1 + (c 2).val - 31 = r.val + n.val - 31 by omega)
      | ⟨3, _⟩ => exact Fin.ext (show d.val * 1 + (c 3).val - 0 = d.val by omega)
    · next hin =>
      rw [hi, if_neg fun hle => hin fun a => ?_]
      have he := e.isLt
      have hd := d.isLt
      match a with
      | ⟨0, _⟩ => exact (show 0 ≤ 0 * 1 + (c 0).val ∧ 0 * 1 + (c 0).val - 0 < 1 by omega)
      | ⟨1, _⟩ => exact (show 0 ≤ e.val * 1 + (c 1).val ∧ e.val * 1 + (c 1).val - 0 < 8 by omega)
      | ⟨2, _⟩ => exact (show 31 ≤ r.val * 1 + (c 2).val ∧ r.val * 1 + (c 2).val - 31 < 32 by omega)
      | ⟨3, _⟩ => exact (show 0 ≤ d.val * 1 + (c 3).val ∧ d.val * 1 + (c 3).val - 0 < 128 by omega)
  · rw [hi, zero_add]
    exact window_tail f r.val r.isLt

/-- The first row of the running sum of two rows is the first row. -/
theorem first_read (x : S2x1024.Idx → EReal) (init : S_.Idx → EReal) (hi : ∀ i, init i = 0) (h : S2x1024.ReduceWindows ![2, 1] ![1, 1] ![1, 0] ![0, 0] S2x1024)
    (hu : 0 < S_.numel) (d : Fin 1024) :
    Host.reduceWindowAdd (F := Ideal) (φ := .f32) ![2, 1] ![1, 1] ![1, 0] ![0, 0] x init h hu (ix2 0 d) = x (ix2 0 d) := by
  refine (window_total _ _ _ _ x init h hu _ (fun n => if n = 1 then x (ix2 0 d) else 0) fun n => ?_).trans ?_
  · have hr := Shape.rowMajor_val_two ((⟨2, ![2, 1]⟩ : Shape).rowMajor.symm n)
    rw [Equiv.apply_symm_apply] at hr
    set c := (⟨2, ![2, 1]⟩ : Shape).rowMajor.symm n with hc
    have c0 : (c 0).val < 2 := (c 0).isLt
    have c1 : (c 1).val < 1 := (c 1).isLt
    have hn : n.val = (c 0).val := hr.trans (show (c 0).val * 1 + (c 1).val = _ by omega)
    have hd := d.isLt
    dsimp only
    split
    · next hin =>
      have h2 : 1 ≤ 0 * 1 + (c 0).val := (hin 0).1
      rw [if_pos (by omega)]
      refine congrArg x (funext fun a => ?_)
      match a with
      | ⟨0, _⟩ => exact Fin.ext (show 0 * 1 + (c 0).val - 1 = 0 by omega)
      | ⟨1, _⟩ => exact Fin.ext (show d.val * 1 + (c 1).val - 0 = d.val by omega)
    · next hin =>
      rw [hi, if_neg fun hle => hin fun a => ?_]
      match a with
      | ⟨0, _⟩ => exact (show 1 ≤ 0 * 1 + (c 0).val ∧ 0 * 1 + (c 0).val - 1 < 2 by omega)
      | ⟨1, _⟩ => exact (show 0 ≤ d.val * 1 + (c 1).val ∧ d.val * 1 + (c 1).val - 0 < 1024 by omega)
  · rw [hi, zero_add]
    show ∑ n ∈ Finset.range 2, _ = _
    simp [Finset.sum_range_succ]

end Cert.HgrnMixRefIdeal.Trips

end
-- ==== Proof.ScanRefIn.lean ====
/-
  What the reference computes before its loop: the lower bound, and the query, key, value and decay of every position.
-/
module

public import proofs.«01_k».proof.Proof.ScanSpec
public import proofs.«01_k».proof.Proof.ScanLoopRun
public import proofs.«01_k».proof.Proof.ScanWindow
public import Idealize.ShloMosaic.Lib.Pointwise

@[expose] public section

set_option maxRecDepth 16384

noncomputable section

namespace Cert.HgrnMixRefIdeal.Trips

open Idealize.ShloMosaic Idealize.ShloMosaic.TcCoe Idealize.ShloMosaic.Tactic
open Cert.HgrnMixRefIdeal Cert.HgrnMixRefIdeal.Gen Cert.HgrnMixRefIdeal.Step Cert.Step

variable (x : (⟨S1x4096x4096, .f32⟩ : BufTy).Contents (Elt Ideal)) (l : (⟨S2x1024, .f32⟩ : BufTy).Contents (Elt Ideal))
variable (P : Fin 4096 → Fin 4096 → ℝ) (L : Fin 2 → Fin 1024 → ℝ)
variable (hx : ∀ s e, x (ix3 0 s e) = ((P s e : ℝ) : EReal)) (hl : ∀ j d, l (ix2 j d) = ((L j d : ℝ) : EReal))

theorem word_bot : Ideal.ofBits .f32 0xFF800000#32 = (⊥ : EReal) := by simp [Ideal.ofBits, Ideal.ieee]

include hl in
theorem max_at (d : Fin 1024) : ∃ M : ℝ, A_main_v2 (F := Ideal) x l (ix1 d) = ((M : ℝ) : EReal) := by
  refine ⟨max (L 0 d) (L 1 d), ?_⟩
  pointwise [A_main_v2, K_main_v1, K_main_cst_0, A_main_v0, K_main_cst]
  rw [show (Finset.univ : Finset (Fin 2)) = {0, 1} from rfl, Finset.fold_insert (by decide), Finset.fold_singleton, hl, hl, word_bot]
  simp only [bot_le, sup_of_le_left, sup_of_le_right]
  exact (EReal.coe_strictMono.monotone.map_max).symm

include hl in
theorem exp_at (d : Fin 1024) : ∃ M : ℝ, ∀ j, A_main_v6 (F := Ideal) x l (ix2 j d) = ((Real.exp (L j d - M) : ℝ) : EReal) := by
  obtain ⟨M, hM⟩ := max_at x l L hl d
  refine ⟨M, fun j => ?_⟩
  pointwise [A_main_v6, A_main_v5, A_main_v4, A_main_v3]
  rw [hM, hl, ← EReal.coe_sub, Ideal.exp_coe]

/-- One of two shares of exponentials is the logistic of the difference. -/
theorem share_logi (a b M : ℝ) : Ideal.div ((Real.exp (a - M) : ℝ) : EReal) ((Real.exp (a - M) : ℝ) + (Real.exp (b - M) : ℝ) : EReal) = ((logi (a - b) : ℝ) : EReal) := by
  have h1 := Real.exp_pos (a - M)
  have h2 := Real.exp_pos (b - M)
  rw [← EReal.coe_add, div_real _ (by positivity)]
  congr 1
  have e : Real.exp (b - M) = Real.exp (a - M) * Real.exp (-(a - b)) := by rw [← Real.exp_add]; congr 1; ring
  unfold logi
  rw [e, div_eq_div_iff (by positivity) (exp_pos_one _).ne']
  ring

include hl in
theorem bound_at (d : Fin 1024) : A_main_v13 (F := Ideal) x l (ix1 d) = ((hgLb L d : ℝ) : EReal) := by
  obtain ⟨M, hM⟩ := exp_at x l L hl d
  pointwise [A_main_v13, A_main_v12, A_main_v11]
  rw [first_read]
  · pointwise [A_main_v10, A_main_v9, A_main_v8, A_main_v7, K_main_cst_1]
    rw [Fin.sum_univ_two, hM, hM]
    exact share_logi _ _ M
  · intro i
    pointwise [K_main_call0_call0_v0, K_main_call0_call0_cst]

theorem part_at (j : Fin 4) (s : Fin 4096) (d : Fin 1024) (n : ℕ) (hn : 1024 * j.val + d.val = n) (h : n < 4096) : P s ⟨n, h⟩ = parts P j s.val d := by
  subst hn
  unfold parts
  rw [dif_pos s.isLt]

/-- The logistic as a quotient. -/
theorem logi_quot (x : ℝ) : Ideal.div 1 (1 + Ideal.exp (-(x : EReal))) = ((logi x : ℝ) : EReal) := by
  rw [← EReal.coe_one, ← EReal.coe_neg, Ideal.exp_coe, ← EReal.coe_add, logi_div]

include hx in
theorem q_in (s : Fin 4096) (d : Fin 1024) : A_main_v20 (F := Ideal) x l (ix3 0 s d) = ((hgQ (parts P) s.val d : ℝ) : EReal) := by
  pointwise [A_main_v20, A_main_v18, K_main_v19, K_main_cst_2, A_main_call1_v5, A_main_call1_v3, A_main_call1_v1, A_main_call1_v0, K_main_call1_v4, K_main_call1_v2, K_main_call1_cst, K_main_call1_cst_0, A_main_v15, A_main_v14]
  rw [hx, part_at P 0 s d _ (Nat.zero_add _), logi_quot, lit_scale, ← EReal.coe_mul, ← EReal.coe_mul]
  rfl

include hx hl in
theorem f_in (s : Fin 4096) (d : Fin 1024) : A_main_v34 (F := Ideal) x l (ix3 0 s d) = ((fgate (hgLb L d) (parts P 1 s.val d) : ℝ) : EReal) := by
  pointwise [A_main_v34, A_main_v33, A_main_v32, A_main_v31, A_main_v30, A_main_v29, A_main_v28, A_main_v26, A_main_v24, A_main_v23, A_main_v22, A_main_v16, A_main_v14, K_main_v27, K_main_cst_5, K_main_v25, K_main_cst_4, K_main_v21, K_main_cst_3]
  rw [bound_at x l L hl, hx, part_at P 1 s d (1024 + d.val) rfl, logi_quot, ← EReal.coe_one, ← EReal.coe_sub, ← EReal.coe_mul, ← EReal.coe_add]
  rfl

include hx hl in
theorem g_in (s : Fin 4096) (d : Fin 1024) : A_main_v35 (F := Ideal) x l (ix3 0 s d) = ((hgG (parts P) L s.val d : ℝ) : EReal) := by
  pointwise [A_main_v35]
  rw [f_in x l P L hx hl, log_real (hgLb_fgate _ _ _)]
  rfl

include hx hl in
theorem k_in (s : Fin 4096) (d : Fin 1024) : A_main_v37 (F := Ideal) x l (ix3 0 s d) = ((hgK (parts P) L s.val d : ℝ) : EReal) := by
  pointwise [A_main_v37, K_main_v36, K_main_cst_6]
  rw [f_in x l P L hx hl, ← EReal.coe_one, ← EReal.coe_sub]
  rfl

include hx in
theorem v_in (s : Fin 4096) (d : Fin 1024) : A_main_v17 (F := Ideal) x l (ix3 0 s d) = ((parts P 2 s.val d : ℝ) : EReal) := by
  pointwise [A_main_v17, A_main_v14]
  rw [hx, part_at P 2 s d (2048 + d.val) rfl]

/-- Row `r` of chunk `n`. -/
def at32 (n : Fin 128) (r : Fin 32) : Fin 4096 := ⟨32 * n.val + r.val, by have := n.isLt; have := r.isLt; omega⟩

/-- An array cut into chunks and heads. -/
theorem cut_at (a : (⟨S1x4096x1024, .f32⟩ : BufTy).Contents (Elt Ideal)) (n : Fin 128) (h : Fin 8) (r : Fin 32) (d : Fin 128) :
    transpose S128x1x8x32x128 [1, 0, 3, 2, 4] (shapeCast S1x128x32x8x128 (shapeCast S1x4096x8x128 a shapeCasts_S1x4096x1024_S1x4096x8x128) shapeCasts_S1x4096x8x128_S1x128x32x8x128) transposes_S1x128x32x8x128_S128x1x8x32x128_1_0_3_2_4 (ix5 n 0 h r d)
      = a (ix3 0 (at32 n r) (hd h d)) := by
  pointwise []
  exact congrArg a (congrArg₂ (ix3 0) (Fin.ext (by dsimp only [at32]; omega)) (Fin.ext (by dsimp only [hd]; omega)))

include hx in
theorem q_cut (n : Fin 128) (h : Fin 8) (r : Fin 32) (d : Fin 128) : A_main_v43 (F := Ideal) x l (ix5 n 0 h r d) = ((hgQ (parts P) (32 * n.val + r.val) (hd h d) : ℝ) : EReal) :=
  (cut_at _ n h r d).trans (q_in x l P hx _ _)
include hx hl in
theorem k_cut (n : Fin 128) (h : Fin 8) (r : Fin 32) (d : Fin 128) : A_main_v45 (F := Ideal) x l (ix5 n 0 h r d) = ((hgK (parts P) L (32 * n.val + r.val) (hd h d) : ℝ) : EReal) :=
  (cut_at _ n h r d).trans (k_in x l P L hx hl _ _)
include hx in
theorem v_cut (n : Fin 128) (h : Fin 8) (r : Fin 32) (d : Fin 128) : A_main_v47 (F := Ideal) x l (ix5 n 0 h r d) = ((parts P 2 (32 * n.val + r.val) (hd h d) : ℝ) : EReal) :=
  (cut_at _ n h r d).trans (v_in x l P hx _ _)
include hx hl in
theorem g_cut (n : Fin 128) (h : Fin 8) (r : Fin 32) (d : Fin 128) : A_main_v49 (F := Ideal) x l (ix5 n 0 h r d) = ((hgG (parts P) L (32 * n.val + r.val) (hd h d) : ℝ) : EReal) :=
  (cut_at _ n h r d).trans (g_in x l P L hx hl _ _)

end Cert.HgrnMixRefIdeal.Trips

end
-- ==== Proof.ScanRefTrip.lean ====
/-
  One trip of the reference's loop over the chunks, over the reals: the chunk's blocks, its outputs, and the state after it.
-/
module

public import proofs.«01_k».proof.Proof.ScanRefIn

@[expose] public section

set_option maxRecDepth 16384

noncomputable section

namespace Cert.HgrnMixRefIdeal.Trips

open Idealize.ShloMosaic Idealize.ShloMosaic.TcCoe Idealize.ShloMosaic.Tactic
open Cert.HgrnMixRefIdeal Cert.HgrnMixRefIdeal.Gen Cert.HgrnMixRefIdeal.Step Cert.Step

theorem word_at : ∀ j : Fin 128, (BitVec.ofNat 32 j.val).toInt = j.val := by decide

/-- The start of chunk `j`'s block along each axis. -/
def startAt (j : ℕ) : Fin 5 → ℤ := ![(j : ℤ), 0, 0, 0, 0]

section
variable {a : ℕ} {α : Type}

/-- The block of one chunk. -/
theorem pick_at (x : (⟨5, ![128, 1, 8, a, 128]⟩ : Shape).Idx → α) (st : Fin 5 → ℤ) (j : Fin 128) (hs : st = startAt j.val)
    (H : (⟨5, ![128, 1, 8, a, 128]⟩ : Shape).Slices (fun _ => 0) ⟨5, ![1, 1, 8, a, 128]⟩) (h : Fin 8) (r : Fin a) (d : Fin 128) :
    Host.dynamicSlice (⟨5, ![1, 1, 8, a, 128]⟩ : Shape) x st H (ix5 0 0 h r d) = x (ix5 j 0 h r d) := by
  subst hs
  rw [Host.dynamicSlice_apply]
  have hj := j.isLt
  refine congrArg x (funext fun b => ?_)
  match b with
  | ⟨0, _⟩ => exact Fin.ext ((congrArg (· + 0) (Host.clampedStart_of_le _ _ _ j.val rfl (show j.val + 1 ≤ 128 by omega))).trans rfl)
  | ⟨1, _⟩ => exact Fin.ext ((congrArg (· + 0) (Host.clampedStart_of_le _ _ _ 0 rfl (show 0 + 1 ≤ 1 by omega))).trans rfl)
  | ⟨2, _⟩ => exact Fin.ext ((congrArg (· + h.val) (Host.clampedStart_of_le _ _ _ 0 rfl (show 0 + 8 ≤ 8 by omega))).trans (Nat.zero_add _))
  | ⟨3, _⟩ => exact Fin.ext ((congrArg (· + r.val) (Host.clampedStart_of_le _ _ _ 0 rfl (show 0 + a ≤ a by omega))).trans (Nat.zero_add _))
  | ⟨4, _⟩ => exact Fin.ext ((congrArg (· + d.val) (Host.clampedStart_of_le _ _ _ 0 rfl (show 0 + 128 ≤ 128 by omega))).trans (Nat.zero_add _))

/-- An array with one chunk's block replaced. -/
theorem put_at (x : (⟨5, ![128, 1, 8, a, 128]⟩ : Shape).Idx → α) (u : (⟨5, ![1, 1, 8, a, 128]⟩ : Shape).Idx → α) (st : Fin 5 → ℤ) (j : Fin 128) (hs : st = startAt j.val)
    (H : (⟨5, ![128, 1, 8, a, 128]⟩ : Shape).Slices (fun _ => 0) ⟨5, ![1, 1, 8, a, 128]⟩) (n : Fin 128) (h : Fin 8) (r : Fin a) (d : Fin 128) :
    Host.dynamicUpdateSlice x u st H (ix5 n 0 h r d) = if n = j then u (ix5 0 0 h r d) else x (ix5 n 0 h r d) := by
  subst hs
  rw [Host.dynamicUpdateSlice_apply]
  have hj := j.isLt
  have e0 : Host.clampedStart (⟨5, ![128, 1, 8, a, 128]⟩ : Shape) ⟨5, ![1, 1, 8, a, 128]⟩ H.1 (startAt j.val) 0 = j.val :=
    Host.clampedStart_of_le _ _ _ _ rfl (show j.val + 1 ≤ 128 by omega)
  have e1 : Host.clampedStart (⟨5, ![128, 1, 8, a, 128]⟩ : Shape) ⟨5, ![1, 1, 8, a, 128]⟩ H.1 (startAt j.val) 1 = 0 :=
    Host.clampedStart_of_le _ _ _ _ rfl (show 0 + 1 ≤ 1 by omega)
  have e2 : Host.clampedStart (⟨5, ![128, 1, 8, a, 128]⟩ : Shape) ⟨5, ![1, 1, 8, a, 128]⟩ H.1 (startAt j.val) 2 = 0 :=
    Host.clampedStart_of_le _ _ _ _ rfl (show 0 + 8 ≤ 8 by omega)
  have e3 : Host.clampedStart (⟨5, ![128, 1, 8, a, 128]⟩ : Shape) ⟨5, ![1, 1, 8, a, 128]⟩ H.1 (startAt j.val) 3 = 0 :=
    Host.clampedStart_of_le _ _ _ _ rfl (show 0 + a ≤ a by omega)
  have e4 : Host.clampedStart (⟨5, ![128, 1, 8, a, 128]⟩ : Shape) ⟨5, ![1, 1, 8, a, 128]⟩ H.1 (startAt j.val) 4 = 0 :=
    Host.clampedStart_of_le _ _ _ _ rfl (show 0 + 128 ≤ 128 by omega)
  by_cases hn : n = j
  · subst hn
    rw [if_pos rfl, dif_pos]
    · refine congrArg u (funext fun b => ?_)
      match b with
      | ⟨0, _⟩ => exact Fin.ext (show n.val - Host.clampedStart _ _ _ _ 0 = 0 by rw [e0]; omega)
      | ⟨1, _⟩ => exact Fin.ext (show 0 - Host.clampedStart _ _ _ _ 1 = 0 by omega)
      | ⟨2, _⟩ => exact Fin.ext (show h.val - Host.clampedStart _ _ _ _ 2 = h.val by rw [e2]; omega)
      | ⟨3, _⟩ => exact Fin.ext (show r.val - Host.clampedStart _ _ _ _ 3 = r.val by rw [e3]; omega)
      | ⟨4, _⟩ => exact Fin.ext (show d.val - Host.clampedStart _ _ _ _ 4 = d.val by rw [e4]; omega)
    · intro b
      have h2 := h.isLt
      have h3 := r.isLt
      have h4 := d.isLt
      match b with
      | ⟨0, _⟩ => exact (show Host.clampedStart _ _ _ _ 0 ≤ n.val ∧ n.val < Host.clampedStart _ _ _ _ 0 + 1 by rw [e0]; omega)
      | ⟨1, _⟩ => exact (show Host.clampedStart _ _ _ _ 1 ≤ 0 ∧ 0 < Host.clampedStart _ _ _ _ 1 + 1 by rw [e1]; omega)
      | ⟨2, _⟩ => exact (show Host.clampedStart _ _ _ _ 2 ≤ h.val ∧ h.val < Host.clampedStart _ _ _ _ 2 + 8 by rw [e2]; omega)
      | ⟨3, _⟩ => exact (show Host.clampedStart _ _ _ _ 3 ≤ r.val ∧ r.val < Host.clampedStart _ _ _ _ 3 + a by rw [e3]; omega)
      | ⟨4, _⟩ => exact (show Host.clampedStart _ _ _ _ 4 ≤ d.val ∧ d.val < Host.clampedStart _ _ _ _ 4 + 128 by rw [e4]; omega)
  · rw [if_neg hn, dif_neg]
    intro hin
    have h0 : Host.clampedStart _ _ _ _ 0 ≤ n.val ∧ n.val < Host.clampedStart _ _ _ _ 0 + 1 := hin 0
    rw [e0] at h0
    exact hn (Fin.ext (by omega))
end

variable (X : Fin 4 → ℕ → Fin 1024 → ℝ) (L : Fin 2 → Fin 1024 → ℝ)

/-- What the loop's state holds before trip `j`. -/
structure Holds (s : State Ideal) (j : ℕ) : Prop where
  q : ∀ n h r d, s.main_v56_0 (ix5 n 0 h r d) = ((hgQ X (32 * n.val + r.val) (hd h d) : ℝ) : EReal)
  k : ∀ n h r d, s.main_v56_1 (ix5 n 0 h r d) = ((hgK X L (32 * n.val + r.val) (hd h d) : ℝ) : EReal)
  v : ∀ n h r d, s.main_v56_2 (ix5 n 0 h r d) = ((X 2 (32 * n.val + r.val) (hd h d) : ℝ) : EReal)
  g : ∀ n h r d, s.main_v56_3 (ix5 n 0 h r d) = ((hgG X L (32 * n.val + r.val) (hd h d) : ℝ) : EReal)
  z : ∀ h k v, s.main_v56_6 (ix4 0 h k v) = ((hgS X L h (32 * j) k v : ℝ) : EReal)
  o : ∀ n : Fin 128, n.val < j → ∀ h r v, s.main_v56_7 (ix5 n 0 h r v) = ((hgO X L h (32 * n.val + r.val) v : ℝ) : EReal)
  t : ∀ n : Fin 128, n.val < j → ∀ h k v, s.main_v56_8 (ix5 n 0 h k v) = ((hgS X L h (32 * n.val) k v : ℝ) : EReal)

theorem start_eq (j : Fin 128) : (fun k => ((![constantI S_ 32 (BitVec.ofNat 32 j.val), constantI S_ 32 0#32, constantI S_ 32 0#32, constantI S_ 32 0#32, constantI S_ 32 0#32] : Fin 5 → (⟨S_, .i32⟩ : BufTy).Contents (Elt Ideal)) k (Shape.Idx.first h_S_)).toInt) = startAt j.val := by
  funext a
  match a with
  | ⟨0, _⟩ => exact word_at j
  | ⟨1, _⟩ => rfl
  | ⟨2, _⟩ => rfl
  | ⟨3, _⟩ => rfl
  | ⟨4, _⟩ => rfl

theorem coe_range (f : ℕ → ℝ) (n : ℕ) : ∑ i ∈ Finset.range n, ((f i : ℝ) : EReal) = ((∑ i ∈ Finset.range n, f i : ℝ) : EReal) := by
  rw [← Fin.sum_univ_eq_sum_range (fun i => ((f i : ℝ) : EReal)), ← Fin.sum_univ_eq_sum_range f, coe_sum]

/-- The mask of the rows that are not after a row. -/
theorem low_word : ∀ r t : Fin 32, Scalar.select (IntOp.cmpi .sge (IntOp.addi (BitVec.ofNat 32 r.val) 0#32) (BitVec.ofNat 32 t.val)) 1#1 0#1
    = if t.val ≤ r.val then 1#1 else 0#1 := by decide

section
variable {X L} {s : State Ideal} {j : Fin 128} (B : Holds X L s j.val)

include B
theorem q_blk (h : Fin 8) (r : Fin 32) (d : Fin 128) : b5 j.val s (ix4 0 h r d) = ((hgQ X (32 * j.val + r.val) (hd h d) : ℝ) : EReal) := by
  pointwise [b5]
  exact (pick_at s.main_v56_0 _ j (start_eq j) _ h r d).trans (B.q j h r d)
theorem k_blk (h : Fin 8) (r : Fin 32) (d : Fin 128) : b11 j.val s (ix4 0 h r d) = ((hgK X L (32 * j.val + r.val) (hd h d) : ℝ) : EReal) := by
  pointwise [b11]
  exact (pick_at s.main_v56_1 _ j (start_eq j) _ h r d).trans (B.k j h r d)
theorem v_blk (h : Fin 8) (r : Fin 32) (d : Fin 128) : b17 j.val s (ix4 0 h r d) = ((X 2 (32 * j.val + r.val) (hd h d) : ℝ) : EReal) := by
  pointwise [b17]
  exact (pick_at s.main_v56_2 _ j (start_eq j) _ h r d).trans (B.v j h r d)
theorem g_blk (h : Fin 8) (r : Fin 32) (d : Fin 128) : b23 j.val s (ix4 0 h r d) = ((hgG X L (32 * j.val + r.val) (hd h d) : ℝ) : EReal) := by
  pointwise [b23]
  exact (pick_at s.main_v56_3 _ j (start_eq j) _ h r d).trans (B.g j h r d)

/-- The decay's logarithm from the chunk's start through row `r`, -/
theorem cum_blk (h : Fin 8) (r : Fin 32) (d : Fin 128) :
    b26 j.val s (ix4 0 h r d) = ((scanCum (fun s => hgG X L s (hd h d)) (32 * j.val) (r.val + 1) : ℝ) : EReal) := by
  unfold b26
  rw [cum_read _ _ _ _ _ h r d (fun n => ((hgG X L (32 * j.val + n) (hd h d) : ℝ) : EReal)) (fun n => g_blk B h n d)]
  · exact coe_range _ _
  · intro i
    pointwise [b25, b24]

/-- between two rows, where the second is not after the first, -/
theorem dec_blk (h : Fin 8) (r t : Fin 32) (d : Fin 128) :
    b40 j.val s (ix5 0 h r t d) = (((if t.val ≤ r.val then Real.exp (scanCum (fun s => hgG X L s (hd h d)) (32 * j.val) (r.val + 1)
      - scanCum (fun s => hgG X L s (hd h d)) (32 * j.val) (t.val + 1)) else 0 : ℝ)) : EReal) := by
  pointwise [b40, b39, b37, b38, b36, b35, b34, b33, b32, b31, b30, K_main_v52, K_main_v51, K_main_call2_v4, K_main_v50, K_main_call2_v5, K_main_call2_v2, K_main_call2_v3, K_main_call2_v0, K_main_call2_v1, K_main_call2_c, K_main_call2_c_0, K_main_c]
  rw [low_word, cum_blk B, cum_blk B, ← EReal.coe_sub]
  split
  · exact Ideal.exp_coe _
  · exact (congrArg Ideal.exp word_bot).trans Ideal.exp_bot

/-- the weight a row gives another, -/
theorem score_blk (h : Fin 8) (r t : Fin 32) :
    b48 j.val s (ix4 0 h r t) = (((if t.val ≤ r.val then ∑ k, hgQ X (32 * j.val + r.val) (hd h k) * hgK X L (32 * j.val + t.val) (hd h k)
      * Real.exp (scanCum (fun s => hgG X L s (hd h k)) (32 * j.val) (r.val + 1)
        - scanCum (fun s => hgG X L s (hd h k)) (32 * j.val) (t.val + 1)) else 0 : ℝ)) : EReal) := by
  pointwise [b48, b47, b46, b45, b44, b43, b42, b41]
  simp only [dec_blk B, q_blk B, k_blk B]
  split
  · simp only [← EReal.coe_mul, coe_sum]
  · simp only [← EReal.coe_mul, mul_zero, EReal.coe_zero, Finset.sum_const_zero]

/-- the outputs of the chunk's rows, -/
theorem out_blk (h : Fin 8) (r : Fin 32) (v : Fin 128) :
    b62 j.val s (ix4 0 h r v) = ((hgO X L h (32 * j.val + r.val) v : ℝ) : EReal) := by
  rw [hgO_chunk, sum_upto r]
  pointwise [b62, b29, b28, b27, b49]
  simp only [score_blk B, q_blk B, v_blk B, cum_blk B, B.z, Ideal.exp_coe, ← EReal.coe_mul, coe_sum, ← EReal.coe_add, ite_mul, zero_mul]

/-- and the state after it. -/
theorem state_blk (h : Fin 8) (k v : Fin 128) :
    b61 j.val s (ix4 0 h k v) = ((hgS X L h (32 * (j.val + 1)) k v : ℝ) : EReal) := by
  rw [show 32 * (j.val + 1) = 32 * j.val + 32 by ring, hgS_add X L h (32 * j.val) 32, ← Fin.sum_univ_eq_sum_range (fun s => Real.exp (scanCum (fun s => hgG X L s (hd h k)) (32 * j.val) 32
    - scanCum (fun s => hgG X L s (hd h k)) (32 * j.val) (s + 1)) * (hgK X L (32 * j.val + s) (hd h k) * X 2 (32 * j.val + s) (hd h v)))]
  pointwise [b61, b55, b54, b53, b52, b51, b60, b59, b58, b57, b56, b50]
  simp only [cum_blk B, k_blk B, v_blk B, B.z, ← EReal.coe_sub, Ideal.exp_coe, ← EReal.coe_mul, coe_sum, ← EReal.coe_add]
  refine congrArg (fun x : ℝ => (x : EReal)) (congrArg (Real.exp (scanCum (fun s => hgG X L s (hd h k)) (32 * j.val) 32) * hgS X L h (32 * j.val) k v + ·)
    (Finset.sum_congr rfl fun t _ => ?_))
  show _ * Real.exp (scanCum (fun s => hgG X L s (hd h k)) (32 * j.val) 32 - _) * _ = _
  ring

theorem next_holds : Holds X L (step j.val s) (j.val + 1) where
  q := B.q
  k := B.k
  v := B.v
  g := B.g
  z h k v := by rw [step_main_v56_6]; exact state_blk B h k v
  o n hn h r v := by
    rw [step_main_v56_7]
    refine (put_at s.main_v56_7 _ _ j (start_eq j) _ n h r v).trans ?_
    split
    · next e =>
      subst e
      pointwise [b63]
      exact out_blk B h r v
    · next e => exact B.o n (by have : n.val ≠ j.val := fun h => e (Fin.ext h); omega) h r v
  t n hn h k v := by
    rw [step_main_v56_8]
    refine (put_at s.main_v56_8 _ _ j (start_eq j) _ n h k v).trans ?_
    split
    · next e =>
      subst e
      pointwise [b69]
      exact B.z h k v
    · next e => exact B.t n (by have : n.val ≠ j.val := fun h => e (Fin.ext h); omega) h k v
end

end Cert.HgrnMixRefIdeal.Trips

end
-- ==== Proof.ScanRefOut.lean ====
/-
  The reference's results over the reals: the outputs, the outputs normed and gated, and the states before every second chunk.
-/
module

public import proofs.«01_k».proof.Proof.ScanRefTrip

@[expose] public section

set_option maxRecDepth 16384

noncomputable section

namespace Cert.HgrnMixRefIdeal.Trips

open Idealize.ShloMosaic Idealize.ShloMosaic.TcCoe Idealize.ShloMosaic.Tactic
open Cert.HgrnMixRefIdeal Cert.HgrnMixRefIdeal.Gen Cert.HgrnMixRefIdeal.Step Cert.Step

section
variable (x : (⟨S1x4096x4096, .f32⟩ : BufTy).Contents (Elt Ideal)) (l : (⟨S2x1024, .f32⟩ : BufTy).Contents (Elt Ideal))
variable (P : Fin 4096 → Fin 4096 → ℝ) (L : Fin 2 → Fin 1024 → ℝ)
variable (hx : ∀ s e, x (ix3 0 s e) = ((P s e : ℝ) : EReal)) (hl : ∀ j d, l (ix2 j d) = ((L j d : ℝ) : EReal))

include hx hl in
theorem init_holds : Holds (parts P) L (init (F := Ideal) x l) 0 where
  q := q_cut x l P hx
  k := k_cut x l P L hx hl
  v := v_cut x l P hx
  g := g_cut x l P L hx hl
  z h k v := by
    show K_main_v53 (F := Ideal) (ix4 0 h k v) = _
    pointwise [K_main_v53, K_main_cst_7]
    rfl
  o n hn := absurd hn (Nat.not_lt_zero _)
  t n hn := absurd hn (Nat.not_lt_zero _)
end

theorem hd_head (h : Fin 8) (v : Fin 128) (p : (hd h v).val / 128 < 8) : (⟨(hd h v).val / 128, p⟩ : Fin 8) = h :=
  Fin.ext (by have := v.isLt; show (128 * h.val + v.val) / 128 = h.val; omega)
theorem hd_lane (h : Fin 8) (v : Fin 128) (p : (hd h v).val % 128 < 128) : (⟨(hd h v).val % 128, p⟩ : Fin 128) = v :=
  Fin.ext (by have := v.isLt; show (128 * h.val + v.val) % 128 = v.val; omega)

section
variable (P : Fin 4096 → Fin 4096 → ℝ) (L : Fin 2 → Fin 1024 → ℝ) (w : Fin 128 → ℝ)
variable {s : State Ideal} (B : Holds (parts P) L s 128)

/-- A row of the whole sequence as a row of its chunk. -/
theorem row_eq (i : Fin 4096) : 32 * (i.val / 32) + i.val % 32 = i.val := by omega

include B
theorem joined (i : Fin 4096) (h : Fin 8) (v : Fin 128) :
    s.main_v56_7 (ix5 ⟨i.val / 32, by omega⟩ 0 h ⟨i.val % 32, by omega⟩ v) = ((hgO (parts P) L h i.val v : ℝ) : EReal) := by
  have := i.isLt
  refine (B.o ⟨i.val / 32, by omega⟩ (by show i.val / 32 < 128; omega) h ⟨i.val % 32, by omega⟩ v).trans ?_
  rw [row_eq]

theorem o_out (i : Fin 4096) (h : Fin 8) (v : Fin 128) : R_main_v78 s (ix2 i (hd h v)) = ((hgO (parts P) L h i.val v : ℝ) : EReal) := by
  refine Eq.trans ?_ (joined P L B i h v)
  pointwise [R_main_v78]
  rw [hd_head, hd_lane]

theorem t_out (h : Fin 8) (n : Fin 64) (v k : Fin 128) : R_main_v82 s (ix4 h n v k) = ((hgS (parts P) L h (64 * n.val) k v : ℝ) : EReal) := by
  have := n.isLt
  have e := B.t ⟨2 * n.val, by omega⟩ (by show 2 * n.val < 128; omega) h k v
  rw [show 64 * n.val = 32 * (2 * n.val) by ring]
  refine Eq.trans ?_ e
  pointwise [R_main_v82]

/-- The outputs of a position and head, in the reference's four axes. -/
theorem heads_at (i : Fin 4096) (h : Fin 8) (v : Fin 128) :
    shapeCast S1x4096x8x128 (transpose S1x128x32x8x128 [1, 0, 3, 2, 4] (s.main_v56_7) transposes_S128x1x8x32x128_S1x128x32x8x128_1_0_3_2_4) shapeCasts_S1x128x32x8x128_S1x4096x8x128 (ix4 0 i h v)
      = ((hgO (parts P) L h i.val v : ℝ) : EReal) := by
  refine Eq.trans ?_ (joined P L B i h v)
  pointwise []

theorem y_out (x : (⟨S1x4096x4096, .f32⟩ : BufTy).Contents (Elt Ideal)) (hx : ∀ s e, x (ix3 0 s e) = ((P s e : ℝ) : EReal))
    (g : (⟨S128, .f32⟩ : BufTy).Contents (Elt Ideal)) (hg : ∀ e, g (ix1 e) = ((w e : ℝ) : EReal)) (i : Fin 4096) (h : Fin 8) (v : Fin 128) :
    R_main_v79 s x g (ix2 i (hd h v)) = ((hgY (parts P) L w h i.val v : ℝ) : EReal) := by
  unfold R_main_v79
  have e := heads_at P L B
  generalize shapeCast S1x4096x8x128 (transpose S1x128x32x8x128 [1, 0, 3, 2, 4] (s.main_v56_7) transposes_S128x1x8x32x128_S1x128x32x8x128_1_0_3_2_4) shapeCasts_S1x128x32x8x128_S1x4096x8x128 = q at e ⊢
  pointwise []
  rw [hd_head, hd_lane]
  simp only [e, hx, hg]
  have hp : 0 < (∑ c, hgO (parts P) L h i.val c * hgO (parts P) L h i.val c) / 128 + eps :=
    add_pos_of_nonneg_of_pos (div_nonneg (Finset.sum_nonneg fun _ _ => mul_self_nonneg _) (by norm_num)) eps_pos
  rw [part_at P 3 i (hd h v) (3072 + (hd h v).val) rfl, logi_quot, lit_128, lit_eps]
  simp only [← EReal.coe_mul, coe_sum]
  rw [div_real _ (by norm_num), ← EReal.coe_add, rsqrt_real hp]
  simp only [← EReal.coe_mul]
  rfl
end

end Cert.HgrnMixRefIdeal.Trips

end
-- ==== Proof.HgrnMixClaim.lean ====
/-
  The value claim of the recurrence's forward call: at finite arguments both programs end with the same outputs, normed
  outputs and states. The frames come from the kernel's run over any values and from the reference's own.
-/
module

public import proofs.«01_k».proof.Defs
public import proofs.«01_k».proof.Proof.ScanValue
public import proofs.«01_k».proof.Proof.ScanRefOut
public import proofs.«01_k».proof.Proof.Gen.HgrnMix
public import proofs.«01_k».proof.Proof.Gen.Pre_hgf_finite
public import Idealize.ShloMosaic.Lib.Claim

@[expose] public section

set_option maxRecDepth 16384

noncomputable section

open Idealize.ShloMosaic Idealize.SL.Sem Idealize.ShloMosaic.Tactic

namespace Cert.Step

set_option maxHeartbeats 4000000 in
/-- The kernel terminates and leaves its arguments as they were. -/
theorem hgf_frame : letI := Cert.HgrnMix.Gen.facts; Cert.quiescent_HgrnMix :=
  fun m ρ _ => cast (by sl_kernel_rfl) (Cert.HgrnMixIdeal.Run.frame (F := Bits) m ρ)

theorem hgf_frame_ideal : letI := Cert.HgrnMixIdeal.Gen.facts; Cert.quiescent_HgrnMixIdeal :=
  fun m ρ _ => Cert.HgrnMixIdeal.Run.frame (F := Ideal) m ρ

/-- The reference terminates and leaves its arguments as they were. -/
theorem hgf_ref_frame : letI := Cert.HgrnMixRefIdeal.Gen.facts; Cert.quiescent_HgrnMixRefIdeal := fun m ρ _ =>
  (θ_run Cert.HgrnMixRefIdeal.defs _ _).mono (fun r h => ⟨fun c => (h c).2.2.2, sem_eq_zero_of_no_sems (by decide) r.2⟩)
    (Cert.HgrnMixRefIdeal.Trips.run (F := Ideal) m ρ)

section
variable (m : (ℓ : Loc Cert.HgrnMixRefIdeal.nD Cert.HgrnMixRefIdeal.τ Cert.HgrnMixRefIdeal.sig) → Buf (Elt Ideal) ℓ) (c : Dev Cert.HgrnMixRefIdeal.nD)
variable (P : Fin 4096 → Fin 4096 → ℝ) (L : Fin 2 → Fin 1024 → ℝ)
variable (hP : ∀ s e, m ((c.tc : Thread Cert.HgrnMixRefIdeal.nD Cert.HgrnMixRefIdeal.τ).loc Cert.HgrnMixRefIdeal.main_arg0) (ix3 0 s e) = ((P s e : ℝ) : EReal))
variable (hL : ∀ j d, m ((c.tc : Thread Cert.HgrnMixRefIdeal.nD Cert.HgrnMixRefIdeal.τ).loc Cert.HgrnMixRefIdeal.main_arg1) (ix2 j d) = ((L j d : ℝ) : EReal))

include hP hL
/-- The loop's state before trip `n`. -/
theorem st_holds : ∀ n, n ≤ 128 → Cert.HgrnMixRefIdeal.Trips.Holds (parts P) L (Cert.HgrnMixRefIdeal.Trips.st (F := Ideal) m c n) n
  | 0, _ => Cert.HgrnMixRefIdeal.Trips.init_holds _ _ P L hP hL
  | n + 1, hn => Cert.HgrnMixRefIdeal.Trips.next_holds (j := ⟨n, hn⟩) (st_holds n (by omega))
end

theorem hgf_algebraic : letI := Cert.HgrnMixIdeal.Gen.facts; letI := Cert.HgrnMixRefIdeal.Gen.facts; letI := Cert.Pre_hgf_finite.Gen.facts;
    Cert.algebraic_HgrnMixIdeal_HgrnMixRefIdeal_pre_hgf_finite := by
  intro m g m' g' hpre hargs
  refine ⟨fun c => (Cert.HgrnMixIdeal.Run.dats m 0 c).arrAt 6 Cert.HgrnMixIdeal.cfg0.N,
    fun c => (Cert.HgrnMixIdeal.Run.dats m 0 c).arrAt 7 Cert.HgrnMixIdeal.cfg0.N,
    fun c => (Cert.HgrnMixIdeal.Run.dats m 0 c).arrAt 8 Cert.HgrnMixIdeal.cfg0.N, ?_, ?_⟩
  · run_from Cert.HgrnMixIdeal.Run.run_main m g
  · refine (θ_run Cert.HgrnMixRefIdeal.defs _ _).mono (fun r h c => ?_) (Cert.HgrnMixRefIdeal.Trips.run (F := Ideal) m' g')
    obtain ⟨p0, p1, p2⟩ := hpre c
    obtain ⟨a0, a1, a2⟩ := hargs c
    obtain ⟨P, hP⟩ := real_rows _ _ p0
    obtain ⟨L, hL⟩ := real_mat _ _ p1
    obtain ⟨w, hw⟩ := real_vec _ _ p2
    obtain ⟨h0, h1, h2, k⟩ := h c
    have e0 := Cert.HgrnMixIdeal.Run.final_o m c P L w (hP 0) hL hw
    have e1 := Cert.HgrnMixIdeal.Run.final_y m c P L w (hP 0) hL hw
    have e2 := Cert.HgrnMixIdeal.Run.final_t m c P L w (hP 0) hL hw
    rw [← a0] at hP
    rw [← a1] at hL
    rw [← a2] at hw
    have B := st_holds m' c P L (hP 0) hL 128 le_rfl
    refine ⟨h0.trans (Eq.trans (funext fun y => ?_) e0.symm), h1.trans (Eq.trans (funext fun y => ?_) e1.symm), h2.trans (Eq.trans (funext fun y => ?_) e2.symm), k⟩
    · idx_vars y
      rw [Cert.HgrnMixIdeal.Run.col_hd y1]
      exact (Cert.HgrnMixRefIdeal.Trips.o_out P L B y0 _ _).trans (Cert.HgrnMixIdeal.Run.arrO_hd P L y0 _ _).symm
    · idx_vars y
      rw [Cert.HgrnMixIdeal.Run.col_hd y1]
      exact (Cert.HgrnMixRefIdeal.Trips.y_out P L w B _ (hP 0) _ hw y0 _ _).trans (Cert.HgrnMixIdeal.Run.arrY_hd P L w y0 _ _).symm
    · idx_vars y
      exact Cert.HgrnMixRefIdeal.Trips.t_out P L B y0 y1 y2 y3

end Cert.Step

end
-- ==== Proof.NormRow.lean ====
/-
  One row of the root-mean-square norm over the extended reals, where it needs no finite entries: the row's
  reciprocal root mean square, and the row scaled by it and by the gain.
-/
module

public import proofs.«01_k».proof.Proof.RealLaws

@[expose] public section

noncomputable section

namespace Cert.Step

open Idealize.ShloMosaic

/-- A row's reciprocal root mean square. -/
def rowScale (x : Fin 1024 → EReal) : EReal :=
  Ideal.rsqrt (Ideal.div (∑ k, x k * x k) (Ideal.ofBits .f32 0x44800000#32) + Ideal.ofBits .f32 0x358637BD#32)

/-- The normed row. -/
def normRow (x g : Fin 1024 → EReal) (d : Fin 1024) : EReal := x d * rowScale x * g d

/-- The normed row times a column of the weight. -/
def normDot (x g w : Fin 1024 → EReal) : EReal := ∑ d, normRow x g d * w d

end Cert.Step

end
-- ==== Proof.DwUpRun.lean ====
/-
  The body of the weight gradient whose operand is normed again, run once: what it leaves in the carried normed
  rows, in the accumulated product and in the output's block.
-/
module

public import proofs.«01_k».proof.Proof.Gen.FfnDwUpIdeal.Skeleton
public import proofs.«01_k».proof.Proof.Gen.FfnDwUpIdeal.Frame
public import Idealize.ShloMosaic.Lib.Pipeline.TableIdle
public import Idealize.ShloMosaic.Lib.VecWindow
public import Idealize.ShloMosaic.Lib.Exec

@[expose] public section

set_option maxRecDepth 16384

noncomputable section

namespace Cert.FfnDwUpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.FfnDwUpIdeal Cert.FfnDwUpIdeal.Gen

variable {F : FTy → Type} [FloatOps F]

local notation "𝕄" => MT nD τ sig Unit (Elt F) ℕ (UR sig nD τ) ℕ

/-- The point is the first of its run: the accumulated product starts again. -/
abbrev starts (i : grid0.Coords) : Prop := (Scalar.cmpi .ne (Scalar.extui (Scalar.cmpi .eq (BitVec.ofNat 32 (i 2).val) 0#32)) 0#32) = 1#1

variable (c : Dev nD) (i : grid0.Coords)

/-- The carried normed rows after the point: its block of rows is normed at the points of the first column block. -/
def rowsAfter (x0 : Vec F S1024x1024 .f32) (x2 : Vec F S1x1024 .f32) (xn : Vec F S4x1024x1024 .bf16) : Vec F S4x1024x1024 .bf16 :=
  if k0_cond1 i = 1#1 then VecWindow.put xn (k0_off1 i) S1x1024x1024.size (k0_pay1 x0 x2) else xn

/-- The accumulated product after the point. -/
def accAfter (x1 : Vec F S1x1024x1408 .bf16) (xn : Vec F S4x1024x1024 .bf16) (xa : Vec F S1024x1408 .f32) : Vec F S1024x1408 .f32 :=
  k0_pay3 (VecWindow.window xn (k0_off2 i) S1x1024x1024.size (k0_off2_inb i)) (if starts i then k0_pay2 else xa) x1

/-- The output's block after the point. -/
def outAfter (a : Vec F S1024x1408 .f32) (xo : Vec F S1x1024x1408 .f32) : Vec F S1x1024x1408 .f32 :=
  if k0_cond3 i = 1#1 then k0_pay4 a else xo

variable (arg3 : Memref sig .tc .vmem S1024x1024 .f32) (harg3 : arg3.IsWhole) (arg4 : Memref sig .tc .vmem S1x1024x1408 .bf16) (harg4 : arg4.IsWhole)
variable (arg5 : Memref sig .tc .vmem S1x1024 .f32) (harg5 : arg5.IsWhole) (arg6 : Memref sig .tc .vmem S1x1024x1408 .f32) (harg6 : arg6.IsWhole)
variable (arg7 : Memref sig .tc .vmem S1024x1408 .f32) (harg7 : arg7.IsWhole) (arg8 : Memref sig .tc .vmem S4x1024x1024 .bf16) (harg8 : arg8.IsWhole)
variable (x0 : Vec F S1024x1024 .f32) (x1 : Vec F S1x1024x1408 .bf16) (x2 : Vec F S1x1024 .f32) (xo : Vec F S1x1024x1408 .f32)
  (xa : Vec F S1024x1408 .f32) (xn : Vec F S4x1024x1024 .bf16)

/-- The three inputs' staging buffers at their contents. -/
abbrev ins : sProp 𝕄 :=
  iprop(owns (c : Thread nD τ) arg3 fullShare x0 ∗ owns (c : Thread nD τ) arg4 fullShare x1 ∗ owns (c : Thread nD τ) arg5 fullShare x2)

/-! What the body's loads and stores read. -/

theorem read3 : View.readAt (Elt F) arg3.view (Rect.unit ![0, 0] ![1024, 1024] inb_S1024x1024_S1024x1024_0_0).toLoadRect (harg3.unread x0) = x0 :=
  (View.readAt_full arg3.view _ inb_S1024x1024_S1024x1024_0_0).trans (harg3.read_unread _)

theorem read4 : View.readAt (Elt F) arg4.view (Rect.unit ![0, 0, 0] ![1, 1024, 1408] inb_S1x1024x1408_S1x1024x1408_0_0_0).toLoadRect (harg4.unread x1) = x1 :=
  (View.readAt_full arg4.view _ inb_S1x1024x1408_S1x1024x1408_0_0_0).trans (harg4.read_unread _)

theorem read5 : View.readAt (Elt F) arg5.view (Rect.unit ![0, 0] ![1, 1024] inb_S1x1024_S1x1024_0_0).toLoadRect (harg5.unread x2) = x2 :=
  (View.readAt_full arg5.view _ inb_S1x1024_S1x1024_0_0).trans (harg5.read_unread _)

theorem read7 : View.readAt (Elt F) arg7.view (Rect.unit ![0, 0] ![1024, 1408] inb_S1024x1408_S1024x1408_0_0).toLoadRect (harg7.unread xa) = xa :=
  (View.readAt_full arg7.view _ inb_S1024x1408_S1024x1408_0_0).trans (harg7.read_unread _)

theorem cov7 (w : Vec F S1024x1408 .f32) (L : List (View.Piece (Elt F) S1024x1408 .f32)) :
    arg7.view.readCov (⟨Rect.unit ![0, 0] ![1024, 1408] inb_S1024x1408_S1024x1408_0_0, w⟩ :: L)
      (Rect.unit ![0, 0] ![1024, 1408] inb_S1024x1408_S1024x1408_0_0).toLoadRect = w :=
  View.readCov_full arg7.view inb_S1024x1408_S1024x1408_0_0 inb_S1024x1408_S1024x1408_0_0 w L

theorem left7 (f : arg7.view.ty.Contents (Elt F)) (w : Vec F S1024x1408 .f32) (L : List (View.Piece (Elt F) S1024x1408 .f32)) :
    View.read (Elt F) arg7.view (arg7.view.writes (Elt F) f (⟨Rect.unit ![0, 0] ![1024, 1408] inb_S1024x1408_S1024x1408_0_0, w⟩ :: L)) = w :=
  View.read_writes_full arg7.view f inb_S1024x1408_S1024x1408_0_0 w L

theorem left6 (f : arg6.view.ty.Contents (Elt F)) (w : Vec F S1x1024x1408 .f32) (L : List (View.Piece (Elt F) S1x1024x1408 .f32)) :
    View.read (Elt F) arg6.view (arg6.view.writes (Elt F) f (⟨Rect.unit ![0, 0, 0] ![1, 1024, 1408] inb_S1x1024x1408_S1x1024x1408_0_0_0, w⟩ :: L)) = w :=
  View.read_writes_full arg6.view f inb_S1x1024x1408_S1x1024x1408_0_0_0 w L

theorem slab8 (inb : ∀ a, k0_off2 i a + (![1, 1024, 1024] : Fin 3 → ℕ) a ≤ S4x1024x1024.size a) :
    View.readAt (Elt F) arg8.view (Rect.unit (s := S4x1024x1024) (k0_off2 i) ![1, 1024, 1024] inb).toLoadRect (harg8.unread xn)
      = VecWindow.window xn (k0_off2 i) S1x1024x1024.size (k0_off2_inb i) :=
  (View.readAt_unit arg8.view _ inb rfl (k0_off2_inb i)).trans (by rw [harg8.read_unread])

theorem window_put_eq {off off' : Fin 3 → ℕ} (h : off = off') (x : Vec F S4x1024x1024 .bf16)
    (inb : ∀ a, off' a + S1x1024x1024.size a ≤ S4x1024x1024.size a) (w : Vec F S1x1024x1024 .bf16) :
    VecWindow.window (s := S4x1024x1024) (VecWindow.put (s := S4x1024x1024) x off S1x1024x1024.size w) off' S1x1024x1024.size inb = w := by
  subst h; exact VecWindow.window_put_same x off _ inb w

theorem cov8 (inb' : ∀ a, k0_off1 i a + (![1, 1024, 1024] : Fin 3 → ℕ) a ≤ S4x1024x1024.size a)
    (inb : ∀ a, k0_off2 i a + (![1, 1024, 1024] : Fin 3 → ℕ) a ≤ S4x1024x1024.size a) (w : Vec F S1x1024x1024 .bf16) :
    arg8.view.readCov [⟨Rect.unit (s := S4x1024x1024) (k0_off1 i) ![1, 1024, 1024] inb', w⟩] (Rect.unit (s := S4x1024x1024) (k0_off2 i) ![1, 1024, 1024] inb).toLoadRect
      = VecWindow.window (VecWindow.put xn (k0_off1 i) S1x1024x1024.size w) (k0_off2 i) S1x1024x1024.size (k0_off2_inb i) :=
  have h : k0_off1 i = k0_off2 i := (Gen.k0_off1_eq i).trans (Gen.k0_off2_eq i).symm
  ((View.readAt_unit arg8.view _ inb rfl (k0_off2_inb i)).trans
    (by rw [View.read_writes_cons_put arg8.view _ inb' w [] rfl]; exact window_put_eq h _ _ w)).trans (window_put_eq h xn _ w).symm

theorem left8 (inb' : ∀ a, k0_off1 i a + (![1, 1024, 1024] : Fin 3 → ℕ) a ≤ S4x1024x1024.size a) (w : Vec F S1x1024x1024 .bf16) :
    View.read (Elt F) arg8.view (arg8.view.writes (Elt F) (harg8.unread xn) [⟨Rect.unit (s := S4x1024x1024) (k0_off1 i) ![1, 1024, 1024] inb', w⟩])
      = VecWindow.put xn (k0_off1 i) S1x1024x1024.size w :=
  (View.read_writes_cons_put arg8.view _ inb' w [] rfl).trans
    (by rw [View.writes_nil, harg8.read_unread]; try rfl)

set_option maxHeartbeats 2000000 in
theorem run (E : Set ℕ) (K : PUnit → sProp 𝕄) :
    iprop(ins c arg3 arg4 arg5 x0 x1 x2 ∗ owns (c : Thread nD τ) arg6 fullShare xo ∗ owns (c : Thread nD τ) arg7 fullShare xa ∗ owns (c : Thread nD τ) arg8 fullShare xn
        ∗ (iprop(ins c arg3 arg4 arg5 x0 x1 x2
            ∗ owns (c : Thread nD τ) arg6 fullShare (outAfter i (accAfter i x1 (rowsAfter i x0 x2 xn) xa) xo)
            ∗ owns (c : Thread nD τ) arg7 fullShare (accAfter i x1 (rowsAfter i x0 x2 xn) xa)
            ∗ owns (c : Thread nD τ) arg8 fullShare (rowsAfter i x0 x2 xn)) -∗ K ⟨⟩))
      ⊢ wp frame (wpE (defs₀ (F := F)) Variants.none c none) E (cc0_ffn_dwup i arg3 harg3 arg4 harg4 arg5 harg5 arg6 harg6 arg7 harg7 arg8 harg8) K := by
  simp only [cc0_ffn_dwup_eq_skeleton]; unfold cc0_ffn_dwup_skel
  unfold ins owns
  iintro ⟨⟨⟨%f0, %hf0, H0⟩, ⟨%f1, %hf1, H1⟩, ⟨%f2, %hf2, H2⟩⟩, ⟨%f3, %hf3, H3⟩, ⟨%fa, %hfa, HA⟩, ⟨%fn, %hfn, HN⟩, Hk⟩
  obtain rfl := harg3.eq_unread hf0; obtain rfl := harg4.eq_unread hf1; obtain rfl := harg5.eq_unread hf2
  obtain rfl := harg6.eq_unread hf3; obtain rfl := harg7.eq_unread hfa; obtain rfl := harg8.eq_unread hfn
  by_cases h1 : k0_cond1 i = 1#1 <;> by_cases h2 : starts i <;> by_cases h3 : k0_cond3 i = 1#1
  all_goals
    sl_exec (disch := first | sl_exact h1 | sl_exact h2 | sl_exact h3)
    sl_step
    iapply Hk
    isplitl [H0 H1 H2]
    · isplitl [H0]
      · iexists _; isplitr; · ipureintro; exact harg3.read_unread _
        iexact H0
      isplitl [H1]
      · iexists _; isplitr; · ipureintro; exact harg4.read_unread _
        iexact H1
      iexists _; isplitr; · ipureintro; exact harg5.read_unread _
      iexact H2
    isplitl [H3]
    · iexists _; isplitr; swap; · iexact H3
      ipureintro
      simp only [outAfter, accAfter, rowsAfter]
      first | rw [if_pos h1] | rw [if_neg h1] | skip
      first | rw [if_pos h2] | rw [if_neg h2] | skip
      first | rw [if_pos h3] | rw [if_neg h3] | skip
      sl_unfold_run_names
      simp only [read3, read4, read5, read7, cov7, left7, left6, slab8, cov8 i arg8 xn, left8, harg6.read_unread, harg7.read_unread, harg8.read_unread]
    isplitl [HA]
    · iexists _; isplitr; swap; · iexact HA
      ipureintro
      simp only [outAfter, accAfter, rowsAfter]
      first | rw [if_pos h1] | rw [if_neg h1] | skip
      first | rw [if_pos h2] | rw [if_neg h2] | skip
      first | rw [if_pos h3] | rw [if_neg h3] | skip
      sl_unfold_run_names
      simp only [read3, read4, read5, read7, cov7, left7, left6, slab8, cov8 i arg8 xn, left8, harg6.read_unread, harg7.read_unread, harg8.read_unread]
    iexists _; isplitr; swap; · iexact HN
    ipureintro
    simp only [rowsAfter]
    first | rw [if_pos h1] | rw [if_neg h1]
    sl_unfold_run_names
    simp only [read3, read4, read5, read7, cov7, left7, left6, slab8, cov8 i arg8 xn, left8, harg6.read_unread, harg7.read_unread, harg8.read_unread]

end Cert.FfnDwUpIdeal.Run

end
-- ==== Proof.DwUpLaunch.lean ====
/-
  The launch of the weight gradient whose operand is normed again: what is carried into every point, what the output
  holds after it, the pipeline's proof data, the body at every point, and the run of the whole program at any values.
-/
module

public import proofs.«01_k».proof.Proof.DwUpRun
public import Idealize.ShloMosaic.Lib.Pipeline.ValueKit

@[expose] public section

set_option maxRecDepth 16384

noncomputable section

namespace Cert.FfnDwUpIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FfnDwUpIdeal Cert.FfnDwUpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- Rows are normed at the points of the first column block. -/
theorem norms_iff : ∀ t : Fin cfg0.N, k0_cond1 (grid0.coords t) = 1#1 ↔ t.val < 4 :=
  (by decide +kernel : ∀ t : Fin grid0.N, k0_cond1 (grid0.coords t) = 1#1 ↔ t.val < 4)

/-- Every fourth point starts a column block. -/
theorem starts_iff : ∀ t : Fin cfg0.N, starts (grid0.coords t) ↔ t.val % 4 = 0 :=
  (by decide +kernel : ∀ t : Fin grid0.N, starts (grid0.coords t) ↔ t.val % 4 = 0)

/-- Every fourth point ends one. -/
theorem ends_iff : ∀ t : Fin cfg0.N, k0_cond3 (grid0.coords t) = 1#1 ↔ t.val % 4 = 3 :=
  (by decide +kernel : ∀ t : Fin grid0.N, k0_cond3 (grid0.coords t) = 1#1 ↔ t.val % 4 = 3)

theorem rowBlock : ∀ t : Fin cfg0.N, ((grid0.coords t) 2).val = t.val % 4 :=
  (by decide +kernel : ∀ t : Fin grid0.N, ((grid0.coords t) 2).val = t.val % 4)

theorem idle3 : ∀ t : Fin cfg0.N, ¬ t.val % 4 = 3 → cfg0.idle 3 (grid0.coords t) = true := by decide +kernel
theorem live3 : ∀ t : Fin cfg0.N, t.val % 4 = 3 → cfg0.idle 3 (grid0.coords t) = false := by decide +kernel
theorem noFlush3 : ∀ t : Fin cfg0.N, ¬ t.val % 4 = 3 → (cfg0.win 3).flush t = false := by decide +kernel
theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl

/-! ## What a point leaves -/

/-- Point number `n`. -/
def pt (n : ℕ) : Fin cfg0.N := ⟨n % cfg0.N, Nat.mod_lt _ (by rw [show cfg0.N = 16 from N_0]; decide)⟩
theorem pt_val (t : Fin cfg0.N) : pt t.val = t := Fin.ext (Nat.mod_eq_of_lt t.isLt)

/-- The blocks that point `n` reads: rows, cotangent, gain. -/
def rowsIn (c : Dev nD) (n : ℕ) : Vec F S1024x1024 .f32 := iblk m c 0 (pt n)
def cotIn (c : Dev nD) (n : ℕ) : Vec F S1x1024x1408 .bf16 := iblk m c 1 (pt n)
def gainIn (c : Dev nD) (n : ℕ) : Vec F S1x1024 .f32 := iblk m c 2 (pt n)

/-- Block `k` of the rows, normed. -/
def normed (c : Dev nD) (k : ℕ) : Vec F S1x1024x1024 .bf16 := k0_pay1 (rowsIn m c k) (gainIn m c k)

/-- The product accumulated before point `n`. -/
def product (c : Dev nD) : ℕ → Vec F S1024x1408 .f32
  | 0 => k0_pay2
  | n + 1 => k0_pay3 (normed m c (n % 4)) (if n % 4 = 0 then k0_pay2 else product c n) (cotIn m c n)

theorem slab_inb (k : ℕ) (hk : k < 4) : ∀ a, (![k, 0, 0] : Fin 3 → ℕ) a + S1x1024x1024.size a ≤ S4x1024x1024.size a := by
  intro a; match a with
  | ⟨0, _⟩ => show k + 1 ≤ 4; omega
  | ⟨1, _⟩ => show 0 + 1024 ≤ 1024; omega
  | ⟨2, _⟩ => show 0 + 1024 ≤ 1024; omega

/-- What the scratches hold before point `n`: the product so far, and the blocks of rows normed so far. -/
def Good (c : Dev nD) (n : ℕ) (a : Vec F S1024x1408 .f32) (x : Vec F S4x1024x1024 .bf16) : Prop :=
  (n ≠ 0 → a = product m c n) ∧ ∀ (k : ℕ) (hk : k < 4), k < n → VecWindow.window x ![k, 0, 0] S1x1024x1024.size (slab_inb k hk) = normed m c k

theorem window_congr {off off' : Fin 3 → ℕ} (h : off = off') (x : Vec F S4x1024x1024 .bf16) (inb : ∀ a, off a + S1x1024x1024.size a ≤ S4x1024x1024.size a)
    (inb' : ∀ a, off' a + S1x1024x1024.size a ≤ S4x1024x1024.size a) :
    VecWindow.window (s := S4x1024x1024) x off S1x1024x1024.size inb = VecWindow.window (s := S4x1024x1024) x off' S1x1024x1024.size inb' := by
  subst h; rfl

theorem off1_at (t : Fin cfg0.N) : k0_off1 (grid0.coords t) = ![t.val % 4, 0, 0] := by
  rw [Gen.k0_off1_eq, rowBlock]
theorem off2_at (t : Fin cfg0.N) : k0_off2 (grid0.coords t) = ![t.val % 4, 0, 0] := by
  rw [Gen.k0_off2_eq, rowBlock]

/-- One point carries it on. -/
theorem good_succ (c : Dev nD) (t : Fin cfg0.N) (a : Vec F S1024x1408 .f32) (x : Vec F S4x1024x1024 .bf16) (h : Good m c t.val a x) :
    Good m c (t.val + 1)
      (accAfter (grid0.coords t) (iblk m c 1 t) (rowsAfter (grid0.coords t) (iblk m c 0 t) (iblk m c 2 t) x) a)
      (rowsAfter (grid0.coords t) (iblk m c 0 t) (iblk m c 2 t) x) := by
  have slabs : ∀ (k : ℕ) (hk : k < 4), k < t.val + 1 →
      VecWindow.window (rowsAfter (grid0.coords t) (iblk m c 0 t) (iblk m c 2 t) x) ![k, 0, 0] S1x1024x1024.size (slab_inb k hk) = normed m c k := by
    intro k hk hlt
    by_cases h4 : t.val < 4
    · rw [rowsAfter, if_pos ((norms_iff t).mpr h4)]
      by_cases hkt : k = t.val
      · rw [window_put_eq ((off1_at t).trans (by rw [Nat.mod_eq_of_lt h4, hkt]))]
        subst hkt
        rw [normed, rowsIn, gainIn, pt_val]
      · refine (VecWindow.window_put_of_disjoint x _ _ _ _ (slab_inb k hk) _ (0 : Fin 3) ?_).trans (h.2 k hk (by omega))
        rw [off1_at]
        left
        show k + 1 ≤ t.val % 4
        omega
    · rw [rowsAfter, if_neg (fun e => h4 ((norms_iff t).mp e))]
      exact h.2 k hk (by omega)
  refine ⟨fun _ => ?_, slabs⟩
  rw [product, accAfter, window_congr (off2_at t) _ _ (slab_inb _ (Nat.mod_lt _ (by decide))), slabs _ (Nat.mod_lt _ (by decide)) (Nat.lt_succ_of_le (Nat.mod_le _ _)), cotIn, pt_val]
  by_cases h0 : t.val % 4 = 0
  · rw [if_pos ((starts_iff t).mpr h0), if_pos h0]
  · rw [if_neg (fun e => h0 ((starts_iff t).mp e)), if_neg h0, h.1 (fun e => h0 (by rw [e]))]

/-! ## The proof data -/

abbrev scAcc : Memref sig .tc .vmem S1024x1408 .f32 := Memref.whole cc0_scratch0
abbrev scRows : Memref sig .tc .vmem S4x1024x1024 .bf16 := Memref.whole cc0_scratch1

/-- The region's invariant: between points the scratches hold what is carried. -/
def PhiS (c : Dev nD) (n : ℕ) : sProp 𝕄 :=
  iprop((∃ a : Vec F S1024x1408 .f32, ∃ x : Vec F S4x1024x1024 .bf16, ⌜Good m c n a x⌝ ∗ owns (c : Thread nD τ) scAcc fullShare a ∗ owns (c : Thread nD τ) scRows fullShare x) ∗ (∃ r, prngReg c r))

theorem PhiA0_eq (c : Dev nD) :
    (Pipeline.ΦA spec0 c : sProp 𝕄)
      = iprop(iprop((∃ d, owns (c : Thread nD τ) scAcc fullShare d) ∗ (∃ d, owns (c : Thread nD τ) scRows fullShare d)) ∗ (∃ r, prngReg c r)) := by
  unfold Pipeline.ΦA; rw [scopedRest0_eq]; simp only [scAcc, scRows, owns_whole]; try rfl

/-- The proof data: the inputs' buffers at their blocks, the output's at the product. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay4 (product m c (t.val + 1))
  Φ t := PhiS m c t.val
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay4 (product m c (t.val + 1)) := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body at every point -/

abbrev mem0 (t : Fin cfg0.N) : Memref sig .tc .vmem S1024x1024 .f32 := win0_0.stage (cfg0.slots t 0)
abbrev mem1 (t : Fin cfg0.N) : Memref sig .tc .vmem S1x1024x1408 .bf16 := win0_1.stage (cfg0.slots t 1)
abbrev mem2 (t : Fin cfg0.N) : Memref sig .tc .vmem S1x1024 .f32 := win0_2.stage (cfg0.slots t 2)
abbrev mem3 (t : Fin cfg0.N) : Memref sig .tc .vmem S1x1024x1408 .f32 := win0_3.stage (cfg0.slots t 3)

def bodyPre (c : Dev nD) (t : Fin cfg0.N) : sProp 𝕄 :=
  iprop((dats m 0 c).Φ t.castSucc ∗ (dats m 0 c).owesAt () t.castSucc
    ∗ (∃ d, owns (c : Thread nD τ) (mem0 t) fullShare ((dats m 0 c).before 0 t d))
    ∗ (∃ d, owns (c : Thread nD τ) (mem1 t) fullShare ((dats m 0 c).before 1 t d))
    ∗ (∃ d, owns (c : Thread nD τ) (mem2 t) fullShare ((dats m 0 c).before 2 t d))
    ∗ (∃ d, owns (c : Thread nD τ) (mem3 t) fullShare ((dats m 0 c).before 3 t d)))
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [show (dats m 0 c).leavesExact 0 t = owns (c : Thread nD τ) (mem0 t) fullShare ((dats m 0 c).after 0 t) from by
      unfold Dat.leavesExact; rw [live0 t], after_0]
  rw [show (dats m 0 c).leavesExact 1 t = owns (c : Thread nD τ) (mem1 t) fullShare ((dats m 0 c).after 1 t) from by
      unfold Dat.leavesExact; rw [live1 t], after_1]
  rw [show (dats m 0 c).leavesExact 2 t = owns (c : Thread nD τ) (mem2 t) fullShare ((dats m 0 c).after 2 t) from by
      unfold Dat.leavesExact; rw [live2 t], after_2]
  unfold PhiS
  by_cases h3 : t.val % 4 = 3
  · rw [show (dats m 0 c).leavesExact 3 t = owns (c : Thread nD τ) (mem3 t) fullShare ((dats m 0 c).after 3 t) from by
      unfold Dat.leavesExact; rw [live3 t h3], after_3]
    iintro ⟨⟨⟨%a, %x, %hg, HA, HN⟩, Hg⟩, Ho, ⟨%d0, H0⟩, ⟨%d1, H1⟩, ⟨%d2, H2⟩, ⟨%d3, H3⟩⟩
    have hs := good_succ m c t a x hg
    iapply (run c (grid0.coords t) (mem0 t) _ (mem1 t) _ (mem2 t) _ (mem3 t) _ scAcc (Memref.isWhole_whole _) scRows (Memref.isWhole_whole _)
      (iblk m c 0 t) (iblk m c 1 t) (iblk m c 2 t) ((dats m 0 c).before 3 t d3) a x Set.univ _)
    unfold ins
    isplitl [H0 H1 H2]
    · isplitl [H0]; · iexact H0
      isplitl [H1]; · iexact H1
      iexact H2
    isplitl [H3]; · iexact H3
    isplitl [HA]; · iexact HA
    isplitl [HN]; · iexact HN
    iintro ⟨⟨H0, H1, H2⟩, H3, HA, HN⟩
    isplitl [HA HN Hg]
    · isplitl [HA HN]
      · iexists _; iexists _
        isplitr; · ipureintro; exact hs
        isplitl [HA]; · iexact HA
        iexact HN
      iexact Hg
    isplitl [Ho]; · iexact Ho
    isplitl [H0]; · iexact H0
    isplitl [H1]; · iexact H1
    isplitl [H2]; · iexact H2
    rw [← hs.1 (Nat.succ_ne_zero _), outAfter, if_pos ((ends_iff t).mpr h3)]
    iexact H3
  · rw [Dat.leavesExact_idle (dats m 0 c) 3 t (idle3 t h3) (noFlush3 t h3)]
    iintro ⟨⟨⟨%a, %x, %hg, HA, HN⟩, Hg⟩, Ho, ⟨%d0, H0⟩, ⟨%d1, H1⟩, ⟨%d2, H2⟩, ⟨%d3, H3⟩⟩
    have hs := good_succ m c t a x hg
    iapply (run c (grid0.coords t) (mem0 t) _ (mem1 t) _ (mem2 t) _ (mem3 t) _ scAcc (Memref.isWhole_whole _) scRows (Memref.isWhole_whole _)
      (iblk m c 0 t) (iblk m c 1 t) (iblk m c 2 t) ((dats m 0 c).before 3 t d3) a x Set.univ _)
    unfold ins
    isplitl [H0 H1 H2]
    · isplitl [H0]; · iexact H0
      isplitl [H1]; · iexact H1
      iexact H2
    isplitl [H3]; · iexact H3
    isplitl [HA]; · iexact HA
    isplitl [HN]; · iexact HN
    iintro ⟨⟨H0, H1, H2⟩, H3, HA, HN⟩
    isplitl [HA HN Hg]
    · isplitl [HA HN]
      · iexists _; iexists _
        isplitr; · ipureintro; exact hs
        isplitl [HA]; · iexact HA
        iexact HN
      iexact Hg
    isplitl [Ho]; · iexact Ho
    isplitl [H0]; · iexact H0
    isplitl [H1]; · iexact H1
    isplitl [H2]; · iexact H2
    iexists d3
    rw [outAfter, if_neg (fun e => h3 ((ends_iff t).mp e))]
    iexact H3

theorem defs₀_row (t : Fin cfg0.N) : defs₀ (F := F) .tc cfg0.body (cfg0.bodyArgs t (cfg0.slots t)) = bodyAt0 t := by
  unfold defs₀; rw [Defs.onTc_tc]

set_option maxHeartbeats 4000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiA0_eq, PhiS]
  iintro ⟨⟨⟨%a, HA⟩, ⟨%x, HN⟩⟩, Hg⟩
  isplitl [HA HN]
  · iexists a; iexists x
    isplitr
    · ipureintro; exact ⟨fun h => absurd rfl h, fun k hk h => absurd h (Nat.not_lt_zero _)⟩
    isplitl [HA]; · iexact HA
    iexact HN
  iexact Hg

theorem hout (c : Dev nD) : (dats m 0 c).Φ (Fin.last cfg0.N) ⊢ Pipeline.ΦA spec0 c := by
  rw [show (dats m 0 c).Φ (Fin.last cfg0.N) = PhiS m c cfg0.N from rfl, PhiA0_eq, PhiS]
  iintro ⟨⟨%a, %x, %hg, HA, HN⟩, Hg⟩
  isplitl [HA HN]
  · isplitl [HA]; · iexists a; iexact HA
    iexists x; iexact HN
  iexact Hg

/-! ## The run -/

set_option backward.isDefEq.respectTransparency.types false in
/-- Every execution ends with the arrays at what the proof data say, and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, at any values: the arguments are unchanged and every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.FfnDwUpIdeal.Run

end
-- ==== Proof.DwUpBlock.lean ====
/-
  The weight gradient whose operand is normed again: what its body's payloads are, read at an index, and the product
  accumulated over a column block's four points.
-/
module

public import proofs.«01_k».proof.Proof.NormRow
public import proofs.«01_k».proof.Proof.DwUpLaunch
public import Idealize.ShloMosaic.Lib.Pipeline.ReadBack

@[expose] public section

set_option maxRecDepth 16384

noncomputable section

namespace Cert.FfnDwUpIdeal.Run

open Idealize.ShloMosaic Idealize.ShloMosaic.TcCoe Idealize.SL.Sem Cert.FfnDwUpIdeal Cert.FfnDwUpIdeal.Gen Cert.Step

/-- The block's normed rows. -/
theorem pay1_at (x : Vec Ideal S1024x1024 .f32) (g : Vec Ideal S1x1024 .f32) (z : Fin 1) (r : Fin 1024) (d : Fin 1024) :
    k0_pay1 (F := Ideal) x g (ix3 z r d) = normRow (fun k => x (ix2 r k)) (fun k => g (ix2 0 k)) d := by
  pointwise [k0_pay1]
  rfl

theorem pay2_at (d : Fin 1024) (j : Fin 1408) : k0_pay2 (F := Ideal) (ix2 d j) = 0 := by
  pointwise [k0_pay2]

theorem pay3_at (v : Vec Ideal S1x1024x1024 .bf16) (a : Vec Ideal S1024x1408 .f32) (y : Vec Ideal S1x1024x1408 .bf16) (d : Fin 1024) (j : Fin 1408) :
    k0_pay3 (F := Ideal) v a y (ix2 d j) = a (ix2 d j) + ∑ r : Fin 1024, v (ix3 0 r d) * y (ix3 0 r j) := by
  pointwise [k0_pay3]

theorem pay4_at (a : Vec Ideal S1024x1408 .f32) (z : Fin 1) (d : Fin 1024) (j : Fin 1408) :
    k0_pay4 (F := Ideal) a (ix3 z d j) = a (ix2 d j) := by
  pointwise [k0_pay4]

theorem idx : ∀ t : Fin cfg0.N, win0_0.index t = ![if t.val < 4 then t.val else 0, 0] ∧ win0_1.index t = ![t.val / 4, t.val % 4, 0]
    ∧ win0_2.index t = ![0, 0] ∧ win0_3.index t = ![t.val / 4, 0, 0] :=
  (by decide +kernel : ∀ t : Fin grid0.N, _)

variable (m : (ℓ : Loc nD τ sig) → Buf (Elt Ideal) ℓ) (c : Dev nD)

theorem lt16 (t : Fin cfg0.N) : t.val < 16 := lt_of_lt_of_eq t.isLt N_0

/-- Row `r` of row block `k` in the whole array. -/
def row (k : Fin 4) (r : Fin 1024) : Fin 4096 := ⟨k.val * 1024 + r.val, by have := k.isLt; have := r.isLt; omega⟩

/-- Column `j` of column block `s` in the whole array. -/
def col (s : Fin 4) (j : Fin 1408) : Fin 5632 := ⟨s.val * 1408 + j.val, by have := s.isLt; have := j.isLt; omega⟩

/-- The point of column block `s` and row block `k`. -/
def at2 (s k : Fin 4) : Fin cfg0.N := ⟨s.val * 4 + k.val, by rw [show cfg0.N = 16 from N_0]; have := s.isLt; have := k.isLt; omega⟩

theorem rows_at (k : Fin 4) (r d : Fin 1024) :
    rowsIn (F := Ideal) m c k.val (ix2 r d) = m ((c.tc : Thread nD τ).loc main_arg0) (ix3 0 (row k r) d) := by
  have e : pt k.val = at2 0 k := Fin.ext (show k.val % cfg0.N = 0 * 4 + k.val by rw [show cfg0.N = 16 from N_0]; have := k.isLt; omega)
  have hk : (at2 0 k).val = k.val := by show 0 * 4 + k.val = k.val; omega
  rw [rowsIn, e]
  have := k.isLt
  blk_point [iblk, V, idx (at2 0 k)]
  all_goals simp [row, hk]

theorem cot_at (s k : Fin 4) (z : Fin 1) (r : Fin 1024) (j : Fin 1408) :
    cotIn (F := Ideal) m c (s.val * 4 + k.val) (ix3 z r j) = m ((c.tc : Thread nD τ).loc main_arg3) (ix3 0 (row k r) (col s j)) := by
  have e : pt (s.val * 4 + k.val) = at2 s k := pt_val (at2 s k)
  have hs : (at2 s k).val / 4 = s.val := by show (s.val * 4 + k.val) / 4 = s.val; have := k.isLt; omega
  have hk : (at2 s k).val % 4 = k.val := by show (s.val * 4 + k.val) % 4 = k.val; have := k.isLt; omega
  rw [cotIn, e]
  have := k.isLt
  have := s.isLt
  blk_point [iblk, V, idx (at2 s k)]
  all_goals simp [row, col, hs, hk]

theorem gain_at (n : ℕ) (d : Fin 1024) :
    gainIn (F := Ideal) m c n (ix2 0 d) = m ((c.tc : Thread nD τ).loc main_arg1) (ix1 d) := by
  rw [gainIn]
  blk_point [iblk, V, idx (pt n)]

/-- What row block `k` adds to entry `(d, j)` of column block `s`. -/
def part (s k : Fin 4) (d : Fin 1024) (j : Fin 1408) : EReal :=
  ∑ r : Fin 1024, normRow (fun q => m ((c.tc : Thread nD τ).loc main_arg0) (ix3 0 (row k r) q)) (fun q => m ((c.tc : Thread nD τ).loc main_arg1) (ix1 q)) d
    * m ((c.tc : Thread nD τ).loc main_arg3) (ix3 0 (row k r) (col s j))

theorem product_succ (s k : Fin 4) (d : Fin 1024) (j : Fin 1408) :
    product (F := Ideal) m c (s.val * 4 + k.val + 1) (ix2 d j)
      = (if k = 0 then 0 else product (F := Ideal) m c (s.val * 4 + k.val) (ix2 d j)) + part m c s k d j := by
  have hk : (s.val * 4 + k.val) % 4 = k.val := by have := k.isLt; omega
  rw [product, pay3_at, hk]
  refine congrArg₂ (· + ·) ?_ ?_
  · by_cases h : k = 0
    · subst h; rw [if_pos rfl, if_pos (show ((0 : Fin 4) : ℕ) = 0 from rfl), pay2_at]
    · rw [if_neg h, if_neg (show ¬ k.val = 0 from fun e => h (Fin.ext e))]
  · refine Finset.sum_congr rfl fun r _ => ?_
    rw [normed, pay1_at, cot_at]
    simp only [rows_at, gain_at]

/-- The product at the end of a column block: the four parts. -/
theorem product_end (s : Fin 4) (d : Fin 1024) (j : Fin 1408) :
    product (F := Ideal) m c (s.val * 4 + 4) (ix2 d j) = ∑ k : Fin 4, part m c s k d j := by
  have h0 := product_succ m c s 0 d j
  have h1 := product_succ m c s 1 d j
  have h2 := product_succ m c s 2 d j
  have h3 := product_succ m c s 3 d j
  rw [if_pos rfl, zero_add] at h0
  rw [if_neg (by decide)] at h1 h2 h3
  rw [Fin.sum_univ_four]
  exact h3.trans (congrArg (· + _) (h2.trans (congrArg (· + _) (h1.trans (congrArg (· + _) h0)))))

end Cert.FfnDwUpIdeal.Run

end
-- ==== Proof.DwUpClaim.lean ====
/-
  The weight gradient whose operand is normed again against the gradient of the same lines on whole arrays: both are
  the same sums, at any arguments.
-/
module

public import proofs.«01_k».proof.Proof.DwUpBlock
public import proofs.«01_k».proof.Defs
public import proofs.«01_k».proof.Proof.Gen.FfnDwUp
public import proofs.«01_k».proof.Proof.Gen.FfnDwUpIdeal
public import proofs.«01_k».proof.Proof.Gen.FfnDwUpRefIdeal
public import proofs.«01_k».proof.Proof.Gen.FfnDwUpRefIdeal.Run
public import proofs.«01_k».proof.Proof.Gen.FfnDwUpRefIdeal.Read
public import Idealize.ShloMosaic.Adequacy
public import Idealize.ShloMosaic.Lib.Tactic

@[expose] public section

set_option maxRecDepth 16384

noncomputable section

open Idealize.ShloMosaic Idealize.ShloMosaic.TcCoe Idealize.SL.Sem

namespace Cert.FfnDwUpIdeal.Run

open Cert.FfnDwUpIdeal Cert.FfnDwUpIdeal.Gen Cert.Step

variable (m : (ℓ : Loc nD τ sig) → Buf (Elt Ideal) ℓ) (c : Dev nD)

/-- The result array after the run. -/
theorem final_dw : (dats m 0 c).arrAt 3 cfg0.N = fun i : S4x1024x1408.Idx => ∑ k : Fin 4, part m c (i 0) k (i 1) (i 2) := by
  have key : ∀ (t : Fin cfg0.N) (h : t.val % 4 = 3) (z : Fin 1) (d : Fin 1024) (j : Fin 1408) (i : S4x1024x1408.Idx),
      i = ix3 ⟨t.val / 4, by have := lt16 t; omega⟩ d j →
      k0_pay4 (F := Ideal) (product m c (t.val + 1)) (ix3 z d j) = ∑ k : Fin 4, part m c (i 0) k (i 1) (i 2) := by
    rintro t h z d j i rfl
    rw [pay4_at]
    have e : t.val + 1 = (⟨t.val / 4, by have := lt16 t; omega⟩ : Fin 4).val * 4 + 4 := by dsimp only; omega
    rw [e, product_end]
    rfl
  refine (dats m 0 c).arrAt_eq_of_covers 3 _ (by decide +kernel) fun t hf y => ?_
  have h3 : t.val % 4 = 3 := (flush0_3 t).mp hf
  blk_simp
  rw [after_3]
  idx_vars y
  refine key t h3 y0 y1 y2 _ ?_
  blk_ext [idx t]
  all_goals rfl

end Cert.FfnDwUpIdeal.Run

namespace Cert.Step

section
open Cert.FfnDwUpRefIdeal Cert.FfnDwUpRefIdeal.Read

/-- The reference, read at an index. -/
theorem dwupRef_at (x0 : Vec Ideal S1x4096x1024 .f32) (x1 : Vec Ideal S1024 .f32) (x3 : Vec Ideal S1x4096x5632 .bf16) (s : Fin 4) (d : Fin 1024) (j : Fin 1408) :
    val_main_v19 (F := Ideal) x0 x1 x3 (ix3 s d j)
      = ∑ r : Fin 4096, normRow (fun q => x0 (ix3 0 r q)) (fun q => x1 (ix1 q)) d * x3 (ix3 0 r (Cert.FfnDwUpIdeal.Run.col s j)) := by
  pointwise [val_main_v19, val_main_v18, val_main_v17, val_main_v16, val_main_v15, val_main_v13, val_main_v12, val_main_v11, val_main_v10, val_main_v9, val_main_v8,
    val_main_v7, val_main_v6, val_main_v5, val_main_cst_1, val_main_v4, val_main_v3, val_main_cst_0, val_main_v2, val_main_v1, val_main_cst]
  rw [Fin.sum_univ_one]
  exact Finset.sum_congr rfl fun r _ => mul_comm _ _

end

/-- The reference terminates and leaves its arguments as they were. -/
theorem dwup_ref_frame : letI := Cert.FfnDwUpRefIdeal.Gen.facts; Cert.quiescent_FfnDwUpRefIdeal := fun m ρ _ =>
  (θ_run Cert.FfnDwUpRefIdeal.defs _ _).mono (fun r h => ⟨fun c => (h c).2, sem_eq_zero_of_no_sems (by decide) r.2⟩)
    (Cert.FfnDwUpRefIdeal.Value.run (F := Ideal) m ρ)

/-- The idealized kernel's frame. -/
theorem dwup_frame_ideal : letI := Cert.FfnDwUpIdeal.Gen.facts; Cert.quiescent_FfnDwUpIdeal := fun m ρ _ => Cert.FfnDwUpIdeal.Run.frame m ρ

/-- The kernel's frame: its text is the idealized kernel's, and the run is proved at any values. -/
theorem dwup_frame : letI := Cert.FfnDwUp.Gen.facts; Cert.quiescent_FfnDwUp := fun m ρ _ =>
  cast (by sl_kernel_rfl) (Cert.FfnDwUpIdeal.Run.frame (F := Bits) m ρ)

theorem dwup_algebraic : letI := Cert.FfnDwUpIdeal.Gen.facts; letI := Cert.FfnDwUpRefIdeal.Gen.facts;
    Cert.algebraic_FfnDwUpIdeal_FfnDwUpRefIdeal := by
  intro m g m' g' hpre hargs
  refine ⟨fun c => (Cert.FfnDwUpIdeal.Run.dats m 0 c).arrAt 3 Cert.FfnDwUpIdeal.cfg0.N, ?_, ?_⟩
  · run_from Cert.FfnDwUpIdeal.Run.run_main m g
  · refine (θ_run Cert.FfnDwUpRefIdeal.defs _ _).mono (fun r h c => ?_) (Cert.FfnDwUpRefIdeal.Value.run (F := Ideal) m' g')
    obtain ⟨a0, a1, a2, a3⟩ := hargs c
    obtain ⟨h0, k⟩ := h c
    refine ⟨h0.trans ((Cert.FfnDwUpRefIdeal.Read.val_main_v19_eq _ _ _).trans ?_), k⟩
    rw [a0, a1, a3]
    refine Eq.trans ?_ (Cert.FfnDwUpIdeal.Run.final_dw m c).symm
    funext i
    idx_vars i
    exact (dwupRef_at _ _ _ i0 i1 i2).trans (Fin.sum_univ_tiles 4 1024 rfl _)

end Cert.Step

end
-- ==== Proof.FfnUpBlock.lean ====
/-
  What one block of the normed product computes, read at an index.
-/
module

public import proofs.«01_k».proof.Proof.NormRow
public import proofs.«01_k».proof.Proof.Gen.FfnUpIdeal.Skeleton

@[expose] public section

set_option maxRecDepth 16384

noncomputable section

namespace Cert.FfnUpIdeal.Block

open Idealize.ShloMosaic Cert.FfnUpIdeal Cert.FfnUpIdeal.Gen Cert.Step

/-- Each entry of the block is a normed row times a column of the weight. -/
theorem pay1_at (x : Vec Ideal S1024x1024 .f32) (g : Vec Ideal S1x1024 .f32) (w : Vec Ideal S1x1024x1408 .bf16) (r : Fin 1024) (j : Fin 1408) :
    k0_pay1 (F := Ideal) x g w (ix2 r j)
      = normDot (fun d => x (ix2 r d)) (fun d => g (ix2 0 d)) (fun d => w (ix3 0 d j)) := by
  pointwise [k0_pay1]
  rfl

end Cert.FfnUpIdeal.Block

end
-- ==== Proof.FfnUpValue.lean ====
/-
  The normed product: its result array, from what each block computes.
-/
module

public import proofs.«01_k».proof.Proof.FfnUpBlock
public import proofs.«01_k».proof.Proof.Gen.FfnUpIdeal.Value
public import Idealize.ShloMosaic.Lib.Pipeline.ValueKit
public import Idealize.ShloMosaic.Lib.Pipeline.ReadBack

@[expose] public section

set_option maxRecDepth 16384

noncomputable section

namespace Cert.FfnUpIdeal.Block

open Idealize.ShloMosaic Idealize.ShloMosaic.TcCoe Idealize.SL.Sem Cert.FfnUpIdeal Cert.FfnUpIdeal.Gen Cert.Step

theorem idx : ∀ t : Fin cfg0.N, win0_0.index t = ![t.val / 4, 0] ∧ win0_1.index t = ![t.val % 4, 0, 0]
    ∧ win0_2.index t = ![0, 0] ∧ win0_3.index t = ![t.val / 4, t.val % 4] :=
  (by decide +kernel : ∀ t : Fin grid0.N, _)

variable (m : (ℓ : Loc nD τ sig) → Buf (Elt Ideal) ℓ) (c : Dev nD)

theorem lt16 (t : Fin cfg0.N) : t.val < 16 := lt_of_lt_of_eq t.isLt N_0

/-- The row of the whole array that row `r` of block `t` is. -/
def row (t : Fin cfg0.N) (r : Fin 1024) : Fin 4096 :=
  ⟨t.val / 4 * 1024 + r.val, by have := lt16 t; have := r.isLt; omega⟩

/-- The column of the whole weight that column `j` of block `t` is. -/
def col (t : Fin cfg0.N) (j : Fin 1408) : Fin 5632 :=
  ⟨t.val % 4 * 1408 + j.val, by have := j.isLt; omega⟩

theorem blk_x (t : Fin cfg0.N) (r : Fin 1024) (d : Fin 1024) :
    iblk (F := Ideal) m c 0 t (ix2 r d) = m ((c.tc : Thread nD τ).loc main_arg0) (ix3 0 (row t r) d) := by
  blk_point [iblk, V, idx t]
  all_goals simp [row]

theorem blk_w (t : Fin cfg0.N) (z : Fin 1) (d : Fin 1024) (j : Fin 1408) :
    iblk (F := Ideal) m c 1 t (ix3 z d j) = m ((c.tc : Thread nD τ).loc main_arg2) (ix2 d (col t j)) := by
  have := lt16 t
  blk_point [iblk, V, idx t]
  all_goals simp [col]

theorem blk_g (t : Fin cfg0.N) (d : Fin 1024) :
    iblk (F := Ideal) m c 2 t (ix2 0 d) = m ((c.tc : Thread nD τ).loc main_arg1) (ix1 d) := by
  blk_point [iblk, V, idx t]

/-- The result, after the run. -/
theorem final_up : (dats m 0 c).arrAt 3 cfg0.N = fun i : S4096x5632.Idx =>
    normDot (fun d => m ((c.tc : Thread nD τ).loc main_arg0) (ix3 0 (i 0) d)) (fun d => m ((c.tc : Thread nD τ).loc main_arg1) (ix1 d))
      (fun d => m ((c.tc : Thread nD τ).loc main_arg2) (ix2 d (i 1))) := by
  have key : ∀ (t : Fin cfg0.N) (r : Fin 1024) (j : Fin 1408) (i : S4096x5632.Idx), i = ix2 (row t r) (col t j) →
      k0_pay1 (F := Ideal) (iblk m c 0 t) (iblk m c 2 t) (iblk m c 1 t) (ix2 r j)
        = normDot (fun d => m ((c.tc : Thread nD τ).loc main_arg0) (ix3 0 (i 0) d)) (fun d => m ((c.tc : Thread nD τ).loc main_arg1) (ix1 d))
          (fun d => m ((c.tc : Thread nD τ).loc main_arg2) (ix2 d (i 1))) := by
    rintro t r j i rfl
    rw [pay1_at]
    simp only [blk_x, blk_w, blk_g]
    rfl
  refine (dats m 0 c).arrAt_eq_of_covers 3 _ (by decide +kernel) fun t hf y => ?_
  blk_simp
  rw [after0_3]
  idx_vars y
  refine (congrFun (show out0_3 (iblk m c 0 t) (iblk m c 1 t) (iblk m c 2 t) = k0_pay1 (F := Ideal) (iblk m c 0 t) (iblk m c 2 t) (iblk m c 1 t) by frame_out) _).trans ?_
  refine key t y0 y1 _ ?_
  blk_ext [idx t]
  all_goals rfl

end Cert.FfnUpIdeal.Block

end
-- ==== Proof.FfnUpClaim.lean ====
/-
  The normed product against the same lines on whole arrays: both are the same sums, at any arguments.
-/
module

public import proofs.«01_k».proof.Proof.FfnUpValue
public import proofs.«01_k».proof.Defs
public import proofs.«01_k».proof.Proof.Gen.FfnUpIdeal
public import proofs.«01_k».proof.Proof.Gen.FfnUpRefIdeal
public import proofs.«01_k».proof.Proof.Gen.FfnUpRefIdeal.Run
public import proofs.«01_k».proof.Proof.Gen.FfnUpRefIdeal.Read
public import Idealize.ShloMosaic.Adequacy

@[expose] public section

set_option maxRecDepth 16384

noncomputable section

open Idealize.ShloMosaic Idealize.SL.Sem

namespace Cert.Step

section
open Cert.FfnUpRefIdeal Cert.FfnUpRefIdeal.Read

/-- The reference, read at an index. -/
theorem upRef_at (x0 : Vec Ideal S1x4096x1024 .f32) (x1 : Vec Ideal S1024 .f32) (x2 : Vec Ideal S1024x5632 .bf16) (r : Fin 4096) (j : Fin 5632) :
    val_main_v16 (F := Ideal) x0 x1 x2 (ix2 r j) = normDot (fun d => x0 (ix3 0 r d)) (fun d => x1 (ix1 d)) (fun d => x2 (ix2 d j)) := by
  pointwise [val_main_v16, val_main_v15, val_main_v14, val_main_v13, val_main_v12, val_main_v11, val_main_v10, val_main_v9, val_main_v8,
    val_main_v7, val_main_v6, val_main_v5, val_main_cst_1, val_main_v4, val_main_v3, val_main_cst_0, val_main_v2, val_main_v1, val_main_cst, val_main_v0]
  rfl

end

/-- The reference terminates and leaves its arguments as they were. -/
theorem up_ref_frame : letI := Cert.FfnUpRefIdeal.Gen.facts; Cert.quiescent_FfnUpRefIdeal := fun m ρ _ =>
  (θ_run Cert.FfnUpRefIdeal.defs _ _).mono (fun r h => ⟨fun c => (h c).2, sem_eq_zero_of_no_sems (by decide) r.2⟩)
    (Cert.FfnUpRefIdeal.Value.run (F := Ideal) m ρ)

theorem up_algebraic : letI := Cert.FfnUpIdeal.Gen.facts; letI := Cert.FfnUpRefIdeal.Gen.facts;
    Cert.algebraic_FfnUpIdeal_FfnUpRefIdeal := by
  intro m g m' g' hpre hargs
  refine ⟨fun c => (Cert.FfnUpIdeal.Gen.dats m 0 c).arrAt 3 Cert.FfnUpIdeal.cfg0.N, ?_, ?_⟩
  · run_from Cert.FfnUpIdeal.Gen.run_main m g
  · refine (θ_run Cert.FfnUpRefIdeal.defs _ _).mono (fun r h c => ?_) (Cert.FfnUpRefIdeal.Value.run (F := Ideal) m' g')
    obtain ⟨a0, a1, a2⟩ := hargs c
    obtain ⟨h0, k⟩ := h c
    refine ⟨h0.trans ((Cert.FfnUpRefIdeal.Read.val_main_v16_eq _ _ _).trans ?_), k⟩
    rw [a0, a1, a2]
    refine Eq.trans ?_ (Cert.FfnUpIdeal.Block.final_up m c).symm
    funext i
    idx_vars i
    exact upRef_at _ _ _ i0 i1

end Cert.Step

end
-- ==== Proof.DotSum.lean ====
/-
  The product of two rows of extended reals.
-/
module

public import Idealize.ShloMosaic.PureOps.Ideal
public import Idealize.ShloMosaic.Lib.Pointwise

@[expose] public section

set_option maxRecDepth 16384

noncomputable section

namespace Cert.Step

/-- The sum of the products of two rows' entries. -/
def dotSum {n : ℕ} (a b : Fin n → EReal) : EReal := ∑ d, a d * b d

end Cert.Step

end
-- ==== Proof.FfnDownValue.lean ====
/-
  The product with a residual added: what one block computes, and the result array after the run.
-/
module

public import proofs.«01_k».proof.Proof.DotSum
public import proofs.«01_k».proof.Proof.Gen.FfnDownIdeal.Value
public import Idealize.ShloMosaic.Lib.Pipeline.ValueKit
public import Idealize.ShloMosaic.Lib.Pipeline.ReadBack

@[expose] public section

set_option maxRecDepth 16384

noncomputable section

namespace Cert.FfnDownIdeal.Block

open Idealize.ShloMosaic Idealize.ShloMosaic.TcCoe Idealize.SL.Sem Cert.FfnDownIdeal Cert.FfnDownIdeal.Gen Cert.Step

/-- Each entry of the block is the residual's plus a row times a column of the weight. -/
theorem pay1_at (a : Vec Ideal S1024x2816 .bf16) (w : Vec Ideal S1x2816x1024 .bf16) (h : Vec Ideal S1024x1024 .f32) (r j : Fin 1024) :
    k0_pay1 (F := Ideal) a w h (ix2 r j) = dotSum (fun d => a (ix2 r d)) (fun d => w (ix3 0 d j)) + h (ix2 r j) := by
  pointwise [k0_pay1]
  try rfl

theorem idx : ∀ t : Fin cfg0.N, win0_0.index t = ![t.val, 0] ∧ win0_1.index t = ![0, 0, 0]
    ∧ win0_2.index t = ![t.val, 0] ∧ win0_3.index t = ![t.val, 0] :=
  (by decide +kernel : ∀ t : Fin grid0.N, _)

variable (m : (ℓ : Loc nD τ sig) → Buf (Elt Ideal) ℓ) (c : Dev nD)

/-- The row of the whole array that row `r` of block `t` is. -/
def row (t : Fin cfg0.N) (r : Fin 1024) : Fin 4096 :=
  ⟨t.val * 1024 + r.val, by have := lt_of_lt_of_eq t.isLt N_0; have := r.isLt; omega⟩

theorem blk_a (t : Fin cfg0.N) (r : Fin 1024) (d : Fin 2816) :
    iblk (F := Ideal) m c 0 t (ix2 r d) = m ((c.tc : Thread nD τ).loc main_arg0) (ix2 (row t r) d) := by
  blk_point [iblk, V, idx t]
  all_goals simp [row]

theorem blk_w (t : Fin cfg0.N) (d : Fin 2816) (j : Fin 1024) :
    iblk (F := Ideal) m c 1 t (ix3 0 d j) = m ((c.tc : Thread nD τ).loc main_arg1) (ix3 0 d j) := by
  blk_point [iblk, V, idx t]

theorem blk_h (t : Fin cfg0.N) (r j : Fin 1024) :
    iblk (F := Ideal) m c 2 t (ix2 r j) = m ((c.tc : Thread nD τ).loc main_arg2) (ix2 (row t r) j) := by
  blk_point [iblk, V, idx t]
  all_goals simp [row]

/-- Each entry of the whole result, of the arguments. -/
def down (i : S4096x1024.Idx) : EReal :=
  dotSum (fun d => m ((c.tc : Thread nD τ).loc main_arg0) (ix2 (i 0) d)) (fun d => m ((c.tc : Thread nD τ).loc main_arg1) (ix3 0 d (i 1)))
    + m ((c.tc : Thread nD τ).loc main_arg2) (ix2 (i 0) (i 1))

/-- The result, after the run. -/
theorem final_down : (dats m 0 c).arrAt 3 cfg0.N = fun i : S4096x1024.Idx => down m c i := by
  have key : ∀ (t : Fin cfg0.N) (r j : Fin 1024) (i : S4096x1024.Idx), i = ix2 (row t r) j →
      k0_pay1 (F := Ideal) (iblk m c 0 t) (iblk m c 1 t) (iblk m c 2 t) (ix2 r j) = down m c i := by
    rintro t r j i rfl
    rw [pay1_at]
    simp only [blk_a, blk_w, blk_h]
    rfl
  refine (dats m 0 c).arrAt_eq_of_covers 3 _ (by decide +kernel) fun t hf y => ?_
  blk_simp
  rw [after0_3]
  idx_vars y
  refine (congrFun (show out0_3 (iblk m c 0 t) (iblk m c 1 t) (iblk m c 2 t) = k0_pay1 (F := Ideal) (iblk m c 0 t) (iblk m c 1 t) (iblk m c 2 t) by frame_out) _).trans ?_
  refine key t y0 y1 _ ?_
  blk_ext [idx t]
  all_goals rfl

end Cert.FfnDownIdeal.Block

end
-- ==== Proof.FfnDownClaim.lean ====
/-
  The product with a residual against the same line on whole arrays, at any arguments.
-/
module

public import proofs.«01_k».proof.Proof.FfnDownValue
public import proofs.«01_k».proof.Defs
public import proofs.«01_k».proof.Proof.Gen.FfnDownIdeal
public import proofs.«01_k».proof.Proof.Gen.FfnDownRefIdeal
public import proofs.«01_k».proof.Proof.Gen.FfnDownRefIdeal.Run
public import proofs.«01_k».proof.Proof.Gen.FfnDownRefIdeal.Read
public import Idealize.ShloMosaic.Adequacy

@[expose] public section

set_option maxRecDepth 16384

noncomputable section

open Idealize.ShloMosaic Idealize.SL.Sem

namespace Cert.Step

section
open Cert.FfnDownRefIdeal Cert.FfnDownRefIdeal.Read

/-- The reference, read at an index. -/
theorem nnRef_at (x0 : Vec Ideal S4096x2816 .bf16) (x1 : Vec Ideal S1x2816x1024 .bf16) (x2 : Vec Ideal S4096x1024 .f32) (r : Fin 4096) (j : Fin 1024) :
    val_main_v4 (F := Ideal) x0 x1 x2 (ix2 r j) = dotSum (fun d => x0 (ix2 r d)) (fun d => x1 (ix3 0 d j)) + x2 (ix2 r j) := by
  pointwise [val_main_v4, val_main_v3, val_main_v2, val_main_v1, val_main_v0]
  try rfl

end

/-- The reference terminates and leaves its arguments as they were. -/
theorem nn_ref_frame : letI := Cert.FfnDownRefIdeal.Gen.facts; Cert.quiescent_FfnDownRefIdeal := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

theorem nn_algebraic : letI := Cert.FfnDownIdeal.Gen.facts; letI := Cert.FfnDownRefIdeal.Gen.facts;
    Cert.algebraic_FfnDownIdeal_FfnDownRefIdeal := by
  intro m g m' g' hpre hargs
  refine ⟨fun c => (Cert.FfnDownIdeal.Gen.dats m 0 c).arrAt 3 Cert.FfnDownIdeal.cfg0.N, ?_, ?_⟩
  · run_from Cert.FfnDownIdeal.Gen.run_main m g
  · refine (θ_run Cert.FfnDownRefIdeal.defs _ _).mono (fun r h c => ?_) (Cert.FfnDownRefIdeal.Value.run (F := Ideal) m' g')
    obtain ⟨a0, a1, a2⟩ := hargs c
    obtain ⟨h0, k⟩ := h c
    refine ⟨h0.trans ((Cert.FfnDownRefIdeal.Read.val_main_v4_eq _ _ _).trans ?_), k⟩
    rw [a0, a1, a2]
    refine Eq.trans ?_ (Cert.FfnDownIdeal.Block.final_down m c).symm
    funext i
    idx_vars i
    exact nnRef_at _ _ _ i0 i1

end Cert.Step

end
-- ==== Proof.FfnDactValue.lean ====
/-
  The product with a transposed weight: what one block computes, and the result array after the run.
-/
module

public import proofs.«01_k».proof.Proof.DotSum
public import proofs.«01_k».proof.Proof.Gen.FfnDactIdeal.Value
public import Idealize.ShloMosaic.Lib.Pipeline.ValueKit
public import Idealize.ShloMosaic.Lib.Pipeline.ReadBack

@[expose] public section

set_option maxRecDepth 16384

noncomputable section

namespace Cert.FfnDactIdeal.Block

open Idealize.ShloMosaic Idealize.ShloMosaic.TcCoe Idealize.SL.Sem Cert.FfnDactIdeal Cert.FfnDactIdeal.Gen Cert.Step

/-- Each entry of the block, accumulated from zero in one step, is a row times a row of the weight. -/
theorem pay_at (y : Vec Ideal S1024x1024 .f32) (w : Vec Ideal S1x1408x1024 .bf16) (r : Fin 1024) (j : Fin 1408) :
    k0_pay3 (F := Ideal) (k0_pay2 (F := Ideal) (k0_pay1 (F := Ideal)) y w) (ix2 r j) = dotSum (fun d => y (ix2 r d)) (fun d => w (ix3 0 j d)) := by
  pointwise [k0_pay3, k0_pay2, k0_pay1]
  try rfl

theorem idx : ∀ t : Fin cfg0.N, win0_0.index t = ![t.val / 2, 0] ∧ win0_1.index t = ![0, t.val % 2, 0]
    ∧ win0_2.index t = ![t.val / 2, t.val % 2] :=
  (by decide +kernel : ∀ t : Fin grid0.N, _)

variable (m : (ℓ : Loc nD τ sig) → Buf (Elt Ideal) ℓ) (c : Dev nD)

/-- The row of the whole array that row `r` of block `t` is. -/
def row (t : Fin cfg0.N) (r : Fin 1024) : Fin 4096 :=
  ⟨t.val / 2 * 1024 + r.val, by have := lt_of_lt_of_eq t.isLt N_0; have := r.isLt; omega⟩

/-- The row of the whole weight that row `j` of block `t` is. -/
def col (t : Fin cfg0.N) (j : Fin 1408) : Fin 2816 :=
  ⟨t.val % 2 * 1408 + j.val, by have := j.isLt; omega⟩

theorem blk_y (t : Fin cfg0.N) (r d : Fin 1024) :
    iblk (F := Ideal) m c 0 t (ix2 r d) = m ((c.tc : Thread nD τ).loc main_arg2) (ix2 (row t r) d) := by
  blk_point [iblk, V, idx t]
  all_goals simp [row]

theorem blk_w (t : Fin cfg0.N) (j : Fin 1408) (d : Fin 1024) :
    iblk (F := Ideal) m c 1 t (ix3 0 j d) = m ((c.tc : Thread nD τ).loc main_arg1) (ix3 0 (col t j) d) := by
  blk_point [iblk, V, idx t]
  all_goals simp [col]

/-- Each entry of the whole result, of the arguments. -/
def dact (i : S4096x2816.Idx) : EReal :=
  dotSum (fun d => m ((c.tc : Thread nD τ).loc main_arg2) (ix2 (i 0) d)) (fun d => m ((c.tc : Thread nD τ).loc main_arg1) (ix3 0 (i 1) d))

/-- The result, after the run. -/
theorem final_dact : (dats m 0 c).arrAt 2 cfg0.N = fun i : S4096x2816.Idx => dact m c i := by
  have key : ∀ (t : Fin cfg0.N) (r : Fin 1024) (j : Fin 1408) (i : S4096x2816.Idx), i = ix2 (row t r) (col t j) →
      k0_pay3 (F := Ideal) (k0_pay2 (F := Ideal) (k0_pay1 (F := Ideal)) (iblk m c 0 t) (iblk m c 1 t)) (ix2 r j) = dact m c i := by
    rintro t r j i rfl
    rw [pay_at]
    simp only [blk_y, blk_w]
    rfl
  refine (dats m 0 c).arrAt_eq_of_covers 2 _ (by decide +kernel) fun t hf y => ?_
  blk_simp
  rw [after0_2]
  unfold outsAt0
  frame_out
  idx_vars y
  refine key t y0 y1 _ ?_
  blk_ext [idx t]
  all_goals rfl

end Cert.FfnDactIdeal.Block

end
-- ==== Proof.FfnDactClaim.lean ====
/-
  The product with a transposed weight against the derivative of the product, at any arguments.
-/
module

public import proofs.«01_k».proof.Proof.FfnDactValue
public import proofs.«01_k».proof.Defs
public import proofs.«01_k».proof.Proof.Gen.FfnDactIdeal
public import proofs.«01_k».proof.Proof.Gen.FfnDactRefIdeal
public import proofs.«01_k».proof.Proof.Gen.FfnDactRefIdeal.Run
public import proofs.«01_k».proof.Proof.Gen.FfnDactRefIdeal.Read
public import Idealize.ShloMosaic.Adequacy

@[expose] public section

set_option maxRecDepth 16384

noncomputable section

open Idealize.ShloMosaic Idealize.SL.Sem

namespace Cert.Step

section
open Cert.FfnDactRefIdeal Cert.FfnDactRefIdeal.Read

/-- The reference, read at an index. -/
theorem ntRef_at (x1 : Vec Ideal S1x2816x1024 .bf16) (x2 : Vec Ideal S4096x1024 .f32) (r : Fin 4096) (j : Fin 2816) :
    val_main_v5 (F := Ideal) x1 x2 (ix2 r j) = dotSum (fun d => x2 (ix2 r d)) (fun d => x1 (ix3 0 j d)) := by
  pointwise [val_main_v5, val_main_v4, val_main_v2, val_main_v1]
  try rfl

end

/-- The reference terminates and leaves its arguments as they were. -/
theorem nt_ref_frame : letI := Cert.FfnDactRefIdeal.Gen.facts; Cert.quiescent_FfnDactRefIdeal := fun m ρ _ =>
  (θ_run Cert.FfnDactRefIdeal.defs _ _).mono (fun r h => ⟨fun c => (h c).2, sem_eq_zero_of_no_sems (by decide) r.2⟩)
    (Cert.FfnDactRefIdeal.Value.run (F := Ideal) m ρ)

theorem nt_algebraic : letI := Cert.FfnDactIdeal.Gen.facts; letI := Cert.FfnDactRefIdeal.Gen.facts;
    Cert.algebraic_FfnDactIdeal_FfnDactRefIdeal := by
  intro m g m' g' hpre hargs
  refine ⟨fun c => (Cert.FfnDactIdeal.Gen.dats m 0 c).arrAt 2 Cert.FfnDactIdeal.cfg0.N, ?_, ?_⟩
  · run_from Cert.FfnDactIdeal.Gen.run_main m g
  · refine (θ_run Cert.FfnDactRefIdeal.defs _ _).mono (fun r h c => ?_) (Cert.FfnDactRefIdeal.Value.run (F := Ideal) m' g')
    obtain ⟨a0, a1, a2⟩ := hargs c
    obtain ⟨h0, k⟩ := h c
    refine ⟨h0.trans ((Cert.FfnDactRefIdeal.Read.val_main_v5_eq _ _).trans ?_), k⟩
    rw [a1, a2]
    refine Eq.trans ?_ (Cert.FfnDactIdeal.Block.final_dact m c).symm
    funext i
    idx_vars i
    exact ntRef_at _ _ i0 i1

end Cert.Step

end
-- ==== Proof.DwDownValue.lean ====
/-
  The product of a transposed operand, summed over blocks of rows: what one block computes, and the result array.
-/
module

public import proofs.«01_k».proof.Proof.DotSum
public import proofs.«01_k».proof.Proof.Gen.FfnDwDownIdeal.Value
public import Idealize.ShloMosaic.Lib.Pipeline.ValueKit
public import Idealize.ShloMosaic.Lib.Pipeline.ReadBack

@[expose] public section

set_option maxRecDepth 16384

noncomputable section

namespace Cert.FfnDwDownIdeal.Block

open Idealize.ShloMosaic Idealize.ShloMosaic.TcCoe Idealize.SL.Sem Cert.FfnDwDownIdeal Cert.FfnDwDownIdeal.Gen Cert.Step

theorem zero_at (i : S1408x1024.Idx) : k0_pay1 (F := Ideal) i = 0 := by
  idx_vars i
  pointwise [k0_pay1]

/-- One step adds a column times a column, over the rows of the block. -/
theorem pay2_at (a : Vec Ideal S1024x1408 .bf16) (s : Vec Ideal S1408x1024 .f32) (y : Vec Ideal S1024x1024 .f32) (k : Fin 1408) (j : Fin 1024) :
    k0_pay2 (F := Ideal) a s y (ix2 k j) = s (ix2 k j) + dotSum (fun r => a (ix2 r k)) (fun r => y (ix2 r j)) := by
  pointwise [k0_pay2]
  try rfl

theorem pay3_at (s : Vec Ideal S1408x1024 .f32) (z : Fin 1) (k : Fin 1408) (j : Fin 1024) :
    k0_pay3 (F := Ideal) s (ix3 z k j) = s (ix2 k j) := by
  pointwise [k0_pay3]

theorem idx : ∀ t : Fin cfg0.N, win0_0.index t = ![t.val % 4, t.val / 4] ∧ win0_1.index t = ![t.val % 4, 0]
    ∧ win0_2.index t = ![0, t.val / 4, 0] :=
  (by decide +kernel : ∀ t : Fin grid0.N, _)

variable (m : (ℓ : Loc nD τ sig) → Buf (Elt Ideal) ℓ) (c : Dev nD)

/-- The row of the whole arrays that row `r` of block `t` is. -/
def row (t : Fin cfg0.N) (r : Fin 1024) : Fin 4096 :=
  ⟨t.val % 4 * 1024 + r.val, by have := r.isLt; omega⟩

/-- The column of the whole operand that column `k` of block `t` is. -/
def col (t : Fin cfg0.N) (k : Fin 1408) : Fin 2816 :=
  ⟨t.val / 4 * 1408 + k.val, by have := lt_of_lt_of_eq t.isLt N_0; have := k.isLt; omega⟩

theorem blk_a (t : Fin cfg0.N) (r : Fin 1024) (k : Fin 1408) :
    iblk (F := Ideal) m c 0 t (ix2 r k) = m ((c.tc : Thread nD τ).loc main_arg0) (ix2 (row t r) (col t k)) := by
  blk_point [iblk, V, idx t]
  all_goals simp [row, col]

theorem blk_y (t : Fin cfg0.N) (r j : Fin 1024) :
    iblk (F := Ideal) m c 1 t (ix2 r j) = m ((c.tc : Thread nD τ).loc main_arg2) (ix2 (row t r) j) := by
  blk_point [iblk, V, idx t]
  all_goals simp [row]

/-- The accumulated product at a point past the first of its run. -/
theorem scr_step (t : Fin cfg0.N) (h : ¬t.val % 4 = 0) : (outsAt0 m c t.val t.isLt).2
    = k0_pay2 (F := Ideal) (iblk m c 0 t) (outsAt0 m c (t.val - 1) (Nat.lt_of_le_of_lt (Nat.sub_le _ _) t.isLt)).2 (iblk m c 1 t) := by
  by_cases h2 : t.val % 4 = 3
  · rw [outsAt0_C m c t h h2]; frame_out; rw [read_unread_whole]
  · rw [outsAt0_B m c t h h2]; frame_out; rw [read_unread_whole]

/-- … and at its first point. -/
theorem scr_zero (t : Fin cfg0.N) (h : t.val % 4 = 0) : (outsAt0 m c t.val t.isLt).2
    = k0_pay2 (F := Ideal) (iblk m c 0 t) (k0_pay1 (F := Ideal)) (iblk m c 1 t) := by
  rw [outsAt0_A m c t h (by omega)]; frame_out

/-- Each entry of the whole result, of the arguments. -/
def dwdown (k : Fin 2816) (j : Fin 1024) : EReal :=
  dotSum (fun r : Fin 4096 => m ((c.tc : Thread nD τ).loc main_arg0) (ix2 r k)) (fun r => m ((c.tc : Thread nD τ).loc main_arg2) (ix2 r j))

/-- After the last point of its run the accumulated product is the whole product. -/
theorem scr_last (t : Fin cfg0.N) (h : t.val % 4 = 3) (k : Fin 1408) (j : Fin 1024) :
    (outsAt0 m c t.val t.isLt).2 (ix2 k j) = dwdown m c (col t k) j := by
  rw [Pipeline.eq_sum_fin_of_reset_step_apply_of_flush (fun n h => (outsAt0 m c n h).2) 4 (fun _ => 0)
      (fun t i => dotSum (fun r => m ((c.tc : Thread nD τ).loc main_arg0) (ix2 (row t r) (col t (i 0)))) (fun r => m ((c.tc : Thread nD τ).loc main_arg2) (ix2 (row t r) (i 1))))
      (fun t h i => by
        refine (congrFun (scr_zero m c t h) i).trans ?_
        idx_vars i
        rw [pay2_at, zero_at]
        simp only [blk_a, blk_y])
      (fun t h i => by
        refine (congrFun (scr_step m c t h) i).trans ?_
        idx_vars i
        rw [pay2_at]
        simp only [blk_a, blk_y])
      t h (ix2 k j), zero_add]
  unfold dwdown dotSum
  rw [Fin.sum_univ_tiles 4 1024 rfl]
  refine Finset.sum_congr rfl fun s _ => Finset.sum_congr rfl fun r _ => ?_
  have e1 : row ⟨4 * (t.val / 4) + s.val, Pipeline.run_point_lt_of_flush t h s⟩ r = ⟨s.val * 1024 + r.val, by have := s.isLt; have := r.isLt; omega⟩ := Fin.ext (by simp [row])
  have e2 : col ⟨4 * (t.val / 4) + s.val, Pipeline.run_point_lt_of_flush t h s⟩ k = col t k := Fin.ext (by simp [col]; omega)
  simp only [ix2_0, ix2_1, e1, e2]

/-- The result, after the run. -/
theorem final_dwdown : (dats m 0 c).arrAt 2 cfg0.N = fun i : S1x2816x1024.Idx => dwdown m c (i 1) (i 2) := by
  have key : ∀ (t : Fin cfg0.N) (_ : t.val % 4 = 3) (z : Fin 1) (k : Fin 1408) (j : Fin 1024) (i : S1x2816x1024.Idx), i = ix3 0 (col t k) j →
      k0_pay3 (F := Ideal) (outsAt0 m c t.val t.isLt).2 (ix3 z k j) = dwdown m c (i 1) (i 2) := by
    rintro t h z k j i rfl
    rw [pay3_at]
    exact scr_last m c t h k j
  refine (dats m 0 c).arrAt_eq_of_covers 2 _ (by decide +kernel) fun t hf y => ?_
  have h2 : t.val % 4 = 3 := (flush0_2 t).mp hf
  blk_simp
  rw [after0_2]
  rw [outsAt0_C m c t (by omega) h2]; frame_out
  rw [read_unread_whole, ← scr_step m c t (by omega)]
  idx_vars y
  refine key t h2 y0 y1 y2 _ ?_
  blk_ext [idx t]
  all_goals rfl

end Cert.FfnDwDownIdeal.Block

end
-- ==== Proof.DwDownClaim.lean ====
/-
  The product of a transposed operand against the derivative of the product by its weight, at any arguments.
-/
module

public import proofs.«01_k».proof.Proof.DwDownValue
public import proofs.«01_k».proof.Defs
public import proofs.«01_k».proof.Proof.Gen.FfnDwDownIdeal
public import proofs.«01_k».proof.Proof.Gen.FfnDwDownRefIdeal
public import proofs.«01_k».proof.Proof.Gen.FfnDwDownRefIdeal.Run
public import proofs.«01_k».proof.Proof.Gen.FfnDwDownRefIdeal.Read
public import Idealize.ShloMosaic.Adequacy

@[expose] public section

set_option maxRecDepth 16384

noncomputable section

open Idealize.ShloMosaic Idealize.SL.Sem

namespace Cert.Step

section
open Cert.FfnDwDownRefIdeal Cert.FfnDwDownRefIdeal.Read

/-- The reference, read at an index. -/
theorem tnRef_at (x0 : Vec Ideal S4096x2816 .bf16) (x2 : Vec Ideal S4096x1024 .f32) (z : Fin 1) (k : Fin 2816) (j : Fin 1024) :
    val_main_v6 (F := Ideal) x0 x2 (ix3 z k j) = dotSum (fun r => x0 (ix2 r k)) (fun r => x2 (ix2 r j)) := by
  pointwise [val_main_v6, val_main_v5, val_main_v4, val_main_v1]
  exact Finset.sum_congr rfl fun r _ => mul_comm _ _

end

/-- The reference terminates and leaves its arguments as they were. -/
theorem tn_ref_frame : letI := Cert.FfnDwDownRefIdeal.Gen.facts; Cert.quiescent_FfnDwDownRefIdeal := fun m ρ _ =>
  (θ_run Cert.FfnDwDownRefIdeal.defs _ _).mono (fun r h => ⟨fun c => (h c).2, sem_eq_zero_of_no_sems (by decide) r.2⟩)
    (Cert.FfnDwDownRefIdeal.Value.run (F := Ideal) m ρ)

theorem tn_algebraic : letI := Cert.FfnDwDownIdeal.Gen.facts; letI := Cert.FfnDwDownRefIdeal.Gen.facts;
    Cert.algebraic_FfnDwDownIdeal_FfnDwDownRefIdeal := by
  intro m g m' g' hpre hargs
  refine ⟨fun c => (Cert.FfnDwDownIdeal.Gen.dats m 0 c).arrAt 2 Cert.FfnDwDownIdeal.cfg0.N, ?_, ?_⟩
  · run_from Cert.FfnDwDownIdeal.Gen.run_main m g
  · refine (θ_run Cert.FfnDwDownRefIdeal.defs _ _).mono (fun r h c => ?_) (Cert.FfnDwDownRefIdeal.Value.run (F := Ideal) m' g')
    obtain ⟨a0, a1, a2⟩ := hargs c
    obtain ⟨h0, k⟩ := h c
    refine ⟨h0.trans ((Cert.FfnDwDownRefIdeal.Read.val_main_v6_eq _ _).trans ?_), k⟩
    rw [a0, a2]
    refine Eq.trans ?_ (Cert.FfnDwDownIdeal.Block.final_dwdown m c).symm
    funext i
    idx_vars i
    exact tnRef_at _ _ i0 i1 i2

end Cert.Step

end
-- ==== Proof.AdamLaws.lean ====
/-
  One step of the optimiser on one entry, over the extended reals.
-/
module

public import Idealize.ShloMosaic.PureOps.Ideal
public import Idealize.ShloMosaic.Lib.Pointwise

@[expose] public section

noncomputable section

namespace Cert.Step

open Idealize.ShloMosaic

/-- The new first moment. -/
def newM (m g : EReal) : EReal := Ideal.ofBits .f32 0x3F666666#32 * m + Ideal.ofBits .f32 0x3DCCCCCD#32 * g

/-- The new second moment. -/
def newV (v g : EReal) : EReal := Ideal.ofBits .f32 0x3F7FBE77#32 * v + Ideal.ofBits .f32 0x3A83126F#32 * (g * g)

/-- The change of the weight: the moments are divided by their bias corrections. -/
def delta (w m v g : EReal) : EReal :=
  Ideal.ofBits .f32 0xBA83126F#32 *
    (Ideal.div (Ideal.div (newM m g) (Ideal.ofBits .f32 0x3F26BD02#32))
        (Ideal.sqrt (Ideal.div (newV v g) (Ideal.ofBits .f32 0x3C231ACC#32)) + Ideal.ofBits .f32 0x322BCC77#32)
      + Ideal.ofBits .f32 0x3C23D70A#32 * w)

/-- The same with the moments multiplied by `a` and `b`. -/
def deltaMul (a b w m v g : EReal) : EReal :=
  Ideal.ofBits .f32 0xBA83126F#32 *
    (Ideal.div (newM m g * a) (Ideal.sqrt (newV v g * b) + Ideal.ofBits .f32 0x322BCC77#32)
      + Ideal.ofBits .f32 0x3C23D70A#32 * w)

theorem lit_corr1 : Ideal.ofBits .f32 0x3F26BD02#32 = ((5463681 / 8388608 : ℝ) : EReal) := by
  simp [Ideal.ofBits, Ideal.ieee, -EReal.coe_mul]; norm_num

theorem lit_corr2 : Ideal.ofBits .f32 0x3C231ACC#32 = ((2672307 / 268435456 : ℝ) : EReal) := by
  simp [Ideal.ofBits, Ideal.ieee, -EReal.coe_mul]; norm_num

/-- Multiplying by the reciprocals of the bias corrections is dividing by them. -/
theorem deltaMul_eq (w m v g : EReal) :
    deltaMul (((5463681 / 8388608)⁻¹ : ℝ) : EReal) (((2672307 / 268435456)⁻¹ : ℝ) : EReal) w m v g = delta w m v g := by
  unfold deltaMul delta
  rw [lit_corr1, lit_corr2, Ideal.div_coe (by norm_num) (newM m g), Ideal.div_coe (by norm_num) (newV v g), one_div, one_div]

end Cert.Step

end
-- ==== Proof.AdamValue.lean ====
/-
  One step of the optimiser on a whole weight: what one block computes, and the three result arrays.
-/
module

public import proofs.«01_k».proof.Proof.AdamLaws
public import proofs.«01_k».proof.Proof.Gen.AdamIdeal.Value
public import Idealize.ShloMosaic.Lib.Pipeline.ValueKit
public import Idealize.ShloMosaic.Lib.Pipeline.ReadBack

@[expose] public section

set_option maxRecDepth 16384

noncomputable section

namespace Cert.AdamIdeal.Block

open Idealize.ShloMosaic Idealize.ShloMosaic.TcCoe Idealize.SL.Sem Cert.AdamIdeal Cert.AdamIdeal.Gen Cert.Step

theorem corr1 : Named.named (F := Ideal) κ "c1" (φ := .f32) 0x3FC48605#32 = (((5463681 / 8388608)⁻¹ : ℝ) : EReal) := rfl

theorem corr2 : Named.named (F := Ideal) κ "c2" (φ := .f32) 0x42C8E6D3#32 = (((2672307 / 268435456)⁻¹ : ℝ) : EReal) := rfl

theorem pay1_at (m g : Vec Ideal S512x1024 .f32) (r : Fin 512) (j : Fin 1024) :
    k0_pay1 (F := Ideal) m g (ix2 r j) = newM (m (ix2 r j)) (g (ix2 r j)) := by
  pointwise [k0_pay1]
  rfl

theorem pay2_at (v g : Vec Ideal S512x1024 .f32) (r : Fin 512) (j : Fin 1024) :
    k0_pay2 (F := Ideal) v g (ix2 r j) = newV (v (ix2 r j)) (g (ix2 r j)) := by
  pointwise [k0_pay2]
  rfl

theorem pay3_at (w m v g : Vec Ideal S512x1024 .f32) (r : Fin 512) (j : Fin 1024) :
    k0_pay3 (F := Ideal) w m v g (ix2 r j) = delta (w (ix2 r j)) (m (ix2 r j)) (v (ix2 r j)) (g (ix2 r j)) := by
  rw [← deltaMul_eq, ← corr1, ← corr2]
  pointwise [k0_pay3, k0_pay2, k0_pay1]
  rfl

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0] :=
  (by decide +kernel : ∀ t : Fin grid0.N, _)

variable (m : (ℓ : Loc nD τ sig) → Buf (Elt Ideal) ℓ) (c : Dev nD)

/-- The row of the whole array that row `r` of block `t` is. -/
def row (t : Fin cfg0.N) (r : Fin 512) : Fin 1024 :=
  ⟨t.val * 512 + r.val, by have := lt_of_lt_of_eq t.isLt N_0; have := r.isLt; omega⟩

theorem blk_w (t : Fin cfg0.N) (r : Fin 512) (j : Fin 1024) :
    iblk (F := Ideal) m c 0 t (ix2 r j) = m ((c.tc : Thread nD τ).loc main_arg0) (ix3 0 (row t r) j) := by
  blk_point [iblk, V, idx t]
  all_goals simp [row]

theorem blk_m (t : Fin cfg0.N) (r : Fin 512) (j : Fin 1024) :
    iblk (F := Ideal) m c 1 t (ix2 r j) = m ((c.tc : Thread nD τ).loc main_arg1) (ix3 0 (row t r) j) := by
  blk_point [iblk, V, idx t]
  all_goals simp [row]

theorem blk_v (t : Fin cfg0.N) (r : Fin 512) (j : Fin 1024) :
    iblk (F := Ideal) m c 2 t (ix2 r j) = m ((c.tc : Thread nD τ).loc main_arg2) (ix3 0 (row t r) j) := by
  blk_point [iblk, V, idx t]
  all_goals simp [row]

theorem blk_g (t : Fin cfg0.N) (r : Fin 512) (j : Fin 1024) :
    iblk (F := Ideal) m c 3 t (ix2 r j) = m ((c.tc : Thread nD τ).loc main_arg3) (ix2 (row t r) j) := by
  blk_point [iblk, V, idx t]
  all_goals simp [row]

/-- The weight's change, after the run. -/
theorem final_delta : (dats m 0 c).arrAt 4 cfg0.N = fun i : S1024x1024.Idx => delta (m ((c.tc : Thread nD τ).loc main_arg0) (ix3 0 (i 0) (i 1))) (m ((c.tc : Thread nD τ).loc main_arg1) (ix3 0 (i 0) (i 1))) (m ((c.tc : Thread nD τ).loc main_arg2) (ix3 0 (i 0) (i 1))) (m ((c.tc : Thread nD τ).loc main_arg3) (ix2 (i 0) (i 1))) := by
  have key : ∀ (t : Fin cfg0.N) (r : Fin 512) (j : Fin 1024) (i : S1024x1024.Idx), i = ix2 (row t r) j →
      k0_pay3 (F := Ideal) (iblk m c 0 t) (iblk m c 1 t) (iblk m c 2 t) (iblk m c 3 t) (ix2 r j) = delta (m ((c.tc : Thread nD τ).loc main_arg0) (ix3 0 (i 0) (i 1))) (m ((c.tc : Thread nD τ).loc main_arg1) (ix3 0 (i 0) (i 1))) (m ((c.tc : Thread nD τ).loc main_arg2) (ix3 0 (i 0) (i 1))) (m ((c.tc : Thread nD τ).loc main_arg3) (ix2 (i 0) (i 1))) := by
    rintro t r j i rfl
    rw [pay3_at]
    simp only [blk_w, blk_m, blk_v, blk_g]
    rfl
  refine (dats m 0 c).arrAt_eq_of_covers 4 _ (by decide +kernel) fun t hf y => ?_
  blk_simp
  rw [after0_4]
  idx_vars y
  refine (congrFun (show out0_4 (iblk m c 0 t) (iblk m c 1 t) (iblk m c 2 t) (iblk m c 3 t) = k0_pay3 (F := Ideal) (iblk m c 0 t) (iblk m c 1 t) (iblk m c 2 t) (iblk m c 3 t) by frame_out) _).trans ?_
  refine key t y0 y1 _ ?_
  blk_ext [idx t]
  all_goals rfl

/-- The first moment, after the run. -/
theorem final_m : (dats m 0 c).arrAt 5 cfg0.N = fun i : S1024x1024.Idx => newM (m ((c.tc : Thread nD τ).loc main_arg1) (ix3 0 (i 0) (i 1))) (m ((c.tc : Thread nD τ).loc main_arg3) (ix2 (i 0) (i 1))) := by
  have key : ∀ (t : Fin cfg0.N) (r : Fin 512) (j : Fin 1024) (i : S1024x1024.Idx), i = ix2 (row t r) j →
      k0_pay1 (F := Ideal) (iblk m c 1 t) (iblk m c 3 t) (ix2 r j) = newM (m ((c.tc : Thread nD τ).loc main_arg1) (ix3 0 (i 0) (i 1))) (m ((c.tc : Thread nD τ).loc main_arg3) (ix2 (i 0) (i 1))) := by
    rintro t r j i rfl
    rw [pay1_at]
    simp only [blk_w, blk_m, blk_v, blk_g]
    rfl
  refine (dats m 0 c).arrAt_eq_of_covers 5 _ (by decide +kernel) fun t hf y => ?_
  blk_simp
  rw [after0_5]
  idx_vars y
  refine (congrFun (show out0_5 (iblk m c 0 t) (iblk m c 1 t) (iblk m c 2 t) (iblk m c 3 t) = k0_pay1 (F := Ideal) (iblk m c 1 t) (iblk m c 3 t) by frame_out) _).trans ?_
  refine key t y0 y1 _ ?_
  blk_ext [idx t]
  all_goals rfl

/-- The second moment, after the run. -/
theorem final_v : (dats m 0 c).arrAt 6 cfg0.N = fun i : S1024x1024.Idx => newV (m ((c.tc : Thread nD τ).loc main_arg2) (ix3 0 (i 0) (i 1))) (m ((c.tc : Thread nD τ).loc main_arg3) (ix2 (i 0) (i 1))) := by
  have key : ∀ (t : Fin cfg0.N) (r : Fin 512) (j : Fin 1024) (i : S1024x1024.Idx), i = ix2 (row t r) j →
      k0_pay2 (F := Ideal) (iblk m c 2 t) (iblk m c 3 t) (ix2 r j) = newV (m ((c.tc : Thread nD τ).loc main_arg2) (ix3 0 (i 0) (i 1))) (m ((c.tc : Thread nD τ).loc main_arg3) (ix2 (i 0) (i 1))) := by
    rintro t r j i rfl
    rw [pay2_at]
    simp only [blk_w, blk_m, blk_v, blk_g]
    rfl
  refine (dats m 0 c).arrAt_eq_of_covers 6 _ (by decide +kernel) fun t hf y => ?_
  blk_simp
  rw [after0_6]
  idx_vars y
  refine (congrFun (show out0_6 (iblk m c 0 t) (iblk m c 1 t) (iblk m c 2 t) (iblk m c 3 t) = k0_pay2 (F := Ideal) (iblk m c 2 t) (iblk m c 3 t) by frame_out) _).trans ?_
  refine key t y0 y1 _ ?_
  blk_ext [idx t]
  all_goals rfl

end Cert.AdamIdeal.Block

end
-- ==== Proof.AdamClaim.lean ====
/-
  One step of the optimiser on a whole weight against the same lines on whole arrays, at any arguments.
-/
module

public import proofs.«01_k».proof.Proof.AdamValue
public import proofs.«01_k».proof.Defs
public import proofs.«01_k».proof.Proof.Gen.AdamIdeal
public import proofs.«01_k».proof.Proof.Gen.AdamRefIdeal
public import proofs.«01_k».proof.Proof.Gen.AdamRefIdeal.Run
public import proofs.«01_k».proof.Proof.Gen.AdamRefIdeal.Read
public import Idealize.ShloMosaic.Adequacy

@[expose] public section

set_option maxRecDepth 16384

noncomputable section

open Idealize.ShloMosaic Idealize.SL.Sem

namespace Cert.Step

/-- The rewrites: the reciprocals of the two bias corrections are named constants. -/
theorem adam_preserves : Cert.preserves_Adam_AdamIdeal :=
  ⟨IdealRules.named_const.statement Cert.AdamIdeal.κ "c1" .f32 0x3FC48605#32 (((5463681 / 8388608)⁻¹ : ℝ) : EReal) rfl,
    IdealRules.named_const.statement Cert.AdamIdeal.κ "c2" .f32 0x42C8E6D3#32 (((2672307 / 268435456)⁻¹ : ℝ) : EReal) rfl⟩

section
open Cert.AdamRefIdeal Cert.AdamRefIdeal.Read

variable (x0 x1 x2 : Vec Ideal S1x1024x1024 .f32) (x3 : Vec Ideal S1024x1024 .f32) (r j : Fin 1024)

/-- The reference's new moments and the weight's change, read at an index. -/
theorem adamRef_m : val_main_v7 (F := Ideal) x1 x3 (ix2 r j) = newM (x1 (ix3 0 r j)) (x3 (ix2 r j)) := by
  pointwise [val_main_v7, val_main_v6, val_main_v5, val_main_v4, val_main_v3, val_main_v1, val_main_cst, val_main_cst_0]
  rfl

theorem adamRef_v : val_main_v13 (F := Ideal) x2 x3 (ix2 r j) = newV (x2 (ix3 0 r j)) (x3 (ix2 r j)) := by
  pointwise [val_main_v13, val_main_v12, val_main_v11, val_main_v10, val_main_v9, val_main_v8, val_main_v2, val_main_cst_1, val_main_cst_2]
  rfl

theorem adamRef_delta : val_main_v26 (F := Ideal) x0 x1 x2 x3 (ix2 r j)
    = delta (x0 (ix3 0 r j)) (x1 (ix3 0 r j)) (x2 (ix3 0 r j)) (x3 (ix2 r j)) := by
  unfold delta
  rw [← adamRef_m, ← adamRef_v]
  pointwise [val_main_v26, val_main_v25, val_main_v24, val_main_v23, val_main_v22, val_main_v21, val_main_v20, val_main_v19, val_main_v18,
    val_main_v17, val_main_v16, val_main_v15, val_main_v14, val_main_v0, val_main_cst_3, val_main_cst_4, val_main_cst_5, val_main_cst_6, val_main_cst_7]

end

/-- The reference terminates and leaves its arguments as they were. -/
theorem adam_ref_frame : letI := Cert.AdamRefIdeal.Gen.facts; Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run (F := Ideal) m ρ)

theorem adam_algebraic : letI := Cert.AdamIdeal.Gen.facts; letI := Cert.AdamRefIdeal.Gen.facts;
    Cert.algebraic_AdamIdeal_AdamRefIdeal := by
  intro m g m' g' hpre hargs
  refine ⟨fun c => (Cert.AdamIdeal.Gen.dats m 0 c).arrAt 4 Cert.AdamIdeal.cfg0.N, fun c => (Cert.AdamIdeal.Gen.dats m 0 c).arrAt 5 Cert.AdamIdeal.cfg0.N,
    fun c => (Cert.AdamIdeal.Gen.dats m 0 c).arrAt 6 Cert.AdamIdeal.cfg0.N, ?_, ?_⟩
  · run_from Cert.AdamIdeal.Gen.run_main m g
  · refine (θ_run Cert.AdamRefIdeal.defs _ _).mono (fun r h c => ?_) (Cert.AdamRefIdeal.Value.run (F := Ideal) m' g')
    obtain ⟨a0, a1, a2, a3⟩ := hargs c
    obtain ⟨h0, h1, h2, k⟩ := h c
    refine ⟨h0.trans ((Cert.AdamRefIdeal.Read.val_main_v26_eq _ _ _ _).trans ?_), h1.trans ((Cert.AdamRefIdeal.Read.val_main_v7_eq _ _).trans ?_),
      h2.trans ((Cert.AdamRefIdeal.Read.val_main_v13_eq _ _).trans ?_), k⟩
    · rw [a0, a1, a2, a3]
      refine Eq.trans ?_ (Cert.AdamIdeal.Block.final_delta m c).symm
      funext i
      idx_vars i
      exact adamRef_delta _ _ _ _ i0 i1
    · rw [a1, a3]
      refine Eq.trans ?_ (Cert.AdamIdeal.Block.final_m m c).symm
      funext i
      idx_vars i
      exact adamRef_m _ _ i0 i1
    · rw [a2, a3]
      refine Eq.trans ?_ (Cert.AdamIdeal.Block.final_v m c).symm
      funext i
      idx_vars i
      exact adamRef_v _ _ i0 i1

end Cert.Step

end
-- ==== Proof.AdamLayerValue.lean ====
/-
  One step of the optimiser on one layer of a stacked weight: what one block computes, and the four result arrays,
  of which only the first layer is written.
-/
module

public import proofs.«01_k».proof.Proof.AdamLaws
public import proofs.«01_k».proof.Proof.Gen.AdamLayerIdeal.Value
public import Idealize.ShloMosaic.Lib.Pipeline.ValueKit
public import Idealize.ShloMosaic.Lib.Pipeline.ReadBack

@[expose] public section

set_option maxRecDepth 16384

noncomputable section

namespace Cert.AdamLayerIdeal.Block

open Idealize.ShloMosaic Idealize.ShloMosaic.TcCoe Idealize.SL.Sem Cert.AdamLayerIdeal Cert.AdamLayerIdeal.Gen Cert.Step

theorem corr1 : Named.named (F := Ideal) κ "c1" (φ := .f32) 0x3FC48605#32 = (((5463681 / 8388608)⁻¹ : ℝ) : EReal) := rfl

theorem corr2 : Named.named (F := Ideal) κ "c2" (φ := .f32) 0x42C8E6D3#32 = (((2672307 / 268435456)⁻¹ : ℝ) : EReal) := rfl

section
variable (g : Vec Ideal S512x1408 .f32) (w m v : Vec Ideal S1x512x1408 .f32) (r : Fin 512) (j : Fin 1408)

theorem pay3_at : k0_pay3 (F := Ideal) g (ix3 0 r j) = g (ix2 r j) := by
  pointwise [k0_pay3]

theorem pay4_at : k0_pay1 (F := Ideal) (k0_pay4 g m) (ix3 0 r j) = newM (m (ix3 0 r j)) (g (ix2 r j)) := by
  pointwise [k0_pay1, k0_pay4]
  rfl

theorem pay5_at : k0_pay2 (F := Ideal) (k0_pay5 g v) (ix3 0 r j) = newV (v (ix3 0 r j)) (g (ix2 r j)) := by
  pointwise [k0_pay2, k0_pay5]
  rfl

theorem pay6_at : k0_pay6 (F := Ideal) g w m v (ix3 0 r j)
    = delta (w (ix3 0 r j)) (m (ix3 0 r j)) (v (ix3 0 r j)) (g (ix2 r j)) := by
  rw [← deltaMul_eq, ← corr1, ← corr2]
  pointwise [k0_pay6, k0_pay5, k0_pay4]
  rfl

end

theorem idx : ∀ t : Fin cfg0.N, win0_0.index t = ![0, t.val, 0] ∧ win0_1.index t = ![0, t.val, 0] ∧ win0_2.index t = ![0, t.val, 0]
    ∧ win0_3.index t = ![t.val, 0] ∧ win0_4.index t = ![0, t.val, 0] ∧ win0_5.index t = ![0, t.val, 0]
    ∧ win0_6.index t = ![0, t.val, 0] ∧ win0_7.index t = ![0, t.val, 0] :=
  (by decide +kernel : ∀ t : Fin grid0.N, _)

variable (m : (ℓ : Loc nD τ sig) → Buf (Elt Ideal) ℓ) (c : Dev nD)

/-- The row of the whole array that row `r` of block `t` is. -/
def row (t : Fin cfg0.N) (r : Fin 512) : Fin 1024 :=
  ⟨t.val * 512 + r.val, by have := lt_of_lt_of_eq t.isLt N_0; have := r.isLt; omega⟩

section
variable (r : Fin 1024) (j : Fin 1408)

/-- The layer's weight, moments and gradient among the arguments. -/
abbrev argW : EReal := m ((c.tc : Thread nD τ).loc main_arg0) (ix3 0 r j)
abbrev argM : EReal := m ((c.tc : Thread nD τ).loc main_arg1) (ix3 0 r j)
abbrev argV : EReal := m ((c.tc : Thread nD τ).loc main_arg2) (ix3 0 r j)
abbrev argG : EReal := m ((c.tc : Thread nD τ).loc main_arg3) (ix2 r j)

end

/-- The first layer is written. -/
abbrev written (i : S2x1024x1408.Idx) : Prop := (i 0 : ℕ) < 1

/-- A stacked array whose first layer is new, the second as it was. -/
def layered (f : Fin 1024 → Fin 1408 → EReal) (p : Vec Ideal S2x1024x1408 .f32) : Vec Ideal S2x1024x1408 .f32 :=
  fun i => if written i then f (i 1) (i 2) else p i

/-- A value read at a block's row and column is the one at the array's. -/
theorem moved (f : Fin 1024 → Fin 1408 → EReal) {t : Fin cfg0.N} {r : Fin 512} {j b : Fin 1408} {a : Fin 1024} (ha : a.val = t.val * 512 + r.val)
    (hb : b.val = j.val) : f (row t r) j = f a b := by
  rw [Fin.ext (a := row t r) ha.symm, Fin.ext hb]

/-- The blocks that a point reads. -/
theorem blk (t : Fin cfg0.N) (r : Fin 512) (j : Fin 1408) : iblk (F := Ideal) m c 0 t (ix3 0 r j) = argW m c (row t r) j
    ∧ iblk (F := Ideal) m c 1 t (ix3 0 r j) = argM m c (row t r) j ∧ iblk (F := Ideal) m c 2 t (ix3 0 r j) = argV m c (row t r) j
    ∧ iblk (F := Ideal) m c 3 t (ix2 r j) = argG m c (row t r) j := by
  refine ⟨?_, ?_, ?_, ?_⟩
  all_goals
    blk_point [iblk, V, idx t]
    all_goals simp [row]

/-- The blocks that a point leaves. -/
theorem left (t : Fin cfg0.N) (r : Fin 512) (j : Fin 1408) : (outsAt0 m c t).1 (ix3 0 r j) = argG m c (row t r) j
    ∧ (outsAt0 m c t).2.1 (ix3 0 r j) = delta (argW m c (row t r) j) (argM m c (row t r) j) (argV m c (row t r) j) (argG m c (row t r) j)
    ∧ (outsAt0 m c t).2.2.1 (ix3 0 r j) = newM (argM m c (row t r) j) (argG m c (row t r) j)
    ∧ (outsAt0 m c t).2.2.2 (ix3 0 r j) = newV (argV m c (row t r) j) (argG m c (row t r) j) := by
  obtain ⟨hw, hm, hv, hg⟩ := blk m c t r j
  rw [← hw, ← hm, ← hv, ← hg]
  unfold outsAt0
  refine ⟨(congrFun (?_ : _ = k0_pay3 (iblk m c 3 t)) _).trans (pay3_at _ r j),
    (congrFun (?_ : _ = k0_pay6 (iblk m c 3 t) (iblk m c 0 t) (iblk m c 1 t) (iblk m c 2 t)) _).trans (pay6_at _ _ _ _ r j),
    (congrFun (?_ : _ = k0_pay1 (k0_pay4 (iblk m c 3 t) (iblk m c 1 t))) _).trans (pay4_at _ _ r j),
    (congrFun (?_ : _ = k0_pay2 (k0_pay5 (iblk m c 3 t) (iblk m c 2 t))) _).trans (pay5_at _ _ r j)⟩
  all_goals frame_out

/-- What the four arrays hold when the region is entered. -/
theorem entry : (dats (F := Ideal) m 0 c).A 4 = m ((c.tc : Thread nD τ).loc main_arg4)
    ∧ (dats (F := Ideal) m 0 c).A 5 = m ((c.tc : Thread nD τ).loc main_arg5)
    ∧ (dats (F := Ideal) m 0 c).A 6 = m ((c.tc : Thread nD τ).loc main_arg6)
    ∧ (dats (F := Ideal) m 0 c).A 7 = m ((c.tc : Thread nD τ).loc main_arg7) := by
  refine ⟨(?_ : V m c main_v0_0 = _), (?_ : V m c main_v0_1 = _), (?_ : V m c main_v0_2 = _), (?_ : V m c main_v0_3 = _)⟩
  all_goals
    unfold V
    after_results
    try rfl

/-- The gradient laid into its layer, the weight's change and the two moments, after the run. -/
theorem finals : (dats m 0 c).arrAt 4 cfg0.N = layered (argG m c) (m ((c.tc : Thread nD τ).loc main_arg4))
    ∧ (dats m 0 c).arrAt 5 cfg0.N = layered (fun r j => delta (argW m c r j) (argM m c r j) (argV m c r j) (argG m c r j)) (m ((c.tc : Thread nD τ).loc main_arg5))
    ∧ (dats m 0 c).arrAt 6 cfg0.N = layered (fun r j => newM (argM m c r j) (argG m c r j)) (m ((c.tc : Thread nD τ).loc main_arg6))
    ∧ (dats m 0 c).arrAt 7 cfg0.N = layered (fun r j => newV (argV m c r j) (argG m c r j)) (m ((c.tc : Thread nD τ).loc main_arg7)) := by
  obtain ⟨e4, e5, e6, e7⟩ := entry m c
  rw [← e4, ← e5, ← e6, ← e7]
  refine ⟨(dats m 0 c).arrAt_eq_of_coversWhere 4 _ (P := written) (fun β => β 0 = 0) (by decide +kernel) (fun t hf y => ?_) fun j => ?_,
    (dats m 0 c).arrAt_eq_of_coversWhere 5 _ (P := written) (fun β => β 0 = 0) (by decide +kernel) (fun t hf y => ?_) fun j => ?_,
    (dats m 0 c).arrAt_eq_of_coversWhere 6 _ (P := written) (fun β => β 0 = 0) (by decide +kernel) (fun t hf y => ?_) fun j => ?_,
    (dats m 0 c).arrAt_eq_of_coversWhere 7 _ (P := written) (fun β => β 0 = 0) (by decide +kernel) (fun t hf y => ?_) fun j => ?_⟩
  all_goals try (blk_simp [Pipeline.Window.cell_apply]; omega)
  all_goals
    blk_simp
    simp only [after0_4, after0_5, after0_6, after0_7]
    idx_vars y
    obtain rfl : y0 = 0 := Subsingleton.elim _ _
  · exact (left m c t y1 y2).1.trans (moved (argG m c) (by simp [idx t]) (by simp [idx t]))
  · exact (left m c t y1 y2).2.1.trans (moved (fun r j => delta (argW m c r j) (argM m c r j) (argV m c r j) (argG m c r j)) (by simp [idx t]) (by simp [idx t]))
  · exact (left m c t y1 y2).2.2.1.trans (moved (fun r j => newM (argM m c r j) (argG m c r j)) (by simp [idx t]) (by simp [idx t]))
  · exact (left m c t y1 y2).2.2.2.trans (moved (fun r j => newV (argV m c r j) (argG m c r j)) (by simp [idx t]) (by simp [idx t]))

end Cert.AdamLayerIdeal.Block

end
-- ==== Proof.AdamLayerClaim.lean ====
/-
  One step of the optimiser on one layer of a stacked weight against the same lines on that layer, the other layer as it was.
-/
module

public import proofs.«01_k».proof.Proof.AdamLayerValue
public import proofs.«01_k».proof.Defs
public import proofs.«01_k».proof.Proof.Gen.AdamLayerIdeal
public import proofs.«01_k».proof.Proof.Gen.AdamLayerRefIdeal
public import proofs.«01_k».proof.Proof.Gen.AdamLayerRefIdeal.Run
public import proofs.«01_k».proof.Proof.Gen.AdamLayerRefIdeal.Read
public import Idealize.ShloMosaic.Adequacy

@[expose] public section

set_option maxRecDepth 16384

noncomputable section

open Idealize.ShloMosaic Idealize.SL.Sem

namespace Cert.Step

/-- The rewrites: the reciprocals of the two bias corrections are named constants. -/
theorem adaml_preserves : Cert.preserves_AdamLayer_AdamLayerIdeal :=
  ⟨IdealRules.named_const.statement Cert.AdamLayerIdeal.κ "c1" .f32 0x3FC48605#32 (((5463681 / 8388608)⁻¹ : ℝ) : EReal) rfl,
    IdealRules.named_const.statement Cert.AdamLayerIdeal.κ "c2" .f32 0x42C8E6D3#32 (((2672307 / 268435456)⁻¹ : ℝ) : EReal) rfl⟩

section
open Cert.AdamLayerRefIdeal Cert.AdamLayerRefIdeal.Read

variable (x0 x1 x2 x4 x5 x6 x7 : Vec Ideal S2x1024x1408 .f32) (x3 : Vec Ideal S1024x1408 .f32) (r : Fin 1024) (j : Fin 1408)

/-- The layer's new moments and its change, read at an index. -/
theorem adamlRef_m : val_main_v10 (F := Ideal) x1 x3 (ix2 r j) = newM (x1 (ix3 0 r j)) (x3 (ix2 r j)) := by
  pointwise [val_main_v10, val_main_v9, val_main_v8, val_main_v7, val_main_v6, val_main_v3, val_main_v2, val_main_cst, val_main_cst_0]
  rfl

theorem adamlRef_v : val_main_v16 (F := Ideal) x2 x3 (ix2 r j) = newV (x2 (ix3 0 r j)) (x3 (ix2 r j)) := by
  pointwise [val_main_v16, val_main_v15, val_main_v14, val_main_v13, val_main_v12, val_main_v11, val_main_v5, val_main_v4, val_main_cst_1, val_main_cst_2]
  rfl

theorem adamlRef_delta : val_main_v29 (F := Ideal) x0 x1 x2 x3 (ix2 r j)
    = delta (x0 (ix3 0 r j)) (x1 (ix3 0 r j)) (x2 (ix3 0 r j)) (x3 (ix2 r j)) := by
  unfold delta
  rw [← adamlRef_m, ← adamlRef_v]
  pointwise [val_main_v29, val_main_v28, val_main_v27, val_main_v26, val_main_v25, val_main_v24, val_main_v23, val_main_v22, val_main_v21,
    val_main_v20, val_main_v19, val_main_v18, val_main_v17, val_main_v1, val_main_v0, val_main_cst_3, val_main_cst_4, val_main_cst_5,
    val_main_cst_6, val_main_cst_7]

/-- A result with its first layer new and its second as it was, read at an index. -/
theorem stackedRef (a : Vec Ideal S1024x1408 .f32) (p : Vec Ideal S2x1024x1408 .f32) (l : Fin 2) :
    val_main_v34 (F := Ideal) a p (ix3 l r j) = if (l : ℕ) < 1 then a (ix2 r j) else p (ix3 l r j) := by
  fin_cases l
  · pointwise [val_main_v34, val_main_v33, val_main_v32, val_main_v31, val_main_v30]
  · pointwise [val_main_v34, val_main_v33, val_main_v32, val_main_v31, val_main_v30]

theorem adamlRef_delta_all : val_main_v39 (F := Ideal) x0 x1 x2 x3 x5 = val_main_v34 (F := Ideal) (val_main_v29 (F := Ideal) x0 x1 x2 x3) x5 := rfl

theorem adamlRef_m_all : val_main_v44 (F := Ideal) x1 x3 x6 = val_main_v34 (F := Ideal) (val_main_v10 (F := Ideal) x1 x3) x6 := rfl

theorem adamlRef_v_all : val_main_v49 (F := Ideal) x2 x3 x7 = val_main_v34 (F := Ideal) (val_main_v16 (F := Ideal) x2 x3) x7 := rfl

end

/-- The reference terminates and leaves its arguments as they were. -/
theorem adaml_ref_frame : letI := Cert.AdamLayerRefIdeal.Gen.facts; Cert.quiescent_AdamLayerRefIdeal := fun m ρ _ =>
  (θ_run Cert.AdamLayerRefIdeal.defs _ _).mono (fun r h => ⟨fun c => (h c).2.2.2.2, sem_eq_zero_of_no_sems (by decide) r.2⟩)
    (Cert.AdamLayerRefIdeal.Value.run (F := Ideal) m ρ)

theorem adaml_algebraic : letI := Cert.AdamLayerIdeal.Gen.facts; letI := Cert.AdamLayerRefIdeal.Gen.facts;
    Cert.algebraic_AdamLayerIdeal_AdamLayerRefIdeal := by
  intro m g m' g' hpre hargs
  refine ⟨fun c => (Cert.AdamLayerIdeal.Gen.dats m 0 c).arrAt 4 Cert.AdamLayerIdeal.cfg0.N,
    fun c => (Cert.AdamLayerIdeal.Gen.dats m 0 c).arrAt 5 Cert.AdamLayerIdeal.cfg0.N,
    fun c => (Cert.AdamLayerIdeal.Gen.dats m 0 c).arrAt 6 Cert.AdamLayerIdeal.cfg0.N,
    fun c => (Cert.AdamLayerIdeal.Gen.dats m 0 c).arrAt 7 Cert.AdamLayerIdeal.cfg0.N, ?_, ?_⟩
  · exact Cert.AdamLayerIdeal.Value.run_blocks m g
  · refine (θ_run Cert.AdamLayerRefIdeal.defs _ _).mono (fun r h c => ?_) (Cert.AdamLayerRefIdeal.Value.run (F := Ideal) m' g')
    obtain ⟨a0, a1, a2, a3, a4, a5, a6, a7⟩ := hargs c
    obtain ⟨h0, h1, h2, h3, k⟩ := h c
    obtain ⟨f0, f1, f2, f3⟩ := Cert.AdamLayerIdeal.Block.finals m c
    refine ⟨h0.trans ((Cert.AdamLayerRefIdeal.Read.val_main_v34_eq _ _).trans ?_),
      h1.trans ((Cert.AdamLayerRefIdeal.Read.val_main_v39_eq _ _ _ _ _).trans ?_),
      h2.trans ((Cert.AdamLayerRefIdeal.Read.val_main_v44_eq _ _ _).trans ?_),
      h3.trans ((Cert.AdamLayerRefIdeal.Read.val_main_v49_eq _ _ _).trans ?_), k⟩
    · rw [a3, a4]
      refine Eq.trans ?_ f0.symm
      funext i
      idx_vars i
      exact stackedRef i1 i2 _ _ i0
    · rw [a0, a1, a2, a3, a5, adamlRef_delta_all]
      refine Eq.trans ?_ f1.symm
      funext i
      idx_vars i
      exact (stackedRef i1 i2 _ _ i0).trans (if_congr Iff.rfl (adamlRef_delta _ _ _ _ i1 i2) rfl)
    · rw [a1, a3, a6, adamlRef_m_all]
      refine Eq.trans ?_ f2.symm
      funext i
      idx_vars i
      exact (stackedRef i1 i2 _ _ i0).trans (if_congr Iff.rfl (adamlRef_m _ _ i1 i2) rfl)
    · rw [a2, a3, a7, adamlRef_v_all]
      refine Eq.trans ?_ f3.symm
      funext i
      idx_vars i
      exact (stackedRef i1 i2 _ _ i0).trans (if_congr Iff.rfl (adamlRef_v _ _ i1 i2) rfl)

end Cert.Step

end
-- ==== Proof.SmallSumValue.lean ====
/-
  The sum over the devices of the packed small gradients: the eight slots added, and the rows cut out of the sum.
-/
module

public import proofs.«01_k».proof.Proof.Gen.SmallSumIdeal.Value
public import Idealize.ShloMosaic.Lib.Pipeline.ValueKit
public import Idealize.ShloMosaic.Lib.Pipeline.ReadBack

@[expose] public section

set_option maxRecDepth 16384

noncomputable section

namespace Cert.SmallSumIdeal.Block

open Idealize.ShloMosaic Idealize.ShloMosaic.TcCoe Idealize.SL.Sem Cert.SmallSumIdeal Cert.SmallSumIdeal.Gen

/-- The eight slots added. -/
def total (x : Vec Ideal S8x24x2816 .f32) (r : Fin 24) (j : Fin 2816) : EReal := ∑ d : Fin 8, x (ix3 d r j)

/-- Row `r` and column `j` of the totals, by their numbers. -/
def at2 (x : Vec Ideal S8x24x2816 .f32) (r j : ℕ) : Elt Ideal .f32 := total x (Fin.ofNat 24 r) (Fin.ofNat 2816 j)

/-- Equal rows and columns have equal totals. -/
theorem total_congr (x : Vec Ideal S8x24x2816 .f32) {r r' : Fin 24} {j j' : Fin 2816} (hr : r.val = r'.val) (hj : j.val = j'.val) :
    total x r j = total x r' j' := by
  rw [Fin.ext hr, Fin.ext hj]

/-- A total is the one of its numbers. -/
theorem total_at (x : Vec Ideal S8x24x2816 .f32) (r : Fin 24) (j : Fin 2816) {r' j' : ℕ} (hr : r.val = r') (hj : j.val = j') :
    total x r j = at2 x r' j' := by
  subst hr hj
  exact total_congr x (Nat.mod_eq_of_lt r.isLt).symm (Nat.mod_eq_of_lt j.isLt).symm

/-- There is one step, and every window is at its first block. -/
theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] :=
  (by decide +kernel)

variable (m : (ℓ : Loc nD τ sig) → Buf (Elt Ideal) ℓ) (c : Dev nD)

/-- A row of the eight slots, added from the first to the last. -/
theorem pay1_at (x : Vec Ideal S8x24x2816 .f32) (r : Fin 24) (j : Fin 2816) :
    k0_pay1 (F := Ideal) (View.ld x (Rect.unit ![0, 0, 0] ![1, 24, 2816] inb_S8x24x2816_S1x24x2816_0_0_0))
      (View.ld x (Rect.unit ![1, 0, 0] ![1, 24, 2816] inb_S8x24x2816_S1x24x2816_1_0_0))
      (View.ld x (Rect.unit ![2, 0, 0] ![1, 24, 2816] inb_S8x24x2816_S1x24x2816_2_0_0))
      (View.ld x (Rect.unit ![3, 0, 0] ![1, 24, 2816] inb_S8x24x2816_S1x24x2816_3_0_0))
      (View.ld x (Rect.unit ![4, 0, 0] ![1, 24, 2816] inb_S8x24x2816_S1x24x2816_4_0_0))
      (View.ld x (Rect.unit ![5, 0, 0] ![1, 24, 2816] inb_S8x24x2816_S1x24x2816_5_0_0))
      (View.ld x (Rect.unit ![6, 0, 0] ![1, 24, 2816] inb_S8x24x2816_S1x24x2816_6_0_0))
      (View.ld x (Rect.unit ![7, 0, 0] ![1, 24, 2816] inb_S8x24x2816_S1x24x2816_7_0_0)) (ix2 r j) = total x r j := by
  unfold total
  rw [Fin.sum_univ_eight]
  pointwise [k0_pay1]

theorem blk_at (t : Fin cfg0.N) : iblk (F := Ideal) m c 0 t = m ((c.tc : Thread nD τ).loc main_arg0) := by
  funext y
  idx_vars y
  blk_point [iblk, V, idx t]

/-- The stored sum, of a block that is the slots, at any index. -/
theorem pay1_of {x X : Vec Ideal S8x24x2816 .f32} (h : x = X) (i : S24x2816.Idx) :
    k0_pay1 (F := Ideal) (View.ld x (Rect.unit ![0, 0, 0] ![1, 24, 2816] inb_S8x24x2816_S1x24x2816_0_0_0))
      (View.ld x (Rect.unit ![1, 0, 0] ![1, 24, 2816] inb_S8x24x2816_S1x24x2816_1_0_0))
      (View.ld x (Rect.unit ![2, 0, 0] ![1, 24, 2816] inb_S8x24x2816_S1x24x2816_2_0_0))
      (View.ld x (Rect.unit ![3, 0, 0] ![1, 24, 2816] inb_S8x24x2816_S1x24x2816_3_0_0))
      (View.ld x (Rect.unit ![4, 0, 0] ![1, 24, 2816] inb_S8x24x2816_S1x24x2816_4_0_0))
      (View.ld x (Rect.unit ![5, 0, 0] ![1, 24, 2816] inb_S8x24x2816_S1x24x2816_5_0_0))
      (View.ld x (Rect.unit ![6, 0, 0] ![1, 24, 2816] inb_S8x24x2816_S1x24x2816_6_0_0))
      (View.ld x (Rect.unit ![7, 0, 0] ![1, 24, 2816] inb_S8x24x2816_S1x24x2816_7_0_0)) i = total X (i 0) (i 1) := by
  subst h
  idx_vars i
  exact pay1_at x _ _

/-- Every result is the totals of its own rows. -/
theorem finals : (dats m 0 c).arrAt 1 cfg0.N = (fun i : S1x128.Idx => at2 (m ((c.tc : Thread nD τ).loc main_arg0)) (0 + (i 0).val) (i 1).val)
    ∧ (dats m 0 c).arrAt 2 cfg0.N = (fun i : S1x128.Idx => at2 (m ((c.tc : Thread nD τ).loc main_arg0)) (1 + (i 0).val) (i 1).val)
    ∧ (dats m 0 c).arrAt 3 cfg0.N = (fun i : S1x16.Idx => at2 (m ((c.tc : Thread nD τ).loc main_arg0)) (2 + (i 0).val) (i 1).val)
    ∧ (dats m 0 c).arrAt 4 cfg0.N = (fun i : S1x1024.Idx => at2 (m ((c.tc : Thread nD τ).loc main_arg0)) (3 + (i 0).val) (i 1).val)
    ∧ (dats m 0 c).arrAt 5 cfg0.N = (fun i : S1x1024.Idx => at2 (m ((c.tc : Thread nD τ).loc main_arg0)) (4 + (i 0).val) (i 1).val)
    ∧ (dats m 0 c).arrAt 6 cfg0.N = (fun i : S2x1024.Idx => at2 (m ((c.tc : Thread nD τ).loc main_arg0)) (5 + (i 0).val) (i 1).val)
    ∧ (dats m 0 c).arrAt 7 cfg0.N = (fun i : S2x2816.Idx => at2 (m ((c.tc : Thread nD τ).loc main_arg0)) (7 + (i 0).val) (i 1).val)
    ∧ (dats m 0 c).arrAt 8 cfg0.N = (fun i : S1x1024.Idx => at2 (m ((c.tc : Thread nD τ).loc main_arg0)) (9 + (i 0).val) (i 1).val)
    ∧ (dats m 0 c).arrAt 9 cfg0.N = (fun i : S1x1024.Idx => at2 (m ((c.tc : Thread nD τ).loc main_arg0)) (10 + (i 0).val) (i 1).val)
    ∧ (dats m 0 c).arrAt 10 cfg0.N = (fun i : S2x1024.Idx => at2 (m ((c.tc : Thread nD τ).loc main_arg0)) (11 + (i 0).val) (i 1).val)
    ∧ (dats m 0 c).arrAt 11 cfg0.N = (fun i : S6x2816.Idx => at2 (m ((c.tc : Thread nD τ).loc main_arg0)) (13 + (i 0).val) (i 1).val) := by
  refine ⟨?_, ?_, ?_, ?_, ?_, ?_, ?_, ?_, ?_, ?_, ?_⟩
  all_goals
    refine (dats m 0 c).arrAt_eq_of_covers _ _ (by decide +kernel) fun t hf y => ?_
    blk_simp
    simp only [after0_1, after0_2, after0_3, after0_4, after0_5, after0_6, after0_7, after0_8, after0_9, after0_10, after0_11]
    idx_vars y
    unfold outsAt0
    frame_out
    rw [View.readCov_fill _ _ _ _ _ (by decide)]
    refine (pay1_of ((Memref.IsWhole.read_unread _ _).trans (blk_at m c t)) _).trans (total_at _ _ _ ?_ ?_)
    · simp [idx t]
    · simp [idx t]

end Cert.SmallSumIdeal.Block

end
-- ==== Proof.SmallSumClaim.lean ====
/-
  The sum over the devices of the packed small gradients against one plain sum over the slots, its rows cut out.
-/
module

public import proofs.«01_k».proof.Proof.SmallSumValue
public import proofs.«01_k».proof.Defs
public import proofs.«01_k».proof.Proof.Gen.SmallSumIdeal
public import proofs.«01_k».proof.Proof.Gen.SmallSumRefIdeal
public import proofs.«01_k».proof.Proof.Gen.SmallSumRefIdeal.Run
public import proofs.«01_k».proof.Proof.Gen.SmallSumRefIdeal.Read
public import Idealize.ShloMosaic.Adequacy

@[expose] public section

set_option maxRecDepth 16384

noncomputable section

open Idealize.ShloMosaic Idealize.SL.Sem

namespace Cert.Step

section
open Cert.SmallSumRefIdeal Cert.SmallSumRefIdeal.Read Cert.SmallSumIdeal.Block

/-- The sum over the slots, read at an index. -/
theorem sumsRef_total (x : Vec Ideal S8x24x2816 .f32) (i : S24x2816.Idx) :
    val_main_v0 (F := Ideal) x i = total x (i 0) (i 1) := by
  rw [val_main_v0_apply]
  unfold total
  pointwise [val_main_cst]
  exact Finset.sum_congr rfl fun k _ => congrArg x (by funext a; fin_cases a <;> rfl)

/-- Every result of the reference is the totals of its own rows. -/
theorem sumsRef (x : Vec Ideal S8x24x2816 .f32) : val_main_v1 (F := Ideal) x = (fun i : S1x128.Idx => at2 x (0 + (i 0).val) (i 1).val)
    ∧ val_main_v2 (F := Ideal) x = (fun i : S1x128.Idx => at2 x (1 + (i 0).val) (i 1).val)
    ∧ val_main_v3 (F := Ideal) x = (fun i : S1x16.Idx => at2 x (2 + (i 0).val) (i 1).val)
    ∧ val_main_v4 (F := Ideal) x = (fun i : S1x1024.Idx => at2 x (3 + (i 0).val) (i 1).val)
    ∧ val_main_v5 (F := Ideal) x = (fun i : S1x1024.Idx => at2 x (4 + (i 0).val) (i 1).val)
    ∧ val_main_v6 (F := Ideal) x = (fun i : S2x1024.Idx => at2 x (5 + (i 0).val) (i 1).val)
    ∧ val_main_v7 (F := Ideal) x = (fun i : S2x2816.Idx => at2 x (7 + (i 0).val) (i 1).val)
    ∧ val_main_v8 (F := Ideal) x = (fun i : S1x1024.Idx => at2 x (9 + (i 0).val) (i 1).val)
    ∧ val_main_v9 (F := Ideal) x = (fun i : S1x1024.Idx => at2 x (10 + (i 0).val) (i 1).val)
    ∧ val_main_v10 (F := Ideal) x = (fun i : S2x1024.Idx => at2 x (11 + (i 0).val) (i 1).val)
    ∧ val_main_v11 (F := Ideal) x = (fun i : S6x2816.Idx => at2 x (13 + (i 0).val) (i 1).val) := by
  refine ⟨?_, ?_, ?_, ?_, ?_, ?_, ?_, ?_, ?_, ?_, ?_⟩
  all_goals
    funext i
    idx_vars i
    simp only [val_main_v1_apply, val_main_v2_apply, val_main_v3_apply, val_main_v4_apply, val_main_v5_apply, val_main_v6_apply, val_main_v7_apply, val_main_v8_apply, val_main_v9_apply, val_main_v10_apply, val_main_v11_apply]
    refine (sumsRef_total x _).trans (total_at x _ _ ?_ ?_)
    · first | rfl | simp
    · first | rfl | simp

end

/-- The reference terminates and leaves its argument as it was. -/
theorem sums_ref_frame : letI := Cert.SmallSumRefIdeal.Gen.facts; Cert.quiescent_SmallSumRefIdeal := fun m ρ _ =>
  (θ_run Cert.SmallSumRefIdeal.defs _ _).mono (fun r h => ⟨fun c => (h c).2.2.2.2.2.2.2.2.2.2.2, sem_eq_zero_of_no_sems (by decide) r.2⟩)
    (Cert.SmallSumRefIdeal.Value.run (F := Ideal) m ρ)

theorem sums_algebraic : letI := Cert.SmallSumIdeal.Gen.facts; letI := Cert.SmallSumRefIdeal.Gen.facts;
    Cert.algebraic_SmallSumIdeal_SmallSumRefIdeal := by
  intro m g m' g' hpre hargs
  refine ⟨fun c => (Cert.SmallSumIdeal.Gen.dats m 0 c).arrAt 1 Cert.SmallSumIdeal.cfg0.N, fun c => (Cert.SmallSumIdeal.Gen.dats m 0 c).arrAt 2 Cert.SmallSumIdeal.cfg0.N, fun c => (Cert.SmallSumIdeal.Gen.dats m 0 c).arrAt 3 Cert.SmallSumIdeal.cfg0.N, fun c => (Cert.SmallSumIdeal.Gen.dats m 0 c).arrAt 4 Cert.SmallSumIdeal.cfg0.N, fun c => (Cert.SmallSumIdeal.Gen.dats m 0 c).arrAt 5 Cert.SmallSumIdeal.cfg0.N, fun c => (Cert.SmallSumIdeal.Gen.dats m 0 c).arrAt 6 Cert.SmallSumIdeal.cfg0.N, fun c => (Cert.SmallSumIdeal.Gen.dats m 0 c).arrAt 7 Cert.SmallSumIdeal.cfg0.N, fun c => (Cert.SmallSumIdeal.Gen.dats m 0 c).arrAt 8 Cert.SmallSumIdeal.cfg0.N, fun c => (Cert.SmallSumIdeal.Gen.dats m 0 c).arrAt 9 Cert.SmallSumIdeal.cfg0.N, fun c => (Cert.SmallSumIdeal.Gen.dats m 0 c).arrAt 10 Cert.SmallSumIdeal.cfg0.N, fun c => (Cert.SmallSumIdeal.Gen.dats m 0 c).arrAt 11 Cert.SmallSumIdeal.cfg0.N, ?_, ?_⟩
  · exact Cert.SmallSumIdeal.Value.run_blocks m g
  · refine (θ_run Cert.SmallSumRefIdeal.defs _ _).mono (fun r h c => ?_) (Cert.SmallSumRefIdeal.Value.run (F := Ideal) m' g')
    have a0 := hargs c
    obtain ⟨h0, h1, h2, h3, h4, h5, h6, h7, h8, h9, h10, k⟩ := h c
    have p := Cert.SmallSumIdeal.Block.finals m c
    rw [← a0] at p
    obtain ⟨p0, p1, p2, p3, p4, p5, p6, p7, p8, p9, p10⟩ := p
    obtain ⟨q0, q1, q2, q3, q4, q5, q6, q7, q8, q9, q10⟩ := sumsRef (m' ((c.tc : Thread Cert.SmallSumRefIdeal.nD Cert.SmallSumRefIdeal.τ).loc Cert.SmallSumRefIdeal.main_arg0))
    open Cert.SmallSumRefIdeal.Read in
    exact ⟨(h0.trans ((val_main_v1_eq _).trans q0)).trans p0.symm,
      (h1.trans ((val_main_v2_eq _).trans q1)).trans p1.symm,
      (h2.trans ((val_main_v3_eq _).trans q2)).trans p2.symm,
      (h3.trans ((val_main_v4_eq _).trans q3)).trans p3.symm,
      (h4.trans ((val_main_v5_eq _).trans q4)).trans p4.symm,
      (h5.trans ((val_main_v6_eq _).trans q5)).trans p5.symm,
      (h6.trans ((val_main_v7_eq _).trans q6)).trans p6.symm,
      (h7.trans ((val_main_v8_eq _).trans q7)).trans p7.symm,
      (h8.trans ((val_main_v9_eq _).trans q8)).trans p8.symm,
      (h9.trans ((val_main_v10_eq _).trans q9)).trans p9.symm,
      (h10.trans ((val_main_v11_eq _).trans q10)).trans p10.symm, k⟩

end Cert.Step

end
-- ==== Proof.lean ====
/-
  The certificate: for each call its frames, its rewrites and its value claim, from the modules imported here.
-/
module

public import proofs.«01_k».proof.Defs
public import proofs.«01_k».proof.Proof.Gen.LossHead
public import proofs.«01_k».proof.Proof.Gen.LossHeadIdeal
public import proofs.«01_k».proof.Proof.Gen.LossHeadRefIdeal
public import proofs.«01_k».proof.Proof.Gen.Pre_loss_finite
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.LossClaim
public import proofs.«01_k».proof.Proof.Gen.FfnDxn
public import proofs.«01_k».proof.Proof.Gen.FfnDxnIdeal
public import proofs.«01_k».proof.Proof.Gen.FfnDxnRefIdeal
public import proofs.«01_k».proof.Proof.Gen.Pre_ffn_finite
public import proofs.«01_k».proof.Proof.Gen.FfnDxn.Frame
public import proofs.«01_k».proof.Proof.Gen.FfnDxnIdeal.Frame
public import proofs.«01_k».proof.Proof.Gen.FfnDxnIdeal.Value
public import proofs.«01_k».proof.Proof.Gen.FfnDxnRefIdeal.Run
public import proofs.«01_k».proof.Proof.Gen.FfnDxnRefIdeal.Read
public import proofs.«01_k».proof.Proof.FfnClaim
public import proofs.«01_k».proof.Proof.Gen.AttnDxa
public import proofs.«01_k».proof.Proof.Gen.AttnDxaIdeal
public import proofs.«01_k».proof.Proof.Gen.AttnDxaRefIdeal
public import proofs.«01_k».proof.Proof.Gen.Pre_dxa_finite
public import proofs.«01_k».proof.Proof.Gen.AttnDxa.Frame
public import proofs.«01_k».proof.Proof.Gen.AttnDxaIdeal.Frame
public import proofs.«01_k».proof.Proof.Gen.AttnDxaIdeal.Value
public import proofs.«01_k».proof.Proof.Gen.AttnDxaRefIdeal.Run
public import proofs.«01_k».proof.Proof.Gen.AttnDxaRefIdeal.Read
public import proofs.«01_k».proof.Proof.DxaClaim
public import proofs.«01_k».proof.Proof.Gen.ConvGate
public import proofs.«01_k».proof.Proof.Gen.ConvGateIdeal
public import proofs.«01_k».proof.Proof.Gen.ConvGateRefIdeal
public import proofs.«01_k».proof.Proof.Gen.Pre_cfwd_finite
public import proofs.«01_k».proof.Proof.Gen.ConvGate.Frame
public import proofs.«01_k».proof.Proof.Gen.ConvGateIdeal.Frame
public import proofs.«01_k».proof.Proof.Gen.ConvGateIdeal.Value
public import proofs.«01_k».proof.Proof.Gen.ConvGateRefIdeal.Run
public import proofs.«01_k».proof.Proof.Gen.ConvGateRefIdeal.Read
public import proofs.«01_k».proof.Proof.ConvGateClaim
public import proofs.«01_k».proof.Proof.Gen.ConvGrad
public import proofs.«01_k».proof.Proof.Gen.ConvGradIdeal
public import proofs.«01_k».proof.Proof.Gen.ConvGradRefIdeal
public import proofs.«01_k».proof.Proof.Gen.Pre_cbwd_finite
public import proofs.«01_k».proof.Proof.Gen.ConvGrad.Frame
public import proofs.«01_k».proof.Proof.Gen.ConvGradIdeal.Frame
public import proofs.«01_k».proof.Proof.Gen.ConvGradIdeal.Value
public import proofs.«01_k».proof.Proof.Gen.ConvGradRefIdeal.Run
public import proofs.«01_k».proof.Proof.Gen.ConvGradRefIdeal.Read
public import proofs.«01_k».proof.Proof.ConvGradClaim
public import proofs.«01_k».proof.Proof.Gen.AttnGrad
public import proofs.«01_k».proof.Proof.Gen.AttnGradIdeal
public import proofs.«01_k».proof.Proof.Gen.AttnGradRefIdeal
public import proofs.«01_k».proof.Proof.Gen.Pre_attn_finite
public import proofs.«01_k».proof.Proof.Gen.AttnGradIdeal.Skeleton
public import proofs.«01_k».proof.Proof.Gen.AttnGradIdeal.Launch
public import proofs.«01_k».proof.Proof.Gen.AttnGradIdeal.Points
public import proofs.«01_k».proof.Proof.Gen.AttnGradIdeal.Frame
public import proofs.«01_k».proof.Proof.Gen.AttnGradRefIdeal.Run
public import proofs.«01_k».proof.Proof.Gen.AttnGradRefIdeal.Read
public import proofs.«01_k».proof.Proof.AttnClaim
public import proofs.«01_k».proof.Proof.Gen.AttnMix
public import proofs.«01_k».proof.Proof.Gen.AttnMixIdeal
public import proofs.«01_k».proof.Proof.Gen.AttnMixRefIdeal
public import proofs.«01_k».proof.Proof.Gen.Pre_attf_finite
public import proofs.«01_k».proof.Proof.Gen.AttnMix.Frame
public import proofs.«01_k».proof.Proof.Gen.AttnMixIdeal.Frame
public import proofs.«01_k».proof.Proof.Gen.AttnMixIdeal.Value
public import proofs.«01_k».proof.Proof.Gen.AttnMixRefIdeal.Run
public import proofs.«01_k».proof.Proof.Gen.AttnMixRefIdeal.Read
public import proofs.«01_k».proof.Proof.AttnMixClaim
public import proofs.«01_k».proof.Proof.Gen.HgrnMix
public import proofs.«01_k».proof.Proof.Gen.HgrnMixIdeal
public import proofs.«01_k».proof.Proof.Gen.HgrnMixRefIdeal
public import proofs.«01_k».proof.Proof.Gen.Pre_hgf_finite
public import proofs.«01_k».proof.Proof.Gen.HgrnMixIdeal.Skeleton
public import proofs.«01_k».proof.Proof.Gen.HgrnMixIdeal.Loops
public import proofs.«01_k».proof.Proof.Gen.HgrnMixIdeal.Launch
public import proofs.«01_k».proof.Proof.Gen.HgrnMixIdeal.Points
public import proofs.«01_k».proof.Proof.Gen.HgrnMixIdeal.Frame.Runs
public import proofs.«01_k».proof.Proof.Gen.HgrnMixRefIdeal.Run
public import proofs.«01_k».proof.Proof.Gen.HgrnMixRefIdeal.Step
public import proofs.«01_k».proof.Proof.HgrnMixClaim
public import proofs.«01_k».proof.Proof.Gen.FfnDwUp
public import proofs.«01_k».proof.Proof.Gen.FfnDwUpIdeal
public import proofs.«01_k».proof.Proof.Gen.FfnDwUpRefIdeal
public import proofs.«01_k».proof.Proof.Gen.FfnDwUpIdeal.Skeleton
public import proofs.«01_k».proof.Proof.Gen.FfnDwUpIdeal.Launch
public import proofs.«01_k».proof.Proof.Gen.FfnDwUpIdeal.Points
public import proofs.«01_k».proof.Proof.Gen.FfnDwUpIdeal.Frame
public import proofs.«01_k».proof.Proof.Gen.FfnDwUpRefIdeal.Run
public import proofs.«01_k».proof.Proof.Gen.FfnDwUpRefIdeal.Read
public import proofs.«01_k».proof.Proof.DwUpClaim
public import proofs.«01_k».proof.Proof.Gen.FfnUp
public import proofs.«01_k».proof.Proof.Gen.FfnUpIdeal
public import proofs.«01_k».proof.Proof.Gen.FfnUpRefIdeal
public import proofs.«01_k».proof.Proof.Gen.FfnUp.Frame
public import proofs.«01_k».proof.Proof.Gen.FfnUpIdeal.Frame
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.FfnUpClaim
public import proofs.«01_k».proof.Proof.Gen.FfnDown
public import proofs.«01_k».proof.Proof.Gen.FfnDownIdeal
public import proofs.«01_k».proof.Proof.Gen.FfnDownRefIdeal
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.FfnDownClaim
public import proofs.«01_k».proof.Proof.Gen.FfnDact
public import proofs.«01_k».proof.Proof.Gen.FfnDactIdeal
public import proofs.«01_k».proof.Proof.Gen.FfnDactRefIdeal
public import proofs.«01_k».proof.Proof.Gen.FfnDact.Frame
public import proofs.«01_k».proof.Proof.Gen.FfnDactIdeal.Frame
public import proofs.«01_k».proof.Proof.Gen.FfnDactIdeal.Value
public import proofs.«01_k».proof.Proof.Gen.FfnDactRefIdeal.Run
public import proofs.«01_k».proof.Proof.Gen.FfnDactRefIdeal.Read
public import proofs.«01_k».proof.Proof.FfnDactClaim
public import proofs.«01_k».proof.Proof.Gen.FfnDwDown
public import proofs.«01_k».proof.Proof.Gen.FfnDwDownIdeal
public import proofs.«01_k».proof.Proof.Gen.FfnDwDownRefIdeal
public import proofs.«01_k».proof.Proof.Gen.FfnDwDown.Frame
public import proofs.«01_k».proof.Proof.Gen.FfnDwDownIdeal.Frame
public import proofs.«01_k».proof.Proof.Gen.FfnDwDownIdeal.Value
public import proofs.«01_k».proof.Proof.Gen.FfnDwDownRefIdeal.Run
public import proofs.«01_k».proof.Proof.Gen.FfnDwDownRefIdeal.Read
public import proofs.«01_k».proof.Proof.DwDownClaim
public import proofs.«01_k».proof.Proof.Gen.Adam
public import proofs.«01_k».proof.Proof.Gen.AdamIdeal
public import proofs.«01_k».proof.Proof.Gen.AdamRefIdeal
public import proofs.«01_k».proof.Proof.Gen.Adam.Frame
public import proofs.«01_k».proof.Proof.Gen.AdamIdeal.Frame
public import proofs.«01_k».proof.Proof.Gen.AdamIdeal.Value
public import proofs.«01_k».proof.Proof.Gen.AdamRefIdeal.Run
public import proofs.«01_k».proof.Proof.Gen.AdamRefIdeal.Read
public import proofs.«01_k».proof.Proof.AdamClaim
public import proofs.«01_k».proof.Proof.Gen.AdamLayer
public import proofs.«01_k».proof.Proof.Gen.AdamLayerIdeal
public import proofs.«01_k».proof.Proof.Gen.AdamLayerRefIdeal
public import proofs.«01_k».proof.Proof.Gen.AdamLayer.Frame
public import proofs.«01_k».proof.Proof.Gen.AdamLayerIdeal.Frame
public import proofs.«01_k».proof.Proof.Gen.AdamLayerIdeal.Value
public import proofs.«01_k».proof.Proof.Gen.AdamLayerRefIdeal.Run
public import proofs.«01_k».proof.Proof.Gen.AdamLayerRefIdeal.Read
public import proofs.«01_k».proof.Proof.AdamLayerClaim
public import proofs.«01_k».proof.Proof.Gen.SmallSum
public import proofs.«01_k».proof.Proof.Gen.SmallSumIdeal
public import proofs.«01_k».proof.Proof.Gen.SmallSumRefIdeal
public import proofs.«01_k».proof.Proof.Gen.SmallSum.Frame
public import proofs.«01_k».proof.Proof.Gen.SmallSumIdeal.Frame
public import proofs.«01_k».proof.Proof.Gen.SmallSumIdeal.Value
public import proofs.«01_k».proof.Proof.Gen.SmallSumRefIdeal.Run
public import proofs.«01_k».proof.Proof.Gen.SmallSumRefIdeal.Read
public import proofs.«01_k».proof.Proof.SmallSumClaim
public import Idealize.ShloMosaic.Adequacy
public import Idealize.ShloMosaic.Init

@[expose] public section

noncomputable section

namespace Cert.Proof

open Idealize.ShloMosaic Idealize.SL.Sem

theorem claim : Cert.Claim := ⟨Cert.LossHead.Gen.facts, Cert.LossHeadIdeal.Gen.facts, Cert.LossHeadRefIdeal.Gen.facts, Cert.FfnDxn.Gen.facts, Cert.FfnDxnIdeal.Gen.facts, Cert.FfnDxnRefIdeal.Gen.facts, Cert.AttnDxa.Gen.facts, Cert.AttnDxaIdeal.Gen.facts, Cert.AttnDxaRefIdeal.Gen.facts, Cert.ConvGate.Gen.facts, Cert.ConvGateIdeal.Gen.facts, Cert.ConvGateRefIdeal.Gen.facts, Cert.ConvGrad.Gen.facts, Cert.ConvGradIdeal.Gen.facts, Cert.ConvGradRefIdeal.Gen.facts, Cert.AttnGrad.Gen.facts, Cert.AttnGradIdeal.Gen.facts, Cert.AttnGradRefIdeal.Gen.facts, Cert.AttnMix.Gen.facts, Cert.AttnMixIdeal.Gen.facts, Cert.AttnMixRefIdeal.Gen.facts, Cert.HgrnMix.Gen.facts, Cert.HgrnMixIdeal.Gen.facts, Cert.HgrnMixRefIdeal.Gen.facts, Cert.FfnDwUp.Gen.facts, Cert.FfnDwUpIdeal.Gen.facts, Cert.FfnDwUpRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.FfnDact.Gen.facts, Cert.FfnDactIdeal.Gen.facts, Cert.FfnDactRefIdeal.Gen.facts, Cert.FfnDwDown.Gen.facts, Cert.FfnDwDownIdeal.Gen.facts, Cert.FfnDwDownRefIdeal.Gen.facts, Cert.Adam.Gen.facts, Cert.AdamIdeal.Gen.facts, Cert.AdamRefIdeal.Gen.facts, Cert.AdamLayer.Gen.facts, Cert.AdamLayerIdeal.Gen.facts, Cert.AdamLayerRefIdeal.Gen.facts, Cert.SmallSum.Gen.facts, Cert.SmallSumIdeal.Gen.facts, Cert.SmallSumRefIdeal.Gen.facts, Cert.Pre_loss_finite.Gen.facts, Cert.Pre_ffn_finite.Gen.facts, Cert.Pre_dxa_finite.Gen.facts, Cert.Pre_cfwd_finite.Gen.facts, Cert.Pre_cbwd_finite.Gen.facts, Cert.Pre_attn_finite.Gen.facts, Cert.Pre_attf_finite.Gen.facts, Cert.Pre_hgf_finite.Gen.facts,
  fun m ρ _ => Cert.LossHead.Gen.frame m ρ,
  fun m ρ _ => Cert.LossHeadIdeal.Gen.frame m ρ,
  fun m ρ _ => Cert.LossHeadIdeal.Gen.frame m ρ,
  Cert.Step.loss_ref_frame,
  fun m ρ _ => Cert.Step.loss_ref_frame m ρ trivial,
  fun m ρ _ => Cert.FfnDxn.Gen.frame m ρ,
  fun m ρ _ => Cert.FfnDxnIdeal.Gen.frame m ρ,
  fun m ρ _ => Cert.FfnDxnIdeal.Gen.frame m ρ,
  Cert.Step.ffn_ref_frame,
  fun m ρ _ => Cert.Step.ffn_ref_frame m ρ trivial,
  fun m ρ _ => Cert.AttnDxa.Gen.frame m ρ,
  fun m ρ _ => Cert.AttnDxaIdeal.Gen.frame m ρ,
  fun m ρ _ => Cert.AttnDxaIdeal.Gen.frame m ρ,
  Cert.Step.dxa_ref_frame,
  fun m ρ _ => Cert.Step.dxa_ref_frame m ρ trivial,
  fun m ρ _ => Cert.ConvGate.Gen.frame m ρ,
  fun m ρ _ => Cert.ConvGateIdeal.Gen.frame m ρ,
  fun m ρ _ => Cert.ConvGateIdeal.Gen.frame m ρ,
  Cert.Step.cfwd_ref_frame,
  fun m ρ _ => Cert.Step.cfwd_ref_frame m ρ trivial,
  fun m ρ _ => Cert.ConvGrad.Gen.frame m ρ,
  fun m ρ _ => Cert.ConvGradIdeal.Gen.frame m ρ,
  fun m ρ _ => Cert.ConvGradIdeal.Gen.frame m ρ,
  Cert.Step.cbwd_ref_frame,
  fun m ρ _ => Cert.Step.cbwd_ref_frame m ρ trivial,
  Cert.Step.attn_frame,
  Cert.Step.attn_frame_ideal,
  fun m ρ _ => Cert.Step.attn_frame_ideal m ρ trivial,
  Cert.Step.attn_ref_frame,
  fun m ρ _ => Cert.Step.attn_ref_frame m ρ trivial,
  fun m ρ _ => Cert.AttnMix.Gen.frame m ρ,
  fun m ρ _ => Cert.AttnMixIdeal.Gen.frame m ρ,
  fun m ρ _ => Cert.AttnMixIdeal.Gen.frame m ρ,
  Cert.Step.attf_ref_frame,
  fun m ρ _ => Cert.Step.attf_ref_frame m ρ trivial,
  Cert.Step.hgf_frame,
  Cert.Step.hgf_frame_ideal,
  fun m ρ _ => Cert.Step.hgf_frame_ideal m ρ trivial,
  Cert.Step.hgf_ref_frame,
  fun m ρ _ => Cert.Step.hgf_ref_frame m ρ trivial,
  Cert.Step.dwup_frame,
  Cert.Step.dwup_frame_ideal,
  Cert.Step.dwup_ref_frame,
  fun m ρ _ => Cert.FfnUp.Gen.frame m ρ,
  fun m ρ _ => Cert.FfnUpIdeal.Gen.frame m ρ,
  Cert.Step.up_ref_frame,
  fun m ρ _ => Cert.FfnDown.Gen.frame m ρ,
  fun m ρ _ => Cert.FfnDownIdeal.Gen.frame m ρ,
  Cert.Step.nn_ref_frame,
  fun m ρ _ => Cert.FfnDact.Gen.frame m ρ,
  fun m ρ _ => Cert.FfnDactIdeal.Gen.frame m ρ,
  Cert.Step.nt_ref_frame,
  fun m ρ _ => Cert.FfnDwDown.Gen.frame m ρ,
  fun m ρ _ => Cert.FfnDwDownIdeal.Gen.frame m ρ,
  Cert.Step.tn_ref_frame,
  fun m ρ _ => Cert.Adam.Gen.frame m ρ,
  fun m ρ _ => Cert.AdamIdeal.Gen.frame m ρ,
  Cert.Step.adam_ref_frame,
  fun m ρ _ => Cert.AdamLayer.Gen.frame m ρ,
  fun m ρ _ => Cert.AdamLayerIdeal.Gen.frame m ρ,
  Cert.Step.adaml_ref_frame,
  fun m ρ _ => Cert.SmallSum.Gen.frame m ρ,
  fun m ρ _ => Cert.SmallSumIdeal.Gen.frame m ρ,
  Cert.Step.sums_ref_frame,
  trivial,
  Cert.Step.loss_algebraic,
  trivial,
  Cert.Step.ffn_algebraic,
  trivial,
  Cert.Step.dxa_algebraic,
  trivial,
  Cert.Step.cfwd_algebraic,
  trivial,
  Cert.Step.cbwd_algebraic,
  Cert.Step.attn_preserves,
  Cert.Step.attn_algebraic,
  Cert.Step.attf_preserves,
  Cert.Step.attf_algebraic,
  trivial,
  Cert.Step.hgf_algebraic,
  trivial,
  Cert.Step.dwup_algebraic,
  trivial,
  Cert.Step.up_algebraic,
  trivial,
  Cert.Step.nn_algebraic,
  trivial,
  Cert.Step.nt_algebraic,
  trivial,
  Cert.Step.tn_algebraic,
  Cert.Step.adam_preserves,
  Cert.Step.adam_algebraic,
  Cert.Step.adaml_preserves,
  Cert.Step.adaml_algebraic,
  trivial,
  Cert.Step.sums_algebraic⟩

end Cert.Proof

end
